-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelInSample (m : (ℓ : Loc Cert.KernelInSample.nD Cert.KernelInSample.τ Cert.KernelInSample.sig) → Buf (Elt Bits) ℓ) : Prop :=
  True

def Pre_KernelInSampleIdeal (m : (ℓ : Loc Cert.KernelInSampleIdeal.nD Cert.KernelInSampleIdeal.τ Cert.KernelInSampleIdeal.sig) → Buf (Elt Ideal) ℓ) : Prop :=
  True

def Pre_ReferenceInSampleIdeal (m : (ℓ : Loc Cert.ReferenceInSampleIdeal.nD Cert.ReferenceInSampleIdeal.τ Cert.ReferenceInSampleIdeal.sig) → Buf (Elt Ideal) ℓ) : Prop :=
  True

def Pre_KernelUpSample (m : (ℓ : Loc Cert.KernelUpSample.nD Cert.KernelUpSample.τ Cert.KernelUpSample.sig) → Buf (Elt Bits) ℓ) : Prop :=
  True

def Pre_KernelUpSampleIdeal (m : (ℓ : Loc Cert.KernelUpSampleIdeal.nD Cert.KernelUpSampleIdeal.τ Cert.KernelUpSampleIdeal.sig) → Buf (Elt Ideal) ℓ) : Prop :=
  True

def Pre_ReferenceUpSampleIdeal (m : (ℓ : Loc Cert.ReferenceUpSampleIdeal.nD Cert.ReferenceUpSampleIdeal.τ Cert.ReferenceUpSampleIdeal.sig) → Buf (Elt Ideal) ℓ) : Prop :=
  True

def Pre_KernelRwkvStep (m : (ℓ : Loc Cert.KernelRwkvStep.nD Cert.KernelRwkvStep.τ Cert.KernelRwkvStep.sig) → Buf (Elt Bits) ℓ) : Prop :=
  True

def Pre_KernelRwkvStepIdeal (m : (ℓ : Loc Cert.KernelRwkvStepIdeal.nD Cert.KernelRwkvStepIdeal.τ Cert.KernelRwkvStepIdeal.sig) → Buf (Elt Ideal) ℓ) : Prop :=
  True

def Pre_KernelRwkvStepIdeal_rwkv_finite [hPre_rwkv_finite : Cert.Pre_rwkv_finite.Facts] (m : (ℓ : Loc Cert.KernelRwkvStepIdeal.nD Cert.KernelRwkvStepIdeal.τ Cert.KernelRwkvStepIdeal.sig) → Buf (Elt Ideal) ℓ) : Prop :=
  ∀ c : Dev Cert.KernelRwkvStepIdeal.nD,
    (Cert.Pre_rwkv_finite.fn (F := Ideal) (m ((c.tc : Thread Cert.KernelRwkvStepIdeal.nD Cert.KernelRwkvStepIdeal.τ).loc Cert.KernelRwkvStepIdeal.main_arg0)) (m ((c.tc : Thread Cert.KernelRwkvStepIdeal.nD Cert.KernelRwkvStepIdeal.τ).loc Cert.KernelRwkvStepIdeal.main_arg1)) (m ((c.tc : Thread Cert.KernelRwkvStepIdeal.nD Cert.KernelRwkvStepIdeal.τ).loc Cert.KernelRwkvStepIdeal.main_arg2)) (m ((c.tc : Thread Cert.KernelRwkvStepIdeal.nD Cert.KernelRwkvStepIdeal.τ).loc Cert.KernelRwkvStepIdeal.main_arg3)) (m ((c.tc : Thread Cert.KernelRwkvStepIdeal.nD Cert.KernelRwkvStepIdeal.τ).loc Cert.KernelRwkvStepIdeal.main_arg4)) (m ((c.tc : Thread Cert.KernelRwkvStepIdeal.nD Cert.KernelRwkvStepIdeal.τ).loc Cert.KernelRwkvStepIdeal.main_arg5)) (m ((c.tc : Thread Cert.KernelRwkvStepIdeal.nD Cert.KernelRwkvStepIdeal.τ).loc Cert.KernelRwkvStepIdeal.main_arg6))) = (fun _ => 1#1)

def Pre_ReferenceRwkvStepIdeal (m : (ℓ : Loc Cert.ReferenceRwkvStepIdeal.nD Cert.ReferenceRwkvStepIdeal.τ Cert.ReferenceRwkvStepIdeal.sig) → Buf (Elt Ideal) ℓ) : Prop :=
  True

def Pre_ReferenceRwkvStepIdeal_rwkv_finite [hPre_rwkv_finite : Cert.Pre_rwkv_finite.Facts] (m : (ℓ : Loc Cert.ReferenceRwkvStepIdeal.nD Cert.ReferenceRwkvStepIdeal.τ Cert.ReferenceRwkvStepIdeal.sig) → Buf (Elt Ideal) ℓ) : Prop :=
  ∀ c : Dev Cert.ReferenceRwkvStepIdeal.nD,
    (Cert.Pre_rwkv_finite.fn (F := Ideal) (m ((c.tc : Thread Cert.ReferenceRwkvStepIdeal.nD Cert.ReferenceRwkvStepIdeal.τ).loc Cert.ReferenceRwkvStepIdeal.main_arg0)) (m ((c.tc : Thread Cert.ReferenceRwkvStepIdeal.nD Cert.ReferenceRwkvStepIdeal.τ).loc Cert.ReferenceRwkvStepIdeal.main_arg1)) (m ((c.tc : Thread Cert.ReferenceRwkvStepIdeal.nD Cert.ReferenceRwkvStepIdeal.τ).loc Cert.ReferenceRwkvStepIdeal.main_arg2)) (m ((c.tc : Thread Cert.ReferenceRwkvStepIdeal.nD Cert.ReferenceRwkvStepIdeal.τ).loc Cert.ReferenceRwkvStepIdeal.main_arg3)) (m ((c.tc : Thread Cert.ReferenceRwkvStepIdeal.nD Cert.ReferenceRwkvStepIdeal.τ).loc Cert.ReferenceRwkvStepIdeal.main_arg4)) (m ((c.tc : Thread Cert.ReferenceRwkvStepIdeal.nD Cert.ReferenceRwkvStepIdeal.τ).loc Cert.ReferenceRwkvStepIdeal.main_arg5)) (m ((c.tc : Thread Cert.ReferenceRwkvStepIdeal.nD Cert.ReferenceRwkvStepIdeal.τ).loc Cert.ReferenceRwkvStepIdeal.main_arg6))) = (fun _ => 1#1)

def Pre_KernelSsdStep (m : (ℓ : Loc Cert.KernelSsdStep.nD Cert.KernelSsdStep.τ Cert.KernelSsdStep.sig) → Buf (Elt Bits) ℓ) : Prop :=
  True

def Pre_KernelSsdStepIdeal (m : (ℓ : Loc Cert.KernelSsdStepIdeal.nD Cert.KernelSsdStepIdeal.τ Cert.KernelSsdStepIdeal.sig) → Buf (Elt Ideal) ℓ) : Prop :=
  True

def Pre_KernelSsdStepIdeal_ssd_finite [hPre_ssd_finite : Cert.Pre_ssd_finite.Facts] (m : (ℓ : Loc Cert.KernelSsdStepIdeal.nD Cert.KernelSsdStepIdeal.τ Cert.KernelSsdStepIdeal.sig) → Buf (Elt Ideal) ℓ) : Prop :=
  ∀ c : Dev Cert.KernelSsdStepIdeal.nD,
    (Cert.Pre_ssd_finite.fn (F := Ideal) (m ((c.tc : Thread Cert.KernelSsdStepIdeal.nD Cert.KernelSsdStepIdeal.τ).loc Cert.KernelSsdStepIdeal.main_arg0)) (m ((c.tc : Thread Cert.KernelSsdStepIdeal.nD Cert.KernelSsdStepIdeal.τ).loc Cert.KernelSsdStepIdeal.main_arg1)) (m ((c.tc : Thread Cert.KernelSsdStepIdeal.nD Cert.KernelSsdStepIdeal.τ).loc Cert.KernelSsdStepIdeal.main_arg2)) (m ((c.tc : Thread Cert.KernelSsdStepIdeal.nD Cert.KernelSsdStepIdeal.τ).loc Cert.KernelSsdStepIdeal.main_arg3)) (m ((c.tc : Thread Cert.KernelSsdStepIdeal.nD Cert.KernelSsdStepIdeal.τ).loc Cert.KernelSsdStepIdeal.main_arg4)) (m ((c.tc : Thread Cert.KernelSsdStepIdeal.nD Cert.KernelSsdStepIdeal.τ).loc Cert.KernelSsdStepIdeal.main_arg5))) = (fun _ => 1#1)

def Pre_ReferenceSsdStepIdeal (m : (ℓ : Loc Cert.ReferenceSsdStepIdeal.nD Cert.ReferenceSsdStepIdeal.τ Cert.ReferenceSsdStepIdeal.sig) → Buf (Elt Ideal) ℓ) : Prop :=
  True

def Pre_ReferenceSsdStepIdeal_ssd_finite [hPre_ssd_finite : Cert.Pre_ssd_finite.Facts] (m : (ℓ : Loc Cert.ReferenceSsdStepIdeal.nD Cert.ReferenceSsdStepIdeal.τ Cert.ReferenceSsdStepIdeal.sig) → Buf (Elt Ideal) ℓ) : Prop :=
  ∀ c : Dev Cert.ReferenceSsdStepIdeal.nD,
    (Cert.Pre_ssd_finite.fn (F := Ideal) (m ((c.tc : Thread Cert.ReferenceSsdStepIdeal.nD Cert.ReferenceSsdStepIdeal.τ).loc Cert.ReferenceSsdStepIdeal.main_arg0)) (m ((c.tc : Thread Cert.ReferenceSsdStepIdeal.nD Cert.ReferenceSsdStepIdeal.τ).loc Cert.ReferenceSsdStepIdeal.main_arg1)) (m ((c.tc : Thread Cert.ReferenceSsdStepIdeal.nD Cert.ReferenceSsdStepIdeal.τ).loc Cert.ReferenceSsdStepIdeal.main_arg2)) (m ((c.tc : Thread Cert.ReferenceSsdStepIdeal.nD Cert.ReferenceSsdStepIdeal.τ).loc Cert.ReferenceSsdStepIdeal.main_arg3)) (m ((c.tc : Thread Cert.ReferenceSsdStepIdeal.nD Cert.ReferenceSsdStepIdeal.τ).loc Cert.ReferenceSsdStepIdeal.main_arg4)) (m ((c.tc : Thread Cert.ReferenceSsdStepIdeal.nD Cert.ReferenceSsdStepIdeal.τ).loc Cert.ReferenceSsdStepIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelInSample [hKernelInSample : Cert.KernelInSample.Facts] : Prop :=
  ∀ (m : (ℓ : Loc Cert.KernelInSample.nD Cert.KernelInSample.τ Cert.KernelInSample.sig) → Buf (Elt Bits) ℓ) (g : Dev Cert.KernelInSample.nD → PrngReg), Pre_KernelInSample m →
    θ_run (Cert.KernelInSample.defs (F := Bits)) (onTc (τ := Cert.KernelInSample.τ) (Cert.KernelInSample.main (F := Bits))) ⟨m, fun _ => 0, g⟩ (fun r => (∀ c : Dev Cert.KernelInSample.nD,
      r.2.mem ((c.tc : Thread Cert.KernelInSample.nD Cert.KernelInSample.τ).loc Cert.KernelInSample.main_arg0) = m ((c.tc : Thread Cert.KernelInSample.nD Cert.KernelInSample.τ).loc Cert.KernelInSample.main_arg0)
      ∧ r.2.mem ((c.tc : Thread Cert.KernelInSample.nD Cert.KernelInSample.τ).loc Cert.KernelInSample.main_arg1) = m ((c.tc : Thread Cert.KernelInSample.nD Cert.KernelInSample.τ).loc Cert.KernelInSample.main_arg1)
      ∧ r.2.mem ((c.tc : Thread Cert.KernelInSample.nD Cert.KernelInSample.τ).loc Cert.KernelInSample.main_arg2) = m ((c.tc : Thread Cert.KernelInSample.nD Cert.KernelInSample.τ).loc Cert.KernelInSample.main_arg2)
      ∧ r.2.mem ((c.tc : Thread Cert.KernelInSample.nD Cert.KernelInSample.τ).loc Cert.KernelInSample.main_arg3) = m ((c.tc : Thread Cert.KernelInSample.nD Cert.KernelInSample.τ).loc Cert.KernelInSample.main_arg3))
      ∧ r.2.sem = fun _ => 0)

def quiescent_KernelInSampleIdeal [hKernelInSampleIdeal : Cert.KernelInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg), Pre_KernelInSampleIdeal m →
    θ_run (Cert.KernelInSampleIdeal.defs (F := Ideal)) (onTc (τ := Cert.KernelInSampleIdeal.τ) (Cert.KernelInSampleIdeal.main (F := Ideal))) ⟨m, fun _ => 0, g⟩ (fun r => (∀ c : Dev Cert.KernelInSampleIdeal.nD,
      r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
      ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
      ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2)
      ∧ r.2.mem ((c.tc : Thread Cert.KernelInSampleIdeal.nD Cert.KernelInSampleIdeal.τ).loc Cert.KernelInSampleIdeal.main_arg3) = m ((c.tc : Thread Cert.KernelInSampleIdeal.nD Cert.KernelInSampleIdeal.τ).loc Cert.KernelInSampleIdeal.main_arg3))
      ∧ r.2.sem = fun _ => 0)

def quiescent_ReferenceInSampleIdeal [hReferenceInSampleIdeal : Cert.ReferenceInSampleIdeal.Facts] : Prop :=
  ∀ (m : (ℓ : Loc Cert.ReferenceInSampleIdeal.nD Cert.ReferenceInSampleIdeal.τ Cert.ReferenceInSampleIdeal.sig) → Buf (Elt Ideal) ℓ) (g : Dev Cert.ReferenceInSampleIdeal.nD → PrngReg), Pre_ReferenceInSampleIdeal m →
    θ_run (Cert.ReferenceInSampleIdeal.defs (F := Ideal)) (onTc (τ := Cert.ReferenceInSampleIdeal.τ) (Cert.ReferenceInSampleIdeal.main (F := Ideal))) ⟨m, fun _ => 0, g⟩ (fun r => (∀ c : Dev Cert.ReferenceInSampleIdeal.nD,
      r.2.mem ((c.tc : Thread Cert.ReferenceInSampleIdeal.nD Cert.ReferenceInSampleIdeal.τ).loc Cert.ReferenceInSampleIdeal.main_arg0) = m ((c.tc : Thread Cert.ReferenceInSampleIdeal.nD Cert.ReferenceInSampleIdeal.τ).loc Cert.ReferenceInSampleIdeal.main_arg0)
      ∧ r.2.mem ((c.tc : Thread Cert.ReferenceInSampleIdeal.nD Cert.ReferenceInSampleIdeal.τ).loc Cert.ReferenceInSampleIdeal.main_arg1) = m ((c.tc : Thread Cert.ReferenceInSampleIdeal.nD Cert.ReferenceInSampleIdeal.τ).loc Cert.ReferenceInSampleIdeal.main_arg1)
      ∧ r.2.mem ((c.tc : Thread Cert.ReferenceInSampleIdeal.nD Cert.ReferenceInSampleIdeal.τ).loc Cert.ReferenceInSampleIdeal.main_arg2) = m ((c.tc : Thread Cert.ReferenceInSampleIdeal.nD Cert.ReferenceInSampleIdeal.τ).loc Cert.ReferenceInSampleIdeal.main_arg2)
      ∧ r.2.mem ((c.tc : Thread Cert.ReferenceInSampleIdeal.nD Cert.ReferenceInSampleIdeal.τ).loc Cert.ReferenceInSampleIdeal.main_arg3) = m ((c.tc : Thread Cert.ReferenceInSampleIdeal.nD Cert.ReferenceInSampleIdeal.τ).loc Cert.ReferenceInSampleIdeal.main_arg3))
      ∧ r.2.sem = fun _ => 0)

def quiescent_KernelUpSample [hKernelUpSample : Cert.KernelUpSample.Facts] : Prop :=
  ∀ (m : (ℓ : Loc Cert.KernelUpSample.nD Cert.KernelUpSample.τ Cert.KernelUpSample.sig) → Buf (Elt Bits) ℓ) (g : Dev Cert.KernelUpSample.nD → PrngReg), Pre_KernelUpSample m →
    θ_run (Cert.KernelUpSample.defs (F := Bits)) (onTc (τ := Cert.KernelUpSample.τ) (Cert.KernelUpSample.main (F := Bits))) ⟨m, fun _ => 0, g⟩ (fun r => (∀ c : Dev Cert.KernelUpSample.nD,
      r.2.mem ((c.tc : Thread Cert.KernelUpSample.nD Cert.KernelUpSample.τ).loc Cert.KernelUpSample.main_arg0) = m ((c.tc : Thread Cert.KernelUpSample.nD Cert.KernelUpSample.τ).loc Cert.KernelUpSample.main_arg0)
      ∧ r.2.mem ((c.tc : Thread Cert.KernelUpSample.nD Cert.KernelUpSample.τ).loc Cert.KernelUpSample.main_arg1) = m ((c.tc : Thread Cert.KernelUpSample.nD Cert.KernelUpSample.τ).loc Cert.KernelUpSample.main_arg1)
      ∧ r.2.mem ((c.tc : Thread Cert.KernelUpSample.nD Cert.KernelUpSample.τ).loc Cert.KernelUpSample.main_arg2) = m ((c.tc : Thread Cert.KernelUpSample.nD Cert.KernelUpSample.τ).loc Cert.KernelUpSample.main_arg2)
      ∧ r.2.mem ((c.tc : Thread Cert.KernelUpSample.nD Cert.KernelUpSample.τ).loc Cert.KernelUpSample.main_arg3) = m ((c.tc : Thread Cert.KernelUpSample.nD Cert.KernelUpSample.τ).loc Cert.KernelUpSample.main_arg3))
      ∧ r.2.sem = fun _ => 0)

def quiescent_KernelUpSampleIdeal [hKernelUpSampleIdeal : Cert.KernelUpSampleIdeal.Facts] : Prop :=
  ∀ (m : (ℓ : Loc Cert.KernelUpSampleIdeal.nD Cert.KernelUpSampleIdeal.τ Cert.KernelUpSampleIdeal.sig) → Buf (Elt Ideal) ℓ) (g : Dev Cert.KernelUpSampleIdeal.nD → PrngReg), Pre_KernelUpSampleIdeal m →
    θ_run (Cert.KernelUpSampleIdeal.defs (F := Ideal)) (onTc (τ := Cert.KernelUpSampleIdeal.τ) (Cert.KernelUpSampleIdeal.main (F := Ideal))) ⟨m, fun _ => 0, g⟩ (fun r => (∀ c : Dev Cert.KernelUpSampleIdeal.nD,
      r.2.mem ((c.tc : Thread Cert.KernelUpSampleIdeal.nD Cert.KernelUpSampleIdeal.τ).loc Cert.KernelUpSampleIdeal.main_arg0) = m ((c.tc : Thread Cert.KernelUpSampleIdeal.nD Cert.KernelUpSampleIdeal.τ).loc Cert.KernelUpSampleIdeal.main_arg0)
      ∧ r.2.mem ((c.tc : Thread Cert.KernelUpSampleIdeal.nD Cert.KernelUpSampleIdeal.τ).loc Cert.KernelUpSampleIdeal.main_arg1) = m ((c.tc : Thread Cert.KernelUpSampleIdeal.nD Cert.KernelUpSampleIdeal.τ).loc Cert.KernelUpSampleIdeal.main_arg1)
      ∧ r.2.mem ((c.tc : Thread Cert.KernelUpSampleIdeal.nD Cert.KernelUpSampleIdeal.τ).loc Cert.KernelUpSampleIdeal.main_arg2) = m ((c.tc : Thread Cert.KernelUpSampleIdeal.nD Cert.KernelUpSampleIdeal.τ).loc Cert.KernelUpSampleIdeal.main_arg2)
      ∧ r.2.mem ((c.tc : Thread Cert.KernelUpSampleIdeal.nD Cert.KernelUpSampleIdeal.τ).loc Cert.KernelUpSampleIdeal.main_arg3) = m ((c.tc : Thread Cert.KernelUpSampleIdeal.nD Cert.KernelUpSampleIdeal.τ).loc Cert.KernelUpSampleIdeal.main_arg3))
      ∧ r.2.sem = fun _ => 0)

def quiescent_ReferenceUpSampleIdeal [hReferenceUpSampleIdeal : Cert.ReferenceUpSampleIdeal.Facts] : Prop :=
  ∀ (m : (ℓ : Loc Cert.ReferenceUpSampleIdeal.nD Cert.ReferenceUpSampleIdeal.τ Cert.ReferenceUpSampleIdeal.sig) → Buf (Elt Ideal) ℓ) (g : Dev Cert.ReferenceUpSampleIdeal.nD → PrngReg), Pre_ReferenceUpSampleIdeal m →
    θ_run (Cert.ReferenceUpSampleIdeal.defs (F := Ideal)) (onTc (τ := Cert.ReferenceUpSampleIdeal.τ) (Cert.ReferenceUpSampleIdeal.main (F := Ideal))) ⟨m, fun _ => 0, g⟩ (fun r => (∀ c : Dev Cert.ReferenceUpSampleIdeal.nD,
      r.2.mem ((c.tc : Thread Cert.ReferenceUpSampleIdeal.nD Cert.ReferenceUpSampleIdeal.τ).loc Cert.ReferenceUpSampleIdeal.main_arg0) = m ((c.tc : Thread Cert.ReferenceUpSampleIdeal.nD Cert.ReferenceUpSampleIdeal.τ).loc Cert.ReferenceUpSampleIdeal.main_arg0)
      ∧ r.2.mem ((c.tc : Thread Cert.ReferenceUpSampleIdeal.nD Cert.ReferenceUpSampleIdeal.τ).loc Cert.ReferenceUpSampleIdeal.main_arg1) = m ((c.tc : Thread Cert.ReferenceUpSampleIdeal.nD Cert.ReferenceUpSampleIdeal.τ).loc Cert.ReferenceUpSampleIdeal.main_arg1)
      ∧ r.2.mem ((c.tc : Thread Cert.ReferenceUpSampleIdeal.nD Cert.ReferenceUpSampleIdeal.τ).loc Cert.ReferenceUpSampleIdeal.main_arg2) = m ((c.tc : Thread Cert.ReferenceUpSampleIdeal.nD Cert.ReferenceUpSampleIdeal.τ).loc Cert.ReferenceUpSampleIdeal.main_arg2)
      ∧ r.2.mem ((c.tc : Thread Cert.ReferenceUpSampleIdeal.nD Cert.ReferenceUpSampleIdeal.τ).loc Cert.ReferenceUpSampleIdeal.main_arg3) = m ((c.tc : Thread Cert.ReferenceUpSampleIdeal.nD Cert.ReferenceUpSampleIdeal.τ).loc Cert.ReferenceUpSampleIdeal.main_arg3))
      ∧ r.2.sem = fun _ => 0)

def quiescent_KernelRwkvStep [hKernelRwkvStep : Cert.KernelRwkvStep.Facts] : Prop :=
  ∀ (m : (ℓ : Loc Cert.KernelRwkvStep.nD Cert.KernelRwkvStep.τ Cert.KernelRwkvStep.sig) → Buf (Elt Bits) ℓ) (g : Dev Cert.KernelRwkvStep.nD → PrngReg), Pre_KernelRwkvStep m →
    θ_run (Cert.KernelRwkvStep.defs (F := Bits)) (onTc (τ := Cert.KernelRwkvStep.τ) (Cert.KernelRwkvStep.main (F := Bits))) ⟨m, fun _ => 0, g⟩ (fun r => (∀ c : Dev Cert.KernelRwkvStep.nD,
      r.2.mem ((c.tc : Thread Cert.KernelRwkvStep.nD Cert.KernelRwkvStep.τ).loc Cert.KernelRwkvStep.main_arg0) = m ((c.tc : Thread Cert.KernelRwkvStep.nD Cert.KernelRwkvStep.τ).loc Cert.KernelRwkvStep.main_arg0)
      ∧ r.2.mem ((c.tc : Thread Cert.KernelRwkvStep.nD Cert.KernelRwkvStep.τ).loc Cert.KernelRwkvStep.main_arg1) = m ((c.tc : Thread Cert.KernelRwkvStep.nD Cert.KernelRwkvStep.τ).loc Cert.KernelRwkvStep.main_arg1)
      ∧ r.2.mem ((c.tc : Thread Cert.KernelRwkvStep.nD Cert.KernelRwkvStep.τ).loc Cert.KernelRwkvStep.main_arg2) = m ((c.tc : Thread Cert.KernelRwkvStep.nD Cert.KernelRwkvStep.τ).loc Cert.KernelRwkvStep.main_arg2)
      ∧ r.2.mem ((c.tc : Thread Cert.KernelRwkvStep.nD Cert.KernelRwkvStep.τ).loc Cert.KernelRwkvStep.main_arg3) = m ((c.tc : Thread Cert.KernelRwkvStep.nD Cert.KernelRwkvStep.τ).loc Cert.KernelRwkvStep.main_arg3)
      ∧ r.2.mem ((c.tc : Thread Cert.KernelRwkvStep.nD Cert.KernelRwkvStep.τ).loc Cert.KernelRwkvStep.main_arg4) = m ((c.tc : Thread Cert.KernelRwkvStep.nD Cert.KernelRwkvStep.τ).loc Cert.KernelRwkvStep.main_arg4)
      ∧ r.2.mem ((c.tc : Thread Cert.KernelRwkvStep.nD Cert.KernelRwkvStep.τ).loc Cert.KernelRwkvStep.main_arg5) = m ((c.tc : Thread Cert.KernelRwkvStep.nD Cert.KernelRwkvStep.τ).loc Cert.KernelRwkvStep.main_arg5)
      ∧ r.2.mem ((c.tc : Thread Cert.KernelRwkvStep.nD Cert.KernelRwkvStep.τ).loc Cert.KernelRwkvStep.main_arg6) = m ((c.tc : Thread Cert.KernelRwkvStep.nD Cert.KernelRwkvStep.τ).loc Cert.KernelRwkvStep.main_arg6))
      ∧ r.2.sem = fun _ => 0)

def quiescent_KernelRwkvStepIdeal [hKernelRwkvStepIdeal : Cert.KernelRwkvStepIdeal.Facts] : Prop :=
  ∀ (m : (ℓ : Loc Cert.KernelRwkvStepIdeal.nD Cert.KernelRwkvStepIdeal.τ Cert.KernelRwkvStepIdeal.sig) → Buf (Elt Ideal) ℓ) (g : Dev Cert.KernelRwkvStepIdeal.nD → PrngReg), Pre_KernelRwkvStepIdeal m →
    θ_run (Cert.KernelRwkvStepIdeal.defs (F := Ideal)) (onTc (τ := Cert.KernelRwkvStepIdeal.τ) (Cert.KernelRwkvStepIdeal.main (F := Ideal))) ⟨m, fun _ => 0, g⟩ (fun r => (∀ c : Dev Cert.KernelRwkvStepIdeal.nD,
      r.2.mem ((c.tc : Thread Cert.KernelRwkvStepIdeal.nD Cert.KernelRwkvStepIdeal.τ).loc Cert.KernelRwkvStepIdeal.main_arg0) = m ((c.tc : Thread Cert.KernelRwkvStepIdeal.nD Cert.KernelRwkvStepIdeal.τ).loc Cert.KernelRwkvStepIdeal.main_arg0)
      ∧ r.2.mem ((c.tc : Thread Cert.KernelRwkvStepIdeal.nD Cert.KernelRwkvStepIdeal.τ).loc Cert.KernelRwkvStepIdeal.main_arg1) = m ((c.tc : Thread Cert.KernelRwkvStepIdeal.nD Cert.KernelRwkvStepIdeal.τ).loc Cert.KernelRwkvStepIdeal.main_arg1)
      ∧ r.2.mem ((c.tc : Thread Cert.KernelRwkvStepIdeal.nD Cert.KernelRwkvStepIdeal.τ).loc Cert.KernelRwkvStepIdeal.main_arg2) = m ((c.tc : Thread Cert.KernelRwkvStepIdeal.nD Cert.KernelRwkvStepIdeal.τ).loc Cert.KernelRwkvStepIdeal.main_arg2)
      ∧ r.2.mem ((c.tc : Thread Cert.KernelRwkvStepIdeal.nD Cert.KernelRwkvStepIdeal.τ).loc Cert.KernelRwkvStepIdeal.main_arg3) = m ((c.tc : Thread Cert.KernelRwkvStepIdeal.nD Cert.KernelRwkvStepIdeal.τ).loc Cert.KernelRwkvStepIdeal.main_arg3)
      ∧ r.2.mem ((c.tc : Thread Cert.KernelRwkvStepIdeal.nD Cert.KernelRwkvStepIdeal.τ).loc Cert.KernelRwkvStepIdeal.main_arg4) = m ((c.tc : Thread Cert.KernelRwkvStepIdeal.nD Cert.KernelRwkvStepIdeal.τ).loc Cert.KernelRwkvStepIdeal.main_arg4)
      ∧ r.2.mem ((c.tc : Thread Cert.KernelRwkvStepIdeal.nD Cert.KernelRwkvStepIdeal.τ).loc Cert.KernelRwkvStepIdeal.main_arg5) = m ((c.tc : Thread Cert.KernelRwkvStepIdeal.nD Cert.KernelRwkvStepIdeal.τ).loc Cert.KernelRwkvStepIdeal.main_arg5)
      ∧ r.2.mem ((c.tc : Thread Cert.KernelRwkvStepIdeal.nD Cert.KernelRwkvStepIdeal.τ).loc Cert.KernelRwkvStepIdeal.main_arg6) = m ((c.tc : Thread Cert.KernelRwkvStepIdeal.nD Cert.KernelRwkvStepIdeal.τ).loc Cert.KernelRwkvStepIdeal.main_arg6))
      ∧ r.2.sem = fun _ => 0)

def quiescent_KernelRwkvStepIdeal_pre_rwkv_finite [hKernelRwkvStepIdeal : Cert.KernelRwkvStepIdeal.Facts] [hPre_rwkv_finite : Cert.Pre_rwkv_finite.Facts] : Prop :=
  ∀ (m : (ℓ : Loc Cert.KernelRwkvStepIdeal.nD Cert.KernelRwkvStepIdeal.τ Cert.KernelRwkvStepIdeal.sig) → Buf (Elt Ideal) ℓ) (g : Dev Cert.KernelRwkvStepIdeal.nD → PrngReg), Pre_KernelRwkvStepIdeal_rwkv_finite m →
    θ_run (Cert.KernelRwkvStepIdeal.defs (F := Ideal)) (onTc (τ := Cert.KernelRwkvStepIdeal.τ) (Cert.KernelRwkvStepIdeal.main (F := Ideal))) ⟨m, fun _ => 0, g⟩ (fun r => (∀ c : Dev Cert.KernelRwkvStepIdeal.nD,
      r.2.mem ((c.tc : Thread Cert.KernelRwkvStepIdeal.nD Cert.KernelRwkvStepIdeal.τ).loc Cert.KernelRwkvStepIdeal.main_arg0) = m ((c.tc : Thread Cert.KernelRwkvStepIdeal.nD Cert.KernelRwkvStepIdeal.τ).loc Cert.KernelRwkvStepIdeal.main_arg0)
      ∧ r.2.mem ((c.tc : Thread Cert.KernelRwkvStepIdeal.nD Cert.KernelRwkvStepIdeal.τ).loc Cert.KernelRwkvStepIdeal.main_arg1) = m ((c.tc : Thread Cert.KernelRwkvStepIdeal.nD Cert.KernelRwkvStepIdeal.τ).loc Cert.KernelRwkvStepIdeal.main_arg1)
      ∧ r.2.mem ((c.tc : Thread Cert.KernelRwkvStepIdeal.nD Cert.KernelRwkvStepIdeal.τ).loc Cert.KernelRwkvStepIdeal.main_arg2) = m ((c.tc : Thread Cert.KernelRwkvStepIdeal.nD Cert.KernelRwkvStepIdeal.τ).loc Cert.KernelRwkvStepIdeal.main_arg2)
      ∧ r.2.mem ((c.tc : Thread Cert.KernelRwkvStepIdeal.nD Cert.KernelRwkvStepIdeal.τ).loc Cert.KernelRwkvStepIdeal.main_arg3) = m ((c.tc : Thread Cert.KernelRwkvStepIdeal.nD Cert.KernelRwkvStepIdeal.τ).loc Cert.KernelRwkvStepIdeal.main_arg3)
      ∧ r.2.mem ((c.tc : Thread Cert.KernelRwkvStepIdeal.nD Cert.KernelRwkvStepIdeal.τ).loc Cert.KernelRwkvStepIdeal.main_arg4) = m ((c.tc : Thread Cert.KernelRwkvStepIdeal.nD Cert.KernelRwkvStepIdeal.τ).loc Cert.KernelRwkvStepIdeal.main_arg4)
      ∧ r.2.mem ((c.tc : Thread Cert.KernelRwkvStepIdeal.nD Cert.KernelRwkvStepIdeal.τ).loc Cert.KernelRwkvStepIdeal.main_arg5) = m ((c.tc : Thread Cert.KernelRwkvStepIdeal.nD Cert.KernelRwkvStepIdeal.τ).loc Cert.KernelRwkvStepIdeal.main_arg5)
      ∧ r.2.mem ((c.tc : Thread Cert.KernelRwkvStepIdeal.nD Cert.KernelRwkvStepIdeal.τ).loc Cert.KernelRwkvStepIdeal.main_arg6) = m ((c.tc : Thread Cert.KernelRwkvStepIdeal.nD Cert.KernelRwkvStepIdeal.τ).loc Cert.KernelRwkvStepIdeal.main_arg6))
      ∧ r.2.sem = fun _ => 0)

def quiescent_ReferenceRwkvStepIdeal [hReferenceRwkvStepIdeal : Cert.ReferenceRwkvStepIdeal.Facts] : Prop :=
  ∀ (m : (ℓ : Loc Cert.ReferenceRwkvStepIdeal.nD Cert.ReferenceRwkvStepIdeal.τ Cert.ReferenceRwkvStepIdeal.sig) → Buf (Elt Ideal) ℓ) (g : Dev Cert.ReferenceRwkvStepIdeal.nD → PrngReg), Pre_ReferenceRwkvStepIdeal m →
    θ_run (Cert.ReferenceRwkvStepIdeal.defs (F := Ideal)) (onTc (τ := Cert.ReferenceRwkvStepIdeal.τ) (Cert.ReferenceRwkvStepIdeal.main (F := Ideal))) ⟨m, fun _ => 0, g⟩ (fun r => (∀ c : Dev Cert.ReferenceRwkvStepIdeal.nD,
      r.2.mem ((c.tc : Thread Cert.ReferenceRwkvStepIdeal.nD Cert.ReferenceRwkvStepIdeal.τ).loc Cert.ReferenceRwkvStepIdeal.main_arg0) = m ((c.tc : Thread Cert.ReferenceRwkvStepIdeal.nD Cert.ReferenceRwkvStepIdeal.τ).loc Cert.ReferenceRwkvStepIdeal.main_arg0)
      ∧ r.2.mem ((c.tc : Thread Cert.ReferenceRwkvStepIdeal.nD Cert.ReferenceRwkvStepIdeal.τ).loc Cert.ReferenceRwkvStepIdeal.main_arg1) = m ((c.tc : Thread Cert.ReferenceRwkvStepIdeal.nD Cert.ReferenceRwkvStepIdeal.τ).loc Cert.ReferenceRwkvStepIdeal.main_arg1)
      ∧ r.2.mem ((c.tc : Thread Cert.ReferenceRwkvStepIdeal.nD Cert.ReferenceRwkvStepIdeal.τ).loc Cert.ReferenceRwkvStepIdeal.main_arg2) = m ((c.tc : Thread Cert.ReferenceRwkvStepIdeal.nD Cert.ReferenceRwkvStepIdeal.τ).loc Cert.ReferenceRwkvStepIdeal.main_arg2)
      ∧ r.2.mem ((c.tc : Thread Cert.ReferenceRwkvStepIdeal.nD Cert.ReferenceRwkvStepIdeal.τ).loc Cert.ReferenceRwkvStepIdeal.main_arg3) = m ((c.tc : Thread Cert.ReferenceRwkvStepIdeal.nD Cert.ReferenceRwkvStepIdeal.τ).loc Cert.ReferenceRwkvStepIdeal.main_arg3)
      ∧ r.2.mem ((c.tc : Thread Cert.ReferenceRwkvStepIdeal.nD Cert.ReferenceRwkvStepIdeal.τ).loc Cert.ReferenceRwkvStepIdeal.main_arg4) = m ((c.tc : Thread Cert.ReferenceRwkvStepIdeal.nD Cert.ReferenceRwkvStepIdeal.τ).loc Cert.ReferenceRwkvStepIdeal.main_arg4)
      ∧ r.2.mem ((c.tc : Thread Cert.ReferenceRwkvStepIdeal.nD Cert.ReferenceRwkvStepIdeal.τ).loc Cert.ReferenceRwkvStepIdeal.main_arg5) = m ((c.tc : Thread Cert.ReferenceRwkvStepIdeal.nD Cert.ReferenceRwkvStepIdeal.τ).loc Cert.ReferenceRwkvStepIdeal.main_arg5)
      ∧ r.2.mem ((c.tc : Thread Cert.ReferenceRwkvStepIdeal.nD Cert.ReferenceRwkvStepIdeal.τ).loc Cert.ReferenceRwkvStepIdeal.main_arg6) = m ((c.tc : Thread Cert.ReferenceRwkvStepIdeal.nD Cert.ReferenceRwkvStepIdeal.τ).loc Cert.ReferenceRwkvStepIdeal.main_arg6))
      ∧ r.2.sem = fun _ => 0)

def quiescent_ReferenceRwkvStepIdeal_pre_rwkv_finite [hReferenceRwkvStepIdeal : Cert.ReferenceRwkvStepIdeal.Facts] [hPre_rwkv_finite : Cert.Pre_rwkv_finite.Facts] : Prop :=
  ∀ (m : (ℓ : Loc Cert.ReferenceRwkvStepIdeal.nD Cert.ReferenceRwkvStepIdeal.τ Cert.ReferenceRwkvStepIdeal.sig) → Buf (Elt Ideal) ℓ) (g : Dev Cert.ReferenceRwkvStepIdeal.nD → PrngReg), Pre_ReferenceRwkvStepIdeal_rwkv_finite m →
    θ_run (Cert.ReferenceRwkvStepIdeal.defs (F := Ideal)) (onTc (τ := Cert.ReferenceRwkvStepIdeal.τ) (Cert.ReferenceRwkvStepIdeal.main (F := Ideal))) ⟨m, fun _ => 0, g⟩ (fun r => (∀ c : Dev Cert.ReferenceRwkvStepIdeal.nD,
      r.2.mem ((c.tc : Thread Cert.ReferenceRwkvStepIdeal.nD Cert.ReferenceRwkvStepIdeal.τ).loc Cert.ReferenceRwkvStepIdeal.main_arg0) = m ((c.tc : Thread Cert.ReferenceRwkvStepIdeal.nD Cert.ReferenceRwkvStepIdeal.τ).loc Cert.ReferenceRwkvStepIdeal.main_arg0)
      ∧ r.2.mem ((c.tc : Thread Cert.ReferenceRwkvStepIdeal.nD Cert.ReferenceRwkvStepIdeal.τ).loc Cert.ReferenceRwkvStepIdeal.main_arg1) = m ((c.tc : Thread Cert.ReferenceRwkvStepIdeal.nD Cert.ReferenceRwkvStepIdeal.τ).loc Cert.ReferenceRwkvStepIdeal.main_arg1)
      ∧ r.2.mem ((c.tc : Thread Cert.ReferenceRwkvStepIdeal.nD Cert.ReferenceRwkvStepIdeal.τ).loc Cert.ReferenceRwkvStepIdeal.main_arg2) = m ((c.tc : Thread Cert.ReferenceRwkvStepIdeal.nD Cert.ReferenceRwkvStepIdeal.τ).loc Cert.ReferenceRwkvStepIdeal.main_arg2)
      ∧ r.2.mem ((c.tc : Thread Cert.ReferenceRwkvStepIdeal.nD Cert.ReferenceRwkvStepIdeal.τ).loc Cert.ReferenceRwkvStepIdeal.main_arg3) = m ((c.tc : Thread Cert.ReferenceRwkvStepIdeal.nD Cert.ReferenceRwkvStepIdeal.τ).loc Cert.ReferenceRwkvStepIdeal.main_arg3)
      ∧ r.2.mem ((c.tc : Thread Cert.ReferenceRwkvStepIdeal.nD Cert.ReferenceRwkvStepIdeal.τ).loc Cert.ReferenceRwkvStepIdeal.main_arg4) = m ((c.tc : Thread Cert.ReferenceRwkvStepIdeal.nD Cert.ReferenceRwkvStepIdeal.τ).loc Cert.ReferenceRwkvStepIdeal.main_arg4)
      ∧ r.2.mem ((c.tc : Thread Cert.ReferenceRwkvStepIdeal.nD Cert.ReferenceRwkvStepIdeal.τ).loc Cert.ReferenceRwkvStepIdeal.main_arg5) = m ((c.tc : Thread Cert.ReferenceRwkvStepIdeal.nD Cert.ReferenceRwkvStepIdeal.τ).loc Cert.ReferenceRwkvStepIdeal.main_arg5)
      ∧ r.2.mem ((c.tc : Thread Cert.ReferenceRwkvStepIdeal.nD Cert.ReferenceRwkvStepIdeal.τ).loc Cert.ReferenceRwkvStepIdeal.main_arg6) = m ((c.tc : Thread Cert.ReferenceRwkvStepIdeal.nD Cert.ReferenceRwkvStepIdeal.τ).loc Cert.ReferenceRwkvStepIdeal.main_arg6))
      ∧ r.2.sem = fun _ => 0)

def quiescent_KernelSsdStep [hKernelSsdStep : Cert.KernelSsdStep.Facts] : Prop :=
  ∀ (m : (ℓ : Loc Cert.KernelSsdStep.nD Cert.KernelSsdStep.τ Cert.KernelSsdStep.sig) → Buf (Elt Bits) ℓ) (g : Dev Cert.KernelSsdStep.nD → PrngReg), Pre_KernelSsdStep m →
    θ_run (Cert.KernelSsdStep.defs (F := Bits)) (onTc (τ := Cert.KernelSsdStep.τ) (Cert.KernelSsdStep.main (F := Bits))) ⟨m, fun _ => 0, g⟩ (fun r => (∀ c : Dev Cert.KernelSsdStep.nD,
      r.2.mem ((c.tc : Thread Cert.KernelSsdStep.nD Cert.KernelSsdStep.τ).loc Cert.KernelSsdStep.main_arg0) = m ((c.tc : Thread Cert.KernelSsdStep.nD Cert.KernelSsdStep.τ).loc Cert.KernelSsdStep.main_arg0)
      ∧ r.2.mem ((c.tc : Thread Cert.KernelSsdStep.nD Cert.KernelSsdStep.τ).loc Cert.KernelSsdStep.main_arg1) = m ((c.tc : Thread Cert.KernelSsdStep.nD Cert.KernelSsdStep.τ).loc Cert.KernelSsdStep.main_arg1)
      ∧ r.2.mem ((c.tc : Thread Cert.KernelSsdStep.nD Cert.KernelSsdStep.τ).loc Cert.KernelSsdStep.main_arg2) = m ((c.tc : Thread Cert.KernelSsdStep.nD Cert.KernelSsdStep.τ).loc Cert.KernelSsdStep.main_arg2)
      ∧ r.2.mem ((c.tc : Thread Cert.KernelSsdStep.nD Cert.KernelSsdStep.τ).loc Cert.KernelSsdStep.main_arg3) = m ((c.tc : Thread Cert.KernelSsdStep.nD Cert.KernelSsdStep.τ).loc Cert.KernelSsdStep.main_arg3)
      ∧ r.2.mem ((c.tc : Thread Cert.KernelSsdStep.nD Cert.KernelSsdStep.τ).loc Cert.KernelSsdStep.main_arg4) = m ((c.tc : Thread Cert.KernelSsdStep.nD Cert.KernelSsdStep.τ).loc Cert.KernelSsdStep.main_arg4)
      ∧ r.2.mem ((c.tc : Thread Cert.KernelSsdStep.nD Cert.KernelSsdStep.τ).loc Cert.KernelSsdStep.main_arg5) = m ((c.tc : Thread Cert.KernelSsdStep.nD Cert.KernelSsdStep.τ).loc Cert.KernelSsdStep.main_arg5))
      ∧ r.2.sem = fun _ => 0)

def quiescent_KernelSsdStepIdeal [hKernelSsdStepIdeal : Cert.KernelSsdStepIdeal.Facts] : Prop :=
  ∀ (m : (ℓ : Loc Cert.KernelSsdStepIdeal.nD Cert.KernelSsdStepIdeal.τ Cert.KernelSsdStepIdeal.sig) → Buf (Elt Ideal) ℓ) (g : Dev Cert.KernelSsdStepIdeal.nD → PrngReg), Pre_KernelSsdStepIdeal m →
    θ_run (Cert.KernelSsdStepIdeal.defs (F := Ideal)) (onTc (τ := Cert.KernelSsdStepIdeal.τ) (Cert.KernelSsdStepIdeal.main (F := Ideal))) ⟨m, fun _ => 0, g⟩ (fun r => (∀ c : Dev Cert.KernelSsdStepIdeal.nD,
      r.2.mem ((c.tc : Thread Cert.KernelSsdStepIdeal.nD Cert.KernelSsdStepIdeal.τ).loc Cert.KernelSsdStepIdeal.main_arg0) = m ((c.tc : Thread Cert.KernelSsdStepIdeal.nD Cert.KernelSsdStepIdeal.τ).loc Cert.KernelSsdStepIdeal.main_arg0)
      ∧ r.2.mem ((c.tc : Thread Cert.KernelSsdStepIdeal.nD Cert.KernelSsdStepIdeal.τ).loc Cert.KernelSsdStepIdeal.main_arg1) = m ((c.tc : Thread Cert.KernelSsdStepIdeal.nD Cert.KernelSsdStepIdeal.τ).loc Cert.KernelSsdStepIdeal.main_arg1)
      ∧ r.2.mem ((c.tc : Thread Cert.KernelSsdStepIdeal.nD Cert.KernelSsdStepIdeal.τ).loc Cert.KernelSsdStepIdeal.main_arg2) = m ((c.tc : Thread Cert.KernelSsdStepIdeal.nD Cert.KernelSsdStepIdeal.τ).loc Cert.KernelSsdStepIdeal.main_arg2)
      ∧ r.2.mem ((c.tc : Thread Cert.KernelSsdStepIdeal.nD Cert.KernelSsdStepIdeal.τ).loc Cert.KernelSsdStepIdeal.main_arg3) = m ((c.tc : Thread Cert.KernelSsdStepIdeal.nD Cert.KernelSsdStepIdeal.τ).loc Cert.KernelSsdStepIdeal.main_arg3)
      ∧ r.2.mem ((c.tc : Thread Cert.KernelSsdStepIdeal.nD Cert.KernelSsdStepIdeal.τ).loc Cert.KernelSsdStepIdeal.main_arg4) = m ((c.tc : Thread Cert.KernelSsdStepIdeal.nD Cert.KernelSsdStepIdeal.τ).loc Cert.KernelSsdStepIdeal.main_arg4)
      ∧ r.2.mem ((c.tc : Thread Cert.KernelSsdStepIdeal.nD Cert.KernelSsdStepIdeal.τ).loc Cert.KernelSsdStepIdeal.main_arg5) = m ((c.tc : Thread Cert.KernelSsdStepIdeal.nD Cert.KernelSsdStepIdeal.τ).loc Cert.KernelSsdStepIdeal.main_arg5))
      ∧ r.2.sem = fun _ => 0)

def quiescent_KernelSsdStepIdeal_pre_ssd_finite [hKernelSsdStepIdeal : Cert.KernelSsdStepIdeal.Facts] [hPre_ssd_finite : Cert.Pre_ssd_finite.Facts] : Prop :=
  ∀ (m : (ℓ : Loc Cert.KernelSsdStepIdeal.nD Cert.KernelSsdStepIdeal.τ Cert.KernelSsdStepIdeal.sig) → Buf (Elt Ideal) ℓ) (g : Dev Cert.KernelSsdStepIdeal.nD → PrngReg), Pre_KernelSsdStepIdeal_ssd_finite m →
    θ_run (Cert.KernelSsdStepIdeal.defs (F := Ideal)) (onTc (τ := Cert.KernelSsdStepIdeal.τ) (Cert.KernelSsdStepIdeal.main (F := Ideal))) ⟨m, fun _ => 0, g⟩ (fun r => (∀ c : Dev Cert.KernelSsdStepIdeal.nD,
      r.2.mem ((c.tc : Thread Cert.KernelSsdStepIdeal.nD Cert.KernelSsdStepIdeal.τ).loc Cert.KernelSsdStepIdeal.main_arg0) = m ((c.tc : Thread Cert.KernelSsdStepIdeal.nD Cert.KernelSsdStepIdeal.τ).loc Cert.KernelSsdStepIdeal.main_arg0)
      ∧ r.2.mem ((c.tc : Thread Cert.KernelSsdStepIdeal.nD Cert.KernelSsdStepIdeal.τ).loc Cert.KernelSsdStepIdeal.main_arg1) = m ((c.tc : Thread Cert.KernelSsdStepIdeal.nD Cert.KernelSsdStepIdeal.τ).loc Cert.KernelSsdStepIdeal.main_arg1)
      ∧ r.2.mem ((c.tc : Thread Cert.KernelSsdStepIdeal.nD Cert.KernelSsdStepIdeal.τ).loc Cert.KernelSsdStepIdeal.main_arg2) = m ((c.tc : Thread Cert.KernelSsdStepIdeal.nD Cert.KernelSsdStepIdeal.τ).loc Cert.KernelSsdStepIdeal.main_arg2)
      ∧ r.2.mem ((c.tc : Thread Cert.KernelSsdStepIdeal.nD Cert.KernelSsdStepIdeal.τ).loc Cert.KernelSsdStepIdeal.main_arg3) = m ((c.tc : Thread Cert.KernelSsdStepIdeal.nD Cert.KernelSsdStepIdeal.τ).loc Cert.KernelSsdStepIdeal.main_arg3)
      ∧ r.2.mem ((c.tc : Thread Cert.KernelSsdStepIdeal.nD Cert.KernelSsdStepIdeal.τ).loc Cert.KernelSsdStepIdeal.main_arg4) = m ((c.tc : Thread Cert.KernelSsdStepIdeal.nD Cert.KernelSsdStepIdeal.τ).loc Cert.KernelSsdStepIdeal.main_arg4)
      ∧ r.2.mem ((c.tc : Thread Cert.KernelSsdStepIdeal.nD Cert.KernelSsdStepIdeal.τ).loc Cert.KernelSsdStepIdeal.main_arg5) = m ((c.tc : Thread Cert.KernelSsdStepIdeal.nD Cert.KernelSsdStepIdeal.τ).loc Cert.KernelSsdStepIdeal.main_arg5))
      ∧ r.2.sem = fun _ => 0)

def quiescent_ReferenceSsdStepIdeal [hReferenceSsdStepIdeal : Cert.ReferenceSsdStepIdeal.Facts] : Prop :=
  ∀ (m : (ℓ : Loc Cert.ReferenceSsdStepIdeal.nD Cert.ReferenceSsdStepIdeal.τ Cert.ReferenceSsdStepIdeal.sig) → Buf (Elt Ideal) ℓ) (g : Dev Cert.ReferenceSsdStepIdeal.nD → PrngReg), Pre_ReferenceSsdStepIdeal m →
    θ_run (Cert.ReferenceSsdStepIdeal.defs (F := Ideal)) (onTc (τ := Cert.ReferenceSsdStepIdeal.τ) (Cert.ReferenceSsdStepIdeal.main (F := Ideal))) ⟨m, fun _ => 0, g⟩ (fun r => (∀ c : Dev Cert.ReferenceSsdStepIdeal.nD,
      r.2.mem ((c.tc : Thread Cert.ReferenceSsdStepIdeal.nD Cert.ReferenceSsdStepIdeal.τ).loc Cert.ReferenceSsdStepIdeal.main_arg0) = m ((c.tc : Thread Cert.ReferenceSsdStepIdeal.nD Cert.ReferenceSsdStepIdeal.τ).loc Cert.ReferenceSsdStepIdeal.main_arg0)
      ∧ r.2.mem ((c.tc : Thread Cert.ReferenceSsdStepIdeal.nD Cert.ReferenceSsdStepIdeal.τ).loc Cert.ReferenceSsdStepIdeal.main_arg1) = m ((c.tc : Thread Cert.ReferenceSsdStepIdeal.nD Cert.ReferenceSsdStepIdeal.τ).loc Cert.ReferenceSsdStepIdeal.main_arg1)
      ∧ r.2.mem ((c.tc : Thread Cert.ReferenceSsdStepIdeal.nD Cert.ReferenceSsdStepIdeal.τ).loc Cert.ReferenceSsdStepIdeal.main_arg2) = m ((c.tc : Thread Cert.ReferenceSsdStepIdeal.nD Cert.ReferenceSsdStepIdeal.τ).loc Cert.ReferenceSsdStepIdeal.main_arg2)
      ∧ r.2.mem ((c.tc : Thread Cert.ReferenceSsdStepIdeal.nD Cert.ReferenceSsdStepIdeal.τ).loc Cert.ReferenceSsdStepIdeal.main_arg3) = m ((c.tc : Thread Cert.ReferenceSsdStepIdeal.nD Cert.ReferenceSsdStepIdeal.τ).loc Cert.ReferenceSsdStepIdeal.main_arg3)
      ∧ r.2.mem ((c.tc : Thread Cert.ReferenceSsdStepIdeal.nD Cert.ReferenceSsdStepIdeal.τ).loc Cert.ReferenceSsdStepIdeal.main_arg4) = m ((c.tc : Thread Cert.ReferenceSsdStepIdeal.nD Cert.ReferenceSsdStepIdeal.τ).loc Cert.ReferenceSsdStepIdeal.main_arg4)
      ∧ r.2.mem ((c.tc : Thread Cert.ReferenceSsdStepIdeal.nD Cert.ReferenceSsdStepIdeal.τ).loc Cert.ReferenceSsdStepIdeal.main_arg5) = m ((c.tc : Thread Cert.ReferenceSsdStepIdeal.nD Cert.ReferenceSsdStepIdeal.τ).loc Cert.ReferenceSsdStepIdeal.main_arg5))
      ∧ r.2.sem = fun _ => 0)

def quiescent_ReferenceSsdStepIdeal_pre_ssd_finite [hReferenceSsdStepIdeal : Cert.ReferenceSsdStepIdeal.Facts] [hPre_ssd_finite : Cert.Pre_ssd_finite.Facts] : Prop :=
  ∀ (m : (ℓ : Loc Cert.ReferenceSsdStepIdeal.nD Cert.ReferenceSsdStepIdeal.τ Cert.ReferenceSsdStepIdeal.sig) → Buf (Elt Ideal) ℓ) (g : Dev Cert.ReferenceSsdStepIdeal.nD → PrngReg), Pre_ReferenceSsdStepIdeal_ssd_finite m →
    θ_run (Cert.ReferenceSsdStepIdeal.defs (F := Ideal)) (onTc (τ := Cert.ReferenceSsdStepIdeal.τ) (Cert.ReferenceSsdStepIdeal.main (F := Ideal))) ⟨m, fun _ => 0, g⟩ (fun r => (∀ c : Dev Cert.ReferenceSsdStepIdeal.nD,
      r.2.mem ((c.tc : Thread Cert.ReferenceSsdStepIdeal.nD Cert.ReferenceSsdStepIdeal.τ).loc Cert.ReferenceSsdStepIdeal.main_arg0) = m ((c.tc : Thread Cert.ReferenceSsdStepIdeal.nD Cert.ReferenceSsdStepIdeal.τ).loc Cert.ReferenceSsdStepIdeal.main_arg0)
      ∧ r.2.mem ((c.tc : Thread Cert.ReferenceSsdStepIdeal.nD Cert.ReferenceSsdStepIdeal.τ).loc Cert.ReferenceSsdStepIdeal.main_arg1) = m ((c.tc : Thread Cert.ReferenceSsdStepIdeal.nD Cert.ReferenceSsdStepIdeal.τ).loc Cert.ReferenceSsdStepIdeal.main_arg1)
      ∧ r.2.mem ((c.tc : Thread Cert.ReferenceSsdStepIdeal.nD Cert.ReferenceSsdStepIdeal.τ).loc Cert.ReferenceSsdStepIdeal.main_arg2) = m ((c.tc : Thread Cert.ReferenceSsdStepIdeal.nD Cert.ReferenceSsdStepIdeal.τ).loc Cert.ReferenceSsdStepIdeal.main_arg2)
      ∧ r.2.mem ((c.tc : Thread Cert.ReferenceSsdStepIdeal.nD Cert.ReferenceSsdStepIdeal.τ).loc Cert.ReferenceSsdStepIdeal.main_arg3) = m ((c.tc : Thread Cert.ReferenceSsdStepIdeal.nD Cert.ReferenceSsdStepIdeal.τ).loc Cert.ReferenceSsdStepIdeal.main_arg3)
      ∧ r.2.mem ((c.tc : Thread Cert.ReferenceSsdStepIdeal.nD Cert.ReferenceSsdStepIdeal.τ).loc Cert.ReferenceSsdStepIdeal.main_arg4) = m ((c.tc : Thread Cert.ReferenceSsdStepIdeal.nD Cert.ReferenceSsdStepIdeal.τ).loc Cert.ReferenceSsdStepIdeal.main_arg4)
      ∧ r.2.mem ((c.tc : Thread Cert.ReferenceSsdStepIdeal.nD Cert.ReferenceSsdStepIdeal.τ).loc Cert.ReferenceSsdStepIdeal.main_arg5) = m ((c.tc : Thread Cert.ReferenceSsdStepIdeal.nD Cert.ReferenceSsdStepIdeal.τ).loc Cert.ReferenceSsdStepIdeal.main_arg5))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v36)) (v1 : (c : Dev Cert.KernelInIdeal.nD) → Buf (Elt Ideal) ((c.tc : Thread Cert.KernelInIdeal.nD Cert.KernelInIdeal.τ).loc Cert.KernelInIdeal.main_v37)) (v2 : (c : Dev Cert.KernelInIdeal.nD) → Buf (Elt Ideal) ((c.tc : Thread Cert.KernelInIdeal.nD Cert.KernelInIdeal.τ).loc Cert.KernelInIdeal.main_v38)) (v3 : (c : Dev Cert.KernelInIdeal.nD) → Buf (Elt Ideal) ((c.tc : Thread Cert.KernelInIdeal.nD Cert.KernelInIdeal.τ).loc Cert.KernelInIdeal.main_v39)) (v4 : (c : Dev Cert.KernelInIdeal.nD) → Buf (Elt Ideal) ((c.tc : Thread Cert.KernelInIdeal.nD Cert.KernelInIdeal.τ).loc Cert.KernelInIdeal.main_v34)) (v5 : (c : Dev Cert.KernelInIdeal.nD) → Buf (Elt Ideal) ((c.tc : Thread Cert.KernelInIdeal.nD Cert.KernelInIdeal.τ).loc Cert.KernelInIdeal.main_v40)) (v6 : (c : Dev Cert.KernelInIdeal.nD) → Buf (Elt Ideal) ((c.tc : Thread Cert.KernelInIdeal.nD Cert.KernelInIdeal.τ).loc Cert.KernelInIdeal.main_v42)) (v7 : (c : Dev Cert.KernelInIdeal.nD) → Buf (Elt Ideal) ((c.tc : Thread Cert.KernelInIdeal.nD Cert.KernelInIdeal.τ).loc Cert.KernelInIdeal.main_v24)) (v8 : (c : Dev Cert.KernelInIdeal.nD) → Buf (Elt Ideal) ((c.tc : Thread Cert.KernelInIdeal.nD Cert.KernelInIdeal.τ).loc Cert.KernelInIdeal.main_v25)) (v9 : (c : Dev Cert.KernelInIdeal.nD) → Buf (Elt Ideal) ((c.tc : Thread Cert.KernelInIdeal.nD Cert.KernelInIdeal.τ).loc Cert.KernelInIdeal.main_v33)) (v10 : (c : Dev Cert.KernelInIdeal.nD) → Buf (Elt Ideal) ((c.tc : Thread Cert.KernelInIdeal.nD Cert.KernelInIdeal.τ).loc Cert.KernelInIdeal.main_v26)) (v11 : (c : Dev Cert.KernelInIdeal.nD) → Buf (Elt Ideal) ((c.tc : Thread Cert.KernelInIdeal.nD Cert.KernelInIdeal.τ).loc Cert.KernelInIdeal.main_v29)) (v12 : (c : Dev Cert.KernelInIdeal.nD) → Buf (Elt Ideal) ((c.tc : Thread Cert.KernelInIdeal.nD Cert.KernelInIdeal.τ).loc Cert.KernelInIdeal.main_v32)) (v13 : (c : Dev Cert.KernelInIdeal.nD) → Buf (Elt Ideal) ((c.tc : Thread Cert.KernelInIdeal.nD Cert.KernelInIdeal.τ).loc Cert.KernelInIdeal.main_v35)) (v14 : (c : Dev Cert.KernelInIdeal.nD) → Buf (Elt Ideal) ((c.tc : Thread Cert.KernelInIdeal.nD Cert.KernelInIdeal.τ).loc Cert.KernelInIdeal.main_v23)) (v15 : (c : Dev Cert.KernelInIdeal.nD) → Buf (Elt Ideal) ((c.tc : Thread Cert.KernelInIdeal.nD Cert.KernelInIdeal.τ).loc Cert.KernelInIdeal.main_v22)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v36) = v0 c
          ∧ r.2.mem ((c.tc : Thread Cert.KernelInIdeal.nD Cert.KernelInIdeal.τ).loc Cert.KernelInIdeal.main_v37) = v1 c
          ∧ r.2.mem ((c.tc : Thread Cert.KernelInIdeal.nD Cert.KernelInIdeal.τ).loc Cert.KernelInIdeal.main_v38) = v2 c
          ∧ r.2.mem ((c.tc : Thread Cert.KernelInIdeal.nD Cert.KernelInIdeal.τ).loc Cert.KernelInIdeal.main_v39) = v3 c
          ∧ r.2.mem ((c.tc : Thread Cert.KernelInIdeal.nD Cert.KernelInIdeal.τ).loc Cert.KernelInIdeal.main_v34) = v4 c
          ∧ r.2.mem ((c.tc : Thread Cert.KernelInIdeal.nD Cert.KernelInIdeal.τ).loc Cert.KernelInIdeal.main_v40) = v5 c
          ∧ r.2.mem ((c.tc : Thread Cert.KernelInIdeal.nD Cert.KernelInIdeal.τ).loc Cert.KernelInIdeal.main_v42) = v6 c
          ∧ r.2.mem ((c.tc : Thread Cert.KernelInIdeal.nD Cert.KernelInIdeal.τ).loc Cert.KernelInIdeal.main_v24) = v7 c
          ∧ r.2.mem ((c.tc : Thread Cert.KernelInIdeal.nD Cert.KernelInIdeal.τ).loc Cert.KernelInIdeal.main_v25) = v8 c
          ∧ r.2.mem ((c.tc : Thread Cert.KernelInIdeal.nD Cert.KernelInIdeal.τ).loc Cert.KernelInIdeal.main_v33) = v9 c
          ∧ r.2.mem ((c.tc : Thread Cert.KernelInIdeal.nD Cert.KernelInIdeal.τ).loc Cert.KernelInIdeal.main_v26) = v10 c
          ∧ r.2.mem ((c.tc : Thread Cert.KernelInIdeal.nD Cert.KernelInIdeal.τ).loc Cert.KernelInIdeal.main_v29) = v11 c
          ∧ r.2.mem ((c.tc : Thread Cert.KernelInIdeal.nD Cert.KernelInIdeal.τ).loc Cert.KernelInIdeal.main_v32) = v12 c
          ∧ r.2.mem ((c.tc : Thread Cert.KernelInIdeal.nD Cert.KernelInIdeal.τ).loc Cert.KernelInIdeal.main_v35) = v13 c
          ∧ r.2.mem ((c.tc : Thread Cert.KernelInIdeal.nD Cert.KernelInIdeal.τ).loc Cert.KernelInIdeal.main_v23) = v14 c
          ∧ r.2.mem ((c.tc : Thread Cert.KernelInIdeal.nD Cert.KernelInIdeal.τ).loc Cert.KernelInIdeal.main_v22) = v15 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v28) = v0 c
          ∧ r.2.mem ((c.tc : Thread Cert.ReferenceInIdeal.nD Cert.ReferenceInIdeal.τ).loc Cert.ReferenceInIdeal.main_v29) = v1 c
          ∧ r.2.mem ((c.tc : Thread Cert.ReferenceInIdeal.nD Cert.ReferenceInIdeal.τ).loc Cert.ReferenceInIdeal.main_v30) = v2 c
          ∧ r.2.mem ((c.tc : Thread Cert.ReferenceInIdeal.nD Cert.ReferenceInIdeal.τ).loc Cert.ReferenceInIdeal.main_v31) = v3 c
          ∧ r.2.mem ((c.tc : Thread Cert.ReferenceInIdeal.nD Cert.ReferenceInIdeal.τ).loc Cert.ReferenceInIdeal.main_v24) = v4 c
          ∧ r.2.mem ((c.tc : Thread Cert.ReferenceInIdeal.nD Cert.ReferenceInIdeal.τ).loc Cert.ReferenceInIdeal.main_v32) = v5 c
          ∧ r.2.mem ((c.tc : Thread Cert.ReferenceInIdeal.nD Cert.ReferenceInIdeal.τ).loc Cert.ReferenceInIdeal.main_v34) = v6 c
          ∧ r.2.mem ((c.tc : Thread Cert.ReferenceInIdeal.nD Cert.ReferenceInIdeal.τ).loc Cert.ReferenceInIdeal.main_v14) = v7 c
          ∧ r.2.mem ((c.tc : Thread Cert.ReferenceInIdeal.nD Cert.ReferenceInIdeal.τ).loc Cert.ReferenceInIdeal.main_v15) = v8 c
          ∧ r.2.mem ((c.tc : Thread Cert.ReferenceInIdeal.nD Cert.ReferenceInIdeal.τ).loc Cert.ReferenceInIdeal.main_v16) = v9 c
          ∧ r.2.mem ((c.tc : Thread Cert.ReferenceInIdeal.nD Cert.ReferenceInIdeal.τ).loc Cert.ReferenceInIdeal.main_v17) = v10 c
          ∧ r.2.mem ((c.tc : Thread Cert.ReferenceInIdeal.nD Cert.ReferenceInIdeal.τ).loc Cert.ReferenceInIdeal.main_v20) = v11 c
          ∧ r.2.mem ((c.tc : Thread Cert.ReferenceInIdeal.nD Cert.ReferenceInIdeal.τ).loc Cert.ReferenceInIdeal.main_v23) = v12 c
          ∧ r.2.mem ((c.tc : Thread Cert.ReferenceInIdeal.nD Cert.ReferenceInIdeal.τ).loc Cert.ReferenceInIdeal.main_v25) = v13 c
          ∧ r.2.mem ((c.tc : Thread Cert.ReferenceInIdeal.nD Cert.ReferenceInIdeal.τ).loc Cert.ReferenceInIdeal.main_v26) = v14 c
          ∧ r.2.mem ((c.tc : Thread Cert.ReferenceInIdeal.nD Cert.ReferenceInIdeal.τ).loc Cert.ReferenceInIdeal.main_v27) = v15 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v5)) (v1 : (c : Dev Cert.KernelUpIdeal.nD) → Buf (Elt Ideal) ((c.tc : Thread Cert.KernelUpIdeal.nD Cert.KernelUpIdeal.τ).loc Cert.KernelUpIdeal.main_v6)) (v2 : (c : Dev Cert.KernelUpIdeal.nD) → Buf (Elt Ideal) ((c.tc : Thread Cert.KernelUpIdeal.nD Cert.KernelUpIdeal.τ).loc Cert.KernelUpIdeal.main_v7)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5) = v0 c
          ∧ r.2.mem ((c.tc : Thread Cert.KernelUpIdeal.nD Cert.KernelUpIdeal.τ).loc Cert.KernelUpIdeal.main_v6) = v1 c
          ∧ r.2.mem ((c.tc : Thread Cert.KernelUpIdeal.nD Cert.KernelUpIdeal.τ).loc Cert.KernelUpIdeal.main_v7) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v14) = v0 c
          ∧ r.2.mem ((c.tc : Thread Cert.ReferenceUpIdeal.nD Cert.ReferenceUpIdeal.τ).loc Cert.ReferenceUpIdeal.main_v15) = v1 c
          ∧ r.2.mem ((c.tc : Thread Cert.ReferenceUpIdeal.nD Cert.ReferenceUpIdeal.τ).loc Cert.ReferenceUpIdeal.main_v16) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)) →
    ∃ (v0 : (c : Dev Cert.KernelDownIdeal.nD) → Buf (Elt Ideal) ((c.tc : Thread Cert.KernelDownIdeal.nD Cert.KernelDownIdeal.τ).loc Cert.KernelDownIdeal.main_v13)) (v1 : (c : Dev Cert.KernelDownIdeal.nD) → Buf (Elt Ideal) ((c.tc : Thread Cert.KernelDownIdeal.nD Cert.KernelDownIdeal.τ).loc Cert.KernelDownIdeal.main_v14)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v13) = v0 c
          ∧ r.2.mem ((c.tc : Thread Cert.KernelDownIdeal.nD Cert.KernelDownIdeal.τ).loc Cert.KernelDownIdeal.main_v14) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v31) = v0 c
          ∧ r.2.mem ((c.tc : Thread Cert.ReferenceDownIdeal.nD Cert.ReferenceDownIdeal.τ).loc Cert.ReferenceDownIdeal.main_v32) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v9)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v9) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v18) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelInSample_KernelInSampleIdeal : Prop :=
  True

def algebraic_KernelInSampleIdeal_ReferenceInSampleIdeal [hKernelInSampleIdeal : Cert.KernelInSampleIdeal.Facts] [hReferenceInSampleIdeal : Cert.ReferenceInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg)
    (m' : (ℓ : Loc Cert.ReferenceInSampleIdeal.nD Cert.ReferenceInSampleIdeal.τ Cert.ReferenceInSampleIdeal.sig) → Buf (Elt Ideal) ℓ) (g' : Dev Cert.ReferenceInSampleIdeal.nD → PrngReg), Pre_KernelInSampleIdeal m →
    (∀ c : Dev Cert.KernelInSampleIdeal.nD,
      m' ((c.tc : Thread Cert.ReferenceInSampleIdeal.nD Cert.ReferenceInSampleIdeal.τ).loc Cert.ReferenceInSampleIdeal.main_arg0) = m ((c.tc : Thread Cert.KernelInSampleIdeal.nD Cert.KernelInSampleIdeal.τ).loc Cert.KernelInSampleIdeal.main_arg0)
      ∧ m' ((c.tc : Thread Cert.ReferenceInSampleIdeal.nD Cert.ReferenceInSampleIdeal.τ).loc Cert.ReferenceInSampleIdeal.main_arg1) = m ((c.tc : Thread Cert.KernelInSampleIdeal.nD Cert.KernelInSampleIdeal.τ).loc Cert.KernelInSampleIdeal.main_arg1)
      ∧ m' ((c.tc : Thread Cert.ReferenceInSampleIdeal.nD Cert.ReferenceInSampleIdeal.τ).loc Cert.ReferenceInSampleIdeal.main_arg2) = m ((c.tc : Thread Cert.KernelInSampleIdeal.nD Cert.KernelInSampleIdeal.τ).loc Cert.KernelInSampleIdeal.main_arg2)
      ∧ m' ((c.tc : Thread Cert.ReferenceInSampleIdeal.nD Cert.ReferenceInSampleIdeal.τ).loc Cert.ReferenceInSampleIdeal.main_arg3) = m ((c.tc : Thread Cert.KernelInSampleIdeal.nD Cert.KernelInSampleIdeal.τ).loc Cert.KernelInSampleIdeal.main_arg3)) →
    ∃ (v0 : (c : Dev Cert.KernelInSampleIdeal.nD) → Buf (Elt Ideal) ((c.tc : Thread Cert.KernelInSampleIdeal.nD Cert.KernelInSampleIdeal.τ).loc Cert.KernelInSampleIdeal.main_v36)) (v1 : (c : Dev Cert.KernelInSampleIdeal.nD) → Buf (Elt Ideal) ((c.tc : Thread Cert.KernelInSampleIdeal.nD Cert.KernelInSampleIdeal.τ).loc Cert.KernelInSampleIdeal.main_v37)) (v2 : (c : Dev Cert.KernelInSampleIdeal.nD) → Buf (Elt Ideal) ((c.tc : Thread Cert.KernelInSampleIdeal.nD Cert.KernelInSampleIdeal.τ).loc Cert.KernelInSampleIdeal.main_v38)) (v3 : (c : Dev Cert.KernelInSampleIdeal.nD) → Buf (Elt Ideal) ((c.tc : Thread Cert.KernelInSampleIdeal.nD Cert.KernelInSampleIdeal.τ).loc Cert.KernelInSampleIdeal.main_v39)) (v4 : (c : Dev Cert.KernelInSampleIdeal.nD) → Buf (Elt Ideal) ((c.tc : Thread Cert.KernelInSampleIdeal.nD Cert.KernelInSampleIdeal.τ).loc Cert.KernelInSampleIdeal.main_v34)) (v5 : (c : Dev Cert.KernelInSampleIdeal.nD) → Buf (Elt Ideal) ((c.tc : Thread Cert.KernelInSampleIdeal.nD Cert.KernelInSampleIdeal.τ).loc Cert.KernelInSampleIdeal.main_v41)) (v6 : (c : Dev Cert.KernelInSampleIdeal.nD) → Buf (Elt Ideal) ((c.tc : Thread Cert.KernelInSampleIdeal.nD Cert.KernelInSampleIdeal.τ).loc Cert.KernelInSampleIdeal.main_v42)) (v7 : (c : Dev Cert.KernelInSampleIdeal.nD) → Buf (Elt Ideal) ((c.tc : Thread Cert.KernelInSampleIdeal.nD Cert.KernelInSampleIdeal.τ).loc Cert.KernelInSampleIdeal.main_v24)) (v8 : (c : Dev Cert.KernelInSampleIdeal.nD) → Buf (Elt Ideal) ((c.tc : Thread Cert.KernelInSampleIdeal.nD Cert.KernelInSampleIdeal.τ).loc Cert.KernelInSampleIdeal.main_v25)) (v9 : (c : Dev Cert.KernelInSampleIdeal.nD) → Buf (Elt Ideal) ((c.tc : Thread Cert.KernelInSampleIdeal.nD Cert.KernelInSampleIdeal.τ).loc Cert.KernelInSampleIdeal.main_v33)) (v10 : (c : Dev Cert.KernelInSampleIdeal.nD) → Buf (Elt Ideal) ((c.tc : Thread Cert.KernelInSampleIdeal.nD Cert.KernelInSampleIdeal.τ).loc Cert.KernelInSampleIdeal.main_v26)) (v11 : (c : Dev Cert.KernelInSampleIdeal.nD) → Buf (Elt Ideal) ((c.tc : Thread Cert.KernelInSampleIdeal.nD Cert.KernelInSampleIdeal.τ).loc Cert.KernelInSampleIdeal.main_v29)) (v12 : (c : Dev Cert.KernelInSampleIdeal.nD) → Buf (Elt Ideal) ((c.tc : Thread Cert.KernelInSampleIdeal.nD Cert.KernelInSampleIdeal.τ).loc Cert.KernelInSampleIdeal.main_v32)) (v13 : (c : Dev Cert.KernelInSampleIdeal.nD) → Buf (Elt Ideal) ((c.tc : Thread Cert.KernelInSampleIdeal.nD Cert.KernelInSampleIdeal.τ).loc Cert.KernelInSampleIdeal.main_v35)) (v14 : (c : Dev Cert.KernelInSampleIdeal.nD) → Buf (Elt Ideal) ((c.tc : Thread Cert.KernelInSampleIdeal.nD Cert.KernelInSampleIdeal.τ).loc Cert.KernelInSampleIdeal.main_v23)) (v15 : (c : Dev Cert.KernelInSampleIdeal.nD) → Buf (Elt Ideal) ((c.tc : Thread Cert.KernelInSampleIdeal.nD Cert.KernelInSampleIdeal.τ).loc Cert.KernelInSampleIdeal.main_v22)),
      θ_run (Cert.KernelInSampleIdeal.defs (F := Ideal)) (onTc (τ := Cert.KernelInSampleIdeal.τ) (Cert.KernelInSampleIdeal.main (F := Ideal))) ⟨m, fun _ => 0, g⟩ (fun r => ∀ c : Dev Cert.KernelInSampleIdeal.nD,
          r.2.mem ((c.tc : Thread Cert.KernelInSampleIdeal.nD Cert.KernelInSampleIdeal.τ).loc Cert.KernelInSampleIdeal.main_v36) = v0 c
          ∧ r.2.mem ((c.tc : Thread Cert.KernelInSampleIdeal.nD Cert.KernelInSampleIdeal.τ).loc Cert.KernelInSampleIdeal.main_v37) = v1 c
          ∧ r.2.mem ((c.tc : Thread Cert.KernelInSampleIdeal.nD Cert.KernelInSampleIdeal.τ).loc Cert.KernelInSampleIdeal.main_v38) = v2 c
          ∧ r.2.mem ((c.tc : Thread Cert.KernelInSampleIdeal.nD Cert.KernelInSampleIdeal.τ).loc Cert.KernelInSampleIdeal.main_v39) = v3 c
          ∧ r.2.mem ((c.tc : Thread Cert.KernelInSampleIdeal.nD Cert.KernelInSampleIdeal.τ).loc Cert.KernelInSampleIdeal.main_v34) = v4 c
          ∧ r.2.mem ((c.tc : Thread Cert.KernelInSampleIdeal.nD Cert.KernelInSampleIdeal.τ).loc Cert.KernelInSampleIdeal.main_v41) = v5 c
          ∧ r.2.mem ((c.tc : Thread Cert.KernelInSampleIdeal.nD Cert.KernelInSampleIdeal.τ).loc Cert.KernelInSampleIdeal.main_v42) = v6 c
          ∧ r.2.mem ((c.tc : Thread Cert.KernelInSampleIdeal.nD Cert.KernelInSampleIdeal.τ).loc Cert.KernelInSampleIdeal.main_v24) = v7 c
          ∧ r.2.mem ((c.tc : Thread Cert.KernelInSampleIdeal.nD Cert.KernelInSampleIdeal.τ).loc Cert.KernelInSampleIdeal.main_v25) = v8 c
          ∧ r.2.mem ((c.tc : Thread Cert.KernelInSampleIdeal.nD Cert.KernelInSampleIdeal.τ).loc Cert.KernelInSampleIdeal.main_v33) = v9 c
          ∧ r.2.mem ((c.tc : Thread Cert.KernelInSampleIdeal.nD Cert.KernelInSampleIdeal.τ).loc Cert.KernelInSampleIdeal.main_v26) = v10 c
          ∧ r.2.mem ((c.tc : Thread Cert.KernelInSampleIdeal.nD Cert.KernelInSampleIdeal.τ).loc Cert.KernelInSampleIdeal.main_v29) = v11 c
          ∧ r.2.mem ((c.tc : Thread Cert.KernelInSampleIdeal.nD Cert.KernelInSampleIdeal.τ).loc Cert.KernelInSampleIdeal.main_v32) = v12 c
          ∧ r.2.mem ((c.tc : Thread Cert.KernelInSampleIdeal.nD Cert.KernelInSampleIdeal.τ).loc Cert.KernelInSampleIdeal.main_v35) = v13 c
          ∧ r.2.mem ((c.tc : Thread Cert.KernelInSampleIdeal.nD Cert.KernelInSampleIdeal.τ).loc Cert.KernelInSampleIdeal.main_v23) = v14 c
          ∧ r.2.mem ((c.tc : Thread Cert.KernelInSampleIdeal.nD Cert.KernelInSampleIdeal.τ).loc Cert.KernelInSampleIdeal.main_v22) = v15 c
          ∧ r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
          ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
          ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2)
          ∧ r.2.mem ((c.tc : Thread Cert.KernelInSampleIdeal.nD Cert.KernelInSampleIdeal.τ).loc Cert.KernelInSampleIdeal.main_arg3) = m ((c.tc : Thread Cert.KernelInSampleIdeal.nD Cert.KernelInSampleIdeal.τ).loc Cert.KernelInSampleIdeal.main_arg3))
      ∧ θ_run (Cert.ReferenceInSampleIdeal.defs (F := Ideal)) (onTc (τ := Cert.ReferenceInSampleIdeal.τ) (Cert.ReferenceInSampleIdeal.main (F := Ideal))) ⟨m', fun _ => 0, g'⟩ (fun r => ∀ c : Dev Cert.ReferenceInSampleIdeal.nD,
          r.2.mem ((c.tc : Thread Cert.ReferenceInSampleIdeal.nD Cert.ReferenceInSampleIdeal.τ).loc Cert.ReferenceInSampleIdeal.main_v28) = v0 c
          ∧ r.2.mem ((c.tc : Thread Cert.ReferenceInSampleIdeal.nD Cert.ReferenceInSampleIdeal.τ).loc Cert.ReferenceInSampleIdeal.main_v29) = v1 c
          ∧ r.2.mem ((c.tc : Thread Cert.ReferenceInSampleIdeal.nD Cert.ReferenceInSampleIdeal.τ).loc Cert.ReferenceInSampleIdeal.main_v30) = v2 c
          ∧ r.2.mem ((c.tc : Thread Cert.ReferenceInSampleIdeal.nD Cert.ReferenceInSampleIdeal.τ).loc Cert.ReferenceInSampleIdeal.main_v31) = v3 c
          ∧ r.2.mem ((c.tc : Thread Cert.ReferenceInSampleIdeal.nD Cert.ReferenceInSampleIdeal.τ).loc Cert.ReferenceInSampleIdeal.main_v24) = v4 c
          ∧ r.2.mem ((c.tc : Thread Cert.ReferenceInSampleIdeal.nD Cert.ReferenceInSampleIdeal.τ).loc Cert.ReferenceInSampleIdeal.main_v33) = v5 c
          ∧ r.2.mem ((c.tc : Thread Cert.ReferenceInSampleIdeal.nD Cert.ReferenceInSampleIdeal.τ).loc Cert.ReferenceInSampleIdeal.main_v34) = v6 c
          ∧ r.2.mem ((c.tc : Thread Cert.ReferenceInSampleIdeal.nD Cert.ReferenceInSampleIdeal.τ).loc Cert.ReferenceInSampleIdeal.main_v14) = v7 c
          ∧ r.2.mem ((c.tc : Thread Cert.ReferenceInSampleIdeal.nD Cert.ReferenceInSampleIdeal.τ).loc Cert.ReferenceInSampleIdeal.main_v15) = v8 c
          ∧ r.2.mem ((c.tc : Thread Cert.ReferenceInSampleIdeal.nD Cert.ReferenceInSampleIdeal.τ).loc Cert.ReferenceInSampleIdeal.main_v16) = v9 c
          ∧ r.2.mem ((c.tc : Thread Cert.ReferenceInSampleIdeal.nD Cert.ReferenceInSampleIdeal.τ).loc Cert.ReferenceInSampleIdeal.main_v17) = v10 c
          ∧ r.2.mem ((c.tc : Thread Cert.ReferenceInSampleIdeal.nD Cert.ReferenceInSampleIdeal.τ).loc Cert.ReferenceInSampleIdeal.main_v20) = v11 c
          ∧ r.2.mem ((c.tc : Thread Cert.ReferenceInSampleIdeal.nD Cert.ReferenceInSampleIdeal.τ).loc Cert.ReferenceInSampleIdeal.main_v23) = v12 c
          ∧ r.2.mem ((c.tc : Thread Cert.ReferenceInSampleIdeal.nD Cert.ReferenceInSampleIdeal.τ).loc Cert.ReferenceInSampleIdeal.main_v25) = v13 c
          ∧ r.2.mem ((c.tc : Thread Cert.ReferenceInSampleIdeal.nD Cert.ReferenceInSampleIdeal.τ).loc Cert.ReferenceInSampleIdeal.main_v26) = v14 c
          ∧ r.2.mem ((c.tc : Thread Cert.ReferenceInSampleIdeal.nD Cert.ReferenceInSampleIdeal.τ).loc Cert.ReferenceInSampleIdeal.main_v27) = v15 c
          ∧ r.2.mem ((c.tc : Thread Cert.ReferenceInSampleIdeal.nD Cert.ReferenceInSampleIdeal.τ).loc Cert.ReferenceInSampleIdeal.main_arg0) = m' ((c.tc : Thread Cert.ReferenceInSampleIdeal.nD Cert.ReferenceInSampleIdeal.τ).loc Cert.ReferenceInSampleIdeal.main_arg0)
          ∧ r.2.mem ((c.tc : Thread Cert.ReferenceInSampleIdeal.nD Cert.ReferenceInSampleIdeal.τ).loc Cert.ReferenceInSampleIdeal.main_arg1) = m' ((c.tc : Thread Cert.ReferenceInSampleIdeal.nD Cert.ReferenceInSampleIdeal.τ).loc Cert.ReferenceInSampleIdeal.main_arg1)
          ∧ r.2.mem ((c.tc : Thread Cert.ReferenceInSampleIdeal.nD Cert.ReferenceInSampleIdeal.τ).loc Cert.ReferenceInSampleIdeal.main_arg2) = m' ((c.tc : Thread Cert.ReferenceInSampleIdeal.nD Cert.ReferenceInSampleIdeal.τ).loc Cert.ReferenceInSampleIdeal.main_arg2)
          ∧ r.2.mem ((c.tc : Thread Cert.ReferenceInSampleIdeal.nD Cert.ReferenceInSampleIdeal.τ).loc Cert.ReferenceInSampleIdeal.main_arg3) = m' ((c.tc : Thread Cert.ReferenceInSampleIdeal.nD Cert.ReferenceInSampleIdeal.τ).loc Cert.ReferenceInSampleIdeal.main_arg3))

def preserves_KernelUpSample_KernelUpSampleIdeal : Prop :=
  True

def algebraic_KernelUpSampleIdeal_ReferenceUpSampleIdeal [hKernelUpSampleIdeal : Cert.KernelUpSampleIdeal.Facts] [hReferenceUpSampleIdeal : Cert.ReferenceUpSampleIdeal.Facts] : Prop :=
  ∀ (m : (ℓ : Loc Cert.KernelUpSampleIdeal.nD Cert.KernelUpSampleIdeal.τ Cert.KernelUpSampleIdeal.sig) → Buf (Elt Ideal) ℓ) (g : Dev Cert.KernelUpSampleIdeal.nD → PrngReg)
    (m' : (ℓ : Loc Cert.ReferenceUpSampleIdeal.nD Cert.ReferenceUpSampleIdeal.τ Cert.ReferenceUpSampleIdeal.sig) → Buf (Elt Ideal) ℓ) (g' : Dev Cert.ReferenceUpSampleIdeal.nD → PrngReg), Pre_KernelUpSampleIdeal m →
    (∀ c : Dev Cert.KernelUpSampleIdeal.nD,
      m' ((c.tc : Thread Cert.ReferenceUpSampleIdeal.nD Cert.ReferenceUpSampleIdeal.τ).loc Cert.ReferenceUpSampleIdeal.main_arg0) = m ((c.tc : Thread Cert.KernelUpSampleIdeal.nD Cert.KernelUpSampleIdeal.τ).loc Cert.KernelUpSampleIdeal.main_arg0)
      ∧ m' ((c.tc : Thread Cert.ReferenceUpSampleIdeal.nD Cert.ReferenceUpSampleIdeal.τ).loc Cert.ReferenceUpSampleIdeal.main_arg1) = m ((c.tc : Thread Cert.KernelUpSampleIdeal.nD Cert.KernelUpSampleIdeal.τ).loc Cert.KernelUpSampleIdeal.main_arg1)
      ∧ m' ((c.tc : Thread Cert.ReferenceUpSampleIdeal.nD Cert.ReferenceUpSampleIdeal.τ).loc Cert.ReferenceUpSampleIdeal.main_arg2) = m ((c.tc : Thread Cert.KernelUpSampleIdeal.nD Cert.KernelUpSampleIdeal.τ).loc Cert.KernelUpSampleIdeal.main_arg2)
      ∧ m' ((c.tc : Thread Cert.ReferenceUpSampleIdeal.nD Cert.ReferenceUpSampleIdeal.τ).loc Cert.ReferenceUpSampleIdeal.main_arg3) = m ((c.tc : Thread Cert.KernelUpSampleIdeal.nD Cert.KernelUpSampleIdeal.τ).loc Cert.KernelUpSampleIdeal.main_arg3)) →
    ∃ (v0 : (c : Dev Cert.KernelUpSampleIdeal.nD) → Buf (Elt Ideal) ((c.tc : Thread Cert.KernelUpSampleIdeal.nD Cert.KernelUpSampleIdeal.τ).loc Cert.KernelUpSampleIdeal.main_v5)) (v1 : (c : Dev Cert.KernelUpSampleIdeal.nD) → Buf (Elt Ideal) ((c.tc : Thread Cert.KernelUpSampleIdeal.nD Cert.KernelUpSampleIdeal.τ).loc Cert.KernelUpSampleIdeal.main_v6)) (v2 : (c : Dev Cert.KernelUpSampleIdeal.nD) → Buf (Elt Ideal) ((c.tc : Thread Cert.KernelUpSampleIdeal.nD Cert.KernelUpSampleIdeal.τ).loc Cert.KernelUpSampleIdeal.main_v8)),
      θ_run (Cert.KernelUpSampleIdeal.defs (F := Ideal)) (onTc (τ := Cert.KernelUpSampleIdeal.τ) (Cert.KernelUpSampleIdeal.main (F := Ideal))) ⟨m, fun _ => 0, g⟩ (fun r => ∀ c : Dev Cert.KernelUpSampleIdeal.nD,
          r.2.mem ((c.tc : Thread Cert.KernelUpSampleIdeal.nD Cert.KernelUpSampleIdeal.τ).loc Cert.KernelUpSampleIdeal.main_v5) = v0 c
          ∧ r.2.mem ((c.tc : Thread Cert.KernelUpSampleIdeal.nD Cert.KernelUpSampleIdeal.τ).loc Cert.KernelUpSampleIdeal.main_v6) = v1 c
          ∧ r.2.mem ((c.tc : Thread Cert.KernelUpSampleIdeal.nD Cert.KernelUpSampleIdeal.τ).loc Cert.KernelUpSampleIdeal.main_v8) = v2 c
          ∧ r.2.mem ((c.tc : Thread Cert.KernelUpSampleIdeal.nD Cert.KernelUpSampleIdeal.τ).loc Cert.KernelUpSampleIdeal.main_arg0) = m ((c.tc : Thread Cert.KernelUpSampleIdeal.nD Cert.KernelUpSampleIdeal.τ).loc Cert.KernelUpSampleIdeal.main_arg0)
          ∧ r.2.mem ((c.tc : Thread Cert.KernelUpSampleIdeal.nD Cert.KernelUpSampleIdeal.τ).loc Cert.KernelUpSampleIdeal.main_arg1) = m ((c.tc : Thread Cert.KernelUpSampleIdeal.nD Cert.KernelUpSampleIdeal.τ).loc Cert.KernelUpSampleIdeal.main_arg1)
          ∧ r.2.mem ((c.tc : Thread Cert.KernelUpSampleIdeal.nD Cert.KernelUpSampleIdeal.τ).loc Cert.KernelUpSampleIdeal.main_arg2) = m ((c.tc : Thread Cert.KernelUpSampleIdeal.nD Cert.KernelUpSampleIdeal.τ).loc Cert.KernelUpSampleIdeal.main_arg2)
          ∧ r.2.mem ((c.tc : Thread Cert.KernelUpSampleIdeal.nD Cert.KernelUpSampleIdeal.τ).loc Cert.KernelUpSampleIdeal.main_arg3) = m ((c.tc : Thread Cert.KernelUpSampleIdeal.nD Cert.KernelUpSampleIdeal.τ).loc Cert.KernelUpSampleIdeal.main_arg3))
      ∧ θ_run (Cert.ReferenceUpSampleIdeal.defs (F := Ideal)) (onTc (τ := Cert.ReferenceUpSampleIdeal.τ) (Cert.ReferenceUpSampleIdeal.main (F := Ideal))) ⟨m', fun _ => 0, g'⟩ (fun r => ∀ c : Dev Cert.ReferenceUpSampleIdeal.nD,
          r.2.mem ((c.tc : Thread Cert.ReferenceUpSampleIdeal.nD Cert.ReferenceUpSampleIdeal.τ).loc Cert.ReferenceUpSampleIdeal.main_v14) = v0 c
          ∧ r.2.mem ((c.tc : Thread Cert.ReferenceUpSampleIdeal.nD Cert.ReferenceUpSampleIdeal.τ).loc Cert.ReferenceUpSampleIdeal.main_v15) = v1 c
          ∧ r.2.mem ((c.tc : Thread Cert.ReferenceUpSampleIdeal.nD Cert.ReferenceUpSampleIdeal.τ).loc Cert.ReferenceUpSampleIdeal.main_v17) = v2 c
          ∧ r.2.mem ((c.tc : Thread Cert.ReferenceUpSampleIdeal.nD Cert.ReferenceUpSampleIdeal.τ).loc Cert.ReferenceUpSampleIdeal.main_arg0) = m' ((c.tc : Thread Cert.ReferenceUpSampleIdeal.nD Cert.ReferenceUpSampleIdeal.τ).loc Cert.ReferenceUpSampleIdeal.main_arg0)
          ∧ r.2.mem ((c.tc : Thread Cert.ReferenceUpSampleIdeal.nD Cert.ReferenceUpSampleIdeal.τ).loc Cert.ReferenceUpSampleIdeal.main_arg1) = m' ((c.tc : Thread Cert.ReferenceUpSampleIdeal.nD Cert.ReferenceUpSampleIdeal.τ).loc Cert.ReferenceUpSampleIdeal.main_arg1)
          ∧ r.2.mem ((c.tc : Thread Cert.ReferenceUpSampleIdeal.nD Cert.ReferenceUpSampleIdeal.τ).loc Cert.ReferenceUpSampleIdeal.main_arg2) = m' ((c.tc : Thread Cert.ReferenceUpSampleIdeal.nD Cert.ReferenceUpSampleIdeal.τ).loc Cert.ReferenceUpSampleIdeal.main_arg2)
          ∧ r.2.mem ((c.tc : Thread Cert.ReferenceUpSampleIdeal.nD Cert.ReferenceUpSampleIdeal.τ).loc Cert.ReferenceUpSampleIdeal.main_arg3) = m' ((c.tc : Thread Cert.ReferenceUpSampleIdeal.nD Cert.ReferenceUpSampleIdeal.τ).loc Cert.ReferenceUpSampleIdeal.main_arg3))

def preserves_KernelRwkvStep_KernelRwkvStepIdeal : Prop :=
  True

def algebraic_KernelRwkvStepIdeal_ReferenceRwkvStepIdeal_pre_rwkv_finite [hKernelRwkvStepIdeal : Cert.KernelRwkvStepIdeal.Facts] [hReferenceRwkvStepIdeal : Cert.ReferenceRwkvStepIdeal.Facts] [hPre_rwkv_finite : Cert.Pre_rwkv_finite.Facts] : Prop :=
  ∀ (m : (ℓ : Loc Cert.KernelRwkvStepIdeal.nD Cert.KernelRwkvStepIdeal.τ Cert.KernelRwkvStepIdeal.sig) → Buf (Elt Ideal) ℓ) (g : Dev Cert.KernelRwkvStepIdeal.nD → PrngReg)
    (m' : (ℓ : Loc Cert.ReferenceRwkvStepIdeal.nD Cert.ReferenceRwkvStepIdeal.τ Cert.ReferenceRwkvStepIdeal.sig) → Buf (Elt Ideal) ℓ) (g' : Dev Cert.ReferenceRwkvStepIdeal.nD → PrngReg), Pre_KernelRwkvStepIdeal_rwkv_finite m →
    (∀ c : Dev Cert.KernelRwkvStepIdeal.nD,
      m' ((c.tc : Thread Cert.ReferenceRwkvStepIdeal.nD Cert.ReferenceRwkvStepIdeal.τ).loc Cert.ReferenceRwkvStepIdeal.main_arg0) = m ((c.tc : Thread Cert.KernelRwkvStepIdeal.nD Cert.KernelRwkvStepIdeal.τ).loc Cert.KernelRwkvStepIdeal.main_arg0)
      ∧ m' ((c.tc : Thread Cert.ReferenceRwkvStepIdeal.nD Cert.ReferenceRwkvStepIdeal.τ).loc Cert.ReferenceRwkvStepIdeal.main_arg1) = m ((c.tc : Thread Cert.KernelRwkvStepIdeal.nD Cert.KernelRwkvStepIdeal.τ).loc Cert.KernelRwkvStepIdeal.main_arg1)
      ∧ m' ((c.tc : Thread Cert.ReferenceRwkvStepIdeal.nD Cert.ReferenceRwkvStepIdeal.τ).loc Cert.ReferenceRwkvStepIdeal.main_arg2) = m ((c.tc : Thread Cert.KernelRwkvStepIdeal.nD Cert.KernelRwkvStepIdeal.τ).loc Cert.KernelRwkvStepIdeal.main_arg2)
      ∧ m' ((c.tc : Thread Cert.ReferenceRwkvStepIdeal.nD Cert.ReferenceRwkvStepIdeal.τ).loc Cert.ReferenceRwkvStepIdeal.main_arg3) = m ((c.tc : Thread Cert.KernelRwkvStepIdeal.nD Cert.KernelRwkvStepIdeal.τ).loc Cert.KernelRwkvStepIdeal.main_arg3)
      ∧ m' ((c.tc : Thread Cert.ReferenceRwkvStepIdeal.nD Cert.ReferenceRwkvStepIdeal.τ).loc Cert.ReferenceRwkvStepIdeal.main_arg4) = m ((c.tc : Thread Cert.KernelRwkvStepIdeal.nD Cert.KernelRwkvStepIdeal.τ).loc Cert.KernelRwkvStepIdeal.main_arg4)
      ∧ m' ((c.tc : Thread Cert.ReferenceRwkvStepIdeal.nD Cert.ReferenceRwkvStepIdeal.τ).loc Cert.ReferenceRwkvStepIdeal.main_arg5) = m ((c.tc : Thread Cert.KernelRwkvStepIdeal.nD Cert.KernelRwkvStepIdeal.τ).loc Cert.KernelRwkvStepIdeal.main_arg5)
      ∧ m' ((c.tc : Thread Cert.ReferenceRwkvStepIdeal.nD Cert.ReferenceRwkvStepIdeal.τ).loc Cert.ReferenceRwkvStepIdeal.main_arg6) = m ((c.tc : Thread Cert.KernelRwkvStepIdeal.nD Cert.KernelRwkvStepIdeal.τ).loc Cert.KernelRwkvStepIdeal.main_arg6)) →
    ∃ (v0 : (c : Dev Cert.KernelRwkvStepIdeal.nD) → Buf (Elt Ideal) ((c.tc : Thread Cert.KernelRwkvStepIdeal.nD Cert.KernelRwkvStepIdeal.τ).loc Cert.KernelRwkvStepIdeal.main_v16)) (v1 : (c : Dev Cert.KernelRwkvStepIdeal.nD) → Buf (Elt Ideal) ((c.tc : Thread Cert.KernelRwkvStepIdeal.nD Cert.KernelRwkvStepIdeal.τ).loc Cert.KernelRwkvStepIdeal.main_v14_0)),
      θ_run (Cert.KernelRwkvStepIdeal.defs (F := Ideal)) (onTc (τ := Cert.KernelRwkvStepIdeal.τ) (Cert.KernelRwkvStepIdeal.main (F := Ideal))) ⟨m, fun _ => 0, g⟩ (fun r => ∀ c : Dev Cert.KernelRwkvStepIdeal.nD,
          r.2.mem ((c.tc : Thread Cert.KernelRwkvStepIdeal.nD Cert.KernelRwkvStepIdeal.τ).loc Cert.KernelRwkvStepIdeal.main_v16) = v0 c
          ∧ r.2.mem ((c.tc : Thread Cert.KernelRwkvStepIdeal.nD Cert.KernelRwkvStepIdeal.τ).loc Cert.KernelRwkvStepIdeal.main_v14_0) = v1 c
          ∧ r.2.mem ((c.tc : Thread Cert.KernelRwkvStepIdeal.nD Cert.KernelRwkvStepIdeal.τ).loc Cert.KernelRwkvStepIdeal.main_arg0) = m ((c.tc : Thread Cert.KernelRwkvStepIdeal.nD Cert.KernelRwkvStepIdeal.τ).loc Cert.KernelRwkvStepIdeal.main_arg0)
          ∧ r.2.mem ((c.tc : Thread Cert.KernelRwkvStepIdeal.nD Cert.KernelRwkvStepIdeal.τ).loc Cert.KernelRwkvStepIdeal.main_arg1) = m ((c.tc : Thread Cert.KernelRwkvStepIdeal.nD Cert.KernelRwkvStepIdeal.τ).loc Cert.KernelRwkvStepIdeal.main_arg1)
          ∧ r.2.mem ((c.tc : Thread Cert.KernelRwkvStepIdeal.nD Cert.KernelRwkvStepIdeal.τ).loc Cert.KernelRwkvStepIdeal.main_arg2) = m ((c.tc : Thread Cert.KernelRwkvStepIdeal.nD Cert.KernelRwkvStepIdeal.τ).loc Cert.KernelRwkvStepIdeal.main_arg2)
          ∧ r.2.mem ((c.tc : Thread Cert.KernelRwkvStepIdeal.nD Cert.KernelRwkvStepIdeal.τ).loc Cert.KernelRwkvStepIdeal.main_arg3) = m ((c.tc : Thread Cert.KernelRwkvStepIdeal.nD Cert.KernelRwkvStepIdeal.τ).loc Cert.KernelRwkvStepIdeal.main_arg3)
          ∧ r.2.mem ((c.tc : Thread Cert.KernelRwkvStepIdeal.nD Cert.KernelRwkvStepIdeal.τ).loc Cert.KernelRwkvStepIdeal.main_arg4) = m ((c.tc : Thread Cert.KernelRwkvStepIdeal.nD Cert.KernelRwkvStepIdeal.τ).loc Cert.KernelRwkvStepIdeal.main_arg4)
          ∧ r.2.mem ((c.tc : Thread Cert.KernelRwkvStepIdeal.nD Cert.KernelRwkvStepIdeal.τ).loc Cert.KernelRwkvStepIdeal.main_arg5) = m ((c.tc : Thread Cert.KernelRwkvStepIdeal.nD Cert.KernelRwkvStepIdeal.τ).loc Cert.KernelRwkvStepIdeal.main_arg5)
          ∧ r.2.mem ((c.tc : Thread Cert.KernelRwkvStepIdeal.nD Cert.KernelRwkvStepIdeal.τ).loc Cert.KernelRwkvStepIdeal.main_arg6) = m ((c.tc : Thread Cert.KernelRwkvStepIdeal.nD Cert.KernelRwkvStepIdeal.τ).loc Cert.KernelRwkvStepIdeal.main_arg6))
      ∧ θ_run (Cert.ReferenceRwkvStepIdeal.defs (F := Ideal)) (onTc (τ := Cert.ReferenceRwkvStepIdeal.τ) (Cert.ReferenceRwkvStepIdeal.main (F := Ideal))) ⟨m', fun _ => 0, g'⟩ (fun r => ∀ c : Dev Cert.ReferenceRwkvStepIdeal.nD,
          r.2.mem ((c.tc : Thread Cert.ReferenceRwkvStepIdeal.nD Cert.ReferenceRwkvStepIdeal.τ).loc Cert.ReferenceRwkvStepIdeal.main_v31) = v0 c
          ∧ r.2.mem ((c.tc : Thread Cert.ReferenceRwkvStepIdeal.nD Cert.ReferenceRwkvStepIdeal.τ).loc Cert.ReferenceRwkvStepIdeal.main_v29) = v1 c
          ∧ r.2.mem ((c.tc : Thread Cert.ReferenceRwkvStepIdeal.nD Cert.ReferenceRwkvStepIdeal.τ).loc Cert.ReferenceRwkvStepIdeal.main_arg0) = m' ((c.tc : Thread Cert.ReferenceRwkvStepIdeal.nD Cert.ReferenceRwkvStepIdeal.τ).loc Cert.ReferenceRwkvStepIdeal.main_arg0)
          ∧ r.2.mem ((c.tc : Thread Cert.ReferenceRwkvStepIdeal.nD Cert.ReferenceRwkvStepIdeal.τ).loc Cert.ReferenceRwkvStepIdeal.main_arg1) = m' ((c.tc : Thread Cert.ReferenceRwkvStepIdeal.nD Cert.ReferenceRwkvStepIdeal.τ).loc Cert.ReferenceRwkvStepIdeal.main_arg1)
          ∧ r.2.mem ((c.tc : Thread Cert.ReferenceRwkvStepIdeal.nD Cert.ReferenceRwkvStepIdeal.τ).loc Cert.ReferenceRwkvStepIdeal.main_arg2) = m' ((c.tc : Thread Cert.ReferenceRwkvStepIdeal.nD Cert.ReferenceRwkvStepIdeal.τ).loc Cert.ReferenceRwkvStepIdeal.main_arg2)
          ∧ r.2.mem ((c.tc : Thread Cert.ReferenceRwkvStepIdeal.nD Cert.ReferenceRwkvStepIdeal.τ).loc Cert.ReferenceRwkvStepIdeal.main_arg3) = m' ((c.tc : Thread Cert.ReferenceRwkvStepIdeal.nD Cert.ReferenceRwkvStepIdeal.τ).loc Cert.ReferenceRwkvStepIdeal.main_arg3)
          ∧ r.2.mem ((c.tc : Thread Cert.ReferenceRwkvStepIdeal.nD Cert.ReferenceRwkvStepIdeal.τ).loc Cert.ReferenceRwkvStepIdeal.main_arg4) = m' ((c.tc : Thread Cert.ReferenceRwkvStepIdeal.nD Cert.ReferenceRwkvStepIdeal.τ).loc Cert.ReferenceRwkvStepIdeal.main_arg4)
          ∧ r.2.mem ((c.tc : Thread Cert.ReferenceRwkvStepIdeal.nD Cert.ReferenceRwkvStepIdeal.τ).loc Cert.ReferenceRwkvStepIdeal.main_arg5) = m' ((c.tc : Thread Cert.ReferenceRwkvStepIdeal.nD Cert.ReferenceRwkvStepIdeal.τ).loc Cert.ReferenceRwkvStepIdeal.main_arg5)
          ∧ r.2.mem ((c.tc : Thread Cert.ReferenceRwkvStepIdeal.nD Cert.ReferenceRwkvStepIdeal.τ).loc Cert.ReferenceRwkvStepIdeal.main_arg6) = m' ((c.tc : Thread Cert.ReferenceRwkvStepIdeal.nD Cert.ReferenceRwkvStepIdeal.τ).loc Cert.ReferenceRwkvStepIdeal.main_arg6))

def preserves_KernelSsdStep_KernelSsdStepIdeal : Prop :=
  True

def algebraic_KernelSsdStepIdeal_ReferenceSsdStepIdeal_pre_ssd_finite [hKernelSsdStepIdeal : Cert.KernelSsdStepIdeal.Facts] [hReferenceSsdStepIdeal : Cert.ReferenceSsdStepIdeal.Facts] [hPre_ssd_finite : Cert.Pre_ssd_finite.Facts] : Prop :=
  ∀ (m : (ℓ : Loc Cert.KernelSsdStepIdeal.nD Cert.KernelSsdStepIdeal.τ Cert.KernelSsdStepIdeal.sig) → Buf (Elt Ideal) ℓ) (g : Dev Cert.KernelSsdStepIdeal.nD → PrngReg)
    (m' : (ℓ : Loc Cert.ReferenceSsdStepIdeal.nD Cert.ReferenceSsdStepIdeal.τ Cert.ReferenceSsdStepIdeal.sig) → Buf (Elt Ideal) ℓ) (g' : Dev Cert.ReferenceSsdStepIdeal.nD → PrngReg), Pre_KernelSsdStepIdeal_ssd_finite m →
    (∀ c : Dev Cert.KernelSsdStepIdeal.nD,
      m' ((c.tc : Thread Cert.ReferenceSsdStepIdeal.nD Cert.ReferenceSsdStepIdeal.τ).loc Cert.ReferenceSsdStepIdeal.main_arg0) = m ((c.tc : Thread Cert.KernelSsdStepIdeal.nD Cert.KernelSsdStepIdeal.τ).loc Cert.KernelSsdStepIdeal.main_arg0)
      ∧ m' ((c.tc : Thread Cert.ReferenceSsdStepIdeal.nD Cert.ReferenceSsdStepIdeal.τ).loc Cert.ReferenceSsdStepIdeal.main_arg1) = m ((c.tc : Thread Cert.KernelSsdStepIdeal.nD Cert.KernelSsdStepIdeal.τ).loc Cert.KernelSsdStepIdeal.main_arg1)
      ∧ m' ((c.tc : Thread Cert.ReferenceSsdStepIdeal.nD Cert.ReferenceSsdStepIdeal.τ).loc Cert.ReferenceSsdStepIdeal.main_arg2) = m ((c.tc : Thread Cert.KernelSsdStepIdeal.nD Cert.KernelSsdStepIdeal.τ).loc Cert.KernelSsdStepIdeal.main_arg2)
      ∧ m' ((c.tc : Thread Cert.ReferenceSsdStepIdeal.nD Cert.ReferenceSsdStepIdeal.τ).loc Cert.ReferenceSsdStepIdeal.main_arg3) = m ((c.tc : Thread Cert.KernelSsdStepIdeal.nD Cert.KernelSsdStepIdeal.τ).loc Cert.KernelSsdStepIdeal.main_arg3)
      ∧ m' ((c.tc : Thread Cert.ReferenceSsdStepIdeal.nD Cert.ReferenceSsdStepIdeal.τ).loc Cert.ReferenceSsdStepIdeal.main_arg4) = m ((c.tc : Thread Cert.KernelSsdStepIdeal.nD Cert.KernelSsdStepIdeal.τ).loc Cert.KernelSsdStepIdeal.main_arg4)
      ∧ m' ((c.tc : Thread Cert.ReferenceSsdStepIdeal.nD Cert.ReferenceSsdStepIdeal.τ).loc Cert.ReferenceSsdStepIdeal.main_arg5) = m ((c.tc : Thread Cert.KernelSsdStepIdeal.nD Cert.KernelSsdStepIdeal.τ).loc Cert.KernelSsdStepIdeal.main_arg5)) →
    ∃ (v0 : (c : Dev Cert.KernelSsdStepIdeal.nD) → Buf (Elt Ideal) ((c.tc : Thread Cert.KernelSsdStepIdeal.nD Cert.KernelSsdStepIdeal.τ).loc Cert.KernelSsdStepIdeal.main_v23)) (v1 : (c : Dev Cert.KernelSsdStepIdeal.nD) → Buf (Elt Ideal) ((c.tc : Thread Cert.KernelSsdStepIdeal.nD Cert.KernelSsdStepIdeal.τ).loc Cert.KernelSsdStepIdeal.main_v21_0)),
      θ_run (Cert.KernelSsdStepIdeal.defs (F := Ideal)) (onTc (τ := Cert.KernelSsdStepIdeal.τ) (Cert.KernelSsdStepIdeal.main (F := Ideal))) ⟨m, fun _ => 0, g⟩ (fun r => ∀ c : Dev Cert.KernelSsdStepIdeal.nD,
          r.2.mem ((c.tc : Thread Cert.KernelSsdStepIdeal.nD Cert.KernelSsdStepIdeal.τ).loc Cert.KernelSsdStepIdeal.main_v23) = v0 c
          ∧ r.2.mem ((c.tc : Thread Cert.KernelSsdStepIdeal.nD Cert.KernelSsdStepIdeal.τ).loc Cert.KernelSsdStepIdeal.main_v21_0) = v1 c
          ∧ r.2.mem ((c.tc : Thread Cert.KernelSsdStepIdeal.nD Cert.KernelSsdStepIdeal.τ).loc Cert.KernelSsdStepIdeal.main_arg0) = m ((c.tc : Thread Cert.KernelSsdStepIdeal.nD Cert.KernelSsdStepIdeal.τ).loc Cert.KernelSsdStepIdeal.main_arg0)
          ∧ r.2.mem ((c.tc : Thread Cert.KernelSsdStepIdeal.nD Cert.KernelSsdStepIdeal.τ).loc Cert.KernelSsdStepIdeal.main_arg1) = m ((c.tc : Thread Cert.KernelSsdStepIdeal.nD Cert.KernelSsdStepIdeal.τ).loc Cert.KernelSsdStepIdeal.main_arg1)
          ∧ r.2.mem ((c.tc : Thread Cert.KernelSsdStepIdeal.nD Cert.KernelSsdStepIdeal.τ).loc Cert.KernelSsdStepIdeal.main_arg2) = m ((c.tc : Thread Cert.KernelSsdStepIdeal.nD Cert.KernelSsdStepIdeal.τ).loc Cert.KernelSsdStepIdeal.main_arg2)
          ∧ r.2.mem ((c.tc : Thread Cert.KernelSsdStepIdeal.nD Cert.KernelSsdStepIdeal.τ).loc Cert.KernelSsdStepIdeal.main_arg3) = m ((c.tc : Thread Cert.KernelSsdStepIdeal.nD Cert.KernelSsdStepIdeal.τ).loc Cert.KernelSsdStepIdeal.main_arg3)
          ∧ r.2.mem ((c.tc : Thread Cert.KernelSsdStepIdeal.nD Cert.KernelSsdStepIdeal.τ).loc Cert.KernelSsdStepIdeal.main_arg4) = m ((c.tc : Thread Cert.KernelSsdStepIdeal.nD Cert.KernelSsdStepIdeal.τ).loc Cert.KernelSsdStepIdeal.main_arg4)
          ∧ r.2.mem ((c.tc : Thread Cert.KernelSsdStepIdeal.nD Cert.KernelSsdStepIdeal.τ).loc Cert.KernelSsdStepIdeal.main_arg5) = m ((c.tc : Thread Cert.KernelSsdStepIdeal.nD Cert.KernelSsdStepIdeal.τ).loc Cert.KernelSsdStepIdeal.main_arg5))
      ∧ θ_run (Cert.ReferenceSsdStepIdeal.defs (F := Ideal)) (onTc (τ := Cert.ReferenceSsdStepIdeal.τ) (Cert.ReferenceSsdStepIdeal.main (F := Ideal))) ⟨m', fun _ => 0, g'⟩ (fun r => ∀ c : Dev Cert.ReferenceSsdStepIdeal.nD,
          r.2.mem ((c.tc : Thread Cert.ReferenceSsdStepIdeal.nD Cert.ReferenceSsdStepIdeal.τ).loc Cert.ReferenceSsdStepIdeal.main_v63) = v0 c
          ∧ r.2.mem ((c.tc : Thread Cert.ReferenceSsdStepIdeal.nD Cert.ReferenceSsdStepIdeal.τ).loc Cert.ReferenceSsdStepIdeal.main_v65) = v1 c
          ∧ r.2.mem ((c.tc : Thread Cert.ReferenceSsdStepIdeal.nD Cert.ReferenceSsdStepIdeal.τ).loc Cert.ReferenceSsdStepIdeal.main_arg0) = m' ((c.tc : Thread Cert.ReferenceSsdStepIdeal.nD Cert.ReferenceSsdStepIdeal.τ).loc Cert.ReferenceSsdStepIdeal.main_arg0)
          ∧ r.2.mem ((c.tc : Thread Cert.ReferenceSsdStepIdeal.nD Cert.ReferenceSsdStepIdeal.τ).loc Cert.ReferenceSsdStepIdeal.main_arg1) = m' ((c.tc : Thread Cert.ReferenceSsdStepIdeal.nD Cert.ReferenceSsdStepIdeal.τ).loc Cert.ReferenceSsdStepIdeal.main_arg1)
          ∧ r.2.mem ((c.tc : Thread Cert.ReferenceSsdStepIdeal.nD Cert.ReferenceSsdStepIdeal.τ).loc Cert.ReferenceSsdStepIdeal.main_arg2) = m' ((c.tc : Thread Cert.ReferenceSsdStepIdeal.nD Cert.ReferenceSsdStepIdeal.τ).loc Cert.ReferenceSsdStepIdeal.main_arg2)
          ∧ r.2.mem ((c.tc : Thread Cert.ReferenceSsdStepIdeal.nD Cert.ReferenceSsdStepIdeal.τ).loc Cert.ReferenceSsdStepIdeal.main_arg3) = m' ((c.tc : Thread Cert.ReferenceSsdStepIdeal.nD Cert.ReferenceSsdStepIdeal.τ).loc Cert.ReferenceSsdStepIdeal.main_arg3)
          ∧ r.2.mem ((c.tc : Thread Cert.ReferenceSsdStepIdeal.nD Cert.ReferenceSsdStepIdeal.τ).loc Cert.ReferenceSsdStepIdeal.main_arg4) = m' ((c.tc : Thread Cert.ReferenceSsdStepIdeal.nD Cert.ReferenceSsdStepIdeal.τ).loc Cert.ReferenceSsdStepIdeal.main_arg4)
          ∧ r.2.mem ((c.tc : Thread Cert.ReferenceSsdStepIdeal.nD Cert.ReferenceSsdStepIdeal.τ).loc Cert.ReferenceSsdStepIdeal.main_arg5) = m' ((c.tc : Thread Cert.ReferenceSsdStepIdeal.nD Cert.ReferenceSsdStepIdeal.τ).loc Cert.ReferenceSsdStepIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMerge : Cert.KernelMerge.Facts) (hKernelMergeIdeal : Cert.KernelMergeIdeal.Facts) (hReferenceMergeIdeal : Cert.ReferenceMergeIdeal.Facts) (hKernelInSample : Cert.KernelInSample.Facts) (hKernelInSampleIdeal : Cert.KernelInSampleIdeal.Facts) (hReferenceInSampleIdeal : Cert.ReferenceInSampleIdeal.Facts) (hKernelUpSample : Cert.KernelUpSample.Facts) (hKernelUpSampleIdeal : Cert.KernelUpSampleIdeal.Facts) (hReferenceUpSampleIdeal : Cert.ReferenceUpSampleIdeal.Facts) (hKernelRwkvStep : Cert.KernelRwkvStep.Facts) (hKernelRwkvStepIdeal : Cert.KernelRwkvStepIdeal.Facts) (hReferenceRwkvStepIdeal : Cert.ReferenceRwkvStepIdeal.Facts) (hKernelSsdStep : Cert.KernelSsdStep.Facts) (hKernelSsdStepIdeal : Cert.KernelSsdStepIdeal.Facts) (hReferenceSsdStepIdeal : Cert.ReferenceSsdStepIdeal.Facts) (hPre_all_finite : Cert.Pre_all_finite.Facts) (hPre_rwkv_finite : Cert.Pre_rwkv_finite.Facts) (hPre_ssd_finite : Cert.Pre_ssd_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelInSample (hKernelInSample := hKernelInSample)
    ∧ quiescent_KernelInSampleIdeal (hKernelInSampleIdeal := hKernelInSampleIdeal)
    ∧ quiescent_ReferenceInSampleIdeal (hReferenceInSampleIdeal := hReferenceInSampleIdeal)
    ∧ quiescent_KernelUpSample (hKernelUpSample := hKernelUpSample)
    ∧ quiescent_KernelUpSampleIdeal (hKernelUpSampleIdeal := hKernelUpSampleIdeal)
    ∧ quiescent_ReferenceUpSampleIdeal (hReferenceUpSampleIdeal := hReferenceUpSampleIdeal)
    ∧ quiescent_KernelRwkvStep (hKernelRwkvStep := hKernelRwkvStep)
    ∧ quiescent_KernelRwkvStepIdeal (hKernelRwkvStepIdeal := hKernelRwkvStepIdeal)
    ∧ quiescent_KernelRwkvStepIdeal_pre_rwkv_finite (hKernelRwkvStepIdeal := hKernelRwkvStepIdeal) (hPre_rwkv_finite := hPre_rwkv_finite)
    ∧ quiescent_ReferenceRwkvStepIdeal (hReferenceRwkvStepIdeal := hReferenceRwkvStepIdeal)
    ∧ quiescent_ReferenceRwkvStepIdeal_pre_rwkv_finite (hReferenceRwkvStepIdeal := hReferenceRwkvStepIdeal) (hPre_rwkv_finite := hPre_rwkv_finite)
    ∧ quiescent_KernelSsdStep (hKernelSsdStep := hKernelSsdStep)
    ∧ quiescent_KernelSsdStepIdeal (hKernelSsdStepIdeal := hKernelSsdStepIdeal)
    ∧ quiescent_KernelSsdStepIdeal_pre_ssd_finite (hKernelSsdStepIdeal := hKernelSsdStepIdeal) (hPre_ssd_finite := hPre_ssd_finite)
    ∧ quiescent_ReferenceSsdStepIdeal (hReferenceSsdStepIdeal := hReferenceSsdStepIdeal)
    ∧ quiescent_ReferenceSsdStepIdeal_pre_ssd_finite (hReferenceSsdStepIdeal := hReferenceSsdStepIdeal) (hPre_ssd_finite := hPre_ssd_finite)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_KernelIn_KernelInIdeal
    ∧ algebraic_KernelInIdeal_ReferenceInIdeal (hKernelInIdeal := hKernelInIdeal) (hReferenceInIdeal := hReferenceInIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelInSample_KernelInSampleIdeal
    ∧ algebraic_KernelInSampleIdeal_ReferenceInSampleIdeal (hKernelInSampleIdeal := hKernelInSampleIdeal) (hReferenceInSampleIdeal := hReferenceInSampleIdeal)
    ∧ preserves_KernelUpSample_KernelUpSampleIdeal
    ∧ algebraic_KernelUpSampleIdeal_ReferenceUpSampleIdeal (hKernelUpSampleIdeal := hKernelUpSampleIdeal) (hReferenceUpSampleIdeal := hReferenceUpSampleIdeal)
    ∧ preserves_KernelRwkvStep_KernelRwkvStepIdeal
    ∧ algebraic_KernelRwkvStepIdeal_ReferenceRwkvStepIdeal_pre_rwkv_finite (hKernelRwkvStepIdeal := hKernelRwkvStepIdeal) (hReferenceRwkvStepIdeal := hReferenceRwkvStepIdeal) (hPre_rwkv_finite := hPre_rwkv_finite)
    ∧ preserves_KernelSsdStep_KernelSsdStepIdeal
    ∧ algebraic_KernelSsdStepIdeal_ReferenceSsdStepIdeal_pre_ssd_finite (hKernelSsdStepIdeal := hKernelSsdStepIdeal) (hReferenceSsdStepIdeal := hReferenceSsdStepIdeal) (hPre_ssd_finite := hPre_ssd_finite)
-- ==== Pre_all_finite.lean ====
abbrev S2x8192x256 : Shape := ⟨3, ![2, 8192, 256]⟩
abbrev S2x4x64x64 : Shape := ⟨4, ![2, 4, 64, 64]⟩
abbrev S_ : Shape := ⟨0, ![]⟩
abbrev S1 : Shape := ⟨1, ![1]⟩

class Facts : Prop where
  bcast_S_S2x8192x256 : S_.BroadcastsInDim S2x8192x256 (![] : Fin 0 → Fin S2x8192x256.rank)
  reducesTo_S2x8192x256_S_d0_1_2 : S2x8192x256.ReducesTo [0, 1, 2] S_
  h_S_ : 0 < S_.numel
  bcast_S_S2x4x64x64 : S_.BroadcastsInDim S2x4x64x64 (![] : Fin 0 → Fin S2x4x64x64.rank)
  reducesTo_S2x4x64x64_S_d0_1_2_3 : S2x4x64x64.ReducesTo [0, 1, 2, 3] S_
  shapeCasts_S_S1 : S_.ShapeCasts S1

variable [Facts]

def fn_part2 {F : FTy → Type} [FloatOps F] (main_v33 : IVec S_ 1) : IVec S1 1 :=
  let main_v34 : IVec S1 1 := shapeCast S1 main_v33 shapeCasts_S_S1
  main_v34

def fn_part1 {F : FTy → Type} [FloatOps F] (main_arg4 : FVec F S2x8192x256 .f32) (main_arg5 : FVec F S2x8192x256 .f32) (main_arg6 : FVec F S2x4x64x64 .f32) (main_v13 : IVec S_ 1) (main_v16 : IVec S2x8192x256 1) : IVec S1 1 :=
  let main_c_5 : IVec S_ 1 := constantI S_ 1 1#1
  let main_v17 : IVec S_ 1 := (fun x v => Host.reduce IntOp.andi x v reducesTo_S2x8192x256_S_d0_1_2 h_S_) main_v16 main_c_5
  let main_v18 : IVec S_ 1 := andi main_v13 main_v17
  let main_v19 : FVec F S2x8192x256 .f32 := Host.absf main_arg4
  let main_cst_6 : FVec F S_ .f32 := constant S_ .f32 0x7F800000#32
  let main_v20 : FVec F S2x8192x256 .f32 := broadcastInDim S2x8192x256 ![] bcast_S_S2x8192x256 main_cst_6
  let main_v21 : IVec S2x8192x256 1 := cmpf .olt main_v19 main_v20
  let main_c_7 : IVec S_ 1 := constantI S_ 1 1#1
  let main_v22 : IVec S_ 1 := (fun x v => Host.reduce IntOp.andi x v reducesTo_S2x8192x256_S_d0_1_2 h_S_) main_v21 main_c_7
  let main_v23 : IVec S_ 1 := andi main_v18 main_v22
  let main_v24 : FVec F S2x8192x256 .f32 := Host.absf main_arg5
  let main_cst_8 : FVec F S_ .f32 := constant S_ .f32 0x7F800000#32
  let main_v25 : FVec F S2x8192x256 .f32 := broadcastInDim S2x8192x256 ![] bcast_S_S2x8192x256 main_cst_8
  let main_v26 : IVec S2x8192x256 1 := cmpf .olt main_v24 main_v25
  let main_c_9 : IVec S_ 1 := constantI S_ 1 1#1
  let main_v27 : IVec S_ 1 := (fun x v => Host.reduce IntOp.andi x v reducesTo_S2x8192x256_S_d0_1_2 h_S_) main_v26 main_c_9
  let main_v28 : IVec S_ 1 := andi main_v23 main_v27
  let main_v29 : FVec F S2x4x64x64 .f32 := Host.absf main_arg6
  let main_cst_10 : FVec F S_ .f32 := constant S_ .f32 0x7F800000#32
  let main_v30 : FVec F S2x4x64x64 .f32 := broadcastInDim S2x4x64x64 ![] bcast_S_S2x4x64x64 main_cst_10
  let main_v31 : IVec S2x4x64x64 1 := cmpf .olt main_v29 main_v30
  let main_c_11 : IVec S_ 1 := constantI S_ 1 1#1
  let main_v32 : IVec S_ 1 := (fun x v => Host.reduce IntOp.andi x v reducesTo_S2x4x64x64_S_d0_1_2_3 h_S_) main_v31 main_c_11
  let main_v33 : IVec S_ 1 := andi main_v28 main_v32
  fn_part2 (F := F) main_v33

def fn {F : FTy → Type} [FloatOps F] (main_arg0 : FVec F S2x8192x256 .f32) (main_arg1 : FVec F S2x8192x256 .f32) (main_arg2 : FVec F S2x8192x256 .f32) (main_arg3 : FVec F S2x8192x256 .f32) (main_arg4 : FVec F S2x8192x256 .f32) (main_arg5 : FVec F S2x8192x256 .f32) (main_arg6 : FVec F S2x4x64x64 .f32) : IVec S1 1 :=
  let main_v0 : FVec F S2x8192x256 .f32 := Host.absf main_arg0
  let main_cst : FVec F S_ .f32 := constant S_ .f32 0x7F800000#32
  let main_v1 : FVec F S2x8192x256 .f32 := broadcastInDim S2x8192x256 ![] bcast_S_S2x8192x256 main_cst
  let main_v2 : IVec S2x8192x256 1 := cmpf .olt main_v0 main_v1
  let main_c : IVec S_ 1 := constantI S_ 1 1#1
  let main_v3 : IVec S_ 1 := (fun x v => Host.reduce IntOp.andi x v reducesTo_S2x8192x256_S_d0_1_2 h_S_) main_v2 main_c
  let main_v4 : FVec F S2x8192x256 .f32 := Host.absf main_arg1
  let main_cst_0 : FVec F S_ .f32 := constant S_ .f32 0x7F800000#32
  let main_v5 : FVec F S2x8192x256 .f32 := broadcastInDim S2x8192x256 ![] bcast_S_S2x8192x256 main_cst_0
  let main_v6 : IVec S2x8192x256 1 := cmpf .olt main_v4 main_v5
  let main_c_1 : IVec S_ 1 := constantI S_ 1 1#1
  let main_v7 : IVec S_ 1 := (fun x v => Host.reduce IntOp.andi x v reducesTo_S2x8192x256_S_d0_1_2 h_S_) main_v6 main_c_1
  let main_v8 : IVec S_ 1 := andi main_v3 main_v7
  let main_v9 : FVec F S2x8192x256 .f32 := Host.absf main_arg2
  let main_cst_2 : FVec F S_ .f32 := constant S_ .f32 0x7F800000#32
  let main_v10 : FVec F S2x8192x256 .f32 := broadcastInDim S2x8192x256 ![] bcast_S_S2x8192x256 main_cst_2
  let main_v11 : IVec S2x8192x256 1 := cmpf .olt main_v9 main_v10
  let main_c_3 : IVec S_ 1 := constantI S_ 1 1#1
  let main_v12 : IVec S_ 1 := (fun x v => Host.reduce IntOp.andi x v reducesTo_S2x8192x256_S_d0_1_2 h_S_) main_v11 main_c_3
  let main_v13 : IVec S_ 1 := andi main_v8 main_v12
  let main_v14 : FVec F S2x8192x256 .f32 := Host.absf main_arg3
  let main_cst_4 : FVec F S_ .f32 := constant S_ .f32 0x7F800000#32
  let main_v15 : FVec F S2x8192x256 .f32 := broadcastInDim S2x8192x256 ![] bcast_S_S2x8192x256 main_cst_4
  let main_v16 : IVec S2x8192x256 1 := cmpf .olt main_v14 main_v15
  fn_part1 (F := F) main_arg4 main_arg5 main_arg6 main_v13 main_v16
-- ==== Pre_rwkv_finite.lean ====
abbrev S128x1x256 : Shape := ⟨3, ![128, 1, 256]⟩
abbrev S128x4x64x64 : Shape := ⟨4, ![128, 4, 64, 64]⟩
abbrev S_ : Shape := ⟨0, ![]⟩
abbrev S1 : Shape := ⟨1, ![1]⟩

class Facts : Prop where
  bcast_S_S128x1x256 : S_.BroadcastsInDim S128x1x256 (![] : Fin 0 → Fin S128x1x256.rank)
  reducesTo_S128x1x256_S_d0_1_2 : S128x1x256.ReducesTo [0, 1, 2] S_
  h_S_ : 0 < S_.numel
  bcast_S_S128x4x64x64 : S_.BroadcastsInDim S128x4x64x64 (![] : Fin 0 → Fin S128x4x64x64.rank)
  reducesTo_S128x4x64x64_S_d0_1_2_3 : S128x4x64x64.ReducesTo [0, 1, 2, 3] S_
  shapeCasts_S_S1 : S_.ShapeCasts S1

variable [Facts]

def fn {F : FTy → Type} [FloatOps F] (main_arg0 : FVec F S128x1x256 .f32) (main_arg1 : FVec F S128x1x256 .f32) (main_arg2 : FVec F S128x1x256 .f32) (main_arg3 : FVec F S128x1x256 .f32) (main_arg4 : FVec F S128x1x256 .f32) (main_arg5 : FVec F S128x1x256 .f32) (main_arg6 : FVec F S128x4x64x64 .f32) : IVec S1 1 :=
  let main_v0 : FVec F S128x1x256 .f32 := Host.absf main_arg4
  let main_cst : FVec F S_ .f32 := constant S_ .f32 0x7F800000#32
  let main_v1 : FVec F S128x1x256 .f32 := broadcastInDim S128x1x256 ![] bcast_S_S128x1x256 main_cst
  let main_v2 : IVec S128x1x256 1 := cmpf .olt main_v0 main_v1
  let main_c : IVec S_ 1 := constantI S_ 1 1#1
  let main_v3 : IVec S_ 1 := (fun x v => Host.reduce IntOp.andi x v reducesTo_S128x1x256_S_d0_1_2 h_S_) main_v2 main_c
  let main_v4 : FVec F S128x4x64x64 .f32 := Host.absf main_arg6
  let main_cst_0 : FVec F S_ .f32 := constant S_ .f32 0x7F800000#32
  let main_v5 : FVec F S128x4x64x64 .f32 := broadcastInDim S128x4x64x64 ![] bcast_S_S128x4x64x64 main_cst_0
  let main_v6 : IVec S128x4x64x64 1 := cmpf .olt main_v4 main_v5
  let main_c_1 : IVec S_ 1 := constantI S_ 1 1#1
  let main_v7 : IVec S_ 1 := (fun x v => Host.reduce IntOp.andi x v reducesTo_S128x4x64x64_S_d0_1_2_3 h_S_) main_v6 main_c_1
  let main_v8 : IVec S_ 1 := andi main_v3 main_v7
  let main_v9 : IVec S1 1 := shapeCast S1 main_v8 shapeCasts_S_S1
  main_v9
-- ==== Pre_ssd_finite.lean ====
abbrev S128x1x256 : Shape := ⟨3, ![128, 1, 256]⟩
abbrev S128x1x4 : Shape := ⟨3, ![128, 1, 4]⟩
abbrev S4 : Shape := ⟨1, ![4]⟩
abbrev S128x4x64x128 : Shape := ⟨4, ![128, 4, 64, 128]⟩
abbrev S_ : Shape := ⟨0, ![]⟩
abbrev S1 : Shape := ⟨1, ![1]⟩

class Facts : Prop where
  bcast_S_S128x1x256 : S_.BroadcastsInDim S128x1x256 (![] : Fin 0 → Fin S128x1x256.rank)
  reducesTo_S128x1x256_S_d0_1_2 : S128x1x256.ReducesTo [0, 1, 2] S_
  h_S_ : 0 < S_.numel
  bcast_S_S128x1x4 : S_.BroadcastsInDim S128x1x4 (![] : Fin 0 → Fin S128x1x4.rank)
  reducesTo_S128x1x4_S_d0_1_2 : S128x1x4.ReducesTo [0, 1, 2] S_
  bcast_S_S4 : S_.BroadcastsInDim S4 (![] : Fin 0 → Fin S4.rank)
  reducesTo_S4_S_d0 : S4.ReducesTo [0] S_
  shapeCasts_S_S1 : S_.ShapeCasts S1

variable [Facts]

def fn_part1 {F : FTy → Type} [FloatOps F] (main_arg4 : FVec F S128x1x256 .f32) (main_v13 : IVec S_ 1) (main_v16 : IVec S128x1x256 1) : IVec S1 1 :=
  let main_c_5 : IVec S_ 1 := constantI S_ 1 1#1
  let main_v17 : IVec S_ 1 := (fun x v => Host.reduce IntOp.andi x v reducesTo_S128x1x256_S_d0_1_2 h_S_) main_v16 main_c_5
  let main_v18 : IVec S_ 1 := andi main_v13 main_v17
  let main_v19 : FVec F S128x1x256 .f32 := Host.absf main_arg4
  let main_cst_6 : FVec F S_ .f32 := constant S_ .f32 0x7F800000#32
  let main_v20 : FVec F S128x1x256 .f32 := broadcastInDim S128x1x256 ![] bcast_S_S128x1x256 main_cst_6
  let main_v21 : IVec S128x1x256 1 := cmpf .olt main_v19 main_v20
  let main_c_7 : IVec S_ 1 := constantI S_ 1 1#1
  let main_v22 : IVec S_ 1 := (fun x v => Host.reduce IntOp.andi x v reducesTo_S128x1x256_S_d0_1_2 h_S_) main_v21 main_c_7
  let main_v23 : IVec S_ 1 := andi main_v18 main_v22
  let main_v24 : IVec S1 1 := shapeCast S1 main_v23 shapeCasts_S_S1
  main_v24

def fn {F : FTy → Type} [FloatOps F] (main_arg0 : FVec F S128x1x256 .f32) (main_arg1 : FVec F S128x1x4 .f32) (main_arg2 : FVec F S4 .f32) (main_arg3 : FVec F S128x1x256 .f32) (main_arg4 : FVec F S128x1x256 .f32) (main_arg5 : FVec F S128x4x64x128 .f32) : IVec S1 1 :=
  let main_v0 : FVec F S128x1x256 .f32 := Host.absf main_arg0
  let main_cst : FVec F S_ .f32 := constant S_ .f32 0x7F800000#32
  let main_v1 : FVec F S128x1x256 .f32 := broadcastInDim S128x1x256 ![] bcast_S_S128x1x256 main_cst
  let main_v2 : IVec S128x1x256 1 := cmpf .olt main_v0 main_v1
  let main_c : IVec S_ 1 := constantI S_ 1 1#1
  let main_v3 : IVec S_ 1 := (fun x v => Host.reduce IntOp.andi x v reducesTo_S128x1x256_S_d0_1_2 h_S_) main_v2 main_c
  let main_v4 : FVec F S128x1x4 .f32 := Host.absf main_arg1
  let main_cst_0 : FVec F S_ .f32 := constant S_ .f32 0x7F800000#32
  let main_v5 : FVec F S128x1x4 .f32 := broadcastInDim S128x1x4 ![] bcast_S_S128x1x4 main_cst_0
  let main_v6 : IVec S128x1x4 1 := cmpf .olt main_v4 main_v5
  let main_c_1 : IVec S_ 1 := constantI S_ 1 1#1
  let main_v7 : IVec S_ 1 := (fun x v => Host.reduce IntOp.andi x v reducesTo_S128x1x4_S_d0_1_2 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S128x1x256 .f32 := Host.absf main_arg3
  let main_cst_4 : FVec F S_ .f32 := constant S_ .f32 0x7F800000#32
  let main_v15 : FVec F S128x1x256 .f32 := broadcastInDim S128x1x256 ![] bcast_S_S128x1x256 main_cst_4
  let main_v16 : IVec S128x1x256 1 := cmpf .olt main_v14 main_v15
  fn_part1 (F := F) main_arg4 main_v13 main_v16
-- ==== Kernel.lean ====
abbrev S2x8192x256 : Shape := ⟨3, ![2, 8192, 256]⟩
abbrev S2x4x64x64 : Shape := ⟨4, ![2, 4, 64, 64]⟩
abbrev S2x8191x256 : Shape := ⟨3, ![2, 8191, 256]⟩
abbrev S2x1x256 : Shape := ⟨3, ![2, 1, 256]⟩
abbrev S_ : Shape := ⟨0, ![]⟩
abbrev S2x8192x4x64 : Shape := ⟨4, ![2, 8192, 4, 64]⟩
abbrev S2x8192x4 : Shape := ⟨3, ![2, 8192, 4]⟩
abbrev S2x2x2x64x64 : Shape := ⟨5, ![2, 2, 2, 64, 64]⟩
abbrev S2x2x64x2x64 : Shape := ⟨5, ![2, 2, 64, 2, 64]⟩
abbrev S4x64x128 : Shape := ⟨3, ![4, 64, 128]⟩
abbrev S2x128x256 : Shape := ⟨3, ![2, 128, 256]⟩
abbrev S4x128x128 : Shape := ⟨3, ![4, 128, 128]⟩
abbrev S256x128 : Shape := ⟨2, ![256, 128]⟩
abbrev S128x256 : Shape := ⟨2, ![128, 256]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S64x256 : Shape := ⟨2, ![64, 256]⟩
abbrev S256x256 : Shape := ⟨2, ![256, 256]⟩
abbrev S1x128x128 : Shape := ⟨3, ![1, 128, 128]⟩
abbrev S128x128 : Shape := ⟨2, ![128, 128]⟩
abbrev S1x8x128 : Shape := ⟨3, ![1, 8, 128]⟩
abbrev S8x128 : Shape := ⟨2, ![8, 128]⟩
abbrev S64 : Shape := ⟨1, ![64]⟩
abbrev S64x1 : Shape := ⟨2, ![64, 1]⟩

abbrev nBuf : Space → Nat
  | .hbm => 34
  | .vmem => 26
  | .smem => 0
  | _ => 0

abbrev bufTy : (tb : Table) → Fin (tcTables nBuf tb) → BufTy
  | .hbm, ⟨0, _⟩ => ⟨S2x8192x256, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x256, .f32⟩
  | .hbm, ⟨6, _⟩ => ⟨S2x4x64x64, .f32⟩
  | .hbm, ⟨7, _⟩ => ⟨S2x8192x256, .f32⟩
  | .hbm, ⟨8, _⟩ => ⟨S2x8191x256, .f32⟩
  | .hbm, ⟨9, _⟩ => ⟨S2x1x256, .f32⟩
  | .hbm, ⟨10, _⟩ => ⟨S_, .f32⟩
  | .hbm, ⟨11, _⟩ => ⟨S2x1x256, .f32⟩
  | .hbm, ⟨12, _⟩ => ⟨S2x8192x256, .f32⟩
  | .hbm, ⟨13, _⟩ => ⟨S2x8192x256, .f32⟩
  | .hbm, ⟨14, _⟩ => ⟨S2x8192x256, .f32⟩
  | .hbm, ⟨15, _⟩ => ⟨S2x8192x4x64, .f32⟩
  | .hbm, ⟨16, _⟩ => ⟨S_, .f32⟩
  | .hbm, ⟨17, _⟩ => ⟨S2x8192x4, .f32⟩
  | .hbm, ⟨18, _⟩ => ⟨S2x8192x4x64, .f32⟩
  | .hbm, ⟨19, _⟩ => ⟨S2x8192x256, .f32⟩
  | .hbm, ⟨20, _⟩ => ⟨S2x8192x256, .f32⟩
  | .hbm, ⟨21, _⟩ => ⟨S2x8192x4x64, .f32⟩
  | .hbm, ⟨22, _⟩ => ⟨S_, .f32⟩
  | .hbm, ⟨23, _⟩ => ⟨S2x8192x4, .f32⟩
  | .hbm, ⟨24, _⟩ => ⟨S2x8192x4x64, .f32⟩
  | .hbm, ⟨25, _⟩ => ⟨S2x8192x256, .f32⟩
  | .hbm, ⟨26, _⟩ => ⟨S2x2x2x64x64, .f32⟩
  | .hbm, ⟨27, _⟩ => ⟨S2x2x64x2x64, .f32⟩
  | .hbm, ⟨28, _⟩ => ⟨S4x64x128, .f32⟩
  | .hbm, ⟨29, _⟩ => ⟨S2x8192x256, .f32⟩
  | .hbm, ⟨30, _⟩ => ⟨S4x64x128, .f32⟩
  | .hbm, ⟨31, _⟩ => ⟨S2x2x64x2x64, .f32⟩
  | .hbm, ⟨32, _⟩ => ⟨S2x2x2x64x64, .f32⟩
  | .hbm, ⟨33, _⟩ => ⟨S2x4x64x64, .f32⟩
  | .local _ .vmem, ⟨0, _⟩ => ⟨S2x128x256, .f32⟩
  | .local _ .vmem, ⟨1, _⟩ => ⟨S2x128x256, .f32⟩
  | .local _ .vmem, ⟨2, _⟩ => ⟨S2x128x256, .f32⟩
  | .local _ .vmem, ⟨3, _⟩ => ⟨S2x128x256, .f32⟩
  | .local _ .vmem, ⟨4, _⟩ => ⟨S2x128x256, .f32⟩
  | .local _ .vmem, ⟨5, _⟩ => ⟨S2x128x256, .f32⟩
  | .local _ .vmem, ⟨6, _⟩ => ⟨S2x128x256, .f32⟩
  | .local _ .vmem, ⟨7, _⟩ => ⟨S2x128x256, .f32⟩
  | .local _ .vmem, ⟨8, _⟩ => ⟨S2x128x256, .f32⟩
  | .local _ .vmem, ⟨9, _⟩ => ⟨S2x128x256, .f32⟩
  | .local _ .vmem, ⟨10, _⟩ => ⟨S2x128x256, .f32⟩
  | .local _ .vmem, ⟨11, _⟩ => ⟨S2x128x256, .f32⟩
  | .local _ .vmem, ⟨12, _⟩ => ⟨S2x128x256, .f32⟩
  | .local _ .vmem, ⟨13, _⟩ => ⟨S2x128x256, .f32⟩
  | .local _ .vmem, ⟨14, _⟩ => ⟨S2x128x256, .f32⟩
  | .local _ .vmem, ⟨15, _⟩ => ⟨S2x128x256, .f32⟩
  | .local _ .vmem, ⟨16, _⟩ => ⟨S2x128x256, .f32⟩
  | .local _ .vmem, ⟨17, _⟩ => ⟨S2x128x256, .f32⟩
  | .local _ .vmem, ⟨18, _⟩ => ⟨S4x64x128, .f32⟩
  | .local _ .vmem, ⟨19, _⟩ => ⟨S2x128x256, .f32⟩
  | .local _ .vmem, ⟨20, _⟩ => ⟨S2x128x256, .f32⟩
  | .local _ .vmem, ⟨21, _⟩ => ⟨S4x64x128, .f32⟩
  | .local _ .vmem, ⟨22, _⟩ => ⟨S4x64x128, .f32⟩
  | .local _ .vmem, ⟨23, _⟩ => ⟨S4x64x128, .f32⟩
  | .local _ .vmem, ⟨24, _⟩ => ⟨S4x128x128, .f32⟩
  | .local _ .vmem, ⟨25, _⟩ => ⟨S4x128x128, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_55 : BitVec 32 := 0#32
  let c16_i32 : BitVec 32 := 16#32
  let v157 : BitVec 32 := Scalar.addi c0_i32_55 c16_i32
  let c1_i32_56 : BitVec 32 := 1#32
  ⟨c0_i32_55, v157, c1_i32_56⟩
def k0_mult1 (k0_t1 : Fin k0_t1_loop.trips) : BitVec 32 :=
  let c0_i32_55 : BitVec 32 := 0#32
  let c1_i32_56 : BitVec 32 := 1#32
  let arg17 : BitVec 32 := Scf.iv c0_i32_55 c1_i32_56 k0_t1
  let c8_i32 : BitVec 32 := 8#32
  let v185 : BitVec 32 := Scalar.muli arg17 c8_i32
  v185
def k0_off1 (k0_t1 : Fin k0_t1_loop.trips) : Fin 3 → Nat :=
  let c0_83 : Index := 0#32
  let c0_i32_55 : BitVec 32 := 0#32
  let c1_i32_56 : BitVec 32 := 1#32
  let arg17 : BitVec 32 := Scf.iv c0_i32_55 c1_i32_56 k0_t1
  let c8_i32 : BitVec 32 := 8#32
  let v185 : BitVec 32 := Scalar.muli arg17 c8_i32
  let v186 : BitVec 32 := v185
  let v187 : Index := Scalar.indexCast v186
  let c0_84 : Index := 0#32
  ![0, v187.toNat, 0]
def k0_off2 (k0_t1 : Fin k0_t1_loop.trips) : Fin 3 → Nat :=
  let c0_85 : Index := 0#32
  let c0_i32_55 : BitVec 32 := 0#32
  let c1_i32_56 : BitVec 32 := 1#32
  let arg17 : BitVec 32 := Scf.iv c0_i32_55 c1_i32_56 k0_t1
  let c8_i32 : BitVec 32 := 8#32
  let v185 : BitVec 32 := Scalar.muli arg17 c8_i32
  let v186 : BitVec 32 := v185
  let v190 : Index := Scalar.indexCast v186
  let c128_86 : Index := 128#32
  ![0, v190.toNat, 128]
def k0_off3 (k0_t1 : Fin k0_t1_loop.trips) : Fin 3 → Nat :=
  let c1_87 : Index := 1#32
  let c0_i32_55 : BitVec 32 := 0#32
  let c1_i32_56 : BitVec 32 := 1#32
  let arg17 : BitVec 32 := Scf.iv c0_i32_55 c1_i32_56 k0_t1
  let c8_i32 : BitVec 32 := 8#32
  let v185 : BitVec 32 := Scalar.muli arg17 c8_i32
  let v186 : BitVec 32 := v185
  let v193 : Index := Scalar.indexCast v186
  let c0_88 : Index := 0#32
  ![1, v193.toNat, 0]
def k0_off4 (k0_t1 : Fin k0_t1_loop.trips) : Fin 3 → Nat :=
  let c1_89 : Index := 1#32
  let c0_i32_55 : BitVec 32 := 0#32
  let c1_i32_56 : BitVec 32 := 1#32
  let arg17 : BitVec 32 := Scf.iv c0_i32_55 c1_i32_56 k0_t1
  let c8_i32 : BitVec 32 := 8#32
  let v185 : BitVec 32 := Scalar.muli arg17 c8_i32
  let v186 : BitVec 32 := v185
  let v196 : Index := Scalar.indexCast v186
  let c128_90 : Index := 128#32
  ![1, v196.toNat, 128]
def k0_cond2 (i : grid0.Coords) : BitVec 1 :=
  let arg0 : BitVec 32 := BitVec.ofNat 32 (i 0).val
  let c63_i32 : BitVec 32 := 63#32
  let v182 : BitVec 1 := Scalar.cmpi .eq arg0 c63_i32
  let v183 : BitVec 32 := Scalar.extui v182
  let c0_i32_82 : BitVec 32 := 0#32
  let v184 : BitVec 1 := Scalar.cmpi .ne v183 c0_i32_82
  v184

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x8192x256 : Shape := ⟨3, ![2, 8192, 256]⟩
abbrev S2x4x64x64 : Shape := ⟨4, ![2, 4, 64, 64]⟩
abbrev S2x8192x4x64 : Shape := ⟨4, ![2, 8192, 4, 64]⟩
abbrev S8192x2x4x64 : Shape := ⟨4, ![8192, 2, 4, 64]⟩
abbrev S_ : Shape := ⟨0, ![]⟩
abbrev S1x2x4x64 : Shape := ⟨4, ![1, 2, 4, 64]⟩
abbrev S2x4x64 : Shape := ⟨3, ![2, 4, 64]⟩
abbrev S2x4x1x64 : Shape := ⟨4, ![2, 4, 1, 64]⟩
abbrev S2x4x64x1 : Shape := ⟨4, ![2, 4, 64, 1]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x256, .f32⟩
  | .hbm, ⟨6, _⟩ => ⟨S2x4x64x64, .f32⟩
  | .hbm, ⟨7, _⟩ => ⟨S2x8192x4x64, .f32⟩
  | .hbm, ⟨8, _⟩ => ⟨S2x8192x4x64, .f32⟩
  | .hbm, ⟨9, _⟩ => ⟨S2x8192x4x64, .f32⟩
  | .hbm, ⟨10, _⟩ => ⟨S2x8192x4x64, .f32⟩
  | .hbm, ⟨11, _⟩ => ⟨S2x8192x4x64, .f32⟩
  | .hbm, ⟨12, _⟩ => ⟨S2x8192x4x64, .f32⟩
  | .hbm, ⟨13, _⟩ => ⟨S8192x2x4x64, .f32⟩
  | .hbm, ⟨14, _⟩ => ⟨S8192x2x4x64, .f32⟩
  | .hbm, ⟨15, _⟩ => ⟨S8192x2x4x64, .f32⟩
  | .hbm, ⟨16, _⟩ => ⟨S8192x2x4x64, .f32⟩
  | .hbm, ⟨17, _⟩ => ⟨S8192x2x4x64, .f32⟩
  | .hbm, ⟨18, _⟩ => ⟨S8192x2x4x64, .f32⟩
  | .hbm, ⟨19, _⟩ => ⟨S_, .f32⟩
  | .hbm, ⟨20, _⟩ => ⟨S8192x2x4x64, .f32⟩
  | .hbm, ⟨21, _⟩ => ⟨S_, .i32⟩
  | .hbm, ⟨22, _⟩ => ⟨S8192x2x4x64, .f32⟩
  | .hbm, ⟨23, _⟩ => ⟨S8192x2x4x64, .f32⟩
  | .hbm, ⟨24, _⟩ => ⟨S8192x2x4x64, .f32⟩
  | .hbm, ⟨25, _⟩ => ⟨S8192x2x4x64, .f32⟩
  | .hbm, ⟨26, _⟩ => ⟨S8192x2x4x64, .f32⟩
  | .hbm, ⟨27, _⟩ => ⟨S8192x2x4x64, .f32⟩
  | .hbm, ⟨28, _⟩ => ⟨S_, .i32⟩
  | .hbm, ⟨29, _⟩ => ⟨S2x4x64x64, .f32⟩
  | .hbm, ⟨30, _⟩ => ⟨S8192x2x4x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x2x4x64, .f32⟩
  | .hbm, ⟨37, _⟩ => ⟨S2x4x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x2x4x64, .f32⟩
  | .hbm, ⟨42, _⟩ => ⟨S2x4x64, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x2x4x64, .f32⟩
  | .hbm, ⟨47, _⟩ => ⟨S2x4x64, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x2x4x64, .f32⟩
  | .hbm, ⟨52, _⟩ => ⟨S2x4x64, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x2x4x64, .f32⟩
  | .hbm, ⟨57, _⟩ => ⟨S2x4x64, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x2x4x64, .f32⟩
  | .hbm, ⟨62, _⟩ => ⟨S2x4x64, .f32⟩
  | .hbm, ⟨63, _⟩ => ⟨S2x4x64, .f32⟩
  | .hbm, ⟨64, _⟩ => ⟨S2x4x64, .f32⟩
  | .hbm, ⟨65, _⟩ => ⟨S2x4x1x64, .f32⟩
  | .hbm, ⟨66, _⟩ => ⟨S2x4x64x64, .f32⟩
  | .hbm, ⟨67, _⟩ => ⟨S2x4x64x64, .f32⟩
  | .hbm, ⟨68, _⟩ => ⟨S2x4x64x1, .f32⟩
  | .hbm, ⟨69, _⟩ => ⟨S2x4x64, .f32⟩
  | .hbm, ⟨70, _⟩ => ⟨S2x4x1x64, .f32⟩
  | .hbm, ⟨71, _⟩ => ⟨S2x4x64x64, .f32⟩
  | .hbm, ⟨72, _⟩ => ⟨S2x4x64x64, .f32⟩
  | .hbm, ⟨73, _⟩ => ⟨S2x4x64x64, .f32⟩
  | .hbm, ⟨74, _⟩ => ⟨S2x4x64x64, .f32⟩
  | .hbm, ⟨75, _⟩ => ⟨S2x4x64x1, .f32⟩
  | .hbm, ⟨76, _⟩ => ⟨S2x4x1x64, .f32⟩
  | .hbm, ⟨77, _⟩ => ⟨S2x4x64x64, .f32⟩
  | .hbm, ⟨78, _⟩ => ⟨S2x4x64x64, .f32⟩
  | .hbm, ⟨79, _⟩ => ⟨S2x4x64x64, .f32⟩
  | .hbm, ⟨80, _⟩ => ⟨S2x4x64x64, .f32⟩
  | .hbm, ⟨81, _⟩ => ⟨S2x4x64, .f32⟩
  | .hbm, ⟨82, _⟩ => ⟨S1x2x4x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S8192x2x4x64, .f32⟩
  | .hbm, ⟨87, _⟩ => ⟨S_, .i32⟩
  | .hbm, ⟨88, _⟩ => ⟨S_, .i32⟩
  | .hbm, ⟨89, _⟩ => ⟨S2x8192x4x64, .f32⟩
  | .hbm, ⟨90, _⟩ => ⟨S2x8192x256, .f32⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev main_while0c_c_8 : Ref sig .tc := ⟨.hbm, 31, rfl⟩
abbrev main_while0c_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v16 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v17 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_v0 : Ref sig .tc := ⟨.hbm, 46, rfl⟩
abbrev main_while0b_v18 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_c_1 : Ref sig .tc := ⟨.hbm, 50, rfl⟩
abbrev main_while0b_call3_v0 : Ref sig .tc := ⟨.hbm, 51, rfl⟩
abbrev main_while0b_v19 : Ref sig .tc := ⟨.hbm, 52, rfl⟩
abbrev main_while0b_call4_c : Ref sig .tc := ⟨.hbm, 53, rfl⟩
abbrev main_while0b_call4_c_0 : Ref sig .tc := ⟨.hbm, 54, rfl⟩
abbrev main_while0b_call4_c_1 : Ref sig .tc := ⟨.hbm, 55, rfl⟩
abbrev main_while0b_call4_v0 : Ref sig .tc := ⟨.hbm, 56, rfl⟩
abbrev main_while0b_v20 : Ref sig .tc := ⟨.hbm, 57, rfl⟩
abbrev main_while0b_call5_c : Ref sig .tc := ⟨.hbm, 58, rfl⟩
abbrev main_while0b_call5_c_0 : Ref sig .tc := ⟨.hbm, 59, rfl⟩
abbrev main_while0b_call5_c_1 : Ref sig .tc := ⟨.hbm, 60, rfl⟩
abbrev main_while0b_call5_v0 : Ref sig .tc := ⟨.hbm, 61, rfl⟩
abbrev main_while0b_v21 : Ref sig .tc := ⟨.hbm, 62, rfl⟩
abbrev main_while0b_v22 : Ref sig .tc := ⟨.hbm, 63, rfl⟩
abbrev main_while0b_v23 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_v41 : Ref sig .tc := ⟨.hbm, 86, rfl⟩
abbrev main_while0b_c_8 : Ref sig .tc := ⟨.hbm, 87, rfl⟩
abbrev main_while0b_v42 : Ref sig .tc := ⟨.hbm, 88, rfl⟩
abbrev main_v14 : Ref sig .tc := ⟨.hbm, 89, rfl⟩
abbrev main_v15 : Ref sig .tc := ⟨.hbm, 90, rfl⟩

abbrev nD : Nat := 1
abbrev τ : Topo := Topo.v7x

variable {F : FTy → Type} [FloatOps F]

abbrev main_while0_count : Scf.Loop 32 := ⟨0#32, 8192#32, 1#32⟩
-- ==== KernelIn.lean ====
abbrev S2x8192x1024 : Shape := ⟨3, ![2, 8192, 1024]⟩
abbrev S1024 : Shape := ⟨1, ![1024]⟩
abbrev S1024x7980 : Shape := ⟨2, ![1024, 7980]⟩
abbrev S1024x256 : Shape := ⟨2, ![1024, 256]⟩
abbrev S1024x768 : Shape := ⟨2, ![1024, 768]⟩
abbrev S1024x4 : Shape := ⟨2, ![1024, 4]⟩
abbrev S1024x32 : Shape := ⟨2, ![1024, 32]⟩
abbrev S1024x8 : Shape := ⟨2, ![1024, 8]⟩
abbrev S1024x1024 : Shape := ⟨2, ![1024, 1024]⟩
abbrev S1024x4096 : Shape := ⟨2, ![1024, 4096]⟩
abbrev S_ : Shape := ⟨0, ![]⟩
abbrev S1024x84 : Shape := ⟨2, ![1024, 84]⟩
abbrev S1024x8064 : Shape := ⟨2, ![1024, 8064]⟩
abbrev S16384x1024 : Shape := ⟨2, ![16384, 1024]⟩
abbrev S1x1024 : Shape := ⟨2, ![1, 1024]⟩
abbrev S16384x8064 : Shape := ⟨2, ![16384, 8064]⟩
abbrev S1024x1152 : Shape := ⟨2, ![1024, 1152]⟩
abbrev S1024x1 : Shape := ⟨2, ![1024, 1]⟩
abbrev S2x8192x8064 : Shape := ⟨3, ![2, 8192, 8064]⟩
abbrev S2x8192x7980 : Shape := ⟨3, ![2, 8192, 7980]⟩
abbrev S2x8192x4096 : Shape := ⟨3, ![2, 8192, 4096]⟩
abbrev S2x8192x256 : Shape := ⟨3, ![2, 8192, 256]⟩
abbrev S2x8192x768 : Shape := ⟨3, ![2, 8192, 768]⟩
abbrev S2x8192x4 : Shape := ⟨3, ![2, 8192, 4]⟩
abbrev S2x8192x32 : Shape := ⟨3, ![2, 8192, 32]⟩
abbrev S2x8192x8 : Shape := ⟨3, ![2, 8192, 8]⟩
abbrev S2x8192x4x64 : Shape := ⟨4, ![2, 8192, 4, 64]⟩
abbrev S2x3x768 : Shape := ⟨3, ![2, 3, 768]⟩
abbrev S2x1x1024 : Shape := ⟨3, ![2, 1, 1024]⟩
abbrev S2x1024 : Shape := ⟨2, ![2, 1024]⟩

abbrev nBuf : Space → Nat
  | .hbm => 47
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x7980, .f32⟩
  | .hbm, ⟨3, _⟩ => ⟨S1024x256, .f32⟩
  | .hbm, ⟨4, _⟩ => ⟨S1024x768, .f32⟩
  | .hbm, ⟨5, _⟩ => ⟨S1024x4, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x32, .f32⟩
  | .hbm, ⟨14, _⟩ => ⟨S1024x8, .f32⟩
  | .hbm, ⟨15, _⟩ => ⟨S1024x1024, .f32⟩
  | .hbm, ⟨16, _⟩ => ⟨S1024x4096, .f32⟩
  | .hbm, ⟨17, _⟩ => ⟨S_, .f32⟩
  | .hbm, ⟨18, _⟩ => ⟨S1024x84, .f32⟩
  | .hbm, ⟨19, _⟩ => ⟨S1024x8064, .f32⟩
  | .hbm, ⟨20, _⟩ => ⟨S16384x1024, .f32⟩
  | .hbm, ⟨21, _⟩ => ⟨S1x1024, .f32⟩
  | .hbm, ⟨22, _⟩ => ⟨S1024x8064, .bf16⟩
  | .hbm, ⟨23, _⟩ => ⟨S16384x8064, .f32⟩
  | .hbm, ⟨24, _⟩ => ⟨S2x8192x8064, .f32⟩
  | .hbm, ⟨25, _⟩ => ⟨S2x8192x7980, .f32⟩
  | .hbm, ⟨26, _⟩ => ⟨S2x8192x4096, .f32⟩
  | .hbm, ⟨27, _⟩ => ⟨S2x8192x1024, .f32⟩
  | .hbm, ⟨28, _⟩ => ⟨S2x8192x256, .f32⟩
  | .hbm, ⟨29, _⟩ => ⟨S2x8192x768, .f32⟩
  | .hbm, ⟨30, _⟩ => ⟨S2x8192x256, .f32⟩
  | .hbm, ⟨31, _⟩ => ⟨S2x8192x256, .f32⟩
  | .hbm, ⟨32, _⟩ => ⟨S2x8192x256, .f32⟩
  | .hbm, ⟨33, _⟩ => ⟨S2x8192x256, .f32⟩
  | .hbm, ⟨34, _⟩ => ⟨S2x8192x256, .f32⟩
  | .hbm, ⟨35, _⟩ => ⟨S2x8192x256, .f32⟩
  | .hbm, ⟨36, _⟩ => ⟨S2x8192x256, .f32⟩
  | .hbm, ⟨37, _⟩ => ⟨S2x8192x4, .f32⟩
  | .hbm, ⟨38, _⟩ => ⟨S2x8192x32, .f32⟩
  | .hbm, ⟨39, _⟩ => ⟨S2x8192x8, .f32⟩
  | .hbm, ⟨40, _⟩ => ⟨S2x8192x4x64, .f32⟩
  | .hbm, ⟨41, _⟩ => ⟨S2x8192x4x64, .f32⟩
  | .hbm, ⟨42, _⟩ => ⟨S2x8192x4x64, .f32⟩
  | .hbm, ⟨43, _⟩ => ⟨S2x8192x4x64, .f32⟩
  | .hbm, ⟨44, _⟩ => ⟨S2x3x768, .f32⟩
  | .hbm, ⟨45, _⟩ => ⟨S2x1x1024, .f32⟩
  | .hbm, ⟨46, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1152, .bf16⟩
  | .local _ .vmem, ⟨4, _⟩ => ⟨S1024x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S2x8192x1024 : Shape := ⟨3, ![2, 8192, 1024]⟩
abbrev S1024 : Shape := ⟨1, ![1024]⟩
abbrev S1024x7980 : Shape := ⟨2, ![1024, 7980]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x7980 : Shape := ⟨3, ![2, 8192, 7980]⟩
abbrev S2x8192x256 : Shape := ⟨3, ![2, 8192, 256]⟩
abbrev S2x8192x768 : Shape := ⟨3, ![2, 8192, 768]⟩
abbrev S2x8192x4 : Shape := ⟨3, ![2, 8192, 4]⟩
abbrev S2x8192x32 : Shape := ⟨3, ![2, 8192, 32]⟩
abbrev S2x8192x8 : Shape := ⟨3, ![2, 8192, 8]⟩
abbrev S2x8192x4096 : Shape := ⟨3, ![2, 8192, 4096]⟩
abbrev S2x8192x4x64 : Shape := ⟨4, ![2, 8192, 4, 64]⟩
abbrev S2x3x768 : Shape := ⟨3, ![2, 3, 768]⟩
abbrev S2x1x1024 : Shape := ⟨3, ![2, 1, 1024]⟩
abbrev S2x1024 : Shape := ⟨2, ![2, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x7980, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x7980, .f32⟩
  | .hbm, ⟨20, _⟩ => ⟨S2x8192x256, .f32⟩
  | .hbm, ⟨21, _⟩ => ⟨S2x8192x768, .f32⟩
  | .hbm, ⟨22, _⟩ => ⟨S2x8192x4, .f32⟩
  | .hbm, ⟨23, _⟩ => ⟨S2x8192x256, .f32⟩
  | .hbm, ⟨24, _⟩ => ⟨S2x8192x256, .f32⟩
  | .hbm, ⟨25, _⟩ => ⟨S2x8192x256, .f32⟩
  | .hbm, ⟨26, _⟩ => ⟨S2x8192x256, .f32⟩
  | .hbm, ⟨27, _⟩ => ⟨S2x8192x256, .f32⟩
  | .hbm, ⟨28, _⟩ => ⟨S2x8192x256, .f32⟩
  | .hbm, ⟨29, _⟩ => ⟨S2x8192x256, .f32⟩
  | .hbm, ⟨30, _⟩ => ⟨S2x8192x32, .f32⟩
  | .hbm, ⟨31, _⟩ => ⟨S2x8192x8, .f32⟩
  | .hbm, ⟨32, _⟩ => ⟨S2x8192x1024, .f32⟩
  | .hbm, ⟨33, _⟩ => ⟨S2x8192x4096, .f32⟩
  | .hbm, ⟨34, _⟩ => ⟨S2x8192x4x64, .f32⟩
  | .hbm, ⟨35, _⟩ => ⟨S2x8192x4x64, .f32⟩
  | .hbm, ⟨36, _⟩ => ⟨S2x8192x4x64, .f32⟩
  | .hbm, ⟨37, _⟩ => ⟨S2x8192x4x64, .f32⟩
  | .hbm, ⟨38, _⟩ => ⟨S2x3x768, .f32⟩
  | .hbm, ⟨39, _⟩ => ⟨S2x1x1024, .f32⟩
  | .hbm, ⟨40, _⟩ => ⟨S2x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== KernelUp.lean ====
abbrev S2x8192x1024 : Shape := ⟨3, ![2, 8192, 1024]⟩
abbrev S1024 : Shape := ⟨1, ![1024]⟩
abbrev S1024x5632 : Shape := ⟨2, ![1024, 5632]⟩
abbrev S16384x1024 : Shape := ⟨2, ![16384, 1024]⟩
abbrev S1x1024 : Shape := ⟨2, ![1, 1024]⟩
abbrev S16384x5632 : Shape := ⟨2, ![16384, 5632]⟩
abbrev S1024x1024 : Shape := ⟨2, ![1024, 1024]⟩
abbrev S1024x1408 : Shape := ⟨2, ![1024, 1408]⟩
abbrev S1024x1 : Shape := ⟨2, ![1024, 1]⟩
abbrev S2x8192x5632 : Shape := ⟨3, ![2, 8192, 5632]⟩
abbrev S2x8192x2816 : Shape := ⟨3, ![2, 8192, 2816]⟩
abbrev S2x2x2816 : Shape := ⟨3, ![2, 2, 2816]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S16384x1024, .f32⟩
  | .hbm, ⟨4, _⟩ => ⟨S1x1024, .f32⟩
  | .hbm, ⟨5, _⟩ => ⟨S1024x5632, .bf16⟩
  | .hbm, ⟨6, _⟩ => ⟨S16384x5632, .f32⟩
  | .hbm, ⟨7, _⟩ => ⟨S2x8192x5632, .f32⟩
  | .hbm, ⟨8, _⟩ => ⟨S2x8192x2816, .f32⟩
  | .hbm, ⟨9, _⟩ => ⟨S2x8192x2816, .f32⟩
  | .hbm, ⟨10, _⟩ => ⟨S2x2x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S2x8192x1024 : Shape := ⟨3, ![2, 8192, 1024]⟩
abbrev S1024 : Shape := ⟨1, ![1024]⟩
abbrev S1024x5632 : Shape := ⟨2, ![1024, 5632]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x2x2816 : Shape := ⟨3, ![2, 2, 2816]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x5632, .f32⟩
  | .hbm, ⟨20, _⟩ => ⟨S2x8192x2816, .f32⟩
  | .hbm, ⟨21, _⟩ => ⟨S2x8192x2816, .f32⟩
  | .hbm, ⟨22, _⟩ => ⟨S2x2x2816, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelDown.lean ====
abbrev S2x8192x1024 : Shape := ⟨3, ![2, 8192, 1024]⟩
abbrev S2x8192x5632 : Shape := ⟨3, ![2, 8192, 5632]⟩
abbrev S2x2x2816 : Shape := ⟨3, ![2, 2, 2816]⟩
abbrev S3x2816 : Shape := ⟨2, ![3, 2816]⟩
abbrev S2816 : Shape := ⟨1, ![2816]⟩
abbrev S2816x1024 : Shape := ⟨2, ![2816, 1024]⟩
abbrev S2x32x256x5632 : Shape := ⟨4, ![2, 32, 256, 5632]⟩
abbrev S2x32x2x2816 : Shape := ⟨4, ![2, 32, 2, 2816]⟩
abbrev S2x1x2x2816 : Shape := ⟨4, ![2, 1, 2, 2816]⟩
abbrev S2x31x2x2816 : Shape := ⟨4, ![2, 31, 2, 2816]⟩
abbrev S_ : Shape := ⟨0, ![]⟩
abbrev S2x32x8x2816 : Shape := ⟨4, ![2, 32, 8, 2816]⟩
abbrev S64x8x2816 : Shape := ⟨3, ![64, 8, 2816]⟩
abbrev S16384x5632 : Shape := ⟨2, ![16384, 5632]⟩
abbrev S1x2816 : Shape := ⟨2, ![1, 2816]⟩
abbrev S16384x1024 : Shape := ⟨2, ![16384, 1024]⟩
abbrev S256x2816 : Shape := ⟨2, ![256, 2816]⟩
abbrev S1x8x2816 : Shape := ⟨3, ![1, 8, 2816]⟩
abbrev S256x1024 : Shape := ⟨2, ![256, 1024]⟩
abbrev S8x2816 : Shape := ⟨2, ![8, 2816]⟩
abbrev S264x2816 : Shape := ⟨2, ![264, 2816]⟩

abbrev nBuf : Space → Nat
  | .hbm => 23
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x5632, .f32⟩
  | .hbm, ⟨2, _⟩ => ⟨S2x2x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S2x32x256x5632, .f32⟩
  | .hbm, ⟨7, _⟩ => ⟨S2x32x2x2816, .f32⟩
  | .hbm, ⟨8, _⟩ => ⟨S2x1x2x2816, .f32⟩
  | .hbm, ⟨9, _⟩ => ⟨S2x31x2x2816, .f32⟩
  | .hbm, ⟨10, _⟩ => ⟨S2x32x2x2816, .f32⟩
  | .hbm, ⟨11, _⟩ => ⟨S_, .i32⟩
  | .hbm, ⟨12, _⟩ => ⟨S_, .f32⟩
  | .hbm, ⟨13, _⟩ => ⟨S2x32x8x2816, .f32⟩
  | .hbm, ⟨14, _⟩ => ⟨S64x8x2816, .f32⟩
  | .hbm, ⟨15, _⟩ => ⟨S16384x5632, .f32⟩
  | .hbm, ⟨16, _⟩ => ⟨S16384x5632, .f32⟩
  | .hbm, ⟨17, _⟩ => ⟨S1x2816, .f32⟩
  | .hbm, ⟨18, _⟩ => ⟨S2816x1024, .bf16⟩
  | .hbm, ⟨19, _⟩ => ⟨S16384x1024, .f32⟩
  | .hbm, ⟨20, _⟩ => ⟨S16384x1024, .f32⟩
  | .hbm, ⟨21, _⟩ => ⟨S2x8192x1024, .f32⟩
  | .hbm, ⟨22, _⟩ => ⟨S2x2x2816, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S1x8x2816, .f32⟩
  | .local _ .vmem, ⟨5, _⟩ => ⟨S1x8x2816, .f32⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDownIdeal.lean ====
abbrev S2x8192x1024 : Shape := ⟨3, ![2, 8192, 1024]⟩
abbrev S2x8192x5632 : Shape := ⟨3, ![2, 8192, 5632]⟩
abbrev S2x2x2816 : Shape := ⟨3, ![2, 2, 2816]⟩
abbrev S3x2816 : Shape := ⟨2, ![3, 2816]⟩
abbrev S2816 : Shape := ⟨1, ![2816]⟩
abbrev S2816x1024 : Shape := ⟨2, ![2816, 1024]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x5632, .f32⟩
  | .hbm, ⟨2, _⟩ => ⟨S2x2x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S2x8192x2816, .f32⟩
  | .hbm, ⟨7, _⟩ => ⟨S2x8192x2816, .f32⟩
  | .hbm, ⟨8, _⟩ => ⟨S2x8194x2816, .f32⟩
  | .hbm, ⟨9, _⟩ => ⟨S2x8192x2816, .f32⟩
  | .hbm, ⟨10, _⟩ => ⟨S1x2816, .f32⟩
  | .hbm, ⟨11, _⟩ => ⟨S2816, .f32⟩
  | .hbm, ⟨12, _⟩ => ⟨S1x1x2816, .f32⟩
  | .hbm, ⟨13, _⟩ => ⟨S2x8192x2816, .f32⟩
  | .hbm, ⟨14, _⟩ => ⟨S2x8192x2816, .f32⟩
  | .hbm, ⟨15, _⟩ => ⟨S_, .f32⟩
  | .hbm, ⟨16, _⟩ => ⟨S2x8192x2816, .f32⟩
  | .hbm, ⟨17, _⟩ => ⟨S2x8192x2816, .f32⟩
  | .hbm, ⟨18, _⟩ => ⟨S2x8192x2816, .f32⟩
  | .hbm, ⟨19, _⟩ => ⟨S1x2816, .f32⟩
  | .hbm, ⟨20, _⟩ => ⟨S2816, .f32⟩
  | .hbm, ⟨21, _⟩ => ⟨S1x1x2816, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S1x2816, .f32⟩
  | .hbm, ⟨27, _⟩ => ⟨S2816, .f32⟩
  | .hbm, ⟨28, _⟩ => ⟨S1x1x2816, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S1x1x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S_, .f32⟩
  | .hbm, ⟨38, _⟩ => ⟨S2x8192x2816, .f32⟩
  | .hbm, ⟨39, _⟩ => ⟨S2x8192x2816, .f32⟩
  | .hbm, ⟨40, _⟩ => ⟨S_, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x1024, .f32⟩
  | .hbm, ⟨46, _⟩ => ⟨S2x8192x1024, .f32⟩
  | .hbm, ⟨47, _⟩ => ⟨S2x2x2816, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== KernelMerge.lean ====
abbrev S2x8192x1024 : Shape := ⟨3, ![2, 8192, 1024]⟩
abbrev S2x8192x256 : Shape := ⟨3, ![2, 8192, 256]⟩
abbrev S2x8192x8064 : Shape := ⟨3, ![2, 8192, 8064]⟩
abbrev S4x256x1024 : Shape := ⟨3, ![4, 256, 1024]⟩
abbrev S1024x1024 : Shape := ⟨2, ![1024, 1024]⟩
abbrev S16384x1024 : Shape := ⟨2, ![16384, 1024]⟩
abbrev S16384x256 : Shape := ⟨2, ![16384, 256]⟩
abbrev S16384x8064 : Shape := ⟨2, ![16384, 8064]⟩
abbrev S256x256 : Shape := ⟨2, ![256, 256]⟩
abbrev S256x4096 : Shape := ⟨2, ![256, 4096]⟩
abbrev S256x1024 : Shape := ⟨2, ![256, 1024]⟩
abbrev S1x256x1024 : Shape := ⟨3, ![1, 256, 1024]⟩

abbrev nBuf : Space → Nat
  | .hbm => 18
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x8064, .f32⟩
  | .hbm, ⟨6, _⟩ => ⟨S4x256x1024, .f32⟩
  | .hbm, ⟨7, _⟩ => ⟨S1024x1024, .f32⟩
  | .hbm, ⟨8, _⟩ => ⟨S16384x1024, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x8064, .f32⟩
  | .hbm, ⟨14, _⟩ => ⟨S4x256x1024, .bf16⟩
  | .hbm, ⟨15, _⟩ => ⟨S1024x1024, .bf16⟩
  | .hbm, ⟨16, _⟩ => ⟨S16384x1024, .f32⟩
  | .hbm, ⟨17, _⟩ => ⟨S2x8192x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x4096, .f32⟩
  | .local _ .vmem, ⟨9, _⟩ => ⟨S256x4096, .f32⟩
  | .local _ .vmem, ⟨10, _⟩ => ⟨S4x256x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMergeIdeal.lean ====
abbrev S2x8192x1024 : Shape := ⟨3, ![2, 8192, 1024]⟩
abbrev S2x8192x256 : Shape := ⟨3, ![2, 8192, 256]⟩
abbrev S2x8192x8064 : Shape := ⟨3, ![2, 8192, 8064]⟩
abbrev S4x256x1024 : Shape := ⟨3, ![4, 256, 1024]⟩
abbrev S1024x1024 : Shape := ⟨2, ![1024, 1024]⟩
abbrev S2x8192x4096 : Shape := ⟨3, ![2, 8192, 4096]⟩
abbrev S2x8192x1x256 : Shape := ⟨4, ![2, 8192, 1, 256]⟩
abbrev S2x8192x4x256 : Shape := ⟨4, ![2, 8192, 4, 256]⟩
abbrev S4x1024x2x8192 : Shape := ⟨4, ![4, 1024, 2, 8192]⟩
abbrev S2x8192x4x1024 : Shape := ⟨4, ![2, 8192, 4, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x8064, .f32⟩
  | .hbm, ⟨6, _⟩ => ⟨S4x256x1024, .f32⟩
  | .hbm, ⟨7, _⟩ => ⟨S1024x1024, .f32⟩
  | .hbm, ⟨8, _⟩ => ⟨S2x8192x4096, .f32⟩
  | .hbm, ⟨9, _⟩ => ⟨S2x8192x1x256, .f32⟩
  | .hbm, ⟨10, _⟩ => ⟨S2x8192x1x256, .f32⟩
  | .hbm, ⟨11, _⟩ => ⟨S2x8192x1x256, .f32⟩
  | .hbm, ⟨12, _⟩ => ⟨S2x8192x1x256, .f32⟩
  | .hbm, ⟨13, _⟩ => ⟨S2x8192x4x256, .f32⟩
  | .hbm, ⟨14, _⟩ => ⟨S4x1024x2x8192, .f32⟩
  | .hbm, ⟨15, _⟩ => ⟨S2x8192x4x1024, .f32⟩
  | .hbm, ⟨16, _⟩ => ⟨S2x8192x4x1024, .f32⟩
  | .hbm, ⟨17, _⟩ => ⟨S2x8192x4x1024, .f32⟩
  | .hbm, ⟨18, _⟩ => ⟨S2x8192x4x1024, .f32⟩
  | .hbm, ⟨19, _⟩ => ⟨S_, .f32⟩
  | .hbm, ⟨20, _⟩ => ⟨S2x8192x4x1024, .f32⟩
  | .hbm, ⟨21, _⟩ => ⟨S2x8192x4x1024, .f32⟩
  | .hbm, ⟨22, _⟩ => ⟨S_, .f32⟩
  | .hbm, ⟨23, _⟩ => ⟨S2x8192x4x1024, .f32⟩
  | .hbm, ⟨24, _⟩ => ⟨S2x8192x4x1024, .f32⟩
  | .hbm, ⟨25, _⟩ => ⟨S2x8192x4x1024, .f32⟩
  | .hbm, ⟨26, _⟩ => ⟨S_, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== KernelInSample.lean ====
abbrev S128x1x1024 : Shape := ⟨3, ![128, 1, 1024]⟩
abbrev S1024 : Shape := ⟨1, ![1024]⟩
abbrev S1024x7980 : Shape := ⟨2, ![1024, 7980]⟩
abbrev S128x3x768 : Shape := ⟨3, ![128, 3, 768]⟩
abbrev S1024x256 : Shape := ⟨2, ![1024, 256]⟩
abbrev S1024x768 : Shape := ⟨2, ![1024, 768]⟩
abbrev S1024x4 : Shape := ⟨2, ![1024, 4]⟩
abbrev S1024x32 : Shape := ⟨2, ![1024, 32]⟩
abbrev S1024x8 : Shape := ⟨2, ![1024, 8]⟩
abbrev S1024x1024 : Shape := ⟨2, ![1024, 1024]⟩
abbrev S1024x4096 : Shape := ⟨2, ![1024, 4096]⟩
abbrev S_ : Shape := ⟨0, ![]⟩
abbrev S1024x84 : Shape := ⟨2, ![1024, 84]⟩
abbrev S1024x8064 : Shape := ⟨2, ![1024, 8064]⟩
abbrev S128x1024 : Shape := ⟨2, ![128, 1024]⟩
abbrev S1x1024 : Shape := ⟨2, ![1, 1024]⟩
abbrev S128x8064 : Shape := ⟨2, ![128, 8064]⟩
abbrev S1024x1152 : Shape := ⟨2, ![1024, 1152]⟩
abbrev S128x1152 : Shape := ⟨2, ![128, 1152]⟩
abbrev S128 : Shape := ⟨1, ![128]⟩
abbrev S128x1 : Shape := ⟨2, ![128, 1]⟩
abbrev S128x1x8064 : Shape := ⟨3, ![128, 1, 8064]⟩
abbrev S128x1x7980 : Shape := ⟨3, ![128, 1, 7980]⟩
abbrev S128x1x4096 : Shape := ⟨3, ![128, 1, 4096]⟩
abbrev S128x1x256 : Shape := ⟨3, ![128, 1, 256]⟩
abbrev S128x1x768 : Shape := ⟨3, ![128, 1, 768]⟩
abbrev S128x1x4 : Shape := ⟨3, ![128, 1, 4]⟩
abbrev S128x1x32 : Shape := ⟨3, ![128, 1, 32]⟩
abbrev S128x1x8 : Shape := ⟨3, ![128, 1, 8]⟩
abbrev S128x1x4x64 : Shape := ⟨4, ![128, 1, 4, 64]⟩
abbrev S128x4x768 : Shape := ⟨3, ![128, 4, 768]⟩

abbrev nBuf : Space → Nat
  | .hbm => 48
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x7980, .f32⟩
  | .hbm, ⟨3, _⟩ => ⟨S128x3x768, .f32⟩
  | .hbm, ⟨4, _⟩ => ⟨S1024x256, .f32⟩
  | .hbm, ⟨5, _⟩ => ⟨S1024x768, .f32⟩
  | .hbm, ⟨6, _⟩ => ⟨S1024x4, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x32, .f32⟩
  | .hbm, ⟨15, _⟩ => ⟨S1024x8, .f32⟩
  | .hbm, ⟨16, _⟩ => ⟨S1024x1024, .f32⟩
  | .hbm, ⟨17, _⟩ => ⟨S1024x4096, .f32⟩
  | .hbm, ⟨18, _⟩ => ⟨S_, .f32⟩
  | .hbm, ⟨19, _⟩ => ⟨S1024x84, .f32⟩
  | .hbm, ⟨20, _⟩ => ⟨S1024x8064, .f32⟩
  | .hbm, ⟨21, _⟩ => ⟨S128x1024, .f32⟩
  | .hbm, ⟨22, _⟩ => ⟨S1x1024, .f32⟩
  | .hbm, ⟨23, _⟩ => ⟨S1024x8064, .bf16⟩
  | .hbm, ⟨24, _⟩ => ⟨S128x8064, .f32⟩
  | .hbm, ⟨25, _⟩ => ⟨S128x1x8064, .f32⟩
  | .hbm, ⟨26, _⟩ => ⟨S128x1x7980, .f32⟩
  | .hbm, ⟨27, _⟩ => ⟨S128x1x4096, .f32⟩
  | .hbm, ⟨28, _⟩ => ⟨S128x1x1024, .f32⟩
  | .hbm, ⟨29, _⟩ => ⟨S128x1x256, .f32⟩
  | .hbm, ⟨30, _⟩ => ⟨S128x1x768, .f32⟩
  | .hbm, ⟨31, _⟩ => ⟨S128x1x256, .f32⟩
  | .hbm, ⟨32, _⟩ => ⟨S128x1x256, .f32⟩
  | .hbm, ⟨33, _⟩ => ⟨S128x1x256, .f32⟩
  | .hbm, ⟨34, _⟩ => ⟨S128x1x256, .f32⟩
  | .hbm, ⟨35, _⟩ => ⟨S128x1x256, .f32⟩
  | .hbm, ⟨36, _⟩ => ⟨S128x1x256, .f32⟩
  | .hbm, ⟨37, _⟩ => ⟨S128x1x256, .f32⟩
  | .hbm, ⟨38, _⟩ => ⟨S128x1x4, .f32⟩
  | .hbm, ⟨39, _⟩ => ⟨S128x1x32, .f32⟩
  | .hbm, ⟨40, _⟩ => ⟨S128x1x8, .f32⟩
  | .hbm, ⟨41, _⟩ => ⟨S128x1x4x64, .f32⟩
  | .hbm, ⟨42, _⟩ => ⟨S128x1x4x64, .f32⟩
  | .hbm, ⟨43, _⟩ => ⟨S128x1x4x64, .f32⟩
  | .hbm, ⟨44, _⟩ => ⟨S128x1x4x64, .f32⟩
  | .hbm, ⟨45, _⟩ => ⟨S128x4x768, .f32⟩
  | .hbm, ⟨46, _⟩ => ⟨S128x3x768, .f32⟩
  | .hbm, ⟨47, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x1152, .bf16⟩
  | .local _ .vmem, ⟨3, _⟩ => ⟨S1024x1152, .bf16⟩
  | .local _ .vmem, ⟨4, _⟩ => ⟨S128x1152, .f32⟩
  | .local _ .vmem, ⟨5, _⟩ => ⟨S128x1152, .f32⟩
  | .local _ .vmem, ⟨6, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInSampleIdeal.lean ====
abbrev S128x1x1024 : Shape := ⟨3, ![128, 1, 1024]⟩
abbrev S1024 : Shape := ⟨1, ![1024]⟩
abbrev S1024x7980 : Shape := ⟨2, ![1024, 7980]⟩
abbrev S128x3x768 : Shape := ⟨3, ![128, 3, 768]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x7980 : Shape := ⟨3, ![128, 1, 7980]⟩
abbrev S128x1x256 : Shape := ⟨3, ![128, 1, 256]⟩
abbrev S128x1x768 : Shape := ⟨3, ![128, 1, 768]⟩
abbrev S128x1x4 : Shape := ⟨3, ![128, 1, 4]⟩
abbrev S128x1x32 : Shape := ⟨3, ![128, 1, 32]⟩
abbrev S128x1x8 : Shape := ⟨3, ![128, 1, 8]⟩
abbrev S128x1x4096 : Shape := ⟨3, ![128, 1, 4096]⟩
abbrev S128x1x4x64 : Shape := ⟨4, ![128, 1, 4, 64]⟩
abbrev S128x4x768 : Shape := ⟨3, ![128, 4, 768]⟩
abbrev S128x1024 : Shape := ⟨2, ![128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x7980, .f32⟩
  | .hbm, ⟨3, _⟩ => ⟨S128x3x768, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S128x1x7980, .f32⟩
  | .hbm, ⟨21, _⟩ => ⟨S128x1x256, .f32⟩
  | .hbm, ⟨22, _⟩ => ⟨S128x1x768, .f32⟩
  | .hbm, ⟨23, _⟩ => ⟨S128x1x4, .f32⟩
  | .hbm, ⟨24, _⟩ => ⟨S128x1x256, .f32⟩
  | .hbm, ⟨25, _⟩ => ⟨S128x1x256, .f32⟩
  | .hbm, ⟨26, _⟩ => ⟨S128x1x256, .f32⟩
  | .hbm, ⟨27, _⟩ => ⟨S128x1x256, .f32⟩
  | .hbm, ⟨28, _⟩ => ⟨S128x1x256, .f32⟩
  | .hbm, ⟨29, _⟩ => ⟨S128x1x256, .f32⟩
  | .hbm, ⟨30, _⟩ => ⟨S128x1x256, .f32⟩
  | .hbm, ⟨31, _⟩ => ⟨S128x1x32, .f32⟩
  | .hbm, ⟨32, _⟩ => ⟨S128x1x8, .f32⟩
  | .hbm, ⟨33, _⟩ => ⟨S128x1x1024, .f32⟩
  | .hbm, ⟨34, _⟩ => ⟨S128x1x4096, .f32⟩
  | .hbm, ⟨35, _⟩ => ⟨S128x1x4x64, .f32⟩
  | .hbm, ⟨36, _⟩ => ⟨S128x1x4x64, .f32⟩
  | .hbm, ⟨37, _⟩ => ⟨S128x1x4x64, .f32⟩
  | .hbm, ⟨38, _⟩ => ⟨S128x1x4x64, .f32⟩
  | .hbm, ⟨39, _⟩ => ⟨S128x4x768, .f32⟩
  | .hbm, ⟨40, _⟩ => ⟨S128x3x768, .f32⟩
  | .hbm, ⟨41, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== KernelUpSample.lean ====
abbrev S128x1x1024 : Shape := ⟨3, ![128, 1, 1024]⟩
abbrev S1024 : Shape := ⟨1, ![1024]⟩
abbrev S1024x5632 : Shape := ⟨2, ![1024, 5632]⟩
abbrev S128x2x2816 : Shape := ⟨3, ![128, 2, 2816]⟩
abbrev S128x1024 : Shape := ⟨2, ![128, 1024]⟩
abbrev S1x1024 : Shape := ⟨2, ![1, 1024]⟩
abbrev S128x5632 : Shape := ⟨2, ![128, 5632]⟩
abbrev S1024x1408 : Shape := ⟨2, ![1024, 1408]⟩
abbrev S128x1408 : Shape := ⟨2, ![128, 1408]⟩
abbrev S128 : Shape := ⟨1, ![128]⟩
abbrev S128x1 : Shape := ⟨2, ![128, 1]⟩
abbrev S128x1x5632 : Shape := ⟨3, ![128, 1, 5632]⟩
abbrev S128x1x2816 : Shape := ⟨3, ![128, 1, 2816]⟩
abbrev S128x3x2816 : Shape := ⟨3, ![128, 3, 2816]⟩

abbrev nBuf : Space → Nat
  | .hbm => 13
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x5632, .f32⟩
  | .hbm, ⟨3, _⟩ => ⟨S128x2x2816, .f32⟩
  | .hbm, ⟨4, _⟩ => ⟨S128x1024, .f32⟩
  | .hbm, ⟨5, _⟩ => ⟨S1x1024, .f32⟩
  | .hbm, ⟨6, _⟩ => ⟨S1024x5632, .bf16⟩
  | .hbm, ⟨7, _⟩ => ⟨S128x5632, .f32⟩
  | .hbm, ⟨8, _⟩ => ⟨S128x1x5632, .f32⟩
  | .hbm, ⟨9, _⟩ => ⟨S128x1x2816, .f32⟩
  | .hbm, ⟨10, _⟩ => ⟨S128x1x2816, .f32⟩
  | .hbm, ⟨11, _⟩ => ⟨S128x3x2816, .f32⟩
  | .hbm, ⟨12, _⟩ => ⟨S128x2x2816, .f32⟩
  | .local _ .vmem, ⟨0, _⟩ => ⟨S128x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S128x1408, .f32⟩
  | .local _ .vmem, ⟨5, _⟩ => ⟨S128x1408, .f32⟩
  | .local _ .vmem, ⟨6, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpSampleIdeal.lean ====
abbrev S128x1x1024 : Shape := ⟨3, ![128, 1, 1024]⟩
abbrev S1024 : Shape := ⟨1, ![1024]⟩
abbrev S1024x5632 : Shape := ⟨2, ![1024, 5632]⟩
abbrev S128x2x2816 : Shape := ⟨3, ![128, 2, 2816]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x1x2816 : Shape := ⟨3, ![128, 1, 2816]⟩
abbrev S128x3x2816 : Shape := ⟨3, ![128, 3, 2816]⟩

abbrev nBuf : Space → Nat
  | .hbm => 25
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x5632, .f32⟩
  | .hbm, ⟨3, _⟩ => ⟨S128x2x2816, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S128x1x5632, .f32⟩
  | .hbm, ⟨21, _⟩ => ⟨S128x1x2816, .f32⟩
  | .hbm, ⟨22, _⟩ => ⟨S128x1x2816, .f32⟩
  | .hbm, ⟨23, _⟩ => ⟨S128x3x2816, .f32⟩
  | .hbm, ⟨24, _⟩ => ⟨S128x2x2816, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelRwkvStep.lean ====
abbrev S128x1x256 : Shape := ⟨3, ![128, 1, 256]⟩
abbrev S128x4x64x64 : Shape := ⟨4, ![128, 4, 64, 64]⟩
abbrev S128x256 : Shape := ⟨2, ![128, 256]⟩
abbrev S128x4x64x1 : Shape := ⟨4, ![128, 4, 64, 1]⟩
abbrev S128x4x1x64 : Shape := ⟨4, ![128, 4, 1, 64]⟩
abbrev S8x4x64x64 : Shape := ⟨4, ![8, 4, 64, 64]⟩
abbrev S8x4x1x64 : Shape := ⟨4, ![8, 4, 1, 64]⟩
abbrev S1x1x64x64 : Shape := ⟨4, ![1, 1, 64, 64]⟩
abbrev S64x64 : Shape := ⟨2, ![64, 64]⟩
abbrev S1x1x1x64 : Shape := ⟨4, ![1, 1, 1, 64]⟩
abbrev S1x64 : Shape := ⟨2, ![1, 64]⟩
abbrev S64 : Shape := ⟨1, ![64]⟩
abbrev S64x1 : Shape := ⟨2, ![64, 1]⟩
abbrev S8x64 : Shape := ⟨2, ![8, 64]⟩

abbrev nBuf : Space → Nat
  | .hbm => 25
  | .vmem => 18
  | .smem => 0
  | _ => 0

abbrev bufTy : (tb : Table) → Fin (tcTables nBuf tb) → BufTy
  | .hbm, ⟨0, _⟩ => ⟨S128x1x256, .f32⟩
  | .hbm, ⟨1, _⟩ => ⟨S128x1x256, .f32⟩
  | .hbm, ⟨2, _⟩ => ⟨S128x1x256, .f32⟩
  | .hbm, ⟨3, _⟩ => ⟨S128x1x256, .f32⟩
  | .hbm, ⟨4, _⟩ => ⟨S128x1x256, .f32⟩
  | .hbm, ⟨5, _⟩ => ⟨S128x1x256, .f32⟩
  | .hbm, ⟨6, _⟩ => ⟨S128x4x64x64, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .hbm, ⟨12, _⟩ => ⟨S128x1x256, .f32⟩
  | .hbm, ⟨13, _⟩ => ⟨S128x256, .f32⟩
  | .hbm, ⟨14, _⟩ => ⟨S128x4x64x1, .f32⟩
  | .hbm, ⟨15, _⟩ => ⟨S128x4x64x64, .f32⟩
  | .hbm, ⟨16, _⟩ => ⟨S128x4x1x64, .f32⟩
  | .hbm, ⟨17, _⟩ => ⟨S128x4x1x64, .f32⟩
  | .hbm, ⟨18, _⟩ => ⟨S128x4x1x64, .f32⟩
  | .hbm, ⟨19, _⟩ => ⟨S128x4x1x64, .f32⟩
  | .hbm, ⟨20, _⟩ => ⟨S128x4x1x64, .f32⟩
  | .hbm, ⟨21, _⟩ => ⟨S128x4x64x64, .f32⟩
  | .hbm, ⟨22, _⟩ => ⟨S128x4x1x64, .f32⟩
  | .hbm, ⟨23, _⟩ => ⟨S128x256, .f32⟩
  | .hbm, ⟨24, _⟩ => ⟨S128x1x256, .f32⟩
  | .local _ .vmem, ⟨0, _⟩ => ⟨S8x4x64x64, .f32⟩
  | .local _ .vmem, ⟨1, _⟩ => ⟨S8x4x64x64, .f32⟩
  | .local _ .vmem, ⟨2, _⟩ => ⟨S8x4x64x64, .f32⟩
  | .local _ .vmem, ⟨3, _⟩ => ⟨S8x4x64x64, .f32⟩
  | .local _ .vmem, ⟨4, _⟩ => ⟨S8x4x1x64, .f32⟩
  | .local _ .vmem, ⟨5, _⟩ => ⟨S8x4x1x64, .f32⟩
  | .local _ .vmem, ⟨6, _⟩ => ⟨S8x4x1x64, .f32⟩
  | .local _ .vmem, ⟨7, _⟩ => ⟨S8x4x1x64, .f32⟩
  | .local _ .vmem, ⟨8, _⟩ => ⟨S8x4x1x64, .f32⟩
  | .local _ .vmem, ⟨9, _⟩ => ⟨S8x4x1x64, .f32⟩
  | .local _ .vmem, ⟨10, _⟩ => ⟨S8x4x1x64, .f32⟩
  | .local _ .vmem, ⟨11, _⟩ => ⟨S8x4x1x64, .f32⟩
  | .local _ .vmem, ⟨12, _⟩ => ⟨S8x4x1x64, .f32⟩
  | .local _ .vmem, ⟨13, _⟩ => ⟨S8x4x1x64, .f32⟩
  | .local _ .vmem, ⟨14, _⟩ => ⟨S8x4x64x64, .f32⟩
  | .local _ .vmem, ⟨15, _⟩ => ⟨S8x4x64x64, .f32⟩
  | .local _ .vmem, ⟨16, _⟩ => ⟨S8x4x1x64, .f32⟩
  | .local _ .vmem, ⟨17, _⟩ => ⟨S8x4x1x64, .f32⟩
  | _, _ => ⟨S128x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceRwkvStepIdeal.lean ====
abbrev S128x1x256 : Shape := ⟨3, ![128, 1, 256]⟩
abbrev S128x4x64x64 : Shape := ⟨4, ![128, 4, 64, 64]⟩
abbrev S128x1x4x64 : Shape := ⟨4, ![128, 1, 4, 64]⟩
abbrev S128x4x64 : Shape := ⟨3, ![128, 4, 64]⟩
abbrev S128x4x1x64 : Shape := ⟨4, ![128, 4, 1, 64]⟩
abbrev S128x4x64x1 : Shape := ⟨4, ![128, 4, 64, 1]⟩

abbrev nBuf : Space → Nat
  | .hbm => 39
  | .vmem => 0
  | .smem => 0
  | _ => 0

abbrev bufTy : (tb : Table) → Fin (tcTables nBuf tb) → BufTy
  | .hbm, ⟨0, _⟩ => ⟨S128x1x256, .f32⟩
  | .hbm, ⟨1, _⟩ => ⟨S128x1x256, .f32⟩
  | .hbm, ⟨2, _⟩ => ⟨S128x1x256, .f32⟩
  | .hbm, ⟨3, _⟩ => ⟨S128x1x256, .f32⟩
  | .hbm, ⟨4, _⟩ => ⟨S128x1x256, .f32⟩
  | .hbm, ⟨5, _⟩ => ⟨S128x1x256, .f32⟩
  | .hbm, ⟨6, _⟩ => ⟨S128x4x64x64, .f32⟩
  | .hbm, ⟨7, _⟩ => ⟨S128x1x4x64, .f32⟩
  | .hbm, ⟨8, _⟩ => ⟨S128x4x64, .f32⟩
  | .hbm, ⟨9, _⟩ => ⟨S128x1x4x64, .f32⟩
  | .hbm, ⟨10, _⟩ => ⟨S128x4x64, .f32⟩
  | .hbm, ⟨11, _⟩ => ⟨S128x1x4x64, .f32⟩
  | .hbm, ⟨12, _⟩ => ⟨S128x4x64, .f32⟩
  | .hbm, ⟨13, _⟩ => ⟨S128x1x4x64, .f32⟩
  | .hbm, ⟨14, _⟩ => ⟨S128x4x64, .f32⟩
  | .hbm, ⟨15, _⟩ => ⟨S128x1x4x64, .f32⟩
  | .hbm, ⟨16, _⟩ => ⟨S128x4x64, .f32⟩
  | .hbm, ⟨17, _⟩ => ⟨S128x1x4x64, .f32⟩
  | .hbm, ⟨18, _⟩ => ⟨S128x4x64, .f32⟩
  | .hbm, ⟨19, _⟩ => ⟨S128x4x64, .f32⟩
  | .hbm, ⟨20, _⟩ => ⟨S128x4x64, .f32⟩
  | .hbm, ⟨21, _⟩ => ⟨S128x4x1x64, .f32⟩
  | .hbm, ⟨22, _⟩ => ⟨S128x4x64x64, .f32⟩
  | .hbm, ⟨23, _⟩ => ⟨S128x4x64x64, .f32⟩
  | .hbm, ⟨24, _⟩ => ⟨S128x4x64x1, .f32⟩
  | .hbm, ⟨25, _⟩ => ⟨S128x4x64, .f32⟩
  | .hbm, ⟨26, _⟩ => ⟨S128x4x1x64, .f32⟩
  | .hbm, ⟨27, _⟩ => ⟨S128x4x64x64, .f32⟩
  | .hbm, ⟨28, _⟩ => ⟨S128x4x64x64, .f32⟩
  | .hbm, ⟨29, _⟩ => ⟨S128x4x64x64, .f32⟩
  | .hbm, ⟨30, _⟩ => ⟨S128x4x64x64, .f32⟩
  | .hbm, ⟨31, _⟩ => ⟨S128x4x64x1, .f32⟩
  | .hbm, ⟨32, _⟩ => ⟨S128x4x1x64, .f32⟩
  | .hbm, ⟨33, _⟩ => ⟨S128x4x64x64, .f32⟩
  | .hbm, ⟨34, _⟩ => ⟨S128x4x64x64, .f32⟩
  | .hbm, ⟨35, _⟩ => ⟨S128x4x64x64, .f32⟩
  | .hbm, ⟨36, _⟩ => ⟨S128x4x64x64, .f32⟩
  | .hbm, ⟨37, _⟩ => ⟨S128x4x64, .f32⟩
  | .hbm, ⟨38, _⟩ => ⟨S128x1x256, .f32⟩
  | _, _ => ⟨S128x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== KernelSsdStep.lean ====
abbrev S128x1x256 : Shape := ⟨3, ![128, 1, 256]⟩
abbrev S128x1x4 : Shape := ⟨3, ![128, 1, 4]⟩
abbrev S4 : Shape := ⟨1, ![4]⟩
abbrev S128x4x64x128 : Shape := ⟨4, ![128, 4, 64, 128]⟩
abbrev S128x256 : Shape := ⟨2, ![128, 256]⟩
abbrev S128x4 : Shape := ⟨2, ![128, 4]⟩
abbrev S128x4x64 : Shape := ⟨3, ![128, 4, 64]⟩
abbrev S128x4x1 : Shape := ⟨3, ![128, 4, 1]⟩
abbrev S128x4x64x1 : Shape := ⟨4, ![128, 4, 64, 1]⟩
abbrev S1x4 : Shape := ⟨2, ![1, 4]⟩
abbrev S128x4x1x1 : Shape := ⟨4, ![128, 4, 1, 1]⟩
abbrev S128x4x1x128 : Shape := ⟨4, ![128, 4, 1, 128]⟩
abbrev S128x2x1x128 : Shape := ⟨4, ![128, 2, 1, 128]⟩
abbrev S128x2x2x1x128 : Shape := ⟨5, ![128, 2, 2, 1, 128]⟩
abbrev S128x4x1x64 : Shape := ⟨4, ![128, 4, 1, 64]⟩
abbrev S8x4x64x128 : Shape := ⟨4, ![8, 4, 64, 128]⟩
abbrev S8x4x1x128 : Shape := ⟨4, ![8, 4, 1, 128]⟩
abbrev S8x4x1x64 : Shape := ⟨4, ![8, 4, 1, 64]⟩
abbrev S1x1x64x128 : Shape := ⟨4, ![1, 1, 64, 128]⟩
abbrev S64x128 : Shape := ⟨2, ![64, 128]⟩
abbrev S1x1x1x128 : Shape := ⟨4, ![1, 1, 1, 128]⟩
abbrev S1x128 : Shape := ⟨2, ![1, 128]⟩
abbrev S8x128 : Shape := ⟨2, ![8, 128]⟩
abbrev S8x64 : Shape := ⟨2, ![8, 64]⟩
abbrev S1x64 : Shape := ⟨2, ![1, 64]⟩
abbrev S1x1x1x64 : Shape := ⟨4, ![1, 1, 1, 64]⟩

abbrev nBuf : Space → Nat
  | .hbm => 31
  | .vmem => 14
  | .smem => 0
  | _ => 0

abbrev bufTy : (tb : Table) → Fin (tcTables nBuf tb) → BufTy
  | .hbm, ⟨0, _⟩ => ⟨S128x1x256, .f32⟩
  | .hbm, ⟨1, _⟩ => ⟨S128x1x4, .f32⟩
  | .hbm, ⟨2, _⟩ => ⟨S4, .f32⟩
  | .hbm, ⟨3, _⟩ => ⟨S128x1x256, .f32⟩
  | .hbm, ⟨4, _⟩ => ⟨S128x1x256, .f32⟩
  | .hbm, ⟨5, _⟩ => ⟨S128x4x64x128, .f32⟩
  | .hbm, ⟨6, _⟩ => ⟨S128x256, .f32⟩
  | .hbm, ⟨7, _⟩ => ⟨S128x4, .f32⟩
  | .hbm, ⟨8, _⟩ => ⟨S128x256, .f32⟩
  | .hbm, ⟨9, _⟩ => ⟨S128x256, .f32⟩
  | .hbm, ⟨10, _⟩ => ⟨S128x4x64, .f32⟩
  | .hbm, ⟨11, _⟩ => ⟨S128x4x1, .f32⟩
  | .hbm, ⟨12, _⟩ => ⟨S128x4x64, .f32⟩
  | .hbm, ⟨13, _⟩ => ⟨S128x4x64, .f32⟩
  | .hbm, ⟨14, _⟩ => ⟨S128x4x64x1, .f32⟩
  | .hbm, ⟨15, _⟩ => ⟨S128x4x64x128, .f32⟩
  | .hbm, ⟨16, _⟩ => ⟨S1x4, .f32⟩
  | .hbm, ⟨17, _⟩ => ⟨S128x4, .f32⟩
  | .hbm, ⟨18, _⟩ => ⟨S128x4, .f32⟩
  | .hbm, ⟨19, _⟩ => ⟨S128x4x1x1, .f32⟩
  | .hbm, ⟨20, _⟩ => ⟨S128x4x1x128, .f32⟩
  | .hbm, ⟨21, _⟩ => ⟨S128x2x1x128, .f32⟩
  | .hbm, ⟨22, _⟩ => ⟨S128x2x2x1x128, .f32⟩
  | .hbm, ⟨23, _⟩ => ⟨S128x4x1x128, .f32⟩
  | .hbm, ⟨24, _⟩ => ⟨S128x2x1x128, .f32⟩
  | .hbm, ⟨25, _⟩ => ⟨S128x2x2x1x128, .f32⟩
  | .hbm, ⟨26, _⟩ => ⟨S128x4x1x128, .f32⟩
  | .hbm, ⟨27, _⟩ => ⟨S128x4x64x128, .f32⟩
  | .hbm, ⟨28, _⟩ => ⟨S128x4x1x64, .f32⟩
  | .hbm, ⟨29, _⟩ => ⟨S128x256, .f32⟩
  | .hbm, ⟨30, _⟩ => ⟨S128x1x256, .f32⟩
  | .local _ .vmem, ⟨0, _⟩ => ⟨S8x4x64x128, .f32⟩
  | .local _ .vmem, ⟨1, _⟩ => ⟨S8x4x64x128, .f32⟩
  | .local _ .vmem, ⟨2, _⟩ => ⟨S8x4x64x128, .f32⟩
  | .local _ .vmem, ⟨3, _⟩ => ⟨S8x4x64x128, .f32⟩
  | .local _ .vmem, ⟨4, _⟩ => ⟨S8x4x1x128, .f32⟩
  | .local _ .vmem, ⟨5, _⟩ => ⟨S8x4x1x128, .f32⟩
  | .local _ .vmem, ⟨6, _⟩ => ⟨S8x4x1x128, .f32⟩
  | .local _ .vmem, ⟨7, _⟩ => ⟨S8x4x1x128, .f32⟩
  | .local _ .vmem, ⟨8, _⟩ => ⟨S8x4x1x128, .f32⟩
  | .local _ .vmem, ⟨9, _⟩ => ⟨S8x4x1x128, .f32⟩
  | .local _ .vmem, ⟨10, _⟩ => ⟨S8x4x64x128, .f32⟩
  | .local _ .vmem, ⟨11, _⟩ => ⟨S8x4x64x128, .f32⟩
  | .local _ .vmem, ⟨12, _⟩ => ⟨S8x4x1x64, .f32⟩
  | .local _ .vmem, ⟨13, _⟩ => ⟨S8x4x1x64, .f32⟩
  | _, _ => ⟨S128x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceSsdStepIdeal.lean ====
abbrev S128x1x256 : Shape := ⟨3, ![128, 1, 256]⟩
abbrev S128x1x4 : Shape := ⟨3, ![128, 1, 4]⟩
abbrev S4 : Shape := ⟨1, ![4]⟩
abbrev S128x4x64x128 : Shape := ⟨4, ![128, 4, 64, 128]⟩
abbrev S128x1x4x64 : Shape := ⟨4, ![128, 1, 4, 64]⟩
abbrev S128x1x2x128 : Shape := ⟨4, ![128, 1, 2, 128]⟩
abbrev S128x1x2x2x128 : Shape := ⟨5, ![128, 1, 2, 2, 128]⟩
abbrev S128x1x4x128 : Shape := ⟨4, ![128, 1, 4, 128]⟩
abbrev S128x1x1x4x128 : Shape := ⟨5, ![128, 1, 1, 4, 128]⟩
abbrev S128x1x4x1 : Shape := ⟨4, ![128, 1, 4, 1]⟩
abbrev S128x1x1x4x64 : Shape := ⟨5, ![128, 1, 1, 4, 64]⟩
abbrev S1x1x4 : Shape := ⟨3, ![1, 1, 4]⟩
abbrev S128x1x1x4 : Shape := ⟨4, ![128, 1, 1, 4]⟩
abbrev S128x4x1x1 : Shape := ⟨4, ![128, 4, 1, 1]⟩
abbrev S_ : Shape := ⟨0, ![]⟩
abbrev S128x4x1x1x1 : Shape := ⟨5, ![128, 4, 1, 1, 1]⟩
abbrev S1x1 : Shape := ⟨2, ![1, 1]⟩
abbrev S128x1x4x64x1 : Shape := ⟨5, ![128, 1, 4, 64, 1]⟩
abbrev S128x1x1x4x1 : Shape := ⟨5, ![128, 1, 1, 4, 1]⟩
abbrev S128x1x4x64x128 : Shape := ⟨5, ![128, 1, 4, 64, 128]⟩
abbrev S128x2x4x64x128 : Shape := ⟨5, ![128, 2, 4, 64, 128]⟩
abbrev S128x4x1 : Shape := ⟨3, ![128, 4, 1]⟩
abbrev S128x4x2 : Shape := ⟨3, ![128, 4, 2]⟩
abbrev S128x4x2x1 : Shape := ⟨4, ![128, 4, 2, 1]⟩
abbrev S128x4x1x2 : Shape := ⟨4, ![128, 4, 1, 2]⟩
abbrev S128x4x2x2 : Shape := ⟨4, ![128, 4, 2, 2]⟩
abbrev S2x2 : Shape := ⟨2, ![2, 2]⟩
abbrev S128x4x64x128x2 : Shape := ⟨5, ![128, 4, 64, 128, 2]⟩

abbrev nBuf : Space → Nat
  | .hbm => 106
  | .vmem => 0
  | .smem => 0
  | _ => 0

abbrev bufTy : (tb : Table) → Fin (tcTables nBuf tb) → BufTy
  | .hbm, ⟨0, _⟩ => ⟨S128x1x256, .f32⟩
  | .hbm, ⟨1, _⟩ => ⟨S128x1x4, .f32⟩
  | .hbm, ⟨2, _⟩ => ⟨S4, .f32⟩
  | .hbm, ⟨3, _⟩ => ⟨S128x1x256, .f32⟩
  | .hbm, ⟨4, _⟩ => ⟨S128x1x256, .f32⟩
  | .hbm, ⟨5, _⟩ => ⟨S128x4x64x128, .f32⟩
  | .hbm, ⟨6, _⟩ => ⟨S128x1x4x64, .f32⟩
  | .hbm, ⟨7, _⟩ => ⟨S128x1x2x128, .f32⟩
  | .hbm, ⟨8, _⟩ => ⟨S128x1x2x128, .f32⟩
  | .hbm, ⟨9, _⟩ => ⟨S128x1x2x2x128, .f32⟩
  | .hbm, ⟨10, _⟩ => ⟨S128x1x4x128, .f32⟩
  | .hbm, ⟨11, _⟩ => ⟨S128x1x1x4x128, .f32⟩
  | .hbm, ⟨12, _⟩ => ⟨S128x1x2x2x128, .f32⟩
  | .hbm, ⟨13, _⟩ => ⟨S128x1x4x128, .f32⟩
  | .hbm, ⟨14, _⟩ => ⟨S128x1x1x4x128, .f32⟩
  | .hbm, ⟨15, _⟩ => ⟨S128x1x4x1, .f32⟩
  | .hbm, ⟨16, _⟩ => ⟨S128x1x4x64, .f32⟩
  | .hbm, ⟨17, _⟩ => ⟨S128x1x4x64, .f32⟩
  | .hbm, ⟨18, _⟩ => ⟨S128x1x1x4x64, .f32⟩
  | .hbm, ⟨19, _⟩ => ⟨S1x1x4, .f32⟩
  | .hbm, ⟨20, _⟩ => ⟨S128x1x4, .f32⟩
  | .hbm, ⟨21, _⟩ => ⟨S128x1x4, .f32⟩
  | .hbm, ⟨22, _⟩ => ⟨S128x1x1x4, .f32⟩
  | .hbm, ⟨23, _⟩ => ⟨S128x4x1x1, .f32⟩
  | .hbm, ⟨24, _⟩ => ⟨S_, .f32⟩
  | .hbm, ⟨25, _⟩ => ⟨S_, .f32⟩
  | .hbm, ⟨26, _⟩ => ⟨S128x4x1x1, .f32⟩
  | .hbm, ⟨27, _⟩ => ⟨S128x4x1x1x1, .f32⟩
  | .hbm, ⟨28, _⟩ => ⟨S_, .f32⟩
  | .hbm, ⟨29, _⟩ => ⟨S_, .f32⟩
  | .hbm, ⟨30, _⟩ => ⟨S128x4x1x1, .f32⟩
  | .hbm, ⟨31, _⟩ => ⟨S128x4x1x1x1, .f32⟩
  | .hbm, ⟨32, _⟩ => ⟨S128x4x1x1x1, .f32⟩
  | .hbm, ⟨33, _⟩ => ⟨S128x4x1x1x1, .f32⟩
  | .hbm, ⟨34, _⟩ => ⟨S_, .i1⟩
  | .hbm, ⟨35, _⟩ => ⟨S1x1, .i1⟩
  | .hbm, ⟨36, _⟩ => ⟨S1x1, .i32⟩
  | .hbm, ⟨37, _⟩ => ⟨S_, .i32⟩
  | .hbm, ⟨38, _⟩ => ⟨S1x1, .i32⟩
  | .hbm, ⟨39, _⟩ => ⟨S1x1, .i32⟩
  | .hbm, ⟨40, _⟩ => ⟨S1x1, .i32⟩
  | .hbm, ⟨41, _⟩ => ⟨S1x1, .i1⟩
  | .hbm, ⟨42, _⟩ => ⟨S_, .i1⟩
  | .hbm, ⟨43, _⟩ => ⟨S1x1, .i1⟩
  | .hbm, ⟨44, _⟩ => ⟨S1x1, .i1⟩
  | .hbm, ⟨45, _⟩ => ⟨S_, .f32⟩
  | .hbm, ⟨46, _⟩ => ⟨S_, .f32⟩
  | .hbm, ⟨47, _⟩ => ⟨S128x4x1x1x1, .i1⟩
  | .hbm, ⟨48, _⟩ => ⟨S128x4x1x1x1, .f32⟩
  | .hbm, ⟨49, _⟩ => ⟨S128x4x1x1x1, .f32⟩
  | .hbm, ⟨50, _⟩ => ⟨S128x4x1x1x1, .f32⟩
  | .hbm, ⟨51, _⟩ => ⟨S128x4x1x1x1, .f32⟩
  | .hbm, ⟨52, _⟩ => ⟨S128x1x4x64x1, .f32⟩
  | .hbm, ⟨53, _⟩ => ⟨S128x1x1x4x64, .f32⟩
  | .hbm, ⟨54, _⟩ => ⟨S128x4x1x1, .f32⟩
  | .hbm, ⟨55, _⟩ => ⟨S128x4x1x1, .f32⟩
  | .hbm, ⟨56, _⟩ => ⟨S128x1x1x4, .f32⟩
  | .hbm, ⟨57, _⟩ => ⟨S128x1x1x4x1, .f32⟩
  | .hbm, ⟨58, _⟩ => ⟨S128x1x1x4x64, .f32⟩
  | .hbm, ⟨59, _⟩ => ⟨S128x1x1x4x64, .f32⟩
  | .hbm, ⟨60, _⟩ => ⟨S128x1x4x64x128, .f32⟩
  | .hbm, ⟨61, _⟩ => ⟨S128x1x4x64x128, .f32⟩
  | .hbm, ⟨62, _⟩ => ⟨S128x2x4x64x128, .f32⟩
  | .hbm, ⟨63, _⟩ => ⟨S128x4x1, .f32⟩
  | .hbm, ⟨64, _⟩ => ⟨S_, .i32⟩
  | .hbm, ⟨65, _⟩ => ⟨S_, .f32⟩
  | .hbm, ⟨66, _⟩ => ⟨S128x4x2, .f32⟩
  | .hbm, ⟨67, _⟩ => ⟨S_, .f32⟩
  | .hbm, ⟨68, _⟩ => ⟨S_, .f32⟩
  | .hbm, ⟨69, _⟩ => ⟨S128x4x2, .f32⟩
  | .hbm, ⟨70, _⟩ => ⟨S128x4x2x1, .f32⟩
  | .hbm, ⟨71, _⟩ => ⟨S128x4x1x2, .f32⟩
  | .hbm, ⟨72, _⟩ => ⟨S128x4x2x2, .f32⟩
  | .hbm, ⟨73, _⟩ => ⟨S128x4x2x2, .f32⟩
  | .hbm, ⟨74, _⟩ => ⟨S128x4x2x2, .f32⟩
  | .hbm, ⟨75, _⟩ => ⟨S_, .i1⟩
  | .hbm, ⟨76, _⟩ => ⟨S2x2, .i1⟩
  | .hbm, ⟨77, _⟩ => ⟨S2x2, .i32⟩
  | .hbm, ⟨78, _⟩ => ⟨S_, .i32⟩
  | .hbm, ⟨79, _⟩ => ⟨S2x2, .i32⟩
  | .hbm, ⟨80, _⟩ => ⟨S2x2, .i32⟩
  | .hbm, ⟨81, _⟩ => ⟨S2x2, .i32⟩
  | .hbm, ⟨82, _⟩ => ⟨S2x2, .i1⟩
  | .hbm, ⟨83, _⟩ => ⟨S_, .i1⟩
  | .hbm, ⟨84, _⟩ => ⟨S2x2, .i1⟩
  | .hbm, ⟨85, _⟩ => ⟨S2x2, .i1⟩
  | .hbm, ⟨86, _⟩ => ⟨S_, .f32⟩
  | .hbm, ⟨87, _⟩ => ⟨S_, .f32⟩
  | .hbm, ⟨88, _⟩ => ⟨S128x4x2x2, .i1⟩
  | .hbm, ⟨89, _⟩ => ⟨S128x4x2x2, .f32⟩
  | .hbm, ⟨90, _⟩ => ⟨S128x4x2x2, .f32⟩
  | .hbm, ⟨91, _⟩ => ⟨S128x4x2x2, .f32⟩
  | .hbm, ⟨92, _⟩ => ⟨S128x4x64x128x2, .f32⟩
  | .hbm, ⟨93, _⟩ => ⟨S128x2x4x64x128, .f32⟩
  | .hbm, ⟨94, _⟩ => ⟨S128x1x4x64x128, .f32⟩
  | .hbm, ⟨95, _⟩ => ⟨S128x1x4x64x1, .f32⟩
  | .hbm, ⟨96, _⟩ => ⟨S128x1x1x4x64, .f32⟩
  | .hbm, ⟨97, _⟩ => ⟨S128x4x1x1, .f32⟩
  | .hbm, ⟨98, _⟩ => ⟨S128x1x1x4, .f32⟩
  | .hbm, ⟨99, _⟩ => ⟨S128x1x1x4x1, .f32⟩
  | .hbm, ⟨100, _⟩ => ⟨S128x1x1x4x64, .f32⟩
  | .hbm, ⟨101, _⟩ => ⟨S128x1x1x4x64, .f32⟩
  | .hbm, ⟨102, _⟩ => ⟨S128x1x1x4x64, .f32⟩
  | .hbm, ⟨103, _⟩ => ⟨S128x1x256, .f32⟩
  | .hbm, ⟨104, _⟩ => ⟨S128x1x4x64x128, .f32⟩
  | .hbm, ⟨105, _⟩ => ⟨S128x4x64x128, .f32⟩
  | _, _ => ⟨S128x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_call0_cst : Ref sig .tc := ⟨.hbm, 24, rfl⟩
abbrev main_call0_call0_v0 : Ref sig .tc := ⟨.hbm, 25, rfl⟩
abbrev main_v18 : Ref sig .tc := ⟨.hbm, 26, rfl⟩
abbrev main_v19 : Ref sig .tc := ⟨.hbm, 27, rfl⟩
abbrev main_call1_call0_cst : Ref sig .tc := ⟨.hbm, 28, rfl⟩
abbrev main_call1_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_c_0 : Ref sig .tc := ⟨.hbm, 42, rfl⟩
abbrev main_call2_v5 : Ref sig .tc := ⟨.hbm, 43, rfl⟩
abbrev main_v25 : Ref sig .tc := ⟨.hbm, 44, rfl⟩
abbrev main_cst : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_0 : Ref sig .tc := ⟨.hbm, 64, rfl⟩
abbrev main_call4_v0 : Ref sig .tc := ⟨.hbm, 65, rfl⟩
abbrev main_v41 : Ref sig .tc := ⟨.hbm, 66, rfl⟩
abbrev main_call5_call0_cst : Ref sig .tc := ⟨.hbm, 67, rfl⟩
abbrev main_call5_call0_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_1 : Ref sig .tc := ⟨.hbm, 75, rfl⟩
abbrev main_v48 : Ref sig .tc := ⟨.hbm, 76, rfl⟩
abbrev main_call6_v0 : Ref sig .tc := ⟨.hbm, 77, rfl⟩
abbrev main_call6_c : Ref sig .tc := ⟨.hbm, 78, rfl⟩
abbrev main_call6_v1 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_call6_c_0 : Ref sig .tc := ⟨.hbm, 83, rfl⟩
abbrev main_call6_v5 : Ref sig .tc := ⟨.hbm, 84, rfl⟩
abbrev main_v49 : Ref sig .tc := ⟨.hbm, 85, rfl⟩
abbrev main_cst_2 : Ref sig .tc := ⟨.hbm, 86, rfl⟩
abbrev main_call7_v0 : Ref sig .tc := ⟨.hbm, 87, rfl⟩
abbrev main_call7_v1 : Ref sig .tc := ⟨.hbm, 88, rfl⟩
abbrev main_call7_v2 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩

abbrev nD : Nat := 1
abbrev τ : Topo := Topo.v7x

variable {F : FTy → Type} [FloatOps F]
-- ==== Proof.Rwkv.Step.lean ====
/- One time step of the recurrence as the kernel's body takes it, written once.

   The body works on chunks of 128 positions and takes the positions of a chunk one by one, eight to
   a trip of its loop. A state is four tiles of `64 × 128`: tile `2 b + p` holds, for batch entry `b`,
   the heads `2 p` and `2 p + 1` side by side. This module names the values one step computes (over any
   float type) and the sequence of memory operations it performs, and states that one trip of the
   printed loop is eight such steps over the rows it loads. -/
module

public import proofs.«01_k».proof.Proof.Gen.KernelIdeal.Loops

@[expose] public section

noncomputable section

namespace Cert.KernelIdeal.Rwkv

open Idealize.ShloMosaic Idealize.ShloMosaic.TcCoe
open Idealize.SL.Sem
open Cert.KernelIdeal.Gen

variable {F : FTy → Type} [FloatOps F]

/-- The eight rows of one trip that a tile reads: the receptance, decay, key, removal key times rate,
    the decay times the next removal key, and the two head sums that carry the removal one step ahead. -/
structure Rows (F : FTy → Type) where
  /-- the receptance -/
  r : FVec F S8x128 .f32
  /-- the decay -/
  w : FVec F S8x128 .f32
  /-- the key -/
  k : FVec F S8x128 .f32
  /-- the removal key times the rate -/
  p : FVec F S8x128 .f32
  /-- the decay times the next position's removal key -/
  g : FVec F S8x128 .f32
  /-- the head sum of the removal key times the rate with the next removal key -/
  c : FVec F S8x128 .f32
  /-- the head sum of the key with the next removal key -/
  d : FVec F S8x128 .f32

theorem slices_row (j : ℕ) (hj : j < 8) : S8x128.Slices ![j, 0] S1x128 :=
  ⟨rfl, fun a => by fin_cases a <;> simp [Shape.size] <;> omega⟩

theorem slices_tile128 (i : ℕ) (hi : i < 4) : S256x128.Slices ![64 * i, 0] S64x128 :=
  ⟨rfl, fun a => by fin_cases a <;> simp [Shape.size] <;> omega⟩

theorem slices_tile256 (i : ℕ) (hi : i < 4) : S256x256.Slices ![64 * i, 0] S64x256 :=
  ⟨rfl, fun a => by fin_cases a <;> simp [Shape.size] <;> omega⟩

theorem slices_half (o : ℕ) (ho : o ≤ 128) : S64x256.Slices ![0, o] S64x128 :=
  ⟨rfl, fun a => by fin_cases a <;> simp [Shape.size] <;> omega⟩

theorem inb_state (i : ℕ) (hi : i < 4) : ∀ a, (![i, 0, 0] : Fin 3 → ℕ) a + S1x64x128.size a ≤ S4x64x128.size a := by
  intro a; fin_cases a <;> simp [Shape.size]; omega

theorem inb_half (i h : ℕ) (hi : i < 4) (hh : h ≤ 64) :
    ∀ a, (![i, h, 0] : Fin 3 → ℕ) a + S1x64x128.size a ≤ S4x128x128.size a := by
  intro a; fin_cases a <;> simp [Shape.size] <;> omega

/-! ## The values -/

/-- Row `j` of a trip's block, laid along the 64 sublanes of a tile. -/
def row (j : ℕ) (hj : j < 8) (x : FVec F S8x128 .f32) : FVec F S64x128 .f32 :=
  broadcastTo S64x128 (extractStridedSlice S1x128 ![j, 0] x (slices_row j hj)) broadcasts_S1x128_S64x128

/-- A tile beside what its rounding to sixteen bits leaves. -/
def pair (u : FVec F S64x128 .f32) : FVec F S64x256 .bf16 :=
  concatenate S64x256 1 [⟨S64x128, truncf .bf16 u bitsLt_bf16_f32⟩,
    ⟨S64x128, truncf .bf16 (subf u (extf .f32 (truncf .bf16 u bitsLt_bf16_f32) bitsLt_bf16_f32)) bitsLt_bf16_f32⟩]
    concatenates_S64x128_S64x128_S64x256_d1

/-- The four tiles' sums over each head's keys, all four in one product with the matrix of head blocks. -/
def headSums (ones : FVec F S256x128 .bf16) (u0 u1 u2 u3 : FVec F S64x128 .f32) : FVec F S256x128 .f32 :=
  matmul dot_S256x256_S256x128_S256x128_1_0_0_1_n_n none
    (concatenate S256x256 0 [⟨S64x256, pair u0⟩, ⟨S64x256, pair u1⟩, ⟨S64x256, pair u2⟩, ⟨S64x256, pair u3⟩]
      concatenates_S64x256_S64x256_S64x256_S64x256_S256x256_d0)
    ones (constant S256x128 .f32 0x00000000#32)

/-- Tile `i` of the four stacked ones. -/
def tile (i : ℕ) (hi : i < 4) (x : FVec F S256x128 .f32) : FVec F S64x128 .f32 :=
  extractStridedSlice S64x128 ![64 * i, 0] x (slices_tile128 i hi)

/-- The mask of the lane that is position `j` after `base`. -/
def laneIs (lane : IVec S1x128 32) (base : BitVec 32) (j : ℕ) : IVec S1x128 1 :=
  cmpi .eq lane (broadcast S1x128 (Scalar.addi base (BitVec.ofNat 32 j)))

/-- That mask along the 64 sublanes. -/
def laneMask (m : IVec S1x128 1) : IVec S64x128 1 :=
  broadcastTo S64x128 (shapeCast S1x128 m shapeCasts_S1x128_S1x128) broadcasts_S1x128_S64x128

/-- The one masked column of a block of transposed values. -/
def column (m : IVec S1x128 1) (x : Vec F S1x64x128 .f32) : FVec F S64x1 .f32 :=
  shapeCast S64x1 (multiReduction .add [1] S64
    (select (laneMask m) (shapeCast S64x128 x shapeCasts_S1x64x128_S64x128)
      (broadcast S64x128 (Scalar.ofBits .f32 0x00000000#32) : FVec F S64x128 .f32))
    0x00000000#32 reduces_S64x128_S64 (.inl rfl) rfl) shapeCasts_S64_S64x1

/-- The columns of a tile's two heads, each along its head's lanes. -/
def values (half : IVec S64x128 1) (x y : FVec F S64x1 .f32) : FVec F S64x128 .f32 :=
  select half
    (broadcastTo S64x128 (shapeCast S64x1 x shapeCasts_S64x1_S64x1) broadcasts_S64x1_S64x128)
    (broadcastTo S64x128 (shapeCast S64x1 y shapeCasts_S64x1_S64x1) broadcasts_S64x1_S64x128)

/-- The next state of a tile. -/
def nextState (j : ℕ) (hj : j < 8) (b : Rows F) (s z v : FVec F S64x128 .f32) : FVec F S64x128 .f32 :=
  addf (subf (mulf s (row j hj b.w)) (mulf z (row j hj b.p))) (mulf v (row j hj b.k))

/-- What the next step removes from a tile, of the head sums taken ahead of it. -/
def nextRemoval (j : ℕ) (hj : j < 8) (b : Rows F) (ahead z v : FVec F S64x128 .f32) : FVec F S64x128 .f32 :=
  addf (subf ahead (mulf z (row j hj b.c))) (mulf v (row j hj b.d))

/-- A tile's state times the receptance, rounded. -/
def readOut (j : ℕ) (hj : j < 8) (b : Rows F) (s : FVec F S64x128 .f32) : FVec F S64x128 .bf16 :=
  truncf .bf16 (mulf s (row j hj b.r)) bitsLt_bf16_f32

/-- The four tiles' outputs, in one product. -/
def outSums (ones : FVec F S128x256 .bf16) (y0 y1 y2 y3 : FVec F S64x128 .bf16) : FVec F S256x256 .f32 :=
  matmul dot_S256x128_S128x256_S256x256_1_0_0_1_n_n none
    (concatenate S256x128 0 [⟨S64x128, y0⟩, ⟨S64x128, y1⟩, ⟨S64x128, y2⟩, ⟨S64x128, y3⟩]
      concatenates_S64x128_S64x128_S64x128_S64x128_S256x128_d0)
    ones (constant S256x256 .f32 0x00000000#32)

/-- The half of tile `i`'s outputs that starts at lane `o`. -/
def outHalf (i o : ℕ) (hi : i < 4) (ho : o ≤ 128) (x : FVec F S256x256 .f32) : FVec F S64x128 .f32 :=
  extractStridedSlice S64x128 ![0, o] (extractStridedSlice S64x256 ![64 * i, 0] x (slices_tile256 i hi)) (slices_half o ho)

/-! ## The operations -/

/-- Load tile `i` of a state buffer. -/
def loadState (m : Memref sig .tc .vmem S4x64x128 .f32) (i : ℕ) (hi : i < 4) :
    Prog (TpuEff nD τ sig (Elt F) Λ₀ .tc) (FVec F S64x128 .f32) := do
  let x : Vec F S1x64x128 .f32 ← Prog.lift (.load m (Rect.unit (s := S4x64x128) ![i, 0, 0] S1x64x128.size (inb_state i hi)).toLoadRect (View.loadsAt_vmem h_S1x64x128))
  pure (shapeCast S64x128 x shapeCasts_S1x64x128_S64x128)

/-- Store tile `i` of a state buffer, after a load whose value is not used. -/
def storeState (m : Memref sig .tc .vmem S4x64x128 .f32) (i : ℕ) (hi : i < 4) (x : FVec F S64x128 .f32) :
    Prog (TpuEff nD τ sig (Elt F) Λ₀ .tc) PUnit := do
  let _y : Vec F S1x64x128 .f32 ← Prog.lift (.load m (Rect.unit (s := S4x64x128) ![i, 0, 0] S1x64x128.size (inb_state i hi)).toLoadRect (View.loadsAt_vmem h_S1x64x128))
  Prog.lift (.store m (Rect.unit (s := S4x64x128) ![i, 0, 0] S1x64x128.size (inb_state i hi)) (shapeCast S1x64x128 x shapeCasts_S64x128_S1x64x128) Finset.univ (View.stores_vmem_bits_univ h_S1x64x128 rfl) (.inl rfl))

/-- Load the masked column of the half of tile `i` that starts at sublane `h`. -/
def loadColumn (m : Memref sig .tc .vmem S4x128x128 .f32) (k : IVec S1x128 1) (i h : ℕ) (hi : i < 4) (hh : h ≤ 64) :
    Prog (TpuEff nD τ sig (Elt F) Λ₀ .tc) (FVec F S64x1 .f32) := do
  let x : Vec F S1x64x128 .f32 ← Prog.lift (.load m (Rect.unit (s := S4x128x128) ![i, h, 0] S1x64x128.size (inb_half i h hi hh)).toLoadRect (View.loadsAt_vmem h_S1x64x128))
  pure (column k x)

/-- Store the masked column of the half of tile `i` that starts at sublane `h`, after a load whose value is not used. -/
def storeColumn (m : Memref sig .tc .vmem S4x128x128 .f32) (k : IVec S1x128 1) (i h : ℕ) (hi : i < 4) (hh : h ≤ 64)
    (x : FVec F S64x128 .f32) : Prog (TpuEff nD τ sig (Elt F) Λ₀ .tc) PUnit := do
  let _y : Vec F S1x64x128 .f32 ← Prog.lift (.load m (Rect.unit (s := S4x128x128) ![i, h, 0] S1x64x128.size (inb_half i h hi hh)).toLoadRect (View.loadsAt_vmem h_S1x64x128))
  Prog.lift (.store m (Rect.unit (s := S4x128x128) ![i, h, 0] S1x64x128.size (inb_half i h hi hh)) (shapeCast S1x64x128 x shapeCasts_S64x128_S1x64x128)
    (IVec.on (shapeCast S1x64x128 (laneMask k) shapeCasts_S64x128_S1x64x128)) (View.stores_vmem_bits h_S1x64x128 rfl (fun h => nomatch h)) (.inr (fun _ => rfl)))

/-- One tile of one step: read its removal and its values, write its next state and its next removal. -/
def tileProg (mS mZ : Memref sig .tc .vmem S4x64x128 .f32) (mV : Memref sig .tc .vmem S4x128x128 .f32)
    (half : IVec S64x128 1) (k : IVec S1x128 1) (j : ℕ) (hj : j < 8) (b : Rows F) (i : ℕ) (hi : i < 4)
    (s ahead : FVec F S64x128 .f32) : Prog (TpuEff nD τ sig (Elt F) Λ₀ .tc) (FVec F S64x128 .f32) := do
  let z ← loadState mZ i hi
  let x ← loadColumn mV k i 0 hi (by decide)
  let y ← loadColumn mV k i 64 hi (by decide)
  storeState mS i hi (nextState j hj b s z (values half x y))
  storeState mZ i hi (nextRemoval j hj b ahead z (values half x y))
  pure (nextState j hj b s z (values half x y))

/-- One step: position `j` of the trip that starts at `base`. -/
def stepProg (mS mZ : Memref sig .tc .vmem S4x64x128 .f32) (mV mO : Memref sig .tc .vmem S4x128x128 .f32)
    (onesSame : FVec F S256x128 .bf16) (onesOut : FVec F S128x256 .bf16) (lane : IVec S1x128 32) (half : IVec S64x128 1)
    (base : BitVec 32) (b0 b1 b2 b3 : Rows F) (j : ℕ) (hj : j < 8) : Prog (TpuEff nD τ sig (Elt F) Λ₀ .tc) PUnit := do
  let s0 ← loadState mS 0 (by decide)
  let s1 ← loadState mS 1 (by decide)
  let s2 ← loadState mS 2 (by decide)
  let s3 ← loadState mS 3 (by decide)
  let a := headSums onesSame (mulf s0 (row j hj b0.g)) (mulf s1 (row j hj b1.g)) (mulf s2 (row j hj b2.g)) (mulf s3 (row j hj b3.g))
  let t0 ← tileProg mS mZ mV half (laneIs lane base j) j hj b0 0 (by decide) s0 (tile 0 (by decide) a)
  let t1 ← tileProg mS mZ mV half (laneIs lane base j) j hj b1 1 (by decide) s1 (tile 1 (by decide) a)
  let t2 ← tileProg mS mZ mV half (laneIs lane base j) j hj b2 2 (by decide) s2 (tile 2 (by decide) a)
  let t3 ← tileProg mS mZ mV half (laneIs lane base j) j hj b3 3 (by decide) s3 (tile 3 (by decide) a)
  let o := outSums onesOut (readOut j hj b0 t0) (readOut j hj b1 t1) (readOut j hj b2 t2) (readOut j hj b3 t3)
  storeColumn mO (laneIs lane base j) 0 0 (by decide) (by decide) (outHalf 0 0 (by decide) (by decide) o)
  storeColumn mO (laneIs lane base j) 0 64 (by decide) (by decide) (outHalf 0 128 (by decide) (by decide) o)
  storeColumn mO (laneIs lane base j) 1 0 (by decide) (by decide) (outHalf 1 0 (by decide) (by decide) o)
  storeColumn mO (laneIs lane base j) 1 64 (by decide) (by decide) (outHalf 1 128 (by decide) (by decide) o)
  storeColumn mO (laneIs lane base j) 2 0 (by decide) (by decide) (outHalf 2 0 (by decide) (by decide) o)
  storeColumn mO (laneIs lane base j) 2 64 (by decide) (by decide) (outHalf 2 128 (by decide) (by decide) o)
  storeColumn mO (laneIs lane base j) 3 0 (by decide) (by decide) (outHalf 3 0 (by decide) (by decide) o)
  storeColumn mO (laneIs lane base j) 3 64 (by decide) (by decide) (outHalf 3 128 (by decide) (by decide) o)

/-- Load the eight rows of one tile. -/
def loadRows (m : Memref sig .tc .vmem S2x128x256 .f32) (off : Fin 3 → ℕ) (inb : ∀ a, off a + S1x8x128.size a ≤ S2x128x256.size a) :
    Prog (TpuEff nD τ sig (Elt F) Λ₀ .tc) (FVec F S8x128 .f32) := do
  let x : Vec F S1x8x128 .f32 ← Prog.lift (.load m (Rect.unit (s := S2x128x256) off S1x8x128.size inb).toLoadRect (View.loadsAt_vmem h_S1x8x128))
  pure (shapeCast S8x128 x shapeCasts_S1x8x128_S8x128)

/-- Load the eight rows of the four tiles, and continue with them. -/
def loadRows4 (m : Memref sig .tc .vmem S2x128x256 .f32) (t : Fin k0_t1_loop.trips) {α : Type}
    (k : FVec F S8x128 .f32 → FVec F S8x128 .f32 → FVec F S8x128 .f32 → FVec F S8x128 .f32 → Prog (TpuEff nD τ sig (Elt F) Λ₀ .tc) α) :
    Prog (TpuEff nD τ sig (Elt F) Λ₀ .tc) α := do
  let x0 ← loadRows m (k0_off1 t) (k0_off1_inb t)
  let x1 ← loadRows m (k0_off2 t) (k0_off2_inb t)
  let x2 ← loadRows m (k0_off3 t) (k0_off3_inb t)
  let x3 ← loadRows m (k0_off4 t) (k0_off4_inb t)
  k x0 x1 x2 x3

/-- The lanes of a tile's first head. -/
def firstHalf : IVec S64x128 1 := cmpi .slt (iota .tc S64x128 32 [1] iota_S64x128_d1_w32) (broadcast S64x128 64#32)

/-- The position a trip starts at. -/
def tripBase (t : Fin k0_t1_loop.trips) : BitVec 32 := Scalar.muli (Scf.iv 0#32 1#32 t) 8#32

/-- One trip: eight rows of every operand, and their eight steps. -/
def tripProg (m1 m2 m3 m5 m7 m8 m9 : Memref sig .tc .vmem S2x128x256 .f32)
    (mS mZ : Memref sig .tc .vmem S4x64x128 .f32) (mV mO : Memref sig .tc .vmem S4x128x128 .f32)
    (onesSame : FVec F S256x128 .bf16) (onesOut : FVec F S128x256 .bf16) (lane : IVec S1x128 32)
    (t : Fin k0_t1_loop.trips) : Prog (TpuEff nD τ sig (Elt F) Λ₀ .tc) PUnit :=
  loadRows4 m1 t fun r0 r1 r2 r3 =>
  loadRows4 m2 t fun w0 w1 w2 w3 =>
  loadRows4 m3 t fun k0 k1 k2 k3 =>
  loadRows4 m5 t fun p0 p1 p2 p3 =>
  loadRows4 m7 t fun g0 g1 g2 g3 =>
  loadRows4 m8 t fun c0 c1 c2 c3 =>
  loadRows4 m9 t fun d0 d1 d2 d3 => do
    let st := stepProg mS mZ mV mO onesSame onesOut lane firstHalf (tripBase t)
      ⟨r0, w0, k0, p0, g0, c0, d0⟩ ⟨r1, w1, k1, p1, g1, c1, d1⟩ ⟨r2, w2, k2, p2, g2, c2, d2⟩ ⟨r3, w3, k3, p3, g3, c3, d3⟩
    st 0 (by decide)
    st 1 (by decide)
    st 2 (by decide)
    st 3 (by decide)
    st 4 (by decide)
    st 5 (by decide)
    st 6 (by decide)
    st 7 (by decide)

set_option maxRecDepth 65536 in
set_option maxHeartbeats 4000000 in
/-- The region of the printed loop is the trip above. -/
theorem body_eq_trip (i : grid0.Coords) (arg1 : Memref sig .tc .vmem S2x128x256 .f32) (harg1 : arg1.IsWhole) (arg2 : Memref sig .tc .vmem S2x128x256 .f32) (harg2 : arg2.IsWhole) (arg3 : Memref sig .tc .vmem S2x128x256 .f32) (harg3 : arg3.IsWhole) (arg4 : Memref sig .tc .vmem S2x128x256 .f32) (harg4 : arg4.IsWhole) (arg5 : Memref sig .tc .vmem S2x128x256 .f32) (harg5 : arg5.IsWhole) (arg6 : Memref sig .tc .vmem S2x128x256 .f32) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x128x256 .f32) (harg9 : arg9.IsWhole) (arg10 : Memref sig .tc .vmem S4x64x128 .f32) (harg10 : arg10.IsWhole) (arg11 : Memref sig .tc .vmem S2x128x256 .f32) (harg11 : arg11.IsWhole) (arg12 : Memref sig .tc .vmem S4x64x128 .f32) (harg12 : arg12.IsWhole) (arg13 : Memref sig .tc .vmem S4x64x128 .f32) (harg13 : arg13.IsWhole) (arg14 : Memref sig .tc .vmem S4x64x128 .f32) (harg14 : arg14.IsWhole) (arg15 : Memref sig .tc .vmem S4x128x128 .f32) (harg15 : arg15.IsWhole) (arg16 : Memref sig .tc .vmem S4x128x128 .f32) (harg16 : arg16.IsWhole) (v70 : FVec F S256x128 .bf16) (v125 : FVec F S128x256 .bf16) (v131 : FVec F S128x128 .f32) (v153 : IVec S1x128 32)
    (t : Fin k0_t1_loop.trips) :
    k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v70 v125 v131 v153 t ()
      = tripProg arg1 arg2 arg3 arg5 arg7 arg8 arg9 arg13 arg14 arg15 arg16 v70 v125 v153 t := rfl

end Cert.KernelIdeal.Rwkv

end
-- ==== Proof.Rwkv.Body.lean ====
/- One grid point of the kernel, written once: at the first point the state is loaded and the first
   removal taken; at every point the values are laid out transposed, the sixteen trips of the chunk run,
   and the outputs are transposed back; at the last point the state is written out. The printed body
   is this program. -/
module

public import proofs.«01_k».proof.Proof.Rwkv.Step

@[expose] public section

noncomputable section

namespace Cert.KernelIdeal.Rwkv

open Idealize.ShloMosaic Idealize.ShloMosaic.TcCoe
open Idealize.SL.Sem
open Cert.KernelIdeal.Gen

variable {F : FTy → Type} [FloatOps F]

theorem inb_block (b o : ℕ) (hb : b < 2) (ho : o ≤ 128) :
    ∀ a, (![b, 0, o] : Fin 3 → ℕ) a + S1x128x128.size a ≤ S2x128x256.size a := by
  intro a; fin_cases a <;> simp [Shape.size] <;> omega

theorem inb_firstRow (b o : ℕ) (hb : b < 2) (ho : o ≤ 128) :
    ∀ a, (![b, 0, o] : Fin 3 → ℕ) a + S1x1x128.size a ≤ S2x128x256.size a := by
  intro a; fin_cases a <;> simp [Shape.size] <;> omega

theorem inb_whole (i : ℕ) (hi : i < 4) :
    ∀ a, (![i, 0, 0] : Fin 3 → ℕ) a + S1x128x128.size a ≤ S4x128x128.size a := by
  intro a; fin_cases a <;> simp [Shape.size]; omega

/-- The matrix that sums the keys of a head, over both halves of a pair. -/
def onesSame : FVec F S256x128 .bf16 := k0_pay522 (iota .tc S256x128 32 [1] iota_S256x128_d1_w32) k0_pay520 64#32 k0_pay521 0#32

/-- The matrix that sums the keys of a head and lays the sums along 128 lanes. -/
def onesOut : FVec F S128x256 .bf16 := k0_pay526 (iota .tc S128x256 32 [1] iota_S128x256_d1_w32) k0_pay523 k0_pay524 k0_pay525 0#32

/-- The number of each lane. -/
def laneIota : IVec S1x128 32 := iota .tc S1x128 32 [1] iota_S1x128_d1_w32

/-- The condition of the first point. -/
def atFirst (i : grid0.Coords) : BitVec 1 := Scalar.cmpi .ne (Scalar.extui (Scalar.cmpi .eq (BitVec.ofNat 32 (i 0).val) 0#32) : BitVec 32) 0#32

/-- A tile of the initial state times the first position's removal key. -/
def firstProduct (s : FVec F S64x128 .f32) (x : Vec F S1x1x128 .f32) : FVec F S64x128 .f32 :=
  mulf s (broadcastTo S64x128 (shapeCast S1x128 x shapeCasts_S1x1x128_S1x128) broadcasts_S1x128_S64x128)

/-- A block laid out transposed. -/
def turned (x : Vec F S1x128x128 .f32) : FVec F S128x128 .f32 :=
  transpose S128x128 [1, 0] (shapeCast S128x128 x shapeCasts_S1x128x128_S128x128) transposes_S128x128_p1_0_S128x128

/-- Tile `i` of the initial state times the first removal key. -/
def loadFirst (m4 : Memref sig .tc .vmem S2x128x256 .f32) (m10 : Memref sig .tc .vmem S4x64x128 .f32) (i b o : ℕ) (hi : i < 4) (hb : b < 2) (ho : o ≤ 128) :
    Prog (TpuEff nD τ sig (Elt F) Λ₀ .tc) (FVec F S64x128 .f32) := do
  let s ← loadState m10 i hi
  let x : Vec F S1x1x128 .f32 ← Prog.lift (.load m4 (Rect.unit (s := S2x128x256) ![b, 0, o] S1x1x128.size (inb_firstRow b o hb ho)).toLoadRect (View.loadsAt_vmem h_S1x1x128))
  pure (firstProduct s x)

/-- What the first point does before its steps. -/
def startProg (m4 : Memref sig .tc .vmem S2x128x256 .f32) (m10 mS mZ : Memref sig .tc .vmem S4x64x128 .f32) : Prog (TpuEff nD τ sig (Elt F) Λ₀ .tc) PUnit := do
  let x : Vec F S4x64x128 .f32 ← Prog.lift (.load m10 (Rect.unit (s := S4x64x128) ![0, 0, 0] S4x64x128.size inb_S4x64x128_S4x64x128_0_0_0).toLoadRect (View.loadsAt_vmem h_S4x64x128))
  let _y : Vec F S4x64x128 .f32 ← Prog.lift (.load mS (Rect.unit (s := S4x64x128) ![0, 0, 0] S4x64x128.size inb_S4x64x128_S4x64x128_0_0_0).toLoadRect (View.loadsAt_vmem h_S4x64x128))
  Prog.lift (.store mS (Rect.unit (s := S4x64x128) ![0, 0, 0] S4x64x128.size inb_S4x64x128_S4x64x128_0_0_0)
    (shapeCast S4x64x128 (shapeCast S4x64x128 x shapeCasts_S4x64x128_S4x64x128) shapeCasts_S4x64x128_S4x64x128) Finset.univ (View.stores_vmem_bits_univ h_S4x64x128 rfl) (.inl rfl))
  let u0 ← loadFirst m4 m10 0 0 0 (by decide) (by decide) (by decide)
  let u1 ← loadFirst m4 m10 1 0 128 (by decide) (by decide) (by decide)
  let u2 ← loadFirst m4 m10 2 1 0 (by decide) (by decide) (by decide)
  let u3 ← loadFirst m4 m10 3 1 128 (by decide) (by decide) (by decide)
  storeState mZ 0 (by decide) (tile 0 (by decide) (headSums onesSame u0 u1 u2 u3))
  storeState mZ 1 (by decide) (tile 1 (by decide) (headSums onesSame u0 u1 u2 u3))
  storeState mZ 2 (by decide) (tile 2 (by decide) (headSums onesSame u0 u1 u2 u3))
  storeState mZ 3 (by decide) (tile 3 (by decide) (headSums onesSame u0 u1 u2 u3))

/-- Lay the values of one tile out transposed. -/
def turnIn (m6 : Memref sig .tc .vmem S2x128x256 .f32) (mV : Memref sig .tc .vmem S4x128x128 .f32) (i b o : ℕ) (hi : i < 4) (hb : b < 2) (ho : o ≤ 128) :
    Prog (TpuEff nD τ sig (Elt F) Λ₀ .tc) PUnit := do
  let x : Vec F S1x128x128 .f32 ← Prog.lift (.load m6 (Rect.unit (s := S2x128x256) ![b, 0, o] S1x128x128.size (inb_block b o hb ho)).toLoadRect (View.loadsAt_vmem h_S1x128x128))
  let _y : Vec F S1x128x128 .f32 ← Prog.lift (.load mV (Rect.unit (s := S4x128x128) ![i, 0, 0] S1x128x128.size (inb_whole i hi)).toLoadRect (View.loadsAt_vmem h_S1x128x128))
  Prog.lift (.store mV (Rect.unit (s := S4x128x128) ![i, 0, 0] S1x128x128.size (inb_whole i hi)) (shapeCast S1x128x128 (turned x) shapeCasts_S128x128_S1x128x128) Finset.univ (View.stores_vmem_bits_univ h_S1x128x128 rfl) (.inl rfl))

/-- Transpose the outputs of one tile back. -/
def turnOut (mO : Memref sig .tc .vmem S4x128x128 .f32) (m11 : Memref sig .tc .vmem S2x128x256 .f32) (i b o : ℕ) (hi : i < 4) (hb : b < 2) (ho : o ≤ 128) :
    Prog (TpuEff nD τ sig (Elt F) Λ₀ .tc) PUnit := do
  let x : Vec F S1x128x128 .f32 ← Prog.lift (.load mO (Rect.unit (s := S4x128x128) ![i, 0, 0] S1x128x128.size (inb_whole i hi)).toLoadRect (View.loadsAt_vmem h_S1x128x128))
  let _y : Vec F S1x128x128 .f32 ← Prog.lift (.load m11 (Rect.unit (s := S2x128x256) ![b, 0, o] S1x128x128.size (inb_block b o hb ho)).toLoadRect (View.loadsAt_vmem h_S1x128x128))
  Prog.lift (.store m11 (Rect.unit (s := S2x128x256) ![b, 0, o] S1x128x128.size (inb_block b o hb ho)) (shapeCast S1x128x128 (turned x) shapeCasts_S128x128_S1x128x128) Finset.univ (View.stores_vmem_bits_univ h_S1x128x128 rfl) (.inl rfl))

/-- What the last point does after its steps. -/
def finishProg (mS m12 : Memref sig .tc .vmem S4x64x128 .f32) : Prog (TpuEff nD τ sig (Elt F) Λ₀ .tc) PUnit := do
  let x : Vec F S4x64x128 .f32 ← Prog.lift (.load mS (Rect.unit (s := S4x64x128) ![0, 0, 0] S4x64x128.size inb_S4x64x128_S4x64x128_0_0_0).toLoadRect (View.loadsAt_vmem h_S4x64x128))
  let _y : Vec F S4x64x128 .f32 ← Prog.lift (.load m12 (Rect.unit (s := S4x64x128) ![0, 0, 0] S4x64x128.size inb_S4x64x128_S4x64x128_0_0_0).toLoadRect (View.loadsAt_vmem h_S4x64x128))
  Prog.lift (.store m12 (Rect.unit (s := S4x64x128) ![0, 0, 0] S4x64x128.size inb_S4x64x128_S4x64x128_0_0_0) x Finset.univ (View.stores_vmem_bits_univ h_S4x64x128 rfl) (.inl rfl))

/-- What is done at the first point only. -/
def firstProg (i : grid0.Coords) (m4 : Memref sig .tc .vmem S2x128x256 .f32) (m10 mS mZ : Memref sig .tc .vmem S4x64x128 .f32) : Prog (TpuEff nD τ sig (Elt F) Λ₀ .tc) PUnit :=
  if _h : atFirst i = 1#1 then startProg m4 m10 mS mZ else pure ⟨⟩

/-- What is done at the last point only. -/
def lastProg (i : grid0.Coords) (mS m12 : Memref sig .tc .vmem S4x64x128 .f32) : Prog (TpuEff nD τ sig (Elt F) Λ₀ .tc) PUnit :=
  if _h : k0_cond2 i = 1#1 then finishProg mS m12 else pure ⟨⟩

/-- One grid point. -/
def bodyProg (i : grid0.Coords) (m1 m2 m3 m4 m5 m6 m7 m8 m9 : Memref sig .tc .vmem S2x128x256 .f32) (m10 : Memref sig .tc .vmem S4x64x128 .f32)
    (m11 : Memref sig .tc .vmem S2x128x256 .f32) (m12 mS mZ : Memref sig .tc .vmem S4x64x128 .f32) (mV mO : Memref sig .tc .vmem S4x128x128 .f32) :
    Prog (TpuEff nD τ sig (Elt F) Λ₀ .tc) PUnit := do
  firstProg i m4 m10 mS mZ
  turnIn m6 mV 0 0 0 (by decide) (by decide) (by decide)
  turnIn m6 mV 1 0 128 (by decide) (by decide) (by decide)
  turnIn m6 mV 2 1 0 (by decide) (by decide) (by decide)
  turnIn m6 mV 3 1 128 (by decide) (by decide) (by decide)
  Scf.Loop.for k0_t1_loop k0_t1_ok ⟨⟩ fun t _ => tripProg m1 m2 m3 m5 m7 m8 m9 mS mZ mV mO onesSame onesOut laneIota t
  turnOut mO m11 0 0 0 (by decide) (by decide) (by decide)
  turnOut mO m11 1 0 128 (by decide) (by decide) (by decide)
  turnOut mO m11 2 1 0 (by decide) (by decide) (by decide)
  turnOut mO m11 3 1 128 (by decide) (by decide) (by decide)
  lastProg i mS m12

set_option maxRecDepth 65536 in
set_option maxHeartbeats 4000000 in
/-- The stretch of the printed body around its first condition. -/
theorem part65_eq (i : grid0.Coords) (arg1 : Memref sig .tc .vmem S2x128x256 .f32) (harg1 : arg1.IsWhole) (arg2 : Memref sig .tc .vmem S2x128x256 .f32) (harg2 : arg2.IsWhole) (arg3 : Memref sig .tc .vmem S2x128x256 .f32) (harg3 : arg3.IsWhole) (arg4 : Memref sig .tc .vmem S2x128x256 .f32) (harg4 : arg4.IsWhole) (arg5 : Memref sig .tc .vmem S2x128x256 .f32) (harg5 : arg5.IsWhole) (arg6 : Memref sig .tc .vmem S2x128x256 .f32) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x128x256 .f32) (harg9 : arg9.IsWhole) (arg10 : Memref sig .tc .vmem S4x64x128 .f32) (harg10 : arg10.IsWhole) (arg11 : Memref sig .tc .vmem S2x128x256 .f32) (harg11 : arg11.IsWhole) (arg12 : Memref sig .tc .vmem S4x64x128 .f32) (harg12 : arg12.IsWhole) (arg13 : Memref sig .tc .vmem S4x64x128 .f32) (harg13 : arg13.IsWhole) (arg14 : Memref sig .tc .vmem S4x64x128 .f32) (harg14 : arg14.IsWhole) (arg15 : Memref sig .tc .vmem S4x128x128 .f32) (harg15 : arg15.IsWhole) (arg16 : Memref sig .tc .vmem S4x128x128 .f32) (harg16 : arg16.IsWhole) :
    k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) onesSame (iota .tc S128x256 32 [1] iota_S128x256_d1_w32) k0_pay523 k0_pay524 k0_pay525 0#32
      = firstProg i arg4 arg10 arg13 arg14 >>= fun _ =>
        (Prog.lift (.load arg6 (Rect.unit (s := S2x128x256) ![0, 0, 0] S1x128x128.size inb_S2x128x256_S1x128x128_0_0_0).toLoadRect (View.loadsAt_vmem h_S1x128x128)) >>= fun x : Vec F S1x128x128 .f32 =>
          pure ⟨onesOut, turned x⟩) := by
  rw [k0_part65_eq_skeleton]
  unfold k0_part65_skel firstProg
  by_cases h : atFirst i = 1#1
  · rw [dif_pos h]
    exact dif_pos h
  · rw [dif_neg h]
    exact dif_neg h

set_option maxRecDepth 65536 in
set_option maxHeartbeats 4000000 in
/-- The printed body is the program above. -/
theorem cc0_eq_body (i : grid0.Coords) (arg1 : Memref sig .tc .vmem S2x128x256 .f32) (harg1 : arg1.IsWhole) (arg2 : Memref sig .tc .vmem S2x128x256 .f32) (harg2 : arg2.IsWhole) (arg3 : Memref sig .tc .vmem S2x128x256 .f32) (harg3 : arg3.IsWhole) (arg4 : Memref sig .tc .vmem S2x128x256 .f32) (harg4 : arg4.IsWhole) (arg5 : Memref sig .tc .vmem S2x128x256 .f32) (harg5 : arg5.IsWhole) (arg6 : Memref sig .tc .vmem S2x128x256 .f32) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x128x256 .f32) (harg9 : arg9.IsWhole) (arg10 : Memref sig .tc .vmem S4x64x128 .f32) (harg10 : arg10.IsWhole) (arg11 : Memref sig .tc .vmem S2x128x256 .f32) (harg11 : arg11.IsWhole) (arg12 : Memref sig .tc .vmem S4x64x128 .f32) (harg12 : arg12.IsWhole) (arg13 : Memref sig .tc .vmem S4x64x128 .f32) (harg13 : arg13.IsWhole) (arg14 : Memref sig .tc .vmem S4x64x128 .f32) (harg14 : arg14.IsWhole) (arg15 : Memref sig .tc .vmem S4x128x128 .f32) (harg15 : arg15.IsWhole) (arg16 : Memref sig .tc .vmem S4x128x128 .f32) (harg16 : arg16.IsWhole) :
    cc0_rwkv_prompt (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      = bodyProg i arg1 arg2 arg3 arg4 arg5 arg6 arg7 arg8 arg9 arg10 arg11 arg12 arg13 arg14 arg15 arg16 := by
  unfold cc0_rwkv_prompt bodyProg
  rw [k0_part63_eq_skeleton, k0_part64_eq_skeleton, k0_part66_eq_skeleton]
  unfold k0_part63_skel k0_part64_skel k0_part66_skel
  simp only [pure_bind]
  erw [part65_eq]
  simp only [bind_assoc, pure_bind]
  rfl

end Cert.KernelIdeal.Rwkv

end
-- ==== Proof.Rwkv.StepRun.lean ====
/- What one step, and one trip, of the kernel's loop do to the buffers they touch: from a state, a
   removal and an output buffer held at given contents to the same held at the next ones, which are
   named as functions of the contents. -/
module

public import proofs.«01_k».proof.Proof.Rwkv.Step
public import proofs.«01_k».proof.Proof.Gen.KernelIdeal.Frame
public import Idealize.ShloMosaic.Lib.VecWindow
public import Idealize.ShloMosaic.Lib.WritesUnit

@[expose] public section

noncomputable section

namespace Cert.KernelIdeal.Rwkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- No procedure is called with a variant. -/
abbrev 𝒱₀ : Variants := Variants.none

/-- The contents `x` with the masked part of `w` over the window of sizes `size` at `off`. -/
def putOn {s : Shape} {α : Type} (x : s.Idx → α) (off size : Fin s.rank → ℕ) (w : ((a : Fin s.rank) → Fin (size a)) → α)
    (M : Finset ((a : Fin s.rank) → Fin (size a))) : s.Idx → α :=
  fun y => if h : ∀ a, off a ≤ (y a).val ∧ (y a).val < off a + size a then
    (if Rect.unitLocal (s := s) (off := off) (size := size) y h ∈ M then w (Rect.unitLocal (s := s) (off := off) (size := size) y h) else x y) else x y

/-- Writing everywhere in the window is `put`. -/
theorem putOn_univ {s : Shape} {α : Type} (x : s.Idx → α) (off size : Fin s.rank → ℕ) (w : ((a : Fin s.rank) → Fin (size a)) → α) :
    putOn x off size w Finset.univ = VecWindow.put x off size w := by
  funext y; unfold putOn VecWindow.put; simp

section Rules

variable (c : Dev nD) (E : Set ℕ) {α : Type}

/-- A load from a memref held at contents `X` yields the window of `X`. -/
theorem wp_load_owns {s : Shape} {e : EltTy} (m : Memref sig .tc .vmem s e) (X : s.Idx → Elt F e) {off size : Fin s.rank → ℕ}
    {inb : ∀ a, off a + size a ≤ s.size a} {hl} {k : _ → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ c none) E (k (VecWindow.window X off size inb)) Q)
        -∗ wp frame (wpE (defs₀ (F := F)) 𝒱₀ c none) E (.op (.load m (Rect.unit off size inb).toLoadRect hl) k) Q) := by
  unfold owns
  iintro ⟨%f, %hf, H⟩ K
  subst hf
  iapply (wp_load 𝒱₀ (c : Thread nD τ) none E (m := m) (View.setOn_subset_set _ _)) $$ H
  iintro H
  rw [View.readAt_unit (m.view) f inb rfl inb]
  iapply K
  iexists f; isplitr; · ipureintro; rfl
  iexact H

theorem read_write_putOn {s : Shape} {e : EltTy} (v : View sig .tc .vmem s e) (f : v.ty.Contents (Elt F)) {off size : Fin s.rank → ℕ}
    (inb : ∀ a, off a + size a ≤ s.size a) (w : (Rect.unit off size inb).shape.Idx → Elt F e) (M : Finset (Rect.unit off size inb).shape.Idx) :
    v.read (Elt F) ((v.slice (Rect.unit off size inb)).write (Elt F) f w M) = putOn (v.read (Elt F) f) off size w M := by
  funext y
  unfold putOn
  by_cases h : ∀ a, off a ≤ (y a).val ∧ (y a).val < off a + size a
  · have hy : (Rect.unit off size inb).emb (Rect.unitLocal (s := s) (off := off) (size := size) y h) = y := by
      funext a; refine Fin.ext ?_
      show off a + 1 * ((y a).val - off a) = (y a).val
      have := h a; omega
    rw [dif_pos h]
    by_cases hM : Rect.unitLocal (s := s) (off := off) (size := size) y h ∈ M
    · rw [if_pos hM]
      conv_lhs => rw [← hy]
      exact View.read_slice_write_emb _ _ _ hM
    · rw [if_neg hM]
      refine View.read_slice_write_of_not_mem _ _ _ _ ?_
      intro hm
      obtain ⟨x, hx, hxy⟩ := Finset.mem_map.mp hm
      rw [← hy] at hxy
      exact hM ((Rect.unit off size inb).emb.injective hxy ▸ hx)
  · rw [dif_neg h]
    refine View.read_slice_write_of_not_mem _ _ _ _ ?_
    intro hm
    obtain ⟨x, hx, hxy⟩ := Finset.mem_map.mp hm
    refine h fun a => ?_
    have e1 : (y a).val = off a + 1 * (x a).val := by rw [← hxy]; rfl
    have e2 : (x a).val < size a := (x a).isLt
    omega

/-- A masked store into a memref held at contents `X` leaves `X` with the masked payload put there. -/
theorem wp_store_owns {s : Shape} {e : EltTy} (m : Memref sig .tc .vmem s e) (X : s.Idx → Elt F e) {off size : Fin s.rank → ℕ}
    {inb : ∀ a, off a + size a ≤ s.size a} {w : (Rect.unit off size inb).shape.Idx → Elt F e} {M : Finset (Rect.unit off size inb).shape.Idx}
    {hx} {hm} {k : PUnit → Prog (TpuEff nD τ sig (Elt F) Λ₀ .tc) α} {Q : α → sProp 𝕄} :
    (owns (c : Thread nD τ) m fullShare X : sProp 𝕄)
      ⊢ iprop((owns (c : Thread nD τ) m fullShare (putOn X off size w M) -∗ wp frame (wpE (defs₀ (F := F)) 𝒱₀ c none) E (k ⟨⟩) Q)
        -∗ wp frame (wpE (defs₀ (F := F)) 𝒱₀ c none) E (.op (.store m (Rect.unit off size inb) w M hx hm) k) Q) := by
  unfold owns
  iintro ⟨%f, %hf, H⟩ K
  subst hf
  iapply (wp_store 𝒱₀ (c : Thread nD τ) none E (m := m) (r := Rect.unit off size inb) (Mk := M)
    ((View.setOn_subset_set _ _).trans (View.set_slice_subset _ _))) $$ H
  iintro H
  iapply K
  iexists _; isplitr
  swap; · iexact H
  ipureintro; exact read_write_putOn m.view f inb w M

end Rules

/-! ## The contents a step leaves -/

/-- Tile `i` of a state. -/
def getS (X : Vec F S4x64x128 .f32) (i : ℕ) (hi : i < 4) : FVec F S64x128 .f32 :=
  shapeCast S64x128 (VecWindow.window X ![i, 0, 0] S1x64x128.size (inb_state i hi) : Vec F S1x64x128 .f32) shapeCasts_S1x64x128_S64x128

/-- A state with tile `i` replaced. -/
def setS (X : Vec F S4x64x128 .f32) (i : ℕ) (x : FVec F S64x128 .f32) : Vec F S4x64x128 .f32 :=
  putOn X ![i, 0, 0] S1x64x128.size (shapeCast S1x64x128 x shapeCasts_S64x128_S1x64x128) Finset.univ

/-- The masked column of half a tile of transposed values. -/
def getC (V : Vec F S4x128x128 .f32) (k : IVec S1x128 1) (i h : ℕ) (hi : i < 4) (hh : h ≤ 64) : FVec F S64x1 .f32 :=
  column k (VecWindow.window V ![i, h, 0] S1x64x128.size (inb_half i h hi hh))

/-- An output buffer with the masked column of half a tile replaced. -/
def setC (O : Vec F S4x128x128 .f32) (k : IVec S1x128 1) (i h : ℕ) (x : FVec F S64x128 .f32) : Vec F S4x128x128 .f32 :=
  putOn O ![i, h, 0] S1x64x128.size (shapeCast S1x64x128 x shapeCasts_S64x128_S1x64x128)
    (IVec.on (shapeCast S1x64x128 (laneMask k) shapeCasts_S64x128_S1x64x128))

/-- What a step carries on: the state, what the next step removes, and the outputs so far. -/
structure Carry (F : FTy → Type) where
  /-- the state -/
  S : Vec F S4x64x128 .f32
  /-- what the next step removes -/
  Z : Vec F S4x64x128 .f32
  /-- the outputs, transposed -/
  O : Vec F S4x128x128 .f32

/-- The values of tile `i` at the masked position. -/
def valuesAt (V : Vec F S4x128x128 .f32) (k : IVec S1x128 1) (i : ℕ) (hi : i < 4) : FVec F S64x128 .f32 :=
  values firstHalf (getC V k i 0 hi (by decide)) (getC V k i 64 hi (by decide))

section StepFn

variable (onesSame : FVec F S256x128 .bf16) (onesOut : FVec F S128x256 .bf16) (lane : IVec S1x128 32)
  (base : BitVec 32) (b0 b1 b2 b3 : Rows F) (V : Vec F S4x128x128 .f32) (j : ℕ) (hj : j < 8)

/-- The head sums a step takes ahead for the next one. -/
def stepAhead (S : Vec F S4x64x128 .f32) : FVec F S256x128 .f32 :=
  headSums onesSame (mulf (getS S 0 (by decide)) (row j hj b0.g)) (mulf (getS S 1 (by decide)) (row j hj b1.g))
    (mulf (getS S 2 (by decide)) (row j hj b2.g)) (mulf (getS S 3 (by decide)) (row j hj b3.g))

/-- The next state of tile `i`, of the state before the step and the removal buffer as the tile finds it. -/
def stepTile (b : Rows F) (S Z : Vec F S4x64x128 .f32) (i : ℕ) (hi : i < 4) : FVec F S64x128 .f32 :=
  nextState j hj b (getS S i hi) (getS Z i hi) (valuesAt V (laneIs lane base j) i hi)

/-- The removal buffer once tile `i` has written its part. -/
def stepZ (b : Rows F) (a : FVec F S256x128 .f32) (Z : Vec F S4x64x128 .f32) (i : ℕ) (hi : i < 4) : Vec F S4x64x128 .f32 :=
  setS Z i (nextRemoval j hj b (tile i hi a) (getS Z i hi) (valuesAt V (laneIs lane base j) i hi))

/-- The output buffer with the step's column written. -/
def stepO (O : Vec F S4x128x128 .f32) (o : FVec F S256x256 .f32) : Vec F S4x128x128 .f32 :=
  let k := laneIs lane base j
  setC (setC (setC (setC (setC (setC (setC (setC O
    k 0 0 (outHalf 0 0 (by decide) (by decide) o)) k 0 64 (outHalf 0 128 (by decide) (by decide) o))
    k 1 0 (outHalf 1 0 (by decide) (by decide) o)) k 1 64 (outHalf 1 128 (by decide) (by decide) o))
    k 2 0 (outHalf 2 0 (by decide) (by decide) o)) k 2 64 (outHalf 2 128 (by decide) (by decide) o))
    k 3 0 (outHalf 3 0 (by decide) (by decide) o)) k 3 64 (outHalf 3 128 (by decide) (by decide) o)

/-- One step on what is carried. -/
def stepFn (σ : Carry F) : Carry F :=
  let a := stepAhead onesSame b0 b1 b2 b3 j hj σ.S
  let Z1 := stepZ lane base V j hj b0 a σ.Z 0 (by decide)
  let Z2 := stepZ lane base V j hj b1 a Z1 1 (by decide)
  let Z3 := stepZ lane base V j hj b2 a Z2 2 (by decide)
  let Z4 := stepZ lane base V j hj b3 a Z3 3 (by decide)
  let t0 := stepTile lane base V j hj b0 σ.S σ.Z 0 (by decide)
  let t1 := stepTile lane base V j hj b1 σ.S Z1 1 (by decide)
  let t2 := stepTile lane base V j hj b2 σ.S Z2 2 (by decide)
  let t3 := stepTile lane base V j hj b3 σ.S Z3 3 (by decide)
  ⟨setS (setS (setS (setS σ.S 0 t0) 1 t1) 2 t2) 3 t3, Z4,
    stepO lane base j σ.O (outSums onesOut (readOut j hj b0 t0) (readOut j hj b1 t1) (readOut j hj b2 t2) (readOut j hj b3 t3))⟩

end StepFn

/-! ## The operations run -/

section Run

variable (c : Dev nD) (E : Set ℕ) {α : Type}

theorem wp_loadState (m : Memref sig .tc .vmem S4x64x128 .f32) (X : Vec F S4x64x128 .f32) (i : ℕ) (hi : i < 4)
    {k : FVec F S64x128 .f32 → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ c none) E (k (getS X i hi)) Q)
        -∗ wp frame (wpE (defs₀ (F := F)) 𝒱₀ c none) E (loadState m i hi >>= k) Q) :=
  wp_load_owns c E m X (k := fun x => k (shapeCast S64x128 x shapeCasts_S1x64x128_S64x128))

theorem wp_loadColumn (m : Memref sig .tc .vmem S4x128x128 .f32) (X : Vec F S4x128x128 .f32) (kk : IVec S1x128 1) (i h : ℕ) (hi : i < 4) (hh : h ≤ 64)
    {k : FVec F S64x1 .f32 → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ c none) E (k (getC X kk i h hi hh)) Q)
        -∗ wp frame (wpE (defs₀ (F := F)) 𝒱₀ c none) E (loadColumn m kk i h hi hh >>= k) Q) :=
  wp_load_owns c E m X (k := fun x => k (column kk x))

theorem wp_storeState (m : Memref sig .tc .vmem S4x64x128 .f32) (X : Vec F S4x64x128 .f32) (i : ℕ) (hi : i < 4) (x : FVec F S64x128 .f32)
    {k : PUnit → Prog (TpuEff nD τ sig (Elt F) Λ₀ .tc) α} {Q : α → sProp 𝕄} :
    (owns (c : Thread nD τ) m fullShare X : sProp 𝕄)
      ⊢ iprop((owns (c : Thread nD τ) m fullShare (setS X i x) -∗ wp frame (wpE (defs₀ (F := F)) 𝒱₀ c none) E (k ⟨⟩) Q)
        -∗ wp frame (wpE (defs₀ (F := F)) 𝒱₀ c none) E (storeState m i hi x >>= k) Q) := by
  iintro H K
  iapply (wp_load_owns c E m X) $$ H
  iintro H
  iapply (wp_store_owns c E m X) $$ H
  iexact K

theorem wp_storeColumn (m : Memref sig .tc .vmem S4x128x128 .f32) (X : Vec F S4x128x128 .f32) (kk : IVec S1x128 1) (i h : ℕ) (hi : i < 4) (hh : h ≤ 64)
    (x : FVec F S64x128 .f32) {k : PUnit → Prog (TpuEff nD τ sig (Elt F) Λ₀ .tc) α} {Q : α → sProp 𝕄} :
    (owns (c : Thread nD τ) m fullShare X : sProp 𝕄)
      ⊢ iprop((owns (c : Thread nD τ) m fullShare (setC X kk i h x) -∗ wp frame (wpE (defs₀ (F := F)) 𝒱₀ c none) E (k ⟨⟩) Q)
        -∗ wp frame (wpE (defs₀ (F := F)) 𝒱₀ c none) E (storeColumn m kk i h hi hh x >>= k) Q) := by
  iintro H K
  iapply (wp_load_owns c E m X) $$ H
  iintro H
  iapply (wp_store_owns c E m X) $$ H
  iexact K

/-- One tile of one step. -/
theorem wp_tileProg (mS mZ : Memref sig .tc .vmem S4x64x128 .f32) (mV : Memref sig .tc .vmem S4x128x128 .f32)
    (lane : IVec S1x128 32) (base : BitVec 32) (j : ℕ) (hj : j < 8) (b : Rows F) (i : ℕ) (hi : i < 4)
    (S S' Z : Vec F S4x64x128 .f32) (V : Vec F S4x128x128 .f32) (a : FVec F S256x128 .f32)
    {k : FVec F S64x128 .f32 → Prog (TpuEff nD τ sig (Elt F) Λ₀ .tc) α} {Q : α → sProp 𝕄} :
    iprop(owns (c : Thread nD τ) mS fullShare S' ∗ owns (c : Thread nD τ) mZ fullShare Z ∗ owns (c : Thread nD τ) mV fullShare V : sProp 𝕄)
      ⊢ iprop((owns (c : Thread nD τ) mS fullShare (setS S' i (stepTile lane base V j hj b S Z i hi))
            -∗ owns (c : Thread nD τ) mZ fullShare (stepZ lane base V j hj b a Z i hi) -∗ owns (c : Thread nD τ) mV fullShare V
            -∗ wp frame (wpE (defs₀ (F := F)) 𝒱₀ c none) E (k (stepTile lane base V j hj b S Z i hi)) Q)
        -∗ wp frame (wpE (defs₀ (F := F)) 𝒱₀ c none) E
            (tileProg mS mZ mV firstHalf (laneIs lane base j) j hj b i hi (getS S i hi) (tile i hi a) >>= k) Q) := by
  iintro ⟨HS, HZ, HV⟩ K
  unfold tileProg
  simp only [bind_assoc]
  iapply (wp_loadState c E mZ Z i hi) $$ HZ
  iintro HZ
  iapply (wp_loadColumn c E mV V _ i 0 hi _) $$ HV
  iintro HV
  iapply (wp_loadColumn c E mV V _ i 64 hi _) $$ HV
  iintro HV
  iapply (wp_storeState c E mS S' i hi _) $$ HS
  iintro HS
  iapply (wp_storeState c E mZ Z i hi _) $$ HZ
  iintro HZ
  iapply K $$ [HS] [HZ] [HV]
  · iexact HS
  · iexact HZ
  · iexact HV

/-- One step. -/
theorem wp_stepProg (mS mZ : Memref sig .tc .vmem S4x64x128 .f32) (mV mO : Memref sig .tc .vmem S4x128x128 .f32)
    (onesSame : FVec F S256x128 .bf16) (onesOut : FVec F S128x256 .bf16) (lane : IVec S1x128 32)
    (base : BitVec 32) (b0 b1 b2 b3 : Rows F) (V : Vec F S4x128x128 .f32) (j : ℕ) (hj : j < 8) (σ : Carry F)
    {k : PUnit → Prog (TpuEff nD τ sig (Elt F) Λ₀ .tc) α} {Q : α → sProp 𝕄} :
    iprop(owns (c : Thread nD τ) mS fullShare σ.S ∗ owns (c : Thread nD τ) mZ fullShare σ.Z ∗ owns (c : Thread nD τ) mV fullShare V
        ∗ owns (c : Thread nD τ) mO fullShare σ.O : sProp 𝕄)
      ⊢ iprop((iprop(owns (c : Thread nD τ) mS fullShare (stepFn onesSame onesOut lane base b0 b1 b2 b3 V j hj σ).S
            ∗ owns (c : Thread nD τ) mZ fullShare (stepFn onesSame onesOut lane base b0 b1 b2 b3 V j hj σ).Z
            ∗ owns (c : Thread nD τ) mV fullShare V
            ∗ owns (c : Thread nD τ) mO fullShare (stepFn onesSame onesOut lane base b0 b1 b2 b3 V j hj σ).O)
            -∗ wp frame (wpE (defs₀ (F := F)) 𝒱₀ c none) E (k ⟨⟩) Q)
        -∗ wp frame (wpE (defs₀ (F := F)) 𝒱₀ c none) E
            (stepProg mS mZ mV mO onesSame onesOut lane firstHalf base b0 b1 b2 b3 j hj >>= k) Q) := by
  iintro ⟨HS, HZ, HV, HO⟩ K
  unfold stepProg
  simp only [bind_assoc]
  iapply (wp_loadState c E mS σ.S 0 _) $$ HS
  iintro HS
  iapply (wp_loadState c E mS σ.S 1 _) $$ HS
  iintro HS
  iapply (wp_loadState c E mS σ.S 2 _) $$ HS
  iintro HS
  iapply (wp_loadState c E mS σ.S 3 _) $$ HS
  iintro HS
  iapply (wp_tileProg c E mS mZ mV lane base j hj b0 0 _ σ.S _ _ V _) $$ [HS HZ HV]
  · isplitl [HS]; · iexact HS
    isplitl [HZ] <;> iassumption
  iintro HS HZ HV
  iapply (wp_tileProg c E mS mZ mV lane base j hj b1 1 _ σ.S _ _ V _) $$ [HS HZ HV]
  · isplitl [HS]; · iexact HS
    isplitl [HZ] <;> iassumption
  iintro HS HZ HV
  iapply (wp_tileProg c E mS mZ mV lane base j hj b2 2 _ σ.S _ _ V _) $$ [HS HZ HV]
  · isplitl [HS]; · iexact HS
    isplitl [HZ] <;> iassumption
  iintro HS HZ HV
  iapply (wp_tileProg c E mS mZ mV lane base j hj b3 3 _ σ.S _ _ V _) $$ [HS HZ HV]
  · isplitl [HS]; · iexact HS
    isplitl [HZ] <;> iassumption
  iintro HS HZ HV
  iapply (wp_storeColumn c E mO _ _ 0 0 _ _ _) $$ HO
  iintro HO
  iapply (wp_storeColumn c E mO _ _ 0 64 _ _ _) $$ HO
  iintro HO
  iapply (wp_storeColumn c E mO _ _ 1 0 _ _ _) $$ HO
  iintro HO
  iapply (wp_storeColumn c E mO _ _ 1 64 _ _ _) $$ HO
  iintro HO
  iapply (wp_storeColumn c E mO _ _ 2 0 _ _ _) $$ HO
  iintro HO
  iapply (wp_storeColumn c E mO _ _ 2 64 _ _ _) $$ HO
  iintro HO
  iapply (wp_storeColumn c E mO _ _ 3 0 _ _ _) $$ HO
  iintro HO
  iapply (wp_storeColumn c E mO _ _ 3 64 _ _ _) $$ HO
  iintro HO
  iapply K
  isplitl [HS]; · iexact HS
  isplitl [HZ]; · iexact HZ
  isplitl [HV]; · iexact HV
  iexact HO

end Run

end Cert.KernelIdeal.Rwkv

end
-- ==== Proof.Rwkv.BodyRun.lean ====
/- What one trip, the loop, and one grid point of the kernel do to the buffers they touch, as functions
   of the contents they are given. -/
module

public import proofs.«01_k».proof.Proof.Rwkv.Body
public import proofs.«01_k».proof.Proof.Rwkv.StepRun

@[expose] public section

noncomputable section

namespace Cert.KernelIdeal.Rwkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The blocks of the nine operands that a chunk reads. -/
structure Blocks (F : FTy → Type) where
  /-- the receptance -/
  r : Vec F S2x128x256 .f32
  /-- the decay -/
  w : Vec F S2x128x256 .f32
  /-- the key -/
  k : Vec F S2x128x256 .f32
  /-- the removal key -/
  q : Vec F S2x128x256 .f32
  /-- the removal key times the rate -/
  p : Vec F S2x128x256 .f32
  /-- the value -/
  v : Vec F S2x128x256 .f32
  /-- the decay times the next removal key -/
  g : Vec F S2x128x256 .f32
  /-- the head sum of the removal key times the rate with the next removal key -/
  c : Vec F S2x128x256 .f32
  /-- the head sum of the key with the next removal key -/
  d : Vec F S2x128x256 .f32

/-- Eight rows of a block. -/
def rowsAt (X : Vec F S2x128x256 .f32) (off : Fin 3 → ℕ) (inb : ∀ a, off a + S1x8x128.size a ≤ S2x128x256.size a) : FVec F S8x128 .f32 :=
  shapeCast S8x128 (VecWindow.window X off S1x8x128.size inb : Vec F S1x8x128 .f32) shapeCasts_S1x8x128_S8x128

/-- The rows of one tile in one trip. -/
def tripRows (B : Blocks F) (off : Fin 3 → ℕ) (inb : ∀ a, off a + S1x8x128.size a ≤ S2x128x256.size a) : Rows F :=
  ⟨rowsAt B.r off inb, rowsAt B.w off inb, rowsAt B.k off inb, rowsAt B.p off inb, rowsAt B.g off inb, rowsAt B.c off inb, rowsAt B.d off inb⟩

/-- Step `j` of trip `t` on what is carried. -/
def tripStep (B : Blocks F) (V : Vec F S4x128x128 .f32) (t : Fin k0_t1_loop.trips) (j : ℕ) (hj : j < 8) (σ : Carry F) : Carry F :=
  stepFn onesSame onesOut laneIota (tripBase t) (tripRows B (k0_off1 t) (k0_off1_inb t)) (tripRows B (k0_off2 t) (k0_off2_inb t))
    (tripRows B (k0_off3 t) (k0_off3_inb t)) (tripRows B (k0_off4 t) (k0_off4_inb t)) V j hj σ

/-- One trip on what is carried. -/
def tripFn (B : Blocks F) (V : Vec F S4x128x128 .f32) (t : Fin k0_t1_loop.trips) (σ : Carry F) : Carry F :=
  tripStep B V t 7 (by decide) (tripStep B V t 6 (by decide) (tripStep B V t 5 (by decide) (tripStep B V t 4 (by decide)
    (tripStep B V t 3 (by decide) (tripStep B V t 2 (by decide) (tripStep B V t 1 (by decide) (tripStep B V t 0 (by decide) σ)))))))

/-- The first `n` trips on what is carried. -/
def tripsFn (B : Blocks F) (V : Vec F S4x128x128 .f32) (σ : Carry F) : ℕ → Carry F
  | 0 => σ
  | n + 1 => if h : n < k0_t1_loop.trips then tripFn B V ⟨n, h⟩ (tripsFn B V σ n) else tripsFn B V σ n

theorem tripsFn_succ (B : Blocks F) (V : Vec F S4x128x128 .f32) (σ : Carry F) (n : ℕ) (h : n < k0_t1_loop.trips) :
    tripsFn B V σ (n + 1) = tripFn B V ⟨n, h⟩ (tripsFn B V σ n) := by
  rw [tripsFn, dif_pos h]

/-- The transposed values with those of tile `i` laid in. -/
def turnInFn (v : Vec F S2x128x256 .f32) (i b o : ℕ) (hb : b < 2) (ho : o ≤ 128) (V : Vec F S4x128x128 .f32) : Vec F S4x128x128 .f32 :=
  putOn V ![i, 0, 0] S1x128x128.size (shapeCast S1x128x128 (turned (VecWindow.window v ![b, 0, o] S1x128x128.size (inb_block b o hb ho))) shapeCasts_S128x128_S1x128x128) Finset.univ

/-- The transposed values of a chunk. -/
def valuesFn (v : Vec F S2x128x256 .f32) (V : Vec F S4x128x128 .f32) : Vec F S4x128x128 .f32 :=
  turnInFn v 3 1 128 (by decide) (by decide) (turnInFn v 2 1 0 (by decide) (by decide)
    (turnInFn v 1 0 128 (by decide) (by decide) (turnInFn v 0 0 0 (by decide) (by decide) V)))

/-- The output block with the outputs of tile `i` laid in. -/
def turnOutFn (O : Vec F S4x128x128 .f32) (i b o : ℕ) (hi : i < 4) (X : Vec F S2x128x256 .f32) : Vec F S2x128x256 .f32 :=
  putOn X ![b, 0, o] S1x128x128.size (shapeCast S1x128x128 (turned (VecWindow.window O ![i, 0, 0] S1x128x128.size (inb_whole i hi))) shapeCasts_S128x128_S1x128x128) Finset.univ

/-- The output block of a chunk. -/
def outFn (O : Vec F S4x128x128 .f32) (X : Vec F S2x128x256 .f32) : Vec F S2x128x256 .f32 :=
  turnOutFn O 3 1 128 (by decide) (turnOutFn O 2 1 0 (by decide) (turnOutFn O 1 0 128 (by decide) (turnOutFn O 0 0 0 (by decide) X)))

/-- A whole state buffer overwritten. -/
def putS (X x : Vec F S4x64x128 .f32) : Vec F S4x64x128 .f32 := putOn X ![0, 0, 0] S4x64x128.size x Finset.univ

/-- A whole state buffer read. -/
def wholeS (X : Vec F S4x64x128 .f32) : Vec F S4x64x128 .f32 := VecWindow.window X ![0, 0, 0] S4x64x128.size inb_S4x64x128_S4x64x128_0_0_0

/-- Tile `i` of the initial state times the first removal key. -/
def firstTile (q : Vec F S2x128x256 .f32) (s : Vec F S4x64x128 .f32) (i b o : ℕ) (hi : i < 4) (hb : b < 2) (ho : o ≤ 128) : FVec F S64x128 .f32 :=
  firstProduct (getS s i hi) (VecWindow.window q ![b, 0, o] S1x1x128.size (inb_firstRow b o hb ho))

/-- The head sums of the first removal. -/
def firstSums (q : Vec F S2x128x256 .f32) (s : Vec F S4x64x128 .f32) : FVec F S256x128 .f32 :=
  headSums onesSame (firstTile q s 0 0 0 (by decide) (by decide) (by decide)) (firstTile q s 1 0 128 (by decide) (by decide) (by decide))
    (firstTile q s 2 1 0 (by decide) (by decide) (by decide)) (firstTile q s 3 1 128 (by decide) (by decide) (by decide))

/-- The first removal of every tile. -/
def firstZ (a : FVec F S256x128 .f32) (Z : Vec F S4x64x128 .f32) : Vec F S4x64x128 .f32 :=
  setS (setS (setS (setS Z 0 (tile 0 (by decide) a)) 1 (tile 1 (by decide) a)) 2 (tile 2 (by decide) a)) 3 (tile 3 (by decide) a)

/-- What the first point makes of what is carried. -/
def startFn (q : Vec F S2x128x256 .f32) (s : Vec F S4x64x128 .f32) (σ : Carry F) : Carry F :=
  ⟨putS σ.S (shapeCast S4x64x128 (shapeCast S4x64x128 (wholeS s) shapeCasts_S4x64x128_S4x64x128) shapeCasts_S4x64x128_S4x64x128), firstZ (firstSums q s) σ.Z, σ.O⟩

/-- What is carried when a point's steps begin. -/
def enterFn (i : grid0.Coords) (q : Vec F S2x128x256 .f32) (s : Vec F S4x64x128 .f32) (σ : Carry F) : Carry F :=
  if atFirst i = 1#1 then startFn q s σ else σ

/-- What one grid point makes of what is carried. -/
def pointFn (i : grid0.Coords) (B : Blocks F) (s : Vec F S4x64x128 .f32) (V : Vec F S4x128x128 .f32) (σ : Carry F) : Carry F :=
  tripsFn B (valuesFn B.v V) (enterFn i B.q s σ) k0_t1_loop.trips

/-- What one grid point leaves in the buffer of the last state. -/
def lastFn (i : grid0.Coords) (S X : Vec F S4x64x128 .f32) : Vec F S4x64x128 .f32 :=
  if k0_cond2 i = 1#1 then putS X (wholeS S) else X

section Run

variable (c : Dev nD) (E : Set ℕ) {α : Type}

/-- A triple around what follows a program is one of the program. -/
theorem wp_of_bind (p : Prog (TpuEff nD τ sig (Elt F) Λ₀ .tc) PUnit) (P R : sProp 𝕄) (c : Dev nD) (E : Set ℕ)
    (h : P ⊢ iprop((R -∗ wp frame (wpE (defs₀ (F := F)) 𝒱₀ c none) E (pure ⟨⟩) (fun _ : PUnit => R))
        -∗ wp frame (wpE (defs₀ (F := F)) 𝒱₀ c none) E (p >>= pure) (fun _ : PUnit => R))) :
    P ⊢ wp frame (wpE (defs₀ (F := F)) 𝒱₀ c none) E p fun _ => R := by
  rw [bind_pure] at h
  iintro H
  iapply h $$ H
  iintro H
  rw [wp_pure]
  iapply fupd_intro
  iexact H

theorem wp_loadRows4 (m : Memref sig .tc .vmem S2x128x256 .f32) (X : Vec F S2x128x256 .f32) (t : Fin k0_t1_loop.trips) {β : Type}
    {f : FVec F S8x128 .f32 → FVec F S8x128 .f32 → FVec F S8x128 .f32 → FVec F S8x128 .f32 → Prog (TpuEff nD τ sig (Elt F) Λ₀ .tc) β}
    {k : β → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ c none) E
            (f (rowsAt X (k0_off1 t) (k0_off1_inb t)) (rowsAt X (k0_off2 t) (k0_off2_inb t)) (rowsAt X (k0_off3 t) (k0_off3_inb t)) (rowsAt X (k0_off4 t) (k0_off4_inb t)) >>= k) Q)
        -∗ wp frame (wpE (defs₀ (F := F)) 𝒱₀ c none) E (loadRows4 m t f >>= k) Q) := by
  iintro H K
  iapply (wp_load_owns c E m X) $$ H
  iintro H
  iapply (wp_load_owns c E m X) $$ H
  iintro H
  iapply (wp_load_owns c E m X) $$ H
  iintro H
  iapply (wp_load_owns c E m X) $$ H
  iexact K

/-- The operands of the loop held at a chunk's blocks. -/
def heldIns (m1 m2 m3 m5 m7 m8 m9 : Memref sig .tc .vmem S2x128x256 .f32) (B : Blocks F) : sProp 𝕄 :=
  iprop(owns (c : Thread nD τ) m1 fullShare B.r ∗ owns (c : Thread nD τ) m2 fullShare B.w ∗ owns (c : Thread nD τ) m3 fullShare B.k
    ∗ owns (c : Thread nD τ) m5 fullShare B.p ∗ owns (c : Thread nD τ) m7 fullShare B.g ∗ owns (c : Thread nD τ) m8 fullShare B.c
    ∗ owns (c : Thread nD τ) m9 fullShare B.d)

/-- The scratch buffers held at what is carried and at the values. -/
def heldCarry (mS mZ : Memref sig .tc .vmem S4x64x128 .f32) (mV mO : Memref sig .tc .vmem S4x128x128 .f32)
    (V : Vec F S4x128x128 .f32) (σ : Carry F) : sProp 𝕄 :=
  iprop(owns (c : Thread nD τ) mS fullShare σ.S ∗ owns (c : Thread nD τ) mZ fullShare σ.Z ∗ owns (c : Thread nD τ) mV fullShare V
    ∗ owns (c : Thread nD τ) mO fullShare σ.O)

/-- One trip. -/
theorem wp_tripProg (m1 m2 m3 m5 m7 m8 m9 : Memref sig .tc .vmem S2x128x256 .f32) (mS mZ : Memref sig .tc .vmem S4x64x128 .f32)
    (mV mO : Memref sig .tc .vmem S4x128x128 .f32) (B : Blocks F) (V : Vec F S4x128x128 .f32) (t : Fin k0_t1_loop.trips) (σ : Carry F)
    {k : PUnit → Prog (TpuEff nD τ sig (Elt F) Λ₀ .tc) α} {Q : α → sProp 𝕄} :
    iprop(heldIns c m1 m2 m3 m5 m7 m8 m9 B ∗ heldCarry c mS mZ mV mO V σ : sProp 𝕄)
      ⊢ iprop((iprop(heldIns c m1 m2 m3 m5 m7 m8 m9 B ∗ heldCarry c mS mZ mV mO V (tripFn B V t σ))
            -∗ wp frame (wpE (defs₀ (F := F)) 𝒱₀ c none) E (k ⟨⟩) Q)
        -∗ wp frame (wpE (defs₀ (F := F)) 𝒱₀ c none) E
            (tripProg m1 m2 m3 m5 m7 m8 m9 mS mZ mV mO onesSame onesOut laneIota t >>= k) Q) := by
  unfold heldIns
  iintro ⟨⟨H1, H2, H3, H5, H7, H8, H9⟩, H⟩ K
  unfold tripProg
  iapply (wp_loadRows4 c E m1 B.r t) $$ H1
  iintro H1
  iapply (wp_loadRows4 c E m2 B.w t) $$ H2
  iintro H2
  iapply (wp_loadRows4 c E m3 B.k t) $$ H3
  iintro H3
  iapply (wp_loadRows4 c E m5 B.p t) $$ H5
  iintro H5
  iapply (wp_loadRows4 c E m7 B.g t) $$ H7
  iintro H7
  iapply (wp_loadRows4 c E m8 B.c t) $$ H8
  iintro H8
  iapply (wp_loadRows4 c E m9 B.d t) $$ H9
  iintro H9
  simp only [bind_assoc]
  unfold heldCarry
  iapply (wp_stepProg c E mS mZ mV mO onesSame onesOut laneIota (tripBase t) _ _ _ _ V 0 _ _) $$ H
  iintro H
  iapply (wp_stepProg c E mS mZ mV mO onesSame onesOut laneIota (tripBase t) _ _ _ _ V 1 _ _) $$ H
  iintro H
  iapply (wp_stepProg c E mS mZ mV mO onesSame onesOut laneIota (tripBase t) _ _ _ _ V 2 _ _) $$ H
  iintro H
  iapply (wp_stepProg c E mS mZ mV mO onesSame onesOut laneIota (tripBase t) _ _ _ _ V 3 _ _) $$ H
  iintro H
  iapply (wp_stepProg c E mS mZ mV mO onesSame onesOut laneIota (tripBase t) _ _ _ _ V 4 _ _) $$ H
  iintro H
  iapply (wp_stepProg c E mS mZ mV mO onesSame onesOut laneIota (tripBase t) _ _ _ _ V 5 _ _) $$ H
  iintro H
  iapply (wp_stepProg c E mS mZ mV mO onesSame onesOut laneIota (tripBase t) _ _ _ _ V 6 _ _) $$ H
  iintro H
  iapply (wp_stepProg c E mS mZ mV mO onesSame onesOut laneIota (tripBase t) _ _ _ _ V 7 _ _) $$ H
  iintro H
  iapply K
  isplitr [H]
  · isplitl [H1]; · iexact H1
    isplitl [H2]; · iexact H2
    isplitl [H3]; · iexact H3
    isplitl [H5]; · iexact H5
    isplitl [H7]; · iexact H7
    isplitl [H8]; · iexact H8
    iexact H9
  · iexact H

/-- What is held after `n` trips. -/
def loopInv (m1 m2 m3 m5 m7 m8 m9 : Memref sig .tc .vmem S2x128x256 .f32) (mS mZ : Memref sig .tc .vmem S4x64x128 .f32)
    (mV mO : Memref sig .tc .vmem S4x128x128 .f32) (B : Blocks F) (V : Vec F S4x128x128 .f32) (σ : Carry F) (n : ℕ) : sProp 𝕄 :=
  iprop(heldIns c m1 m2 m3 m5 m7 m8 m9 B ∗ heldCarry c mS mZ mV mO V (tripsFn B V σ n))

attribute [local irreducible] tripsFn tripFn tripProg heldIns heldCarry in
/-- The loop of a chunk. -/
theorem wp_tripsProg (m1 m2 m3 m5 m7 m8 m9 : Memref sig .tc .vmem S2x128x256 .f32) (mS mZ : Memref sig .tc .vmem S4x64x128 .f32)
    (mV mO : Memref sig .tc .vmem S4x128x128 .f32) (B : Blocks F) (V : Vec F S4x128x128 .f32) (σ : Carry F)
    {k : PUnit → Prog (TpuEff nD τ sig (Elt F) Λ₀ .tc) α} {Q : α → sProp 𝕄} :
    loopInv c m1 m2 m3 m5 m7 m8 m9 mS mZ mV mO B V σ 0
      ⊢ iprop((loopInv c m1 m2 m3 m5 m7 m8 m9 mS mZ mV mO B V σ k0_t1_loop.trips
            -∗ wp frame (wpE (defs₀ (F := F)) 𝒱₀ c none) E (k ⟨⟩) Q)
        -∗ wp frame (wpE (defs₀ (F := F)) 𝒱₀ c none) E
            (Scf.Loop.for k0_t1_loop k0_t1_ok ⟨⟩ (fun t _ => tripProg m1 m2 m3 m5 m7 m8 m9 mS mZ mV mO onesSame onesOut laneIota t) >>= k) Q) := by
  have hb : ∀ (n : Fin (Scf.trips k0_t1_loop.lb k0_t1_loop.ub k0_t1_loop.st)) (u : PUnit),
      loopInv c m1 m2 m3 m5 m7 m8 m9 mS mZ mV mO B V σ n.val
        ⊢ wp frame (wpE (defs₀ (F := F)) 𝒱₀ c none) E (tripProg m1 m2 m3 m5 m7 m8 m9 mS mZ mV mO onesSame onesOut laneIota n)
          fun _ => loopInv c m1 m2 m3 m5 m7 m8 m9 mS mZ mV mO B V σ (n.val + 1) := by
    rintro ⟨n, hn⟩ u
    have hn' : n < k0_t1_loop.trips := hn
    have e := tripsFn_succ B V σ n hn'
    have h := wp_tripProg c E m1 m2 m3 m5 m7 m8 m9 mS mZ mV mO B V ⟨n, hn'⟩ (tripsFn B V σ n) (k := pure)
      (Q := fun _ => iprop(heldIns c m1 m2 m3 m5 m7 m8 m9 B ∗ heldCarry c mS mZ mV mO V (tripFn B V ⟨n, hn'⟩ (tripsFn B V σ n))))
    rw [← e] at h
    refine wp_of_bind (tripProg m1 m2 m3 m5 m7 m8 m9 mS mZ mV mO onesSame onesOut laneIota ⟨n, hn'⟩)
      (loopInv c m1 m2 m3 m5 m7 m8 m9 mS mZ mV mO B V σ n) (loopInv c m1 m2 m3 m5 m7 m8 m9 mS mZ mV mO B V σ (n + 1)) c E ?_
    unfold loopInv
    exact h
  iintro H K
  iapply (Scf.wp_for_bind frame (wpE (defs₀ (F := F)) 𝒱₀ c none) E k0_t1_loop.lb k0_t1_loop.ub k0_t1_loop.st k0_t1_ok ⟨⟩
    (fun t _ => tripProg m1 m2 m3 m5 m7 m8 m9 mS mZ mV mO onesSame onesOut laneIota t)
    (fun n _ => loopInv c m1 m2 m3 m5 m7 m8 m9 mS mZ mV mO B V σ n) hb) $$ H
  iintro %acc H
  iapply K $$ H

theorem wp_turnIn (m6 : Memref sig .tc .vmem S2x128x256 .f32) (mV : Memref sig .tc .vmem S4x128x128 .f32) (v : Vec F S2x128x256 .f32) (V : Vec F S4x128x128 .f32)
    (i b o : ℕ) (hi : i < 4) (hb : b < 2) (ho : o ≤ 128) {k : PUnit → Prog (TpuEff nD τ sig (Elt F) Λ₀ .tc) α} {Q : α → sProp 𝕄} :
    iprop(owns (c : Thread nD τ) m6 fullShare v ∗ owns (c : Thread nD τ) mV fullShare V : sProp 𝕄)
      ⊢ iprop((iprop(owns (c : Thread nD τ) m6 fullShare v ∗ owns (c : Thread nD τ) mV fullShare (turnInFn v i b o hb ho V)) -∗ wp frame (wpE (defs₀ (F := F)) 𝒱₀ c none) E (k ⟨⟩) Q)
        -∗ wp frame (wpE (defs₀ (F := F)) 𝒱₀ c none) E (turnIn m6 mV i b o hi hb ho >>= k) Q) := by
  iintro ⟨H6, HV⟩ K
  iapply (wp_load_owns c E m6 v) $$ H6
  iintro H6
  iapply (wp_load_owns c E mV V) $$ HV
  iintro HV
  iapply (wp_store_owns c E mV V) $$ HV
  iintro HV
  iapply K
  isplitl [H6]; · iexact H6
  iexact HV

theorem wp_turnOut (mO : Memref sig .tc .vmem S4x128x128 .f32) (m11 : Memref sig .tc .vmem S2x128x256 .f32) (O : Vec F S4x128x128 .f32) (X : Vec F S2x128x256 .f32)
    (i b o : ℕ) (hi : i < 4) (hb : b < 2) (ho : o ≤ 128) {k : PUnit → Prog (TpuEff nD τ sig (Elt F) Λ₀ .tc) α} {Q : α → sProp 𝕄} :
    iprop(owns (c : Thread nD τ) mO fullShare O ∗ owns (c : Thread nD τ) m11 fullShare X : sProp 𝕄)
      ⊢ iprop((iprop(owns (c : Thread nD τ) mO fullShare O ∗ owns (c : Thread nD τ) m11 fullShare (turnOutFn O i b o hi X)) -∗ wp frame (wpE (defs₀ (F := F)) 𝒱₀ c none) E (k ⟨⟩) Q)
        -∗ wp frame (wpE (defs₀ (F := F)) 𝒱₀ c none) E (turnOut mO m11 i b o hi hb ho >>= k) Q) := by
  iintro ⟨HO, H11⟩ K
  iapply (wp_load_owns c E mO O) $$ HO
  iintro HO
  iapply (wp_load_owns c E m11 X) $$ H11
  iintro H11
  iapply (wp_store_owns c E m11 X) $$ H11
  iintro H11
  iapply K
  isplitl [HO]; · iexact HO
  iexact H11

theorem wp_loadFirst (m4 : Memref sig .tc .vmem S2x128x256 .f32) (m10 : Memref sig .tc .vmem S4x64x128 .f32) (q : Vec F S2x128x256 .f32) (s : Vec F S4x64x128 .f32)
    (i b o : ℕ) (hi : i < 4) (hb : b < 2) (ho : o ≤ 128) {k : FVec F S64x128 .f32 → Prog (TpuEff nD τ sig (Elt F) Λ₀ .tc) α} {Q : α → sProp 𝕄} :
    iprop(owns (c : Thread nD τ) m4 fullShare q ∗ owns (c : Thread nD τ) m10 fullShare s : sProp 𝕄)
      ⊢ iprop((iprop(owns (c : Thread nD τ) m4 fullShare q ∗ owns (c : Thread nD τ) m10 fullShare s) -∗ wp frame (wpE (defs₀ (F := F)) 𝒱₀ c none) E (k (firstTile q s i b o hi hb ho)) Q)
        -∗ wp frame (wpE (defs₀ (F := F)) 𝒱₀ c none) E (loadFirst m4 m10 i b o hi hb ho >>= k) Q) := by
  iintro ⟨H4, H10⟩ K
  iapply (wp_load_owns c E m10 s) $$ H10
  iintro H10
  iapply (wp_load_owns c E m4 q) $$ H4
  iintro H4
  iapply K
  isplitl [H4]; · iexact H4
  iexact H10

/-- What the first point alone does. -/
theorem wp_firstProg (i : grid0.Coords) (m4 : Memref sig .tc .vmem S2x128x256 .f32) (m10 mS mZ : Memref sig .tc .vmem S4x64x128 .f32)
    (mV mO : Memref sig .tc .vmem S4x128x128 .f32) (q : Vec F S2x128x256 .f32) (s : Vec F S4x64x128 .f32) (V : Vec F S4x128x128 .f32) (σ : Carry F)
    {k : PUnit → Prog (TpuEff nD τ sig (Elt F) Λ₀ .tc) α} {Q : α → sProp 𝕄} :
    iprop(owns (c : Thread nD τ) m4 fullShare q ∗ owns (c : Thread nD τ) m10 fullShare s ∗ heldCarry c mS mZ mV mO V σ : sProp 𝕄)
      ⊢ iprop((iprop(owns (c : Thread nD τ) m4 fullShare q ∗ owns (c : Thread nD τ) m10 fullShare s ∗ heldCarry c mS mZ mV mO V (enterFn i q s σ))
            -∗ wp frame (wpE (defs₀ (F := F)) 𝒱₀ c none) E (k ⟨⟩) Q)
        -∗ wp frame (wpE (defs₀ (F := F)) 𝒱₀ c none) E (firstProg i m4 m10 mS mZ >>= k) Q) := by
  unfold firstProg enterFn
  by_cases h : atFirst i = 1#1
  · rw [dif_pos h, if_pos h]
    unfold heldCarry startProg
    simp only [bind_assoc]
    iintro ⟨H4, H10, HS, HZ, HV, HO⟩ K
    iapply (wp_load_owns c E m10 s) $$ H10
    iintro H10
    iapply (wp_load_owns c E mS σ.S) $$ HS
    iintro HS
    iapply (wp_store_owns c E mS σ.S) $$ HS
    iintro HS
    iapply (wp_loadFirst c E m4 m10 q s 0 0 0 _ _ _) $$ [H4 H10]
    · isplitl [H4] <;> iassumption
    iintro ⟨H4, H10⟩
    iapply (wp_loadFirst c E m4 m10 q s 1 0 128 _ _ _) $$ [H4 H10]
    · isplitl [H4] <;> iassumption
    iintro ⟨H4, H10⟩
    iapply (wp_loadFirst c E m4 m10 q s 2 1 0 _ _ _) $$ [H4 H10]
    · isplitl [H4] <;> iassumption
    iintro ⟨H4, H10⟩
    iapply (wp_loadFirst c E m4 m10 q s 3 1 128 _ _ _) $$ [H4 H10]
    · isplitl [H4] <;> iassumption
    iintro ⟨H4, H10⟩
    iapply (wp_storeState c E mZ σ.Z 0 _ _) $$ HZ
    iintro HZ
    iapply (wp_storeState c E mZ _ 1 _ _) $$ HZ
    iintro HZ
    iapply (wp_storeState c E mZ _ 2 _ _) $$ HZ
    iintro HZ
    iapply (wp_storeState c E mZ _ 3 _ _) $$ HZ
    iintro HZ
    iapply K
    isplitl [H4]; · iexact H4
    isplitl [H10]; · iexact H10
    isplitl [HS]; · iexact HS
    isplitl [HZ]; · iexact HZ
    isplitl [HV]; · iexact HV
    iexact HO
  · rw [dif_neg h, if_neg h, pure_bind]
    iintro H K
    iapply K $$ H

/-- What the last point alone does. -/
theorem wp_lastProg (i : grid0.Coords) (mS m12 : Memref sig .tc .vmem S4x64x128 .f32) (S Y : Vec F S4x64x128 .f32) {Q : PUnit → sProp 𝕄} :
    iprop(owns (c : Thread nD τ) mS fullShare S ∗ owns (c : Thread nD τ) m12 fullShare Y : sProp 𝕄)
      ⊢ iprop((iprop(owns (c : Thread nD τ) mS fullShare S ∗ owns (c : Thread nD τ) m12 fullShare (lastFn i S Y)) -∗ Q ⟨⟩)
        -∗ wp frame (wpE (defs₀ (F := F)) 𝒱₀ c none) E (lastProg i mS m12) Q) := by
  unfold lastProg lastFn
  by_cases h : k0_cond2 i = 1#1
  · rw [dif_pos h, if_pos h]
    iintro ⟨HS, H12⟩ K
    iapply (wp_load_owns c E mS S) $$ HS
    iintro HS
    iapply (wp_load_owns c E m12 Y) $$ H12
    iintro H12
    iapply (wp_store_owns c E m12 Y (k := pure)) $$ H12
    iintro H12
    rw [wp_pure]
    iapply fupd_intro
    iapply K
    isplitl [HS]; · iexact HS
    iexact H12
  · rw [dif_neg h, if_neg h, wp_pure]
    iintro H K
    iapply fupd_intro
    iapply K $$ H

attribute [local irreducible] tripsFn tripFn tripProg in
/-- One grid point. -/
theorem wp_bodyProg (i : grid0.Coords) (m1 m2 m3 m4 m5 m6 m7 m8 m9 : Memref sig .tc .vmem S2x128x256 .f32) (m10 : Memref sig .tc .vmem S4x64x128 .f32)
    (m11 : Memref sig .tc .vmem S2x128x256 .f32) (m12 mS mZ : Memref sig .tc .vmem S4x64x128 .f32) (mV mO : Memref sig .tc .vmem S4x128x128 .f32)
    (B : Blocks F) (s : Vec F S4x64x128 .f32) (X : Vec F S2x128x256 .f32) (Y : Vec F S4x64x128 .f32) (V : Vec F S4x128x128 .f32) (σ : Carry F) {Q : PUnit → sProp 𝕄} :
    iprop(heldIns c m1 m2 m3 m5 m7 m8 m9 B ∗ owns (c : Thread nD τ) m4 fullShare B.q ∗ owns (c : Thread nD τ) m6 fullShare B.v ∗ owns (c : Thread nD τ) m10 fullShare s
        ∗ owns (c : Thread nD τ) m11 fullShare X ∗ owns (c : Thread nD τ) m12 fullShare Y ∗ heldCarry c mS mZ mV mO V σ : sProp 𝕄)
      ⊢ iprop((iprop(heldIns c m1 m2 m3 m5 m7 m8 m9 B ∗ owns (c : Thread nD τ) m4 fullShare B.q ∗ owns (c : Thread nD τ) m6 fullShare B.v ∗ owns (c : Thread nD τ) m10 fullShare s
            ∗ owns (c : Thread nD τ) m11 fullShare (outFn (pointFn i B s V σ).O X) ∗ owns (c : Thread nD τ) m12 fullShare (lastFn i (pointFn i B s V σ).S Y)
            ∗ heldCarry c mS mZ mV mO (valuesFn B.v V) (pointFn i B s V σ)) -∗ Q ⟨⟩)
        -∗ wp frame (wpE (defs₀ (F := F)) 𝒱₀ c none) E (bodyProg i m1 m2 m3 m4 m5 m6 m7 m8 m9 m10 m11 m12 mS mZ mV mO) Q) := by
  iintro ⟨HI, H4, H6, H10, H11, H12, HC⟩ K
  unfold bodyProg
  iapply (wp_firstProg c E i m4 m10 mS mZ mV mO B.q s V σ) $$ [H4 H10 HC]
  · isplitl [H4]; · iexact H4
    isplitl [H10] <;> iassumption
  unfold heldCarry
  iintro ⟨H4, H10, HS, HZ, HV, HO⟩
  iapply (wp_turnIn c E m6 mV B.v V 0 0 0 _ _ _) $$ [H6 HV]
  · isplitl [H6] <;> iassumption
  iintro ⟨H6, HV⟩
  iapply (wp_turnIn c E m6 mV B.v _ 1 0 128 _ _ _) $$ [H6 HV]
  · isplitl [H6] <;> iassumption
  iintro ⟨H6, HV⟩
  iapply (wp_turnIn c E m6 mV B.v _ 2 1 0 _ _ _) $$ [H6 HV]
  · isplitl [H6] <;> iassumption
  iintro ⟨H6, HV⟩
  iapply (wp_turnIn c E m6 mV B.v _ 3 1 128 _ _ _) $$ [H6 HV]
  · isplitl [H6] <;> iassumption
  iintro ⟨H6, HV⟩
  iapply (wp_tripsProg c E m1 m2 m3 m5 m7 m8 m9 mS mZ mV mO B (valuesFn B.v V) (enterFn i B.q s σ)) $$ [HI HS HZ HV HO]
  · unfold loopInv heldCarry tripsFn
    isplitl [HI]; · iexact HI
    isplitl [HS]; · iexact HS
    isplitl [HZ]; · iexact HZ
    isplitl [HV]; · iexact HV
    iexact HO
  unfold loopInv heldCarry
  iintro ⟨HI, HS, HZ, HV, HO⟩
  iapply (wp_turnOut c E mO m11 _ X 0 0 0 _ _ _) $$ [HO H11]
  · isplitl [HO] <;> iassumption
  iintro ⟨HO, H11⟩
  iapply (wp_turnOut c E mO m11 _ _ 1 0 128 _ _ _) $$ [HO H11]
  · isplitl [HO] <;> iassumption
  iintro ⟨HO, H11⟩
  iapply (wp_turnOut c E mO m11 _ _ 2 1 0 _ _ _) $$ [HO H11]
  · isplitl [HO] <;> iassumption
  iintro ⟨HO, H11⟩
  iapply (wp_turnOut c E mO m11 _ _ 3 1 128 _ _ _) $$ [HO H11]
  · isplitl [HO] <;> iassumption
  iintro ⟨HO, H11⟩
  iapply (wp_lastProg c E i mS m12 _ Y) $$ [HS H12]
  · isplitl [HS] <;> iassumption
  iintro ⟨HS, H12⟩
  iapply K
  isplitl [HI]; · iexact HI
  isplitl [H4]; · iexact H4
  isplitl [H6]; · iexact H6
  isplitl [H10]; · iexact H10
  isplitl [H11]; · iexact H11
  isplitl [H12]; · iexact H12
  isplitl [HS]; · iexact HS
  isplitl [HZ]; · iexact HZ
  isplitl [HV]; · iexact HV
  iexact HO

end Run

end Cert.KernelIdeal.Rwkv

end
-- ==== Proof.Rwkv.Pure.lean ====
/- The buffers a step leaves, read at an index: which element of which operand each one is. Everything here is
   placement, and holds over any float type. -/
module

public import proofs.«01_k».proof.Proof.Rwkv.BodyRun
public import Idealize.ShloMosaic.Lib.ValueLayout
public import Idealize.ShloMosaic.Lib.ValueLayoutCasts

@[expose] public section

noncomputable section

namespace Cert.KernelIdeal.Rwkv

open Idealize.ShloMosaic Idealize.ShloMosaic.TcCoe Idealize.ShloMosaic.ValueIdx
open Cert.KernelIdeal.Gen

variable {F : FTy → Type} [FloatOps F]

/-- Inside the window the contents are the masked payload. -/
theorem putOn_of_emb {s : Shape} {α : Type} (x : s.Idx → α) (off size : Fin s.rank → ℕ) (w : ((a : Fin s.rank) → Fin (size a)) → α)
    (M : Finset ((a : Fin s.rank) → Fin (size a))) (y : s.Idx) (z : (a : Fin s.rank) → Fin (size a)) (hz : ∀ a, (y a).val = off a + (z a).val) :
    putOn x off size w M y = if z ∈ M then w z else x y := by
  have h : ∀ a, off a ≤ (y a).val ∧ (y a).val < off a + size a := fun a => by have := hz a; have := (z a).isLt; omega
  have e : Rect.unitLocal (s := s) (off := off) (size := size) y h = z := by
    funext a; refine Fin.ext ?_
    show (y a).val - off a = (z a).val
    have := hz a; omega
  unfold putOn
  rw [dif_pos h, e]

/-- Outside it they are the old ones. -/
theorem putOn_of_not {s : Shape} {α : Type} (x : s.Idx → α) (off size : Fin s.rank → ℕ) (w : ((a : Fin s.rank) → Fin (size a)) → α)
    (M : Finset ((a : Fin s.rank) → Fin (size a))) (y : s.Idx) (a : Fin s.rank) (h : ¬(off a ≤ (y a).val ∧ (y a).val < off a + size a)) :
    putOn x off size w M y = x y := by
  unfold putOn
  rw [dif_neg fun h' => h (h' a)]

theorem getS_apply (X : Vec F S4x64x128 .f32) (i : ℕ) (hi : i < 4) (v : Fin 64) (l : Fin 128) :
    getS X i hi (ix2 v l) = X (ix3 ⟨i, hi⟩ v l) := by
  unfold getS
  refine (shapeCast_1ab_ab_apply (a := 64) (b := 128) _ _ v l).trans ?_
  unfold VecWindow.window
  congr 1
  funext a
  fin_cases a <;> refine Fin.ext ?_
  · show i + 1 * 0 = i; omega
  · show 0 + 1 * v.val = v.val; omega
  · show 0 + 1 * l.val = l.val; omega

theorem setS_apply (X : Vec F S4x64x128 .f32) (i : ℕ) (x : FVec F S64x128 .f32) (a : Fin 4) (v : Fin 64) (l : Fin 128) :
    setS X i x (ix3 a v l) = if a.val = i then x (ix2 v l) else X (ix3 a v l) := by
  unfold setS
  by_cases h : a.val = i
  · rw [if_pos h]
    refine (putOn_of_emb X ![i, 0, 0] S1x64x128.size _ Finset.univ (ix3 a v l) (ix3 (n0 := 1) (n1 := 64) (n2 := 128) 0 v l) ?_).trans ?_
    · intro d; fin_cases d
      · show a.val = i + 0; omega
      · show v.val = 0 + v.val; omega
      · show l.val = 0 + l.val; omega
    · rw [if_pos (Finset.mem_univ _)]
      exact shapeCast_ab_1ab_apply (a := 64) (b := 128) x _ 0 v l
  · rw [if_neg h]
    refine putOn_of_not X ![i, 0, 0] S1x64x128.size _ Finset.univ (ix3 a v l) 0 ?_
    show ¬(i ≤ a.val ∧ a.val < i + 1)
    omega

/-- A state of four tiles. -/
def pack (x0 x1 x2 x3 : FVec F S64x128 .f32) : Vec F S4x64x128 .f32 := fun y =>
  match (show Fin 4 from y 0) with
  | 0 => x0 (ix2 (y 1) (y 2))
  | 1 => x1 (ix2 (y 1) (y 2))
  | 2 => x2 (ix2 (y 1) (y 2))
  | 3 => x3 (ix2 (y 1) (y 2))

/-- A state whose four tiles have been set holds those tiles, whatever it held before. -/
theorem setS_all (X : Vec F S4x64x128 .f32) (x0 x1 x2 x3 : FVec F S64x128 .f32) :
    setS (setS (setS (setS X 0 x0) 1 x1) 2 x2) 3 x3 = pack x0 x1 x2 x3 := by
  funext y
  obtain ⟨a, v, l, rfl⟩ : ∃ (a : Fin 4) (v : Fin 64) (l : Fin 128), y = ix3 a v l := ⟨y 0, y 1, y 2, eq_ix3 y⟩
  simp only [setS_apply]
  unfold pack
  fin_cases a <;> simp <;> rfl

theorem getS_setS (X : Vec F S4x64x128 .f32) (i i' : ℕ) (hi : i' < 4) (x : FVec F S64x128 .f32) :
    getS (setS X i x) i' hi = if i' = i then x else getS X i' hi := by
  funext y
  obtain ⟨v, l, rfl⟩ : ∃ (v : Fin 64) (l : Fin 128), y = ix2 v l := ⟨y 0, y 1, eq_ix2 y⟩
  rw [getS_apply, setS_apply]
  by_cases h : i' = i
  · simp [h]
  · rw [if_neg h, if_neg h, getS_apply]

theorem mem_on {s : Shape} (m : IVec s 1) (z : s.Idx) : z ∈ IVec.on m ↔ m z = 1#1 := by
  unfold IVec.on; simp

theorem setC_hit (O : Vec F S4x128x128 .f32) (k : IVec S1x128 1) (i h : ℕ) (x : FVec F S64x128 .f32) (a : Fin 4) (y : Fin 128) (l : Fin 128) (v : Fin 64)
    (hy : y.val = h + v.val) :
    setC O k i h x (ix3 a y l) = if a.val = i ∧ k (ix2 0 l) = 1#1 then x (ix2 v l) else O (ix3 a y l) := by
  unfold setC
  by_cases ha : a.val = i
  · refine (putOn_of_emb O ![i, h, 0] S1x64x128.size _ _ (ix3 a y l) (ix3 (n0 := 1) (n1 := 64) (n2 := 128) 0 v l) ?_).trans ?_
    · intro d; fin_cases d
      · show a.val = i + 0; omega
      · exact hy
      · show l.val = 0 + l.val; omega
    · have e : ((ix3 (n0 := 1) (n1 := 64) (n2 := 128) 0 v l : S1x64x128.Idx) ∈ IVec.on (shapeCast S1x64x128 (laneMask k) shapeCasts_S64x128_S1x64x128)) ↔ k (ix2 0 l) = 1#1 := by
        rw [mem_on]
        refine Eq.congr_left ?_
        refine (shapeCast_ab_1ab_apply (a := 64) (b := 128) _ _ 0 v l).trans ?_
        unfold laneMask
        refine (broadcastTo_1b_ab_apply (a := 64) (b := 128) _ _ v l).trans ?_
        rw [shapeCast_self]
      simp only [ha, true_and]
      by_cases hk : k (ix2 0 l) = 1#1
      · rw [if_pos (e.mpr hk), if_pos hk]
        exact shapeCast_ab_1ab_apply (a := 64) (b := 128) x _ 0 v l
      · rw [if_neg (fun h => hk (e.mp h)), if_neg hk]
  · rw [if_neg (fun h => ha h.1)]
    refine putOn_of_not O ![i, h, 0] S1x64x128.size _ _ (ix3 a y l) 0 ?_
    show ¬(i ≤ a.val ∧ a.val < i + 1)
    omega

theorem setC_miss (O : Vec F S4x128x128 .f32) (k : IVec S1x128 1) (i h : ℕ) (x : FVec F S64x128 .f32) (a : Fin 4) (y : Fin 128) (l : Fin 128)
    (hy : y.val < h ∨ h + 64 ≤ y.val) :
    setC O k i h x (ix3 a y l) = O (ix3 a y l) := by
  unfold setC
  refine putOn_of_not O ![i, h, 0] S1x64x128.size _ _ (ix3 a y l) 1 ?_
  show ¬(h ≤ y.val ∧ y.val < h + 64)
  omega

theorem outHalf_apply (i o : ℕ) (hi : i < 4) (ho : o ≤ 128) (x : FVec F S256x256 .f32) (v : Fin 64) (l : Fin 128) :
    outHalf i o hi ho x (ix2 v l) = x (ix2 ⟨64 * i + v.val, by omega⟩ ⟨o + l.val, by omega⟩) := by
  unfold outHalf
  refine (extractStridedSlice_apply _ _ _ _ (ix2 (n0 := 64) (n1 := 256) v ⟨o + l.val, by omega⟩) ?_).trans ?_
  · intro d; fin_cases d
    · show v.val = 0 + v.val; omega
    · rfl
  · refine extractStridedSlice_apply _ _ _ _ _ ?_
    intro d; fin_cases d
    · rfl
    · show o + l.val = 0 + (o + l.val); omega

/-- The output buffer after a step: the step's column is the head sums, the others are what they were. -/
theorem stepO_apply (lane : IVec S1x128 32) (base : BitVec 32) (j : ℕ) (O : Vec F S4x128x128 .f32) (o : FVec F S256x256 .f32)
    (a : Fin 4) (f : Fin 2) (v : Fin 64) (l : Fin 128) :
    stepO lane base j O o (ix3 a ⟨64 * f.val + v.val, by omega⟩ l)
      = if laneIs lane base j (ix2 0 l) = 1#1 then o (ix2 ⟨64 * a.val + v.val, by omega⟩ ⟨128 * f.val + l.val, by omega⟩)
        else O (ix3 a ⟨64 * f.val + v.val, by omega⟩ l) := by
  unfold stepO
  have hv := v.isLt
  obtain rfl | rfl : f = 0 ∨ f = 1 := by omega
  · rw [setC_miss _ _ 3 64 _ _ _ _ (.inl (by show 64 * 0 + v.val < 64; omega)), setC_hit _ _ 3 0 _ _ _ _ v (by show 64 * 0 + v.val = _; omega),
      setC_miss _ _ 2 64 _ _ _ _ (.inl (by show 64 * 0 + v.val < 64; omega)), setC_hit _ _ 2 0 _ _ _ _ v (by show 64 * 0 + v.val = _; omega),
      setC_miss _ _ 1 64 _ _ _ _ (.inl (by show 64 * 0 + v.val < 64; omega)), setC_hit _ _ 1 0 _ _ _ _ v (by show 64 * 0 + v.val = _; omega),
      setC_miss _ _ 0 64 _ _ _ _ (.inl (by show 64 * 0 + v.val < 64; omega)), setC_hit _ _ 0 0 _ _ _ _ v (by show 64 * 0 + v.val = _; omega)]
    simp only [outHalf_apply]
    by_cases hk : laneIs lane base j (ix2 0 l) = 1#1
    · simp only [hk, and_true, if_true]
      fin_cases a <;> simp
    · simp only [hk, and_false, if_false]
  · rw [setC_hit _ _ 3 64 _ _ _ _ v (by show 64 * 1 + v.val = _; omega), setC_miss _ _ 3 0 _ _ _ _ (.inr (by show _ ≤ 64 * 1 + v.val; omega)),
      setC_hit _ _ 2 64 _ _ _ _ v (by show 64 * 1 + v.val = _; omega), setC_miss _ _ 2 0 _ _ _ _ (.inr (by show _ ≤ 64 * 1 + v.val; omega)),
      setC_hit _ _ 1 64 _ _ _ _ v (by show 64 * 1 + v.val = _; omega), setC_miss _ _ 1 0 _ _ _ _ (.inr (by show _ ≤ 64 * 1 + v.val; omega)),
      setC_hit _ _ 0 64 _ _ _ _ v (by show 64 * 1 + v.val = _; omega), setC_miss _ _ 0 0 _ _ _ _ (.inr (by show _ ≤ 64 * 1 + v.val; omega))]
    simp only [outHalf_apply]
    by_cases hk : laneIs lane base j (ix2 0 l) = 1#1
    · simp only [hk, and_true, if_true]
      fin_cases a <;> simp
    · simp only [hk, and_false, if_false]

theorem trips_eq : k0_t1_loop.trips = 16 := by decide +kernel

theorem tripBase_eq : ∀ t : Fin k0_t1_loop.trips, tripBase t = BitVec.ofNat 32 (8 * t.val) := by decide +kernel

/-- The mask of step `j` of trip `t` is on at lane `8 t + j`. -/
theorem laneIs_apply (t : Fin k0_t1_loop.trips) (j : ℕ) (hj : j < 8) (l : Fin 128) :
    laneIs laneIota (tripBase t) j (ix2 0 l) = 1#1 ↔ l.val = 8 * t.val + j := by
  have ht : t.val < 16 := trips_eq ▸ t.isLt
  rw [tripBase_eq]
  have e : laneIs laneIota (BitVec.ofNat 32 (8 * t.val)) j (ix2 0 l)
      = BitVec.ofBool (decide (BitVec.ofNat 32 l.val = BitVec.ofNat 32 (8 * t.val) + BitVec.ofNat 32 j)) := by
    have hi : laneIota (ix2 (n0 := 1) 0 l) = BitVec.ofNat 32 l.val := iota_single_apply ..
    unfold laneIs
    show BitVec.ofBool (decide (laneIota (ix2 (n0 := 1) 0 l) = _)) = _
    rw [hi]
    rfl
  rw [e]
  have h2 : (BitVec.ofNat 32 l.val = BitVec.ofNat 32 (8 * t.val) + BitVec.ofNat 32 j) ↔ l.val = 8 * t.val + j := by
    rw [← BitVec.ofNat_add]
    constructor
    · intro h
      have := congrArg BitVec.toNat h
      simp only [BitVec.toNat_ofNat] at this
      have := l.isLt
      omega
    · intro h; rw [h]
  by_cases h : l.val = 8 * t.val + j
  · rw [decide_eq_true (h2.mpr h)]; simp [h]
  · rw [decide_eq_false (fun h' => h (h2.mp h'))]; simp [h]

/-! ## A step in one piece -/

section Step

variable (onesSame : FVec F S256x128 .bf16) (onesOut : FVec F S128x256 .bf16) (lane : IVec S1x128 32)
  (base : BitVec 32) (b0 b1 b2 b3 : Rows F) (V : Vec F S4x128x128 .f32) (j : ℕ) (hj : j < 8)

/-- What the next step removes from tile `i`, of the state and the removals before this step. -/
def stepNext (b : Rows F) (a : FVec F S256x128 .f32) (Z : Vec F S4x64x128 .f32) (i : ℕ) (hi : i < 4) : FVec F S64x128 .f32 :=
  nextRemoval j hj b (tile i hi a) (getS Z i hi) (valuesAt V (laneIs lane base j) i hi)

/-- The outputs of a step. -/
def stepOut (S Z : Vec F S4x64x128 .f32) : FVec F S256x256 .f32 :=
  outSums onesOut (readOut j hj b0 (stepTile lane base V j hj b0 S Z 0 (by decide))) (readOut j hj b1 (stepTile lane base V j hj b1 S Z 1 (by decide)))
    (readOut j hj b2 (stepTile lane base V j hj b2 S Z 2 (by decide))) (readOut j hj b3 (stepTile lane base V j hj b3 S Z 3 (by decide)))

/-- A step takes each tile's state and removal to the next, of the state and removals before it, and writes one column. -/
theorem stepFn_eq (σ : Carry F) :
    stepFn onesSame onesOut lane base b0 b1 b2 b3 V j hj σ
      = ⟨pack (stepTile lane base V j hj b0 σ.S σ.Z 0 (by decide)) (stepTile lane base V j hj b1 σ.S σ.Z 1 (by decide))
            (stepTile lane base V j hj b2 σ.S σ.Z 2 (by decide)) (stepTile lane base V j hj b3 σ.S σ.Z 3 (by decide)),
          pack (stepNext lane base V j hj b0 (stepAhead onesSame b0 b1 b2 b3 j hj σ.S) σ.Z 0 (by decide))
            (stepNext lane base V j hj b1 (stepAhead onesSame b0 b1 b2 b3 j hj σ.S) σ.Z 1 (by decide))
            (stepNext lane base V j hj b2 (stepAhead onesSame b0 b1 b2 b3 j hj σ.S) σ.Z 2 (by decide))
            (stepNext lane base V j hj b3 (stepAhead onesSame b0 b1 b2 b3 j hj σ.S) σ.Z 3 (by decide)),
          stepO lane base j σ.O (stepOut onesOut lane base b0 b1 b2 b3 V j hj σ.S σ.Z)⟩ := by
  simp only [stepFn, stepZ, stepOut, stepNext, stepTile, getS_setS, setS_all, OfNat.ofNat_ne_zero, OfNat.ofNat_ne_one, one_ne_zero,
    show ((2 : ℕ) = 1) = False from by simp, show ((3 : ℕ) = 1) = False from by simp, show ((3 : ℕ) = 2) = False from by simp, if_false, reduceIte]

end Step

attribute [local irreducible] tripsFn tripStep

/-- A relation kept by every step holds once the trips are over. -/
theorem tripsFn_rel (B : Blocks F) (V V' : Vec F S4x128x128 .f32) (R : ℕ → Carry F → Carry F → Prop)
    (h : ∀ (t : Fin k0_t1_loop.trips) (j : ℕ) (hj : j < 8) (σ σ' : Carry F), R (8 * t.val + j) σ σ' →
      R (8 * t.val + j + 1) (tripStep B V t j hj σ) (tripStep B V' t j hj σ')) (σ σ' : Carry F) (h0 : R 0 σ σ') :
    R 128 (tripsFn B V σ k0_t1_loop.trips) (tripsFn B V' σ' k0_t1_loop.trips) := by
  have key : ∀ n ≤ k0_t1_loop.trips, R (8 * n) (tripsFn B V σ n) (tripsFn B V' σ' n) := by
    intro n
    induction n with
    | zero => intro _; rw [tripsFn, tripsFn]; exact h0
    | succ n ih =>
      intro hn
      have hn' : n < k0_t1_loop.trips := hn
      rw [tripsFn_succ B V σ n hn', tripsFn_succ B V' σ' n hn']
      unfold tripFn
      exact h ⟨n, hn'⟩ 7 _ _ _ (h ⟨n, hn'⟩ 6 _ _ _ (h ⟨n, hn'⟩ 5 _ _ _ (h ⟨n, hn'⟩ 4 _ _ _ (h ⟨n, hn'⟩ 3 _ _ _ (h ⟨n, hn'⟩ 2 _ _ _
        (h ⟨n, hn'⟩ 1 _ _ _ (h ⟨n, hn'⟩ 0 _ _ _ (ih (Nat.le_of_lt hn)))))))))
  have := key _ (Nat.le_refl _)
  rwa [show 8 * k0_t1_loop.trips = 128 by rw [trips_eq]] at this

/-- Equal but for output columns from `n` on. -/
def Agree (n : ℕ) (σ σ' : Carry F) : Prop :=
  σ.S = σ'.S ∧ σ.Z = σ'.Z ∧ ∀ (a : Fin 4) (y l : Fin 128), l.val < n → σ.O (ix3 a y l) = σ'.O (ix3 a y l)

/-- An output row is row `v` of half `f`. -/
theorem eq_half (y : Fin 128) : ∃ (f : Fin 2) (v : Fin 64), y = ⟨64 * f.val + v.val, by omega⟩ :=
  ⟨⟨y.val / 64, by omega⟩, ⟨y.val % 64, by omega⟩, Fin.ext (by show y.val = 64 * (y.val / 64) + y.val % 64; omega)⟩

theorem tripStep_agree (B : Blocks F) (V : Vec F S4x128x128 .f32) (t : Fin k0_t1_loop.trips) (j : ℕ) (hj : j < 8) (σ σ' : Carry F)
    (h : Agree (8 * t.val + j) σ σ') : Agree (8 * t.val + j + 1) (tripStep B V t j hj σ) (tripStep B V t j hj σ') := by
  obtain ⟨hS, hZ, hO⟩ := h
  rw [tripStep, tripStep]
  rw [stepFn_eq, stepFn_eq, hS, hZ]
  refine ⟨rfl, rfl, fun a y l hl => ?_⟩
  obtain ⟨f, v, rfl⟩ := eq_half y
  show stepO _ _ _ _ _ _ = stepO _ _ _ _ _ _
  rw [stepO_apply, stepO_apply]
  by_cases e : l.val = 8 * t.val + j
  · rw [if_pos ((laneIs_apply t j hj l).mpr e), if_pos ((laneIs_apply t j hj l).mpr e)]
  · rw [if_neg (fun h => e ((laneIs_apply t j hj l).mp h)), if_neg (fun h => e ((laneIs_apply t j hj l).mp h))]
    exact hO a _ l (by omega)

/-- A chunk's steps leave the same whatever the output buffer held before them. -/
theorem tripsFn_agree (B : Blocks F) (V : Vec F S4x128x128 .f32) (σ σ' : Carry F) (hS : σ.S = σ'.S) (hZ : σ.Z = σ'.Z) :
    tripsFn B V σ k0_t1_loop.trips = tripsFn B V σ' k0_t1_loop.trips := by
  obtain ⟨h1, h2, h3⟩ := tripsFn_rel B V V Agree (tripStep_agree B V) σ σ' ⟨hS, hZ, fun _ _ _ h => absurd h (Nat.not_lt_zero _)⟩
  have h4 : (tripsFn B V σ k0_t1_loop.trips).O = (tripsFn B V σ' k0_t1_loop.trips).O := by
    funext y
    obtain ⟨a, x, l, rfl⟩ : ∃ (a : Fin 4) (x : Fin 128) (l : Fin 128), y = ix3 a x l := ⟨y 0, y 1, y 2, eq_ix3 y⟩
    exact h3 a x l l.isLt
  calc tripsFn B V σ k0_t1_loop.trips = ⟨_, _, _⟩ := rfl
    _ = ⟨_, _, _⟩ := by rw [h1, h2, h4]
    _ = tripsFn B V σ' k0_t1_loop.trips := rfl

/-! ## The chunk's values and outputs -/

theorem turnInFn_apply (v : Vec F S2x128x256 .f32) (i b o : ℕ) (hb : b < 2) (ho : o ≤ 128) (V : Vec F S4x128x128 .f32) (a : Fin 4) (x l : Fin 128) :
    turnInFn v i b o hb ho V (ix3 a x l) = if a.val = i then v (ix3 ⟨b, hb⟩ l ⟨o + x.val, by omega⟩) else V (ix3 a x l) := by
  unfold turnInFn
  by_cases h : a.val = i
  · rw [if_pos h]
    refine (putOn_of_emb V ![i, 0, 0] S1x128x128.size _ Finset.univ (ix3 a x l) (ix3 (n0 := 1) (n1 := 128) (n2 := 128) 0 x l) ?_).trans ?_
    · intro d; fin_cases d
      · show a.val = i + 0; omega
      · show x.val = 0 + x.val; omega
      · show l.val = 0 + l.val; omega
    · rw [if_pos (Finset.mem_univ _)]
      refine (shapeCast_ab_1ab_apply (a := 128) (b := 128) _ _ 0 x l).trans ?_
      unfold turned
      refine (transpose_ix2_apply _ _ x l).trans ?_
      refine (shapeCast_1ab_ab_apply (a := 128) (b := 128) _ _ l x).trans ?_
      unfold VecWindow.window
      congr 1
      funext d
      fin_cases d <;> refine Fin.ext ?_
      · show b + 1 * 0 = b; omega
      · show 0 + 1 * l.val = l.val; omega
      · show o + 1 * x.val = o + x.val; omega
  · rw [if_neg h]
    refine putOn_of_not V ![i, 0, 0] S1x128x128.size _ Finset.univ (ix3 a x l) 0 ?_
    show ¬(i ≤ a.val ∧ a.val < i + 1)
    omega

/-- The transposed values at tile `2 b + f`. -/
theorem valuesFn_apply (v : Vec F S2x128x256 .f32) (V : Vec F S4x128x128 .f32) (b f : Fin 2) (x l : Fin 128) :
    valuesFn v V (ix3 ⟨2 * b.val + f.val, by omega⟩ x l) = v (ix3 b l ⟨128 * f.val + x.val, by omega⟩) := by
  unfold valuesFn
  simp only [turnInFn_apply]
  fin_cases b <;> fin_cases f <;> simp

/-- A tile is tile `f` of a batch row. -/
theorem eq_tile (a : Fin 4) : ∃ b f : Fin 2, a = ⟨2 * b.val + f.val, by omega⟩ :=
  ⟨⟨a.val / 2, by omega⟩, ⟨a.val % 2, by omega⟩, Fin.ext (by show a.val = 2 * (a.val / 2) + a.val % 2; omega)⟩

theorem valuesFn_congr (v : Vec F S2x128x256 .f32) (V V' : Vec F S4x128x128 .f32) : valuesFn v V = valuesFn v V' := by
  funext y
  obtain ⟨a, x, l, rfl⟩ : ∃ (a : Fin 4) (x : Fin 128) (l : Fin 128), y = ix3 a x l := ⟨y 0, y 1, y 2, eq_ix3 y⟩
  obtain ⟨b, f, rfl⟩ := eq_tile a
  rw [valuesFn_apply, valuesFn_apply]

theorem turnOutFn_hit (O : Vec F S4x128x128 .f32) (i b o : ℕ) (hi : i < 4) (X : Vec F S2x128x256 .f32) (b' : Fin 2) (l x : Fin 128) (y : Fin 256)
    (hb : b'.val = b) (hy : y.val = o + x.val) : turnOutFn O i b o hi X (ix3 b' l y) = O (ix3 ⟨i, hi⟩ x l) := by
  unfold turnOutFn
  refine (putOn_of_emb X ![b, 0, o] S1x128x128.size _ Finset.univ (ix3 b' l y) (ix3 (n0 := 1) (n1 := 128) (n2 := 128) 0 l x) ?_).trans ?_
  · intro d; fin_cases d
    · show b'.val = b + 0; omega
    · show l.val = 0 + l.val; omega
    · exact hy
  · rw [if_pos (Finset.mem_univ _)]
    refine (shapeCast_ab_1ab_apply (a := 128) (b := 128) _ _ 0 l x).trans ?_
    unfold turned
    refine (transpose_ix2_apply _ _ l x).trans ?_
    refine (shapeCast_1ab_ab_apply (a := 128) (b := 128) _ _ x l).trans ?_
    unfold VecWindow.window
    congr 1
    funext d
    fin_cases d <;> refine Fin.ext ?_
    · show i + 1 * 0 = i; omega
    · show 0 + 1 * x.val = x.val; omega
    · show 0 + 1 * l.val = l.val; omega

theorem turnOutFn_miss (O : Vec F S4x128x128 .f32) (i b o : ℕ) (hi : i < 4) (X : Vec F S2x128x256 .f32) (b' : Fin 2) (l : Fin 128) (y : Fin 256)
    (h : b'.val ≠ b ∨ y.val < o ∨ o + 128 ≤ y.val) : turnOutFn O i b o hi X (ix3 b' l y) = X (ix3 b' l y) := by
  unfold turnOutFn
  by_cases hb : b'.val = b
  · refine putOn_of_not X ![b, 0, o] S1x128x128.size _ Finset.univ (ix3 b' l y) 2 ?_
    show ¬(o ≤ y.val ∧ y.val < o + 128)
    omega
  · refine putOn_of_not X ![b, 0, o] S1x128x128.size _ Finset.univ (ix3 b' l y) 0 ?_
    show ¬(b ≤ b'.val ∧ b'.val < b + 1)
    omega

/-- The output block at tile `f` of row `b`. -/
theorem outFn_apply (O : Vec F S4x128x128 .f32) (X : Vec F S2x128x256 .f32) (b f : Fin 2) (l x : Fin 128) :
    outFn O X (ix3 b l ⟨128 * f.val + x.val, by omega⟩) = O (ix3 ⟨2 * b.val + f.val, by omega⟩ x l) := by
  unfold outFn
  have hx := x.isLt
  obtain rfl | rfl : b = 0 ∨ b = 1 := by omega
  · rw [turnOutFn_miss _ 3 _ _ _ _ _ _ _ (.inl (by decide)), turnOutFn_miss _ 2 _ _ _ _ _ _ _ (.inl (by decide))]
    obtain rfl | rfl : f = 0 ∨ f = 1 := by omega
    · rw [turnOutFn_miss _ 1 _ _ _ _ _ _ _ (.inr (.inl (by show 128 * 0 + x.val < 128; omega))), turnOutFn_hit _ 0 0 0 _ _ _ _ x _ rfl (by show 128 * 0 + x.val = 0 + x.val; omega)]
      rfl
    · rw [turnOutFn_hit _ 1 0 128 _ _ _ _ x _ rfl (by show 128 * 1 + x.val = 128 + x.val; omega)]
      rfl
  · obtain rfl | rfl : f = 0 ∨ f = 1 := by omega
    · rw [turnOutFn_miss _ 3 _ _ _ _ _ _ _ (.inr (.inl (by show 128 * 0 + x.val < 128; omega))), turnOutFn_hit _ 2 1 0 _ _ _ _ x _ rfl (by show 128 * 0 + x.val = 0 + x.val; omega)]
      rfl
    · rw [turnOutFn_hit _ 3 1 128 _ _ _ _ x _ rfl (by show 128 * 1 + x.val = 128 + x.val; omega)]
      rfl

/-- A lane of the output block is a lane of one of its two tiles. -/
theorem eq_lane (y : Fin 256) : ∃ (f : Fin 2) (x : Fin 128), y = ⟨128 * f.val + x.val, by omega⟩ :=
  ⟨⟨y.val / 128, by omega⟩, ⟨y.val % 128, by omega⟩, Fin.ext (by show y.val = 128 * (y.val / 128) + y.val % 128; omega)⟩

theorem outFn_congr (O : Vec F S4x128x128 .f32) (X X' : Vec F S2x128x256 .f32) : outFn O X = outFn O X' := by
  funext y
  obtain ⟨b, l, y, rfl⟩ : ∃ (b : Fin 2) (l : Fin 128) (y' : Fin 256), y = ix3 b l y' := ⟨y 0, y 1, y 2, eq_ix3 y⟩
  obtain ⟨f, x, rfl⟩ := eq_lane y
  rw [outFn_apply, outFn_apply]

theorem putS_eq (X x : Vec F S4x64x128 .f32) : putS X x = x := by
  funext y
  unfold putS
  refine (putOn_of_emb X ![0, 0, 0] S4x64x128.size x Finset.univ y y ?_).trans (if_pos (Finset.mem_univ _))
  intro d; fin_cases d <;> simp

theorem wholeS_eq (X : Vec F S4x64x128 .f32) : wholeS X = X := by
  funext y
  unfold wholeS VecWindow.window
  congr 1
  funext d
  refine Fin.ext ?_
  fin_cases d
  · show 0 + 1 * (y 0).val = (y 0).val; omega
  · show 0 + 1 * (y 1).val = (y 1).val; omega
  · show 0 + 1 * (y 2).val = (y 2).val; omega

/-- The first point starts from the initial state and its first removals. -/
theorem startFn_eq (q : Vec F S2x128x256 .f32) (s : Vec F S4x64x128 .f32) (σ : Carry F) :
    startFn q s σ = ⟨s, pack (tile 0 (by decide) (firstSums q s)) (tile 1 (by decide) (firstSums q s)) (tile 2 (by decide) (firstSums q s))
      (tile 3 (by decide) (firstSums q s)), σ.O⟩ := by
  unfold startFn firstZ
  rw [putS_eq, setS_all, shapeCast_self, shapeCast_self, wholeS_eq]

/-- A point after the first takes what is carried, whatever the output buffer and the values held. -/
theorem pointFn_congr (i : grid0.Coords) (B : Blocks F) (s : Vec F S4x64x128 .f32) (V V' : Vec F S4x128x128 .f32) (σ σ' : Carry F)
    (h : atFirst i = 1#1 ∨ (σ.S = σ'.S ∧ σ.Z = σ'.Z)) : pointFn i B s V σ = pointFn i B s V' σ' := by
  unfold pointFn enterFn
  rw [valuesFn_congr B.v V V']
  refine tripsFn_agree _ _ _ _ ?_ ?_
  · by_cases hf : atFirst i = 1#1
    · rw [if_pos hf, if_pos hf, startFn_eq, startFn_eq]
    · rw [if_neg hf, if_neg hf]; exact (h.resolve_left hf).1
  · by_cases hf : atFirst i = 1#1
    · rw [if_pos hf, if_pos hf, startFn_eq, startFn_eq]
    · rw [if_neg hf, if_neg hf]; exact (h.resolve_left hf).2

theorem lastFn_eq (i : grid0.Coords) (S X : Vec F S4x64x128 .f32) : lastFn i S X = if k0_cond2 i = 1#1 then S else X := by
  unfold lastFn
  rw [putS_eq, wholeS_eq]

end Cert.KernelIdeal.Rwkv

end
-- ==== Proof.Rwkv.Launch.lean ====
/- The run of the whole program: what is carried between grid points, the body's obligation at each point, and the launch.
   Over any float type; both the bit-exact and the ideal frame are read off it, and so are the results' contents. -/
module

public import proofs.«01_k».proof.Proof.Rwkv.Pure
public import proofs.«01_k».proof.Proof.Gen.KernelIdeal.Frame

@[expose] public section

noncomputable section

namespace Cert.KernelIdeal.Rwkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The nine operands' blocks at a grid point. -/
def blocksAt (t : Fin cfg0.N) : Blocks F where
  r := iblk m c 0 t
  w := iblk m c 1 t
  k := iblk m c 2 t
  q := iblk m c 3 t
  p := iblk m c 4 t
  v := iblk m c 5 t
  g := iblk m c 6 t
  c := iblk m c 7 t
  d := iblk m c 8 t

/-- The initial state as a grid point reads it. -/
def initAt (t : Fin cfg0.N) : Vec F S4x64x128 .f32 := iblk m c 9 t

/-- Zeros: contents that stand where none matters. -/
def noValues : Vec F S4x128x128 .f32 := constant S4x128x128 .f32 0x00000000#32

/-- What the scratch buffers carry before grid point `n`. -/
def carryAt : ℕ → Carry F
  | 0 => ⟨constant S4x64x128 .f32 0x00000000#32, constant S4x64x128 .f32 0x00000000#32, noValues⟩
  | n + 1 => if h : n < cfg0.N then pointFn (grid0.coords ⟨n, h⟩) (blocksAt m c ⟨n, h⟩) (initAt m c ⟨n, h⟩) noValues (carryAt n) else carryAt n

theorem carryAt_succ (t : Fin cfg0.N) :
    carryAt m c (t.val + 1) = pointFn (grid0.coords t) (blocksAt m c t) (initAt m c t) noValues (carryAt m c t.val) := by
  rw [carryAt, dif_pos t.isLt]

/-- The scratch buffers before grid point `n`: the state and the removals are the carried ones once a point has run. -/
def held (n : ℕ) : sProp 𝕄 :=
  iprop(∃ (V : Vec F S4x128x128 .f32) (σ : Carry F), ⌜n = 0 ∨ (σ.S = (carryAt m c n).S ∧ σ.Z = (carryAt m c n).Z)⌝
    ∗ heldCarry c (Memref.whole cc0_scratch0) (Memref.whole cc0_scratch1) (Memref.whole cc0_scratch2) (Memref.whole cc0_scratch3) V σ
    ∗ ∃ r, prngReg c r)

/-- Zeros: an output block that stands where none matters. -/
def noOut : Vec F S2x128x256 .f32 := constant S2x128x256 .f32 0x00000000#32

/-- The proof data: what each staging buffer holds after a point's body, and what is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outFn (carryAt m c (t.val + 1)).O noOut
    | ⟨11, _⟩ => (carryAt m c (t.val + 1)).S
    | ⟨_ + 12, h⟩ => absurd h (Nat.not_lt.2 (Nat.le_add_left _ _))
  Φ n := held m c n.val
  q _ := fullShare
  owed _ := 0

theorem atFirst_iff : ∀ t : Fin cfg0.N, atFirst (grid0.coords t) = 1#1 ↔ t.val = 0 := by decide +kernel

theorem cond2_iff : ∀ t : Fin cfg0.N, k0_cond2 (grid0.coords t) = 1#1 ↔ t.val = 63 := by decide +kernel

theorem flush_11 : ∀ t : Fin cfg0.N, (cfg0.win 11).flush t = decide (t.val = 63) := by decide +kernel

theorem defs₀_row (t : Fin cfg0.N) : (defs₀ (F := F)) .tc cfg0.body (cfg0.bodyArgs t (cfg0.slots t)) = Gen.bodyAt0 t := by
  unfold defs₀
  rw [Defs.onTc_tc]

/-- A point's body, on what is carried when it begins. -/
theorem point_carry (t : Fin cfg0.N) (V : Vec F S4x128x128 .f32) (σ : Carry F)
    (h : t.val = 0 ∨ (σ.S = (carryAt m c t.val).S ∧ σ.Z = (carryAt m c t.val).Z)) :
    pointFn (grid0.coords t) (blocksAt m c t) (initAt m c t) V σ = carryAt m c (t.val + 1) := by
  rw [carryAt_succ]
  exact pointFn_congr _ _ _ _ _ _ _ (h.imp_left (atFirst_iff t).mpr)

theorem before_0 (t : Fin cfg0.N) (d) : (dats m 0 c).before 0 t d = iblk m c 0 t :=
  before0_0_of m (dats m 0 c) rfl (fun _ => rfl) t d

theorem before_1 (t : Fin cfg0.N) (d) : (dats m 0 c).before 1 t d = iblk m c 1 t :=
  before0_1_of m (dats m 0 c) rfl (fun _ => rfl) t d

theorem before_2 (t : Fin cfg0.N) (d) : (dats m 0 c).before 2 t d = iblk m c 2 t :=
  before0_2_of m (dats m 0 c) rfl (fun _ => rfl) t d

theorem before_3 (t : Fin cfg0.N) (d) : (dats m 0 c).before 3 t d = iblk m c 3 t :=
  before0_3_of m (dats m 0 c) rfl (fun _ => rfl) t d

theorem before_4 (t : Fin cfg0.N) (d) : (dats m 0 c).before 4 t d = iblk m c 4 t :=
  before0_4_of m (dats m 0 c) rfl (fun _ => rfl) t d

theorem before_5 (t : Fin cfg0.N) (d) : (dats m 0 c).before 5 t d = iblk m c 5 t :=
  before0_5_of m (dats m 0 c) rfl (fun _ => rfl) t d

theorem before_6 (t : Fin cfg0.N) (d) : (dats m 0 c).before 6 t d = iblk m c 6 t :=
  before0_6_of m (dats m 0 c) rfl (fun _ => rfl) t d

theorem before_7 (t : Fin cfg0.N) (d) : (dats m 0 c).before 7 t d = iblk m c 7 t :=
  before0_7_of m (dats m 0 c) rfl (fun _ => rfl) t d

theorem before_8 (t : Fin cfg0.N) (d) : (dats m 0 c).before 8 t d = iblk m c 8 t :=
  before0_8_of m (dats m 0 c) rfl (fun _ => rfl) t d

theorem before_9 (t : Fin cfg0.N) (d) : (dats m 0 c).before 9 t d = iblk m c 9 t :=
  before0_9_of m (dats m 0 c) rfl (fun _ => rfl) t d

/-- The operands' staging buffers at a point, each at its block. -/
def inputs (t : Fin cfg0.N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t))

/-- The last state's staging buffer after a point that found `Y` in it. -/
def lastOut (t : Fin cfg0.N) (Y : Vec F S4x64x128 .f32) : sProp 𝕄 :=
  owns (c : Thread nD τ) (st0_11 t) fullShare (if t.val = 63 then (carryAt m c (t.val + 1)).S else Y : Vec F S4x64x128 .f32)

attribute [local irreducible] heldCarry bodyProg pointFn outFn lastFn carryAt in
/-- A point's body at the staging buffers. -/
theorem point_wp (t : Fin cfg0.N) (X : Vec F S2x128x256 .f32) (Y : Vec F S4x64x128 .f32) :
    iprop(held m c t.val ∗ inputs m c t ∗ owns (c : Thread nD τ) (st0_10 t) fullShare X ∗ owns (c : Thread nD τ) (st0_11 t) fullShare Y)
      ⊢ wp frame (wpE (defs₀ (F := F)) 𝒱₀ c none) Set.univ (Gen.bodyAt0 t)
        fun _ => iprop(held m c (t.val + 1) ∗ inputs m c t
          ∗ owns (c : Thread nD τ) (st0_10 t) fullShare (outFn (carryAt m c (t.val + 1)).O noOut : Vec F S2x128x256 .f32)
          ∗ lastOut m c t Y : sProp 𝕄) := by
  unfold Gen.bodyAt0
  rw [cc0_eq_body]
  unfold held inputs
  iintro ⟨⟨%V, %σ, %hσ, HC, Hr⟩, ⟨H0, H1, H2, H3, H4, H5, H6, H7, H8, H9⟩, H10, H11⟩
  iapply (wp_bodyProg c Set.univ (grid0.coords t) (st0_0 t) (st0_1 t) (st0_2 t) (st0_3 t) (st0_4 t) (st0_5 t) (st0_6 t) (st0_7 t) (st0_8 t) (st0_9 t)
    (st0_10 t) (st0_11 t) (Memref.whole cc0_scratch0) (Memref.whole cc0_scratch1) (Memref.whole cc0_scratch2) (Memref.whole cc0_scratch3)
    (blocksAt m c t) (initAt m c t) X Y V σ) $$ [H0 H1 H2 H3 H4 H5 H6 H7 H8 H9 H10 H11 HC]
  · unfold heldIns
    isplitl [H0 H1 H2 H4 H6 H7 H8]
    · isplitl [H0]; · iexact H0
      isplitl [H1]; · iexact H1
      isplitl [H2]; · iexact H2
      isplitl [H4]; · iexact H4
      isplitl [H6]; · iexact H6
      isplitl [H7]; · iexact H7
      iexact H8
    isplitl [H3]; · iexact H3
    isplitl [H5]; · iexact H5
    isplitl [H9]; · iexact H9
    isplitl [H10]; · iexact H10
    isplitl [H11]; · iexact H11
    iexact HC
  rw [point_carry m c t V σ hσ]
  unfold heldIns
  iintro ⟨⟨H0, H1, H2, H4, H6, H7, H8⟩, H3, H5, H9, H10, H11, HC⟩
  isplitl [HC Hr]
  · iexists (valuesFn (blocksAt m c t).v V), (carryAt m c (t.val + 1))
    isplitr
    · ipureintro; exact .inr ⟨rfl, rfl⟩
    isplitl [HC]; · iexact HC
    iexact Hr
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · rw [outFn_congr _ X noOut]
    iexact H10
  unfold lastOut
  have hl : lastFn (grid0.coords t) (carryAt m c (t.val + 1)).S Y = if t.val = 63 then (carryAt m c (t.val + 1)).S else Y := by
    rw [lastFn_eq]; simp only [cond2_iff]
  rw [hl]
  iexact H11

theorem idle_11 : ∀ t : Fin cfg0.N, cfg0.idle 11 (cfg0.grid.coords t) = !decide (t.val = 63) := by decide +kernel

/-- The last state's buffer as the loop asks for it. -/
theorem last_leaves (t : Fin cfg0.N) (d) : lastOut m c t ((dats m 0 c).before 11 t d) ⊢ (dats m 0 c).leaves 11 t := by
  unfold lastOut Dat.leaves
  rw [idle_11 t, flush_11 t]
  by_cases h : t.val = 63
  · rw [decide_eq_true h, if_pos h]
    exact .rfl
  · rw [decide_eq_false h, if_neg h]
    show _ ⊢ iprop(∃ d, owns (c : Thread nD τ) (st0_11 t) fullShare ((dats m 0 c).before 11 t d))
    iintro H
    iexists d
    iexact H

theorem Phi_before (t : Fin cfg0.N) : (dats m 0 c).Φ t.castSucc = held m c t.val := rfl

theorem Phi_after (t : Fin cfg0.N) : (dats m 0 c).Φ t.succ = held m c (t.val + 1) := rfl

attribute [local irreducible] held lastOut outFn carryAt iblk in
/-- The body's obligation at a grid point. -/
theorem body_obligation (c : Dev nD) : BodyObligationLoose (dats m 0 c) (defs₀ (F := F)) 𝒱₀ () Set.univ := by
  intro t
  rw [Gen.bigSep_W0, Gen.bigSep_W0, defs₀_row, Phi_before, Phi_after]
  iintro ⟨HΦ, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m c t d0, before_1 m c t d1, before_2 m c t d2, before_3 m c t d3, before_4 m c t d4, before_5 m c t d5, before_6 m c t d6, before_7 m c t d7, before_8 m c t d8, before_9 m c t d9]
  iapply (wp_wand_r frame (wpE (defs₀ (F := F)) 𝒱₀ c none) Set.univ (Q := fun _ => iprop(held m c (t.val + 1) ∗ inputs m c t
          ∗ owns (c : Thread nD τ) (st0_10 t) fullShare (outFn (carryAt m c (t.val + 1)).O noOut : Vec F S2x128x256 .f32)
          ∗ lastOut m c t ((dats m 0 c).before 11 t d11) : sProp 𝕄)))
  isplitl [HΦ H0 H1 H2 H3 H4 H5 H6 H7 H8 H9 H10 H11]
  · iapply (point_wp m c t ((dats m 0 c).before 10 t d10) ((dats m 0 c).before 11 t d11))
    isplitl [HΦ]; · iexact HΦ
    isplitl [H0 H1 H2 H3 H4 H5 H6 H7 H8 H9]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    iexact H11
  unfold inputs
  iintro %_ ⟨HΦ, ⟨H0, H1, H2, H3, H4, H5, H6, H7, H8, H9⟩, H10, H11⟩
  ihave H11 := (last_leaves m c t d11) $$ H11
  isplitl [HΦ]; · iexact HΦ
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem hin (c : Dev nD) : Pipeline.ΦA (Val := Elt F) (U := UR sig nD τ) spec0 c ⊢ (dats m 0 c).Φ 0 := by
  show _ ⊢ held m c 0
  unfold Pipeline.ΦA held heldCarry
  rw [Gen.scopedRest0_eq]
  iintro ⟨⟨⟨%S, HS⟩, ⟨%Z, HZ⟩, ⟨%V, HV⟩, ⟨%O, HO⟩⟩, Hr⟩
  iexists V, ⟨S, Z, O⟩
  isplitr
  · ipureintro; exact .inl rfl
  isplitr [Hr]
  · simp only [owns_whole]
    isplitl [HS]; · iexact HS
    isplitl [HZ]; · iexact HZ
    isplitl [HV]; · iexact HV
    iexact HO
  iexact Hr

theorem hout (c : Dev nD) : (dats m 0 c).Φ (Fin.last cfg0.N) ⊢ Pipeline.ΦA (Val := Elt F) (U := UR sig nD τ) spec0 c := by
  show held m c cfg0.N ⊢ _
  unfold Pipeline.ΦA held heldCarry
  rw [Gen.scopedRest0_eq]
  simp only [owns_whole]
  iintro ⟨%V, %σ, -, ⟨HS, HZ, HV, HO⟩, Hr⟩
  isplitr [Hr]
  · isplitl [HS]; · iexists σ.S; iexact HS
    isplitl [HZ]; · iexists σ.Z; iexact HZ
    isplitl [HV]; · iexists V; iexact HV
    iexists σ.O; iexact HO
  iexact Hr

/-- The program runs to its end: every array a window stages ends as the launch writes it, the other buffers as the lines
    after it leave them, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (hbody := fun c => body_obligation m c)
    (hshare := fun c => (dats m 0 c).share_full fun _ => rfl) (howed := fun _ _ => rfl)
    (V₀ := V0 m) (opss := [hostOps1]) (hsub := sfx_sub) (hfresh := sfx_fresh) (hkeep := sfx_keeps) (hmain := hmain m 𝒱₀)
    (hA := fun _ _ => rfl) (hin := hin m) (hout := hout m)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Rwkv

end
-- ==== Proof.Rwkv.Frames.lean ====
/- The three frames: one run of the kernel for both of its instances, and the reference's run. -/
module

public import proofs.«01_k».proof.Defs
public import proofs.«01_k».proof.Proof.Rwkv.Launch
public import proofs.«01_k».proof.Proof.Gen.Kernel
public import proofs.«01_k».proof.Proof.Gen.ReferenceIdeal.Run
public import Idealize.ShloMosaic.Lib.Quiescent
public import Idealize.ShloMosaic.Lib.Pipeline.Regions

@[expose] public section

noncomputable section

namespace Cert.KernelIdeal.Rwkv

open Idealize.ShloMosaic Idealize.ShloMosaic.TcCoe Idealize.SL.Sem
open Cert.KernelIdeal.Gen

variable {F : FTy → Type} [FloatOps F]

/-- A final state leaves the seven arguments as the launch has them. -/
def Unchanged (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

variable (m : (ℓ : Loc nD τ sig) → Buf (Elt F) ℓ) (ρ : Dev nD → PrngReg)

/-- The launch's frame, read at the arguments: windows 0, 1, 2, 5 and 3 read theirs and write nothing, and the other two
    arguments stand outside the launch. -/
theorem unchanged_of (c : Dev nD) (r : PUnit × MemSt nD τ sig (Elt F))
    (h : Pipeline.FramePost cfgs (dats m) 0 (Pipeline.afterTail₀ cfgs (dats m) 0 (V0 m) [hostOps1]) r) : Unchanged m c r.2 :=
  ⟨((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).1 5).trans (((dats m 0 c).arrAt_in 5 rfl _).trans (V_main_arg3 m c)),
    ((h c).1 3).trans (((dats m 0 c).arrAt_in 3 rfl _).trans (V_main_arg4 m c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c))⟩

/-- The run at the arguments and the counters, over any float type. -/
theorem run_frame : θ_run (defs (F := F)) (onTc (τ := τ) (main (F := F))) ⟨m, fun _ => 0, ρ⟩
    (fun r => (∀ c, Unchanged m c r.2) ∧ r.2.sem = fun _ => 0) :=
  (θ_run defs _ _).mono (fun r h => ⟨fun c => unchanged_of m c r h.1, h.2⟩) (run_main m ρ)

/-- The kernel's frame speaks of the idealized kernel's text read at the machine's floats: no operation was rewritten. -/
theorem kernel_text : Cert.quiescent_Kernel =
    ∀ (m : (ℓ : Loc nD τ sig) → Buf (Elt Bits) ℓ) (ρ : Dev nD → PrngReg), Cert.Pre_Kernel m →
      θ_run (defs (F := Bits)) (onTc (τ := τ) (main (F := Bits))) ⟨m, fun _ => 0, ρ⟩
        (fun r => (∀ c, Unchanged m c r.2) ∧ r.2.sem = fun _ => 0) := by
  chain_rfl

/-- The kernel's frame: its run at the machine's floats. -/
theorem frame_kernel : Cert.quiescent_Kernel :=
  kernel_text.mpr fun m ρ _ => run_frame (F := Bits) m ρ

/-- The idealized kernel's frame: the same run at the ideal instance. -/
theorem frame_kernelIdeal : Cert.quiescent_KernelIdeal := fun m ρ _ =>
  (θ_run Cert.KernelIdeal.defs _ _).mono (fun _ h => h) (run_frame (F := Ideal) m ρ)

/-- The reference's frame: the recurrence's run, which declares no semaphore. -/
theorem frame_referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

end Cert.KernelIdeal.Rwkv

end
-- ==== Proof.Rwkv.Sums.lean ====
/- The two products with matrices of ones, at the ideal instance: sums over a head's 64 keys. -/
module

public import proofs.«01_k».proof.Proof.Rwkv.Pure
public import Idealize.ShloMosaic.Lib.Pointwise

@[expose] public section

noncomputable section

namespace Cert.KernelIdeal.Rwkv

open Idealize.ShloMosaic Idealize.ShloMosaic.TcCoe
open Cert.KernelIdeal.Gen

/-- A comparison's bit selects by the comparison. -/
theorem select_eq_word {α : Type} (a b a' b' : BitVec 32) (P : Prop) [Decidable P] (x y : α) (ha : a = a') (hb : b = b')
    (h : a' = b' ↔ P) : Scalar.select (IntOp.cmpi .eq a b) x y = if P then x else y := by
  subst ha hb
  by_cases hp : P
  · rw [if_pos hp, h.mpr hp]
    show (if (IntOp.cmpi .eq b b) = 1#1 then x else y) = x
    rw [if_pos]
    show BitVec.ofBool (decide (b = b)) = 1#1
    simp
  · rw [if_neg hp]
    show (if (IntOp.cmpi .eq a b) = 1#1 then x else y) = y
    rw [if_neg]
    show ¬ (BitVec.ofBool (decide (a = b)) = 1#1)
    simp [mt h.mp hp]

/-- The head-block matrix of the sums over keys: one where row and lane lie in the same half of 128. -/
theorem onesSame_apply (r : Fin 256) (l : Fin 128) :
    (onesSame (F := Ideal)) (ix2 r l) = if r.val % 128 / 64 = l.val / 64 then (1 : EReal) else 0 := by
  unfold onesSame k0_pay522 k0_pay520 k0_pay521
  pointwise
  refine select_eq_word _ _ (BitVec.ofNat 32 (r.val % 128 / 64)) (BitVec.ofNat 32 (l.val / 64)) _ _ _ ?_ ?_ ?_
  · clear l; revert r; decide +kernel
  · clear r; revert l; decide +kernel
  · have hr := r.isLt; have hl := l.isLt
    rw [← BitVec.toNat_inj, BitVec.toNat_ofNat, BitVec.toNat_ofNat,
      Nat.mod_eq_of_lt (Nat.lt_of_le_of_lt (Nat.div_le_self _ _) (by omega)),
      Nat.mod_eq_of_lt (Nat.lt_of_le_of_lt (Nat.div_le_self _ _) (by omega))]

/-- The head-block matrix of the outputs: one where the row's half of 128 is the lane's half of 256. -/
theorem onesOut_apply (r : Fin 128) (l : Fin 256) :
    (onesOut (F := Ideal)) (ix2 r l) = if r.val / 64 = l.val / 128 then (1 : EReal) else 0 := by
  unfold onesOut k0_pay526 k0_pay523 k0_pay524 k0_pay525
  pointwise
  refine select_eq_word _ _ (BitVec.ofNat 32 (r.val / 64)) (BitVec.ofNat 32 (l.val / 128)) _ _ _ ?_ ?_ ?_
  · clear l; revert r; decide +kernel
  · clear r; revert l; decide +kernel
  · have hr := r.isLt; have hl := l.isLt
    rw [← BitVec.toNat_inj, BitVec.toNat_ofNat, BitVec.toNat_ofNat,
      Nat.mod_eq_of_lt (Nat.lt_of_le_of_lt (Nat.div_le_self _ _) (by omega)),
      Nat.mod_eq_of_lt (Nat.lt_of_le_of_lt (Nat.div_le_self _ _) (by omega))]

/-- A sum over 128 lanes of which a mask keeps one half. -/
theorem sum_half (f : Fin 128 → EReal) (h : ℕ) (hh : h < 2) :
    ∑ x : Fin 128, f x * (if x.val / 64 = h then (1 : EReal) else 0) = ∑ k : Fin 64, f ⟨64 * h + k.val, by omega⟩ := by
  have hz : ∀ g : Fin 64 → EReal, (∀ k, g k = 0) → ∑ k, g k = 0 := fun g hg => Finset.sum_eq_zero fun k _ => hg k
  rw [Fin.sum_univ_two_halves 64 64 rfl]
  rcases (show h = 0 ∨ h = 1 by omega) with rfl | rfl
  · rw [hz (fun k => f ⟨64 + k.val, _⟩ * _), add_zero]
    · refine Finset.sum_congr rfl fun k _ => ?_
      rw [if_pos (by simp <;> omega), mul_one]
      congr 1; ext; simp
    · intro k
      rw [if_neg (by simp), mul_zero]
  · rw [hz (fun k => f ⟨k.val, _⟩ * _), zero_add]
    · refine Finset.sum_congr rfl fun k _ => ?_
      rw [if_pos (by simp <;> omega), mul_one]
    · intro k
      rw [if_neg (by simp; omega), mul_zero]

/-- A tile beside its rounding's remainder, which at the ideal instance is a tile beside zeros. -/
theorem pair_apply (u : FVec Ideal S64x128 .f32) (v : Fin 64) (hu : ∀ l : Fin 128, u (ix2 v l) - u (ix2 v l) = (0 : EReal)) (l : Fin 256) :
    pair u (ix2 v l) = if h : l.val < 128 then u (ix2 v ⟨l.val, h⟩) else (0 : EReal) := by
  unfold pair
  pointwise
  split
  · rfl
  · exact hu _

/-- One row of the product of a tile's pair with the head blocks. -/
theorem pair_sum (u : FVec Ideal S64x128 .f32) (v : Fin 64) (hu : ∀ l : Fin 128, u (ix2 v l) - u (ix2 v l) = (0 : EReal)) (l : Fin 128) :
    ∑ x : Fin 256, pair u (ix2 v x) * (onesSame (F := Ideal)) (ix2 x l)
      = ∑ k : Fin 64, u (ix2 v ⟨64 * (l.val / 64) + k.val, by omega⟩) := by
  rw [Fin.sum_univ_two_halves 128 128 rfl]
  rw [Finset.sum_eq_zero (s := Finset.univ) (f := fun x : Fin 128 => pair u (ix2 v ⟨128 + x.val, _⟩) * _), add_zero]
  · rw [← sum_half (fun x => u (ix2 v x)) (l.val / 64) (by omega)]
    refine Finset.sum_congr rfl fun x _ => ?_
    rw [pair_apply u v hu, dif_pos (show x.val < 128 from x.isLt), onesSame_apply]
    congr 2
    simp [Nat.mod_eq_of_lt x.isLt]
  · intro x _
    rw [pair_apply u v hu, dif_neg (by simp), zero_mul]

/-- The tile of four that a number below four names. -/
def pick {α : Type} (x0 x1 x2 x3 : α) (i : Fin 4) : α := if i.val = 0 then x0 else if i.val = 1 then x1 else if i.val = 2 then x2 else x3

/-- The four tiles' sums over keys, of tiles whose entries are numbers: each lane holds the sum over its head. -/
theorem headSums_apply (u0 u1 u2 u3 : FVec Ideal S64x128 .f32)
    (hu : ∀ (i : Fin 4) (v : Fin 64) (l : Fin 128), pick u0 u1 u2 u3 i (ix2 v l) - pick u0 u1 u2 u3 i (ix2 v l) = (0 : EReal))
    (i : Fin 4) (v : Fin 64) (l : Fin 128) :
    headSums (onesSame (F := Ideal)) u0 u1 u2 u3 (ix2 ⟨64 * i.val + v.val, by omega⟩ l)
      = ∑ k : Fin 64, pick u0 u1 u2 u3 i (ix2 v ⟨64 * (l.val / 64) + k.val, by omega⟩) := by
  rw [← pair_sum _ v (hu i v) l]
  unfold headSums
  pointwise
  refine Finset.sum_congr rfl fun x _ => ?_
  congr 1
  have hv := v.isLt
  fin_cases i
  · simp [pick]
  · simp [pick]
  · simp only [pick]
    rw [dif_neg (by show ¬(64 * 2 + v.val < 64); omega), dif_neg (by show ¬(64 * 2 + v.val - 64 < 64); omega), dif_pos (by show 64 * 2 + v.val - 64 - 64 < 64; omega)]
    congr 2
    refine Fin.ext ?_
    show 64 * 2 + v.val - 64 - 64 = v.val
    omega
  · simp only [pick]
    rw [dif_neg (by show ¬(64 * 3 + v.val < 64); omega), dif_neg (by show ¬(64 * 3 + v.val - 64 < 64); omega), dif_neg (by show ¬(64 * 3 + v.val - 64 - 64 < 64); omega)]
    congr 2
    refine Fin.ext ?_
    show 64 * 3 + v.val - 64 - 64 - 64 = v.val
    omega

/-- The four tiles' outputs: each half of the 256 lanes holds the sum over its head. -/
theorem outSums_apply (y0 y1 y2 y3 : FVec Ideal S64x128 .bf16) (i : Fin 4) (v : Fin 64) (l : Fin 256) :
    outSums (onesOut (F := Ideal)) y0 y1 y2 y3 (ix2 ⟨64 * i.val + v.val, by omega⟩ l)
      = ∑ k : Fin 64, pick y0 y1 y2 y3 i (ix2 v ⟨64 * (l.val / 128) + k.val, by omega⟩) := by
  rw [← sum_half (fun x => pick y0 y1 y2 y3 i (ix2 v x)) (l.val / 128) (by omega)]
  unfold outSums
  pointwise
  refine Finset.sum_congr rfl fun x _ => ?_
  rw [onesOut_apply]
  congr 1
  have hv := v.isLt
  fin_cases i
  · simp [pick]
  · simp [pick]
  · simp only [pick]
    rw [dif_neg (by show ¬(64 * 2 + v.val < 64); omega), dif_neg (by show ¬(64 * 2 + v.val - 64 < 64); omega), dif_pos (by show 64 * 2 + v.val - 64 - 64 < 64; omega)]
    congr 2
    refine Fin.ext ?_
    show 64 * 2 + v.val - 64 - 64 = v.val
    omega
  · simp only [pick]
    rw [dif_neg (by show ¬(64 * 3 + v.val < 64); omega), dif_neg (by show ¬(64 * 3 + v.val - 64 < 64); omega), dif_neg (by show ¬(64 * 3 + v.val - 64 - 64 < 64); omega)]
    congr 2
    refine Fin.ext ?_
    show 64 * 3 + v.val - 64 - 64 - 64 = v.val
    omega

end Cert.KernelIdeal.Rwkv

end
-- ==== Proof.Rwkv.Model.lean ====
/- The recurrence over real numbers: the state a position leaves, what the next position removes from it, and its outputs.
   Positions, lanes and batch entries are plain numbers here; a lane is one of the 256 lanes of a position, `64 h + k` for
   key `k` of head `h`. -/
module

public import proofs.«01_k».proof.Defs

@[expose] public section

noncomputable section

namespace Cert.Rwkv

/-- The operands of the recurrence, by batch entry, position and lane; the initial state by batch entry, value and lane. -/
structure Ins where
  /-- the receptance -/
  r : ℕ → ℕ → ℕ → ℝ
  /-- the decay -/
  w : ℕ → ℕ → ℕ → ℝ
  /-- the key -/
  k : ℕ → ℕ → ℕ → ℝ
  /-- the value -/
  v : ℕ → ℕ → ℕ → ℝ
  /-- the removal key -/
  q : ℕ → ℕ → ℕ → ℝ
  /-- the rate -/
  a : ℕ → ℕ → ℕ → ℝ
  /-- the initial state -/
  s : ℕ → ℕ → ℕ → ℝ

/-- The sum over the keys of a lane's head. -/
def headSum (f : ℕ → ℝ) (c : ℕ) : ℝ := ∑ k : Fin 64, f (64 * (c / 64) + k.val)

/-- The state before position `n`. -/
def state (I : Ins) : ℕ → ℕ → ℕ → ℕ → ℝ
  | 0, b, v, c => I.s b v c
  | n + 1, b, v, c => state I n b v c * I.w b n c - headSum (fun x => state I n b v x * I.q b n x) c * (I.q b n c * I.a b n c)
      + I.v b n (64 * (c / 64) + v) * I.k b n c

/-- What position `n` removes, along the removal key. -/
def removal (I : Ins) (n b v c : ℕ) : ℝ := headSum (fun x => state I n b v x * I.q b n x) c

/-- The output of position `n`. -/
def output (I : Ins) (n b v c : ℕ) : ℝ := headSum (fun x => state I (n + 1) b v x * I.r b n x) c

theorem state_succ (I : Ins) (n b v c : ℕ) :
    state I (n + 1) b v c = state I n b v c * I.w b n c - removal I n b v c * (I.q b n c * I.a b n c)
      + I.v b n (64 * (c / 64) + v) * I.k b n c := rfl

/-- Lanes of one head share the head's sum. -/
theorem headSum_same (f : ℕ → ℝ) (c k : ℕ) (hk : k < 64) : headSum f (64 * (c / 64) + k) = headSum f c := by
  unfold headSum
  rw [show (64 * (c / 64) + k) / 64 = c / 64 by omega]

/-- What the next position removes, by what is known one position earlier: the removal is carried a step ahead of the state. -/
theorem removal_succ (I : Ins) (n b v c : ℕ) :
    removal I (n + 1) b v c = headSum (fun x => state I n b v x * (I.w b n x * I.q b (n + 1) x)) c
      - removal I n b v c * headSum (fun x => I.q b n x * I.a b n x * I.q b (n + 1) x) c
      + I.v b n (64 * (c / 64) + v) * headSum (fun x => I.k b n x * I.q b (n + 1) x) c := by
  have hr : ∀ k : Fin 64, removal I n b v (64 * (c / 64) + k.val) = removal I n b v c := fun k => headSum_same _ c k.val k.isLt
  have hd : ∀ k : Fin 64, (64 * (c / 64) + k.val) / 64 = c / 64 := fun k => by omega
  rw [removal]
  simp only [headSum, state_succ, hr, hd]
  rw [Finset.mul_sum, Finset.mul_sum, ← Finset.sum_sub_distrib, ← Finset.sum_add_distrib]
  exact Finset.sum_congr rfl fun k _ => by ring

/-- A sum of numbers is a number. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.Rwkv

end
-- ==== Proof.Rwkv.StepValue.lean ====
/- One step of the kernel at the ideal instance: from a state and a removal that are the recurrence's real numbers at one
   position to those at the next, and the outputs it writes. -/
module

public import proofs.«01_k».proof.Proof.Rwkv.Sums
public import proofs.«01_k».proof.Proof.Rwkv.Model

@[expose] public section

noncomputable section

namespace Cert.KernelIdeal.Rwkv

open Idealize.ShloMosaic Idealize.ShloMosaic.TcCoe
open Cert.KernelIdeal.Gen
open Cert.Rwkv

theorem tile_lt (b f : Fin 2) : 2 * b.val + f.val < 4 := by omega

theorem half_lt (h : Fin 2) (v : Fin 64) : 64 * h.val + v.val < 128 := by omega

theorem lane_lt (h : Fin 2) (l : Fin 128) : 128 * h.val + l.val < 256 := by omega

theorem row_lt (b f : Fin 2) (v : Fin 64) : 64 * (2 * b.val + f.val) + v.val < 256 := by omega

theorem row_at (j : ℕ) (hj : j < 8) (x : FVec Ideal S8x128 .f32) (v : Fin 64) (l : Fin 128) :
    row j hj x (ix2 v l) = x (ix2 ⟨j, hj⟩ l) := by
  unfold row
  pointwise

theorem laneMask_at (m : IVec S1x128 1) (v : Fin 64) (l : Fin 128) : laneMask m (ix2 v l) = m (ix2 0 l) := by
  unfold laneMask
  pointwise

/-- A bit chooses by its being set. -/
theorem select_bit {α : Type} (b : BitVec 1) (P : Prop) [Decidable P] (h : b = 1#1 ↔ P) (x y : α) :
    Scalar.select b x y = if P then x else y := by
  unfold Scalar.select
  by_cases hp : P
  · rw [if_pos hp, if_pos (show b = 1 from h.mpr hp)]
  · rw [if_neg hp, if_neg (show ¬ b = 1 from mt h.mp hp)]

/-- A masked column is the column of the one lane the mask is on at. -/
theorem column_at (m : IVec S1x128 1) (x : Vec Ideal S1x64x128 .f32) (p : Fin 128) (hm : ∀ l, m (ix2 0 l) = 1#1 ↔ l = p) (v : Fin 64) :
    column m x (ix2 v 0) = x (ix3 0 v p) := by
  unfold column
  pointwise
  rw [Finset.sum_eq_single p]
  · rw [laneMask_at, select_bit _ _ (hm p), if_pos rfl]
  · intro l _ hl
    rw [laneMask_at, select_bit _ _ (hm l), if_neg hl]
  · intro h
    exact absurd (Finset.mem_univ p) h

theorem firstHalf_at (v : Fin 64) (l : Fin 128) : firstHalf (ix2 v l) = 1#1 ↔ l.val < 64 := by
  unfold firstHalf
  pointwise
  clear v; revert l; decide +kernel

theorem window_at (V : Vec Ideal S4x128x128 .f32) (i h : ℕ) (hi : i < 4) (hh : h ≤ 64) (v : Fin 64) (p : Fin 128) :
    VecWindow.window V ![i, h, 0] S1x64x128.size (inb_half i h hi hh) (ix3 (n0 := 1) (n1 := 64) (n2 := 128) 0 v p)
      = V (ix3 ⟨i, hi⟩ ⟨h + v.val, by omega⟩ p) := by
  unfold VecWindow.window
  congr 1
  funext a
  fin_cases a <;> refine Fin.ext ?_
  · show i + 1 * 0 = i; omega
  · show h + 1 * v.val = h + v.val; omega
  · show 0 + 1 * p.val = p.val; omega

/-- The values of a tile at one position, each along the lanes of its head. -/
theorem valuesAt_at (V : Vec Ideal S4x128x128 .f32) (m : IVec S1x128 1) (i : ℕ) (hi : i < 4) (p : Fin 128) (hm : ∀ l, m (ix2 0 l) = 1#1 ↔ l = p)
    (v : Fin 64) (l : Fin 128) : valuesAt V m i hi (ix2 v l) = V (ix3 ⟨i, hi⟩ ⟨64 * (l.val / 64) + v.val, by omega⟩ p) := by
  have h0 := (column_at m (VecWindow.window V ![i, 0, 0] S1x64x128.size (inb_half i 0 hi (by decide))) p hm v).trans (window_at V i 0 hi (by decide) v p)
  have h1 := (column_at m (VecWindow.window V ![i, 64, 0] S1x64x128.size (inb_half i 64 hi (by decide))) p hm v).trans (window_at V i 64 hi (by decide) v p)
  unfold valuesAt values getC
  pointwise
  rw [select_bit _ _ (firstHalf_at v l)]
  have hl := l.isLt
  split
  · refine h0.trans (congrArg (fun y => V (ix3 _ y p)) (Fin.ext ?_))
    show 0 + v.val = 64 * (l.val / 64) + v.val
    omega
  · refine h1.trans (congrArg (fun y => V (ix3 _ y p)) (Fin.ext ?_))
    show 64 + v.val = 64 * (l.val / 64) + v.val
    omega

/-- Eight rows of a block, read. -/
theorem rowsAt_at (X : Vec Ideal S2x128x256 .f32) (off : Fin 3 → ℕ) (inb : ∀ a, off a + S1x8x128.size a ≤ S2x128x256.size a)
    (j : Fin 8) (l : Fin 128) (b : Fin 2) (n : Fin 128) (x : Fin 256) (h0 : off 0 = b.val) (h1 : off 1 + j.val = n.val) (h2 : off 2 + l.val = x.val) :
    rowsAt X off inb (ix2 j l) = X (ix3 b n x) := by
  unfold rowsAt
  rw [ix2_eq_valueIdx, ix3_eq_valueIdx]
  refine (ValueIdx.shapeCast_1ab_ab_apply (a := 8) (b := 128) _ _ j l).trans ?_
  unfold VecWindow.window
  congr 1
  funext a
  fin_cases a <;> refine Fin.ext ?_
  · show off 0 + 1 * 0 = b.val; omega
  · show off 1 + 1 * j.val = n.val; omega
  · show off 2 + 1 * l.val = x.val; omega

theorem tile_at (i : ℕ) (hi : i < 4) (x : FVec Ideal S256x128 .f32) (v : Fin 64) (l : Fin 128) :
    tile i hi x (ix2 v l) = x (ix2 ⟨64 * i + v.val, by omega⟩ l) := by
  unfold tile
  rw [ix2_eq_valueIdx, ix2_eq_valueIdx]
  refine extractStridedSlice_apply _ _ _ _ _ ?_
  intro d; fin_cases d
  · rfl
  · exact (Nat.zero_add l.val).symm

theorem getS_at (X : Vec Ideal S4x64x128 .f32) (i : ℕ) (hi : i < 4) (v : Fin 64) (l : Fin 128) : getS X i hi (ix2 v l) = X (ix3 ⟨i, hi⟩ v l) := by
  rw [ix2_eq_valueIdx, ix3_eq_valueIdx]
  exact getS_apply X i hi v l

theorem pack_at (x0 x1 x2 x3 : FVec Ideal S64x128 .f32) (i : Fin 4) (v : Fin 64) (l : Fin 128) :
    pack x0 x1 x2 x3 (ix3 i v l) = pick x0 x1 x2 x3 i (ix2 v l) := by
  rw [ix2_eq_valueIdx, ix3_eq_valueIdx]
  fin_cases i <;> rfl

/-- What is made of each tile, at a tile. -/
theorem pick_map {α β : Type} (g : α → (i : ℕ) → i < 4 → β) (x0 x1 x2 x3 : α) (i : Fin 4) :
    pick (g x0 0 (by decide)) (g x1 1 (by decide)) (g x2 2 (by decide)) (g x3 3 (by decide)) i = g (pick x0 x1 x2 x3 i) i.val i.isLt := by
  fin_cases i <;> rfl

/-! ## The step -/

/-- One row of a tile's operands holds position `n` of the recurrence, at heads `2 f` and `2 f + 1` of batch entry `b`. -/
structure RowsAre (I : Ins) (n b f : ℕ) (x : Rows Ideal) (j : Fin 8) : Prop where
  r : ∀ l : Fin 128, x.r (ix2 j l) = ((I.r b n (128 * f + l.val) : ℝ) : EReal)
  w : ∀ l : Fin 128, x.w (ix2 j l) = ((I.w b n (128 * f + l.val) : ℝ) : EReal)
  k : ∀ l : Fin 128, x.k (ix2 j l) = ((I.k b n (128 * f + l.val) : ℝ) : EReal)
  p : ∀ l : Fin 128, x.p (ix2 j l) = ((I.q b n (128 * f + l.val) * I.a b n (128 * f + l.val) : ℝ) : EReal)
  g : ∀ l : Fin 128, x.g (ix2 j l) = ((I.w b n (128 * f + l.val) * I.q b (n + 1) (128 * f + l.val) : ℝ) : EReal)
  c : ∀ l : Fin 128, x.c (ix2 j l) = ((headSum (fun y => I.q b n y * I.a b n y * I.q b (n + 1) y) (128 * f + l.val) : ℝ) : EReal)
  d : ∀ l : Fin 128, x.d (ix2 j l) = ((headSum (fun y => I.k b n y * I.q b (n + 1) y) (128 * f + l.val) : ℝ) : EReal)

/-- A state buffer holds the real numbers `G`, by batch entry, value and lane. -/
def Tiles (X : Vec Ideal S4x64x128 .f32) (G : ℕ → ℕ → ℕ → ℝ) : Prop :=
  ∀ (b f : Fin 2) (v : Fin 64) (l : Fin 128), X (ix3 ⟨2 * b.val + f.val, tile_lt b f⟩ v l) = ((G b.val v.val (128 * f.val + l.val) : ℝ) : EReal)

/-- A tile of sums over heads. -/
theorem sum_tile (G : ℕ → ℝ) (f : ℕ) (l : ℕ) :
    ∑ k : Fin 64, ((G (128 * f + (64 * (l / 64) + k.val)) : ℝ) : EReal) = ((headSum G (128 * f + l) : ℝ) : EReal) := by
  rw [headSum, coe_sum]
  refine Finset.sum_congr rfl fun k _ => ?_
  rw [show 64 * ((128 * f + l) / 64) + k.val = 128 * f + (64 * (l / 64) + k.val) by omega]

theorem coe_sub_self (x : ℝ) : (x : EReal) - (x : EReal) = 0 := by
  rw [← EReal.coe_sub, sub_self, EReal.coe_zero]

section

variable (I : Ins) (n : ℕ) (lane : IVec S1x128 32) (base : BitVec 32) (b0 b1 b2 b3 : Rows Ideal) (V : Vec Ideal S4x128x128 .f32) (j : ℕ) (hj : j < 8)
  (p : Fin 128) (S Z : Vec Ideal S4x64x128 .f32)
  (hm : ∀ l, laneIs lane base j (ix2 0 l) = 1#1 ↔ l = p)
  (hV : ∀ (b f : Fin 2) (x : Fin 128), V (ix3 ⟨2 * b.val + f.val, tile_lt b f⟩ x p) = ((I.v b.val n (128 * f.val + x.val) : ℝ) : EReal))
  (hR : ∀ b f : Fin 2, RowsAre I n b.val f.val (pick b0 b1 b2 b3 ⟨2 * b.val + f.val, tile_lt b f⟩) ⟨j, hj⟩)
  (hS : Tiles S (state I n)) (hZ : Tiles Z (removal I n))

include hm hV in
theorem value_at (b f : Fin 2) (v : Fin 64) (l : Fin 128) (hi : 2 * b.val + f.val < 4) :
    valuesAt V (laneIs lane base j) (2 * b.val + f.val) hi (ix2 v l) = ((I.v b.val n (64 * ((128 * f.val + l.val) / 64) + v.val) : ℝ) : EReal) := by
  rw [valuesAt_at _ _ _ _ p hm]
  refine (hV b f _).trans ?_
  congr 2
  show 128 * f.val + (64 * (l.val / 64) + v.val) = _
  omega

include hm hV hR hS hZ in
theorem tile_value (b f : Fin 2) (v : Fin 64) (l : Fin 128) (hi : 2 * b.val + f.val < 4) :
    stepTile lane base V j hj (pick b0 b1 b2 b3 ⟨2 * b.val + f.val, hi⟩) S Z (2 * b.val + f.val) hi (ix2 v l)
      = ((state I (n + 1) b.val v.val (128 * f.val + l.val) : ℝ) : EReal) := by
  unfold stepTile nextState
  pointwise
  rw [row_at, row_at, row_at, getS_at, getS_at, value_at I n lane base V j p hm hV b f v l hi, (hR b f).w, (hR b f).p, (hR b f).k, hS b f v l, hZ b f v l,
    ← EReal.coe_mul, ← EReal.coe_mul, ← EReal.coe_mul, ← EReal.coe_sub, ← EReal.coe_add, state_succ]

include hR hS in
theorem ahead_value (b f : Fin 2) (v : Fin 64) (l : Fin 128) (hi : 2 * b.val + f.val < 4) :
    tile (2 * b.val + f.val) hi (stepAhead (onesSame (F := Ideal)) b0 b1 b2 b3 j hj S) (ix2 v l)
      = ((headSum (fun x => state I n b.val v.val x * (I.w b.val n x * I.q b.val (n + 1) x)) (128 * f.val + l.val) : ℝ) : EReal) := by
  have hu : ∀ (b f : Fin 2) (v : Fin 64) (l : Fin 128), pick (mulf (getS S 0 (by decide)) (row j hj b0.g)) (mulf (getS S 1 (by decide)) (row j hj b1.g))
      (mulf (getS S 2 (by decide)) (row j hj b2.g)) (mulf (getS S 3 (by decide)) (row j hj b3.g)) ⟨2 * b.val + f.val, tile_lt b f⟩ (ix2 v l)
        = ((state I n b.val v.val (128 * f.val + l.val) * (I.w b.val n (128 * f.val + l.val) * I.q b.val (n + 1) (128 * f.val + l.val)) : ℝ) : EReal) := by
    intro b f v l
    rw [pick_map (fun (x : Rows Ideal) i hi => mulf (getS S i hi) (row j hj x.g)) b0 b1 b2 b3]
    pointwise
    rw [row_at, getS_at, (hR b f).g, hS b f v l, ← EReal.coe_mul]
  rw [tile_at]
  unfold stepAhead
  rw [headSums_apply _ _ _ _ ?_ ⟨2 * b.val + f.val, hi⟩ v l]
  · rw [← sum_tile]
    exact Finset.sum_congr rfl fun k _ => hu b f v _
  · intro i v l
    obtain ⟨b, f, rfl⟩ := eq_tile i
    rw [hu b f v l]
    exact coe_sub_self _

include hm hV hR hS hZ in
theorem next_value (b f : Fin 2) (v : Fin 64) (l : Fin 128) (hi : 2 * b.val + f.val < 4) :
    stepNext lane base V j hj (pick b0 b1 b2 b3 ⟨2 * b.val + f.val, hi⟩) (stepAhead (onesSame (F := Ideal)) b0 b1 b2 b3 j hj S) Z (2 * b.val + f.val) hi (ix2 v l)
      = ((removal I (n + 1) b.val v.val (128 * f.val + l.val) : ℝ) : EReal) := by
  unfold stepNext nextRemoval
  pointwise
  rw [row_at, row_at, getS_at, value_at I n lane base V j p hm hV b f v l hi, (hR b f).c, (hR b f).d, hZ b f v l,
    ahead_value I n b0 b1 b2 b3 j hj S hR hS b f v l hi,
    ← EReal.coe_mul, ← EReal.coe_mul, ← EReal.coe_sub, ← EReal.coe_add, removal_succ]

include hm hV hR hS hZ in
theorem out_value (b f h : Fin 2) (v : Fin 64) (l : Fin 128) :
    stepOut (onesOut (F := Ideal)) lane base b0 b1 b2 b3 V j hj S Z (ix2 ⟨64 * (2 * b.val + f.val) + v.val, row_lt b f v⟩ ⟨128 * h.val + l.val, lane_lt h l⟩)
      = ((output I n b.val v.val (128 * f.val + 64 * h.val) : ℝ) : EReal) := by
  unfold stepOut
  rw [outSums_apply _ _ _ _ ⟨2 * b.val + f.val, tile_lt b f⟩ v, output, ← sum_tile]
  refine Finset.sum_congr rfl fun k _ => ?_
  rw [pick_map (fun (x : Rows Ideal) i hi => readOut j hj x (stepTile lane base V j hj x S Z i hi)) b0 b1 b2 b3]
  unfold readOut
  pointwise
  rw [row_at, tile_value I n lane base b0 b1 b2 b3 V j hj p S Z hm hV hR hS hZ b f v _ _, (hR b f).r, ← EReal.coe_mul]
  have hl := l.isLt
  have hk := k.isLt
  have e : 128 * f.val + (64 * ((128 * h.val + l.val) / 128) + k.val) = 128 * f.val + (64 * (64 * h.val / 64) + k.val) := by omega
  simp only [e]

end

/-- A step from position `n` to the next. -/
theorem step_value (I : Ins) (n : ℕ) (lane : IVec S1x128 32) (base : BitVec 32) (b0 b1 b2 b3 : Rows Ideal) (V : Vec Ideal S4x128x128 .f32) (j : ℕ) (hj : j < 8)
    (p : Fin 128) (σ : Carry Ideal)
    (hm : ∀ l, laneIs lane base j (ix2 0 l) = 1#1 ↔ l = p)
    (hV : ∀ (b f : Fin 2) (x : Fin 128), V (ix3 ⟨2 * b.val + f.val, tile_lt b f⟩ x p) = ((I.v b.val n (128 * f.val + x.val) : ℝ) : EReal))
    (hR : ∀ b f : Fin 2, RowsAre I n b.val f.val (pick b0 b1 b2 b3 ⟨2 * b.val + f.val, tile_lt b f⟩) ⟨j, hj⟩)
    (hS : Tiles σ.S (state I n)) (hZ : Tiles σ.Z (removal I n)) :
    Tiles (stepFn onesSame onesOut lane base b0 b1 b2 b3 V j hj σ).S (state I (n + 1))
      ∧ Tiles (stepFn onesSame onesOut lane base b0 b1 b2 b3 V j hj σ).Z (removal I (n + 1))
      ∧ ∀ (b f h : Fin 2) (v : Fin 64) (l : Fin 128),
        (stepFn onesSame onesOut lane base b0 b1 b2 b3 V j hj σ).O (ix3 ⟨2 * b.val + f.val, tile_lt b f⟩ ⟨64 * h.val + v.val, half_lt h v⟩ l)
          = if l = p then ((output I n b.val v.val (128 * f.val + 64 * h.val) : ℝ) : EReal)
            else σ.O (ix3 ⟨2 * b.val + f.val, tile_lt b f⟩ ⟨64 * h.val + v.val, half_lt h v⟩ l) := by
  rw [stepFn_eq]
  refine ⟨fun b f v l => ?_, fun b f v l => ?_, fun b f h v l => ?_⟩
  · show pack _ _ _ _ _ = _
    rw [pack_at, pick_map (fun (x : Rows Ideal) i hi => stepTile lane base V j hj x σ.S σ.Z i hi) b0 b1 b2 b3]
    exact tile_value I n lane base b0 b1 b2 b3 V j hj p σ.S σ.Z hm hV hR hS hZ b f v l _
  · show pack _ _ _ _ _ = _
    rw [pack_at, pick_map (fun (x : Rows Ideal) i hi => stepNext lane base V j hj x (stepAhead onesSame b0 b1 b2 b3 j hj σ.S) σ.Z i hi) b0 b1 b2 b3]
    exact next_value I n lane base b0 b1 b2 b3 V j hj p σ.S σ.Z hm hV hR hS hZ b f v l _
  · show stepO _ _ _ _ _ _ = _
    rw [ix3_eq_valueIdx]
    refine (stepO_apply lane base j σ.O _ ⟨2 * b.val + f.val, tile_lt b f⟩ h v l).trans ?_
    have hml : laneIs lane base j (ValueIdx.ix2 0 l) = 1#1 ↔ l = p := by rw [← ix2_eq_valueIdx]; exact hm l
    by_cases hl : l = p
    · rw [if_pos (hml.mpr hl), if_pos hl, ← ix2_eq_valueIdx]
      exact out_value I n lane base b0 b1 b2 b3 V j hj p σ.S σ.Z hm hV hR hS hZ b f h v l
    · rw [if_neg (mt hml.mp hl), if_neg hl]

end Cert.KernelIdeal.Rwkv

end
-- ==== Proof.Rwkv.PointValue.lean ====
/- A grid point of the kernel at the ideal instance, and all of them: the state, the removal and the outputs are the
   recurrence's, position by position. -/
module

public import proofs.«01_k».proof.Proof.Rwkv.StepValue
public import proofs.«01_k».proof.Proof.Rwkv.Launch

@[expose] public section

noncomputable section

namespace Cert.KernelIdeal.Rwkv

open Idealize.ShloMosaic Idealize.ShloMosaic.TcCoe
open Cert.KernelIdeal.Gen
open Cert.Rwkv

/-- A block of an operand holds `G` at the positions of chunk `m`. -/
def BlockIs (m : ℕ) (X : Vec Ideal S2x128x256 .f32) (G : ℕ → ℕ → ℕ → ℝ) : Prop :=
  ∀ (b : Fin 2) (l : Fin 128) (x : Fin 256), X (ix3 b l x) = ((G b.val (128 * m + l.val) x.val : ℝ) : EReal)

/-- The blocks of a grid point hold the recurrence's operands at the positions of chunk `m`. -/
structure BlocksAre (I : Ins) (m : ℕ) (B : Blocks Ideal) : Prop where
  r : BlockIs m B.r I.r
  w : BlockIs m B.w I.w
  k : BlockIs m B.k I.k
  q : BlockIs m B.q I.q
  p : BlockIs m B.p fun b n x => I.q b n x * I.a b n x
  v : BlockIs m B.v I.v
  g : BlockIs m B.g fun b n x => I.w b n x * I.q b (n + 1) x
  c : BlockIs m B.c fun b n x => headSum (fun y => I.q b n y * I.a b n y * I.q b (n + 1) y) x
  d : BlockIs m B.d fun b n x => headSum (fun y => I.k b n y * I.q b (n + 1) y) x

theorem off1_eq : ∀ t : Fin k0_t1_loop.trips, k0_off1 t = ![0, 8 * t.val, 0] := by decide +kernel

theorem off2_eq : ∀ t : Fin k0_t1_loop.trips, k0_off2 t = ![0, 8 * t.val, 128] := by decide +kernel

theorem off3_eq : ∀ t : Fin k0_t1_loop.trips, k0_off3 t = ![1, 8 * t.val, 0] := by decide +kernel

theorem off4_eq : ∀ t : Fin k0_t1_loop.trips, k0_off4 t = ![1, 8 * t.val, 128] := by decide +kernel

/-- A row of a trip's block holds its position. -/
theorem block_row (m : ℕ) (X : Vec Ideal S2x128x256 .f32) (G : ℕ → ℕ → ℕ → ℝ) (h : BlockIs m X G) (off : Fin 3 → ℕ)
    (inb : ∀ a, off a + S1x8x128.size a ≤ S2x128x256.size a) (b f : Fin 2) (t : ℕ) (ht : t < 16) (ho : off = ![b.val, 8 * t, 128 * f.val]) (j : ℕ) (hj : j < 8) (l : Fin 128) :
    rowsAt X off inb (ix2 ⟨j, hj⟩ l) = ((G b.val (128 * m + 8 * t + j) (128 * f.val + l.val) : ℝ) : EReal) := by
  subst ho
  rw [rowsAt_at X _ inb ⟨j, hj⟩ l b ⟨8 * t + j, by omega⟩ ⟨128 * f.val + l.val, lane_lt f l⟩ rfl rfl rfl, h, Nat.add_assoc]

/-- The rows of a tile in a trip are the recurrence's. -/
theorem trip_rows (I : Ins) (m : ℕ) (B : Blocks Ideal) (h : BlocksAre I m B) (off : Fin 3 → ℕ)
    (inb : ∀ a, off a + S1x8x128.size a ≤ S2x128x256.size a) (b f : Fin 2) (t : ℕ) (ht : t < 16) (ho : off = ![b.val, 8 * t, 128 * f.val]) (j : ℕ) (hj : j < 8) :
    RowsAre I (128 * m + 8 * t + j) b.val f.val (tripRows B off inb) ⟨j, hj⟩ where
  r := block_row m B.r _ h.r off inb b f t ht ho j hj
  w := block_row m B.w _ h.w off inb b f t ht ho j hj
  k := block_row m B.k _ h.k off inb b f t ht ho j hj
  p := block_row m B.p _ h.p off inb b f t ht ho j hj
  g := block_row m B.g _ h.g off inb b f t ht ho j hj
  c := block_row m B.c _ h.c off inb b f t ht ho j hj
  d := block_row m B.d _ h.d off inb b f t ht ho j hj

/-- The transposed values of chunk `m`. -/
def ValuesAre (I : Ins) (m : ℕ) (V : Vec Ideal S4x128x128 .f32) : Prop :=
  ∀ (b f : Fin 2) (x l : Fin 128), V (ix3 ⟨2 * b.val + f.val, tile_lt b f⟩ x l) = ((I.v b.val (128 * m + l.val) (128 * f.val + x.val) : ℝ) : EReal)

/-- What is carried before position `i` of chunk `m`: state and removal of that position, and the outputs of the chunk's earlier ones. -/
def CarryIs (I : Ins) (m i : ℕ) (σ : Carry Ideal) : Prop :=
  Tiles σ.S (state I (128 * m + i)) ∧ Tiles σ.Z (removal I (128 * m + i))
    ∧ ∀ (b f h : Fin 2) (v : Fin 64) (l : Fin 128), l.val < i →
      σ.O (ix3 ⟨2 * b.val + f.val, tile_lt b f⟩ ⟨64 * h.val + v.val, half_lt h v⟩ l) = ((output I (128 * m + l.val) b.val v.val (128 * f.val + 64 * h.val) : ℝ) : EReal)

/-- One step of a trip. -/
theorem trip_value (I : Ins) (m : ℕ) (B : Blocks Ideal) (h : BlocksAre I m B) (V : Vec Ideal S4x128x128 .f32) (hV : ValuesAre I m V)
    (t : Fin k0_t1_loop.trips) (j : ℕ) (hj : j < 8) (σ : Carry Ideal) (hσ : CarryIs I m (8 * t.val + j) σ) :
    CarryIs I m (8 * t.val + j + 1) (tripStep B V t j hj σ) := by
  obtain ⟨hS, hZ, hO⟩ := hσ
  have ht : t.val < 16 := trips_eq ▸ t.isLt
  have hp : 8 * t.val + j < 128 := by omega
  have hm : ∀ l, laneIs laneIota (tripBase t) j (ix2 0 l) = 1#1 ↔ l = (⟨8 * t.val + j, hp⟩ : Fin 128) := by
    intro l
    rw [ix2_eq_valueIdx, laneIs_apply t j hj l, Fin.ext_iff]
  have hR : ∀ b f : Fin 2, RowsAre I (128 * m + 8 * t.val + j) b.val f.val (pick (tripRows B (k0_off1 t) (k0_off1_inb t)) (tripRows B (k0_off2 t) (k0_off2_inb t))
      (tripRows B (k0_off3 t) (k0_off3_inb t)) (tripRows B (k0_off4 t) (k0_off4_inb t)) ⟨2 * b.val + f.val, tile_lt b f⟩) ⟨j, hj⟩ := by
    intro b f
    obtain rfl | rfl : b = 0 ∨ b = 1 := by omega
    · obtain rfl | rfl : f = 0 ∨ f = 1 := by omega
      · exact trip_rows I m B h _ (k0_off1_inb t) 0 0 t.val ht (off1_eq t) j hj
      · exact trip_rows I m B h _ (k0_off2_inb t) 0 1 t.val ht (off2_eq t) j hj
    · obtain rfl | rfl : f = 0 ∨ f = 1 := by omega
      · exact trip_rows I m B h _ (k0_off3_inb t) 1 0 t.val ht (off3_eq t) j hj
      · exact trip_rows I m B h _ (k0_off4_inb t) 1 1 t.val ht (off4_eq t) j hj
  have hn : 128 * m + 8 * t.val + j = 128 * m + (8 * t.val + j) := by omega
  have H := step_value I (128 * m + 8 * t.val + j) laneIota (tripBase t) _ _ _ _ V j hj ⟨8 * t.val + j, hp⟩ σ hm
    (fun b f x => by rw [hV b f x]; rw [hn]) hR (by rw [hn]; exact hS) (by rw [hn]; exact hZ)
  have h1 := H.1
  have h2 := H.2.1
  rw [hn] at h1 h2
  refine ⟨h1, h2, fun b f hh v l hl => ?_⟩
  refine (H.2.2 b f hh v l).trans ?_
  by_cases he : l = (⟨8 * t.val + j, hp⟩ : Fin 128)
  · subst he
    rw [if_pos rfl, hn]
  · rw [if_neg he]
    refine hO b f hh v l ?_
    have : l.val ≠ 8 * t.val + j := fun e => he (Fin.ext e)
    omega

/-- The steps of a chunk. -/
theorem trips_value (I : Ins) (m : ℕ) (B : Blocks Ideal) (h : BlocksAre I m B) (V : Vec Ideal S4x128x128 .f32) (hV : ValuesAre I m V)
    (σ : Carry Ideal) (hS : Tiles σ.S (state I (128 * m))) (hZ : Tiles σ.Z (removal I (128 * m))) :
    CarryIs I m 128 (tripsFn B V σ k0_t1_loop.trips) :=
  tripsFn_rel B V V (fun i σ _ => CarryIs I m i σ) (fun t j hj σ _ hσ => trip_value I m B h V hV t j hj σ hσ) σ σ
    ⟨hS, hZ, fun _ _ _ _ _ hl => absurd hl (Nat.not_lt_zero _)⟩

theorem firstTile_at (q : Vec Ideal S2x128x256 .f32) (s : Vec Ideal S4x64x128 .f32) (i b o : ℕ) (hi : i < 4) (hb : b < 2) (ho : o ≤ 128) (v : Fin 64) (l : Fin 128) :
    firstTile q s i b o hi hb ho (ix2 v l) = (s (ix3 ⟨i, hi⟩ v l) : EReal) * q (ix3 ⟨b, hb⟩ 0 ⟨o + l.val, by omega⟩) := by
  unfold firstTile firstProduct
  pointwise
  rw [getS_at]
  congr 1
  unfold VecWindow.window
  congr 1
  funext a
  fin_cases a <;> refine Fin.ext ?_
  · show b + 1 * 0 = b; omega
  · show 0 + 1 * 0 = 0; omega
  · show o + 1 * l.val = o + l.val; omega

/-- The first point's state and removal. -/
theorem start_value (I : Ins) (q : Vec Ideal S2x128x256 .f32) (s : Vec Ideal S4x64x128 .f32) (hq : BlockIs 0 q I.q) (hs : Tiles s I.s) (σ : Carry Ideal) :
    Tiles (startFn q s σ).S (state I 0) ∧ Tiles (startFn q s σ).Z (removal I 0) := by
  rw [startFn_eq]
  refine ⟨hs, fun b f v l => ?_⟩
  have hu : ∀ (b f : Fin 2) (v : Fin 64) (l : Fin 128), pick (firstTile q s 0 0 0 (by decide) (by decide) (by decide)) (firstTile q s 1 0 128 (by decide) (by decide) (by decide))
      (firstTile q s 2 1 0 (by decide) (by decide) (by decide)) (firstTile q s 3 1 128 (by decide) (by decide) (by decide)) ⟨2 * b.val + f.val, tile_lt b f⟩ (ix2 v l)
        = ((state I 0 b.val v.val (128 * f.val + l.val) * I.q b.val 0 (128 * f.val + l.val) : ℝ) : EReal) := by
    intro b f v l
    have hq' := hq b 0 ⟨128 * f.val + l.val, lane_lt f l⟩
    rw [EReal.coe_mul]
    refine Eq.trans ?_ (congrArg₂ (fun x y : EReal => x * y) (hs b f v l) hq')
    obtain rfl | rfl : b = 0 ∨ b = 1 := by omega
    · obtain rfl | rfl : f = 0 ∨ f = 1 := by omega
      · exact firstTile_at q s 0 0 0 (by decide) (by decide) (by decide) v l
      · exact firstTile_at q s 1 0 128 (by decide) (by decide) (by decide) v l
    · obtain rfl | rfl : f = 0 ∨ f = 1 := by omega
      · exact firstTile_at q s 2 1 0 (by decide) (by decide) (by decide) v l
      · exact firstTile_at q s 3 1 128 (by decide) (by decide) (by decide) v l
  show pack _ _ _ _ _ = _
  rw [pack_at, pick_map (fun (_ : Unit) i hi => tile i hi (firstSums q s)) () () () (), tile_at]
  unfold firstSums
  rw [headSums_apply _ _ _ _ ?_ ⟨2 * b.val + f.val, tile_lt b f⟩ v l]
  · rw [removal, ← sum_tile]
    exact Finset.sum_congr rfl fun k _ => hu b f v _
  · intro i v l
    obtain ⟨b, f, rfl⟩ := eq_tile i
    rw [hu b f v l]
    exact coe_sub_self _

theorem values_value (I : Ins) (m : ℕ) (v : Vec Ideal S2x128x256 .f32) (V : Vec Ideal S4x128x128 .f32) (h : BlockIs m v I.v) : ValuesAre I m (valuesFn v V) := by
  intro b f x l
  rw [ix3_eq_valueIdx, valuesFn_apply, ← ix3_eq_valueIdx]
  exact h b l _

/-- A grid point. -/
theorem point_value (I : Ins) (i : grid0.Coords) (m : ℕ) (B : Blocks Ideal) (s : Vec Ideal S4x64x128 .f32) (V : Vec Ideal S4x128x128 .f32) (σ : Carry Ideal)
    (hB : BlocksAre I m B) (hs : Tiles s I.s) (hi : atFirst i = 1#1 ↔ m = 0)
    (hσ : m = 0 ∨ (Tiles σ.S (state I (128 * m)) ∧ Tiles σ.Z (removal I (128 * m)))) :
    CarryIs I m 128 (pointFn i B s V σ) := by
  unfold pointFn
  have he : Tiles (enterFn i B.q s σ).S (state I (128 * m)) ∧ Tiles (enterFn i B.q s σ).Z (removal I (128 * m)) := by
    unfold enterFn
    by_cases h0 : m = 0
    · subst h0
      rw [if_pos (hi.mpr rfl)]
      exact start_value I B.q s hB.q hs σ
    · rw [if_neg (mt hi.mp h0)]
      exact hσ.resolve_left h0
  exact trips_value I m B hB _ (values_value I m B.v V hB.v) _ he.1 he.2

section

variable (I : Ins) (m : (ℓ : Loc nD τ sig) → Buf (Elt Ideal) ℓ) (c : Dev nD)
  (hB : ∀ t : Fin cfg0.N, BlocksAre I t.val (blocksAt m c t)) (hs : ∀ t : Fin cfg0.N, Tiles (initAt m c t) I.s)

include hB hs in
theorem carry_value (t : Fin cfg0.N) : CarryIs I t.val 128 (carryAt m c (t.val + 1)) := by
  obtain ⟨n, hn⟩ := t
  induction n with
  | zero =>
    rw [carryAt_succ m c ⟨0, hn⟩]
    exact point_value I _ 0 _ _ _ _ (hB ⟨0, hn⟩) (hs _) (atFirst_iff _) (.inl rfl)
  | succ n ih =>
    rw [carryAt_succ m c ⟨n + 1, hn⟩]
    obtain ⟨h1, h2, -⟩ := ih (by omega)
    refine point_value I _ (n + 1) _ _ _ _ (hB ⟨n + 1, hn⟩) (hs _) (atFirst_iff _) (.inr ⟨?_, ?_⟩)
    · rw [show 128 * (n + 1) = 128 * n + 128 by omega]; exact h1
    · rw [show 128 * (n + 1) = 128 * n + 128 by omega]; exact h2

include hB hs in
/-- The output block of a grid point. -/
theorem out_block (t : Fin cfg0.N) (X : Vec Ideal S2x128x256 .f32) (b : Fin 2) (l : Fin 128) (x : Fin 256) :
    outFn (carryAt m c (t.val + 1)).O X (ix3 b l x) = ((output I (128 * t.val + l.val) b.val (x.val % 64) x.val : ℝ) : EReal) := by
  obtain ⟨-, -, h⟩ := carry_value I m c hB hs t
  have hx := x.isLt
  have e : x = ⟨128 * (x.val / 128) + x.val % 128, by omega⟩ := Fin.ext (by show x.val = 128 * (x.val / 128) + x.val % 128; omega)
  rw [ix3_eq_valueIdx]
  conv_lhs => rw [e]
  refine (outFn_apply _ X b ⟨x.val / 128, by omega⟩ l ⟨x.val % 128, by omega⟩).trans ?_
  have h' := h b ⟨x.val / 128, by omega⟩ ⟨x.val % 128 / 64, by omega⟩ ⟨x.val % 64, by omega⟩ l l.isLt
  rw [← ix3_eq_valueIdx]
  refine Eq.trans (congrArg (fun y => (carryAt m c (t.val + 1)).O (ix3 _ y l)) (Fin.ext ?_)) (h'.trans ?_)
  · show x.val % 128 = 64 * (x.val % 128 / 64) + x.val % 64
    omega
  · unfold output headSum
    rw [show (128 * (x.val / 128) + 64 * (x.val % 128 / 64)) / 64 = x.val / 64 by omega]

include hB hs in
/-- The state after a grid point. -/
theorem state_block (t : Fin cfg0.N) : Tiles (carryAt m c (t.val + 1)).S (state I (128 * t.val + 128)) :=
  (carry_value I m c hB hs t).1

end

end Cert.KernelIdeal.Rwkv

end
-- ==== Proof.Rwkv.Entry.lean ====
/- What the operations before the region leave in the buffers the windows read, at an index. -/
module

public import proofs.«01_k».proof.Proof.Rwkv.PointValue
public import Idealize.ShloMosaic.Lib.StableHlo.ReadAt

@[expose] public section

noncomputable section

namespace Cert.KernelIdeal.Rwkv

open Idealize.ShloMosaic Idealize.ShloMosaic.TcCoe
open Cert.KernelIdeal.Gen
open Cert.Rwkv

variable (m : (ℓ : Loc nD τ sig) → Buf (Elt Ideal) ℓ) (c : Dev nD)

/-- An operand holds the real numbers `G`, by batch entry, position and lane. -/
def SeqIs (X : Vec Ideal S2x8192x256 .f32) (G : ℕ → ℕ → ℕ → ℝ) : Prop :=
  ∀ (b : Fin 2) (n : Fin 8192) (x : Fin 256), X (ix3 b n x) = ((G b.val n.val x.val : ℝ) : EReal)

/-- A state of heads, values and keys holds the real numbers `G`, by batch entry, value and lane. -/
def HeadsAre (X : Vec Ideal S2x4x64x64 .f32) (G : ℕ → ℕ → ℕ → ℝ) : Prop :=
  ∀ (b : Fin 2) (h : Fin 4) (v k : Fin 64), X (ix4 b h v k) = ((G b.val v.val (64 * h.val + k.val) : ℝ) : EReal)

/-- The arguments hold the recurrence's operands, and after the last position there is no removal key. -/
structure ArgsAre (I : Ins) (A0 A1 A2 A3 A4 A5 : Vec Ideal S2x8192x256 .f32) (A6 : Vec Ideal S2x4x64x64 .f32) : Prop where
  r : SeqIs A0 I.r
  w : SeqIs A1 I.w
  k : SeqIs A2 I.k
  v : SeqIs A3 I.v
  q : SeqIs A4 I.q
  a : SeqIs A5 I.a
  s : HeadsAre A6 I.s
  last : ∀ b x, I.q b 8192 x = 0

/-- The outputs as an array. -/
def outputs (I : Ins) : Vec Ideal S2x8192x256 .f32 := fun j => ((output I (j 1).val (j 0).val ((j 2).val % 64) (j 2).val : ℝ) : EReal)

/-- The last state by heads. -/
def lastState (I : Ins) : Vec Ideal S2x4x64x64 .f32 := fun j => ((state I 8192 (j 0).val (j 2).val (64 * (j 1).val + (j 3).val) : ℝ) : EReal)

/-- The next position's removal key. -/
theorem next_at (I : Ins) (X : Vec Ideal S2x8192x256 .f32) (hX : SeqIs X I.q) (hl : ∀ b x, I.q b 8192 x = 0) (b : Fin 2) (n : Fin 8192) (x : Fin 256) :
    (if h : n.val < 8191 then (X (ix3 b ⟨1 + n.val, by omega⟩ x) : EReal) else 0) = ((I.q b.val (n.val + 1) x.val : ℝ) : EReal) := by
  split
  · rw [hX]
    show ((I.q b.val (1 + n.val) x.val : ℝ) : EReal) = _
    rw [Nat.add_comm]
  · have hn := n.isLt
    rw [show n.val + 1 = 8192 by omega, hl, EReal.coe_zero]

/-- One summand of the removal a position's own removal key contributes. -/
theorem removed_term (I : Ins) (Q A : Vec Ideal S2x8192x256 .f32) (hQ : SeqIs Q I.q) (hA : SeqIs A I.a) (hl : ∀ b x, I.q b 8192 x = 0)
    (b : Fin 2) (n : Fin 8192) (z : Fin 256) (e : ℕ) (he : z.val = e) :
    (Q (ix3 b n z) * A (ix3 b n z) * (if h : n.val < 8191 then (Q (ix3 b ⟨1 + n.val, by omega⟩ z) : EReal) else 0) : EReal)
      = ((I.q b n e * I.a b n e * I.q b (n + 1) e : ℝ) : EReal) := by
  subst he
  rw [EReal.coe_mul, EReal.coe_mul]
  exact congrArg₂ (fun y z : EReal => y * z) (congrArg₂ (fun y z : EReal => y * z) (hQ b n z) (hA b n z)) (next_at I _ hQ hl b n z)

/-- One summand of the removal a position's own write contributes. -/
theorem written_term (I : Ins) (K Q : Vec Ideal S2x8192x256 .f32) (hK : SeqIs K I.k) (hQ : SeqIs Q I.q) (hl : ∀ b x, I.q b 8192 x = 0)
    (b : Fin 2) (n : Fin 8192) (z : Fin 256) (e : ℕ) (he : z.val = e) :
    (K (ix3 b n z) * (if h : n.val < 8191 then (Q (ix3 b ⟨1 + n.val, by omega⟩ z) : EReal) else 0) : EReal)
      = ((I.k b n e * I.q b (n + 1) e : ℝ) : EReal) := by
  subst he
  rw [EReal.coe_mul]
  exact congrArg₂ (fun y z : EReal => y * z) (hK b n z) (next_at I _ hQ hl b n z)

section

variable (I : Ins) (h : ArgsAre I (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)))

include h

theorem product_is : SeqIs (V m c main_v0) fun b n x => I.q b n x * I.a b n x := by
  intro b n x
  unfold V
  after_reads_at
  rw [EReal.coe_mul]
  exact congrArg₂ (fun y z : EReal => y * z) (h.q b n x) (h.a b n x)

theorem decayed_is : SeqIs (V m c main_v5) fun b n x => I.w b n x * I.q b (n + 1) x := by
  intro b n x
  unfold V
  after_reads_at
  after_reads_at
  rw [EReal.coe_mul]
  exact congrArg₂ (fun y z : EReal => y * z) (h.w b n x) (next_at I _ h.q h.last b n x)

theorem removed_is : SeqIs (V m c main_v10) fun b n x => headSum (fun y => I.q b n y * I.a b n y * I.q b (n + 1) y) x := by
  intro b n x
  unfold V
  after_reads_at
  after_reads_at
  refine Eq.trans (Finset.sum_congr rfl fun y _ => ?_) (coe_sum _ _).symm
  exact removed_term I _ _ h.q h.a h.last b n ⟨x.val / 64 * 64 + y.val, _⟩ (64 * (x.val / 64) + y.val) (congrArg (· + y.val) (Nat.mul_comm _ _))

theorem written_is : SeqIs (V m c main_v15) fun b n x => headSum (fun y => I.k b n y * I.q b (n + 1) y) x := by
  intro b n x
  unfold V
  after_reads_at
  after_reads_at
  refine Eq.trans (Finset.sum_congr rfl fun y _ => ?_) (coe_sum _ _).symm
  exact written_term I _ _ h.k h.q h.last b n ⟨x.val / 64 * 64 + y.val, _⟩ (64 * (x.val / 64) + y.val) (congrArg (· + y.val) (Nat.mul_comm _ _))

theorem start_is : Tiles (V m c main_v18) I.s := by
  intro b f v l
  unfold V
  after_reads_at
  have key : ∀ (b' : Fin 2) (f' : Fin 4) (l' : Fin 64), b'.val = b.val → 64 * f'.val + l'.val = 128 * f.val + l.val →
      (m ((c : Thread nD τ).loc main_arg6)) (ix4 b' f' v l') = ((I.s b.val v.val (128 * f.val + l.val) : ℝ) : EReal) := by
    intro b' f' l' hb hl
    rw [h.s, hb, hl]
  refine key _ _ _ ?_ ?_ <;> simp <;> omega

end

end Cert.KernelIdeal.Rwkv

end
-- ==== Proof.Rwkv.Finite.lean ====
/- Arguments whose every element is finite are arrays of real numbers. -/
module

public import proofs.«01_k».proof.Pre_all_finite
public import proofs.«01_k».proof.Proof.Rwkv.Entry
public import Idealize.ShloMosaic.Lib.ReduceAll

@[expose] public section

noncomputable section

namespace Cert.Rwkv

open Idealize.ShloMosaic Idealize.ShloMosaic.TcCoe
open Cert.KernelIdeal.Rwkv (ArgsAre SeqIs HeadsAre)
open Cert.KernelIdeal (S2x8192x256 S2x4x64x64)

/-- An operand's elements as real numbers, zero outside the array. -/
def seqReal (X : Vec Ideal S2x8192x256 .f32) (b n x : ℕ) : ℝ :=
  if h : b < 2 ∧ n < 8192 ∧ x < 256 then EReal.toReal (X (ix3 ⟨b, h.1⟩ ⟨n, h.2.1⟩ ⟨x, h.2.2⟩)) else 0

/-- A state's elements as real numbers, by lane. -/
def headReal (X : Vec Ideal S2x4x64x64 .f32) (b v x : ℕ) : ℝ :=
  if h : b < 2 ∧ v < 64 ∧ x / 64 < 4 then EReal.toReal (X (ix4 ⟨b, h.1⟩ ⟨x / 64, h.2.2⟩ ⟨v, h.2.1⟩ ⟨x % 64, Nat.mod_lt _ (by decide)⟩)) else 0

/-- Every element is a real number. -/
def Real {s : Shape} (X : Vec Ideal s .f32) : Prop := ∀ i, (X i : EReal) ≠ ⊤ ∧ (X i : EReal) ≠ ⊥

theorem seq_real (X : Vec Ideal S2x8192x256 .f32) (h : Real X) : SeqIs X (seqReal X) := by
  intro b n x
  unfold seqReal
  rw [dif_pos ⟨b.isLt, n.isLt, x.isLt⟩]
  exact (EReal.coe_toReal (h _).1 (h _).2).symm

theorem head_real (X : Vec Ideal S2x4x64x64 .f32) (h : Real X) : HeadsAre X (headReal X) := by
  intro b f v k
  have e1 : (64 * f.val + k.val) / 64 = f.val := by omega
  have e2 : (64 * f.val + k.val) % 64 = k.val := by omega
  unfold headReal
  rw [dif_pos ⟨b.isLt, v.isLt, by omega⟩]
  have key : ∀ (f' : Fin 4) (k' : Fin 64), f' = f → k' = k → (X (ix4 b f v k) : EReal) = ((EReal.toReal (X (ix4 b f' v k')) : ℝ) : EReal) := by
    intro f' k' hf hk
    subst hf hk
    exact (EReal.coe_toReal (h _).1 (h _).2).symm
  exact key ⟨_, _⟩ ⟨_, _⟩ (Fin.ext e1) (Fin.ext e2)

/-- The recurrence's operands, from the seven arguments. -/
def ins (A0 A1 A2 A3 A4 A5 : Vec Ideal S2x8192x256 .f32) (A6 : Vec Ideal S2x4x64x64 .f32) : Ins where
  r := seqReal A0
  w := seqReal A1
  k := seqReal A2
  v := seqReal A3
  q := seqReal A4
  a := seqReal A5
  s := headReal A6

theorem args_are (A0 A1 A2 A3 A4 A5 : Vec Ideal S2x8192x256 .f32) (A6 : Vec Ideal S2x4x64x64 .f32)
    (h0 : Real A0) (h1 : Real A1) (h2 : Real A2) (h3 : Real A3) (h4 : Real A4) (h5 : Real A5) (h6 : Real A6) :
    ArgsAre (ins A0 A1 A2 A3 A4 A5 A6) A0 A1 A2 A3 A4 A5 A6 where
  r := seq_real A0 h0
  w := seq_real A1 h1
  k := seq_real A2 h2
  v := seq_real A3 h3
  q := seq_real A4 h4
  a := seq_real A5 h5
  s := head_real A6 h6
  last := fun b x => dif_neg fun h => absurd h.2.1 (by decide)

/-- The pattern of positive infinity is the top element. -/
theorem inf_eq : Ideal.ofBits FTy.f32 0x7F800000#32 = (⊤ : EReal) := by
  simp [Ideal.ofBits, Ideal.ieee]

/-- An element whose magnitude is below infinity is a real number. -/
theorem real_of_lt (y : EReal) (h : Ideal.cmp .olt (max y (-y) : EReal) (Ideal.ofBits FTy.f32 0x7F800000#32) = 1#1) : y ≠ ⊤ ∧ y ≠ ⊥ := by
  have hlt : max y (-y) < (⊤ : EReal) := by
    rw [inf_eq] at h
    have bit : ∀ b : Bool, BitVec.ofBool b = 1#1 → b = true := by decide
    exact of_decide_eq_true (bit _ h)
  refine ⟨?_, ?_⟩
  · rintro rfl
    simp at hlt
  · rintro rfl
    simp at hlt

/-- A conjunction of bits is set only where both are. -/
theorem both_set {s : Shape} (x y : IVec s 1) (j : s.Idx) (h : andi x y j = 1#1) : x j = 1#1 ∧ y j = 1#1 := by
  have key : ∀ a b : BitVec 1, a &&& b = 1#1 → a = 1#1 ∧ b = 1#1 := by decide
  exact key _ _ h

instance : Subsingleton Cert.Pre_all_finite.S_.Idx := ⟨fun a b => funext fun i => i.elim0⟩

/-- An array whose elements' finiteness bits are all set is an array of real numbers. -/
theorem real_of_all {s : Shape} (X : Vec Ideal s .f32) {axes : List (Fin s.rank)} (hb : Cert.Pre_all_finite.S_.BroadcastsInDim s (![] : Fin 0 → Fin s.rank))
    (hr : s.ReducesTo axes Cert.Pre_all_finite.S_) (hu : 0 < Cert.Pre_all_finite.S_.numel) (j : Cert.Pre_all_finite.S_.Idx)
    (h : Host.reduce IntOp.andi (cmpf .olt (Host.absf (F := Ideal) (φ := .f32) X) (broadcastInDim s ![] hb (constant (F := Ideal) Cert.Pre_all_finite.S_ .f32 0x7F800000#32)))
      (constantI Cert.Pre_all_finite.S_ 1 1#1) hr hu j = 1#1) : Real X :=
  fun i => real_of_lt (X i) (Host.reduce_andi_all _ _ _ _ j h i)

variable [Cert.Pre_all_finite.Facts]

theorem real_all (A0 A1 A2 A3 A4 A5 : Vec Ideal S2x8192x256 .f32) (A6 : Vec Ideal S2x4x64x64 .f32)
    (h : Cert.Pre_all_finite.fn (F := Ideal) A0 A1 A2 A3 A4 A5 A6 = fun _ => 1#1) :
    Real A0 ∧ Real A1 ∧ Real A2 ∧ Real A3 ∧ Real A4 ∧ Real A5 ∧ Real A6 := by
  have e := congrFun h (ix1 0)
  unfold Cert.Pre_all_finite.fn Cert.Pre_all_finite.fn_part1 Cert.Pre_all_finite.fn_part2 at e
  obtain ⟨e, h6⟩ := both_set _ _ _ e
  obtain ⟨e, h5⟩ := both_set _ _ _ e
  obtain ⟨e, h4⟩ := both_set _ _ _ e
  obtain ⟨e, h3⟩ := both_set _ _ _ e
  obtain ⟨e, h2⟩ := both_set _ _ _ e
  obtain ⟨h0, h1⟩ := both_set _ _ _ e
  clear e h
  exact ⟨real_of_all A0 _ _ _ _ h0, real_of_all A1 _ _ _ _ h1, real_of_all A2 _ _ _ _ h2, real_of_all A3 _ _ _ _ h3,
    real_of_all A4 _ _ _ _ h4, real_of_all A5 _ _ _ _ h5, real_of_all A6 _ _ _ _ h6⟩

end Cert.Rwkv

end
-- ==== Proof.Rwkv.Windows.lean ====
/- What the blocks of a grid point hold. -/
module

public import proofs.«01_k».proof.Proof.Rwkv.Entry
public import Idealize.ShloMosaic.Lib.Pipeline.ValueKit

@[expose] public section

noncomputable section

namespace Cert.KernelIdeal.Rwkv

open Idealize.ShloMosaic Idealize.ShloMosaic.TcCoe
open Cert.KernelIdeal.Gen
open Cert.Rwkv

/-- The placement of a block: chunk `t` of every batch entry. -/
theorem index_0 : ∀ t : Fin cfg0.N, win0_0.index t 0 = 0 ∧ win0_0.index t 1 = t.val ∧ win0_0.index t 2 = 0 := by decide +kernel

theorem index_1 : ∀ t : Fin cfg0.N, win0_1.index t 0 = 0 ∧ win0_1.index t 1 = t.val ∧ win0_1.index t 2 = 0 := by decide +kernel

theorem index_2 : ∀ t : Fin cfg0.N, win0_2.index t 0 = 0 ∧ win0_2.index t 1 = t.val ∧ win0_2.index t 2 = 0 := by decide +kernel

theorem index_3 : ∀ t : Fin cfg0.N, win0_3.index t 0 = 0 ∧ win0_3.index t 1 = t.val ∧ win0_3.index t 2 = 0 := by decide +kernel

theorem index_4 : ∀ t : Fin cfg0.N, win0_4.index t 0 = 0 ∧ win0_4.index t 1 = t.val ∧ win0_4.index t 2 = 0 := by decide +kernel

theorem index_5 : ∀ t : Fin cfg0.N, win0_5.index t 0 = 0 ∧ win0_5.index t 1 = t.val ∧ win0_5.index t 2 = 0 := by decide +kernel

theorem index_6 : ∀ t : Fin cfg0.N, win0_6.index t 0 = 0 ∧ win0_6.index t 1 = t.val ∧ win0_6.index t 2 = 0 := by decide +kernel

theorem index_7 : ∀ t : Fin cfg0.N, win0_7.index t 0 = 0 ∧ win0_7.index t 1 = t.val ∧ win0_7.index t 2 = 0 := by decide +kernel

theorem index_8 : ∀ t : Fin cfg0.N, win0_8.index t 0 = 0 ∧ win0_8.index t 1 = t.val ∧ win0_8.index t 2 = 0 := by decide +kernel

theorem index_9 : ∀ t : Fin cfg0.N, win0_9.index t 0 = 0 ∧ win0_9.index t 1 = 0 ∧ win0_9.index t 2 = 0 := by decide +kernel

theorem read_0 (A : Vec Ideal S2x8192x256 .f32) (t : Fin cfg0.N) (b : Fin 2) (l : Fin 128) (x : Fin 256) (h : 128 * t.val + l.val < 8192) :
    ((cfg0.win 0).blk t).view.read (Elt Ideal) A (ix3 b l x) = A (ix3 b ⟨128 * t.val + l.val, h⟩ x) := by
  blk_ext [index_0 t]

theorem read_1 (A : Vec Ideal S2x8192x256 .f32) (t : Fin cfg0.N) (b : Fin 2) (l : Fin 128) (x : Fin 256) (h : 128 * t.val + l.val < 8192) :
    ((cfg0.win 1).blk t).view.read (Elt Ideal) A (ix3 b l x) = A (ix3 b ⟨128 * t.val + l.val, h⟩ x) := by
  blk_ext [index_1 t]

theorem read_2 (A : Vec Ideal S2x8192x256 .f32) (t : Fin cfg0.N) (b : Fin 2) (l : Fin 128) (x : Fin 256) (h : 128 * t.val + l.val < 8192) :
    ((cfg0.win 2).blk t).view.read (Elt Ideal) A (ix3 b l x) = A (ix3 b ⟨128 * t.val + l.val, h⟩ x) := by
  blk_ext [index_2 t]

theorem read_3 (A : Vec Ideal S2x8192x256 .f32) (t : Fin cfg0.N) (b : Fin 2) (l : Fin 128) (x : Fin 256) (h : 128 * t.val + l.val < 8192) :
    ((cfg0.win 3).blk t).view.read (Elt Ideal) A (ix3 b l x) = A (ix3 b ⟨128 * t.val + l.val, h⟩ x) := by
  blk_ext [index_3 t]

theorem read_4 (A : Vec Ideal S2x8192x256 .f32) (t : Fin cfg0.N) (b : Fin 2) (l : Fin 128) (x : Fin 256) (h : 128 * t.val + l.val < 8192) :
    ((cfg0.win 4).blk t).view.read (Elt Ideal) A (ix3 b l x) = A (ix3 b ⟨128 * t.val + l.val, h⟩ x) := by
  blk_ext [index_4 t]

theorem read_5 (A : Vec Ideal S2x8192x256 .f32) (t : Fin cfg0.N) (b : Fin 2) (l : Fin 128) (x : Fin 256) (h : 128 * t.val + l.val < 8192) :
    ((cfg0.win 5).blk t).view.read (Elt Ideal) A (ix3 b l x) = A (ix3 b ⟨128 * t.val + l.val, h⟩ x) := by
  blk_ext [index_5 t]

theorem read_6 (A : Vec Ideal S2x8192x256 .f32) (t : Fin cfg0.N) (b : Fin 2) (l : Fin 128) (x : Fin 256) (h : 128 * t.val + l.val < 8192) :
    ((cfg0.win 6).blk t).view.read (Elt Ideal) A (ix3 b l x) = A (ix3 b ⟨128 * t.val + l.val, h⟩ x) := by
  blk_ext [index_6 t]

theorem read_7 (A : Vec Ideal S2x8192x256 .f32) (t : Fin cfg0.N) (b : Fin 2) (l : Fin 128) (x : Fin 256) (h : 128 * t.val + l.val < 8192) :
    ((cfg0.win 7).blk t).view.read (Elt Ideal) A (ix3 b l x) = A (ix3 b ⟨128 * t.val + l.val, h⟩ x) := by
  blk_ext [index_7 t]

theorem read_8 (A : Vec Ideal S2x8192x256 .f32) (t : Fin cfg0.N) (b : Fin 2) (l : Fin 128) (x : Fin 256) (h : 128 * t.val + l.val < 8192) :
    ((cfg0.win 8).blk t).view.read (Elt Ideal) A (ix3 b l x) = A (ix3 b ⟨128 * t.val + l.val, h⟩ x) := by
  blk_ext [index_8 t]

theorem read_9 (A : Vec Ideal S4x64x128 .f32) (t : Fin cfg0.N) (j : S4x64x128.Idx) :
    ((cfg0.win 9).blk t).view.read (Elt Ideal) A j = A j := by
  blk_ext [index_9 t]

theorem row_of_point (t : Fin cfg0.N) (l : Fin 128) : 128 * t.val + l.val < 8192 := by
  have ht : t.val < 64 := t.isLt
  have hl := l.isLt
  omega

variable (m : (ℓ : Loc nD τ sig) → Buf (Elt Ideal) ℓ) (c : Dev nD)

theorem block_0 (G : ℕ → ℕ → ℕ → ℝ) (t : Fin cfg0.N) (h : SeqIs (m ((c : Thread nD τ).loc main_arg0)) G) : BlockIs t.val (iblk m c 0 t) G := fun b l x =>
  (read_0 (V m c main_arg0) t b l x (row_of_point t l)).trans ((congrFun (V_main_arg0 m c) _).trans (h b ⟨128 * t.val + l.val, row_of_point t l⟩ x))

theorem block_1 (G : ℕ → ℕ → ℕ → ℝ) (t : Fin cfg0.N) (h : SeqIs (m ((c : Thread nD τ).loc main_arg1)) G) : BlockIs t.val (iblk m c 1 t) G := fun b l x =>
  (read_1 (V m c main_arg1) t b l x (row_of_point t l)).trans ((congrFun (V_main_arg1 m c) _).trans (h b ⟨128 * t.val + l.val, row_of_point t l⟩ x))

theorem block_2 (G : ℕ → ℕ → ℕ → ℝ) (t : Fin cfg0.N) (h : SeqIs (m ((c : Thread nD τ).loc main_arg2)) G) : BlockIs t.val (iblk m c 2 t) G := fun b l x =>
  (read_2 (V m c main_arg2) t b l x (row_of_point t l)).trans ((congrFun (V_main_arg2 m c) _).trans (h b ⟨128 * t.val + l.val, row_of_point t l⟩ x))

theorem block_3 (G : ℕ → ℕ → ℕ → ℝ) (t : Fin cfg0.N) (h : SeqIs (m ((c : Thread nD τ).loc main_arg4)) G) : BlockIs t.val (iblk m c 3 t) G := fun b l x =>
  (read_3 (V m c main_arg4) t b l x (row_of_point t l)).trans ((congrFun (V_main_arg4 m c) _).trans (h b ⟨128 * t.val + l.val, row_of_point t l⟩ x))

theorem block_4 (G : ℕ → ℕ → ℕ → ℝ) (t : Fin cfg0.N) (h : SeqIs (V m c main_v0) G) : BlockIs t.val (iblk m c 4 t) G := fun b l x =>
  (read_4 (V m c main_v0) t b l x (row_of_point t l)).trans (h b ⟨128 * t.val + l.val, row_of_point t l⟩ x)

theorem block_5 (G : ℕ → ℕ → ℕ → ℝ) (t : Fin cfg0.N) (h : SeqIs (m ((c : Thread nD τ).loc main_arg3)) G) : BlockIs t.val (iblk m c 5 t) G := fun b l x =>
  (read_5 (V m c main_arg3) t b l x (row_of_point t l)).trans ((congrFun (V_main_arg3 m c) _).trans (h b ⟨128 * t.val + l.val, row_of_point t l⟩ x))

theorem block_6 (G : ℕ → ℕ → ℕ → ℝ) (t : Fin cfg0.N) (h : SeqIs (V m c main_v5) G) : BlockIs t.val (iblk m c 6 t) G := fun b l x =>
  (read_6 (V m c main_v5) t b l x (row_of_point t l)).trans (h b ⟨128 * t.val + l.val, row_of_point t l⟩ x)

theorem block_7 (G : ℕ → ℕ → ℕ → ℝ) (t : Fin cfg0.N) (h : SeqIs (V m c main_v10) G) : BlockIs t.val (iblk m c 7 t) G := fun b l x =>
  (read_7 (V m c main_v10) t b l x (row_of_point t l)).trans (h b ⟨128 * t.val + l.val, row_of_point t l⟩ x)

theorem block_8 (G : ℕ → ℕ → ℕ → ℝ) (t : Fin cfg0.N) (h : SeqIs (V m c main_v15) G) : BlockIs t.val (iblk m c 8 t) G := fun b l x =>
  (read_8 (V m c main_v15) t b l x (row_of_point t l)).trans (h b ⟨128 * t.val + l.val, row_of_point t l⟩ x)

theorem block_9 (t : Fin cfg0.N) (j : S4x64x128.Idx) : (initAt m c t) j = V m c main_v18 j := read_9 (V m c main_v18) t j

section

variable (I : Ins) (h : ArgsAre I (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)))

include h

/-- What the blocks of a grid point hold. -/
theorem blocks_are (t : Fin cfg0.N) : BlocksAre I t.val (blocksAt m c t) := by
  have h0 := block_0 m c I.r t h.r
  have h1 := block_1 m c I.w t h.w
  have h2 := block_2 m c I.k t h.k
  have h3 := block_3 m c I.q t h.q
  have h4 := block_4 m c _ t (product_is m c I h)
  have h5 := block_5 m c I.v t h.v
  have h6 := block_6 m c _ t (decayed_is m c I h)
  have h7 := block_7 m c _ t (removed_is m c I h)
  have h8 := block_8 m c _ t (written_is m c I h)
  unfold blocksAt
  revert h0 h1 h2 h3 h4 h5 h6 h7 h8
  generalize iblk m c 0 t = B0
  generalize iblk m c 1 t = B1
  generalize iblk m c 2 t = B2
  generalize iblk m c 3 t = B3
  generalize iblk m c 4 t = B4
  generalize iblk m c 5 t = B5
  generalize iblk m c 6 t = B6
  generalize iblk m c 7 t = B7
  generalize iblk m c 8 t = B8
  intro h0 h1 h2 h3 h4 h5 h6 h7 h8
  exact ⟨h0, h1, h2, h3, h4, h5, h6, h7, h8⟩

/-- The state the recurrence starts from. -/
theorem init_is (t : Fin cfg0.N) : Tiles (initAt m c t) I.s := by
  intro b f v l
  exact (block_9 m c t _).trans (start_is m c I h b f v l)

end

end Cert.KernelIdeal.Rwkv

end
-- ==== Proof.Rwkv.Result.lean ====
/- The kernel's two result arrays: the recurrence's outputs and its last state. -/
module

public import proofs.«01_k».proof.Proof.Rwkv.Windows
public import proofs.«01_k».proof.Proof.Rwkv.Frames

@[expose] public section

noncomputable section

namespace Cert.KernelIdeal.Rwkv

open Idealize.ShloMosaic Idealize.ShloMosaic.TcCoe Idealize.SL.Sem
open Cert.KernelIdeal.Gen
open Cert.Rwkv

/-- The last state as the region's array of tiles. -/
def lastTiles (I : Ins) : Vec Ideal S4x64x128 .f32 := fun j => ((state I 8192 ((j 0).val / 2) (j 1).val (128 * ((j 0).val % 2) + (j 2).val) : ℝ) : EReal)

theorem index_10 : ∀ t : Fin cfg0.N, win0_10.index t 0 = 0 ∧ win0_10.index t 1 = t.val ∧ win0_10.index t 2 = 0 := by decide +kernel

theorem index_11 : ∀ t : Fin cfg0.N, win0_11.index t 0 = 0 ∧ win0_11.index t 1 = 0 ∧ win0_11.index t 2 = 0 := by decide +kernel

theorem covers_10 : (cfg0.win 10).Covers := by decide +kernel

/-- The last grid point. -/
def lastPoint : Fin cfg0.N := ⟨63, by decide⟩

theorem whole_11 : (cfg0.win 11).WholeAt lastPoint := by decide +kernel

variable (m : (ℓ : Loc nD τ sig) → Buf (Elt Ideal) ℓ) (c : Dev nD)

section

variable (I : Ins) (h : ArgsAre I (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)))

include h

theorem out_array : (dats m 0 c).arrAt 10 cfg0.N = outputs I := by
  refine (dats m 0 c).arrAt_eq_of_covers 10 _ covers_10 fun t hf y => ?_
  blk_simp
  have key : ∀ (b : Fin 2) (l : Fin 128) (x : Fin 256), (outFn (carryAt m c (t.val + 1)).O noOut : Vec Ideal S2x128x256 .f32) (ix3 b l x)
      = outputs I ((win0_10.blk t).view.emb (ix3 b l x)) := by
    intro b l x
    rw [out_block I m c (blocks_are m c I h) (init_is m c I h)]
    unfold outputs
    blk_simp [index_10 t]
    rw [Nat.mul_comm]
  suffices hk : ∀ y : S2x128x256.Idx, (outFn (carryAt m c (t.val + 1)).O noOut : Vec Ideal S2x128x256 .f32) y = outputs I ((win0_10.blk t).view.emb y) from hk y
  intro y
  idx_vars y
  exact key _ _ _

theorem state_array : (dats m 0 c).arrAt 11 cfg0.N = lastTiles I := by
  refine (dats m 0 c).arrAt_eq_of_after_last 11 lastPoint whole_11 _ fun j => ?_
  blk_simp
  have key : ∀ (r : Fin 4) (v : Fin 64) (l : Fin 128), (carryAt m c (lastPoint.val + 1)).S (ix3 r v l) = lastTiles I (ix3 r v l) := by
    intro r v l
    have hr : r = ⟨2 * (r.val / 2) + r.val % 2, by omega⟩ := Fin.ext (by show r.val = 2 * (r.val / 2) + r.val % 2; omega)
    conv_lhs => rw [hr]
    exact state_block I m c (blocks_are m c I h) (init_is m c I h) lastPoint ⟨r.val / 2, by omega⟩ ⟨r.val % 2, by omega⟩ v l
  suffices hk : ∀ y : S4x64x128.Idx, (carryAt m c (lastPoint.val + 1)).S y = lastTiles I y from hk j
  intro y
  idx_vars y
  exact key _ _ _

theorem state_result : Pipeline.afterTail₀ cfgs (dats m) 0 (V0 m) [hostOps1] c main_v22 = lastState I := by
  have hs := state_array m c I h
  funext j
  unfold Pipeline.afterTail₀
  after_reads_at
  refine (congrFun (Pipeline.withArrays_arr spec0 (by decide) c (V0 m c) (fun w => (dats m 0 c).arrAt w (cfgs 0).N) 11) _).trans ?_
  refine (congrFun hs _).trans ?_
  suffices hk : ∀ (b h v k : ℕ), h < 4 → k < 64 →
      ((state I 8192 ((b * 2 + h / 2) / 2) v (128 * ((b * 2 + h / 2) % 2) + (h % 2 * 64 + k)) : ℝ) : EReal) = ((state I 8192 b v (64 * h + k) : ℝ) : EReal) from
    hk (j 0).val (j 1).val (j 2).val (j 3).val (j 1).isLt (j 3).isLt
  intro b h v k hh hk
  rw [show (b * 2 + h / 2) / 2 = b by omega, show 128 * ((b * 2 + h / 2) % 2) + (h % 2 * 64 + k) = 64 * h + k by omega]

/-- The kernel's run: its two results are the recurrence's, and its arguments end as launched. -/
theorem result_of (r : PUnit × MemSt nD τ sig (Elt Ideal))
    (hr : Pipeline.FramePost cfgs (dats m) 0 (Pipeline.afterTail₀ cfgs (dats m) 0 (V0 m) [hostOps1]) r) :
    r.2.mem ((c.tc : Thread nD τ).loc main_v19_0) = outputs I ∧ r.2.mem ((c.tc : Thread nD τ).loc main_v22) = lastState I :=
  ⟨((hr c).1 10).trans (out_array m c I h),
    ((hr c).2 main_v22 (Pipeline.mem_restRefs_of main_v22 (by decide) (by decide))).trans (state_result m c I h)⟩

end

end Cert.KernelIdeal.Rwkv

end
-- ==== Proof.Rwkv.RefStep.lean ====
/- One trip of the reference's loop is one step of the recurrence. -/
module

public import proofs.«01_k».proof.Proof.Rwkv.Model
public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.StableHlo.ReadAt

@[expose] public section

noncomputable section

namespace Cert.ReferenceIdeal.Rwkv

open Idealize.ShloMosaic Idealize.ShloMosaic.TcCoe Idealize.ShloMosaic.StableHlo
open Cert.ReferenceIdeal.Gen Cert.ReferenceIdeal.Value
open Cert.Rwkv

/-- A position's row of an operand, by batch entry, head and key. -/
def rowOf (X : Vec Ideal S8192x2x4x64 .f32) (n : ℕ) (hn : n < 8192) : Vec Ideal S2x4x64 .f32 := fun j => X (ix4 ⟨n, hn⟩ (j 0) (j 1) (j 2))

/-- The slice a trip takes of an operand at the counter. -/
def rowAt (X : Vec Ideal S8192x2x4x64 .f32) (N : (⟨S_, .i32⟩ : BufTy).Contents (Elt Ideal)) : Vec Ideal S2x4x64 .f32 :=
  shapeCast S2x4x64 (Host.dynamicSlice S1x2x4x64 X (fun k => (((![N, constantI S_ 32 0#32, constantI S_ 32 0#32, constantI S_ 32 0#32] : Fin 4 → (⟨S_, .i32⟩ : BufTy).Contents (Elt Ideal))) k (Shape.Idx.first h_S_)).toInt) sliceFits_S8192x2x4x64_S1x2x4x64) shapeCasts_S1x2x4x64_S2x4x64

/-- The counter, read signed, is the position. -/
theorem start_eq (N : (⟨S_, .i32⟩ : BufTy).Contents (Elt Ideal)) (n : ℕ) (hn : n < 8192) (hN : N (Shape.Idx.first h_S_) = BitVec.ofNat 32 n) (a : Fin 4) :
    (((![N, constantI S_ 32 0#32, constantI S_ 32 0#32, constantI S_ 32 0#32] : Fin 4 → (⟨S_, .i32⟩ : BufTy).Contents (Elt Ideal))) a (Shape.Idx.first h_S_)).toInt
      = ((![n, 0, 0, 0] : Fin 4 → ℕ) a : ℤ) := by
  fin_cases a
  · show (N (Shape.Idx.first h_S_)).toInt = (n : ℤ)
    have ht : (BitVec.ofNat 32 n).toNat = n := by rw [BitVec.toNat_ofNat]; omega
    rw [hN, BitVec.toInt_eq_toNat_of_lt (by rw [ht]; omega), ht]
  · rfl
  · rfl
  · rfl

theorem clamp_eq (N : (⟨S_, .i32⟩ : BufTy).Contents (Elt Ideal)) (n : ℕ) (hn : n < 8192) (hN : N (Shape.Idx.first h_S_) = BitVec.ofNat 32 n) (a : Fin 4) :
    (min (max ((((![N, constantI S_ 32 0#32, constantI S_ 32 0#32, constantI S_ 32 0#32] : Fin 4 → (⟨S_, .i32⟩ : BufTy).Contents (Elt Ideal))) a (Shape.Idx.first h_S_)).toInt) 0)
      ((S8192x2x4x64.size a - S1x2x4x64.size a : ℕ) : ℤ)).toNat = (![n, 0, 0, 0] : Fin 4 → ℕ) a := by
  rw [start_eq N n hn hN a]
  fin_cases a
  · show (min (max (n : ℤ) 0) ((8192 - 1 : ℕ) : ℤ)).toNat = n
    omega
  · rfl
  · rfl
  · rfl

theorem row_slices (n : ℕ) (hn : n < 8192) : S8192x2x4x64.Slices ![n, 0, 0, 0] S1x2x4x64 := by
  refine ⟨rfl, fun a => ?_⟩
  fin_cases a <;> simp <;> omega

/-- The slice a trip takes at the counter is the counter's row. -/
theorem row_eq (X : Vec Ideal S8192x2x4x64 .f32) (N : (⟨S_, .i32⟩ : BufTy).Contents (Elt Ideal)) (n : ℕ) (hn : n < 8192)
    (hN : N (Shape.Idx.first h_S_) = BitVec.ofNat 32 n) : rowAt X N = rowOf X n hn := by
  unfold rowAt
  rw [Host.dynamicSlice_eq_extractStridedSlice S1x2x4x64 X _ ![n, 0, 0, 0] _ (row_slices n hn) (start_eq N n hn hN)]
  funext j
  idx_vars j
  unfold rowOf
  pointwise

/-- The state after a trip, of the state before it and the position's rows. -/
def nextState (S : FVec Ideal S2x4x64x64 .f32) (w q a v k : FVec Ideal S2x4x64 .f32) : FVec Ideal S2x4x64x64 .f32 :=
  addf (addf (mulf S (broadcastInDim S2x4x64x64 ![0, 1, 2, 3] bcast_S2x4x1x64_S2x4x64x64_0_1_2_3 (broadcastInDim S2x4x1x64 ![0, 1, 3] bcast_S2x4x64_S2x4x1x64_0_1_3 w)))
      (mulf (broadcastInDim S2x4x64x64 ![0, 1, 2, 3] bcast_S2x4x64x1_S2x4x64x64_0_1_2_3 (broadcastInDim S2x4x64x1 ![0, 1, 2] bcast_S2x4x64_S2x4x64x1_0_1_2
          (Host.dotGeneral dot_S2x4x64x64_S2x4x64_S2x4x64_3_2_2_n_01_01 none S (Host.negf q))))
        (broadcastInDim S2x4x64x64 ![0, 1, 2, 3] bcast_S2x4x1x64_S2x4x64x64_0_1_2_3 (broadcastInDim S2x4x1x64 ![0, 1, 3] bcast_S2x4x64_S2x4x1x64_0_1_3 (mulf q a)))))
    (mulf (broadcastInDim S2x4x64x64 ![0, 1, 2, 3] bcast_S2x4x64x1_S2x4x64x64_0_1_2_3 (broadcastInDim S2x4x64x1 ![0, 1, 2] bcast_S2x4x64_S2x4x64x1_0_1_2 v))
      (broadcastInDim S2x4x64x64 ![0, 1, 2, 3] bcast_S2x4x1x64_S2x4x64x64_0_1_2_3 (broadcastInDim S2x4x1x64 ![0, 1, 3] bcast_S2x4x64_S2x4x1x64_0_1_3 k)))

theorem trip_state (V0 : Valuation τ sig (Elt Ideal)) :
    step_main_v13_7 V0 = nextState (V0 (Proc.devRef .tc main_v13_7)) (rowAt (V0 (Proc.devRef .tc main_v13_1)) (V0 (Proc.devRef .tc main_v13_6)))
      (rowAt (V0 (Proc.devRef .tc main_v13_4)) (V0 (Proc.devRef .tc main_v13_6))) (rowAt (V0 (Proc.devRef .tc main_v13_5)) (V0 (Proc.devRef .tc main_v13_6)))
      (rowAt (V0 (Proc.devRef .tc main_v13_3)) (V0 (Proc.devRef .tc main_v13_6))) (rowAt (V0 (Proc.devRef .tc main_v13_2)) (V0 (Proc.devRef .tc main_v13_6))) := rfl

theorem nextState_apply (S : Vec Ideal S2x4x64x64 .f32) (w q a v k : Vec Ideal S2x4x64 .f32) (b : Fin 2) (h : Fin 4) (i j : Fin 64) :
    nextState S w q a v k (ix4 b h i j) = (S (ix4 b h i j) * w (ix3 b h j) + (∑ x : Fin 64, S (ix4 b h i x) * -(q (ix3 b h x))) * (q (ix3 b h j) * a (ix3 b h j))
      + v (ix3 b h i) * k (ix3 b h j) : EReal) := by
  unfold nextState
  pointwise

/-- The outputs after a trip, of the outputs before it, the new state and the position's row. -/
def nextOut (O : FVec Ideal S8192x2x4x64 .f32) (S : FVec Ideal S2x4x64x64 .f32) (r : FVec Ideal S2x4x64 .f32) (N : (⟨S_, .i32⟩ : BufTy).Contents (Elt Ideal)) :
    FVec Ideal S8192x2x4x64 .f32 :=
  Host.dynamicUpdateSlice O (broadcastInDim S1x2x4x64 ![1, 2, 3] bcast_S2x4x64_S1x2x4x64_1_2_3
      (Host.dotGeneral dot_S2x4x64x64_S2x4x64_S2x4x64_3_2_2_n_01_01 none S r))
    (fun k => (((![N, constantI S_ 32 0#32, constantI S_ 32 0#32, constantI S_ 32 0#32] : Fin 4 → (⟨S_, .i32⟩ : BufTy).Contents (Elt Ideal))) k (Shape.Idx.first h_S_)).toInt) updateFits_S8192x2x4x64_S1x2x4x64

theorem trip_out (V0 : Valuation τ sig (Elt Ideal)) :
    step_main_v13_8 V0 = nextOut (V0 (Proc.devRef .tc main_v13_8)) (res_main_while0b_v39 V0) (rowAt (V0 (Proc.devRef .tc main_v13_0)) (V0 (Proc.devRef .tc main_v13_6)))
      (V0 (Proc.devRef .tc main_v13_6)) := by
  unfold step_main_v13_8 nextOut rowAt
  rfl

theorem nextOut_apply (O : Vec Ideal S8192x2x4x64 .f32) (S : Vec Ideal S2x4x64x64 .f32) (r : Vec Ideal S2x4x64 .f32) (N : (⟨S_, .i32⟩ : BufTy).Contents (Elt Ideal))
    (n : ℕ) (hn : n < 8192) (hN : N (Shape.Idx.first h_S_) = BitVec.ofNat 32 n) (l : Fin 8192) (b : Fin 2) (h : Fin 4) (i : Fin 64) :
    nextOut O S r N (ix4 l b h i) = if l.val = n then (∑ x : Fin 64, S (ix4 b h i x) * r (ix3 b h x) : EReal) else O (ix4 l b h i) := by
  unfold nextOut
  rw [Host.dynamicUpdateSlice_eq_updateSlice _ _ _ _ ![n, 0, 0, 0] (clamp_eq N n hn hN) (row_slices n hn)]
  pointwise
  by_cases e : l.val = n
  · rw [if_pos e, dif_pos (by omega)]
  · rw [if_neg e, dif_neg (by omega)]

/-- An operand of the loop holds the real numbers `G`, by batch entry, position and lane. -/
def RowsAre (X : Vec Ideal S8192x2x4x64 .f32) (G : ℕ → ℕ → ℕ → ℝ) : Prop :=
  ∀ (n : Fin 8192) (b : Fin 2) (h : Fin 4) (k : Fin 64), X (ix4 n b h k) = ((G b.val n.val (64 * h.val + k.val) : ℝ) : EReal)

/-- The state before position `n`, by heads. -/
def StateIs (X : Vec Ideal S2x4x64x64 .f32) (G : ℕ → ℕ → ℕ → ℝ) : Prop :=
  ∀ (b : Fin 2) (h : Fin 4) (v k : Fin 64), X (ix4 b h v k) = ((G b.val v.val (64 * h.val + k.val) : ℝ) : EReal)

/-- What the loop's buffers hold before trip `n`. -/
structure Before (I : Ins) (n : ℕ) (V0 : Valuation τ sig (Elt Ideal)) : Prop where
  r : RowsAre (V0 (Proc.devRef .tc main_v13_0)) I.r
  w : RowsAre (V0 (Proc.devRef .tc main_v13_1)) I.w
  k : RowsAre (V0 (Proc.devRef .tc main_v13_2)) I.k
  v : RowsAre (V0 (Proc.devRef .tc main_v13_3)) I.v
  q : RowsAre (V0 (Proc.devRef .tc main_v13_4)) I.q
  a : RowsAre (V0 (Proc.devRef .tc main_v13_5)) I.a
  count : V0 (Proc.devRef .tc main_v13_6) (Shape.Idx.first h_S_) = BitVec.ofNat 32 n
  state : StateIs (V0 (Proc.devRef .tc main_v13_7)) (state I n)
  out : ∀ (l : Fin 8192) (b : Fin 2) (h : Fin 4) (i : Fin 64), l.val < n →
    (V0 (Proc.devRef .tc main_v13_8) : Vec Ideal S8192x2x4x64 .f32) (ix4 l b h i) = ((output I l.val b.val i.val (64 * h.val + i.val) : ℝ) : EReal)

theorem head_of (h : Fin 4) (k : Fin 64) : (64 * h.val + k.val) / 64 = h.val := by omega

/-- A trip's state is the recurrence's. -/
theorem nextState_is (I : Ins) (n : ℕ) (hn : n < 8192) (S : Vec Ideal S2x4x64x64 .f32) (W Q A VV K : Vec Ideal S8192x2x4x64 .f32)
    (hS : StateIs S (state I n)) (hW : RowsAre W I.w) (hQ : RowsAre Q I.q) (hA : RowsAre A I.a) (hV : RowsAre VV I.v) (hK : RowsAre K I.k) :
    StateIs (nextState S (rowOf W n hn) (rowOf Q n hn) (rowOf A n hn) (rowOf VV n hn) (rowOf K n hn)) (state I (n + 1)) := by
  intro b h v k
  rw [nextState_apply]
  have row : ∀ (X : Vec Ideal S8192x2x4x64 .f32) (G : ℕ → ℕ → ℕ → ℝ), RowsAre X G → ∀ y : Fin 64,
      rowOf X n hn (ix3 b h y) = ((G b.val n (64 * h.val + y.val) : ℝ) : EReal) := fun X G hX y => hX ⟨n, hn⟩ b h y
  have hsum : (∑ x : Fin 64, S (ix4 b h v x) * -(rowOf Q n hn (ix3 b h x)) : EReal)
      = ((-(removal I n b.val v.val (64 * h.val + k.val)) : ℝ) : EReal) := by
    unfold removal headSum
    rw [head_of, ← Finset.sum_neg_distrib, coe_sum]
    refine Finset.sum_congr rfl fun x _ => ?_
    rw [hS, row Q I.q hQ, ← EReal.coe_neg, ← EReal.coe_mul, mul_neg]
  rw [hsum, hS, row W I.w hW, row Q I.q hQ, row A I.a hA, row VV I.v hV, row K I.k hK, ← EReal.coe_mul, ← EReal.coe_mul, ← EReal.coe_mul,
    ← EReal.coe_mul, ← EReal.coe_add, ← EReal.coe_add, state_succ, head_of]
  congr 1
  ring

/-- A trip's output is the recurrence's. -/
theorem output_is (I : Ins) (n : ℕ) (hn : n < 8192) (S : Vec Ideal S2x4x64x64 .f32) (R : Vec Ideal S8192x2x4x64 .f32)
    (hS : StateIs S (state I (n + 1))) (hR : RowsAre R I.r) (b : Fin 2) (h : Fin 4) (i : Fin 64) :
    (∑ x : Fin 64, S (ix4 b h i x) * rowOf R n hn (ix3 b h x) : EReal) = ((output I n b.val i.val (64 * h.val + i.val) : ℝ) : EReal) := by
  unfold output headSum
  rw [head_of, coe_sum]
  refine Finset.sum_congr rfl fun x _ => ?_
  rw [hS, EReal.coe_mul]
  exact congrArg (fun y : EReal => _ * y) (hR ⟨n, hn⟩ b h x)

/-- One trip. -/
theorem before_succ (I : Ins) (n : ℕ) (hn : n < 8192) (V0 : Valuation τ sig (Elt Ideal)) (H : Before I n V0) : Before I (n + 1) (STEP V0) := by
  have hS : StateIs (step_main_v13_7 V0) (state I (n + 1)) := by
    rw [trip_state, row_eq _ _ n hn H.count, row_eq _ _ n hn H.count, row_eq _ _ n hn H.count, row_eq _ _ n hn H.count, row_eq _ _ n hn H.count]
    exact nextState_is I n hn _ _ _ _ _ _ H.state H.w H.q H.a H.v H.k
  constructor
  · rw [STEP_main_v13_0]; exact H.r
  · rw [STEP_main_v13_1]; exact H.w
  · rw [STEP_main_v13_2]; exact H.k
  · rw [STEP_main_v13_3]; exact H.v
  · rw [STEP_main_v13_4]; exact H.q
  · rw [STEP_main_v13_5]; exact H.a
  · rw [STEP_main_v13_6]
    exact (congrArg (fun y : BitVec 32 => y + 1#32) H.count).trans (BitVec.ofNat_add _ _).symm
  · rw [STEP_main_v13_7]; exact hS
  · intro l b h i hl
    rw [STEP_main_v13_8, trip_out, nextOut_apply _ _ _ _ n hn H.count]
    split
    · rename_i e
      rw [row_eq _ _ n hn H.count, e]
      exact output_is I n hn _ _ hS H.r b h i
    · exact H.out l b h i (by omega)

/-- Before any trip. -/
theorem before_iter (I : Ins) (V0 : Valuation τ sig (Elt Ideal)) (H : Before I 0 V0) : ∀ n, n ≤ 8192 → Before I n (STEP^[n] V0)
  | 0, _ => H
  | n + 1, hn => by
    rw [Function.iterate_succ_apply']
    exact before_succ I n (by omega) _ (before_iter I V0 H n (by omega))

end Cert.ReferenceIdeal.Rwkv

end
-- ==== Proof.Rwkv.RefResult.lean ====
/- The reference's two result arrays: the recurrence's outputs and its last state. -/
module

public import proofs.«01_k».proof.Proof.Rwkv.RefStep
public import proofs.«01_k».proof.Proof.Rwkv.Entry

@[expose] public section

noncomputable section

namespace Cert.ReferenceIdeal.Rwkv

open Idealize.ShloMosaic Idealize.ShloMosaic.TcCoe Idealize.ShloMosaic.StableHlo
open Cert.ReferenceIdeal.Gen Cert.ReferenceIdeal.Value
open Cert.Rwkv
open Cert.KernelIdeal.Rwkv (ArgsAre SeqIs HeadsAre outputs lastState)

variable (m : (ℓ : Loc nD τ sig) → Buf (Elt Ideal) ℓ) (c : Dev nD)

theorem lane_of (h : Fin 4) (k : Fin 64) : h.val * 64 + k.val < 256 := by omega

/-- An operand's rows are its positions. -/
theorem rows_of (A : Vec Ideal S2x8192x256 .f32) (G : ℕ → ℕ → ℕ → ℝ) (hA : SeqIs A G) (n : Fin 8192) (b : Fin 2) (h : Fin 4) (k : Fin 64) :
    A (ix3 b n ⟨h.val * 64 + k.val, lane_of h k⟩) = ((G b.val n.val (64 * h.val + k.val) : ℝ) : EReal) := by
  rw [Nat.mul_comm 64]
  exact hA b n ⟨h.val * 64 + k.val, lane_of h k⟩

section

variable (I : Ins) (H : ArgsAre I (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)))

include H

theorem entry_0 : RowsAre (entryContents preI m c (Proc.devRef .tc main_v13_0)) I.r := by
  intro n b h k
  simp only [entryContents, afterL_cons, afterL_nil]
  after_reads_at
  exact rows_of _ _ H.r n b h k

theorem entry_1 : RowsAre (entryContents preI m c (Proc.devRef .tc main_v13_1)) I.w := by
  intro n b h k
  simp only [entryContents, afterL_cons, afterL_nil]
  after_reads_at
  exact rows_of _ _ H.w n b h k

theorem entry_2 : RowsAre (entryContents preI m c (Proc.devRef .tc main_v13_2)) I.k := by
  intro n b h k
  simp only [entryContents, afterL_cons, afterL_nil]
  after_reads_at
  exact rows_of _ _ H.k n b h k

theorem entry_3 : RowsAre (entryContents preI m c (Proc.devRef .tc main_v13_3)) I.v := by
  intro n b h k
  simp only [entryContents, afterL_cons, afterL_nil]
  after_reads_at
  exact rows_of _ _ H.v n b h k

theorem entry_4 : RowsAre (entryContents preI m c (Proc.devRef .tc main_v13_4)) I.q := by
  intro n b h k
  simp only [entryContents, afterL_cons, afterL_nil]
  after_reads_at
  exact rows_of _ _ H.q n b h k

theorem entry_5 : RowsAre (entryContents preI m c (Proc.devRef .tc main_v13_5)) I.a := by
  intro n b h k
  simp only [entryContents, afterL_cons, afterL_nil]
  after_reads_at
  exact rows_of _ _ H.a n b h k

theorem entry_7 : StateIs (entryContents preI m c (Proc.devRef .tc main_v13_7)) (state I 0) := by
  intro b h v k
  simp only [entryContents, afterL_cons, afterL_nil]
  after_reads_at
  exact H.s b h v k

/-- The loop's entry. -/
theorem before_zero : Before I 0 (entryContents preI m c) where
  r := entry_0 m c I H
  w := entry_1 m c I H
  k := entry_2 m c I H
  v := entry_3 m c I H
  q := entry_4 m c I H
  a := entry_5 m c I H
  count := congrFun (ctr_entry m c) _
  state := entry_7 m c I H
  out := fun l b h i hl => absurd hl (Nat.not_lt_zero _)

end

/-- The outputs, heads beside each other. -/
theorem out_read (V0 : Valuation τ sig (Elt Ideal)) (b : Fin 2) (n : Fin 8192) (x : Fin 256) :
    (out_main_v15 V0 : Vec Ideal S2x8192x256 .f32) (ix3 b n x)
      = (V0 (Proc.devRef .tc main_v13_8) : Vec Ideal S8192x2x4x64 .f32) (ix4 n b ⟨x.val / 64, by omega⟩ ⟨x.val % 64, by omega⟩) := by
  unfold out_main_v15
  pointwise

section

variable (I : Ins) (H : ArgsAre I (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)))

include H

theorem out_is : out_main_v15 (STEP^[8192] (entryContents preI m c)) = outputs I := by
  have hb := before_iter I _ (before_zero m c I H) 8192 le_rfl
  generalize STEP^[8192] (entryContents preI m c) = V0 at hb ⊢
  suffices hk : ∀ j : S2x8192x256.Idx, (out_main_v15 V0 : Vec Ideal S2x8192x256 .f32) j = outputs I j from funext hk
  intro j
  idx_vars j
  refine (out_read V0 j0 j1 j2).trans ((hb.out j1 j0 _ _ j1.isLt).trans ?_)
  show ((output I j1.val j0.val (j2.val % 64) (64 * (j2.val / 64) + j2.val % 64) : ℝ) : EReal) = ((output I j1.val j0.val (j2.val % 64) j2.val : ℝ) : EReal)
  rw [Nat.div_add_mod]

theorem state_is : (STEP^[8192] (entryContents preI m c)) (Proc.devRef .tc main_v13_7) = lastState I := by
  have hb := before_iter I _ (before_zero m c I H) 8192 le_rfl
  generalize STEP^[8192] (entryContents preI m c) = V0 at hb ⊢
  suffices hk : ∀ j : S2x4x64x64.Idx, (V0 (Proc.devRef .tc main_v13_7) : Vec Ideal S2x4x64x64 .f32) j = lastState I j from funext hk
  intro j
  idx_vars j
  exact hb.state _ _ _ _

end

end Cert.ReferenceIdeal.Rwkv

end
-- ==== Proof.Rwkv.Algebraic.lean ====
/- Both runs end with the recurrence's outputs and last state, which makes their results equal. -/
module

public import proofs.«01_k».proof.Proof.Rwkv.Finite
public import proofs.«01_k».proof.Proof.Rwkv.Result
public import proofs.«01_k».proof.Proof.Rwkv.RefResult

@[expose] public section

noncomputable section

namespace Cert.KernelIdeal.Rwkv

open Idealize.ShloMosaic Idealize.ShloMosaic.TcCoe Idealize.SL.Sem
open Cert.KernelIdeal.Gen Cert.Rwkv

variable [Cert.Pre_all_finite.Facts]

/-- The recurrence's operands, from the kernel's arguments at launch. -/
def insOf (m : (ℓ : Loc nD τ sig) → Buf (Elt Ideal) ℓ) (c : Dev nD) : Ins :=
  ins (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- Finite arguments are the recurrence's operands. -/
theorem args_of (m : (ℓ : Loc nD τ sig) → Buf (Elt Ideal) ℓ) (hp : Cert.Pre_KernelIdeal_all_finite m) (c : Dev nD) :
    ArgsAre (insOf m c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) :=
  have ⟨h0, h1, h2, h3, h4, h5, h6⟩ := real_all _ _ _ _ _ _ _ (hp c)
  args_are _ _ _ _ _ _ _ h0 h1 h2 h3 h4 h5 h6

/-- Operands stay the recurrence's when the seven arrays are replaced by equal ones. -/
theorem args_congr (I : Ins) (A0 A1 A2 A3 A4 A5 B0 B1 B2 B3 B4 B5 : Vec Ideal S2x8192x256 .f32) (A6 B6 : Vec Ideal S2x4x64x64 .f32)
    (h : ArgsAre I A0 A1 A2 A3 A4 A5 A6)
    (e : B0 = A0 ∧ B1 = A1 ∧ B2 = A2 ∧ B3 = A3 ∧ B4 = A4 ∧ B5 = A5 ∧ B6 = A6) : ArgsAre I B0 B1 B2 B3 B4 B5 B6 := by
  obtain ⟨rfl, rfl, rfl, rfl, rfl, rfl, rfl⟩ := e
  exact h

/-- The kernel's two results are the reference's, of finite arguments. -/
theorem algebraic : Cert.algebraic_KernelIdeal_ReferenceIdeal_pre_all_finite := fun m g m' g' hp he =>
  ⟨fun c => outputs (insOf m c), fun c => lastState (insOf m c),
    (θ_run Cert.KernelIdeal.defs _ _).mono
      (fun r h c =>
        ⟨(result_of m c (insOf m c) (args_of m hp c) r h.1).1, (result_of m c (insOf m c) (args_of m hp c) r h.1).2,
          unchanged_of m c r h.1⟩)
      (run_main (F := Ideal) m g),
    (θ_run Cert.ReferenceIdeal.defs _ _).mono
      (fun r h c =>
        have H := args_congr (insOf m c) _ _ _ _ _ _ _ _ _ _ _ _ _ _ (args_of m hp c) (he c)
        ⟨(h c).1.trans (Cert.ReferenceIdeal.Rwkv.out_is m' c (insOf m c) H),
          (h c).2.1.trans (Cert.ReferenceIdeal.Rwkv.state_is m' c (insOf m c) H), (h c).2.2⟩)
      (Cert.ReferenceIdeal.Value.run (F := Ideal) m' g')⟩

end Cert.KernelIdeal.Rwkv

end
-- ==== Proof.Project.Frames.lean ====
/- The input projection's three frames: one run of the kernel for both of its instances, and the reference's run. -/
module

public import proofs.«01_k».proof.Defs
public import proofs.«01_k».proof.Proof.Gen.KernelIn
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import Idealize.ShloMosaic.Lib.Quiescent

@[expose] public section

noncomputable section

namespace Cert.KernelInIdeal.Project

open Idealize.ShloMosaic Idealize.ShloMosaic.TcCoe Idealize.SL.Sem
open Cert.KernelInIdeal.Gen

variable {F : FTy → Type} [FloatOps F]

/-- A final state leaves the input, the gain and the weight as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

/-- The kernel's frame speaks of the idealized kernel's text read at the machine's floats. -/
theorem kernel_text : Cert.quiescent_KernelIn =
    ∀ (m : (ℓ : Loc nD τ sig) → Buf (Elt Bits) ℓ) (ρ : Dev nD → PrngReg), Cert.Pre_KernelIn m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelIn :=
  kernel_text.mpr fun m ρ _ => frame (F := Bits) m ρ

/-- The idealized kernel's frame: the same run at the ideal instance. -/
theorem frame_kernelIdeal : Cert.quiescent_KernelInIdeal := fun m ρ _ => frame (F := Ideal) m ρ

/-- The reference's frame: its run, which declares no semaphore. -/
theorem frame_referenceIdeal : Cert.quiescent_ReferenceInIdeal := fun m ρ _ =>
  (θ_run Cert.ReferenceInIdeal.defs _ _).mono
    (fun r h => ⟨fun c => (h c).2.2.2.2.2.2.2.2.2.2.2.2.2.2.2.2, Idealize.ShloMosaic.sem_eq_zero_of_no_sems (by decide) r.2⟩)
    (Cert.ReferenceInIdeal.Value.run (F := Ideal) m ρ)

end Cert.KernelInIdeal.Project

end
-- ==== Proof.Project.PointValue.lean ====
/- What a grid point of the input projection leaves: the normed rows in the carried buffer and their product with the
   weight's block of columns. -/
module

public import proofs.«01_k».proof.Proof.Gen.KernelInIdeal
public import proofs.«01_k».proof.Proof.Gen.KernelInIdeal.Frame
public import Idealize.ShloMosaic.Lib.Pipeline.ValueKit
public import Idealize.ShloMosaic.Lib.Pointwise

@[expose] public section

noncomputable section

namespace Cert.KernelInIdeal.Project

open Idealize.ShloMosaic Idealize.ShloMosaic.TcCoe
open Cert.KernelInIdeal.Gen

section

variable (m : (ℓ : Loc nD τ sig) → Buf (Elt Ideal) ℓ) (c : Dev nD)

/-- A point of the first column block: the carried buffer is made, and read back for the product. -/
theorem first_point (t : Fin cfg0.N) (h0 : t.val % 7 = 0) :
    (outsAt0 m c t.val t.isLt).2 = k0_pay1 (iblk m c 0 t) (iblk m c 1 t)
    ∧ (outsAt0 m c t.val t.isLt).1 = k0_pay2 (k0_pay1 (iblk m c 0 t) (iblk m c 1 t)) (iblk m c 2 t) := by
  refine ⟨(congrArg Prod.snd (outsAt0_A m c t h0)).trans ?_, (congrArg Prod.fst (outsAt0_A m c t h0)).trans ?_⟩
  · dsimp only
    frame_out
  · dsimp only
    frame_out

/-- Any other point: the carried buffer stays, and is read for the product. -/
theorem later_point (t : Fin cfg0.N) (h0 : ¬t.val % 7 = 0) :
    (outsAt0 m c t.val t.isLt).2 = (outsAt0 m c (t.val - 1) (Nat.lt_of_le_of_lt (Nat.sub_le _ _) t.isLt)).2
    ∧ (outsAt0 m c t.val t.isLt).1
      = k0_pay2 (outsAt0 m c (t.val - 1) (Nat.lt_of_le_of_lt (Nat.sub_le _ _) t.isLt)).2 (iblk m c 2 t) := by
  refine ⟨(congrArg Prod.snd (outsAt0_B m c t h0)).trans ?_, (congrArg Prod.fst (outsAt0_B m c t h0)).trans ?_⟩
  · rfl
  · dsimp only
    frame_out
    exact congrArg (fun B => k0_pay2 B (iblk m c 2 t)) (Memref.IsWhole.read_unread (Memref.isWhole_whole _) _)

end

/-- The factor that brings a row of mean square `s / 1024` to mean square one. -/
def scale (s : EReal) : EReal :=
  Ideal.rsqrt (Ideal.div s (Ideal.ofBits .f32 0x44800000#32) + Ideal.ofBits .f32 0x358637BD#32)

/-- The normed rows of a block, at a row and a lane. -/
theorem pay1_read (B : Vec Ideal S1024x1024 .f32) (g : Vec Ideal S1x1024 .f32) (i k : Fin 1024) :
    (k0_pay1 B g : Vec Ideal S1024x1024 .bf16) (ix2 i k)
      = (B (ix2 i k) * scale (∑ x : Fin 1024, (B (ix2 i x) * B (ix2 i x) : EReal)) * g (ix2 0 k) : EReal) := by
  unfold k0_pay1 scale
  pointwise

/-- The product of a block of rows with a block of columns, at a row and a column. -/
theorem pay2_read (B : Vec Ideal S1024x1024 .bf16) (w : Vec Ideal S1024x1152 .bf16) (i : Fin 1024) (j : Fin 1152) :
    (k0_pay2 B w : Vec Ideal S1024x1152 .f32) (ix2 i j) = ∑ k : Fin 1024, (B (ix2 i k) * w (ix2 k j) : EReal) := by
  unfold k0_pay2
  pointwise

end Cert.KernelInIdeal.Project

end
-- ==== Proof.Project.Product.lean ====
/- The array the input projection's launch leaves: every row normed, times every column of the weight. -/
module

public import proofs.«01_k».proof.Proof.Project.PointValue

@[expose] public section

noncomputable section

namespace Cert.KernelInIdeal.Project

open Idealize.ShloMosaic Idealize.ShloMosaic.TcCoe
open Cert.KernelInIdeal.Gen

/-- An entry of a normed row. -/
def normed (X : Vec Ideal S16384x1024 .f32) (g : Vec Ideal S1x1024 .f32) (r : Fin 16384) (k : Fin 1024) : EReal :=
  (X (ix2 r k) * scale (∑ x : Fin 1024, (X (ix2 r x) * X (ix2 r x) : EReal)) * g (ix2 0 k) : EReal)

/-- The normed rows times the weight. -/
def product (X : Vec Ideal S16384x1024 .f32) (g : Vec Ideal S1x1024 .f32) (w : Vec Ideal S1024x8064 .bf16) : Vec Ideal S16384x8064 .f32 :=
  fun j => (∑ k : Fin 1024, (normed X g (j 0) k * w (ix2 k (j 1)) : EReal) : EReal)

/-- The placement of the blocks: rows by the point's quotient by the seven column blocks, columns by its remainder. -/
theorem index_0 : ∀ t : Fin cfg0.N, win0_0.index t 0 = t.val / 7 ∧ win0_0.index t 1 = 0 := by decide +kernel

theorem index_1 : ∀ t : Fin cfg0.N, win0_1.index t 0 = 0 ∧ win0_1.index t 1 = 0 := by decide +kernel

theorem index_2 : ∀ t : Fin cfg0.N, win0_2.index t 0 = 0 ∧ win0_2.index t 1 = t.val % 7 := by decide +kernel

theorem index_3 : ∀ t : Fin cfg0.N, win0_3.index t 0 = t.val / 7 ∧ win0_3.index t 1 = t.val % 7 := by decide +kernel

theorem covers_3 : (cfg0.win 3).Covers := by decide +kernel

theorem read_0 (A : Vec Ideal S16384x1024 .f32) (t : Fin cfg0.N) (i k : Fin 1024) (h : 1024 * (t.val / 7) + i.val < 16384) :
    ((cfg0.win 0).blk t).view.read (Elt Ideal) A (ix2 i k) = A (ix2 ⟨1024 * (t.val / 7) + i.val, h⟩ k) := by
  blk_ext [index_0 t]

theorem read_1 (A : Vec Ideal S1x1024 .f32) (t : Fin cfg0.N) (k : Fin 1024) :
    ((cfg0.win 1).blk t).view.read (Elt Ideal) A (ix2 0 k) = A (ix2 0 k) := by
  blk_ext [index_1 t]

theorem read_2 (A : Vec Ideal S1024x8064 .bf16) (t : Fin cfg0.N) (k : Fin 1024) (j : Fin 1152) (h : 1152 * (t.val % 7) + j.val < 8064) :
    ((cfg0.win 2).blk t).view.read (Elt Ideal) A (ix2 k j) = A (ix2 k ⟨1152 * (t.val % 7) + j.val, h⟩) := by
  blk_ext [index_2 t]

theorem row_lt (n : ℕ) (hn : n < cfg0.N) (i : Fin 1024) : 1024 * (n / 7) + i.val < 16384 := by
  have ht : n < 112 := hn
  have hi := i.isLt
  omega

theorem col_lt (n : ℕ) (j : Fin 1152) : 1152 * (n % 7) + j.val < 8064 := by
  have hj := j.isLt
  omega

/-- The rows of a block, normed, are the array's. -/
theorem normed_block (X : Vec Ideal S16384x1024 .f32) (g : Vec Ideal S1x1024 .f32) (B : Vec Ideal S1024x1024 .f32) (b : Vec Ideal S1x1024 .f32)
    (t : Fin cfg0.N) (hB : ∀ i k : Fin 1024, B (ix2 i k) = X (ix2 ⟨1024 * (t.val / 7) + i.val, row_lt t.val t.isLt i⟩ k))
    (hb : ∀ k : Fin 1024, b (ix2 0 k) = g (ix2 0 k)) (i k : Fin 1024) :
    (k0_pay1 B b : Vec Ideal S1024x1024 .bf16) (ix2 i k) = normed X g ⟨1024 * (t.val / 7) + i.val, row_lt t.val t.isLt i⟩ k := by
  rw [pay1_read]
  simp only [hB, hb]
  rfl

section

variable (m : (ℓ : Loc nD τ sig) → Buf (Elt Ideal) ℓ) (c : Dev nD)

/-- The carried buffer holds the point's rows, normed. -/
theorem carried : ∀ (n : ℕ) (hn : n < cfg0.N) (i k : Fin 1024),
    ((outsAt0 m c n hn).2 : Vec Ideal S1024x1024 .bf16) (ix2 i k)
      = normed (V m c main_v16) (V m c main_v17) ⟨1024 * (n / 7) + i.val, row_lt n hn i⟩ k := by
  intro n
  induction n with
  | zero =>
    intro hn i k
    refine (congrFun (first_point m c ⟨0, hn⟩ rfl).1 _).trans ?_
    exact normed_block _ _ _ _ ⟨0, hn⟩ (fun i k => read_0 _ _ _ _ _) (fun k => read_1 _ _ _) i k
  | succ n ih =>
    intro hn i k
    by_cases h0 : (n + 1) % 7 = 0
    · refine (congrFun (first_point m c ⟨n + 1, hn⟩ h0).1 _).trans ?_
      exact normed_block _ _ _ _ ⟨n + 1, hn⟩ (fun i k => read_0 _ _ _ _ _) (fun k => read_1 _ _ _) i k
    · refine (congrFun (later_point m c ⟨n + 1, hn⟩ h0).1 _).trans ((ih (Nat.lt_of_succ_lt hn) i k).trans ?_)
      congr 1
      apply Fin.ext
      show 1024 * (n / 7) + i.val = 1024 * ((n + 1) / 7) + i.val
      omega

/-- What a point leaves for the output: its rows, normed, times its columns. -/
theorem left (t : Fin cfg0.N) (i : Fin 1024) (j : Fin 1152) :
    ((outsAt0 m c t.val t.isLt).1 : Vec Ideal S1024x1152 .f32) (ix2 i j)
      = product (V m c main_v16) (V m c main_v17) (V m c main_v18)
          (ix2 ⟨1024 * (t.val / 7) + i.val, row_lt t.val t.isLt i⟩ ⟨1152 * (t.val % 7) + j.val, col_lt t.val j⟩) := by
  have hout : (outsAt0 m c t.val t.isLt).1 = k0_pay2 (outsAt0 m c t.val t.isLt).2 (iblk m c 2 t) := by
    by_cases h0 : t.val % 7 = 0
    · rw [(first_point m c t h0).2, (first_point m c t h0).1]
    · rw [(later_point m c t h0).2, (later_point m c t h0).1]
  refine (congrFun hout _).trans ((pay2_read _ _ i j).trans ?_)
  refine Finset.sum_congr rfl fun k _ => ?_
  exact congrArg₂ (fun a b : EReal => a * b) (carried m c t.val t.isLt i k) (read_2 _ t k j (col_lt t.val j))

/-- The array after the launch. -/
theorem launched : (dats m 0 c).arrAt 3 cfg0.N = product (V m c main_v16) (V m c main_v17) (V m c main_v18) := by
  refine (dats m 0 c).arrAt_eq_of_covers 3 _ covers_3 fun t hf y => ?_
  blk_simp
  have key : ∀ (i : Fin 1024) (j : Fin 1152), ((outsAt0 m c t.val t.isLt).1 : Vec Ideal S1024x1152 .f32) (ix2 i j)
      = product (V m c main_v16) (V m c main_v17) (V m c main_v18) ((win0_3.blk t).view.emb (ix2 i j)) := by
    intro i j
    refine (left m c t i j).trans (congrArg _ ?_)
    blk_ext [index_3 t]
  rw [after0_3]
  suffices hk : ∀ y : S1024x1152.Idx, ((outsAt0 m c t.val t.isLt).1 : Vec Ideal S1024x1152 .f32) y
      = product (V m c main_v16) (V m c main_v17) (V m c main_v18) ((win0_3.blk t).view.emb y) from hk y
  intro y
  idx_vars y
  exact key _ _

end

end Cert.KernelInIdeal.Project

end
-- ==== Proof.Project.Weight.lean ====
/- The operands of the input projection's launch: the input as rows, the gain as a row, and the weight with its blocks of
   columns in another order. -/
module

public import proofs.«01_k».proof.Proof.Project.Product
public import Idealize.ShloMosaic.Lib.StableHlo.ReadAt
public import Idealize.ShloMosaic.Lib.Pipeline.Value

@[expose] public section

noncomputable section

namespace Cert.KernelInIdeal.Project

open Idealize.ShloMosaic Idealize.ShloMosaic.TcCoe
open Cert.KernelInIdeal.Gen

/-- The blocks of columns of a weight in the order the kernel takes them, the last block zeros. -/
abbrev parts (W : Vec Ideal S1024x7980 .f32) : List ((s : Shape) × (s.Idx → Elt Ideal .f32)) :=
  [⟨S1024x4096, extractStridedSlice S1024x4096 ![0, 3884] W slices_S1024x7980_S1024x4096_0_3884⟩,
    ⟨S1024x1024, extractStridedSlice S1024x1024 ![0, 2860] W slices_S1024x7980_S1024x1024_0_2860⟩,
    ⟨S1024x256, extractStridedSlice S1024x256 ![0, 0] W slices_S1024x7980_S1024x256_0_0⟩,
    ⟨S1024x768, extractStridedSlice S1024x768 ![0, 256] W slices_S1024x7980_S1024x768_0_256⟩,
    ⟨S1024x256, extractStridedSlice S1024x256 ![0, 1028] W slices_S1024x7980_S1024x256_0_1028⟩,
    ⟨S1024x256, extractStridedSlice S1024x256 ![0, 1284] W slices_S1024x7980_S1024x256_0_1284⟩,
    ⟨S1024x256, extractStridedSlice S1024x256 ![0, 1540] W slices_S1024x7980_S1024x256_0_1540⟩,
    ⟨S1024x256, extractStridedSlice S1024x256 ![0, 1796] W slices_S1024x7980_S1024x256_0_1796⟩,
    ⟨S1024x256, extractStridedSlice S1024x256 ![0, 2052] W slices_S1024x7980_S1024x256_0_2052⟩,
    ⟨S1024x256, extractStridedSlice S1024x256 ![0, 2308] W slices_S1024x7980_S1024x256_0_2308⟩,
    ⟨S1024x256, extractStridedSlice S1024x256 ![0, 2564] W slices_S1024x7980_S1024x256_0_2564⟩,
    ⟨S1024x4, extractStridedSlice S1024x4 ![0, 1024] W slices_S1024x7980_S1024x4_0_1024⟩,
    ⟨S1024x32, extractStridedSlice S1024x32 ![0, 2820] W slices_S1024x7980_S1024x32_0_2820⟩,
    ⟨S1024x8, extractStridedSlice S1024x8 ![0, 2852] W slices_S1024x7980_S1024x8_0_2852⟩,
    ⟨S1024x84, broadcastInDim S1024x84 ![] bcast_S_S1024x84 (constant S_ .f32 0x00000000#32 : FVec Ideal S_ .f32)⟩]

/-- The weight the launch reads. -/
def taken (W : Vec Ideal S1024x7980 .f32) : Vec Ideal S1024x8064 .f32 :=
  concatenate S1024x8064 1 (parts W) concatenates_S1024x4096_S1024x1024_S1024x256_S1024x768_S1024x256_S1024x256_S1024x256_S1024x256_S1024x256_S1024x256_S1024x256_S1024x4_S1024x32_S1024x8_S1024x84_S1024x8064_d1

/-- Block `i` of the taken weight, `w` columns from column `ko` on, is the weight's from column `ro` on. -/
theorem taken_at (W : Vec Ideal S1024x7980 .f32) (i w ko ro : ℕ) (hi : i < (parts W).length)
    (hs : S1024x7980.Slices ![0, ro] ⟨2, ![1024, w]⟩)
    (hp : (parts W)[i] = ⟨⟨2, ![1024, w]⟩, extractStridedSlice ⟨2, ![1024, w]⟩ ![0, ro] W hs⟩)
    (hko : ((((parts W).take i).map (·.1)).map fun s => if h : s.rank = S1024x8064.rank then s.size ((1 : Fin S1024x8064.rank).cast h.symm) else 0).sum = ko)
    (k : Fin 1024) (x : Fin w) (h1 : ko + x.val < 8064) (h2 : ro + x.val < 7980) :
    taken W (ix2 k ⟨ko + x.val, h1⟩) = W (ix2 k ⟨ro + x.val, h2⟩) := by
  refine (concatenate_apply_piece (1 : Fin S1024x8064.rank) (parts W) _ (ix2 k ⟨ko + x.val, h1⟩) i hi _ _ hp rfl ko hko (ix2 k x) ?_ rfl).trans ?_
  · intro b hb
    match b with
    | ⟨0, _⟩ => rfl
    | ⟨1, _⟩ => exact absurd rfl hb
  · show W _ = W _
    congr 1
    funext a
    match a with
    | ⟨0, _⟩ => exact Fin.ext (Nat.zero_add _)
    | ⟨1, _⟩ => rfl

section

variable (m : (ℓ : Loc nD τ sig) → Buf (Elt Ideal) ℓ) (c : Dev nD)

theorem rows_entry (r : Fin 16384) (k : Fin 1024) : (V m c main_v16 : Vec Ideal S16384x1024 .f32) (ix2 r k)
    = (m ((c : Thread nD τ).loc main_arg0) : Vec Ideal S2x8192x1024 .f32) (ix3 ⟨r.val / 8192, by omega⟩ ⟨r.val % 8192, by omega⟩ k) := by
  unfold V
  after_reads_at

theorem gain_entry (k : Fin 1024) : (V m c main_v17 : Vec Ideal S1x1024 .f32) (ix2 0 k)
    = (m ((c : Thread nD τ).loc main_arg1) : Vec Ideal S1024 .f32) (ix1 k) := by
  unfold V
  after_reads_at

theorem weight_entry : V m c main_v18 = (truncf .bf16 (taken (m ((c : Thread nD τ).loc main_arg2))) bitsLt_bf16_f32 : FVec Ideal S1024x8064 .bf16) := by
  unfold V V0 hostOps0
  simp only [List.flatten_cons, List.flatten_nil, List.append_nil]
  after_results_simp
  rfl

end

end Cert.KernelInIdeal.Project

end
-- ==== Proof.Project.Whole.lean ====
/- The input projection as one array, and the sixteen results cut out of it. -/
module

public import proofs.«01_k».proof.Proof.Project.PointValue

@[expose] public section

noncomputable section

namespace Cert.KernelInIdeal.Project

open Idealize.ShloMosaic Idealize.ShloMosaic.TcCoe
open Cert.KernelInIdeal.Gen

/-- Every position's normed row times the weight. -/
def whole (x : Vec Ideal S2x8192x1024 .f32) (g : Vec Ideal S1024 .f32) (W : Vec Ideal S1024x7980 .f32) : Vec Ideal S2x8192x7980 .f32 :=
  fun j => (∑ k : Fin 1024, (x (ix3 (j 0) (j 1) k) * scale (∑ y : Fin 1024, (x (ix3 (j 0) (j 1) y) * x (ix3 (j 0) (j 1) y) : EReal))
    * g (ix1 k) * W (ix2 k (j 2)) : EReal) : EReal)

section

variable (Z : Vec Ideal S2x8192x7980 .f32)

/-- `w` columns of the array, from column `o` on. -/
def cols (w o : ℕ) (h : S2x8192x7980.Slices ![0, 0, o] ⟨3, ![2, 8192, w]⟩) : Vec Ideal ⟨3, ![2, 8192, w]⟩ .f32 :=
  extractStridedSlice ⟨3, ![2, 8192, w]⟩ ![0, 0, o] Z h

/-- 256 columns as four heads. -/
def heads (Y : Vec Ideal S2x8192x256 .f32) : Vec Ideal S2x8192x4x64 .f32 :=
  shapeCast S2x8192x4x64 Y shapeCasts_S2x8192x256_S2x8192x4x64

/-- The last three positions. -/
def lastThree (Y : Vec Ideal S2x8192x768 .f32) : Vec Ideal S2x3x768 .f32 :=
  extractStridedSlice S2x3x768 ![0, 8189, 0] Y slices_S2x8192x768_S2x3x768_0_8189_0

/-- The last position. -/
def lastOne (Y : Vec Ideal S2x8192x1024 .f32) : Vec Ideal S2x1024 .f32 :=
  shapeCast S2x1024 (extractStridedSlice S2x1x1024 ![0, 8191, 0] Y slices_S2x8192x1024_S2x1x1024_0_8191_0) shapeCasts_S2x1x1024_S2x1024

end

end Cert.KernelInIdeal.Project

end
-- ==== Proof.Project.Results.lean ====
/- The kernel's sixteen results are cut out of the input projection's array. -/
module

public import proofs.«01_k».proof.Proof.Project.Weight
public import proofs.«01_k».proof.Proof.Project.Whole

@[expose] public section

noncomputable section

namespace Cert.KernelInIdeal.Project

open Idealize.ShloMosaic Idealize.ShloMosaic.TcCoe
open Cert.KernelInIdeal.Gen

/-- The launch's array by batch entry and position, without the columns that fill it up. -/
def unfilled (P : Vec Ideal S16384x8064 .f32) : Vec Ideal S2x8192x7980 .f32 :=
  extractStridedSlice S2x8192x7980 ![0, 0, 0] (shapeCast S2x8192x8064 P shapeCasts_S16384x8064_S2x8192x8064) slices_S2x8192x8064_S2x8192x7980_0_0_0

theorem unfilled_at (P : Vec Ideal S16384x8064 .f32) (b : Fin 2) (n : Fin 8192) (o : Fin 7980) :
    unfilled P (ix3 b n o) = P (ix2 ⟨b.val * 8192 + n.val, by omega⟩ ⟨o.val, by omega⟩) := by
  unfold unfilled
  pointwise

/-- Two arrays that agree on a block of columns, placed differently, have the same block. -/
theorem cols_eq (A B : Vec Ideal S2x8192x7980 .f32) (w p q : ℕ) (hp : S2x8192x7980.Slices ![0, 0, p] ⟨3, ![2, 8192, w]⟩)
    (hq : S2x8192x7980.Slices ![0, 0, q] ⟨3, ![2, 8192, w]⟩)
    (h : ∀ (b : Fin 2) (n : Fin 8192) (x : Fin w) (h1 : p + x.val < 7980) (h2 : q + x.val < 7980),
      A (ix3 b n ⟨p + x.val, h1⟩) = B (ix3 b n ⟨q + x.val, h2⟩)) : cols A w p hp = cols B w q hq := by
  have at_ : ∀ (C : Vec Ideal S2x8192x7980 .f32) (o : ℕ) (ho : S2x8192x7980.Slices ![0, 0, o] ⟨3, ![2, 8192, w]⟩)
      (j : (⟨3, ![2, 8192, w]⟩ : Shape).Idx) (hj : o + (j 2).val < 7980),
      cols C w o ho j = C (ix3 (j 0) (j 1) ⟨o + (j 2).val, hj⟩) := by
    intro C o ho j hj
    show C _ = C _
    congr 1
    funext a
    match a with
    | ⟨0, _⟩ => exact Fin.ext (Nat.zero_add _)
    | ⟨1, _⟩ => exact Fin.ext (Nat.zero_add _)
    | ⟨2, _⟩ => rfl
  funext j
  have hj : (j 2).val < w := (j 2).isLt
  have h1 : p + w ≤ 7980 := hp.2 2
  have h2 : q + w ≤ 7980 := hq.2 2
  exact (at_ A p hp j (by omega)).trans ((h (j 0) (j 1) (j 2) (by omega) (by omega)).trans (at_ B q hq j (by omega)).symm)

section

variable (m : (ℓ : Loc nD τ sig) → Buf (Elt Ideal) ℓ) (c : Dev nD)

/-- The launch's array. -/
def arr : Vec Ideal S16384x8064 .f32 := product (V m c main_v16) (V m c main_v17) (V m c main_v18)

/-- The input projection of the arguments. -/
def proj : Vec Ideal S2x8192x7980 .f32 :=
  whole (m ((c.tc : Thread nD τ).loc main_arg0)) (m ((c.tc : Thread nD τ).loc main_arg1)) (m ((c.tc : Thread nD τ).loc main_arg2))

/-- A normed row of the launch's, in the arguments. -/
theorem normed_is (x : Vec Ideal S2x8192x1024 .f32) (g : Vec Ideal S1024 .f32) (X : Vec Ideal S16384x1024 .f32) (G : Vec Ideal S1x1024 .f32)
    (hX : ∀ (r : Fin 16384) (k : Fin 1024), X (ix2 r k) = x (ix3 ⟨r.val / 8192, by omega⟩ ⟨r.val % 8192, by omega⟩ k))
    (hG : ∀ k : Fin 1024, G (ix2 0 k) = g (ix1 k)) (b : Fin 2) (n : Fin 8192) (k : Fin 1024) :
    normed X G ⟨b.val * 8192 + n.val, by omega⟩ k
      = (x (ix3 b n k) * scale (∑ y : Fin 1024, (x (ix3 b n y) * x (ix3 b n y) : EReal)) * g (ix1 k) : EReal) := by
  have hr : ∀ y : Fin 1024, X (ix2 ⟨b.val * 8192 + n.val, by omega⟩ y) = x (ix3 b n y) := by
    intro y
    rw [hX]
    congr 2
    · exact Fin.ext (by show (b.val * 8192 + n.val) / 8192 = b.val; omega)
    · exact Fin.ext (by show (b.val * 8192 + n.val) % 8192 = n.val; omega)
  unfold normed
  simp only [hr, hG]

/-- A column of the launch's product, in the arguments. -/
theorem product_is (x : Vec Ideal S2x8192x1024 .f32) (g : Vec Ideal S1024 .f32) (W : Vec Ideal S1024x7980 .f32)
    (X : Vec Ideal S16384x1024 .f32) (G : Vec Ideal S1x1024 .f32) (U : Vec Ideal S1024x8064 .bf16)
    (hX : ∀ (r : Fin 16384) (k : Fin 1024), X (ix2 r k) = x (ix3 ⟨r.val / 8192, by omega⟩ ⟨r.val % 8192, by omega⟩ k))
    (hG : ∀ k : Fin 1024, G (ix2 0 k) = g (ix1 k)) (b : Fin 2) (n : Fin 8192) (p : Fin 8064) (q : Fin 7980)
    (hU : ∀ k : Fin 1024, (U (ix2 k p) : EReal) = W (ix2 k q)) :
    product X G U (ix2 ⟨b.val * 8192 + n.val, by omega⟩ p) = whole x g W (ix3 b n q) :=
  Finset.sum_congr (M := EReal) rfl fun k _ => congrArg₂ (fun y z : EReal => y * z) (normed_is x g X G hX hG b n k) (hU k)

/-- A block of the launch's columns is the projection's block of the columns it was taken from. -/
theorem block_is (i w ko ro : ℕ) (hi : i < (parts (m ((c : Thread nD τ).loc main_arg2))).length)
    (hs : S1024x7980.Slices ![0, ro] ⟨2, ![1024, w]⟩)
    (hp : (parts (m ((c : Thread nD τ).loc main_arg2)))[i] = ⟨⟨2, ![1024, w]⟩, extractStridedSlice ⟨2, ![1024, w]⟩ ![0, ro] (m ((c : Thread nD τ).loc main_arg2)) hs⟩)
    (hko : ((((parts (m ((c : Thread nD τ).loc main_arg2))).take i).map (·.1)).map fun s => if h : s.rank = S1024x8064.rank then s.size ((1 : Fin S1024x8064.rank).cast h.symm) else 0).sum = ko)
    (hk : S2x8192x7980.Slices ![0, 0, ko] ⟨3, ![2, 8192, w]⟩) (hr : S2x8192x7980.Slices ![0, 0, ro] ⟨3, ![2, 8192, w]⟩) :
    cols (unfilled (arr m c)) w ko hk = cols (proj m c) w ro hr := by
  refine cols_eq _ _ w ko ro hk hr fun b n x h1 h2 => ?_
  refine (unfilled_at _ b n _).trans ?_
  refine product_is _ _ _ _ _ _ (rows_entry m c) (gain_entry m c) b n _ _ fun k => ?_
  refine (congrFun (weight_entry m c) _).trans ?_
  exact taken_at _ i w ko ro hi hs hp hko k x _ h2

/-- What follows the launch cuts the results out of its array. -/
theorem tail_is (U : Valuation τ sig (Elt Ideal)) :
    StableHlo.after hostOps1 U (Proc.devRef .tc main_v36) = heads (cols (unfilled (U (Proc.devRef .tc main_v19))) 256 6400 slices_S2x8192x7980_S2x8192x256_0_0_6400)
    ∧ StableHlo.after hostOps1 U (Proc.devRef .tc main_v37) = heads (cols (unfilled (U (Proc.devRef .tc main_v19))) 256 6656 slices_S2x8192x7980_S2x8192x256_0_0_6656)
    ∧ StableHlo.after hostOps1 U (Proc.devRef .tc main_v38) = heads (cols (unfilled (U (Proc.devRef .tc main_v19))) 256 7168 slices_S2x8192x7980_S2x8192x256_0_0_7168)
    ∧ StableHlo.after hostOps1 U (Proc.devRef .tc main_v39) = heads (cols (unfilled (U (Proc.devRef .tc main_v19))) 256 7424 slices_S2x8192x7980_S2x8192x256_0_0_7424)
    ∧ StableHlo.after hostOps1 U (Proc.devRef .tc main_v34) = cols (unfilled (U (Proc.devRef .tc main_v19))) 32 7940 slices_S2x8192x7980_S2x8192x32_0_0_7940
    ∧ StableHlo.after hostOps1 U (Proc.devRef .tc main_v40) = lastThree (cols (unfilled (U (Proc.devRef .tc main_v19))) 768 5376 slices_S2x8192x7980_S2x8192x768_0_0_5376)
    ∧ StableHlo.after hostOps1 U (Proc.devRef .tc main_v42) = lastOne (cols (unfilled (U (Proc.devRef .tc main_v19))) 1024 4096 slices_S2x8192x7980_S2x8192x1024_0_0_4096)
    ∧ StableHlo.after hostOps1 U (Proc.devRef .tc main_v24) = cols (unfilled (U (Proc.devRef .tc main_v19))) 256 5120 slices_S2x8192x7980_S2x8192x256_0_0_5120
    ∧ StableHlo.after hostOps1 U (Proc.devRef .tc main_v25) = cols (unfilled (U (Proc.devRef .tc main_v19))) 768 5376 slices_S2x8192x7980_S2x8192x768_0_0_5376
    ∧ StableHlo.after hostOps1 U (Proc.devRef .tc main_v33) = cols (unfilled (U (Proc.devRef .tc main_v19))) 4 7936 slices_S2x8192x7980_S2x8192x4_0_0_7936
    ∧ StableHlo.after hostOps1 U (Proc.devRef .tc main_v26) = cols (unfilled (U (Proc.devRef .tc main_v19))) 256 6144 slices_S2x8192x7980_S2x8192x256_0_0_6144
    ∧ StableHlo.after hostOps1 U (Proc.devRef .tc main_v29) = cols (unfilled (U (Proc.devRef .tc main_v19))) 256 6912 slices_S2x8192x7980_S2x8192x256_0_0_6912
    ∧ StableHlo.after hostOps1 U (Proc.devRef .tc main_v32) = cols (unfilled (U (Proc.devRef .tc main_v19))) 256 7680 slices_S2x8192x7980_S2x8192x256_0_0_7680
    ∧ StableHlo.after hostOps1 U (Proc.devRef .tc main_v35) = cols (unfilled (U (Proc.devRef .tc main_v19))) 8 7972 slices_S2x8192x7980_S2x8192x8_0_0_7972
    ∧ StableHlo.after hostOps1 U (Proc.devRef .tc main_v23) = cols (unfilled (U (Proc.devRef .tc main_v19))) 1024 4096 slices_S2x8192x7980_S2x8192x1024_0_0_4096
    ∧ StableHlo.after hostOps1 U (Proc.devRef .tc main_v22) = cols (unfilled (U (Proc.devRef .tc main_v19))) 4096 0 slices_S2x8192x7980_S2x8192x4096_0_0_0 := by
  unfold hostOps1
  refine ⟨?_, ?_, ?_, ?_, ?_, ?_, ?_, ?_, ?_, ?_, ?_, ?_, ?_, ?_, ?_, ?_⟩ <;> (after_results_simp <;> rfl)

end

end Cert.KernelInIdeal.Project

end
-- ==== Proof.Project.RefWhole.lean ====
/- The reference's product is the input projection's array. -/
module

public import proofs.«01_k».proof.Proof.Project.Whole
public import proofs.«01_k».proof.Proof.Gen.ReferenceInIdeal
public import proofs.«01_k».proof.Proof.Gen.ReferenceInIdeal.Run

@[expose] public section

noncomputable section

namespace Cert.ReferenceInIdeal.Project

open Idealize.ShloMosaic Idealize.ShloMosaic.TcCoe
open Cert.ReferenceInIdeal Cert.ReferenceInIdeal.Gen
open Cert.KernelInIdeal.Project (whole scale)

/-- The reference's product. -/
abbrev refProduct (x : FVec Ideal S2x8192x1024 .f32) (g : FVec Ideal S1024 .f32) (W : FVec Ideal S1024x7980 .f32) : FVec Ideal S2x8192x7980 .f32 :=
  Host.dotGeneral dot_S2x8192x1024_S1024x7980_S2x8192x7980_2_0_01_1_n_n none
    (mulf (mulf x (broadcastInDim S2x8192x1024 ![0, 1, 2] bcast_S2x8192x1_S2x8192x1024_0_1_2
        (Host.rsqrt (addf (Host.divf (broadcastInDim S2x8192x1 ![0, 1] bcast_S2x8192_S2x8192x1_0_1
            (Host.reduceAdd (mulf x x) (constant S_ .f32 0x00000000#32) reducesTo_S2x8192x1024_S2x8192_d2 h_S_))
          (broadcastInDim S2x8192x1 ![] bcast_S_S2x8192x1 (constant S_ .f32 0x44800000#32)))
          (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g))) W

theorem product_read (x : FVec Ideal S2x8192x1024 .f32) (g : FVec Ideal S1024 .f32) (W : FVec Ideal S1024x7980 .f32) (b : Fin 2) (n : Fin 8192) (o : Fin 7980) :
    refProduct x g W (ix3 b n o) = whole x g W (ix3 b n o) := by
  unfold refProduct whole scale
  pointwise

theorem product_is (x : FVec Ideal S2x8192x1024 .f32) (g : FVec Ideal S1024 .f32) (W : FVec Ideal S1024x7980 .f32) : refProduct x g W = whole x g W := by
  suffices hk : ∀ j : S2x8192x7980.Idx, refProduct x g W j = whole x g W j from funext hk
  intro j
  idx_vars j
  exact product_read x g W _ _ _

end Cert.ReferenceInIdeal.Project

end
-- ==== Proof.Project.Algebraic.lean ====
/- Both runs end with the results cut out of the same projection. -/
module

public import proofs.«01_k».proof.Defs
public import proofs.«01_k».proof.Proof.Project.Results
public import proofs.«01_k».proof.Proof.Project.RefWhole
public import proofs.«01_k».proof.Proof.Project.Frames

@[expose] public section

noncomputable section

namespace Cert.KernelInIdeal.Project

open Idealize.ShloMosaic Idealize.ShloMosaic.TcCoe Idealize.SL.Sem
open Cert.KernelInIdeal.Gen

/-- The sixteen results, cut out of a projection. -/
def Cut (Z : Vec Ideal S2x8192x7980 .f32) (mk mv dk dv : Vec Ideal S2x8192x4x64 .f32) (dki : Vec Ideal S2x8192x32 .f32)
    (conv : Vec Ideal S2x3x768 .f32) (shift : Vec Ideal S2x1024 .f32) (sz : Vec Ideal S2x8192x256 .f32) (sxbc : Vec Ideal S2x8192x768 .f32)
    (sdt : Vec Ideal S2x8192x4 .f32) (mq dq dqi : Vec Ideal S2x8192x256 .f32) (dwi : Vec Ideal S2x8192x8 .f32)
    (rwkv : Vec Ideal S2x8192x1024 .f32) (gate : Vec Ideal S2x8192x4096 .f32) : Prop :=
  mk = heads (cols Z 256 1284 (by decide)) ∧ mv = heads (cols Z 256 1540 (by decide)) ∧ dk = heads (cols Z 256 2052 (by decide))
    ∧ dv = heads (cols Z 256 2308 (by decide)) ∧ dki = cols Z 32 2820 (by decide) ∧ conv = lastThree (cols Z 768 256 (by decide))
    ∧ shift = lastOne (cols Z 1024 2860 (by decide)) ∧ sz = cols Z 256 0 (by decide) ∧ sxbc = cols Z 768 256 (by decide)
    ∧ sdt = cols Z 4 1024 (by decide) ∧ mq = cols Z 256 1028 (by decide) ∧ dq = cols Z 256 1796 (by decide)
    ∧ dqi = cols Z 256 2564 (by decide) ∧ dwi = cols Z 8 2852 (by decide) ∧ rwkv = cols Z 1024 2860 (by decide)
    ∧ gate = cols Z 4096 3884 (by decide)

section

variable (m : (ℓ : Loc nD τ sig) → Buf (Elt Ideal) ℓ) (c : Dev nD)

/-- The weight is joined from fifteen blocks. -/
theorem within (W : Vec Ideal S1024x7980 .f32) (i : ℕ) (h : i < 15) : i < (parts W).length := h

/-- The widths of the blocks the weight is joined from. -/
theorem widths (W : Vec Ideal S1024x7980 .f32) :
    ((parts W).map (·.1)).map (fun s => if h : s.rank = S1024x8064.rank then s.size ((1 : Fin S1024x8064.rank).cast h.symm) else 0)
      = [4096, 1024, 256, 768, 256, 256, 256, 256, 256, 256, 256, 4, 32, 8, 84] := rfl

/-- A block starts where the widths before it end. -/
theorem start_is (W : Vec Ideal S1024x7980 .f32) (i ko : ℕ)
    (h : ([4096, 1024, 256, 768, 256, 256, 256, 256, 256, 256, 256, 4, 32, 8, 84].take i).sum = ko) :
    ((((parts W).take i).map (·.1)).map fun s => if h : s.rank = S1024x8064.rank then s.size ((1 : Fin S1024x8064.rank).cast h.symm) else 0).sum
      = ko := by
  rw [List.map_take, List.map_take, widths]
  exact h

/-- What follows the launch leaves the projection's results. -/
theorem tail_cut (U : Valuation τ sig (Elt Ideal)) (hU : U (Proc.devRef .tc main_v19) = arr m c) :
    Cut (proj m c) (StableHlo.after hostOps1 U (Proc.devRef .tc main_v36)) (StableHlo.after hostOps1 U (Proc.devRef .tc main_v37))
      (StableHlo.after hostOps1 U (Proc.devRef .tc main_v38)) (StableHlo.after hostOps1 U (Proc.devRef .tc main_v39))
      (StableHlo.after hostOps1 U (Proc.devRef .tc main_v34)) (StableHlo.after hostOps1 U (Proc.devRef .tc main_v40))
      (StableHlo.after hostOps1 U (Proc.devRef .tc main_v42)) (StableHlo.after hostOps1 U (Proc.devRef .tc main_v24))
      (StableHlo.after hostOps1 U (Proc.devRef .tc main_v25)) (StableHlo.after hostOps1 U (Proc.devRef .tc main_v33))
      (StableHlo.after hostOps1 U (Proc.devRef .tc main_v26)) (StableHlo.after hostOps1 U (Proc.devRef .tc main_v29))
      (StableHlo.after hostOps1 U (Proc.devRef .tc main_v32)) (StableHlo.after hostOps1 U (Proc.devRef .tc main_v35))
      (StableHlo.after hostOps1 U (Proc.devRef .tc main_v23)) (StableHlo.after hostOps1 U (Proc.devRef .tc main_v22)) := by
  have ht := tail_is U
  rw [hU] at ht
  obtain ⟨h0, h1, h2, h3, h4, h5, h6, h7, h8, h9, h10, h11, h12, h13, h14, h15⟩ := ht
  exact ⟨h0.trans (congrArg heads (block_is m c 5 256 6400 1284 (within _ _ (by decide)) _ rfl (start_is _ _ _ (by decide)) _ _)),
    h1.trans (congrArg heads (block_is m c 6 256 6656 1540 (within _ _ (by decide)) _ rfl (start_is _ _ _ (by decide)) _ _)),
    h2.trans (congrArg heads (block_is m c 8 256 7168 2052 (within _ _ (by decide)) _ rfl (start_is _ _ _ (by decide)) _ _)),
    h3.trans (congrArg heads (block_is m c 9 256 7424 2308 (within _ _ (by decide)) _ rfl (start_is _ _ _ (by decide)) _ _)),
    h4.trans (block_is m c 12 32 7940 2820 (within _ _ (by decide)) _ rfl (start_is _ _ _ (by decide)) _ _),
    h5.trans (congrArg lastThree (block_is m c 3 768 5376 256 (within _ _ (by decide)) _ rfl (start_is _ _ _ (by decide)) _ _)),
    h6.trans (congrArg lastOne (block_is m c 1 1024 4096 2860 (within _ _ (by decide)) _ rfl (start_is _ _ _ (by decide)) _ _)),
    h7.trans (block_is m c 2 256 5120 0 (within _ _ (by decide)) _ rfl (start_is _ _ _ (by decide)) _ _),
    h8.trans (block_is m c 3 768 5376 256 (within _ _ (by decide)) _ rfl (start_is _ _ _ (by decide)) _ _),
    h9.trans (block_is m c 11 4 7936 1024 (within _ _ (by decide)) _ rfl (start_is _ _ _ (by decide)) _ _),
    h10.trans (block_is m c 4 256 6144 1028 (within _ _ (by decide)) _ rfl (start_is _ _ _ (by decide)) _ _),
    h11.trans (block_is m c 7 256 6912 1796 (within _ _ (by decide)) _ rfl (start_is _ _ _ (by decide)) _ _),
    h12.trans (block_is m c 10 256 7680 2564 (within _ _ (by decide)) _ rfl (start_is _ _ _ (by decide)) _ _),
    h13.trans (block_is m c 13 8 7972 2852 (within _ _ (by decide)) _ rfl (start_is _ _ _ (by decide)) _ _),
    h14.trans (block_is m c 1 1024 4096 2860 (within _ _ (by decide)) _ rfl (start_is _ _ _ (by decide)) _ _),
    h15.trans (block_is m c 0 4096 0 3884 (within _ _ (by decide)) _ rfl (start_is _ _ _ (by decide)) _ _)⟩

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

/-- The launch's array is the product of the joined rows, gain and weight. -/
theorem launch_array :
    Pipeline.withArrays spec0 c (V0 m c) (fun w => (dats m 0 c).arrAt w (cfgs 0).N) (Proc.devRef .tc main_v19) = arr m c :=
  (Pipeline.withArrays_arr spec0 (by decide) c (V0 m c) (fun w => (dats m 0 c).arrAt w (cfgs 0).N) 3).trans (launched m c)

end

/-- The kernel's run ends with the projection's results. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      Cut (proj m c) (r.2.mem ((c.tc : Thread nD τ).loc main_v36)) (r.2.mem ((c.tc : Thread nD τ).loc main_v37))
        (r.2.mem ((c.tc : Thread nD τ).loc main_v38)) (r.2.mem ((c.tc : Thread nD τ).loc main_v39))
        (r.2.mem ((c.tc : Thread nD τ).loc main_v34)) (r.2.mem ((c.tc : Thread nD τ).loc main_v40))
        (r.2.mem ((c.tc : Thread nD τ).loc main_v42)) (r.2.mem ((c.tc : Thread nD τ).loc main_v24))
        (r.2.mem ((c.tc : Thread nD τ).loc main_v25)) (r.2.mem ((c.tc : Thread nD τ).loc main_v33))
        (r.2.mem ((c.tc : Thread nD τ).loc main_v26)) (r.2.mem ((c.tc : Thread nD τ).loc main_v29))
        (r.2.mem ((c.tc : Thread nD τ).loc main_v32)) (r.2.mem ((c.tc : Thread nD τ).loc main_v35))
        (r.2.mem ((c.tc : Thread nD τ).loc main_v23)) (r.2.mem ((c.tc : Thread nD τ).loc main_v22))
      ∧ Kept m c r.2) := by
  refine (θ_run defs _ _).mono (fun r h c => ?_) (run_main (F := Ideal) m ρ)
  have hb : ∀ b : Ref sig .tc, b ∈ Pipeline.restRefs sig spec0 → r.2.mem ((c.tc : Thread nD τ).loc b)
      = StableHlo.after hostOps1 (Pipeline.withArrays spec0 c (V0 m c) (fun w => (dats m 0 c).arrAt w (cfgs 0).N)) (Proc.devRef .tc b) :=
    fun b hm => ((h c).2 b hm).trans (after_tail m c b)
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩
  obtain ⟨h0, h1, h2, h3, h4, h5, h6, h7, h8, h9, h10, h11, h12, h13, h14, h15⟩ := tail_cut m c _ (launch_array m c)
  exact ⟨(hb main_v36 (Pipeline.mem_restRefs_of main_v36 (by decide) (by decide))).trans h0,
    (hb main_v37 (Pipeline.mem_restRefs_of main_v37 (by decide) (by decide))).trans h1,
    (hb main_v38 (Pipeline.mem_restRefs_of main_v38 (by decide) (by decide))).trans h2,
    (hb main_v39 (Pipeline.mem_restRefs_of main_v39 (by decide) (by decide))).trans h3,
    (hb main_v34 (Pipeline.mem_restRefs_of main_v34 (by decide) (by decide))).trans h4,
    (hb main_v40 (Pipeline.mem_restRefs_of main_v40 (by decide) (by decide))).trans h5,
    (hb main_v42 (Pipeline.mem_restRefs_of main_v42 (by decide) (by decide))).trans h6,
    (hb main_v24 (Pipeline.mem_restRefs_of main_v24 (by decide) (by decide))).trans h7,
    (hb main_v25 (Pipeline.mem_restRefs_of main_v25 (by decide) (by decide))).trans h8,
    (hb main_v33 (Pipeline.mem_restRefs_of main_v33 (by decide) (by decide))).trans h9,
    (hb main_v26 (Pipeline.mem_restRefs_of main_v26 (by decide) (by decide))).trans h10,
    (hb main_v29 (Pipeline.mem_restRefs_of main_v29 (by decide) (by decide))).trans h11,
    (hb main_v32 (Pipeline.mem_restRefs_of main_v32 (by decide) (by decide))).trans h12,
    (hb main_v35 (Pipeline.mem_restRefs_of main_v35 (by decide) (by decide))).trans h13,
    (hb main_v23 (Pipeline.mem_restRefs_of main_v23 (by decide) (by decide))).trans h14,
    (hb main_v22 (Pipeline.mem_restRefs_of main_v22 (by decide) (by decide))).trans h15⟩

/-- The kernel and the reference end with the same results. -/
theorem algebraic : Cert.algebraic_KernelInIdeal_ReferenceInIdeal := by
  intro m g m' g' _ hin
  refine ⟨fun c => heads (cols (proj m c) 256 1284 (by decide)), fun c => heads (cols (proj m c) 256 1540 (by decide)),
    fun c => heads (cols (proj m c) 256 2052 (by decide)), fun c => heads (cols (proj m c) 256 2308 (by decide)),
    fun c => cols (proj m c) 32 2820 (by decide), fun c => lastThree (cols (proj m c) 768 256 (by decide)),
    fun c => lastOne (cols (proj m c) 1024 2860 (by decide)), fun c => cols (proj m c) 256 0 (by decide),
    fun c => cols (proj m c) 768 256 (by decide), fun c => cols (proj m c) 4 1024 (by decide),
    fun c => cols (proj m c) 256 1028 (by decide), fun c => cols (proj m c) 256 1796 (by decide),
    fun c => cols (proj m c) 256 2564 (by decide), fun c => cols (proj m c) 8 2852 (by decide),
    fun c => cols (proj m c) 1024 2860 (by decide), fun c => cols (proj m c) 4096 3884 (by decide), ?_, ?_⟩
  · refine (θ_run defs _ _).mono (fun r h c => ?_) (run_kernel m g)
    obtain ⟨⟨h0, h1, h2, h3, h4, h5, h6, h7, h8, h9, h10, h11, h12, h13, h14, h15⟩, hk⟩ := h c
    exact ⟨h0, h1, h2, h3, h4, h5, h6, h7, h8, h9, h10, h11, h12, h13, h14, h15, hk⟩
  · refine (θ_run Cert.ReferenceInIdeal.defs _ _).mono (fun r h c => ?_) (Cert.ReferenceInIdeal.Value.run (F := Ideal) m' g')
    obtain ⟨h0, h1, h2, h3, h4, h5, h6, h7, h8, h9, h10, h11, h12, h13, h14, h15, hk⟩ := h c
    obtain ⟨e0, e1, e2⟩ := hin c
    have hz : Cert.ReferenceInIdeal.Project.refProduct (m' ((c.tc : Thread Cert.ReferenceInIdeal.nD Cert.ReferenceInIdeal.τ).loc Cert.ReferenceInIdeal.main_arg0))
        (m' ((c.tc : Thread Cert.ReferenceInIdeal.nD Cert.ReferenceInIdeal.τ).loc Cert.ReferenceInIdeal.main_arg1))
        (m' ((c.tc : Thread Cert.ReferenceInIdeal.nD Cert.ReferenceInIdeal.τ).loc Cert.ReferenceInIdeal.main_arg2)) = proj m c := by
      refine (Cert.ReferenceInIdeal.Project.product_is _ _ _).trans ?_
      rw [e0, e1, e2]
      rfl
    exact ⟨h0.trans (congrArg (fun Z => heads (cols Z 256 1284 (by decide))) hz), h1.trans (congrArg (fun Z => heads (cols Z 256 1540 (by decide))) hz),
      h2.trans (congrArg (fun Z => heads (cols Z 256 2052 (by decide))) hz), h3.trans (congrArg (fun Z => heads (cols Z 256 2308 (by decide))) hz),
      h4.trans (congrArg (fun Z => cols Z 32 2820 (by decide)) hz), h5.trans (congrArg (fun Z => lastThree (cols Z 768 256 (by decide))) hz),
      h6.trans (congrArg (fun Z => lastOne (cols Z 1024 2860 (by decide))) hz), h7.trans (congrArg (fun Z => cols Z 256 0 (by decide)) hz),
      h8.trans (congrArg (fun Z => cols Z 768 256 (by decide)) hz), h9.trans (congrArg (fun Z => cols Z 4 1024 (by decide)) hz),
      h10.trans (congrArg (fun Z => cols Z 256 1028 (by decide)) hz), h11.trans (congrArg (fun Z => cols Z 256 1796 (by decide)) hz),
      h12.trans (congrArg (fun Z => cols Z 256 2564 (by decide)) hz), h13.trans (congrArg (fun Z => cols Z 8 2852 (by decide)) hz),
      h14.trans (congrArg (fun Z => cols Z 1024 2860 (by decide)) hz), h15.trans (congrArg (fun Z => cols Z 4096 3884 (by decide)) hz), hk⟩

end Cert.KernelInIdeal.Project

end
-- ==== Proof.Up.Frames.lean ====
/- The three frames of the FFN's first projection: one run of the kernel for both of its instances, and the reference's run. -/
module

public import proofs.«01_k».proof.Defs
public import proofs.«01_k».proof.Proof.Gen.KernelUp
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.ReferenceUpIdeal.Run
public import Idealize.ShloMosaic.Lib.Quiescent

@[expose] public section

noncomputable section

namespace Cert.KernelUpIdeal.Up

open Idealize.ShloMosaic Idealize.ShloMosaic.TcCoe Idealize.SL.Sem
open Cert.KernelUpIdeal.Gen

variable {F : FTy → Type} [FloatOps F]

/-- A final state leaves the input, the gain and the weight as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

/-- The kernel's frame speaks of the idealized kernel's text read at the machine's floats. -/
theorem kernel_text : Cert.quiescent_KernelUp =
    ∀ (m : (ℓ : Loc nD τ sig) → Buf (Elt Bits) ℓ) (ρ : Dev nD → PrngReg), Cert.Pre_KernelUp m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelUp :=
  kernel_text.mpr fun m ρ _ => frame (F := Bits) m ρ

/-- The idealized kernel's frame: the same run at the ideal instance. -/
theorem frame_kernelIdeal : Cert.quiescent_KernelUpIdeal := fun m ρ _ => frame (F := Ideal) m ρ

/-- The reference's frame: its run, which declares no semaphore. -/
theorem frame_referenceIdeal : Cert.quiescent_ReferenceUpIdeal := fun m ρ _ =>
  (θ_run Cert.ReferenceUpIdeal.defs _ _).mono
    (fun r h => ⟨fun c => (h c).2.2.2, Idealize.ShloMosaic.sem_eq_zero_of_no_sems (by decide) r.2⟩)
    (Cert.ReferenceUpIdeal.Value.run (F := Ideal) m ρ)

end Cert.KernelUpIdeal.Up

end
-- ==== Proof.Up.Product.lean ====
/- What the launch of the FFN's first projection leaves: every row normed, times every column of the weight. The norm is the
   input projection's, and so are its reading and its rows. -/
module

public import proofs.«01_k».proof.Proof.Gen.KernelUpIdeal
public import proofs.«01_k».proof.Proof.Gen.KernelUpIdeal.Frame
public import proofs.«01_k».proof.Proof.Project.Results

@[expose] public section

noncomputable section

namespace Cert.KernelUpIdeal.Up

open Idealize.ShloMosaic Idealize.ShloMosaic.TcCoe
open Cert.KernelUpIdeal.Gen
open Cert.KernelInIdeal.Project (scale normed normed_is)

/-- The normed rows of a block are the input projection's: the text is the same. -/
theorem pay1_read (B : Vec Ideal S1024x1024 .f32) (g : Vec Ideal S1x1024 .f32) (i k : Fin 1024) :
    (k0_pay1 B g : Vec Ideal S1024x1024 .bf16) (ix2 i k)
      = (B (ix2 i k) * scale (∑ x : Fin 1024, (B (ix2 i x) * B (ix2 i x) : EReal)) * g (ix2 0 k) : EReal) :=
  Cert.KernelInIdeal.Project.pay1_read B g i k

/-- The product of a block of rows with a block of columns. -/
theorem pay2_read (B : Vec Ideal S1024x1024 .bf16) (w : Vec Ideal S1024x1408 .bf16) (i : Fin 1024) (j : Fin 1408) :
    (k0_pay2 B w : Vec Ideal S1024x1408 .f32) (ix2 i j) = ∑ k : Fin 1024, (B (ix2 i k) * w (ix2 k j) : EReal) := by
  unfold k0_pay2
  pointwise

/-- The normed rows times the weight. -/
def product (X : Vec Ideal S16384x1024 .f32) (g : Vec Ideal S1x1024 .f32) (w : Vec Ideal S1024x5632 .bf16) : Vec Ideal S16384x5632 .f32 :=
  fun j => (∑ k : Fin 1024, (normed X g (j 0) k * w (ix2 k (j 1)) : EReal) : EReal)

/-- The placement of the blocks: four blocks of columns to a block of rows. -/
theorem index_0 : ∀ t : Fin cfg0.N, win0_0.index t 0 = t.val / 4 ∧ win0_0.index t 1 = 0 := by decide +kernel

theorem index_1 : ∀ t : Fin cfg0.N, win0_1.index t 0 = 0 ∧ win0_1.index t 1 = 0 := by decide +kernel

theorem index_2 : ∀ t : Fin cfg0.N, win0_2.index t 0 = 0 ∧ win0_2.index t 1 = t.val % 4 := by decide +kernel

theorem index_3 : ∀ t : Fin cfg0.N, win0_3.index t 0 = t.val / 4 ∧ win0_3.index t 1 = t.val % 4 := by decide +kernel

theorem covers_3 : (cfg0.win 3).Covers := by decide +kernel

theorem read_0 (A : Vec Ideal S16384x1024 .f32) (t : Fin cfg0.N) (i k : Fin 1024) (h : 1024 * (t.val / 4) + i.val < 16384) :
    ((cfg0.win 0).blk t).view.read (Elt Ideal) A (ix2 i k) = A (ix2 ⟨1024 * (t.val / 4) + i.val, h⟩ k) := by
  blk_ext [index_0 t]

theorem read_1 (A : Vec Ideal S1x1024 .f32) (t : Fin cfg0.N) (k : Fin 1024) :
    ((cfg0.win 1).blk t).view.read (Elt Ideal) A (ix2 0 k) = A (ix2 0 k) := by
  blk_ext [index_1 t]

theorem read_2 (A : Vec Ideal S1024x5632 .bf16) (t : Fin cfg0.N) (k : Fin 1024) (j : Fin 1408) (h : 1408 * (t.val % 4) + j.val < 5632) :
    ((cfg0.win 2).blk t).view.read (Elt Ideal) A (ix2 k j) = A (ix2 k ⟨1408 * (t.val % 4) + j.val, h⟩) := by
  blk_ext [index_2 t]

theorem row_lt (n : ℕ) (hn : n < cfg0.N) (i : Fin 1024) : 1024 * (n / 4) + i.val < 16384 := by
  have ht : n < 64 := hn
  have hi := i.isLt
  omega

theorem col_lt (n : ℕ) (j : Fin 1408) : 1408 * (n % 4) + j.val < 5632 := by
  have hj := j.isLt
  omega

section

variable (m : (ℓ : Loc nD τ sig) → Buf (Elt Ideal) ℓ) (c : Dev nD)

/-- A point of the first column block makes the carried buffer; any other keeps it. -/
theorem carried_made (t : Fin cfg0.N) (h0 : t.val % 4 = 0) : (outsAt0 m c t.val t.isLt).2 = k0_pay1 (iblk m c 0 t) (iblk m c 1 t) := by
  refine (congrArg Prod.snd (outsAt0_A m c t h0)).trans ?_
  dsimp only
  frame_out

theorem carried_kept (t : Fin cfg0.N) (h0 : ¬t.val % 4 = 0) :
    (outsAt0 m c t.val t.isLt).2 = (outsAt0 m c (t.val - 1) (Nat.lt_of_le_of_lt (Nat.sub_le _ _) t.isLt)).2 :=
  (congrArg Prod.snd (outsAt0_B m c t h0)).trans rfl

/-- Every point leaves the carried buffer's product with its block of columns. -/
theorem out_is (t : Fin cfg0.N) : (outsAt0 m c t.val t.isLt).1 = k0_pay2 (outsAt0 m c t.val t.isLt).2 (iblk m c 2 t) := by
  by_cases h0 : t.val % 4 = 0
  · rw [carried_made m c t h0]
    refine (congrArg Prod.fst (outsAt0_A m c t h0)).trans ?_
    dsimp only
    frame_out
  · rw [carried_kept m c t h0]
    refine (congrArg Prod.fst (outsAt0_B m c t h0)).trans ?_
    dsimp only
    frame_out
    exact congrArg (fun B => k0_pay2 B (iblk m c 2 t)) (Memref.IsWhole.read_unread (Memref.isWhole_whole _) _)

/-- The carried buffer holds the point's rows, normed. -/
theorem carried : ∀ (n : ℕ) (hn : n < cfg0.N) (i k : Fin 1024),
    ((outsAt0 m c n hn).2 : Vec Ideal S1024x1024 .bf16) (ix2 i k)
      = normed (V m c main_v0) (V m c main_v1) ⟨1024 * (n / 4) + i.val, row_lt n hn i⟩ k := by
  have made : ∀ (t : Fin cfg0.N), t.val % 4 = 0 → ∀ i k : Fin 1024, ((outsAt0 m c t.val t.isLt).2 : Vec Ideal S1024x1024 .bf16) (ix2 i k)
      = normed (V m c main_v0) (V m c main_v1) ⟨1024 * (t.val / 4) + i.val, row_lt t.val t.isLt i⟩ k := by
    intro t h0 i k
    refine (congrFun (carried_made m c t h0) _).trans ((pay1_read _ _ i k).trans ?_)
    have hB : ∀ y : Fin 1024, (iblk m c 0 t : Vec Ideal S1024x1024 .f32) (ix2 i y)
        = (V m c main_v0 : Vec Ideal S16384x1024 .f32) (ix2 ⟨1024 * (t.val / 4) + i.val, row_lt t.val t.isLt i⟩ y) := fun y => read_0 _ t i y _
    have hb : (iblk m c 1 t : Vec Ideal S1x1024 .f32) (ix2 0 k) = (V m c main_v1 : Vec Ideal S1x1024 .f32) (ix2 0 k) := read_1 _ t k
    refine congrArg₂ (fun a b : EReal => a * b) (congrArg₂ (fun a b : EReal => a * b) (hB k) (congrArg scale ?_)) hb
    exact Finset.sum_congr (M := EReal) rfl fun y _ => congrArg₂ (fun a b : EReal => a * b) (hB y) (hB y)
  intro n
  induction n with
  | zero => exact fun hn => made ⟨0, hn⟩ rfl
  | succ n ih =>
    intro hn i k
    by_cases h0 : (n + 1) % 4 = 0
    · exact made ⟨n + 1, hn⟩ h0 i k
    · refine (congrFun (carried_kept m c ⟨n + 1, hn⟩ h0) _).trans ((ih (Nat.lt_of_succ_lt hn) i k).trans ?_)
      congr 1
      apply Fin.ext
      show 1024 * (n / 4) + i.val = 1024 * ((n + 1) / 4) + i.val
      omega

/-- What a point leaves for the output: its rows, normed, times its columns. -/
theorem left (t : Fin cfg0.N) (i : Fin 1024) (j : Fin 1408) :
    ((outsAt0 m c t.val t.isLt).1 : Vec Ideal S1024x1408 .f32) (ix2 i j)
      = product (V m c main_v0) (V m c main_v1) (V m c main_v2)
          (ix2 ⟨1024 * (t.val / 4) + i.val, row_lt t.val t.isLt i⟩ ⟨1408 * (t.val % 4) + j.val, col_lt t.val j⟩) := by
  refine (congrFun (out_is m c t) _).trans ((pay2_read _ _ i j).trans ?_)
  refine Finset.sum_congr rfl fun k _ => ?_
  exact congrArg₂ (fun a b : EReal => a * b) (carried m c t.val t.isLt i k) (read_2 _ t k j (col_lt t.val j))

/-- The array after the launch. -/
theorem launched : (dats m 0 c).arrAt 3 cfg0.N = product (V m c main_v0) (V m c main_v1) (V m c main_v2) := by
  refine (dats m 0 c).arrAt_eq_of_covers 3 _ covers_3 fun t hf y => ?_
  blk_simp
  have key : ∀ (i : Fin 1024) (j : Fin 1408), ((outsAt0 m c t.val t.isLt).1 : Vec Ideal S1024x1408 .f32) (ix2 i j)
      = product (V m c main_v0) (V m c main_v1) (V m c main_v2) ((win0_3.blk t).view.emb (ix2 i j)) := by
    intro i j
    refine (left m c t i j).trans (congrArg _ ?_)
    blk_ext [index_3 t]
  rw [after0_3]
  suffices hk : ∀ y : S1024x1408.Idx, ((outsAt0 m c t.val t.isLt).1 : Vec Ideal S1024x1408 .f32) y
      = product (V m c main_v0) (V m c main_v1) (V m c main_v2) ((win0_3.blk t).view.emb y) from hk y
  intro y
  idx_vars y
  exact key _ _

end

end Cert.KernelUpIdeal.Up

end
-- ==== Proof.Up.Algebraic.lean ====
/- The FFN's first projection: kernel and reference end with the same two halves and the same last two positions. -/
module

public import proofs.«01_k».proof.Defs
public import proofs.«01_k».proof.Proof.Up.Frames
public import proofs.«01_k».proof.Proof.Up.Product

@[expose] public section

noncomputable section

namespace Cert.KernelUpIdeal.Up

open Idealize.ShloMosaic Idealize.ShloMosaic.TcCoe Idealize.SL.Sem
open Cert.KernelUpIdeal.Gen
open Cert.KernelInIdeal.Project (scale normed normed_is)

/-- Every position's normed row times the weight. -/
def whole (x : Vec Ideal S2x8192x1024 .f32) (g : Vec Ideal S1024 .f32) (W : Vec Ideal S1024x5632 .f32) : Vec Ideal S2x8192x5632 .f32 :=
  fun j => (∑ k : Fin 1024, (x (ix3 (j 0) (j 1) k) * scale (∑ y : Fin 1024, (x (ix3 (j 0) (j 1) y) * x (ix3 (j 0) (j 1) y) : EReal))
    * g (ix1 k) * W (ix2 k (j 2)) : EReal) : EReal)

/-- The first half of the columns. -/
def gate (Z : Vec Ideal S2x8192x5632 .f32) : Vec Ideal S2x8192x2816 .f32 :=
  extractStridedSlice S2x8192x2816 ![0, 0, 0] Z slices_S2x8192x5632_S2x8192x2816_0_0_0

/-- The second half of the columns. -/
def value (Z : Vec Ideal S2x8192x5632 .f32) : Vec Ideal S2x8192x2816 .f32 :=
  extractStridedSlice S2x8192x2816 ![0, 0, 2816] Z slices_S2x8192x5632_S2x8192x2816_0_0_2816

/-- The first half's last two positions. -/
def lastTwo (Z : Vec Ideal S2x8192x5632 .f32) : Vec Ideal S2x2x2816 .f32 :=
  extractStridedSlice S2x2x2816 ![0, 8190, 0] Z slices_S2x8192x5632_S2x2x2816_0_8190_0

section

variable (m : (ℓ : Loc nD τ sig) → Buf (Elt Ideal) ℓ) (c : Dev nD)

/-- The projection of the arguments. -/
def proj : Vec Ideal S2x8192x5632 .f32 :=
  whole (m ((c.tc : Thread nD τ).loc main_arg0)) (m ((c.tc : Thread nD τ).loc main_arg1)) (m ((c.tc : Thread nD τ).loc main_arg2))

theorem rows_entry (r : Fin 16384) (k : Fin 1024) : (V m c main_v0 : Vec Ideal S16384x1024 .f32) (ix2 r k)
    = (m ((c : Thread nD τ).loc main_arg0) : Vec Ideal S2x8192x1024 .f32) (ix3 ⟨r.val / 8192, by omega⟩ ⟨r.val % 8192, by omega⟩ k) := by
  unfold V
  after_reads_at

theorem gain_entry (k : Fin 1024) : (V m c main_v1 : Vec Ideal S1x1024 .f32) (ix2 0 k)
    = (m ((c : Thread nD τ).loc main_arg1) : Vec Ideal S1024 .f32) (ix1 k) := by
  unfold V
  after_reads_at

theorem weight_entry (k : Fin 1024) (o : Fin 5632) : (V m c main_v2 : Vec Ideal S1024x5632 .bf16) (ix2 k o)
    = (m ((c : Thread nD τ).loc main_arg2) : Vec Ideal S1024x5632 .f32) (ix2 k o) := by
  unfold V
  after_reads_at

/-- The launch's array, by batch entry and position. -/
theorem array_is : shapeCast S2x8192x5632 (product (V m c main_v0) (V m c main_v1) (V m c main_v2)) shapeCasts_S16384x5632_S2x8192x5632 = proj m c := by
  have cast_at : ∀ (P : Vec Ideal S16384x5632 .f32) (b : Fin 2) (n : Fin 8192) (o : Fin 5632),
      shapeCast S2x8192x5632 P shapeCasts_S16384x5632_S2x8192x5632 (ix3 b n o) = P (ix2 ⟨b.val * 8192 + n.val, by omega⟩ o) := by
    intro P b n o
    pointwise
  suffices hk : ∀ j : S2x8192x5632.Idx, shapeCast S2x8192x5632 (product (V m c main_v0) (V m c main_v1) (V m c main_v2)) shapeCasts_S16384x5632_S2x8192x5632 j
      = proj m c j from funext hk
  intro j
  idx_vars j
  refine (cast_at _ _ _ _).trans ?_
  exact Finset.sum_congr (M := EReal) rfl fun k _ => congrArg₂ (fun y z : EReal => y * z)
    (normed_is _ _ _ _ (rows_entry m c) (gain_entry m c) _ _ k) (weight_entry m c k _)

/-- What follows the launch cuts the results out of its array. -/
theorem tail_is (U : Valuation τ sig (Elt Ideal)) :
    StableHlo.after hostOps1 U (Proc.devRef .tc main_v5) = gate (shapeCast S2x8192x5632 (U (Proc.devRef .tc main_v3)) shapeCasts_S16384x5632_S2x8192x5632)
    ∧ StableHlo.after hostOps1 U (Proc.devRef .tc main_v6) = value (shapeCast S2x8192x5632 (U (Proc.devRef .tc main_v3)) shapeCasts_S16384x5632_S2x8192x5632)
    ∧ StableHlo.after hostOps1 U (Proc.devRef .tc main_v7) = lastTwo (shapeCast S2x8192x5632 (U (Proc.devRef .tc main_v3)) shapeCasts_S16384x5632_S2x8192x5632) := by
  unfold hostOps1
  refine ⟨?_, ?_, ?_⟩ <;> (after_results_simp <;> rfl)

/-- The array after the launch, by batch entry and position. -/
theorem array_after : shapeCast S2x8192x5632
    (Pipeline.withArrays spec0 c (V0 m c) (fun w => (dats m 0 c).arrAt w (cfgs 0).N) (Proc.devRef .tc main_v3)) shapeCasts_S16384x5632_S2x8192x5632 = proj m c :=
  (congrArg (fun P : Vec Ideal S16384x5632 .f32 => shapeCast S2x8192x5632 P shapeCasts_S16384x5632_S2x8192x5632)
    ((Pipeline.withArrays_arr spec0 (by decide) c (V0 m c) (fun w => (dats m 0 c).arrAt w (cfgs 0).N) 3).trans (launched m c))).trans (array_is m c)

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

end

/-- The kernel's run ends with the projection's halves. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = gate (proj m c) ∧ r.2.mem ((c.tc : Thread nD τ).loc main_v6) = value (proj m c)
      ∧ r.2.mem ((c.tc : Thread nD τ).loc main_v7) = lastTwo (proj m c) ∧ Kept m c r.2) := by
  refine (θ_run defs _ _).mono (fun r h c => ?_) (run_main (F := Ideal) m ρ)
  have hb : ∀ b : Ref sig .tc, b ∈ Pipeline.restRefs sig spec0 → r.2.mem ((c.tc : Thread nD τ).loc b)
      = StableHlo.after hostOps1 (Pipeline.withArrays spec0 c (V0 m c) (fun w => (dats m 0 c).arrAt w (cfgs 0).N)) (Proc.devRef .tc b) :=
    fun b hm => ((h c).2 b hm).trans (after_tail m c b)
  obtain ⟨h0, h1, h2⟩ := tail_is (Pipeline.withArrays spec0 c (V0 m c) (fun w => (dats m 0 c).arrAt w (cfgs 0).N))
  exact ⟨(hb main_v5 (Pipeline.mem_restRefs_of main_v5 (by decide) (by decide))).trans (h0.trans (congrArg gate (array_after m c))),
    (hb main_v6 (Pipeline.mem_restRefs_of main_v6 (by decide) (by decide))).trans (h1.trans (congrArg value (array_after m c))),
    (hb main_v7 (Pipeline.mem_restRefs_of main_v7 (by decide) (by decide))).trans (h2.trans (congrArg lastTwo (array_after m c))),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩

end Cert.KernelUpIdeal.Up

namespace Cert.ReferenceUpIdeal.Up

open Idealize.ShloMosaic Idealize.ShloMosaic.TcCoe Idealize.SL.Sem
open Cert.ReferenceUpIdeal Cert.ReferenceUpIdeal.Gen
open Cert.KernelInIdeal.Project (scale)
open Cert.KernelUpIdeal.Up (whole gate value lastTwo proj)

/-- The reference's product. -/
abbrev refProduct (x : FVec Ideal S2x8192x1024 .f32) (g : FVec Ideal S1024 .f32) (W : FVec Ideal S1024x5632 .f32) : FVec Ideal S2x8192x5632 .f32 :=
  Host.dotGeneral dot_S2x8192x1024_S1024x5632_S2x8192x5632_2_0_01_1_n_n none
    (mulf (mulf x (broadcastInDim S2x8192x1024 ![0, 1, 2] bcast_S2x8192x1_S2x8192x1024_0_1_2
        (Host.rsqrt (addf (Host.divf (broadcastInDim S2x8192x1 ![0, 1] bcast_S2x8192_S2x8192x1_0_1
            (Host.reduceAdd (mulf x x) (constant S_ .f32 0x00000000#32) reducesTo_S2x8192x1024_S2x8192_d2 h_S_))
          (broadcastInDim S2x8192x1 ![] bcast_S_S2x8192x1 (constant S_ .f32 0x44800000#32)))
          (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g))) W

theorem product_is (x : FVec Ideal S2x8192x1024 .f32) (g : FVec Ideal S1024 .f32) (W : FVec Ideal S1024x5632 .f32) : refProduct x g W = whole x g W := by
  have at_ : ∀ (b : Fin 2) (n : Fin 8192) (o : Fin 5632), refProduct x g W (ix3 b n o) = whole x g W (ix3 b n o) := by
    intro b n o
    unfold refProduct whole scale
    pointwise
  suffices hk : ∀ j : S2x8192x5632.Idx, refProduct x g W j = whole x g W j from funext hk
  intro j
  idx_vars j
  exact at_ _ _ _

/-- The last two positions of the first half. -/
theorem lastTwo_is (Z : Vec Ideal S2x8192x5632 .f32) :
    extractStridedSlice S2x2x2816 ![0, 8190, 0] (extractStridedSlice S2x8192x2816 ![0, 0, 0] Z slices_S2x8192x5632_S2x8192x2816_0_0_0)
      slices_S2x8192x2816_S2x2x2816_0_8190_0 = lastTwo Z := by
  have at_ : ∀ (b n : Fin 2) (o : Fin 2816),
      extractStridedSlice S2x2x2816 ![0, 8190, 0] (extractStridedSlice S2x8192x2816 ![0, 0, 0] Z slices_S2x8192x5632_S2x8192x2816_0_0_0)
        slices_S2x8192x2816_S2x2x2816_0_8190_0 (ix3 b n o) = lastTwo Z (ix3 b n o) := by
    intro b n o
    unfold lastTwo
    pointwise
  suffices hk : ∀ j : S2x2x2816.Idx,
      extractStridedSlice S2x2x2816 ![0, 8190, 0] (extractStridedSlice S2x8192x2816 ![0, 0, 0] Z slices_S2x8192x5632_S2x8192x2816_0_0_0)
        slices_S2x8192x2816_S2x2x2816_0_8190_0 j = lastTwo Z j from funext hk
  intro j
  idx_vars j
  exact at_ _ _ _

/-- The kernel and the reference end with the same results. -/
theorem algebraic : Cert.algebraic_KernelUpIdeal_ReferenceUpIdeal := by
  intro m g m' g' _ hin
  refine ⟨fun c => gate (proj m c), fun c => value (proj m c), fun c => lastTwo (proj m c), Cert.KernelUpIdeal.Up.run_kernel m g, ?_⟩
  refine (θ_run defs _ _).mono (fun r h c => ?_) (Cert.ReferenceUpIdeal.Value.run (F := Ideal) m' g')
  obtain ⟨h0, h1, h2, hk⟩ := h c
  obtain ⟨e0, e1, e2⟩ := hin c
  have hz : refProduct (m' ((c.tc : Thread nD τ).loc main_arg0)) (m' ((c.tc : Thread nD τ).loc main_arg1)) (m' ((c.tc : Thread nD τ).loc main_arg2))
      = proj m c := by
    refine (product_is _ _ _).trans ?_
    rw [e0, e1, e2]
    rfl
  exact ⟨h0.trans (congrArg gate hz), h1.trans (congrArg value hz), h2.trans ((lastTwo_is _).trans (congrArg lastTwo hz)), hk⟩

end Cert.ReferenceUpIdeal.Up

end
-- ==== Proof.Down.Frames.lean ====
/- The three frames of the FFN's second call: one run of the kernel for both of its instances, and the reference's run. -/
module

public import proofs.«01_k».proof.Defs
public import proofs.«01_k».proof.Proof.Gen.KernelDown
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import Idealize.ShloMosaic.Lib.Quiescent

@[expose] public section

noncomputable section

namespace Cert.KernelDownIdeal.Down

open Idealize.ShloMosaic Idealize.ShloMosaic.TcCoe Idealize.SL.Sem
open Cert.KernelDownIdeal.Gen

variable {F : FTy → Type} [FloatOps F]

/-- A final state leaves the six arguments as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

/-- The kernel's frame speaks of the idealized kernel's text read at the machine's floats. -/
theorem kernel_text : Cert.quiescent_KernelDown =
    ∀ (m : (ℓ : Loc nD τ sig) → Buf (Elt Bits) ℓ) (ρ : Dev nD → PrngReg), Cert.Pre_KernelDown m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelDown :=
  kernel_text.mpr fun m ρ _ => frame (F := Bits) m ρ

/-- The idealized kernel's frame: the same run at the ideal instance. -/
theorem frame_kernelIdeal : Cert.quiescent_KernelDownIdeal := fun m ρ _ => frame (F := Ideal) m ρ

/-- The reference's frame: its run, which declares no semaphore. -/
theorem frame_referenceIdeal : Cert.quiescent_ReferenceDownIdeal := fun m ρ _ =>
  (θ_run Cert.ReferenceDownIdeal.defs _ _).mono
    (fun r h => ⟨fun c => (h c).2.2, Idealize.ShloMosaic.sem_eq_zero_of_no_sems (by decide) r.2⟩)
    (Cert.ReferenceDownIdeal.Value.run (F := Ideal) m ρ)

end Cert.KernelDownIdeal.Down

end
-- ==== Proof.Down.Point.lean ====
/- What a grid point of the FFN's second call leaves: its rows' convolution, gate and product with the weight. -/
module

public import proofs.«01_k».proof.Proof.Gen.KernelDownIdeal
public import proofs.«01_k».proof.Proof.Gen.KernelDownIdeal.Frame
public import Idealize.ShloMosaic.Lib.Pipeline.ValueKit
public import Idealize.ShloMosaic.Lib.Pointwise

@[expose] public section

noncomputable section

namespace Cert.KernelDownIdeal.Down

open Idealize.ShloMosaic Idealize.ShloMosaic.TcCoe
open Cert.KernelDownIdeal.Gen

/-- The gate's activation. -/
def act (y : EReal) : EReal := y * Ideal.logistic y

/-- The convolution of three neighbours, the latest first. -/
def conv (cb w2 a2 w1 a1 w0 a0 : EReal) : EReal := cb + w2 * a2 + w1 * a1 + w0 * a0

/-- A block's rows under the eight rows before them. -/
def ext (H : Vec Ideal S1x8x2816 .f32) (A : Vec Ideal S256x2816 .f32) : Vec Ideal S264x2816 .f32 :=
  concatenate S264x2816 0 [⟨S8x2816, shapeCast S8x2816 H shapeCasts_S1x8x2816_S8x2816⟩,
    ⟨S256x2816, shapeCast S256x2816 A shapeCasts_S256x2816_S256x2816⟩] concatenates_S8x2816_S256x2816_S264x2816_d0

theorem ext_before (H : Vec Ideal S1x8x2816 .f32) (A : Vec Ideal S256x2816 .f32) (r : Fin 264) (o : Fin 2816) (h : r.val < 8) :
    ext H A (ix2 r o) = H (ix3 0 ⟨r.val, h⟩ o) := by
  unfold ext
  pointwise
  simp only [h, dite_true, ↓reduceDIte]

theorem ext_own (H : Vec Ideal S1x8x2816 .f32) (A : Vec Ideal S256x2816 .f32) (r : Fin 264) (o : Fin 2816) (h : ¬r.val < 8) :
    ext H A (ix2 r o) = A (ix2 ⟨r.val - 8, by omega⟩ o) := by
  unfold ext
  pointwise
  simp only [h, dite_false, ↓reduceDIte]

/-- A point's output at a row and a column. -/
theorem pay1_read (A : Vec Ideal S256x2816 .f32) (H : Vec Ideal S1x8x2816 .f32) (cb w2 w1 w0 : Vec Ideal S1x2816 .f32) (B : Vec Ideal S256x2816 .f32)
    (x : Vec Ideal S256x1024 .f32) (W : Vec Ideal S2816x1024 .bf16) (i : Fin 256) (d : Fin 1024) :
    (k0_pay1 A H cb w2 w1 w0 B x W : Vec Ideal S256x1024 .f32) (ix2 i d)
      = (x (ix2 i d) + ∑ o : Fin 2816, (act (conv (cb (ix2 0 o)) (w2 (ix2 0 o)) (A (ix2 i o)) (w1 (ix2 0 o)) (ext H A (ix2 ⟨7 + i.val, by omega⟩ o))
          (w0 (ix2 0 o)) (ext H A (ix2 ⟨6 + i.val, by omega⟩ o))) * B (ix2 i o) * W (ix2 o d) : EReal) : EReal) := by
  unfold k0_pay1 act conv
  have he : (concatenate S264x2816 0 [⟨S8x2816, shapeCast S8x2816 H shapeCasts_S1x8x2816_S8x2816⟩,
    ⟨S256x2816, shapeCast S256x2816 A shapeCasts_S256x2816_S256x2816⟩] concatenates_S8x2816_S256x2816_S264x2816_d0 : Vec Ideal S264x2816 .f32) = ext H A := rfl
  rw [he]
  generalize ext H A = E
  pointwise

end Cert.KernelDownIdeal.Down

end
-- ==== Proof.Down.Entry.lean ====
/- The arrays the FFN's second call reads, in the arguments. -/
module

public import proofs.«01_k».proof.Proof.Down.Point
public import Idealize.ShloMosaic.Lib.StableHlo.ReadAt

@[expose] public section

noncomputable section

namespace Cert.KernelDownIdeal.Down

open Idealize.ShloMosaic Idealize.ShloMosaic.TcCoe
open Cert.KernelDownIdeal.Gen

/-- The first half of the columns after the two positions kept from before: position `e` counts from those. -/
def past (up : Vec Ideal S2x8192x5632 .f32) (buf : Vec Ideal S2x2x2816 .f32) (b : Fin 2) (e : Fin 8194) (o : Fin 2816) : EReal :=
  if h : e.val < 2 then buf (ix3 b ⟨e.val, h⟩ o) else up (ix3 b ⟨e.val - 2, by omega⟩ ⟨o.val, by omega⟩)

/-- The two positions before a block: the kept ones before a batch entry's first block, the previous block's last two before any other. -/
theorem before_is (K : Vec Ideal S2x1x2x2816 .f32) (L : Vec Ideal S2x31x2x2816 .f32) (up : Vec Ideal S2x8192x5632 .f32) (buf : Vec Ideal S2x2x2816 .f32)
    (hK : ∀ (b : Fin 2) (z : Fin 1) (e : Fin 2) (o : Fin 2816), K (ix4 b z e o) = buf (ix3 b e o))
    (hL : ∀ (b : Fin 2) (s : Fin 31) (e : Fin 2) (o : Fin 2816), L (ix4 b s e o) = up (ix3 b ⟨s.val * 256 + (254 + e.val), by omega⟩ ⟨o.val, by omega⟩))
    (t : Fin 64) (e : Fin 2) (o : Fin 2816) (z : EReal) :
    (if h : t.val / 32 < 2 ∧ t.val % 32 < 32 then
      if h1 : t.val % 32 < 1 then K (ix4 ⟨t.val / 32, h.1⟩ ⟨t.val % 32, h1⟩ e o) else L (ix4 ⟨t.val / 32, h.1⟩ ⟨t.val % 32 - 1, by omega⟩ e o)
    else z) = past up buf ⟨t.val / 32, by omega⟩ ⟨256 * (t.val % 32) + e.val, by omega⟩ o := by
  rw [dif_pos (show t.val / 32 < 2 ∧ t.val % 32 < 32 by omega)]
  unfold past
  by_cases h : t.val % 32 < 1
  · rw [dif_pos h, dif_pos (show 256 * (t.val % 32) + e.val < 2 by omega), hK]
    congr 2
    apply Fin.ext
    show e.val = 256 * (t.val % 32) + e.val
    omega
  · rw [dif_neg h, dif_neg (show ¬256 * (t.val % 32) + e.val < 2 by omega), hL]
    congr 2
    apply Fin.ext
    show (t.val % 32 - 1) * 256 + (254 + e.val) = 256 * (t.val % 32) + e.val - 2
    omega

section

variable (m : (ℓ : Loc nD τ sig) → Buf (Elt Ideal) ℓ) (c : Dev nD)

theorem x_entry (r : Fin 16384) (k : Fin 1024) : (V m c main_v11 : Vec Ideal S16384x1024 .f32) (ix2 r k)
    = (m ((c : Thread nD τ).loc main_arg0) : Vec Ideal S2x8192x1024 .f32) (ix3 ⟨r.val / 8192, by omega⟩ ⟨r.val % 8192, by omega⟩ k) := by
  unfold V
  after_reads_at

theorem a_entry (r : Fin 16384) (o : Fin 5632) : (V m c main_v7 : Vec Ideal S16384x5632 .f32) (ix2 r o)
    = (m ((c : Thread nD τ).loc main_arg1) : Vec Ideal S2x8192x5632 .f32) (ix3 ⟨r.val / 8192, by omega⟩ ⟨r.val % 8192, by omega⟩ o) := by
  unfold V
  after_reads_at

theorem b_entry (r : Fin 16384) (o : Fin 5632) : (V m c main_v8 : Vec Ideal S16384x5632 .f32) (ix2 r o)
    = (m ((c : Thread nD τ).loc main_arg1) : Vec Ideal S2x8192x5632 .f32) (ix3 ⟨r.val / 8192, by omega⟩ ⟨r.val % 8192, by omega⟩ o) := by
  unfold V
  after_reads_at

theorem cb_entry (o : Fin 2816) : (V m c main_v9 : Vec Ideal S1x2816 .f32) (ix2 0 o)
    = (m ((c : Thread nD τ).loc main_arg4) : Vec Ideal S2816 .f32) (ix1 o) := by
  unfold V
  after_reads_at

theorem w_entry (o : Fin 2816) (d : Fin 1024) : (V m c main_v10 : Vec Ideal S2816x1024 .bf16) (ix2 o d)
    = (m ((c : Thread nD τ).loc main_arg5) : Vec Ideal S2816x1024 .f32) (ix2 o d) := by
  unfold V
  after_reads_at

theorem kept_entry (b : Fin 2) (z : Fin 1) (e : Fin 2) (o : Fin 2816) :
    (StableHlo.upto [hostOps0 (F := Ideal), hostOps0_1, hostOps0_2].flatten (fun b => m (c, b)) 4 (Proc.devRef .tc main_v2) : Vec Ideal S2x1x2x2816 .f32) (ix4 b z e o)
      = (m ((c : Thread nD τ).loc main_arg2) : Vec Ideal S2x2x2816 .f32) (ix3 b e o) := by
  after_reads_at

theorem last_entry (b : Fin 2) (s : Fin 31) (e : Fin 2) (o : Fin 2816) :
    (StableHlo.upto [hostOps0 (F := Ideal), hostOps0_1, hostOps0_2].flatten (fun b => m (c, b)) 4 (Proc.devRef .tc main_v3) : Vec Ideal S2x31x2x2816 .f32) (ix4 b s e o)
      = (m ((c : Thread nD τ).loc main_arg1) : Vec Ideal S2x8192x5632 .f32) (ix3 b ⟨s.val * 256 + (254 + e.val), by omega⟩ ⟨o.val, by omega⟩) := by
  after_reads_at

/-- A block's halo holds the two positions before the block. -/
theorem halo_entry (t : Fin 64) (e : Fin 2) (o : Fin 2816) : (V m c main_v6 : Vec Ideal S64x8x2816 .f32) (ix3 t ⟨6 + e.val, by omega⟩ o)
    = past (m ((c : Thread nD τ).loc main_arg1)) (m ((c : Thread nD τ).loc main_arg2)) ⟨t.val / 32, by omega⟩ ⟨256 * (t.val % 32) + e.val, by omega⟩ o := by
  unfold V
  after_reads_at
  exact before_is _ _ _ _ (kept_entry m c) (last_entry m c) t e o _

end

end Cert.KernelDownIdeal.Down

end
-- ==== Proof.Down.Launch.lean ====
/- What the launch of the FFN's second call leaves: every position's input plus its gated convolution times the weight. -/
module

public import proofs.«01_k».proof.Proof.Down.Entry

@[expose] public section

noncomputable section

namespace Cert.KernelDownIdeal.Down

open Idealize.ShloMosaic Idealize.ShloMosaic.TcCoe
open Cert.KernelDownIdeal.Gen

/-- A position's gated value at a column. -/
def hidden (up : Vec Ideal S2x8192x5632 .f32) (buf : Vec Ideal S2x2x2816 .f32) (w : Vec Ideal S3x2816 .f32) (cb : Vec Ideal S2816 .f32)
    (b : Fin 2) (n : Fin 8192) (o : Fin 2816) : EReal :=
  act (conv (cb (ix1 o)) (w (ix2 2 o)) (up (ix3 b n ⟨o.val, by omega⟩)) (w (ix2 1 o)) (past up buf b ⟨n.val + 1, by omega⟩ o)
    (w (ix2 0 o)) (past up buf b ⟨n.val, by omega⟩ o)) * up (ix3 b n ⟨2816 + o.val, by omega⟩)

/-- The input plus every position's gated values times the weight. -/
def ffn (x : Vec Ideal S2x8192x1024 .f32) (up : Vec Ideal S2x8192x5632 .f32) (buf : Vec Ideal S2x2x2816 .f32) (w : Vec Ideal S3x2816 .f32)
    (cb : Vec Ideal S2816 .f32) (W : Vec Ideal S2816x1024 .f32) : Vec Ideal S2x8192x1024 .f32 :=
  fun j => (x (ix3 (j 0) (j 1) (j 2)) + ∑ o : Fin 2816, (hidden up buf w cb (j 0) (j 1) o * W (ix2 o (j 2)) : EReal) : EReal)

theorem index_0 : ∀ t : Fin cfg0.N, win0_0.index t 0 = t.val ∧ win0_0.index t 1 = 0 := by decide +kernel

theorem index_1 : ∀ t : Fin cfg0.N, win0_1.index t 0 = t.val ∧ win0_1.index t 1 = 1 := by decide +kernel

theorem index_2 : ∀ t : Fin cfg0.N, win0_2.index t 0 = t.val ∧ win0_2.index t 1 = 0 ∧ win0_2.index t 2 = 0 := by decide +kernel

theorem index_3 : ∀ t : Fin cfg0.N, win0_3.index t 0 = 0 ∧ win0_3.index t 1 = 0 := by decide +kernel

theorem index_4 : ∀ t : Fin cfg0.N, win0_4.index t 0 = 0 ∧ win0_4.index t 1 = 0 := by decide +kernel

theorem index_5 : ∀ t : Fin cfg0.N, win0_5.index t 0 = 0 ∧ win0_5.index t 1 = 0 := by decide +kernel

theorem index_6 : ∀ t : Fin cfg0.N, win0_6.index t 0 = t.val ∧ win0_6.index t 1 = 0 := by decide +kernel

theorem index_7 : ∀ t : Fin cfg0.N, win0_7.index t 0 = t.val ∧ win0_7.index t 1 = 0 := by decide +kernel

theorem covers_7 : (cfg0.win 7).Covers := by decide +kernel

theorem t_lt (t : Fin cfg0.N) : t.val < 64 := t.isLt

theorem row_lt (t : Fin cfg0.N) (i : Fin 256) : 256 * t.val + i.val < 16384 := by
  have ht := t_lt t
  have hi := i.isLt
  omega

theorem read_0 (A : Vec Ideal S16384x5632 .f32) (t : Fin cfg0.N) (i : Fin 256) (o : Fin 2816) :
    ((cfg0.win 0).blk t).view.read (Elt Ideal) A (ix2 i o) = A (ix2 ⟨256 * t.val + i.val, row_lt t i⟩ ⟨o.val, by omega⟩) := by
  blk_ext [index_0 t]

theorem read_1 (A : Vec Ideal S16384x5632 .f32) (t : Fin cfg0.N) (i : Fin 256) (o : Fin 2816) :
    ((cfg0.win 1).blk t).view.read (Elt Ideal) A (ix2 i o) = A (ix2 ⟨256 * t.val + i.val, row_lt t i⟩ ⟨2816 + o.val, by omega⟩) := by
  blk_ext [index_1 t]

theorem read_2 (A : Vec Ideal S64x8x2816 .f32) (t : Fin cfg0.N) (e : Fin 8) (o : Fin 2816) :
    ((cfg0.win 2).blk t).view.read (Elt Ideal) A (ix3 0 e o) = A (ix3 ⟨t.val, t_lt t⟩ e o) := by
  blk_ext [index_2 t]

theorem read_3 (A : Vec Ideal S3x2816 .f32) (t : Fin cfg0.N) (k : Fin 3) (o : Fin 2816) :
    ((cfg0.win 3).blk t).view.read (Elt Ideal) A (ix2 k o) = A (ix2 k o) := by
  blk_ext [index_3 t]

theorem read_4 (A : Vec Ideal S1x2816 .f32) (t : Fin cfg0.N) (o : Fin 2816) :
    ((cfg0.win 4).blk t).view.read (Elt Ideal) A (ix2 0 o) = A (ix2 0 o) := by
  blk_ext [index_4 t]

theorem read_5 (A : Vec Ideal S2816x1024 .bf16) (t : Fin cfg0.N) (o : Fin 2816) (d : Fin 1024) :
    ((cfg0.win 5).blk t).view.read (Elt Ideal) A (ix2 o d) = A (ix2 o d) := by
  blk_ext [index_5 t]

theorem read_6 (A : Vec Ideal S16384x1024 .f32) (t : Fin cfg0.N) (i : Fin 256) (d : Fin 1024) :
    ((cfg0.win 6).blk t).view.read (Elt Ideal) A (ix2 i d) = A (ix2 ⟨256 * t.val + i.val, row_lt t i⟩ d) := by
  blk_ext [index_6 t]

/-- A row of the convolution's weight, as a point loads it. -/
theorem tap_2 (w : Vec Ideal S3x2816 .f32) (o : Fin 2816) : (View.ld w r0_3 : Vec Ideal S1x2816 .f32) (ix2 0 o) = w (ix2 2 o) :=
  View.ld_unit_apply_of w _ _ _ _ _ (by intro a; fin_cases a <;> simp)

theorem tap_1 (w : Vec Ideal S3x2816 .f32) (o : Fin 2816) : (View.ld w r0_4 : Vec Ideal S1x2816 .f32) (ix2 0 o) = w (ix2 1 o) :=
  View.ld_unit_apply_of w _ _ _ _ _ (by intro a; fin_cases a <;> simp)

theorem tap_0 (w : Vec Ideal S3x2816 .f32) (o : Fin 2816) : (View.ld w r0_5 : Vec Ideal S1x2816 .f32) (ix2 0 o) = w (ix2 0 o) :=
  View.ld_unit_apply_of w _ _ _ _ _ (by intro a; fin_cases a <;> simp)

/-- What a point's stores leave is what it computes from its blocks. -/
theorem out_is (x0 x1 : Vec Ideal S256x2816 .f32) (x2 : Vec Ideal S1x8x2816 .f32) (x3 : Vec Ideal S3x2816 .f32) (x4 : Vec Ideal S1x2816 .f32)
    (x5 : Vec Ideal S2816x1024 .bf16) (x6 : Vec Ideal S256x1024 .f32) :
    out0_7 x0 x1 x2 x3 x4 x5 x6 = k0_pay1 x0 x2 x4 (View.ld x3 r0_3) (View.ld x3 r0_4) (View.ld x3 r0_5) x1 x6 x5 := by
  frame_out

section

variable (m : (ℓ : Loc nD τ sig) → Buf (Elt Ideal) ℓ) (c : Dev nD)

/-- The FFN's second call on the arguments. -/
def result : Vec Ideal S2x8192x1024 .f32 :=
  ffn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The same, position by position of the launch's array. -/
def resultRows : Vec Ideal S16384x1024 .f32 :=
  fun j => result m c (ix3 ⟨(j 0).val / 8192, by have := (j 0).isLt; change (j 0).val < 16384 at this; omega⟩
    ⟨(j 0).val % 8192, by omega⟩ (j 1))

theorem pos_lt (t : Fin cfg0.N) (i : Fin 256) : 256 * (t.val % 32) + i.val < 8192 := by
  have hi := i.isLt
  omega

theorem entry_lt (t : Fin cfg0.N) : t.val / 32 < 2 := by
  have ht := t_lt t
  omega

theorem place (t : Fin cfg0.N) (i : Fin 256) (h : (256 * t.val + i.val) / 8192 < 2) (h' : (256 * t.val + i.val) % 8192 < 8192) :
    (⟨(256 * t.val + i.val) / 8192, h⟩ : Fin 2) = ⟨t.val / 32, entry_lt t⟩
    ∧ (⟨(256 * t.val + i.val) % 8192, h'⟩ : Fin 8192) = ⟨256 * (t.val % 32) + i.val, pos_lt t i⟩ := by
  have hi := i.isLt
  constructor
  · apply Fin.ext
    show (256 * t.val + i.val) / 8192 = t.val / 32
    omega
  · apply Fin.ext
    show (256 * t.val + i.val) % 8192 = 256 * (t.val % 32) + i.val
    omega

/-- A batch entry's array at a row of the launch is its array at the row's position. -/
theorem at_place {S : ℕ} (A : (Fin 2) → (Fin 8192) → Fin S → EReal) (t : Fin cfg0.N) (i : Fin 256) (h : (256 * t.val + i.val) / 8192 < 2)
    (h' : (256 * t.val + i.val) % 8192 < 8192) (k : Fin S) :
    A ⟨(256 * t.val + i.val) / 8192, h⟩ ⟨(256 * t.val + i.val) % 8192, h'⟩ k = A ⟨t.val / 32, entry_lt t⟩ ⟨256 * (t.val % 32) + i.val, pos_lt t i⟩ k := by
  rw [(place t i h h').1, (place t i h h').2]

theorem a_at (t : Fin cfg0.N) (i : Fin 256) (o : Fin 2816) : (iblk m c 0 t : Vec Ideal S256x2816 .f32) (ix2 i o)
    = (m ((c : Thread nD τ).loc main_arg1) : Vec Ideal S2x8192x5632 .f32) (ix3 ⟨t.val / 32, entry_lt t⟩ ⟨256 * (t.val % 32) + i.val, pos_lt t i⟩ ⟨o.val, by omega⟩) :=
  (read_0 _ t i o).trans ((a_entry m c _ _).trans
    (at_place (fun b n k => (m ((c : Thread nD τ).loc main_arg1) : Vec Ideal S2x8192x5632 .f32) (ix3 b n k)) t i _ _ _))

theorem b_at (t : Fin cfg0.N) (i : Fin 256) (o : Fin 2816) : (iblk m c 1 t : Vec Ideal S256x2816 .f32) (ix2 i o)
    = (m ((c : Thread nD τ).loc main_arg1) : Vec Ideal S2x8192x5632 .f32) (ix3 ⟨t.val / 32, entry_lt t⟩ ⟨256 * (t.val % 32) + i.val, pos_lt t i⟩ ⟨2816 + o.val, by omega⟩) :=
  (read_1 _ t i o).trans ((b_entry m c _ _).trans
    (at_place (fun b n k => (m ((c : Thread nD τ).loc main_arg1) : Vec Ideal S2x8192x5632 .f32) (ix3 b n k)) t i _ _ _))

theorem x_at (t : Fin cfg0.N) (i : Fin 256) (d : Fin 1024) : (iblk m c 6 t : Vec Ideal S256x1024 .f32) (ix2 i d)
    = (m ((c : Thread nD τ).loc main_arg0) : Vec Ideal S2x8192x1024 .f32) (ix3 ⟨t.val / 32, entry_lt t⟩ ⟨256 * (t.val % 32) + i.val, pos_lt t i⟩ d) :=
  (read_6 _ t i d).trans ((x_entry m c _ _).trans
    (at_place (fun b n k => (m ((c : Thread nD τ).loc main_arg0) : Vec Ideal S2x8192x1024 .f32) (ix3 b n k)) t i _ _ _))

/-- A block's rows under its halo, from the halo's last two, are consecutive positions of the batch entry. -/
theorem ext_at (t : Fin cfg0.N) (r : ℕ) (h6 : 6 + r < 264) (hp : 256 * (t.val % 32) + r < 8194) (o : Fin 2816) :
    ext (iblk m c 2 t) (iblk m c 0 t) (ix2 ⟨6 + r, h6⟩ o)
      = past (m ((c : Thread nD τ).loc main_arg1)) (m ((c : Thread nD τ).loc main_arg2)) ⟨t.val / 32, entry_lt t⟩ ⟨256 * (t.val % 32) + r, hp⟩ o := by
  by_cases h : r < 2
  · refine (ext_before _ _ _ _ (show 6 + r < 8 by omega)).trans ((read_2 _ t _ o).trans ?_)
    exact halo_entry m c ⟨t.val, t_lt t⟩ ⟨r, h⟩ o
  · refine (ext_own _ _ _ _ (show ¬6 + r < 8 by omega)).trans ((a_at m c t ⟨6 + r - 8, by omega⟩ o).trans ?_)
    unfold past
    rw [dif_neg (show ¬256 * (t.val % 32) + r < 2 by omega)]
    congr 2
    apply Fin.ext
    show 256 * (t.val % 32) + (6 + r - 8) = 256 * (t.val % 32) + r - 2
    omega

theorem rows_at (t : Fin cfg0.N) (i : Fin 256) (d : Fin 1024) :
    resultRows m c (ix2 ⟨256 * t.val + i.val, row_lt t i⟩ d) = result m c (ix3 ⟨t.val / 32, entry_lt t⟩ ⟨256 * (t.val % 32) + i.val, pos_lt t i⟩ d) :=
  at_place (fun b n k => result m c (ix3 b n k)) t i _ _ _

/-- What a point computes from its blocks is the result at its rows. -/
theorem left (t : Fin cfg0.N) (i : Fin 256) (d : Fin 1024) :
    (k0_pay1 (iblk m c 0 t) (iblk m c 2 t) (iblk m c 4 t) (View.ld (iblk m c 3 t) r0_3) (View.ld (iblk m c 3 t) r0_4) (View.ld (iblk m c 3 t) r0_5)
      (iblk m c 1 t) (iblk m c 6 t) (iblk m c 5 t) : Vec Ideal S256x1024 .f32) (ix2 i d)
      = resultRows m c (ix2 ⟨256 * t.val + i.val, row_lt t i⟩ d) := by
  refine ((pay1_read _ _ _ _ _ _ _ _ _ i d).trans ?_).trans (rows_at m c t i d).symm
  have hw : ∀ (k : Fin 3) (o : Fin 2816), (iblk m c 3 t : Vec Ideal S3x2816 .f32) (ix2 k o) = (m ((c : Thread nD τ).loc main_arg3) : Vec Ideal S3x2816 .f32) (ix2 k o) :=
    fun k o => (read_3 _ t k o).trans (congrFun (V_main_arg3 m c) _)
  refine congrArg₂ (fun a b : EReal => a + b) (x_at m c t i d) (Finset.sum_congr (M := EReal) rfl fun o _ => ?_)
  refine congrArg₂ (fun a b : EReal => a * b) (congrArg₂ (fun a b : EReal => a * b) (congrArg act ?_) (b_at m c t i o))
    ((read_5 _ t o d).trans (w_entry m c o d))
  have h0 := ext_at m c t i.val (by omega) (by have := pos_lt t i; omega) o
  have h1 := ext_at m c t (i.val + 1) (by omega) (by have := pos_lt t i; omega) o
  have hc : (iblk m c 4 t : Vec Ideal S1x2816 .f32) (ix2 0 o) = (m ((c : Thread nD τ).loc main_arg4) : Vec Ideal S2816 .f32) (ix1 o) :=
    (read_4 _ t o).trans (cb_entry m c o)
  have h7 : (⟨7 + i.val, by omega⟩ : Fin 264) = ⟨6 + (i.val + 1), by omega⟩ := Fin.ext (by show 7 + i.val = 6 + (i.val + 1); omega)
  rw [h7, h0, h1, tap_2, tap_1, tap_0, hw, hw, hw, a_at m c t i o, hc]
  rfl

/-- The array after the launch. -/
theorem launched : (dats m 0 c).arrAt 7 cfg0.N = resultRows m c := by
  refine (dats m 0 c).arrAt_eq_of_covers 7 _ covers_7 fun t hf y => ?_
  blk_simp
  rw [after0_7, out_is]
  have key : ∀ (i : Fin 256) (d : Fin 1024),
      (k0_pay1 (iblk m c 0 t) (iblk m c 2 t) (iblk m c 4 t) (View.ld (iblk m c 3 t) r0_3) (View.ld (iblk m c 3 t) r0_4) (View.ld (iblk m c 3 t) r0_5)
        (iblk m c 1 t) (iblk m c 6 t) (iblk m c 5 t) : Vec Ideal S256x1024 .f32) (ix2 i d) = resultRows m c ((win0_7.blk t).view.emb (ix2 i d)) := by
    intro i d
    refine (left m c t i d).trans (congrArg _ ?_)
    blk_ext [index_7 t]
  suffices hk : ∀ y : S256x1024.Idx,
      (k0_pay1 (iblk m c 0 t) (iblk m c 2 t) (iblk m c 4 t) (View.ld (iblk m c 3 t) r0_3) (View.ld (iblk m c 3 t) r0_4) (View.ld (iblk m c 3 t) r0_5)
        (iblk m c 1 t) (iblk m c 6 t) (iblk m c 5 t) : Vec Ideal S256x1024 .f32) y = resultRows m c ((win0_7.blk t).view.emb y) from hk y
  intro y
  idx_vars y
  exact key _ _

end

end Cert.KernelDownIdeal.Down

end
-- ==== Proof.Down.Algebraic.lean ====
/- The FFN's second call: kernel and reference end with the same mixed positions and the same two positions to keep. -/
module

public import proofs.«01_k».proof.Defs
public import proofs.«01_k».proof.Proof.Down.Frames
public import proofs.«01_k».proof.Proof.Down.Launch

@[expose] public section

noncomputable section

namespace Cert.KernelDownIdeal.Down

open Idealize.ShloMosaic Idealize.ShloMosaic.TcCoe Idealize.SL.Sem
open Cert.KernelDownIdeal.Gen

/-- The last two positions of the first half of the columns, to keep for what follows. -/
def keptNext (up : Vec Ideal S2x8192x5632 .f32) : Vec Ideal S2x2x2816 .f32 :=
  fun j => up (ix3 (j 0) ⟨8190 + (j 1).val, by have := (j 1).isLt; change (j 1).val < 2 at this; omega⟩
    ⟨(j 2).val, by have := (j 2).isLt; change (j 2).val < 2816 at this; omega⟩)

theorem slice_is (up : Vec Ideal S2x8192x5632 .f32) : extractStridedSlice S2x2x2816 ![0, 8190, 0] up slices_S2x8192x5632_S2x2x2816_0_8190_0 = keptNext up := by
  have at_ : ∀ (b n : Fin 2) (o : Fin 2816),
      extractStridedSlice S2x2x2816 ![0, 8190, 0] up slices_S2x8192x5632_S2x2x2816_0_8190_0 (ix3 b n o) = keptNext up (ix3 b n o) := by
    intro b n o
    unfold keptNext
    pointwise
  suffices hk : ∀ j : S2x2x2816.Idx, extractStridedSlice S2x2x2816 ![0, 8190, 0] up slices_S2x8192x5632_S2x2x2816_0_8190_0 j = keptNext up j from funext hk
  intro j
  idx_vars j
  exact at_ _ _ _

section

variable (m : (ℓ : Loc nD τ sig) → Buf (Elt Ideal) ℓ) (c : Dev nD)

/-- The launch's array, by batch entry and position. -/
theorem array_is : shapeCast S2x8192x1024 (resultRows m c) shapeCasts_S16384x1024_S2x8192x1024 = result m c := by
  have cast_at : ∀ (P : Vec Ideal S16384x1024 .f32) (b : Fin 2) (n : Fin 8192) (d : Fin 1024),
      shapeCast S2x8192x1024 P shapeCasts_S16384x1024_S2x8192x1024 (ix3 b n d) = P (ix2 ⟨b.val * 8192 + n.val, by omega⟩ d) := by
    intro P b n d
    pointwise
  have at_ : ∀ (b : Fin 2) (n : Fin 8192) (d : Fin 1024),
      shapeCast S2x8192x1024 (resultRows m c) shapeCasts_S16384x1024_S2x8192x1024 (ix3 b n d) = result m c (ix3 b n d) := by
    intro b n d
    refine (cast_at _ _ _ _).trans ?_
    have hb : (⟨(b.val * 8192 + n.val) / 8192, by omega⟩ : Fin 2) = b := Fin.ext (by show (b.val * 8192 + n.val) / 8192 = b.val; omega)
    have hn : (⟨(b.val * 8192 + n.val) % 8192, by omega⟩ : Fin 8192) = n := Fin.ext (by show (b.val * 8192 + n.val) % 8192 = n.val; omega)
    show result m c (ix3 ⟨(b.val * 8192 + n.val) / 8192, _⟩ ⟨(b.val * 8192 + n.val) % 8192, _⟩ d) = _
    rw [hb, hn]
  suffices hk : ∀ j : S2x8192x1024.Idx, shapeCast S2x8192x1024 (resultRows m c) shapeCasts_S16384x1024_S2x8192x1024 j = result m c j from funext hk
  intro j
  idx_vars j
  exact at_ _ _ _

/-- What follows the launch arranges its array and cuts the positions to keep out of the projection. -/
theorem tail_is (U : Valuation τ sig (Elt Ideal)) :
    StableHlo.after hostOps1 U (Proc.devRef .tc main_v13) = shapeCast S2x8192x1024 (U (Proc.devRef .tc main_v12)) shapeCasts_S16384x1024_S2x8192x1024
    ∧ StableHlo.after hostOps1 U (Proc.devRef .tc main_v14)
        = extractStridedSlice S2x2x2816 ![0, 8190, 0] (U (Proc.devRef .tc main_arg1)) slices_S2x8192x5632_S2x2x2816_0_8190_0 := by
  unfold hostOps1
  refine ⟨?_, ?_⟩ <;> (after_results_simp <;> rfl)

/-- The array after the launch, by batch entry and position. -/
theorem array_after : shapeCast S2x8192x1024
    (Pipeline.withArrays spec0 c (V0 m c) (fun w => (dats m 0 c).arrAt w (cfgs 0).N) (Proc.devRef .tc main_v12)) shapeCasts_S16384x1024_S2x8192x1024 = result m c :=
  (congrArg (fun P : Vec Ideal S16384x1024 .f32 => shapeCast S2x8192x1024 P shapeCasts_S16384x1024_S2x8192x1024)
    ((Pipeline.withArrays_arr spec0 (by decide) c (V0 m c) (fun w => (dats m 0 c).arrAt w (cfgs 0).N) 7).trans (launched m c))).trans (array_is m c)

/-- The projection after the launch is the argument: no window is its array. -/
theorem up_after : Pipeline.withArrays spec0 c (V0 m c) (fun w => (dats m 0 c).arrAt w (cfgs 0).N) (Proc.devRef .tc main_arg1)
    = m ((c.tc : Thread nD τ).loc main_arg1) :=
  (Pipeline.withArrays_of_ne spec0 c (V0 m c) (fun w => (dats m 0 c).arrAt w (cfgs 0).N) main_arg1 (by decide)).trans (V_main_arg1 m c)

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

end

/-- The kernel's run ends with the result and the positions to keep. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_v14) = keptNext (m ((c.tc : Thread nD τ).loc main_arg1)) ∧ Kept m c r.2) := by
  refine (θ_run defs _ _).mono (fun r h c => ?_) (run_main (F := Ideal) m ρ)
  have hb : ∀ b : Ref sig .tc, b ∈ Pipeline.restRefs sig spec0 → r.2.mem ((c.tc : Thread nD τ).loc b)
      = StableHlo.after hostOps1 (Pipeline.withArrays spec0 c (V0 m c) (fun w => (dats m 0 c).arrAt w (cfgs 0).N)) (Proc.devRef .tc b) :=
    fun b hm => ((h c).2 b hm).trans (after_tail m c b)
  obtain ⟨h0, h1⟩ := tail_is (Pipeline.withArrays spec0 c (V0 m c) (fun w => (dats m 0 c).arrAt w (cfgs 0).N))
  exact ⟨(hb main_v13 (Pipeline.mem_restRefs_of main_v13 (by decide) (by decide))).trans (h0.trans (array_after m c)),
    (hb main_v14 (Pipeline.mem_restRefs_of main_v14 (by decide) (by decide))).trans (h1.trans
      ((congrArg (fun P : Vec Ideal S2x8192x5632 .f32 => extractStridedSlice S2x2x2816 ![0, 8190, 0] P slices_S2x8192x5632_S2x2x2816_0_8190_0) (up_after m c)).trans
        (slice_is _))),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩

end Cert.KernelDownIdeal.Down

namespace Cert.ReferenceDownIdeal.Down

open Idealize.ShloMosaic Idealize.ShloMosaic.TcCoe Idealize.SL.Sem
open Cert.ReferenceDownIdeal Cert.ReferenceDownIdeal.Gen
open Cert.KernelDownIdeal.Down (act conv past hidden ffn result keptNext)

/-- The reference's columns after the two kept positions. -/
abbrev refPast (up : FVec Ideal S2x8192x5632 .f32) (buf : FVec Ideal S2x2x2816 .f32) : FVec Ideal S2x8194x2816 .f32 :=
  concatenate S2x8194x2816 1 [⟨S2x2x2816, buf⟩, ⟨S2x8192x2816, extractStridedSlice S2x8192x2816 ![0, 0, 0] up slices_S2x8192x5632_S2x8192x2816_0_0_0⟩]
    concatenates_S2x2x2816_S2x8192x2816_S2x8194x2816_d1

theorem past_at (up : FVec Ideal S2x8192x5632 .f32) (buf : FVec Ideal S2x2x2816 .f32) (b : Fin 2) (e : Fin 8194) (o : Fin 2816) :
    refPast up buf (ix3 b e o) = past up buf b e o := by
  unfold refPast past
  pointwise

/-- A row of the convolution's weight, at every position. -/
abbrev tap (w : FVec Ideal S3x2816 .f32) (k : ℕ) (h : S3x2816.Slices ![k, 0] S1x2816) : FVec Ideal S2x8192x2816 .f32 :=
  broadcastInDim S2x8192x2816 ![0, 1, 2] bcast_S1x1x2816_S2x8192x2816_0_1_2 (broadcastInDim S1x1x2816 ![2] bcast_S2816_S1x1x2816_2
    (shapeCast S2816 (extractStridedSlice S1x2816 ![k, 0] w h) shapeCasts_S1x2816_S2816))

/-- The reference's convolution. -/
abbrev refConv (P : FVec Ideal S2x8194x2816 .f32) (w : FVec Ideal S3x2816 .f32) (cb : FVec Ideal S2816 .f32) : FVec Ideal S2x8192x2816 .f32 :=
  addf (broadcastInDim S2x8192x2816 ![0, 1, 2] bcast_S1x1x2816_S2x8192x2816_0_1_2 (broadcastInDim S1x1x2816 ![2] bcast_S2816_S1x1x2816_2 cb))
    (addf (addf (addf (broadcastInDim S2x8192x2816 ![] bcast_S_S2x8192x2816 (constant S_ .f32 0x00000000#32))
        (mulf (extractStridedSlice S2x8192x2816 ![0, 0, 0] P slices_S2x8194x2816_S2x8192x2816_0_0_0) (tap w 0 slices_S3x2816_S1x2816_0_0)))
        (mulf (extractStridedSlice S2x8192x2816 ![0, 1, 0] P slices_S2x8194x2816_S2x8192x2816_0_1_0) (tap w 1 slices_S3x2816_S1x2816_1_0)))
      (mulf (extractStridedSlice S2x8192x2816 ![0, 2, 0] P slices_S2x8194x2816_S2x8192x2816_0_2_0) (tap w 2 slices_S3x2816_S1x2816_2_0)))

/-- The reference's activation. -/
abbrev refAct (y : FVec Ideal S2x8192x2816 .f32) : FVec Ideal S2x8192x2816 .f32 :=
  mulf y (Host.divf (broadcastInDim S2x8192x2816 ![] bcast_S_S2x8192x2816 (constant S_ .f32 0x3F800000#32))
    (addf (broadcastInDim S2x8192x2816 ![] bcast_S_S2x8192x2816 (constant S_ .f32 0x3F800000#32)) (Host.exp (Host.negf y))))

/-- The reference's result. -/
abbrev refOut (x : FVec Ideal S2x8192x1024 .f32) (z : FVec Ideal S2x8192x2816 .f32) (up : FVec Ideal S2x8192x5632 .f32) (W : FVec Ideal S2816x1024 .f32) :
    FVec Ideal S2x8192x1024 .f32 :=
  addf x (Host.dotGeneral dot_S2x8192x2816_S2816x1024_S2x8192x1024_2_0_01_1_n_n none
    (mulf z (extractStridedSlice S2x8192x2816 ![0, 0, 2816] up slices_S2x8192x5632_S2x8192x2816_0_0_2816)) W)

/-- The two orders of the convolution's sum. -/
theorem reorder (c p0 w0 p1 w1 p2 w2 : EReal) : c + (p0 * w0 + p1 * w1 + p2 * w2) = c + w2 * p2 + w1 * p1 + w0 * p0 := by
  rw [mul_comm p0 w0, mul_comm p1 w1, mul_comm p2 w2]
  ac_rfl

theorem conv_at (P : FVec Ideal S2x8194x2816 .f32) (w : FVec Ideal S3x2816 .f32) (cb : FVec Ideal S2816 .f32) (b : Fin 2) (n : Fin 8192) (o : Fin 2816) :
    refConv P w cb (ix3 b n o) = conv (cb (ix1 o)) (w (ix2 2 o)) (P (ix3 b ⟨n.val + 2, by omega⟩ o)) (w (ix2 1 o)) (P (ix3 b ⟨n.val + 1, by omega⟩ o))
      (w (ix2 0 o)) (P (ix3 b ⟨n.val, by omega⟩ o)) := by
  have h1 : (⟨n.val + 1, by omega⟩ : Fin 8194) = ⟨1 + n.val, by omega⟩ := Fin.ext (Nat.add_comm _ _)
  have h2 : (⟨n.val + 2, by omega⟩ : Fin 8194) = ⟨2 + n.val, by omega⟩ := Fin.ext (Nat.add_comm _ _)
  unfold refConv tap conv
  rw [h1, h2]
  pointwise
  exact reorder _ _ _ _ _ _ _

theorem act_at (y : FVec Ideal S2x8192x2816 .f32) (b : Fin 2) (n : Fin 8192) (o : Fin 2816) : refAct y (ix3 b n o) = act (y (ix3 b n o)) := by
  unfold refAct act
  pointwise
  rfl

theorem out_at (x : FVec Ideal S2x8192x1024 .f32) (z : FVec Ideal S2x8192x2816 .f32) (up : FVec Ideal S2x8192x5632 .f32) (W : FVec Ideal S2816x1024 .f32)
    (b : Fin 2) (n : Fin 8192) (d : Fin 1024) :
    refOut x z up W (ix3 b n d) = (x (ix3 b n d) + ∑ o : Fin 2816, (z (ix3 b n o) * up (ix3 b n ⟨2816 + o.val, by omega⟩) * W (ix2 o d) : EReal) : EReal) := by
  unfold refOut
  pointwise

/-- The reference computes the same result. -/
theorem ffn_is (x : FVec Ideal S2x8192x1024 .f32) (up : FVec Ideal S2x8192x5632 .f32) (buf : FVec Ideal S2x2x2816 .f32) (w : FVec Ideal S3x2816 .f32)
    (cb : FVec Ideal S2816 .f32) (W : FVec Ideal S2816x1024 .f32) :
    refOut x (refAct (refConv (refPast up buf) w cb)) up W = ffn x up buf w cb W := by
  have at_ : ∀ (b : Fin 2) (n : Fin 8192) (d : Fin 1024),
      refOut x (refAct (refConv (refPast up buf) w cb)) up W (ix3 b n d) = ffn x up buf w cb W (ix3 b n d) := by
    intro b n d
    refine (out_at _ _ _ _ b n d).trans ?_
    refine congrArg (fun s : EReal => x (ix3 b n d) + s) (Finset.sum_congr (M := EReal) rfl fun o _ => ?_)
    refine congrArg (fun s : EReal => s * up (ix3 b n ⟨2816 + o.val, by omega⟩) * W (ix2 o d)) ?_
    refine (act_at _ b n o).trans (congrArg act ((conv_at _ w cb b n o).trans ?_))
    have hown : past up buf b ⟨n.val + 2, by omega⟩ o = up (ix3 b n ⟨o.val, by omega⟩) := by
      unfold past
      rw [dif_neg (show ¬n.val + 2 < 2 by omega)]
      rfl
    rw [past_at, past_at, past_at, hown]
    rfl
  suffices hk : ∀ j : S2x8192x1024.Idx, refOut x (refAct (refConv (refPast up buf) w cb)) up W j = ffn x up buf w cb W j from funext hk
  intro j
  idx_vars j
  exact at_ _ _ _

/-- The reference keeps the same two positions. -/
theorem kept_is (up : FVec Ideal S2x8192x5632 .f32) (buf : FVec Ideal S2x2x2816 .f32) :
    extractStridedSlice S2x2x2816 ![0, 8192, 0] (refPast up buf) slices_S2x8194x2816_S2x2x2816_0_8192_0 = keptNext up := by
  have cut : ∀ (P : FVec Ideal S2x8194x2816 .f32) (b n : Fin 2) (o : Fin 2816),
      extractStridedSlice S2x2x2816 ![0, 8192, 0] P slices_S2x8194x2816_S2x2x2816_0_8192_0 (ix3 b n o) = P (ix3 b ⟨8192 + n.val, by omega⟩ o) := by
    intro P b n o
    pointwise
  have at_ : ∀ (b n : Fin 2) (o : Fin 2816),
      extractStridedSlice S2x2x2816 ![0, 8192, 0] (refPast up buf) slices_S2x8194x2816_S2x2x2816_0_8192_0 (ix3 b n o) = keptNext up (ix3 b n o) := by
    intro b n o
    refine (cut _ b n o).trans ((past_at _ _ _ _ _).trans ?_)
    unfold past
    rw [dif_neg (show ¬8192 + n.val < 2 by omega)]
    show up _ = up _
    congr 2
    apply Fin.ext
    show 8192 + n.val - 2 = 8190 + n.val
    omega
  suffices hk : ∀ j : S2x2x2816.Idx,
      extractStridedSlice S2x2x2816 ![0, 8192, 0] (refPast up buf) slices_S2x8194x2816_S2x2x2816_0_8192_0 j = keptNext up j from funext hk
  intro j
  idx_vars j
  exact at_ _ _ _

/-- The kernel and the reference end with the same results. -/
theorem algebraic : Cert.algebraic_KernelDownIdeal_ReferenceDownIdeal := by
  intro m g m' g' _ hin
  refine ⟨fun c => result m c, fun c => keptNext (m ((c.tc : Thread Cert.KernelDownIdeal.nD Cert.KernelDownIdeal.τ).loc Cert.KernelDownIdeal.main_arg1)),
    Cert.KernelDownIdeal.Down.run_kernel m g, ?_⟩
  refine (θ_run defs _ _).mono (fun r h c => ?_) (Cert.ReferenceDownIdeal.Value.run (F := Ideal) m' g')
  obtain ⟨h0, h1, hk⟩ := h c
  obtain ⟨e0, e1, e2, e3, e4, e5⟩ := hin c
  refine ⟨h0.trans ?_, h1.trans ?_, hk⟩
  · refine (ffn_is (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5))).trans ?_
    rw [e0, e1, e2, e3, e4, e5]
    rfl
  · refine (kept_is (m' ((c.tc : Thread nD τ).loc main_arg1)) (m' ((c.tc : Thread nD τ).loc main_arg2))).trans ?_
    rw [e1]

end Cert.ReferenceDownIdeal.Down

end
-- ==== Proof.Merge.Frames.lean ====
/- The three frames of the merge of the branches: one run of the kernel for both of its instances, and the reference's run. -/
module

public import proofs.«01_k».proof.Defs
public import proofs.«01_k».proof.Proof.Gen.KernelMerge
public import proofs.«01_k».proof.Proof.Gen.KernelMergeIdeal
public import proofs.«01_k».proof.Proof.Gen.KernelMergeIdeal.Frame
public import proofs.«01_k».proof.Proof.Gen.ReferenceMergeIdeal
public import proofs.«01_k».proof.Proof.Gen.ReferenceMergeIdeal.Run
public import Idealize.ShloMosaic.Lib.Quiescent

@[expose] public section

noncomputable section

namespace Cert.KernelMergeIdeal.Merge

open Idealize.ShloMosaic Idealize.ShloMosaic.TcCoe Idealize.SL.Sem
open Cert.KernelMergeIdeal.Gen

variable {F : FTy → Type} [FloatOps F]

/-- A final state leaves the eight arguments as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)

/-- The kernel's frame speaks of the idealized kernel's text read at the machine's floats. -/
theorem kernel_text : Cert.quiescent_KernelMerge =
    ∀ (m : (ℓ : Loc nD τ sig) → Buf (Elt Bits) ℓ) (ρ : Dev nD → PrngReg), Cert.Pre_KernelMerge m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelMerge :=
  kernel_text.mpr fun m ρ _ => frame (F := Bits) m ρ

/-- The idealized kernel's frame: the same run at the ideal instance. -/
theorem frame_kernelIdeal : Cert.quiescent_KernelMergeIdeal := fun m ρ _ => frame (F := Ideal) m ρ

/-- The reference's frame: its run, which declares no semaphore. -/
theorem frame_referenceIdeal : Cert.quiescent_ReferenceMergeIdeal := fun m ρ _ =>
  (θ_run Cert.ReferenceMergeIdeal.defs _ _).mono
    (fun r h => ⟨fun c => (h c).2, Idealize.ShloMosaic.sem_eq_zero_of_no_sems (by decide) r.2⟩)
    (Cert.ReferenceMergeIdeal.Value.run (F := Ideal) m ρ)

end Cert.KernelMergeIdeal.Merge

end
-- ==== Proof.Merge.Point.lean ====
/- What a grid point of the merge leaves: its rows' four gated products, summed, times the output weight. -/
module

public import proofs.«01_k».proof.Proof.Gen.KernelMergeIdeal
public import proofs.«01_k».proof.Proof.Gen.KernelMergeIdeal.Frame
public import Idealize.ShloMosaic.Lib.Pipeline.ValueKit
public import Idealize.ShloMosaic.Lib.Pointwise

@[expose] public section

noncomputable section

namespace Cert.KernelMergeIdeal.Merge

open Idealize.ShloMosaic Idealize.ShloMosaic.TcCoe
open Cert.KernelMergeIdeal.Gen

/-- A branch's product under its gate. -/
def gated (g : EReal) (o w : Fin 256 → EReal) : EReal := Ideal.logistic g * (∑ k : Fin 256, (o k * w k : EReal) : EReal)

/-- Gated products of the same gate, row and weight are the same. -/
theorem gated_congr {g g' : EReal} {o o' w w' : Fin 256 → EReal} (hg : g = g') (ho : ∀ k, o k = o' k) (hw : ∀ k, w k = w' k) : gated g o w = gated g' o' w' := by
  rw [hg, funext ho, funext hw]

/-- The first three branches of a block, at a row and a lane. -/
theorem pay2_read (a0 : Vec Ideal S256x256 .f32) (w0 : Vec Ideal S1x256x1024 .bf16) (g0 : Vec Ideal S256x1024 .f32)
    (a1 : Vec Ideal S256x256 .f32) (w1 : Vec Ideal S1x256x1024 .bf16) (g1 : Vec Ideal S256x1024 .f32)
    (a2 : Vec Ideal S256x256 .f32) (w2 : Vec Ideal S1x256x1024 .bf16) (g2 : Vec Ideal S256x1024 .f32) (i : Fin 256) (e : Fin 1024) :
    (k0_pay2 a0 w0 g0 a1 w1 g1 a2 w2 g2 : Vec Ideal S256x1024 .f32) (ix2 i e)
      = (gated (g0 (ix2 i e)) (fun k => a0 (ix2 i k)) (fun k => w0 (ix3 0 k e)) + gated (g1 (ix2 i e)) (fun k => a1 (ix2 i k)) (fun k => w1 (ix3 0 k e))
        + gated (g2 (ix2 i e)) (fun k => a2 (ix2 i k)) (fun k => w2 (ix3 0 k e)) : EReal) := by
  unfold k0_pay2 gated
  pointwise

/-- A block's output at a row and a column, of the sum of the first three branches and the fourth. -/
theorem pay1_read (S : Vec Ideal S256x1024 .f32) (a : Vec Ideal S256x256 .f32) (w : Vec Ideal S1x256x1024 .bf16) (g : Vec Ideal S256x1024 .f32)
    (x : Vec Ideal S256x1024 .f32) (W : Vec Ideal S1024x1024 .bf16) (i : Fin 256) (d : Fin 1024) :
    (k0_pay1 S a w g x W : Vec Ideal S256x1024 .f32) (ix2 i d)
      = (x (ix2 i d) + ∑ e : Fin 1024, ((S (ix2 i e) + gated (g (ix2 i e)) (fun k => a (ix2 i k)) (fun k => w (ix3 0 k e)) : EReal) * W (ix2 e d) : EReal) : EReal) := by
  unfold k0_pay1 gated
  pointwise

/-- What a point computes from its blocks: the four branches, the gates' columns, the weights and the input. -/
def point (o0 o1 o2 o3 : Vec Ideal S256x256 .f32) (P : Vec Ideal S256x4096 .f32) (w : Vec Ideal S4x256x1024 .bf16) (W : Vec Ideal S1024x1024 .bf16)
    (x : Vec Ideal S256x1024 .f32) : Vec Ideal S256x1024 .f32 :=
  k0_pay1
    (k0_pay2 o0 (View.ld w (Rect.unit ![0, 0, 0] S1x256x1024.size inb_S4x256x1024_S1x256x1024_0_0_0))
      (View.ld P (Rect.unit ![0, 0] S256x1024.size inb_S256x4096_S256x1024_0_0))
      o1 (View.ld w (Rect.unit ![1, 0, 0] S1x256x1024.size inb_S4x256x1024_S1x256x1024_1_0_0))
      (View.ld P (Rect.unit ![0, 1024] S256x1024.size inb_S256x4096_S256x1024_0_1024))
      o2 (View.ld w (Rect.unit ![2, 0, 0] S1x256x1024.size inb_S4x256x1024_S1x256x1024_2_0_0))
      (View.ld P (Rect.unit ![0, 2048] S256x1024.size inb_S256x4096_S256x1024_0_2048)))
    o3 (View.ld w (Rect.unit ![3, 0, 0] S1x256x1024.size inb_S4x256x1024_S1x256x1024_3_0_0))
    (View.ld P (Rect.unit ![0, 3072] S256x1024.size inb_S256x4096_S256x1024_0_3072)) x W

/-- A branch's weight, as a point loads it. -/
theorem weight_at (w : Vec Ideal S4x256x1024 .bf16) (n : Fin 4) (h : ∀ a, (![n.val, 0, 0] : Fin 3 → ℕ) a + S1x256x1024.size a ≤ S4x256x1024.size a)
    (k : Fin 256) (e : Fin 1024) :
    (View.ld w (Rect.unit ![n.val, 0, 0] S1x256x1024.size h) : Vec Ideal S1x256x1024 .bf16) (ix3 0 k e) = w (ix3 n k e) :=
  View.ld_unit_apply_of w _ _ _ _ _ (by intro a; fin_cases a <;> simp)

/-- A branch's gate, as a point loads it. -/
theorem gate_at (P : Vec Ideal S256x4096 .f32) (o : ℕ) (h : ∀ a, (![0, o] : Fin 2 → ℕ) a + S256x1024.size a ≤ S256x4096.size a)
    (i : Fin 256) (e : Fin 1024) (he : o + e.val < 4096) :
    (View.ld P (Rect.unit ![0, o] S256x1024.size h) : Vec Ideal S256x1024 .f32) (ix2 i e) = P (ix2 i ⟨o + e.val, he⟩) :=
  View.ld_unit_apply_of P _ _ _ _ _ (by intro a; fin_cases a <;> simp)

/-- A point's output at a row and a column. -/
theorem point_read (o0 o1 o2 o3 : Vec Ideal S256x256 .f32) (P : Vec Ideal S256x4096 .f32) (w : Vec Ideal S4x256x1024 .bf16) (W : Vec Ideal S1024x1024 .bf16)
    (x : Vec Ideal S256x1024 .f32) (i : Fin 256) (d : Fin 1024) :
    point o0 o1 o2 o3 P w W x (ix2 i d) = (x (ix2 i d) + ∑ e : Fin 1024,
      ((gated (P (ix2 i ⟨0 + e.val, by omega⟩)) (fun k => o0 (ix2 i k)) (fun k => w (ix3 0 k e))
        + gated (P (ix2 i ⟨1024 + e.val, by omega⟩)) (fun k => o1 (ix2 i k)) (fun k => w (ix3 1 k e))
        + gated (P (ix2 i ⟨2048 + e.val, by omega⟩)) (fun k => o2 (ix2 i k)) (fun k => w (ix3 2 k e))
        + gated (P (ix2 i ⟨3072 + e.val, by omega⟩)) (fun k => o3 (ix2 i k)) (fun k => w (ix3 3 k e)) : EReal) * W (ix2 e d) : EReal) : EReal) := by
  unfold point
  refine (pay1_read _ _ _ _ _ _ i d).trans ?_
  refine congrArg (fun s : EReal => x (ix2 i d) + s) (Finset.sum_congr (M := EReal) rfl fun e _ => ?_)
  rw [pay2_read, gate_at P 0 _ i e (by omega), gate_at P 1024 _ i e (by omega), gate_at P 2048 _ i e (by omega), gate_at P 3072 _ i e (by omega)]
  have w0 := fun k => weight_at w 0 inb_S4x256x1024_S1x256x1024_0_0_0 k e
  have w1 := fun k => weight_at w 1 inb_S4x256x1024_S1x256x1024_1_0_0 k e
  have w2 := fun k => weight_at w 2 inb_S4x256x1024_S1x256x1024_2_0_0 k e
  have w3 := fun k => weight_at w 3 inb_S4x256x1024_S1x256x1024_3_0_0 k e
  exact congrArg (fun s : EReal => s * W (ix2 e d)) (congrArg₂ (fun a b : EReal => a + b) (congrArg₂ (fun a b : EReal => a + b)
    (congrArg₂ (fun a b : EReal => a + b) (gated_congr rfl (fun _ => rfl) w0) (gated_congr rfl (fun _ => rfl) w1)) (gated_congr rfl (fun _ => rfl) w2))
    (gated_congr rfl (fun _ => rfl) w3))

/-- What a point's store leaves is what it computes from its blocks. -/
theorem out_is (m : (ℓ : Loc nD τ sig) → Buf (Elt Ideal) ℓ) (c : Dev nD) (t : Fin cfg0.N) : outsAt0 m c t
    = point (iblk m c 0 t) (iblk m c 1 t) (iblk m c 2 t) (iblk m c 3 t) (X0_4 m c t) (iblk m c 5 t) (iblk m c 6 t) (iblk m c 7 t) := by
  unfold outsAt0
  frame_out
  rfl

end Cert.KernelMergeIdeal.Merge

end
-- ==== Proof.Merge.Launch.lean ====
/- What the launch of the merge leaves: every position's input plus its gated branches times the output weight. -/
module

public import proofs.«01_k».proof.Proof.Merge.Point
public import Idealize.ShloMosaic.Lib.StableHlo.ReadAt

@[expose] public section

noncomputable section

namespace Cert.KernelMergeIdeal.Merge

open Idealize.ShloMosaic Idealize.ShloMosaic.TcCoe
open Cert.KernelMergeIdeal.Gen

/-- A position's four gated branches, summed, at a lane. -/
def mixed (o0 o1 o2 o3 : Vec Ideal S2x8192x256 .f32) (P : Vec Ideal S2x8192x8064 .f32) (w : Vec Ideal S4x256x1024 .f32) (b : Fin 2) (n : Fin 8192)
    (e : Fin 1024) : EReal :=
  gated (P (ix3 b n ⟨0 + e.val, by omega⟩)) (fun k => o0 (ix3 b n k)) (fun k => w (ix3 0 k e))
    + gated (P (ix3 b n ⟨1024 + e.val, by omega⟩)) (fun k => o1 (ix3 b n k)) (fun k => w (ix3 1 k e))
    + gated (P (ix3 b n ⟨2048 + e.val, by omega⟩)) (fun k => o2 (ix3 b n k)) (fun k => w (ix3 2 k e))
    + gated (P (ix3 b n ⟨3072 + e.val, by omega⟩)) (fun k => o3 (ix3 b n k)) (fun k => w (ix3 3 k e))

/-- The input plus every position's gated branches times the output weight. -/
def merged (x : Vec Ideal S2x8192x1024 .f32) (o0 o1 o2 o3 : Vec Ideal S2x8192x256 .f32) (P : Vec Ideal S2x8192x8064 .f32)
    (w : Vec Ideal S4x256x1024 .f32) (W : Vec Ideal S1024x1024 .f32) : Vec Ideal S2x8192x1024 .f32 :=
  fun j => (x (ix3 (j 0) (j 1) (j 2)) + ∑ e : Fin 1024, (mixed o0 o1 o2 o3 P w (j 0) (j 1) e * W (ix2 e (j 2)) : EReal) : EReal)

theorem index_0 : ∀ t : Fin cfg0.N, win0_0.index t 0 = t.val ∧ win0_0.index t 1 = 0 := by decide +kernel

theorem index_1 : ∀ t : Fin cfg0.N, win0_1.index t 0 = t.val ∧ win0_1.index t 1 = 0 := by decide +kernel

theorem index_2 : ∀ t : Fin cfg0.N, win0_2.index t 0 = t.val ∧ win0_2.index t 1 = 0 := by decide +kernel

theorem index_3 : ∀ t : Fin cfg0.N, win0_3.index t 0 = t.val ∧ win0_3.index t 1 = 0 := by decide +kernel

theorem index_4 : ∀ t : Fin cfg0.N, win0_4.index t 0 = t.val ∧ win0_4.index t 1 = 0 := by decide +kernel

theorem index_5 : ∀ t : Fin cfg0.N, win0_5.index t 0 = 0 ∧ win0_5.index t 1 = 0 ∧ win0_5.index t 2 = 0 := by decide +kernel

theorem index_6 : ∀ t : Fin cfg0.N, win0_6.index t 0 = 0 ∧ win0_6.index t 1 = 0 := by decide +kernel

theorem index_7 : ∀ t : Fin cfg0.N, win0_7.index t 0 = t.val ∧ win0_7.index t 1 = 0 := by decide +kernel

theorem index_8 : ∀ t : Fin cfg0.N, win0_8.index t 0 = t.val ∧ win0_8.index t 1 = 0 := by decide +kernel

theorem covers_8 : (cfg0.win 8).Covers := by decide +kernel

theorem t_lt (t : Fin cfg0.N) : t.val < 64 := t.isLt

theorem row_lt (t : Fin cfg0.N) (i : Fin 256) : 256 * t.val + i.val < 16384 := by
  have ht := t_lt t
  have hi := i.isLt
  omega

theorem read_0 (A : Vec Ideal S16384x256 .f32) (t : Fin cfg0.N) (i k : Fin 256) :
    ((cfg0.win 0).blk t).view.read (Elt Ideal) A (ix2 i k) = A (ix2 ⟨256 * t.val + i.val, row_lt t i⟩ k) := by
  blk_ext [index_0 t]

theorem read_1 (A : Vec Ideal S16384x256 .f32) (t : Fin cfg0.N) (i k : Fin 256) :
    ((cfg0.win 1).blk t).view.read (Elt Ideal) A (ix2 i k) = A (ix2 ⟨256 * t.val + i.val, row_lt t i⟩ k) := by
  blk_ext [index_1 t]

theorem read_2 (A : Vec Ideal S16384x256 .f32) (t : Fin cfg0.N) (i k : Fin 256) :
    ((cfg0.win 2).blk t).view.read (Elt Ideal) A (ix2 i k) = A (ix2 ⟨256 * t.val + i.val, row_lt t i⟩ k) := by
  blk_ext [index_2 t]

theorem read_3 (A : Vec Ideal S16384x256 .f32) (t : Fin cfg0.N) (i k : Fin 256) :
    ((cfg0.win 3).blk t).view.read (Elt Ideal) A (ix2 i k) = A (ix2 ⟨256 * t.val + i.val, row_lt t i⟩ k) := by
  blk_ext [index_3 t]

theorem read_5 (A : Vec Ideal S4x256x1024 .bf16) (t : Fin cfg0.N) (n : Fin 4) (k : Fin 256) (e : Fin 1024) :
    ((cfg0.win 5).blk t).view.read (Elt Ideal) A (ix3 n k e) = A (ix3 n k e) := by
  blk_ext [index_5 t]

theorem read_6 (A : Vec Ideal S1024x1024 .bf16) (t : Fin cfg0.N) (e d : Fin 1024) :
    ((cfg0.win 6).blk t).view.read (Elt Ideal) A (ix2 e d) = A (ix2 e d) := by
  blk_ext [index_6 t]

theorem read_7 (A : Vec Ideal S16384x1024 .f32) (t : Fin cfg0.N) (i : Fin 256) (d : Fin 1024) :
    ((cfg0.win 7).blk t).view.read (Elt Ideal) A (ix2 i d) = A (ix2 ⟨256 * t.val + i.val, row_lt t i⟩ d) := by
  blk_ext [index_7 t]

section

variable (m : (ℓ : Loc nD τ sig) → Buf (Elt Ideal) ℓ) (c : Dev nD)

/-- The gates' block is whole at every point: the columns after the gates are not reached. -/
theorem gates_read (t : Fin cfg0.N) (i : Fin 256) (e : Fin 4096) :
    (X0_4 m c t : Vec Ideal S256x4096 .f32) (ix2 i e)
      = (V m c main_v5 : Vec Ideal S16384x8064 .f32) (ix2 ⟨256 * t.val + i.val, row_lt t i⟩ ⟨e.val, by omega⟩) := by
  unfold X0_4 Pipeline.Window.fill
  rw [dif_pos (moved0_4 t (ix2 i e))]
  unfold iblk
  blk_ext [index_4 t]

/-- The merge on the arguments. -/
def result : Vec Ideal S2x8192x1024 .f32 :=
  merged (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The same, position by position of the launch's array. -/
def resultRows : Vec Ideal S16384x1024 .f32 :=
  fun j => result m c (ix3 ⟨(j 0).val / 8192, by have := (j 0).isLt; change (j 0).val < 16384 at this; omega⟩
    ⟨(j 0).val % 8192, by omega⟩ (j 1))

theorem pos_lt (t : Fin cfg0.N) (i : Fin 256) : 256 * (t.val % 32) + i.val < 8192 := by
  have hi := i.isLt
  omega

theorem entry_lt (t : Fin cfg0.N) : t.val / 32 < 2 := by
  have ht := t_lt t
  omega

theorem place (t : Fin cfg0.N) (i : Fin 256) (h : (256 * t.val + i.val) / 8192 < 2) (h' : (256 * t.val + i.val) % 8192 < 8192) :
    (⟨(256 * t.val + i.val) / 8192, h⟩ : Fin 2) = ⟨t.val / 32, entry_lt t⟩
    ∧ (⟨(256 * t.val + i.val) % 8192, h'⟩ : Fin 8192) = ⟨256 * (t.val % 32) + i.val, pos_lt t i⟩ := by
  have hi := i.isLt
  constructor
  · apply Fin.ext
    show (256 * t.val + i.val) / 8192 = t.val / 32
    omega
  · apply Fin.ext
    show (256 * t.val + i.val) % 8192 = 256 * (t.val % 32) + i.val
    omega

/-- A batch entry's array at a row of the launch is its array at the row's position. -/
theorem at_place {S : ℕ} (A : (Fin 2) → (Fin 8192) → Fin S → EReal) (t : Fin cfg0.N) (i : Fin 256) (h : (256 * t.val + i.val) / 8192 < 2)
    (h' : (256 * t.val + i.val) % 8192 < 8192) (k : Fin S) :
    A ⟨(256 * t.val + i.val) / 8192, h⟩ ⟨(256 * t.val + i.val) % 8192, h'⟩ k = A ⟨t.val / 32, entry_lt t⟩ ⟨256 * (t.val % 32) + i.val, pos_lt t i⟩ k := by
  rw [(place t i h h').1, (place t i h h').2]

theorem x_entry (r : Fin 16384) (k : Fin 1024) : (V m c main_v0 : Vec Ideal S16384x1024 .f32) (ix2 r k)
    = (m ((c : Thread nD τ).loc main_arg0) : Vec Ideal S2x8192x1024 .f32) (ix3 ⟨r.val / 8192, by omega⟩ ⟨r.val % 8192, by omega⟩ k) := by
  unfold V
  after_reads_at

theorem o0_entry (r : Fin 16384) (k : Fin 256) : (V m c main_v1 : Vec Ideal S16384x256 .f32) (ix2 r k)
    = (m ((c : Thread nD τ).loc main_arg1) : Vec Ideal S2x8192x256 .f32) (ix3 ⟨r.val / 8192, by omega⟩ ⟨r.val % 8192, by omega⟩ k) := by
  unfold V
  after_reads_at

theorem o1_entry (r : Fin 16384) (k : Fin 256) : (V m c main_v2 : Vec Ideal S16384x256 .f32) (ix2 r k)
    = (m ((c : Thread nD τ).loc main_arg2) : Vec Ideal S2x8192x256 .f32) (ix3 ⟨r.val / 8192, by omega⟩ ⟨r.val % 8192, by omega⟩ k) := by
  unfold V
  after_reads_at

theorem o2_entry (r : Fin 16384) (k : Fin 256) : (V m c main_v3 : Vec Ideal S16384x256 .f32) (ix2 r k)
    = (m ((c : Thread nD τ).loc main_arg3) : Vec Ideal S2x8192x256 .f32) (ix3 ⟨r.val / 8192, by omega⟩ ⟨r.val % 8192, by omega⟩ k) := by
  unfold V
  after_reads_at

theorem o3_entry (r : Fin 16384) (k : Fin 256) : (V m c main_v4 : Vec Ideal S16384x256 .f32) (ix2 r k)
    = (m ((c : Thread nD τ).loc main_arg4) : Vec Ideal S2x8192x256 .f32) (ix3 ⟨r.val / 8192, by omega⟩ ⟨r.val % 8192, by omega⟩ k) := by
  unfold V
  after_reads_at

theorem gates_entry (r : Fin 16384) (k : Fin 8064) : (V m c main_v5 : Vec Ideal S16384x8064 .f32) (ix2 r k)
    = (m ((c : Thread nD τ).loc main_arg5) : Vec Ideal S2x8192x8064 .f32) (ix3 ⟨r.val / 8192, by omega⟩ ⟨r.val % 8192, by omega⟩ k) := by
  unfold V
  after_reads_at

theorem branch_entry (n : Fin 4) (k : Fin 256) (e : Fin 1024) : (V m c main_v6 : Vec Ideal S4x256x1024 .bf16) (ix3 n k e)
    = (m ((c : Thread nD τ).loc main_arg6) : Vec Ideal S4x256x1024 .f32) (ix3 n k e) := by
  unfold V
  after_reads_at

theorem out_entry (e d : Fin 1024) : (V m c main_v7 : Vec Ideal S1024x1024 .bf16) (ix2 e d)
    = (m ((c : Thread nD τ).loc main_arg7) : Vec Ideal S1024x1024 .f32) (ix2 e d) := by
  unfold V
  after_reads_at

theorem x_at (t : Fin cfg0.N) (i : Fin 256) (k : Fin 1024) : (iblk m c 7 t : Vec Ideal S256x1024 .f32) (ix2 i k)
    = (m ((c : Thread nD τ).loc main_arg0) : Vec Ideal S2x8192x1024 .f32) (ix3 ⟨t.val / 32, entry_lt t⟩ ⟨256 * (t.val % 32) + i.val, pos_lt t i⟩ k) :=
  (read_7 _ t i k).trans ((x_entry m c _ _).trans
    (at_place (fun b n k => (m ((c : Thread nD τ).loc main_arg0) : Vec Ideal S2x8192x1024 .f32) (ix3 b n k)) t i _ _ _))

theorem o0_at (t : Fin cfg0.N) (i : Fin 256) (k : Fin 256) : (iblk m c 0 t : Vec Ideal S256x256 .f32) (ix2 i k)
    = (m ((c : Thread nD τ).loc main_arg1) : Vec Ideal S2x8192x256 .f32) (ix3 ⟨t.val / 32, entry_lt t⟩ ⟨256 * (t.val % 32) + i.val, pos_lt t i⟩ k) :=
  (read_0 _ t i k).trans ((o0_entry m c _ _).trans
    (at_place (fun b n k => (m ((c : Thread nD τ).loc main_arg1) : Vec Ideal S2x8192x256 .f32) (ix3 b n k)) t i _ _ _))

theorem o1_at (t : Fin cfg0.N) (i : Fin 256) (k : Fin 256) : (iblk m c 1 t : Vec Ideal S256x256 .f32) (ix2 i k)
    = (m ((c : Thread nD τ).loc main_arg2) : Vec Ideal S2x8192x256 .f32) (ix3 ⟨t.val / 32, entry_lt t⟩ ⟨256 * (t.val % 32) + i.val, pos_lt t i⟩ k) :=
  (read_1 _ t i k).trans ((o1_entry m c _ _).trans
    (at_place (fun b n k => (m ((c : Thread nD τ).loc main_arg2) : Vec Ideal S2x8192x256 .f32) (ix3 b n k)) t i _ _ _))

theorem o2_at (t : Fin cfg0.N) (i : Fin 256) (k : Fin 256) : (iblk m c 2 t : Vec Ideal S256x256 .f32) (ix2 i k)
    = (m ((c : Thread nD τ).loc main_arg3) : Vec Ideal S2x8192x256 .f32) (ix3 ⟨t.val / 32, entry_lt t⟩ ⟨256 * (t.val % 32) + i.val, pos_lt t i⟩ k) :=
  (read_2 _ t i k).trans ((o2_entry m c _ _).trans
    (at_place (fun b n k => (m ((c : Thread nD τ).loc main_arg3) : Vec Ideal S2x8192x256 .f32) (ix3 b n k)) t i _ _ _))

theorem o3_at (t : Fin cfg0.N) (i : Fin 256) (k : Fin 256) : (iblk m c 3 t : Vec Ideal S256x256 .f32) (ix2 i k)
    = (m ((c : Thread nD τ).loc main_arg4) : Vec Ideal S2x8192x256 .f32) (ix3 ⟨t.val / 32, entry_lt t⟩ ⟨256 * (t.val % 32) + i.val, pos_lt t i⟩ k) :=
  (read_3 _ t i k).trans ((o3_entry m c _ _).trans
    (at_place (fun b n k => (m ((c : Thread nD τ).loc main_arg4) : Vec Ideal S2x8192x256 .f32) (ix3 b n k)) t i _ _ _))

theorem gates_at (t : Fin cfg0.N) (i : Fin 256) (e : Fin 4096) : (X0_4 m c t : Vec Ideal S256x4096 .f32) (ix2 i e)
    = (m ((c : Thread nD τ).loc main_arg5) : Vec Ideal S2x8192x8064 .f32) (ix3 ⟨t.val / 32, entry_lt t⟩ ⟨256 * (t.val % 32) + i.val, pos_lt t i⟩ ⟨e.val, by omega⟩) :=
  (gates_read m c t i e).trans ((gates_entry m c _ _).trans
    (at_place (fun b n k => (m ((c : Thread nD τ).loc main_arg5) : Vec Ideal S2x8192x8064 .f32) (ix3 b n k)) t i _ _ _))

theorem rows_at (t : Fin cfg0.N) (i : Fin 256) (d : Fin 1024) :
    resultRows m c (ix2 ⟨256 * t.val + i.val, row_lt t i⟩ d) = result m c (ix3 ⟨t.val / 32, entry_lt t⟩ ⟨256 * (t.val % 32) + i.val, pos_lt t i⟩ d) :=
  at_place (fun b n k => result m c (ix3 b n k)) t i _ _ _

/-- What a point leaves, of the launch's arrays. -/
abbrev pointAt (t : Fin cfg0.N) : Vec Ideal S256x1024 .f32 :=
  point (iblk m c 0 t) (iblk m c 1 t) (iblk m c 2 t) (iblk m c 3 t) (X0_4 m c t) (iblk m c 5 t) (iblk m c 6 t) (iblk m c 7 t)

/-- What a point computes from its blocks is the result at its rows. -/
theorem left (t : Fin cfg0.N) (i : Fin 256) (d : Fin 1024) : pointAt m c t (ix2 i d) = resultRows m c (ix2 ⟨256 * t.val + i.val, row_lt t i⟩ d) := by
  refine ((point_read _ _ _ _ _ _ _ _ i d).trans ?_).trans (rows_at m c t i d).symm
  have hw : ∀ (n : Fin 4) (k : Fin 256) (e : Fin 1024), (iblk m c 5 t : Vec Ideal S4x256x1024 .bf16) (ix3 n k e)
      = (m ((c : Thread nD τ).loc main_arg6) : Vec Ideal S4x256x1024 .f32) (ix3 n k e) :=
    fun n k e => (read_5 _ t n k e).trans (branch_entry m c n k e)
  refine congrArg₂ (fun a b : EReal => a + b) (x_at m c t i d) (Finset.sum_congr (M := EReal) rfl fun e _ => ?_)
  refine congrArg₂ (fun a b : EReal => a * b) ?_ ((read_6 _ t e d).trans (out_entry m c e d))
  unfold mixed
  refine congrArg₂ (fun a b : EReal => a + b) (congrArg₂ (fun a b : EReal => a + b) (congrArg₂ (fun a b : EReal => a + b) ?_ ?_) ?_) ?_
  · exact gated_congr (gates_at m c t i _) (fun k => o0_at m c t i k) (fun k => hw 0 k e)
  · exact gated_congr (gates_at m c t i _) (fun k => o1_at m c t i k) (fun k => hw 1 k e)
  · exact gated_congr (gates_at m c t i _) (fun k => o2_at m c t i k) (fun k => hw 2 k e)
  · exact gated_congr (gates_at m c t i _) (fun k => o3_at m c t i k) (fun k => hw 3 k e)

/-- The array after the launch. -/
theorem launched : (dats m 0 c).arrAt 8 cfg0.N = resultRows m c := by
  refine (dats m 0 c).arrAt_eq_of_covers 8 _ covers_8 fun t hf y => ?_
  blk_simp
  rw [after0_8, out_is]
  have key : ∀ (i : Fin 256) (d : Fin 1024), pointAt m c t (ix2 i d) = resultRows m c ((win0_8.blk t).view.emb (ix2 i d)) := by
    intro i d
    refine (left m c t i d).trans (congrArg _ ?_)
    blk_ext [index_8 t]
  suffices hk : ∀ y : S256x1024.Idx, pointAt m c t y = resultRows m c ((win0_8.blk t).view.emb y) from hk y
  intro y
  idx_vars y
  exact key _ _

end

end Cert.KernelMergeIdeal.Merge

end
-- ==== Proof.Merge.Algebraic.lean ====
/- The merge of the branches: kernel and reference end with the same positions. -/
module

public import proofs.«01_k».proof.Defs
public import proofs.«01_k».proof.Proof.Merge.Frames
public import proofs.«01_k».proof.Proof.Merge.Launch

@[expose] public section

noncomputable section

namespace Cert.KernelMergeIdeal.Merge

open Idealize.ShloMosaic Idealize.ShloMosaic.TcCoe Idealize.SL.Sem
open Cert.KernelMergeIdeal.Gen

section

variable (m : (ℓ : Loc nD τ sig) → Buf (Elt Ideal) ℓ) (c : Dev nD)

/-- The launch's array, by batch entry and position. -/
theorem array_is : shapeCast S2x8192x1024 (resultRows m c) shapeCasts_S16384x1024_S2x8192x1024 = result m c := by
  have cast_at : ∀ (P : Vec Ideal S16384x1024 .f32) (b : Fin 2) (n : Fin 8192) (d : Fin 1024),
      shapeCast S2x8192x1024 P shapeCasts_S16384x1024_S2x8192x1024 (ix3 b n d) = P (ix2 ⟨b.val * 8192 + n.val, by omega⟩ d) := by
    intro P b n d
    pointwise
  have at_ : ∀ (b : Fin 2) (n : Fin 8192) (d : Fin 1024),
      shapeCast S2x8192x1024 (resultRows m c) shapeCasts_S16384x1024_S2x8192x1024 (ix3 b n d) = result m c (ix3 b n d) := by
    intro b n d
    refine (cast_at _ _ _ _).trans ?_
    have hb : (⟨(b.val * 8192 + n.val) / 8192, by omega⟩ : Fin 2) = b := Fin.ext (by show (b.val * 8192 + n.val) / 8192 = b.val; omega)
    have hn : (⟨(b.val * 8192 + n.val) % 8192, by omega⟩ : Fin 8192) = n := Fin.ext (by show (b.val * 8192 + n.val) % 8192 = n.val; omega)
    show result m c (ix3 ⟨(b.val * 8192 + n.val) / 8192, _⟩ ⟨(b.val * 8192 + n.val) % 8192, _⟩ d) = _
    rw [hb, hn]
  suffices hk : ∀ j : S2x8192x1024.Idx, shapeCast S2x8192x1024 (resultRows m c) shapeCasts_S16384x1024_S2x8192x1024 j = result m c j from funext hk
  intro j
  idx_vars j
  exact at_ _ _ _

/-- What follows the launch arranges its array by batch entry and position. -/
theorem tail_is (U : Valuation τ sig (Elt Ideal)) :
    StableHlo.after hostOps1 U (Proc.devRef .tc main_v9) = shapeCast S2x8192x1024 (U (Proc.devRef .tc main_v8)) shapeCasts_S16384x1024_S2x8192x1024 := by
  unfold hostOps1
  after_results_simp <;> rfl

/-- The array after the launch, by batch entry and position. -/
theorem array_after : shapeCast S2x8192x1024
    (Pipeline.withArrays spec0 c (V0 m c) (fun w => (dats m 0 c).arrAt w (cfgs 0).N) (Proc.devRef .tc main_v8)) shapeCasts_S16384x1024_S2x8192x1024 = result m c :=
  (congrArg (fun P : Vec Ideal S16384x1024 .f32 => shapeCast S2x8192x1024 P shapeCasts_S16384x1024_S2x8192x1024)
    ((Pipeline.withArrays_arr spec0 (by decide) c (V0 m c) (fun w => (dats m 0 c).arrAt w (cfgs 0).N) 8).trans (launched m c))).trans (array_is m c)

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

end

/-- The kernel's run ends with the result. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = result m c ∧ Kept m c r.2) := by
  refine (θ_run defs _ _).mono (fun r h c => ?_) (run_main (F := Ideal) m ρ)
  exact ⟨((h c).2 main_v9 (Pipeline.mem_restRefs_of main_v9 (by decide) (by decide))).trans ((after_tail m c main_v9).trans ((tail_is _).trans (array_after m c))),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩

end Cert.KernelMergeIdeal.Merge

namespace Cert.ReferenceMergeIdeal.Merge

open Idealize.ShloMosaic Idealize.ShloMosaic.TcCoe Idealize.SL.Sem
open Cert.ReferenceMergeIdeal Cert.ReferenceMergeIdeal.Gen
open Cert.KernelMergeIdeal.Merge (gated gated_congr mixed merged result)

/-- The reference's branches, side by side. -/
abbrev refBranches (o0 o1 o2 o3 : FVec Ideal S2x8192x256 .f32) : FVec Ideal S2x8192x4x256 .f32 :=
  concatenate S2x8192x4x256 2 [⟨S2x8192x1x256, broadcastInDim S2x8192x1x256 ![0, 1, 3] bcast_S2x8192x256_S2x8192x1x256_0_1_3 o0⟩,
    ⟨S2x8192x1x256, broadcastInDim S2x8192x1x256 ![0, 1, 3] bcast_S2x8192x256_S2x8192x1x256_0_1_3 o1⟩,
    ⟨S2x8192x1x256, broadcastInDim S2x8192x1x256 ![0, 1, 3] bcast_S2x8192x256_S2x8192x1x256_0_1_3 o2⟩,
    ⟨S2x8192x1x256, broadcastInDim S2x8192x1x256 ![0, 1, 3] bcast_S2x8192x256_S2x8192x1x256_0_1_3 o3⟩]
    concatenates_S2x8192x1x256_S2x8192x1x256_S2x8192x1x256_S2x8192x1x256_S2x8192x4x256_d2

/-- The reference's gates. -/
abbrev refGates (P : FVec Ideal S2x8192x8064 .f32) : FVec Ideal S2x8192x4x1024 .f32 :=
  Host.divf (broadcastInDim S2x8192x4x1024 ![] bcast_S_S2x8192x4x1024 (constant S_ .f32 0x3F800000#32))
    (addf (broadcastInDim S2x8192x4x1024 ![] bcast_S_S2x8192x4x1024 (constant S_ .f32 0x3F800000#32))
      (Host.exp (Host.negf (shapeCast S2x8192x4x1024 (extractStridedSlice S2x8192x4096 ![0, 0, 0] P slices_S2x8192x8064_S2x8192x4096_0_0_0)
        shapeCasts_S2x8192x4096_S2x8192x4x1024))))

/-- The reference's products of the branches with their weights. -/
abbrev refProducts (w : FVec Ideal S4x256x1024 .f32) (B : FVec Ideal S2x8192x4x256 .f32) : FVec Ideal S2x8192x4x1024 .f32 :=
  transpose S2x8192x4x1024 [2, 3, 0, 1] (Host.dotGeneral dot_S4x256x1024_S2x8192x4x256_S4x1024x2x8192_1_3_2_01_0_2 none w B) transposes_S4x1024x2x8192_S2x8192x4x1024_2_3_0_1

/-- The reference's sum of the gated branches. -/
abbrev refMixed (G Q : FVec Ideal S2x8192x4x1024 .f32) : FVec Ideal S2x8192x1024 .f32 :=
  Host.reduceAdd (mulf G Q) (constant S_ .f32 0x00000000#32) reducesTo_S2x8192x4x1024_S2x8192x1024_d2 h_S_

/-- The reference's result. -/
abbrev refOut (x M : FVec Ideal S2x8192x1024 .f32) (W : FVec Ideal S1024x1024 .f32) : FVec Ideal S2x8192x1024 .f32 :=
  addf x (Host.dotGeneral dot_S2x8192x1024_S1024x1024_S2x8192x1024_2_0_01_1_n_n none M W)

theorem gate_at (P : FVec Ideal S2x8192x8064 .f32) (b : Fin 2) (n : Fin 8192) (s : Fin 4) (e : Fin 1024) :
    refGates P (ix4 b n s e) = Ideal.logistic (P (ix3 b n ⟨s.val * 1024 + e.val, by omega⟩)) := by
  unfold refGates
  pointwise
  rfl

theorem product_at (w : FVec Ideal S4x256x1024 .f32) (B : FVec Ideal S2x8192x4x256 .f32) (b : Fin 2) (n : Fin 8192) (s : Fin 4) (e : Fin 1024) :
    refProducts w B (ix4 b n s e) = (∑ k : Fin 256, (B (ix4 b n s k) * w (ix3 s k e) : EReal) : EReal) := by
  unfold refProducts
  pointwise
  exact Finset.sum_congr (M := EReal) rfl fun k _ => mul_comm _ _

theorem mixed_at (G Q : FVec Ideal S2x8192x4x1024 .f32) (b : Fin 2) (n : Fin 8192) (e : Fin 1024) :
    refMixed G Q (ix3 b n e) = (∑ s : Fin 4, (G (ix4 b n s e) * Q (ix4 b n s e) : EReal) : EReal) := by
  unfold refMixed
  pointwise

theorem out_at (x M : FVec Ideal S2x8192x1024 .f32) (W : FVec Ideal S1024x1024 .f32) (b : Fin 2) (n : Fin 8192) (d : Fin 1024) :
    refOut x M W (ix3 b n d) = (x (ix3 b n d) + ∑ e : Fin 1024, (M (ix3 b n e) * W (ix2 e d) : EReal) : EReal) := by
  unfold refOut
  pointwise

/-- The branches side by side, one by one. -/
theorem branch_at (o0 o1 o2 o3 : FVec Ideal S2x8192x256 .f32) (b : Fin 2) (n : Fin 8192) (k : Fin 256) :
    refBranches o0 o1 o2 o3 (ix4 b n 0 k) = o0 (ix3 b n k) ∧ refBranches o0 o1 o2 o3 (ix4 b n 1 k) = o1 (ix3 b n k)
    ∧ refBranches o0 o1 o2 o3 (ix4 b n 2 k) = o2 (ix3 b n k) ∧ refBranches o0 o1 o2 o3 (ix4 b n 3 k) = o3 (ix3 b n k) := by
  unfold refBranches
  refine ⟨?_, ?_, ?_, ?_⟩ <;> pointwise

/-- A gated product of the reference is the kernel's. -/
theorem term_at (o0 o1 o2 o3 : FVec Ideal S2x8192x256 .f32) (P : FVec Ideal S2x8192x8064 .f32) (w : FVec Ideal S4x256x1024 .f32)
    (b : Fin 2) (n : Fin 8192) (s : Fin 4) (e : Fin 1024) :
    (refGates P (ix4 b n s e) * refProducts w (refBranches o0 o1 o2 o3) (ix4 b n s e) : EReal)
      = gated (P (ix3 b n ⟨s.val * 1024 + e.val, by omega⟩)) (fun k => refBranches o0 o1 o2 o3 (ix4 b n s k)) (fun k => w (ix3 s k e)) := by
  rw [gate_at, product_at]
  rfl

/-- The reference computes the same result. -/
theorem merged_is (x : FVec Ideal S2x8192x1024 .f32) (o0 o1 o2 o3 : FVec Ideal S2x8192x256 .f32) (P : FVec Ideal S2x8192x8064 .f32)
    (w : FVec Ideal S4x256x1024 .f32) (W : FVec Ideal S1024x1024 .f32) :
    refOut x (refMixed (refGates P) (refProducts w (refBranches o0 o1 o2 o3))) W = merged x o0 o1 o2 o3 P w W := by
  have at_ : ∀ (b : Fin 2) (n : Fin 8192) (d : Fin 1024),
      refOut x (refMixed (refGates P) (refProducts w (refBranches o0 o1 o2 o3))) W (ix3 b n d) = merged x o0 o1 o2 o3 P w W (ix3 b n d) := by
    intro b n d
    refine (out_at _ _ _ b n d).trans ?_
    refine congrArg (fun s : EReal => x (ix3 b n d) + s) (Finset.sum_congr (M := EReal) rfl fun e _ => ?_)
    refine congrArg (fun s : EReal => s * W (ix2 e d)) ((mixed_at _ _ b n e).trans ?_)
    refine (Fin.sum_univ_four (M := EReal) _).trans ?_
    rw [term_at, term_at, term_at, term_at]
    unfold mixed
    refine congrArg₂ (fun a b : EReal => a + b) (congrArg₂ (fun a b : EReal => a + b) (congrArg₂ (fun a b : EReal => a + b) ?_ ?_) ?_) ?_
    · exact gated_congr rfl (fun k => (branch_at o0 o1 o2 o3 b n k).1) (fun _ => rfl)
    · exact gated_congr rfl (fun k => (branch_at o0 o1 o2 o3 b n k).2.1) (fun _ => rfl)
    · exact gated_congr rfl (fun k => (branch_at o0 o1 o2 o3 b n k).2.2.1) (fun _ => rfl)
    · exact gated_congr rfl (fun k => (branch_at o0 o1 o2 o3 b n k).2.2.2) (fun _ => rfl)
  suffices hk : ∀ j : S2x8192x1024.Idx, refOut x (refMixed (refGates P) (refProducts w (refBranches o0 o1 o2 o3))) W j = merged x o0 o1 o2 o3 P w W j from
    funext hk
  intro j
  idx_vars j
  exact at_ _ _ _

/-- The kernel and the reference end with the same result. -/
theorem algebraic : Cert.algebraic_KernelMergeIdeal_ReferenceMergeIdeal := by
  intro m g m' g' _ hin
  refine ⟨fun c => result m c, Cert.KernelMergeIdeal.Merge.run_kernel m g, ?_⟩
  refine (θ_run defs _ _).mono (fun r h c => ?_) (Cert.ReferenceMergeIdeal.Value.run (F := Ideal) m' g')
  obtain ⟨h0, hk⟩ := h c
  obtain ⟨e0, e1, e2, e3, e4, e5, e6, e7⟩ := hin c
  refine ⟨h0.trans ?_, hk⟩
  refine (merged_is (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)) (m' ((c.tc : Thread nD τ).loc main_arg5))
    (m' ((c.tc : Thread nD τ).loc main_arg6)) (m' ((c.tc : Thread nD τ).loc main_arg7))).trans ?_
  rw [e0, e1, e2, e3, e4, e5, e6, e7]
  rfl

end Cert.ReferenceMergeIdeal.Merge

end
-- ==== Proof.InSample.Frames.lean ====
/- The three frames of the sample's input projection: one run of the kernel for both of its instances, and the reference's run. -/
module

public import proofs.«01_k».proof.Defs
public import proofs.«01_k».proof.Proof.Gen.KernelInSample
public import proofs.«01_k».proof.Proof.Gen.KernelInSampleIdeal
public import proofs.«01_k».proof.Proof.Gen.KernelInSampleIdeal.Frame
public import proofs.«01_k».proof.Proof.Gen.ReferenceInSampleIdeal
public import proofs.«01_k».proof.Proof.Gen.ReferenceInSampleIdeal.Run
public import Idealize.ShloMosaic.Lib.Quiescent

@[expose] public section

noncomputable section

namespace Cert.KernelInSampleIdeal.InSample

open Idealize.ShloMosaic Idealize.ShloMosaic.TcCoe Idealize.SL.Sem
open Cert.KernelInSampleIdeal.Gen

variable {F : FTy → Type} [FloatOps F]

/-- A final state leaves the input, the gain, the weight and the kept positions as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

/-- The kernel's frame speaks of the idealized kernel's text read at the machine's floats. -/
theorem kernel_text : Cert.quiescent_KernelInSample =
    ∀ (m : (ℓ : Loc nD τ sig) → Buf (Elt Bits) ℓ) (ρ : Dev nD → PrngReg), Cert.Pre_KernelInSample m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelInSample :=
  kernel_text.mpr fun m ρ _ => frame (F := Bits) m ρ

/-- The idealized kernel's frame: the same run at the ideal instance. -/
theorem frame_kernelIdeal : Cert.quiescent_KernelInSampleIdeal := fun m ρ _ => frame (F := Ideal) m ρ

/-- The reference's frame: its run, which declares no semaphore. -/
theorem frame_referenceIdeal : Cert.quiescent_ReferenceInSampleIdeal := fun m ρ _ =>
  (θ_run Cert.ReferenceInSampleIdeal.defs _ _).mono
    (fun r h => ⟨fun c => (h c).2.2.2.2.2.2.2.2.2.2.2.2.2.2.2.2, Idealize.ShloMosaic.sem_eq_zero_of_no_sems (by decide) r.2⟩)
    (Cert.ReferenceInSampleIdeal.Value.run (F := Ideal) m ρ)

end Cert.KernelInSampleIdeal.InSample

end
-- ==== Proof.InSample.Product.lean ====
/- The array the launch of the sample's input projection leaves: every new position's row normed, times every column of
   the weight. The launch has one block of rows, so its first point makes the carried buffer and the others keep it. -/
module

public import proofs.«01_k».proof.Proof.Gen.KernelInSampleIdeal
public import proofs.«01_k».proof.Proof.Gen.KernelInSampleIdeal.Frame
public import proofs.«01_k».proof.Proof.Project.Results

@[expose] public section

noncomputable section

namespace Cert.KernelInSampleIdeal.InSample

open Idealize.ShloMosaic Idealize.ShloMosaic.TcCoe
open Cert.KernelInSampleIdeal.Gen
open Cert.KernelInIdeal.Project (scale)

/-- An entry of a normed row. -/
def normed (X : Vec Ideal S128x1024 .f32) (g : Vec Ideal S1x1024 .f32) (r : Fin 128) (k : Fin 1024) : EReal :=
  (X (ix2 r k) * scale (∑ x : Fin 1024, (X (ix2 r x) * X (ix2 r x) : EReal)) * g (ix2 0 k) : EReal)

/-- The normed rows of the block. -/
theorem pay1_read (B : Vec Ideal S128x1024 .f32) (g : Vec Ideal S1x1024 .f32) (i : Fin 128) (k : Fin 1024) :
    (k0_pay1 B g : Vec Ideal S128x1024 .bf16) (ix2 i k) = normed B g i k := by
  unfold k0_pay1 normed scale
  pointwise

/-- The product of the rows with a block of columns. -/
theorem pay2_read (B : Vec Ideal S128x1024 .bf16) (w : Vec Ideal S1024x1152 .bf16) (i : Fin 128) (j : Fin 1152) :
    (k0_pay2 B w : Vec Ideal S128x1152 .f32) (ix2 i j) = ∑ k : Fin 1024, (B (ix2 i k) * w (ix2 k j) : EReal) := by
  unfold k0_pay2
  pointwise

/-- The normed rows times the weight. -/
def product (X : Vec Ideal S128x1024 .f32) (g : Vec Ideal S1x1024 .f32) (w : Vec Ideal S1024x8064 .bf16) : Vec Ideal S128x8064 .f32 :=
  fun j => (∑ k : Fin 1024, (normed X g (j 0) k * w (ix2 k (j 1)) : EReal) : EReal)

/-- The placement of the blocks: the point's number is its block of columns. -/
theorem index_0 : ∀ t : Fin cfg0.N, win0_0.index t 0 = 0 ∧ win0_0.index t 1 = 0 := by decide +kernel

theorem index_1 : ∀ t : Fin cfg0.N, win0_1.index t 0 = 0 ∧ win0_1.index t 1 = 0 := by decide +kernel

theorem index_2 : ∀ t : Fin cfg0.N, win0_2.index t 0 = 0 ∧ win0_2.index t 1 = t.val := by decide +kernel

theorem index_3 : ∀ t : Fin cfg0.N, win0_3.index t 0 = 0 ∧ win0_3.index t 1 = t.val := by decide +kernel

theorem covers_3 : (cfg0.win 3).Covers := by decide +kernel

theorem read_0 (A : Vec Ideal S128x1024 .f32) (t : Fin cfg0.N) (i : Fin 128) (k : Fin 1024) :
    ((cfg0.win 0).blk t).view.read (Elt Ideal) A (ix2 i k) = A (ix2 i k) := by
  blk_ext [index_0 t]

theorem read_1 (A : Vec Ideal S1x1024 .f32) (t : Fin cfg0.N) (k : Fin 1024) :
    ((cfg0.win 1).blk t).view.read (Elt Ideal) A (ix2 0 k) = A (ix2 0 k) := by
  blk_ext [index_1 t]

theorem read_2 (A : Vec Ideal S1024x8064 .bf16) (t : Fin cfg0.N) (k : Fin 1024) (j : Fin 1152) (h : 1152 * t.val + j.val < 8064) :
    ((cfg0.win 2).blk t).view.read (Elt Ideal) A (ix2 k j) = A (ix2 k ⟨1152 * t.val + j.val, h⟩) := by
  blk_ext [index_2 t]

theorem col_lt (t : Fin cfg0.N) (j : Fin 1152) : 1152 * t.val + j.val < 8064 := by
  have ht : t.val < 7 := t.isLt
  have hj := j.isLt
  omega

section

variable (m : (ℓ : Loc nD τ sig) → Buf (Elt Ideal) ℓ) (c : Dev nD)

/-- The first point makes the carried buffer; any other keeps it. -/
theorem carried_made (t : Fin cfg0.N) (h0 : t.val % 7 = 0) : (outsAt0 m c t.val t.isLt).2 = k0_pay1 (iblk m c 0 t) (iblk m c 1 t) := by
  refine (congrArg Prod.snd (outsAt0_A m c t h0)).trans ?_
  dsimp only
  frame_out

theorem carried_kept (t : Fin cfg0.N) (h0 : ¬t.val % 7 = 0) :
    (outsAt0 m c t.val t.isLt).2 = (outsAt0 m c (t.val - 1) (Nat.lt_of_le_of_lt (Nat.sub_le _ _) t.isLt)).2 :=
  (congrArg Prod.snd (outsAt0_B m c t h0)).trans rfl

/-- Every point leaves the carried buffer's product with its block of columns. -/
theorem out_is (t : Fin cfg0.N) : (outsAt0 m c t.val t.isLt).1 = k0_pay2 (outsAt0 m c t.val t.isLt).2 (iblk m c 2 t) := by
  by_cases h0 : t.val % 7 = 0
  · rw [carried_made m c t h0]
    refine (congrArg Prod.fst (outsAt0_A m c t h0)).trans ?_
    dsimp only
    frame_out
  · rw [carried_kept m c t h0]
    refine (congrArg Prod.fst (outsAt0_B m c t h0)).trans ?_
    dsimp only
    frame_out
    exact congrArg (fun B => k0_pay2 B (iblk m c 2 t)) (Memref.IsWhole.read_unread (Memref.isWhole_whole _) _)

/-- The carried buffer holds the rows, normed. -/
theorem carried : ∀ (n : ℕ) (hn : n < cfg0.N) (i : Fin 128) (k : Fin 1024),
    ((outsAt0 m c n hn).2 : Vec Ideal S128x1024 .bf16) (ix2 i k) = normed (V m c main_v16) (V m c main_v17) i k := by
  intro n
  induction n with
  | zero =>
    intro hn i k
    refine (congrFun (carried_made m c ⟨0, hn⟩ rfl) _).trans ((pay1_read _ _ i k).trans ?_)
    have hB : ∀ y : Fin 1024, (iblk m c 0 ⟨0, hn⟩ : Vec Ideal S128x1024 .f32) (ix2 i y) = (V m c main_v16 : Vec Ideal S128x1024 .f32) (ix2 i y) :=
      fun y => read_0 _ _ i y
    have hb : (iblk m c 1 ⟨0, hn⟩ : Vec Ideal S1x1024 .f32) (ix2 0 k) = (V m c main_v17 : Vec Ideal S1x1024 .f32) (ix2 0 k) := read_1 _ _ k
    refine congrArg₂ (fun a b : EReal => a * b) (congrArg₂ (fun a b : EReal => a * b) (hB k) (congrArg scale ?_)) hb
    exact Finset.sum_congr (M := EReal) rfl fun y _ => congrArg₂ (fun a b : EReal => a * b) (hB y) (hB y)
  | succ n ih =>
    intro hn i k
    have hlt : n + 1 < 7 := hn
    have h0 : ¬(n + 1) % 7 = 0 := by omega
    exact (congrFun (carried_kept m c ⟨n + 1, hn⟩ h0) _).trans (ih (Nat.lt_of_succ_lt hn) i k)

/-- What a point leaves for the output: the rows, normed, times its columns. -/
theorem left (t : Fin cfg0.N) (i : Fin 128) (j : Fin 1152) :
    ((outsAt0 m c t.val t.isLt).1 : Vec Ideal S128x1152 .f32) (ix2 i j)
      = product (V m c main_v16) (V m c main_v17) (V m c main_v18) (ix2 i ⟨1152 * t.val + j.val, col_lt t j⟩) := by
  refine (congrFun (out_is m c t) _).trans ((pay2_read _ _ i j).trans ?_)
  refine Finset.sum_congr rfl fun k _ => ?_
  exact congrArg₂ (fun a b : EReal => a * b) (carried m c t.val t.isLt i k) (read_2 _ t k j (col_lt t j))

/-- The array after the launch. -/
theorem launched : (dats m 0 c).arrAt 3 cfg0.N = product (V m c main_v16) (V m c main_v17) (V m c main_v18) := by
  refine (dats m 0 c).arrAt_eq_of_covers 3 _ covers_3 fun t hf y => ?_
  blk_simp
  have key : ∀ (i : Fin 128) (j : Fin 1152), ((outsAt0 m c t.val t.isLt).1 : Vec Ideal S128x1152 .f32) (ix2 i j)
      = product (V m c main_v16) (V m c main_v17) (V m c main_v18) ((win0_3.blk t).view.emb (ix2 i j)) := by
    intro i j
    refine (left m c t i j).trans (congrArg _ ?_)
    blk_ext [index_3 t]
  rw [after0_3]
  suffices hk : ∀ y : S128x1152.Idx, ((outsAt0 m c t.val t.isLt).1 : Vec Ideal S128x1152 .f32) y
      = product (V m c main_v16) (V m c main_v17) (V m c main_v18) ((win0_3.blk t).view.emb y) from hk y
  intro y
  idx_vars y
  exact key _ _

end

end Cert.KernelInSampleIdeal.InSample

end
-- ==== Proof.InSample.Results.lean ====
/- The sample's input projection as one array, and the kernel's sixteen results cut out of it. -/
module

public import proofs.«01_k».proof.Proof.InSample.Product
public import proofs.«01_k».proof.Proof.Project.Algebraic
public import Idealize.ShloMosaic.Lib.StableHlo.ReadAt
public import Idealize.ShloMosaic.Lib.Pipeline.Value

@[expose] public section

noncomputable section

namespace Cert.KernelInSampleIdeal.InSample

open Idealize.ShloMosaic Idealize.ShloMosaic.TcCoe
open Cert.KernelInSampleIdeal.Gen
open Cert.KernelInIdeal.Project (scale parts taken taken_at within start_is)

/-- Every position's normed row times the weight. -/
def whole (x : Vec Ideal S128x1x1024 .f32) (g : Vec Ideal S1024 .f32) (W : Vec Ideal S1024x7980 .f32) : Vec Ideal S128x1x7980 .f32 :=
  fun j => (∑ k : Fin 1024, (x (ix3 (j 0) (j 1) k) * scale (∑ y : Fin 1024, (x (ix3 (j 0) (j 1) y) * x (ix3 (j 0) (j 1) y) : EReal))
    * g (ix1 k) * W (ix2 k (j 2)) : EReal) : EReal)

section

variable (Z : Vec Ideal S128x1x7980 .f32)

/-- `w` columns of the array, from column `o` on. -/
def cols (w o : ℕ) (h : S128x1x7980.Slices ![0, 0, o] ⟨3, ![128, 1, w]⟩) : Vec Ideal ⟨3, ![128, 1, w]⟩ .f32 :=
  extractStridedSlice ⟨3, ![128, 1, w]⟩ ![0, 0, o] Z h

/-- 256 columns as four heads. -/
def heads (Y : Vec Ideal S128x1x256 .f32) : Vec Ideal S128x1x4x64 .f32 :=
  shapeCast S128x1x4x64 Y shapeCasts_S128x1x256_S128x1x4x64

/-- The kept positions, the oldest left out, and the new one. -/
def shifted (buf : Vec Ideal S128x3x768 .f32) (Y : Vec Ideal S128x1x768 .f32) : Vec Ideal S128x3x768 .f32 :=
  extractStridedSlice S128x3x768 ![0, 1, 0] (concatenate S128x4x768 1 [⟨S128x3x768, buf⟩, ⟨S128x1x768, Y⟩]
    concatenates_S128x3x768_S128x1x768_S128x4x768_d1) slices_S128x4x768_S128x3x768_0_1_0

/-- The position itself. -/
def lastOne (Y : Vec Ideal S128x1x1024 .f32) : Vec Ideal S128x1024 .f32 :=
  shapeCast S128x1024 Y shapeCasts_S128x1x1024_S128x1024

end

/-- The launch's array by batch entry and position, without the columns that fill it up. -/
def unfilled (P : Vec Ideal S128x8064 .f32) : Vec Ideal S128x1x7980 .f32 :=
  extractStridedSlice S128x1x7980 ![0, 0, 0] (shapeCast S128x1x8064 P shapeCasts_S128x8064_S128x1x8064) slices_S128x1x8064_S128x1x7980_0_0_0

theorem unfilled_at (P : Vec Ideal S128x8064 .f32) (b : Fin 128) (n : Fin 1) (o : Fin 7980) :
    unfilled P (ix3 b n o) = P (ix2 b ⟨o.val, by omega⟩) := by
  have at_ : unfilled P (ix3 b 0 o) = P (ix2 b ⟨o.val, by omega⟩) := by
    unfold unfilled
    pointwise
  exact (congrArg (fun z : Fin 1 => unfilled P (ix3 b z o)) (Subsingleton.elim n 0)).trans at_

/-- Two arrays that agree on a block of columns, placed differently, have the same block. -/
theorem cols_eq (A B : Vec Ideal S128x1x7980 .f32) (w p q : ℕ) (hp : S128x1x7980.Slices ![0, 0, p] ⟨3, ![128, 1, w]⟩)
    (hq : S128x1x7980.Slices ![0, 0, q] ⟨3, ![128, 1, w]⟩)
    (h : ∀ (b : Fin 128) (n : Fin 1) (x : Fin w) (h1 : p + x.val < 7980) (h2 : q + x.val < 7980),
      A (ix3 b n ⟨p + x.val, h1⟩) = B (ix3 b n ⟨q + x.val, h2⟩)) : cols A w p hp = cols B w q hq := by
  have at_ : ∀ (C : Vec Ideal S128x1x7980 .f32) (o : ℕ) (ho : S128x1x7980.Slices ![0, 0, o] ⟨3, ![128, 1, w]⟩)
      (j : (⟨3, ![128, 1, w]⟩ : Shape).Idx) (hj : o + (j 2).val < 7980),
      cols C w o ho j = C (ix3 (j 0) (j 1) ⟨o + (j 2).val, hj⟩) := by
    intro C o ho j hj
    show C _ = C _
    congr 1
    funext a
    match a with
    | ⟨0, _⟩ => exact Fin.ext (Nat.zero_add _)
    | ⟨1, _⟩ => exact Fin.ext (Nat.zero_add _)
    | ⟨2, _⟩ => rfl
  funext j
  have hj : (j 2).val < w := (j 2).isLt
  have h1 : p + w ≤ 7980 := hp.2 2
  have h2 : q + w ≤ 7980 := hq.2 2
  exact (at_ A p hp j (by omega)).trans ((h (j 0) (j 1) (j 2) (by omega) (by omega)).trans (at_ B q hq j (by omega)).symm)

section

variable (m : (ℓ : Loc nD τ sig) → Buf (Elt Ideal) ℓ) (c : Dev nD)

/-- The launch's array. -/
def arr : Vec Ideal S128x8064 .f32 := product (V m c main_v16) (V m c main_v17) (V m c main_v18)

/-- The input projection of the arguments. -/
def proj : Vec Ideal S128x1x7980 .f32 :=
  whole (m ((c.tc : Thread nD τ).loc main_arg0)) (m ((c.tc : Thread nD τ).loc main_arg1)) (m ((c.tc : Thread nD τ).loc main_arg2))

/-- A normed row of the launch's, in the arguments. -/
theorem normed_is (x : Vec Ideal S128x1x1024 .f32) (g : Vec Ideal S1024 .f32) (X : Vec Ideal S128x1024 .f32) (G : Vec Ideal S1x1024 .f32)
    (hX : ∀ (r : Fin 128) (k : Fin 1024), X (ix2 r k) = x (ix3 r 0 k))
    (hG : ∀ k : Fin 1024, G (ix2 0 k) = g (ix1 k)) (b : Fin 128) (n : Fin 1) (k : Fin 1024) :
    normed X G b k
      = (x (ix3 b n k) * scale (∑ y : Fin 1024, (x (ix3 b n y) * x (ix3 b n y) : EReal)) * g (ix1 k) : EReal) := by
  have hr : ∀ y : Fin 1024, X (ix2 b y) = x (ix3 b n y) := fun y => (hX b y).trans (congrArg (fun z : Fin 1 => x (ix3 b z y)) (Subsingleton.elim 0 n))
  unfold normed
  simp only [hr, hG]

/-- A column of the launch's product, in the arguments. -/
theorem product_is (x : Vec Ideal S128x1x1024 .f32) (g : Vec Ideal S1024 .f32) (W : Vec Ideal S1024x7980 .f32)
    (X : Vec Ideal S128x1024 .f32) (G : Vec Ideal S1x1024 .f32) (U : Vec Ideal S1024x8064 .bf16)
    (hX : ∀ (r : Fin 128) (k : Fin 1024), X (ix2 r k) = x (ix3 r 0 k))
    (hG : ∀ k : Fin 1024, G (ix2 0 k) = g (ix1 k)) (b : Fin 128) (n : Fin 1) (p : Fin 8064) (q : Fin 7980)
    (hU : ∀ k : Fin 1024, (U (ix2 k p) : EReal) = W (ix2 k q)) :
    product X G U (ix2 b p) = whole x g W (ix3 b n q) :=
  Finset.sum_congr (M := EReal) rfl fun k _ => congrArg₂ (fun y z : EReal => y * z) (normed_is x g X G hX hG b n k) (hU k)

theorem rows_entry (r : Fin 128) (k : Fin 1024) : (V m c main_v16 : Vec Ideal S128x1024 .f32) (ix2 r k)
    = (m ((c : Thread nD τ).loc main_arg0) : Vec Ideal S128x1x1024 .f32) (ix3 r 0 k) := by
  unfold V
  after_reads_at

theorem gain_entry (k : Fin 1024) : (V m c main_v17 : Vec Ideal S1x1024 .f32) (ix2 0 k)
    = (m ((c : Thread nD τ).loc main_arg1) : Vec Ideal S1024 .f32) (ix1 k) := by
  unfold V
  after_reads_at

/-- The weight is taken as the prompt's projection takes it. -/
theorem weight_entry : V m c main_v18 = (truncf .bf16 (taken (m ((c : Thread nD τ).loc main_arg2))) bitsLt_bf16_f32 : FVec Ideal S1024x8064 .bf16) := by
  unfold V V0 hostOps0
  simp only [List.flatten_cons, List.flatten_nil, List.append_nil]
  after_results_simp
  rfl

/-- A block of the launch's columns is the projection's block of the columns it was taken from. -/
theorem block_is (i w ko ro : ℕ) (hi : i < (parts (m ((c : Thread nD τ).loc main_arg2))).length)
    (hs : Cert.KernelInIdeal.S1024x7980.Slices ![0, ro] ⟨2, ![1024, w]⟩)
    (hp : (parts (m ((c : Thread nD τ).loc main_arg2)))[i] = ⟨⟨2, ![1024, w]⟩, extractStridedSlice ⟨2, ![1024, w]⟩ ![0, ro] (m ((c : Thread nD τ).loc main_arg2)) hs⟩)
    (hko : ((((parts (m ((c : Thread nD τ).loc main_arg2))).take i).map (·.1)).map fun s => if h : s.rank = S1024x8064.rank then s.size ((1 : Fin S1024x8064.rank).cast h.symm) else 0).sum = ko)
    (hk : S128x1x7980.Slices ![0, 0, ko] ⟨3, ![128, 1, w]⟩) (hr : S128x1x7980.Slices ![0, 0, ro] ⟨3, ![128, 1, w]⟩) :
    cols (unfilled (arr m c)) w ko hk = cols (proj m c) w ro hr := by
  refine cols_eq _ _ w ko ro hk hr fun b n x h1 h2 => ?_
  refine (unfilled_at _ b n _).trans ?_
  refine product_is _ _ _ _ _ _ (rows_entry m c) (gain_entry m c) b n _ _ fun k => ?_
  refine (congrFun (weight_entry m c) _).trans ?_
  exact taken_at _ i w ko ro hi hs hp hko k x _ h2

/-- What follows the launch cuts the results out of its array. -/
theorem tail_is (U : Valuation τ sig (Elt Ideal)) :
    StableHlo.after hostOps1 U (Proc.devRef .tc main_v36) = heads (cols (unfilled (U (Proc.devRef .tc main_v19))) 256 6400 slices_S128x1x7980_S128x1x256_0_0_6400)
    ∧ StableHlo.after hostOps1 U (Proc.devRef .tc main_v37) = heads (cols (unfilled (U (Proc.devRef .tc main_v19))) 256 6656 slices_S128x1x7980_S128x1x256_0_0_6656)
    ∧ StableHlo.after hostOps1 U (Proc.devRef .tc main_v38) = heads (cols (unfilled (U (Proc.devRef .tc main_v19))) 256 7168 slices_S128x1x7980_S128x1x256_0_0_7168)
    ∧ StableHlo.after hostOps1 U (Proc.devRef .tc main_v39) = heads (cols (unfilled (U (Proc.devRef .tc main_v19))) 256 7424 slices_S128x1x7980_S128x1x256_0_0_7424)
    ∧ StableHlo.after hostOps1 U (Proc.devRef .tc main_v34) = cols (unfilled (U (Proc.devRef .tc main_v19))) 32 7940 slices_S128x1x7980_S128x1x32_0_0_7940
    ∧ StableHlo.after hostOps1 U (Proc.devRef .tc main_v41) = shifted (U (Proc.devRef .tc main_arg3)) (cols (unfilled (U (Proc.devRef .tc main_v19))) 768 5376 slices_S128x1x7980_S128x1x768_0_0_5376)
    ∧ StableHlo.after hostOps1 U (Proc.devRef .tc main_v42) = lastOne (cols (unfilled (U (Proc.devRef .tc main_v19))) 1024 4096 slices_S128x1x7980_S128x1x1024_0_0_4096)
    ∧ StableHlo.after hostOps1 U (Proc.devRef .tc main_v24) = cols (unfilled (U (Proc.devRef .tc main_v19))) 256 5120 slices_S128x1x7980_S128x1x256_0_0_5120
    ∧ StableHlo.after hostOps1 U (Proc.devRef .tc main_v25) = cols (unfilled (U (Proc.devRef .tc main_v19))) 768 5376 slices_S128x1x7980_S128x1x768_0_0_5376
    ∧ StableHlo.after hostOps1 U (Proc.devRef .tc main_v33) = cols (unfilled (U (Proc.devRef .tc main_v19))) 4 7936 slices_S128x1x7980_S128x1x4_0_0_7936
    ∧ StableHlo.after hostOps1 U (Proc.devRef .tc main_v26) = cols (unfilled (U (Proc.devRef .tc main_v19))) 256 6144 slices_S128x1x7980_S128x1x256_0_0_6144
    ∧ StableHlo.after hostOps1 U (Proc.devRef .tc main_v29) = cols (unfilled (U (Proc.devRef .tc main_v19))) 256 6912 slices_S128x1x7980_S128x1x256_0_0_6912
    ∧ StableHlo.after hostOps1 U (Proc.devRef .tc main_v32) = cols (unfilled (U (Proc.devRef .tc main_v19))) 256 7680 slices_S128x1x7980_S128x1x256_0_0_7680
    ∧ StableHlo.after hostOps1 U (Proc.devRef .tc main_v35) = cols (unfilled (U (Proc.devRef .tc main_v19))) 8 7972 slices_S128x1x7980_S128x1x8_0_0_7972
    ∧ StableHlo.after hostOps1 U (Proc.devRef .tc main_v23) = cols (unfilled (U (Proc.devRef .tc main_v19))) 1024 4096 slices_S128x1x7980_S128x1x1024_0_0_4096
    ∧ StableHlo.after hostOps1 U (Proc.devRef .tc main_v22) = cols (unfilled (U (Proc.devRef .tc main_v19))) 4096 0 slices_S128x1x7980_S128x1x4096_0_0_0 := by
  unfold hostOps1
  refine ⟨?_, ?_, ?_, ?_, ?_, ?_, ?_, ?_, ?_, ?_, ?_, ?_, ?_, ?_, ?_, ?_⟩ <;> (after_results_simp <;> rfl)

end

end Cert.KernelInSampleIdeal.InSample

end
-- ==== Proof.InSample.RefWhole.lean ====
/- The reference's product is the sample's input projection. -/
module

public import proofs.«01_k».proof.Proof.InSample.Results
public import proofs.«01_k».proof.Proof.Gen.ReferenceInSampleIdeal
public import proofs.«01_k».proof.Proof.Gen.ReferenceInSampleIdeal.Run

@[expose] public section

noncomputable section

namespace Cert.ReferenceInSampleIdeal.InSample

open Idealize.ShloMosaic Idealize.ShloMosaic.TcCoe
open Cert.ReferenceInSampleIdeal Cert.ReferenceInSampleIdeal.Gen
open Cert.KernelInIdeal.Project (scale)
open Cert.KernelInSampleIdeal.InSample (whole)

/-- The reference's product. -/
abbrev refProduct (x : FVec Ideal S128x1x1024 .f32) (g : FVec Ideal S1024 .f32) (W : FVec Ideal S1024x7980 .f32) : FVec Ideal S128x1x7980 .f32 :=
  Host.dotGeneral dot_S128x1x1024_S1024x7980_S128x1x7980_2_0_01_1_n_n none
    (mulf (mulf x (broadcastInDim S128x1x1024 ![0, 1, 2] bcast_S128x1x1_S128x1x1024_0_1_2
        (Host.rsqrt (addf (Host.divf (broadcastInDim S128x1x1 ![0, 1] bcast_S128x1_S128x1x1_0_1
            (Host.reduceAdd (mulf x x) (constant S_ .f32 0x00000000#32) reducesTo_S128x1x1024_S128x1_d2 h_S_))
          (broadcastInDim S128x1x1 ![] bcast_S_S128x1x1 (constant S_ .f32 0x44800000#32)))
          (broadcastInDim S128x1x1 ![] bcast_S_S128x1x1 (constant S_ .f32 0x358637BD#32))))))
      (broadcastInDim S128x1x1024 ![0, 1, 2] bcast_S1x1x1024_S128x1x1024_0_1_2 (broadcastInDim S1x1x1024 ![2] bcast_S1024_S1x1x1024_2 g))) W

theorem product_read (x : FVec Ideal S128x1x1024 .f32) (g : FVec Ideal S1024 .f32) (W : FVec Ideal S1024x7980 .f32) (b : Fin 128) (n : Fin 1) (o : Fin 7980) :
    refProduct x g W (ix3 b n o) = whole x g W (ix3 b n o) := by
  obtain rfl : n = 0 := Subsingleton.elim n 0
  unfold refProduct whole scale
  pointwise

theorem product_is (x : FVec Ideal S128x1x1024 .f32) (g : FVec Ideal S1024 .f32) (W : FVec Ideal S1024x7980 .f32) : refProduct x g W = whole x g W := by
  suffices hk : ∀ j : S128x1x7980.Idx, refProduct x g W j = whole x g W j from funext hk
  intro j
  idx_vars j
  exact product_read x g W _ _ _

end Cert.ReferenceInSampleIdeal.InSample

end
-- ==== Proof.InSample.Algebraic.lean ====
/- Both runs end with the results cut out of the same projection of the sample. -/
module

public import proofs.«01_k».proof.Defs
public import proofs.«01_k».proof.Proof.InSample.Results
public import proofs.«01_k».proof.Proof.InSample.RefWhole
public import proofs.«01_k».proof.Proof.InSample.Frames

@[expose] public section

noncomputable section

namespace Cert.KernelInSampleIdeal.InSample

open Idealize.ShloMosaic Idealize.ShloMosaic.TcCoe Idealize.SL.Sem
open Cert.KernelInSampleIdeal.Gen
open Cert.KernelInIdeal.Project (scale parts taken taken_at within start_is)

/-- The sixteen results, cut out of a projection, the convolution's beside the kept positions. -/
def Cut (buf : Vec Ideal S128x3x768 .f32) (Z : Vec Ideal S128x1x7980 .f32) (mk mv dk dv : Vec Ideal S128x1x4x64 .f32) (dki : Vec Ideal S128x1x32 .f32)
    (conv : Vec Ideal S128x3x768 .f32) (shift : Vec Ideal S128x1024 .f32) (sz : Vec Ideal S128x1x256 .f32) (sxbc : Vec Ideal S128x1x768 .f32)
    (sdt : Vec Ideal S128x1x4 .f32) (mq dq dqi : Vec Ideal S128x1x256 .f32) (dwi : Vec Ideal S128x1x8 .f32)
    (rwkv : Vec Ideal S128x1x1024 .f32) (gate : Vec Ideal S128x1x4096 .f32) : Prop :=
  mk = heads (cols Z 256 1284 (by decide)) ∧ mv = heads (cols Z 256 1540 (by decide)) ∧ dk = heads (cols Z 256 2052 (by decide))
    ∧ dv = heads (cols Z 256 2308 (by decide)) ∧ dki = cols Z 32 2820 (by decide) ∧ conv = shifted buf (cols Z 768 256 (by decide))
    ∧ shift = lastOne (cols Z 1024 2860 (by decide)) ∧ sz = cols Z 256 0 (by decide) ∧ sxbc = cols Z 768 256 (by decide)
    ∧ sdt = cols Z 4 1024 (by decide) ∧ mq = cols Z 256 1028 (by decide) ∧ dq = cols Z 256 1796 (by decide)
    ∧ dqi = cols Z 256 2564 (by decide) ∧ dwi = cols Z 8 2852 (by decide) ∧ rwkv = cols Z 1024 2860 (by decide)
    ∧ gate = cols Z 4096 3884 (by decide)

section

variable (m : (ℓ : Loc nD τ sig) → Buf (Elt Ideal) ℓ) (c : Dev nD)

/-- What follows the launch leaves the projection's results. -/
theorem tail_cut (U : Valuation τ sig (Elt Ideal)) (hU : U (Proc.devRef .tc main_v19) = arr m c)
    (hbuf : U (Proc.devRef .tc main_arg3) = m ((c.tc : Thread nD τ).loc main_arg3)) :
    Cut (m ((c.tc : Thread nD τ).loc main_arg3)) (proj m c) (StableHlo.after hostOps1 U (Proc.devRef .tc main_v36)) (StableHlo.after hostOps1 U (Proc.devRef .tc main_v37))
      (StableHlo.after hostOps1 U (Proc.devRef .tc main_v38)) (StableHlo.after hostOps1 U (Proc.devRef .tc main_v39))
      (StableHlo.after hostOps1 U (Proc.devRef .tc main_v34)) (StableHlo.after hostOps1 U (Proc.devRef .tc main_v41))
      (StableHlo.after hostOps1 U (Proc.devRef .tc main_v42)) (StableHlo.after hostOps1 U (Proc.devRef .tc main_v24))
      (StableHlo.after hostOps1 U (Proc.devRef .tc main_v25)) (StableHlo.after hostOps1 U (Proc.devRef .tc main_v33))
      (StableHlo.after hostOps1 U (Proc.devRef .tc main_v26)) (StableHlo.after hostOps1 U (Proc.devRef .tc main_v29))
      (StableHlo.after hostOps1 U (Proc.devRef .tc main_v32)) (StableHlo.after hostOps1 U (Proc.devRef .tc main_v35))
      (StableHlo.after hostOps1 U (Proc.devRef .tc main_v23)) (StableHlo.after hostOps1 U (Proc.devRef .tc main_v22)) := by
  have ht := tail_is U
  rw [hU, hbuf] at ht
  obtain ⟨h0, h1, h2, h3, h4, h5, h6, h7, h8, h9, h10, h11, h12, h13, h14, h15⟩ := ht
  exact ⟨h0.trans (congrArg heads (block_is m c 5 256 6400 1284 (within _ _ (by decide)) _ rfl (start_is _ _ _ (by decide)) _ _)),
    h1.trans (congrArg heads (block_is m c 6 256 6656 1540 (within _ _ (by decide)) _ rfl (start_is _ _ _ (by decide)) _ _)),
    h2.trans (congrArg heads (block_is m c 8 256 7168 2052 (within _ _ (by decide)) _ rfl (start_is _ _ _ (by decide)) _ _)),
    h3.trans (congrArg heads (block_is m c 9 256 7424 2308 (within _ _ (by decide)) _ rfl (start_is _ _ _ (by decide)) _ _)),
    h4.trans (block_is m c 12 32 7940 2820 (within _ _ (by decide)) _ rfl (start_is _ _ _ (by decide)) _ _),
    h5.trans (congrArg (shifted _) (block_is m c 3 768 5376 256 (within _ _ (by decide)) _ rfl (start_is _ _ _ (by decide)) _ _)),
    h6.trans (congrArg lastOne (block_is m c 1 1024 4096 2860 (within _ _ (by decide)) _ rfl (start_is _ _ _ (by decide)) _ _)),
    h7.trans (block_is m c 2 256 5120 0 (within _ _ (by decide)) _ rfl (start_is _ _ _ (by decide)) _ _),
    h8.trans (block_is m c 3 768 5376 256 (within _ _ (by decide)) _ rfl (start_is _ _ _ (by decide)) _ _),
    h9.trans (block_is m c 11 4 7936 1024 (within _ _ (by decide)) _ rfl (start_is _ _ _ (by decide)) _ _),
    h10.trans (block_is m c 4 256 6144 1028 (within _ _ (by decide)) _ rfl (start_is _ _ _ (by decide)) _ _),
    h11.trans (block_is m c 7 256 6912 1796 (within _ _ (by decide)) _ rfl (start_is _ _ _ (by decide)) _ _),
    h12.trans (block_is m c 10 256 7680 2564 (within _ _ (by decide)) _ rfl (start_is _ _ _ (by decide)) _ _),
    h13.trans (block_is m c 13 8 7972 2852 (within _ _ (by decide)) _ rfl (start_is _ _ _ (by decide)) _ _),
    h14.trans (block_is m c 1 1024 4096 2860 (within _ _ (by decide)) _ rfl (start_is _ _ _ (by decide)) _ _),
    h15.trans (block_is m c 0 4096 0 3884 (within _ _ (by decide)) _ rfl (start_is _ _ _ (by decide)) _ _)⟩

/-- The kept positions after the launch are the argument: no window is its array. -/
theorem buf_after : Pipeline.withArrays spec0 c (V0 m c) (fun w => (dats m 0 c).arrAt w (cfgs 0).N) (Proc.devRef .tc main_arg3)
    = m ((c.tc : Thread nD τ).loc main_arg3) :=
  (Pipeline.withArrays_of_ne spec0 c (V0 m c) (fun w => (dats m 0 c).arrAt w (cfgs 0).N) main_arg3 (by decide)).trans (V_main_arg3 m c)

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

/-- The launch's array is the product of the joined rows, gain and weight. -/
theorem launch_array :
    Pipeline.withArrays spec0 c (V0 m c) (fun w => (dats m 0 c).arrAt w (cfgs 0).N) (Proc.devRef .tc main_v19) = arr m c :=
  (Pipeline.withArrays_arr spec0 (by decide) c (V0 m c) (fun w => (dats m 0 c).arrAt w (cfgs 0).N) 3).trans (launched m c)

end

/-- The kernel's run ends with the projection's results. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      Cut (m ((c.tc : Thread nD τ).loc main_arg3)) (proj m c) (r.2.mem ((c.tc : Thread nD τ).loc main_v36)) (r.2.mem ((c.tc : Thread nD τ).loc main_v37))
        (r.2.mem ((c.tc : Thread nD τ).loc main_v38)) (r.2.mem ((c.tc : Thread nD τ).loc main_v39))
        (r.2.mem ((c.tc : Thread nD τ).loc main_v34)) (r.2.mem ((c.tc : Thread nD τ).loc main_v41))
        (r.2.mem ((c.tc : Thread nD τ).loc main_v42)) (r.2.mem ((c.tc : Thread nD τ).loc main_v24))
        (r.2.mem ((c.tc : Thread nD τ).loc main_v25)) (r.2.mem ((c.tc : Thread nD τ).loc main_v33))
        (r.2.mem ((c.tc : Thread nD τ).loc main_v26)) (r.2.mem ((c.tc : Thread nD τ).loc main_v29))
        (r.2.mem ((c.tc : Thread nD τ).loc main_v32)) (r.2.mem ((c.tc : Thread nD τ).loc main_v35))
        (r.2.mem ((c.tc : Thread nD τ).loc main_v23)) (r.2.mem ((c.tc : Thread nD τ).loc main_v22))
      ∧ Kept m c r.2) := by
  refine (θ_run defs _ _).mono (fun r h c => ?_) (run_main (F := Ideal) m ρ)
  have hb : ∀ b : Ref sig .tc, b ∈ Pipeline.restRefs sig spec0 → r.2.mem ((c.tc : Thread nD τ).loc b)
      = StableHlo.after hostOps1 (Pipeline.withArrays spec0 c (V0 m c) (fun w => (dats m 0 c).arrAt w (cfgs 0).N)) (Proc.devRef .tc b) :=
    fun b hm => ((h c).2 b hm).trans (after_tail m c b)
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩
  obtain ⟨h0, h1, h2, h3, h4, h5, h6, h7, h8, h9, h10, h11, h12, h13, h14, h15⟩ := tail_cut m c _ (launch_array m c) (buf_after m c)
  exact ⟨(hb main_v36 (Pipeline.mem_restRefs_of main_v36 (by decide) (by decide))).trans h0,
    (hb main_v37 (Pipeline.mem_restRefs_of main_v37 (by decide) (by decide))).trans h1,
    (hb main_v38 (Pipeline.mem_restRefs_of main_v38 (by decide) (by decide))).trans h2,
    (hb main_v39 (Pipeline.mem_restRefs_of main_v39 (by decide) (by decide))).trans h3,
    (hb main_v34 (Pipeline.mem_restRefs_of main_v34 (by decide) (by decide))).trans h4,
    (hb main_v41 (Pipeline.mem_restRefs_of main_v41 (by decide) (by decide))).trans h5,
    (hb main_v42 (Pipeline.mem_restRefs_of main_v42 (by decide) (by decide))).trans h6,
    (hb main_v24 (Pipeline.mem_restRefs_of main_v24 (by decide) (by decide))).trans h7,
    (hb main_v25 (Pipeline.mem_restRefs_of main_v25 (by decide) (by decide))).trans h8,
    (hb main_v33 (Pipeline.mem_restRefs_of main_v33 (by decide) (by decide))).trans h9,
    (hb main_v26 (Pipeline.mem_restRefs_of main_v26 (by decide) (by decide))).trans h10,
    (hb main_v29 (Pipeline.mem_restRefs_of main_v29 (by decide) (by decide))).trans h11,
    (hb main_v32 (Pipeline.mem_restRefs_of main_v32 (by decide) (by decide))).trans h12,
    (hb main_v35 (Pipeline.mem_restRefs_of main_v35 (by decide) (by decide))).trans h13,
    (hb main_v23 (Pipeline.mem_restRefs_of main_v23 (by decide) (by decide))).trans h14,
    (hb main_v22 (Pipeline.mem_restRefs_of main_v22 (by decide) (by decide))).trans h15⟩

/-- The kernel and the reference end with the same results. -/
theorem algebraic : Cert.algebraic_KernelInSampleIdeal_ReferenceInSampleIdeal := by
  intro m g m' g' _ hin
  refine ⟨fun c => heads (cols (proj m c) 256 1284 (by decide)), fun c => heads (cols (proj m c) 256 1540 (by decide)),
    fun c => heads (cols (proj m c) 256 2052 (by decide)), fun c => heads (cols (proj m c) 256 2308 (by decide)),
    fun c => cols (proj m c) 32 2820 (by decide), fun c => shifted (m ((c.tc : Thread nD τ).loc main_arg3)) (cols (proj m c) 768 256 (by decide)),
    fun c => lastOne (cols (proj m c) 1024 2860 (by decide)), fun c => cols (proj m c) 256 0 (by decide),
    fun c => cols (proj m c) 768 256 (by decide), fun c => cols (proj m c) 4 1024 (by decide),
    fun c => cols (proj m c) 256 1028 (by decide), fun c => cols (proj m c) 256 1796 (by decide),
    fun c => cols (proj m c) 256 2564 (by decide), fun c => cols (proj m c) 8 2852 (by decide),
    fun c => cols (proj m c) 1024 2860 (by decide), fun c => cols (proj m c) 4096 3884 (by decide), ?_, ?_⟩
  · refine (θ_run defs _ _).mono (fun r h c => ?_) (run_kernel m g)
    obtain ⟨⟨h0, h1, h2, h3, h4, h5, h6, h7, h8, h9, h10, h11, h12, h13, h14, h15⟩, hk⟩ := h c
    exact ⟨h0, h1, h2, h3, h4, h5, h6, h7, h8, h9, h10, h11, h12, h13, h14, h15, hk⟩
  · refine (θ_run Cert.ReferenceInSampleIdeal.defs _ _).mono (fun r h c => ?_) (Cert.ReferenceInSampleIdeal.Value.run (F := Ideal) m' g')
    obtain ⟨h0, h1, h2, h3, h4, h5, h6, h7, h8, h9, h10, h11, h12, h13, h14, h15, hk⟩ := h c
    obtain ⟨e0, e1, e2, e3⟩ := hin c
    have hz : Cert.ReferenceInSampleIdeal.InSample.refProduct (m' ((c.tc : Thread Cert.ReferenceInSampleIdeal.nD Cert.ReferenceInSampleIdeal.τ).loc Cert.ReferenceInSampleIdeal.main_arg0))
        (m' ((c.tc : Thread Cert.ReferenceInSampleIdeal.nD Cert.ReferenceInSampleIdeal.τ).loc Cert.ReferenceInSampleIdeal.main_arg1))
        (m' ((c.tc : Thread Cert.ReferenceInSampleIdeal.nD Cert.ReferenceInSampleIdeal.τ).loc Cert.ReferenceInSampleIdeal.main_arg2)) = proj m c := by
      refine (Cert.ReferenceInSampleIdeal.InSample.product_is _ _ _).trans ?_
      rw [e0, e1, e2]
      rfl
    exact ⟨h0.trans (congrArg (fun Z => heads (cols Z 256 1284 (by decide))) hz), h1.trans (congrArg (fun Z => heads (cols Z 256 1540 (by decide))) hz),
      h2.trans (congrArg (fun Z => heads (cols Z 256 2052 (by decide))) hz), h3.trans (congrArg (fun Z => heads (cols Z 256 2308 (by decide))) hz),
      h4.trans (congrArg (fun Z => cols Z 32 2820 (by decide)) hz), h5.trans (congrArg₂ (fun B Z => shifted B (cols Z 768 256 (by decide))) e3 hz),
      h6.trans (congrArg (fun Z => lastOne (cols Z 1024 2860 (by decide))) hz), h7.trans (congrArg (fun Z => cols Z 256 0 (by decide)) hz),
      h8.trans (congrArg (fun Z => cols Z 768 256 (by decide)) hz), h9.trans (congrArg (fun Z => cols Z 4 1024 (by decide)) hz),
      h10.trans (congrArg (fun Z => cols Z 256 1028 (by decide)) hz), h11.trans (congrArg (fun Z => cols Z 256 1796 (by decide)) hz),
      h12.trans (congrArg (fun Z => cols Z 256 2564 (by decide)) hz), h13.trans (congrArg (fun Z => cols Z 8 2852 (by decide)) hz),
      h14.trans (congrArg (fun Z => cols Z 1024 2860 (by decide)) hz), h15.trans (congrArg (fun Z => cols Z 4096 3884 (by decide)) hz), hk⟩

end Cert.KernelInSampleIdeal.InSample

end
-- ==== Proof.UpSample.Frames.lean ====
/- The three frames of the sample's first FFN projection: one run of the kernel for both of its instances, and the reference's run. -/
module

public import proofs.«01_k».proof.Defs
public import proofs.«01_k».proof.Proof.Gen.KernelUpSample
public import proofs.«01_k».proof.Proof.Gen.KernelUpSampleIdeal
public import proofs.«01_k».proof.Proof.Gen.KernelUpSampleIdeal.Frame
public import proofs.«01_k».proof.Proof.Gen.ReferenceUpSampleIdeal
public import proofs.«01_k».proof.Proof.Gen.ReferenceUpSampleIdeal.Run
public import Idealize.ShloMosaic.Lib.Quiescent

@[expose] public section

noncomputable section

namespace Cert.KernelUpSampleIdeal.UpSample

open Idealize.ShloMosaic Idealize.ShloMosaic.TcCoe Idealize.SL.Sem
open Cert.KernelUpSampleIdeal.Gen

variable {F : FTy → Type} [FloatOps F]

/-- A final state leaves the input, the gain, the weight and the kept positions as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

/-- The kernel's frame speaks of the idealized kernel's text read at the machine's floats. -/
theorem kernel_text : Cert.quiescent_KernelUpSample =
    ∀ (m : (ℓ : Loc nD τ sig) → Buf (Elt Bits) ℓ) (ρ : Dev nD → PrngReg), Cert.Pre_KernelUpSample m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelUpSample :=
  kernel_text.mpr fun m ρ _ => frame (F := Bits) m ρ

/-- The idealized kernel's frame: the same run at the ideal instance. -/
theorem frame_kernelIdeal : Cert.quiescent_KernelUpSampleIdeal := fun m ρ _ => frame (F := Ideal) m ρ

/-- The reference's frame: its run, which declares no semaphore. -/
theorem frame_referenceIdeal : Cert.quiescent_ReferenceUpSampleIdeal := fun m ρ _ =>
  (θ_run Cert.ReferenceUpSampleIdeal.defs _ _).mono
    (fun r h => ⟨fun c => (h c).2.2.2, Idealize.ShloMosaic.sem_eq_zero_of_no_sems (by decide) r.2⟩)
    (Cert.ReferenceUpSampleIdeal.Value.run (F := Ideal) m ρ)

end Cert.KernelUpSampleIdeal.UpSample

end
-- ==== Proof.UpSample.Product.lean ====
/- The array the launch of the sample's first FFN projection leaves: every new position's row normed, times every column
   of the weight. The norm is the sample's input projection's. -/
module

public import proofs.«01_k».proof.Proof.Gen.KernelUpSampleIdeal
public import proofs.«01_k».proof.Proof.Gen.KernelUpSampleIdeal.Frame
public import proofs.«01_k».proof.Proof.InSample.Product

@[expose] public section

noncomputable section

namespace Cert.KernelUpSampleIdeal.UpSample

open Idealize.ShloMosaic Idealize.ShloMosaic.TcCoe
open Cert.KernelUpSampleIdeal.Gen
open Cert.KernelInIdeal.Project (scale)
open Cert.KernelInSampleIdeal.InSample (normed)

/-- The normed rows of the block are the sample's input projection's: the text is the same. -/
theorem pay1_read (B : Vec Ideal S128x1024 .f32) (g : Vec Ideal S1x1024 .f32) (i : Fin 128) (k : Fin 1024) :
    (k0_pay1 B g : Vec Ideal S128x1024 .bf16) (ix2 i k) = normed B g i k :=
  Cert.KernelInSampleIdeal.InSample.pay1_read B g i k

/-- The product of the rows with a block of columns. -/
theorem pay2_read (B : Vec Ideal S128x1024 .bf16) (w : Vec Ideal S1024x1408 .bf16) (i : Fin 128) (j : Fin 1408) :
    (k0_pay2 B w : Vec Ideal S128x1408 .f32) (ix2 i j) = ∑ k : Fin 1024, (B (ix2 i k) * w (ix2 k j) : EReal) := by
  unfold k0_pay2
  pointwise

/-- The normed rows times the weight. -/
def product (X : Vec Ideal S128x1024 .f32) (g : Vec Ideal S1x1024 .f32) (w : Vec Ideal S1024x5632 .bf16) : Vec Ideal S128x5632 .f32 :=
  fun j => (∑ k : Fin 1024, (normed X g (j 0) k * w (ix2 k (j 1)) : EReal) : EReal)

/-- The placement of the blocks: the point's number is its block of columns. -/
theorem index_0 : ∀ t : Fin cfg0.N, win0_0.index t 0 = 0 ∧ win0_0.index t 1 = 0 := by decide +kernel

theorem index_1 : ∀ t : Fin cfg0.N, win0_1.index t 0 = 0 ∧ win0_1.index t 1 = 0 := by decide +kernel

theorem index_2 : ∀ t : Fin cfg0.N, win0_2.index t 0 = 0 ∧ win0_2.index t 1 = t.val := by decide +kernel

theorem index_3 : ∀ t : Fin cfg0.N, win0_3.index t 0 = 0 ∧ win0_3.index t 1 = t.val := by decide +kernel

theorem covers_3 : (cfg0.win 3).Covers := by decide +kernel

theorem read_0 (A : Vec Ideal S128x1024 .f32) (t : Fin cfg0.N) (i : Fin 128) (k : Fin 1024) :
    ((cfg0.win 0).blk t).view.read (Elt Ideal) A (ix2 i k) = A (ix2 i k) := by
  blk_ext [index_0 t]

theorem read_1 (A : Vec Ideal S1x1024 .f32) (t : Fin cfg0.N) (k : Fin 1024) :
    ((cfg0.win 1).blk t).view.read (Elt Ideal) A (ix2 0 k) = A (ix2 0 k) := by
  blk_ext [index_1 t]

theorem read_2 (A : Vec Ideal S1024x5632 .bf16) (t : Fin cfg0.N) (k : Fin 1024) (j : Fin 1408) (h : 1408 * t.val + j.val < 5632) :
    ((cfg0.win 2).blk t).view.read (Elt Ideal) A (ix2 k j) = A (ix2 k ⟨1408 * t.val + j.val, h⟩) := by
  blk_ext [index_2 t]

theorem col_lt (t : Fin cfg0.N) (j : Fin 1408) : 1408 * t.val + j.val < 5632 := by
  have ht : t.val < 4 := t.isLt
  have hj := j.isLt
  omega

section

variable (m : (ℓ : Loc nD τ sig) → Buf (Elt Ideal) ℓ) (c : Dev nD)

/-- The first point makes the carried buffer; any other keeps it. -/
theorem carried_made (t : Fin cfg0.N) (h0 : t.val % 4 = 0) : (outsAt0 m c t.val t.isLt).2 = k0_pay1 (iblk m c 0 t) (iblk m c 1 t) := by
  refine (congrArg Prod.snd (outsAt0_A m c t h0)).trans ?_
  dsimp only
  frame_out

theorem carried_kept (t : Fin cfg0.N) (h0 : ¬t.val % 4 = 0) :
    (outsAt0 m c t.val t.isLt).2 = (outsAt0 m c (t.val - 1) (Nat.lt_of_le_of_lt (Nat.sub_le _ _) t.isLt)).2 :=
  (congrArg Prod.snd (outsAt0_B m c t h0)).trans rfl

/-- Every point leaves the carried buffer's product with its block of columns. -/
theorem out_is (t : Fin cfg0.N) : (outsAt0 m c t.val t.isLt).1 = k0_pay2 (outsAt0 m c t.val t.isLt).2 (iblk m c 2 t) := by
  by_cases h0 : t.val % 4 = 0
  · rw [carried_made m c t h0]
    refine (congrArg Prod.fst (outsAt0_A m c t h0)).trans ?_
    dsimp only
    frame_out
  · rw [carried_kept m c t h0]
    refine (congrArg Prod.fst (outsAt0_B m c t h0)).trans ?_
    dsimp only
    frame_out
    exact congrArg (fun B => k0_pay2 B (iblk m c 2 t)) (Memref.IsWhole.read_unread (Memref.isWhole_whole _) _)

/-- The carried buffer holds the rows, normed. -/
theorem carried : ∀ (n : ℕ) (hn : n < cfg0.N) (i : Fin 128) (k : Fin 1024),
    ((outsAt0 m c n hn).2 : Vec Ideal S128x1024 .bf16) (ix2 i k) = normed (V m c main_v0) (V m c main_v1) i k := by
  intro n
  induction n with
  | zero =>
    intro hn i k
    refine (congrFun (carried_made m c ⟨0, hn⟩ rfl) _).trans ((pay1_read _ _ i k).trans ?_)
    have hB : ∀ y : Fin 1024, (iblk m c 0 ⟨0, hn⟩ : Vec Ideal S128x1024 .f32) (ix2 i y) = (V m c main_v0 : Vec Ideal S128x1024 .f32) (ix2 i y) :=
      fun y => read_0 _ _ i y
    have hb : (iblk m c 1 ⟨0, hn⟩ : Vec Ideal S1x1024 .f32) (ix2 0 k) = (V m c main_v1 : Vec Ideal S1x1024 .f32) (ix2 0 k) := read_1 _ _ k
    refine congrArg₂ (fun a b : EReal => a * b) (congrArg₂ (fun a b : EReal => a * b) (hB k) (congrArg scale ?_)) hb
    exact Finset.sum_congr (M := EReal) rfl fun y _ => congrArg₂ (fun a b : EReal => a * b) (hB y) (hB y)
  | succ n ih =>
    intro hn i k
    have hlt : n + 1 < 4 := hn
    have h0 : ¬(n + 1) % 4 = 0 := by omega
    exact (congrFun (carried_kept m c ⟨n + 1, hn⟩ h0) _).trans (ih (Nat.lt_of_succ_lt hn) i k)

/-- What a point leaves for the output: the rows, normed, times its columns. -/
theorem left (t : Fin cfg0.N) (i : Fin 128) (j : Fin 1408) :
    ((outsAt0 m c t.val t.isLt).1 : Vec Ideal S128x1408 .f32) (ix2 i j)
      = product (V m c main_v0) (V m c main_v1) (V m c main_v2) (ix2 i ⟨1408 * t.val + j.val, col_lt t j⟩) := by
  refine (congrFun (out_is m c t) _).trans ((pay2_read _ _ i j).trans ?_)
  refine Finset.sum_congr rfl fun k _ => ?_
  exact congrArg₂ (fun a b : EReal => a * b) (carried m c t.val t.isLt i k) (read_2 _ t k j (col_lt t j))

/-- The array after the launch. -/
theorem launched : (dats m 0 c).arrAt 3 cfg0.N = product (V m c main_v0) (V m c main_v1) (V m c main_v2) := by
  refine (dats m 0 c).arrAt_eq_of_covers 3 _ covers_3 fun t hf y => ?_
  blk_simp
  have key : ∀ (i : Fin 128) (j : Fin 1408), ((outsAt0 m c t.val t.isLt).1 : Vec Ideal S128x1408 .f32) (ix2 i j)
      = product (V m c main_v0) (V m c main_v1) (V m c main_v2) ((win0_3.blk t).view.emb (ix2 i j)) := by
    intro i j
    refine (left m c t i j).trans (congrArg _ ?_)
    blk_ext [index_3 t]
  rw [after0_3]
  suffices hk : ∀ y : S128x1408.Idx, ((outsAt0 m c t.val t.isLt).1 : Vec Ideal S128x1408 .f32) y
      = product (V m c main_v0) (V m c main_v1) (V m c main_v2) ((win0_3.blk t).view.emb y) from hk y
  intro y
  idx_vars y
  exact key _ _

end

end Cert.KernelUpSampleIdeal.UpSample

end
-- ==== Proof.UpSample.Algebraic.lean ====
/- The sample's first FFN projection: kernel and reference end with the same two halves and the same kept positions. -/
module

public import proofs.«01_k».proof.Defs
public import proofs.«01_k».proof.Proof.UpSample.Frames
public import proofs.«01_k».proof.Proof.UpSample.Product
public import proofs.«01_k».proof.Proof.InSample.Results

@[expose] public section

noncomputable section

namespace Cert.KernelUpSampleIdeal.UpSample

open Idealize.ShloMosaic Idealize.ShloMosaic.TcCoe Idealize.SL.Sem
open Cert.KernelUpSampleIdeal.Gen
open Cert.KernelInIdeal.Project (scale)
open Cert.KernelInSampleIdeal.InSample (normed normed_is)

/-- Every position's normed row times the weight. -/
def whole (x : Vec Ideal S128x1x1024 .f32) (g : Vec Ideal S1024 .f32) (W : Vec Ideal S1024x5632 .f32) : Vec Ideal S128x1x5632 .f32 :=
  fun j => (∑ k : Fin 1024, (x (ix3 (j 0) (j 1) k) * scale (∑ y : Fin 1024, (x (ix3 (j 0) (j 1) y) * x (ix3 (j 0) (j 1) y) : EReal))
    * g (ix1 k) * W (ix2 k (j 2)) : EReal) : EReal)

/-- The first half of the columns. -/
def gate (Z : Vec Ideal S128x1x5632 .f32) : Vec Ideal S128x1x2816 .f32 :=
  extractStridedSlice S128x1x2816 ![0, 0, 0] Z slices_S128x1x5632_S128x1x2816_0_0_0

/-- The second half of the columns. -/
def value (Z : Vec Ideal S128x1x5632 .f32) : Vec Ideal S128x1x2816 .f32 :=
  extractStridedSlice S128x1x2816 ![0, 0, 2816] Z slices_S128x1x5632_S128x1x2816_0_0_2816

/-- The kept positions, the oldest left out, and the first half at the new one. -/
def shifted (buf : Vec Ideal S128x2x2816 .f32) (Z : Vec Ideal S128x1x5632 .f32) : Vec Ideal S128x2x2816 .f32 :=
  extractStridedSlice S128x2x2816 ![0, 1, 0] (concatenate S128x3x2816 1 [⟨S128x2x2816, buf⟩, ⟨S128x1x2816, gate Z⟩]
    concatenates_S128x2x2816_S128x1x2816_S128x3x2816_d1) slices_S128x3x2816_S128x2x2816_0_1_0

section

variable (m : (ℓ : Loc nD τ sig) → Buf (Elt Ideal) ℓ) (c : Dev nD)

/-- The projection of the arguments. -/
def proj : Vec Ideal S128x1x5632 .f32 :=
  whole (m ((c.tc : Thread nD τ).loc main_arg0)) (m ((c.tc : Thread nD τ).loc main_arg1)) (m ((c.tc : Thread nD τ).loc main_arg2))

theorem rows_entry (r : Fin 128) (k : Fin 1024) : (V m c main_v0 : Vec Ideal S128x1024 .f32) (ix2 r k)
    = (m ((c : Thread nD τ).loc main_arg0) : Vec Ideal S128x1x1024 .f32) (ix3 r 0 k) := by
  unfold V
  after_reads_at

theorem gain_entry (k : Fin 1024) : (V m c main_v1 : Vec Ideal S1x1024 .f32) (ix2 0 k)
    = (m ((c : Thread nD τ).loc main_arg1) : Vec Ideal S1024 .f32) (ix1 k) := by
  unfold V
  after_reads_at

theorem weight_entry (k : Fin 1024) (o : Fin 5632) : (V m c main_v2 : Vec Ideal S1024x5632 .bf16) (ix2 k o)
    = (m ((c : Thread nD τ).loc main_arg2) : Vec Ideal S1024x5632 .f32) (ix2 k o) := by
  unfold V
  after_reads_at

/-- The launch's array, by batch entry and position. -/
theorem array_is : shapeCast S128x1x5632 (product (V m c main_v0) (V m c main_v1) (V m c main_v2)) shapeCasts_S128x5632_S128x1x5632 = proj m c := by
  have cast_at : ∀ (P : Vec Ideal S128x5632 .f32) (b : Fin 128) (n : Fin 1) (o : Fin 5632),
      shapeCast S128x1x5632 P shapeCasts_S128x5632_S128x1x5632 (ix3 b n o) = P (ix2 b o) := by
    intro P b n o
    have at_ : shapeCast S128x1x5632 P shapeCasts_S128x5632_S128x1x5632 (ix3 b 0 o) = P (ix2 b o) := by pointwise
    exact (congrArg (fun z : Fin 1 => shapeCast S128x1x5632 P shapeCasts_S128x5632_S128x1x5632 (ix3 b z o)) (Subsingleton.elim n 0)).trans at_
  suffices hk : ∀ j : S128x1x5632.Idx, shapeCast S128x1x5632 (product (V m c main_v0) (V m c main_v1) (V m c main_v2)) shapeCasts_S128x5632_S128x1x5632 j
      = proj m c j from funext hk
  intro j
  idx_vars j
  refine (cast_at _ _ _ _).trans ?_
  exact Finset.sum_congr (M := EReal) rfl fun k _ => congrArg₂ (fun y z : EReal => y * z)
    (normed_is _ _ _ _ (rows_entry m c) (gain_entry m c) _ _ k) (weight_entry m c k _)

/-- What follows the launch cuts the results out of its array. -/
theorem tail_is (U : Valuation τ sig (Elt Ideal)) :
    StableHlo.after hostOps1 U (Proc.devRef .tc main_v5) = gate (shapeCast S128x1x5632 (U (Proc.devRef .tc main_v3)) shapeCasts_S128x5632_S128x1x5632)
    ∧ StableHlo.after hostOps1 U (Proc.devRef .tc main_v6) = value (shapeCast S128x1x5632 (U (Proc.devRef .tc main_v3)) shapeCasts_S128x5632_S128x1x5632)
    ∧ StableHlo.after hostOps1 U (Proc.devRef .tc main_v8) = shifted (U (Proc.devRef .tc main_arg3)) (shapeCast S128x1x5632 (U (Proc.devRef .tc main_v3)) shapeCasts_S128x5632_S128x1x5632) := by
  unfold hostOps1
  refine ⟨?_, ?_, ?_⟩ <;> (after_results_simp <;> rfl)

/-- The array after the launch, by batch entry and position. -/
theorem array_after : shapeCast S128x1x5632
    (Pipeline.withArrays spec0 c (V0 m c) (fun w => (dats m 0 c).arrAt w (cfgs 0).N) (Proc.devRef .tc main_v3)) shapeCasts_S128x5632_S128x1x5632 = proj m c :=
  (congrArg (fun P : Vec Ideal S128x5632 .f32 => shapeCast S128x1x5632 P shapeCasts_S128x5632_S128x1x5632)
    ((Pipeline.withArrays_arr spec0 (by decide) c (V0 m c) (fun w => (dats m 0 c).arrAt w (cfgs 0).N) 3).trans (launched m c))).trans (array_is m c)

/-- The kept positions after the launch are the argument: no window is its array. -/
theorem buf_after : Pipeline.withArrays spec0 c (V0 m c) (fun w => (dats m 0 c).arrAt w (cfgs 0).N) (Proc.devRef .tc main_arg3)
    = m ((c.tc : Thread nD τ).loc main_arg3) :=
  (Pipeline.withArrays_of_ne spec0 c (V0 m c) (fun w => (dats m 0 c).arrAt w (cfgs 0).N) main_arg3 (by decide)).trans (V_main_arg3 m c)

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

end

/-- The kernel's run ends with the projection's halves. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = gate (proj m c) ∧ r.2.mem ((c.tc : Thread nD τ).loc main_v6) = value (proj m c)
      ∧ r.2.mem ((c.tc : Thread nD τ).loc main_v8) = shifted (m ((c.tc : Thread nD τ).loc main_arg3)) (proj m c) ∧ Kept m c r.2) := by
  refine (θ_run defs _ _).mono (fun r h c => ?_) (run_main (F := Ideal) m ρ)
  have hb : ∀ b : Ref sig .tc, b ∈ Pipeline.restRefs sig spec0 → r.2.mem ((c.tc : Thread nD τ).loc b)
      = StableHlo.after hostOps1 (Pipeline.withArrays spec0 c (V0 m c) (fun w => (dats m 0 c).arrAt w (cfgs 0).N)) (Proc.devRef .tc b) :=
    fun b hm => ((h c).2 b hm).trans (after_tail m c b)
  obtain ⟨h0, h1, h2⟩ := tail_is (Pipeline.withArrays spec0 c (V0 m c) (fun w => (dats m 0 c).arrAt w (cfgs 0).N))
  exact ⟨(hb main_v5 (Pipeline.mem_restRefs_of main_v5 (by decide) (by decide))).trans (h0.trans (congrArg gate (array_after m c))),
    (hb main_v6 (Pipeline.mem_restRefs_of main_v6 (by decide) (by decide))).trans (h1.trans (congrArg value (array_after m c))),
    (hb main_v8 (Pipeline.mem_restRefs_of main_v8 (by decide) (by decide))).trans (h2.trans (congrArg₂ shifted (buf_after m c) (array_after m c))),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.KernelUpSampleIdeal.UpSample

namespace Cert.ReferenceUpSampleIdeal.UpSample

open Idealize.ShloMosaic Idealize.ShloMosaic.TcCoe Idealize.SL.Sem
open Cert.ReferenceUpSampleIdeal Cert.ReferenceUpSampleIdeal.Gen
open Cert.KernelInIdeal.Project (scale)
open Cert.KernelUpSampleIdeal.UpSample (whole gate value shifted proj)

/-- The reference's product. -/
abbrev refProduct (x : FVec Ideal S128x1x1024 .f32) (g : FVec Ideal S1024 .f32) (W : FVec Ideal S1024x5632 .f32) : FVec Ideal S128x1x5632 .f32 :=
  Host.dotGeneral dot_S128x1x1024_S1024x5632_S128x1x5632_2_0_01_1_n_n none
    (mulf (mulf x (broadcastInDim S128x1x1024 ![0, 1, 2] bcast_S128x1x1_S128x1x1024_0_1_2
        (Host.rsqrt (addf (Host.divf (broadcastInDim S128x1x1 ![0, 1] bcast_S128x1_S128x1x1_0_1
            (Host.reduceAdd (mulf x x) (constant S_ .f32 0x00000000#32) reducesTo_S128x1x1024_S128x1_d2 h_S_))
          (broadcastInDim S128x1x1 ![] bcast_S_S128x1x1 (constant S_ .f32 0x44800000#32)))
          (broadcastInDim S128x1x1 ![] bcast_S_S128x1x1 (constant S_ .f32 0x358637BD#32))))))
      (broadcastInDim S128x1x1024 ![0, 1, 2] bcast_S1x1x1024_S128x1x1024_0_1_2 (broadcastInDim S1x1x1024 ![2] bcast_S1024_S1x1x1024_2 g))) W

theorem product_is (x : FVec Ideal S128x1x1024 .f32) (g : FVec Ideal S1024 .f32) (W : FVec Ideal S1024x5632 .f32) : refProduct x g W = whole x g W := by
  have at_ : ∀ (b : Fin 128) (n : Fin 1) (o : Fin 5632), refProduct x g W (ix3 b n o) = whole x g W (ix3 b n o) := by
    intro b n o
    obtain rfl : n = 0 := Subsingleton.elim n 0
    unfold refProduct whole scale
    pointwise
  suffices hk : ∀ j : S128x1x5632.Idx, refProduct x g W j = whole x g W j from funext hk
  intro j
  idx_vars j
  exact at_ _ _ _

/-- The kernel and the reference end with the same results. -/
theorem algebraic : Cert.algebraic_KernelUpSampleIdeal_ReferenceUpSampleIdeal := by
  intro m g m' g' _ hin
  refine ⟨fun c => gate (proj m c), fun c => value (proj m c), fun c => shifted (m ((c.tc : Thread Cert.KernelUpSampleIdeal.nD Cert.KernelUpSampleIdeal.τ).loc Cert.KernelUpSampleIdeal.main_arg3)) (proj m c), Cert.KernelUpSampleIdeal.UpSample.run_kernel m g, ?_⟩
  refine (θ_run defs _ _).mono (fun r h c => ?_) (Cert.ReferenceUpSampleIdeal.Value.run (F := Ideal) m' g')
  obtain ⟨h0, h1, h2, hk⟩ := h c
  obtain ⟨e0, e1, e2, e3⟩ := hin c
  have hz : refProduct (m' ((c.tc : Thread nD τ).loc main_arg0)) (m' ((c.tc : Thread nD τ).loc main_arg1)) (m' ((c.tc : Thread nD τ).loc main_arg2))
      = proj m c := by
    refine (product_is _ _ _).trans ?_
    rw [e0, e1, e2]
    rfl
  exact ⟨h0.trans (congrArg gate hz), h1.trans (congrArg value hz), h2.trans (congrArg₂ shifted e3 hz), hk⟩

end Cert.ReferenceUpSampleIdeal.UpSample

end
-- ==== Proof.RwkvStep.Frames.lean ====
/- The three frames of the decoding step of the recurrence: one run of the kernel for both of its instances, and the reference's run. -/
module

public import proofs.«01_k».proof.Defs
public import proofs.«01_k».proof.Proof.Gen.KernelRwkvStep
public import proofs.«01_k».proof.Proof.Gen.KernelRwkvStepIdeal
public import proofs.«01_k».proof.Proof.Gen.KernelRwkvStepIdeal.Frame
public import proofs.«01_k».proof.Proof.Gen.ReferenceRwkvStepIdeal
public import proofs.«01_k».proof.Proof.Gen.ReferenceRwkvStepIdeal.Run
public import Idealize.ShloMosaic.Lib.Quiescent

@[expose] public section

noncomputable section

namespace Cert.KernelRwkvStepIdeal.RwkvStep

open Idealize.ShloMosaic Idealize.ShloMosaic.TcCoe Idealize.SL.Sem
open Cert.KernelRwkvStepIdeal.Gen

variable {F : FTy → Type} [FloatOps F]

/-- A final state leaves the seven arguments as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

/-- The kernel's frame speaks of the idealized kernel's text read at the machine's floats. -/
theorem kernel_text : Cert.quiescent_KernelRwkvStep =
    ∀ (m : (ℓ : Loc nD τ sig) → Buf (Elt Bits) ℓ) (ρ : Dev nD → PrngReg), Cert.Pre_KernelRwkvStep m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelRwkvStep :=
  kernel_text.mpr fun m ρ _ => frame (F := Bits) m ρ

/-- The idealized kernel's frame: the same run at the ideal instance. -/
theorem frame_kernelIdeal : Cert.quiescent_KernelRwkvStepIdeal := fun m ρ _ => frame (F := Ideal) m ρ

/-- The reference's frame: its run, which declares no semaphore. -/
theorem frame_referenceIdeal : Cert.quiescent_ReferenceRwkvStepIdeal := fun m ρ _ =>
  (θ_run Cert.ReferenceRwkvStepIdeal.defs _ _).mono
    (fun r h => ⟨fun c => (h c).2.2, Idealize.ShloMosaic.sem_eq_zero_of_no_sems (by decide) r.2⟩)
    (Cert.ReferenceRwkvStepIdeal.Value.run (F := Ideal) m ρ)

end Cert.KernelRwkvStepIdeal.RwkvStep

end
-- ==== Proof.RwkvStep.Finite.lean ====
/- A finite state and finite keys are arrays of real numbers, and the negated sum over their products is the sum of the
   products with the negated keys. -/
module

public import proofs.«01_k».proof.Pre_rwkv_finite
public import proofs.«01_k».proof.Proof.Rwkv.Finite

@[expose] public section

noncomputable section

namespace Cert.RwkvStep

open Idealize.ShloMosaic Idealize.ShloMosaic.TcCoe
open Cert.Pre_rwkv_finite (S128x1x256 S128x4x64x64)
open Cert.Rwkv (Real real_of_all both_set)

/-- Of real numbers, the negated sum of products is the sum of the products with one factor negated. -/
theorem neg_sum (s q : Fin 64 → EReal) (hs : ∀ x, s x ≠ ⊤ ∧ s x ≠ ⊥) (hq : ∀ x, q x ≠ ⊤ ∧ q x ≠ ⊥) :
    0 - ∑ x : Fin 64, s x * q x = ∑ x : Fin 64, s x * -(q x) := by
  obtain ⟨a, rfl⟩ : ∃ a : Fin 64 → ℝ, s = fun x => ((a x : ℝ) : EReal) :=
    ⟨fun x => (s x).toReal, funext fun x => (EReal.coe_toReal (hs x).1 (hs x).2).symm⟩
  obtain ⟨b, rfl⟩ : ∃ b : Fin 64 → ℝ, q = fun x => ((b x : ℝ) : EReal) :=
    ⟨fun x => (q x).toReal, funext fun x => (EReal.coe_toReal (hq x).1 (hq x).2).symm⟩
  have e1 : ∑ x : Fin 64, ((a x : ℝ) : EReal) * ((b x : ℝ) : EReal) = ((∑ x : Fin 64, a x * b x : ℝ) : EReal) :=
    (Finset.sum_congr (M := EReal) rfl fun x _ => (EReal.coe_mul (a x) (b x)).symm).trans (Cert.Rwkv.coe_sum _ _).symm
  have e2 : ∑ x : Fin 64, ((a x : ℝ) : EReal) * -((b x : ℝ) : EReal) = ((∑ x : Fin 64, -(a x * b x) : ℝ) : EReal) := by
    refine (Finset.sum_congr (M := EReal) rfl fun x _ => ?_).trans (Cert.Rwkv.coe_sum _ _).symm
    rw [← EReal.coe_neg, ← EReal.coe_mul, mul_neg]
  rw [e1, e2, zero_sub, Finset.sum_neg_distrib, EReal.coe_neg]

variable [Cert.Pre_rwkv_finite.Facts]

theorem real_two (A0 A1 A2 A3 A4 A5 : Vec Ideal S128x1x256 .f32) (A6 : Vec Ideal S128x4x64x64 .f32)
    (h : Cert.Pre_rwkv_finite.fn (F := Ideal) A0 A1 A2 A3 A4 A5 A6 = fun _ => 1#1) : Real A4 ∧ Real A6 := by
  have e := congrFun h (ix1 0)
  unfold Cert.Pre_rwkv_finite.fn at e
  obtain ⟨h4, h6⟩ := both_set _ _ _ e
  clear e h
  exact ⟨real_of_all A4 _ _ _ _ h4, real_of_all A6 _ _ _ _ h6⟩

end Cert.RwkvStep

end
-- ==== Proof.RwkvStep.Heads.lean ====
/- One point of the decoding step of the recurrence: 8 sequences of 4 heads, each head's new state and output stored
   through its own rectangle. The 32 stores are one family over the heads. -/
module

public import proofs.«01_k».proof.Proof.Gen.KernelRwkvStepIdeal
public import proofs.«01_k».proof.Proof.Gen.KernelRwkvStepIdeal.Frame
public import Idealize.ShloMosaic.Lib.Pointwise
public import Idealize.ShloMosaic.Lib.Pipeline.ValueKit.Tiles

@[expose] public section

noncomputable section

namespace Cert.KernelRwkvStepIdeal.RwkvStep

open Idealize.ShloMosaic Idealize.ShloMosaic.TcCoe
open Cert.KernelRwkvStepIdeal.Gen

/-- Where head `n`'s rectangle begins, the last head first. -/
def off (n : Fin 32) : Fin 4 → ℕ := ![(31 - n.val) / 4, (31 - n.val) % 4, 0, 0]

theorem off_state : ∀ (n : Fin 32) (a : Fin 4), off n a + S1x1x64x64.size a ≤ S8x4x64x64.size a := by decide +kernel

theorem off_row : ∀ (n : Fin 32) (a : Fin 4), off n a + S1x1x1x64.size a ≤ S8x4x1x64.size a := by decide +kernel

abbrev stateRect (n : Fin 32) : Rect S8x4x64x64 := Rect.unit (s := S8x4x64x64) (off n) S1x1x64x64.size (off_state n)

abbrev rowRect (n : Fin 32) : Rect S8x4x1x64 := Rect.unit (s := S8x4x1x64) (off n) S1x1x1x64.size (off_row n)

section

variable (x0 x1 : Vec Ideal S8x4x64x64 .f32) (x2 x3 x4 x5 x6 : Vec Ideal S8x4x1x64 .f32)

/-- A head's new state. -/
def headState (n : Fin 32) : FVec Ideal S64x64 .f32 :=
  k0_pay3 (View.ld x0 (stateRect n)) (View.ld x3 (rowRect n)) (View.ld x2 (rowRect n)) (View.ld x4 (rowRect n))
    (View.ld x1 (stateRect n)) (View.ld x5 (rowRect n))

theorem states_family : out0_7 x0 x1 x2 x3 x4 x5 x6
    = View.canon (List.ofFn fun n : Fin 32 => (⟨stateRect n, k0_pay1 (headState x0 x1 x2 x3 x4 x5 n)⟩ : View.Piece (Elt Ideal) S8x4x64x64 .f32)) := rfl

theorem outputs_family : out0_8 x0 x1 x2 x3 x4 x5 x6
    = View.canon (List.ofFn fun n : Fin 32 => (⟨rowRect n, k0_pay2 (headState x0 x1 x2 x3 x4 x5 n) (View.ld x6 (rowRect n))⟩ : View.Piece (Elt Ideal) S8x4x1x64 .f32)) := rfl

end

/-- An entry of a head's new state. -/
theorem pay3_read (s : Vec Ideal S1x1x64x64 .f32) (q w p : Vec Ideal S1x1x1x64 .f32) (v : Vec Ideal S1x1x64x64 .f32) (k : Vec Ideal S1x1x1x64 .f32)
    (i j : Fin 64) : (k0_pay1 (k0_pay3 s q w p v k) : Vec Ideal S1x1x64x64 .f32) (ix4 0 0 i j)
      = (s (ix4 0 0 i j) * w (ix4 0 0 0 j) + (0 - ∑ x : Fin 64, (s (ix4 0 0 i x) * q (ix4 0 0 0 x) : EReal)) * p (ix4 0 0 0 j)
        + v (ix4 0 0 i j) * k (ix4 0 0 0 j) : EReal) := by
  unfold k0_pay1 k0_pay3
  pointwise

/-- An entry of a head's output. -/
theorem pay2_read (S : FVec Ideal S64x64 .f32) (r : Vec Ideal S1x1x1x64 .f32) (i : Fin 64) :
    (k0_pay2 S r : Vec Ideal S1x1x1x64 .f32) (ix4 0 0 0 i)
      = ∑ x : Fin 64, (r (ix4 0 0 0 x) * (k0_pay1 S : Vec Ideal S1x1x64x64 .f32) (ix4 0 0 i x) : EReal) := by
  unfold k0_pay2 k0_pay1
  pointwise

/-- One entry of a new state, from its row of the old state, the head's rows and the entry's own operands. -/
def entry (s q : Fin 64 → EReal) (w p v k : EReal) (j : Fin 64) : EReal :=
  s j * w + (0 - ∑ x : Fin 64, s x * q x) * p + v * k

section

variable (x0 x1 : Vec Ideal S8x4x64x64 .f32) (x2 x3 x4 x5 x6 : Vec Ideal S8x4x1x64 .f32)

/-- An entry of the new states of the block. -/
def cell (s : Fin 8) (h : Fin 4) (i j : Fin 64) : EReal :=
  entry (fun x => x0 (ix4 s h i x)) (fun x => x3 (ix4 s h 0 x)) (x2 (ix4 s h 0 j)) (x4 (ix4 s h 0 j)) (x1 (ix4 s h i j)) (x5 (ix4 s h 0 j)) j

/-- The head `n` is that of the sequence `s` and the head `h`. -/
def At (n : Fin 32) (s : Fin 8) (h : Fin 4) : Prop := s.val = (31 - n.val) / 4 ∧ h.val = (31 - n.val) % 4

theorem state_ld (X : Vec Ideal S8x4x64x64 .f32) (n : Fin 32) (s : Fin 8) (h : Fin 4) (hn : At n s h) (i j : Fin 64) :
    (View.ld X (stateRect n) : Vec Ideal S1x1x64x64 .f32) (ix4 0 0 i j) = X (ix4 s h i j) := by
  obtain ⟨h0, h1⟩ := hn
  exact View.ld_unit_apply_of X _ _ _ _ (ix4 s h i j) (by intro a; fin_cases a <;> simp [off, h0, h1])

theorem row_ld (X : Vec Ideal S8x4x1x64 .f32) (n : Fin 32) (s : Fin 8) (h : Fin 4) (hn : At n s h) (j : Fin 64) :
    (View.ld X (rowRect n) : Vec Ideal S1x1x1x64 .f32) (ix4 0 0 0 j) = X (ix4 s h 0 j) := by
  obtain ⟨h0, h1⟩ := hn
  exact View.ld_unit_apply_of X _ _ _ _ (ix4 s h 0 j) (by intro a; fin_cases a <;> simp [off, h0, h1])

theorem head_read (n : Fin 32) (s : Fin 8) (h : Fin 4) (hn : At n s h) (i j : Fin 64) :
    (k0_pay1 (headState x0 x1 x2 x3 x4 x5 n) : Vec Ideal S1x1x64x64 .f32) (ix4 0 0 i j) = cell x0 x1 x2 x3 x4 x5 s h i j := by
  unfold headState
  refine (pay3_read _ _ _ _ _ _ i j).trans ?_
  rw [state_ld x0 n s h hn, state_ld x1 n s h hn, row_ld x2 n s h hn, row_ld x4 n s h hn, row_ld x5 n s h hn]
  unfold cell entry
  refine congrArg (fun z : EReal => x0 (ix4 s h i j) * x2 (ix4 s h 0 j) + (0 - z) * x4 (ix4 s h 0 j) + x1 (ix4 s h i j) * x5 (ix4 s h 0 j)) ?_
  exact Finset.sum_congr (M := EReal) rfl fun x _ => congrArg₂ (fun a b : EReal => a * b) (state_ld x0 n s h hn i x) (row_ld x3 n s h hn x)

/-- Every sequence's every head has its rectangle. -/
theorem at_mk (s : Fin 8) (h : Fin 4) : ∃ n : Fin 32, At n s h :=
  ⟨⟨31 - (4 * s.val + h.val), by omega⟩, by unfold At; dsimp only; omega⟩

/-- The block of new states. -/
theorem states_read (s : Fin 8) (h : Fin 4) (i j : Fin 64) :
    out0_7 x0 x1 x2 x3 x4 x5 x6 (ix4 s h i j) = cell x0 x1 x2 x3 x4 x5 s h i j := by
  rw [states_family]
  refine View.canon_ofFn_unit_eq_of_forall (S := S8x4x64x64) off S1x1x64x64.size off_state _ _ _ ?_ ?_
  · obtain ⟨n, h0, h1⟩ := at_mk s h
    exact ⟨n, by intro a; fin_cases a <;> simp [off, h0, h1]⟩
  · intro n x ha
    have key : ∀ (a b : Fin 1) (i' j' : Fin 64), x = ix4 a b i' j' →
        (k0_pay1 (headState x0 x1 x2 x3 x4 x5 n) : Vec Ideal S1x1x64x64 .f32) x = cell x0 x1 x2 x3 x4 x5 s h i j := by
      intro a b i' j' hx
      subst hx
      have e0 := ha 0
      have e1 := ha 1
      have e2 := ha 2
      have e3 := ha 3
      obtain rfl : a = 0 := Subsingleton.elim _ _
      obtain rfl : b = 0 := Subsingleton.elim _ _
      simp [off] at e0 e1 e2 e3
      obtain rfl : i = i' := Fin.ext e2
      obtain rfl : j = j' := Fin.ext e3
      exact head_read x0 x1 x2 x3 x4 x5 n s h ⟨e0, e1⟩ i j
    exact key (x 0) (x 1) (x 2) (x 3) (by funext a; fin_cases a <;> rfl)

/-- The block of outputs: each head's row with its new state. -/
theorem outputs_read (s : Fin 8) (h : Fin 4) (i : Fin 64) :
    out0_8 x0 x1 x2 x3 x4 x5 x6 (ix4 s h 0 i) = ∑ x : Fin 64, (x6 (ix4 s h 0 x) * cell x0 x1 x2 x3 x4 x5 s h i x : EReal) := by
  rw [outputs_family]
  refine View.canon_ofFn_unit_eq_of_forall (S := S8x4x1x64) off S1x1x1x64.size off_row _ _ _ ?_ ?_
  · obtain ⟨n, h0, h1⟩ := at_mk s h
    exact ⟨n, by intro a; fin_cases a <;> simp [off, h0, h1]⟩
  · intro n x ha
    have key : ∀ (a b c : Fin 1) (i' : Fin 64), x = ix4 a b c i' →
        (k0_pay2 (headState x0 x1 x2 x3 x4 x5 n) (View.ld x6 (rowRect n)) : Vec Ideal S1x1x1x64 .f32) x
          = ∑ x : Fin 64, (x6 (ix4 s h 0 x) * cell x0 x1 x2 x3 x4 x5 s h i x : EReal) := by
      intro a b c i' hx
      subst hx
      have e0 := ha 0
      have e1 := ha 1
      have e3 := ha 3
      obtain rfl : a = 0 := Subsingleton.elim _ _
      obtain rfl : b = 0 := Subsingleton.elim _ _
      obtain rfl : c = 0 := Subsingleton.elim _ _
      simp [off] at e0 e1 e3
      obtain rfl : i = i' := Fin.ext e3
      refine (pay2_read _ _ i).trans ?_
      exact Finset.sum_congr (M := EReal) rfl fun y _ => congrArg₂ (fun a b : EReal => a * b) (row_ld x6 n s h ⟨e0, e1⟩ y)
        (head_read x0 x1 x2 x3 x4 x5 n s h ⟨e0, e1⟩ i y)
    exact key (x 0) (x 1) (x 2) (x 3) (by funext a; fin_cases a <;> rfl)

end

end Cert.KernelRwkvStepIdeal.RwkvStep

end
-- ==== Proof.RwkvStep.Launch.lean ====
/- The two arrays the launch of the decoding step of the recurrence leaves: every point its 8 sequences. -/
module

public import proofs.«01_k».proof.Proof.RwkvStep.Heads
public import Idealize.ShloMosaic.Lib.Pipeline.Value
public import Idealize.ShloMosaic.Lib.Pipeline.ValueKit
public import Idealize.ShloMosaic.Lib.Pointwise
public import Idealize.ShloMosaic.Lib.Quiescent
public import Idealize.ShloMosaic.Lib.StableHlo.ReadAt

@[expose] public section

noncomputable section

namespace Cert.KernelRwkvStepIdeal.RwkvStep

open Idealize.ShloMosaic Idealize.ShloMosaic.TcCoe
open Cert.KernelRwkvStepIdeal.Gen

section

variable (X0 X1 : Vec Ideal S128x4x64x64 .f32) (X2 X3 X4 X5 X6 : Vec Ideal S128x4x1x64 .f32)

/-- The new states. -/
def states : Vec Ideal S128x4x64x64 .f32 := fun y =>
  entry (fun x => X0 (ix4 (y 0) (y 1) (y 2) x)) (fun x => X3 (ix4 (y 0) (y 1) 0 x)) (X2 (ix4 (y 0) (y 1) 0 (y 3)))
    (X4 (ix4 (y 0) (y 1) 0 (y 3))) (X1 (ix4 (y 0) (y 1) (y 2) (y 3))) (X5 (ix4 (y 0) (y 1) 0 (y 3))) (y 3)

/-- The outputs: every head's row with its new state. -/
def outputs : Vec Ideal S128x4x1x64 .f32 := fun y =>
  (∑ x : Fin 64, (X6 (ix4 (y 0) (y 1) 0 x) * states X0 X1 X2 X3 X4 X5 (ix4 (y 0) (y 1) (y 3) x) : EReal) : EReal)

end

/-- The placement of the blocks: the point's number is its block of sequences. -/
theorem index_0 : ∀ t : Fin cfg0.N, win0_0.index t 0 = t.val ∧ win0_0.index t 1 = 0 ∧ win0_0.index t 2 = 0 ∧ win0_0.index t 3 = 0 := by decide +kernel
theorem index_1 : ∀ t : Fin cfg0.N, win0_1.index t 0 = t.val ∧ win0_1.index t 1 = 0 ∧ win0_1.index t 2 = 0 ∧ win0_1.index t 3 = 0 := by decide +kernel
theorem index_2 : ∀ t : Fin cfg0.N, win0_2.index t 0 = t.val ∧ win0_2.index t 1 = 0 ∧ win0_2.index t 2 = 0 ∧ win0_2.index t 3 = 0 := by decide +kernel
theorem index_3 : ∀ t : Fin cfg0.N, win0_3.index t 0 = t.val ∧ win0_3.index t 1 = 0 ∧ win0_3.index t 2 = 0 ∧ win0_3.index t 3 = 0 := by decide +kernel
theorem index_4 : ∀ t : Fin cfg0.N, win0_4.index t 0 = t.val ∧ win0_4.index t 1 = 0 ∧ win0_4.index t 2 = 0 ∧ win0_4.index t 3 = 0 := by decide +kernel
theorem index_5 : ∀ t : Fin cfg0.N, win0_5.index t 0 = t.val ∧ win0_5.index t 1 = 0 ∧ win0_5.index t 2 = 0 ∧ win0_5.index t 3 = 0 := by decide +kernel
theorem index_6 : ∀ t : Fin cfg0.N, win0_6.index t 0 = t.val ∧ win0_6.index t 1 = 0 ∧ win0_6.index t 2 = 0 ∧ win0_6.index t 3 = 0 := by decide +kernel
theorem index_7 : ∀ t : Fin cfg0.N, win0_7.index t 0 = t.val ∧ win0_7.index t 1 = 0 ∧ win0_7.index t 2 = 0 ∧ win0_7.index t 3 = 0 := by decide +kernel
theorem index_8 : ∀ t : Fin cfg0.N, win0_8.index t 0 = t.val ∧ win0_8.index t 1 = 0 ∧ win0_8.index t 2 = 0 ∧ win0_8.index t 3 = 0 := by decide +kernel

theorem covers_7 : (cfg0.win 7).Covers := by decide +kernel
theorem covers_8 : (cfg0.win 8).Covers := by decide +kernel

/-- A point's sequence, in the arrays. -/
def seq (t : Fin cfg0.N) (s : Fin 8) : Fin 128 := ⟨8 * t.val + s.val, by have ht : t.val < 16 := t.isLt; omega⟩

section

variable (A : Vec Ideal S128x4x64x64 .f32) (R : Vec Ideal S128x4x1x64 .f32) (t : Fin cfg0.N) (s : Fin 8) (h : Fin 4) (i j : Fin 64)

theorem read_0 : ((cfg0.win 0).blk t).view.read (Elt Ideal) A (ix4 s h i j) = A (ix4 (seq t s) h i j) := by blk_ext [index_0 t, seq]
theorem read_1 : ((cfg0.win 1).blk t).view.read (Elt Ideal) A (ix4 s h i j) = A (ix4 (seq t s) h i j) := by blk_ext [index_1 t, seq]
theorem read_2 : ((cfg0.win 2).blk t).view.read (Elt Ideal) R (ix4 s h 0 j) = R (ix4 (seq t s) h 0 j) := by blk_ext [index_2 t, seq]
theorem read_3 : ((cfg0.win 3).blk t).view.read (Elt Ideal) R (ix4 s h 0 j) = R (ix4 (seq t s) h 0 j) := by blk_ext [index_3 t, seq]
theorem read_4 : ((cfg0.win 4).blk t).view.read (Elt Ideal) R (ix4 s h 0 j) = R (ix4 (seq t s) h 0 j) := by blk_ext [index_4 t, seq]
theorem read_5 : ((cfg0.win 5).blk t).view.read (Elt Ideal) R (ix4 s h 0 j) = R (ix4 (seq t s) h 0 j) := by blk_ext [index_5 t, seq]
theorem read_6 : ((cfg0.win 6).blk t).view.read (Elt Ideal) R (ix4 s h 0 j) = R (ix4 (seq t s) h 0 j) := by blk_ext [index_6 t, seq]

end

section

variable (m : (ℓ : Loc nD τ sig) → Buf (Elt Ideal) ℓ) (c : Dev nD)

/-- The new states of the arrays the launch reads. -/
abbrev statesV : Vec Ideal S128x4x64x64 .f32 :=
  states (V m c main_arg6) (V m c main_v8) (V m c main_v9) (V m c main_v10) (V m c main_v11) (V m c main_v12)

/-- The outputs of the arrays the launch reads. -/
abbrev outputsV : Vec Ideal S128x4x1x64 .f32 :=
  outputs (V m c main_arg6) (V m c main_v8) (V m c main_v9) (V m c main_v10) (V m c main_v11) (V m c main_v12) (V m c main_v13)

/-- An entry of a point's new states. -/
theorem cell_is (t : Fin cfg0.N) (s : Fin 8) (h : Fin 4) (i j : Fin 64) :
    cell (iblk m c 0 t) (iblk m c 1 t) (iblk m c 2 t) (iblk m c 3 t) (iblk m c 4 t) (iblk m c 5 t) s h i j = statesV m c (ix4 (seq t s) h i j) := by
  have e0 : (fun x => (iblk m c 0 t : Vec Ideal S8x4x64x64 .f32) (ix4 s h i x)) = fun x => (V m c main_arg6 : Vec Ideal S128x4x64x64 .f32) (ix4 (seq t s) h i x) :=
    funext fun x => read_0 _ t s h i x
  have e1 : (iblk m c 1 t : Vec Ideal S8x4x64x64 .f32) (ix4 s h i j) = (V m c main_v8 : Vec Ideal S128x4x64x64 .f32) (ix4 (seq t s) h i j) := read_1 _ t s h i j
  have e2 : (iblk m c 2 t : Vec Ideal S8x4x1x64 .f32) (ix4 s h 0 j) = (V m c main_v9 : Vec Ideal S128x4x1x64 .f32) (ix4 (seq t s) h 0 j) := read_2 _ t s h j
  have e3 : (fun x => (iblk m c 3 t : Vec Ideal S8x4x1x64 .f32) (ix4 s h 0 x)) = fun x => (V m c main_v10 : Vec Ideal S128x4x1x64 .f32) (ix4 (seq t s) h 0 x) :=
    funext fun x => read_3 _ t s h x
  have e4 : (iblk m c 4 t : Vec Ideal S8x4x1x64 .f32) (ix4 s h 0 j) = (V m c main_v11 : Vec Ideal S128x4x1x64 .f32) (ix4 (seq t s) h 0 j) := read_4 _ t s h j
  have e5 : (iblk m c 5 t : Vec Ideal S8x4x1x64 .f32) (ix4 s h 0 j) = (V m c main_v12 : Vec Ideal S128x4x1x64 .f32) (ix4 (seq t s) h 0 j) := read_5 _ t s h j
  unfold cell
  rw [e0, e1, e2, e3, e4, e5]
  rfl

/-- The array of new states after the launch. -/
theorem launched_states : (dats m 0 c).arrAt 7 cfg0.N = statesV m c := by
  refine (dats m 0 c).arrAt_eq_of_covers 7 _ covers_7 fun t hf y => ?_
  blk_simp
  rw [after0_7]
  have key : ∀ (s : Fin 8) (h : Fin 4) (i j : Fin 64),
      out0_7 (iblk m c 0 t) (iblk m c 1 t) (iblk m c 2 t) (iblk m c 3 t) (iblk m c 4 t) (iblk m c 5 t) (iblk m c 6 t) (ix4 s h i j)
        = statesV m c ((win0_7.blk t).view.emb (ix4 s h i j)) := by
    intro s h i j
    refine (states_read _ _ _ _ _ _ _ s h i j).trans ((cell_is m c t s h i j).trans (congrArg (statesV m c) ?_))
    blk_ext [index_7 t, seq]
  suffices hk : ∀ y : S8x4x64x64.Idx, out0_7 (iblk m c 0 t) (iblk m c 1 t) (iblk m c 2 t) (iblk m c 3 t) (iblk m c 4 t) (iblk m c 5 t) (iblk m c 6 t) y
      = statesV m c ((win0_7.blk t).view.emb y) from hk y
  intro y
  idx_vars y
  exact key _ _ _ _

/-- The array of outputs after the launch. -/
theorem launched_outputs : (dats m 0 c).arrAt 8 cfg0.N = outputsV m c := by
  refine (dats m 0 c).arrAt_eq_of_covers 8 _ covers_8 fun t hf y => ?_
  blk_simp
  rw [after0_8]
  have key : ∀ (s : Fin 8) (h : Fin 4) (z : Fin 1) (i : Fin 64),
      out0_8 (iblk m c 0 t) (iblk m c 1 t) (iblk m c 2 t) (iblk m c 3 t) (iblk m c 4 t) (iblk m c 5 t) (iblk m c 6 t) (ix4 s h z i)
        = outputsV m c ((win0_8.blk t).view.emb (ix4 s h z i)) := by
    intro s h z i
    obtain rfl : z = 0 := Subsingleton.elim z 0
    have he : (win0_8.blk t).view.emb (ix4 s h 0 i) = ix4 (seq t s) h 0 i := by blk_ext [index_8 t, seq]
    refine (outputs_read _ _ _ _ _ _ _ s h i).trans (Eq.trans ?_ (congrArg (outputsV m c) he).symm)
    exact Finset.sum_congr (M := EReal) rfl fun x _ => congrArg₂ (fun a b : EReal => a * b) (read_6 _ t s h x) (cell_is m c t s h i x)
  suffices hk : ∀ y : S8x4x1x64.Idx, out0_8 (iblk m c 0 t) (iblk m c 1 t) (iblk m c 2 t) (iblk m c 3 t) (iblk m c 4 t) (iblk m c 5 t) (iblk m c 6 t) y
      = outputsV m c ((win0_8.blk t).view.emb y) from hk y
  intro y
  idx_vars y
  exact key _ _ _ _

end

end Cert.KernelRwkvStepIdeal.RwkvStep

end
-- ==== Proof.RwkvStep.Algebraic.lean ====
/- The decoding step of the recurrence: kernel and reference end with the same outputs and the same new states, of a
   finite state and finite keys. -/
module

public import proofs.«01_k».proof.Defs
public import proofs.«01_k».proof.Proof.RwkvStep.Finite
public import proofs.«01_k».proof.Proof.RwkvStep.Frames
public import proofs.«01_k».proof.Proof.RwkvStep.Launch

@[expose] public section

noncomputable section

namespace Cert.KernelRwkvStepIdeal.RwkvStep

open Idealize.ShloMosaic Idealize.ShloMosaic.TcCoe Idealize.SL.Sem
open Cert.KernelRwkvStepIdeal.Gen

theorem lane_lt (h : Fin 4) (k : Fin 64) : h.val * 64 + k.val < 256 := by omega

/-- A head's lane among the 256. -/
abbrev lane (h : Fin 4) (k : Fin 64) : Fin 256 := ⟨h.val * 64 + k.val, lane_lt h k⟩

section

variable (A0 A1 A2 A3 A4 A5 : Vec Ideal S128x1x256 .f32) (A6 : Vec Ideal S128x4x64x64 .f32)

/-- The new states, of the arguments. -/
def newStates : Vec Ideal S128x4x64x64 .f32 := fun y =>
  entry (fun x => A6 (ix4 (y 0) (y 1) (y 2) x)) (fun x => A4 (ix3 (y 0) 0 (lane (y 1) x))) (A1 (ix3 (y 0) 0 (lane (y 1) (y 3))))
    (A4 (ix3 (y 0) 0 (lane (y 1) (y 3))) * A5 (ix3 (y 0) 0 (lane (y 1) (y 3))) : EReal)
    (A3 (ix3 (y 0) 0 (lane (y 1) (y 2)))) (A2 (ix3 (y 0) 0 (lane (y 1) (y 3)))) (y 3)

/-- A head's output. -/
def headOut (b : Fin 128) (h : Fin 4) (i : Fin 64) : EReal :=
  ∑ x : Fin 64, (A0 (ix3 b 0 (lane h x)) * newStates A1 A2 A3 A4 A5 A6 (ix4 b h i x) : EReal)

/-- The outputs, of the arguments, heads beside each other. -/
def newOutputs : Vec Ideal S128x1x256 .f32 := fun y =>
  headOut A0 A1 A2 A3 A4 A5 A6 (y 0) ⟨(y 2).val / 64, by have h : (y 2).val < 256 := (y 2).isLt; omega⟩ ⟨(y 2).val % 64, by omega⟩

end

/-- The product of two arrays, at an index. -/
def times (A B : Vec Ideal S128x1x256 .f32) (i : S128x1x256.Idx) : EReal := A i * B i

/-- Equal operands make equal entries. -/
theorem entry_congr (s : Fin 64 → EReal) {q q' : Fin 64 → EReal} {w w' p p' v v' k k' : EReal} (hq : q = q') (hw : w = w') (hp : p = p')
    (hv : v = v') (hk : k = k') (j : Fin 64) : entry s q w p v k j = entry s q' w' p' v' k' j := by
  rw [hq, hw, hp, hv, hk]

/-- The launch's states, of arrays that hold the arguments by head. -/
theorem states_of (S X1 : Vec Ideal S128x4x64x64 .f32) (X2 X3 X4 X5 : Vec Ideal S128x4x1x64 .f32) (A1 A2 A3 A4 A5 : Vec Ideal S128x1x256 .f32)
    (hv : ∀ b h i j, X1 (ix4 b h i j) = A3 (ix3 b 0 (lane h i))) (hw : ∀ b h j, X2 (ix4 b h 0 j) = A1 (ix3 b 0 (lane h j)))
    (hq : ∀ b h j, X3 (ix4 b h 0 j) = A4 (ix3 b 0 (lane h j))) (hp : ∀ b h j, X4 (ix4 b h 0 j) = times A4 A5 (ix3 b 0 (lane h j)))
    (hk : ∀ b h j, X5 (ix4 b h 0 j) = A2 (ix3 b 0 (lane h j))) : states S X1 X2 X3 X4 X5 = newStates A1 A2 A3 A4 A5 S := by
  funext y
  exact entry_congr _ (funext fun x => hq _ _ x) (hw _ _ _) (hp _ _ _) (hv _ _ _ _) (hk _ _ _) _

section

variable (m : (ℓ : Loc nD τ sig) → Buf (Elt Ideal) ℓ) (c : Dev nD)

theorem w_entry (b : Fin 128) (h : Fin 4) (j : Fin 64) : (V m c main_v9 : Vec Ideal S128x4x1x64 .f32) (ix4 b h 0 j)
    = (m ((c : Thread nD τ).loc main_arg1) : Vec Ideal S128x1x256 .f32) (ix3 b 0 (lane h j)) := by
  unfold V
  after_reads_at

theorem q_entry (b : Fin 128) (h : Fin 4) (j : Fin 64) : (V m c main_v10 : Vec Ideal S128x4x1x64 .f32) (ix4 b h 0 j)
    = (m ((c : Thread nD τ).loc main_arg4) : Vec Ideal S128x1x256 .f32) (ix3 b 0 (lane h j)) := by
  unfold V
  after_reads_at

theorem p_entry (b : Fin 128) (h : Fin 4) (j : Fin 64) : (V m c main_v11 : Vec Ideal S128x4x1x64 .f32) (ix4 b h 0 j)
    = times (m ((c : Thread nD τ).loc main_arg4)) (m ((c : Thread nD τ).loc main_arg5)) (ix3 b 0 (lane h j)) := by
  unfold V times
  after_reads_at

theorem k_entry (b : Fin 128) (h : Fin 4) (j : Fin 64) : (V m c main_v12 : Vec Ideal S128x4x1x64 .f32) (ix4 b h 0 j)
    = (m ((c : Thread nD τ).loc main_arg2) : Vec Ideal S128x1x256 .f32) (ix3 b 0 (lane h j)) := by
  unfold V
  after_reads_at

theorem r_entry (b : Fin 128) (h : Fin 4) (j : Fin 64) : (V m c main_v13 : Vec Ideal S128x4x1x64 .f32) (ix4 b h 0 j)
    = (m ((c : Thread nD τ).loc main_arg0) : Vec Ideal S128x1x256 .f32) (ix3 b 0 (lane h j)) := by
  unfold V
  after_reads_at

theorem v_entry (b : Fin 128) (h : Fin 4) (i j : Fin 64) : (V m c main_v8 : Vec Ideal S128x4x64x64 .f32) (ix4 b h i j)
    = (m ((c : Thread nD τ).loc main_arg3) : Vec Ideal S128x1x256 .f32) (ix3 b 0 (lane h i)) := by
  unfold V
  after_reads_at

/-- The new states of the launch's arguments. -/
abbrev statesM : Vec Ideal S128x4x64x64 .f32 :=
  newStates (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The outputs of the launch's arguments. -/
abbrev outputsM : Vec Ideal S128x1x256 .f32 :=
  newOutputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem states_args : statesV m c = statesM m c :=
  (states_of (V m c main_arg6) _ _ _ _ _ _ _ _ _ _ (v_entry m c) (w_entry m c) (q_entry m c) (p_entry m c) (k_entry m c)).trans
    (congrArg (newStates _ _ _ _ _) (V_main_arg6 m c))

/-- An entry of the launch's outputs. -/
theorem outputs_args (b : Fin 128) (h : Fin 4) (i : Fin 64) : outputsV m c (ix4 b h 0 i)
    = headOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) b h i :=
  Finset.sum_congr (M := EReal) rfl fun x _ => congrArg₂ (fun a b : EReal => a * b) (r_entry m c b h x)
    (congrFun (states_args m c) (ix4 b h i x))

/-- What follows the launch sets the heads beside each other. -/
def beside (P : FVec Ideal S128x4x1x64 .f32) : FVec Ideal S128x1x256 .f32 :=
  broadcastInDim S128x1x256 ![0, 2] bcast_S128x256_S128x1x256_0_2 (shapeCast S128x256 P shapeCasts_S128x4x1x64_S128x256)

theorem beside_read (P : Vec Ideal S128x4x1x64 .f32) (b : Fin 128) (x : Fin 256) :
    (beside P : Vec Ideal S128x1x256 .f32) (ix3 b 0 x) = P (ix4 b ⟨x.val / 64, by omega⟩ 0 ⟨x.val % 64, by omega⟩) := by
  unfold beside
  pointwise

theorem tail_is (U : Valuation τ sig (Elt Ideal)) :
    StableHlo.after hostOps1 U (Proc.devRef .tc main_v16) = beside (U (Proc.devRef .tc main_v14_1)) := by
  unfold hostOps1
  after_results_simp <;> rfl

theorem outputs_after : beside (outputsV m c) = outputsM m c := by
  suffices hk : ∀ y : S128x1x256.Idx, (beside (outputsV m c) : Vec Ideal S128x1x256 .f32) y = outputsM m c y from funext hk
  have key : ∀ (b : Fin 128) (z : Fin 1) (x : Fin 256), (beside (outputsV m c) : Vec Ideal S128x1x256 .f32) (ix3 b z x) = outputsM m c (ix3 b z x) := by
    intro b z x
    obtain rfl : z = 0 := Subsingleton.elim z 0
    exact (beside_read _ b x).trans (outputs_args m c b _ _)
  intro y
  idx_vars y
  exact key _ _ _

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

end

/-- The kernel's run ends with the step's outputs and new states. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = outputsM m c ∧ r.2.mem ((c.tc : Thread nD τ).loc main_v14_0) = statesM m c ∧ Kept m c r.2) := by
  refine (θ_run defs _ _).mono (fun r h c => ?_) (run_main (F := Ideal) m ρ)
  have h8 := (Pipeline.withArrays_arr spec0 (by decide) c (V0 m c) (fun w => (dats m 0 c).arrAt w (cfgs 0).N) 8).trans (launched_outputs m c)
  exact ⟨((h c).2 main_v16 (Pipeline.mem_restRefs_of main_v16 (by decide) (by decide))).trans
      ((after_tail m c main_v16).trans ((tail_is _).trans ((congrArg beside h8).trans (outputs_after m c)))),
    ((h c).1 7).trans ((launched_states m c).trans (states_args m c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).1 0).trans (((dats m 0 c).arrAt_in 0 rfl _).trans (V_main_arg6 m c))⟩

end Cert.KernelRwkvStepIdeal.RwkvStep

namespace Cert.ReferenceRwkvStepIdeal.RwkvStep

open Idealize.ShloMosaic Idealize.ShloMosaic.TcCoe Idealize.SL.Sem
open Cert.ReferenceRwkvStepIdeal Cert.ReferenceRwkvStepIdeal.Gen
open Cert.KernelRwkvStepIdeal.RwkvStep (lane entry newStates newOutputs headOut statesM outputsM)

/-- An argument's heads. -/
def heads (A : FVec Ideal S128x1x256 .f32) : FVec Ideal S128x4x64 .f32 :=
  shapeCast _ (shapeCast _ A shapeCasts_S128x1x256_S128x1x4x64) shapeCasts_S128x1x4x64_S128x4x64

theorem heads_read (A : Vec Ideal S128x1x256 .f32) (b : Fin 128) (h : Fin 4) (j : Fin 64) :
    (heads A : Vec Ideal S128x4x64 .f32) (ix3 b h j) = A (ix3 b 0 (lane h j)) := by
  unfold heads
  pointwise

/-- The reference's new states, of the arguments' heads. -/
def refStates (S : FVec Ideal S128x4x64x64 .f32) (w q a v k : FVec Ideal S128x4x64 .f32) : FVec Ideal S128x4x64x64 .f32 :=
  addf (addf (mulf S (broadcastInDim S128x4x64x64 ![0, 1, 2, 3] bcast_S128x4x1x64_S128x4x64x64_0_1_2_3 (broadcastInDim S128x4x1x64 ![0, 1, 3] bcast_S128x4x64_S128x4x1x64_0_1_3 w)))
      (mulf (broadcastInDim S128x4x64x64 ![0, 1, 2, 3] bcast_S128x4x64x1_S128x4x64x64_0_1_2_3 (broadcastInDim S128x4x64x1 ![0, 1, 2] bcast_S128x4x64_S128x4x64x1_0_1_2
          (Host.dotGeneral dot_S128x4x64x64_S128x4x64_S128x4x64_3_2_2_n_01_01 none S (Host.negf q))))
        (broadcastInDim S128x4x64x64 ![0, 1, 2, 3] bcast_S128x4x1x64_S128x4x64x64_0_1_2_3 (broadcastInDim S128x4x1x64 ![0, 1, 3] bcast_S128x4x64_S128x4x1x64_0_1_3 (mulf q a)))))
    (mulf (broadcastInDim S128x4x64x64 ![0, 1, 2, 3] bcast_S128x4x64x1_S128x4x64x64_0_1_2_3 (broadcastInDim S128x4x64x1 ![0, 1, 2] bcast_S128x4x64_S128x4x64x1_0_1_2 v))
      (broadcastInDim S128x4x64x64 ![0, 1, 2, 3] bcast_S128x4x1x64_S128x4x64x64_0_1_2_3 (broadcastInDim S128x4x1x64 ![0, 1, 3] bcast_S128x4x64_S128x4x1x64_0_1_3 k)))

theorem refStates_read (S : Vec Ideal S128x4x64x64 .f32) (w q a v k : Vec Ideal S128x4x64 .f32) (b : Fin 128) (h : Fin 4) (i j : Fin 64) :
    (refStates S w q a v k : Vec Ideal S128x4x64x64 .f32) (ix4 b h i j)
      = (S (ix4 b h i j) * w (ix3 b h j) + (∑ x : Fin 64, S (ix4 b h i x) * -(q (ix3 b h x))) * (q (ix3 b h j) * a (ix3 b h j))
        + v (ix3 b h i) * k (ix3 b h j) : EReal) := by
  unfold refStates
  pointwise

/-- The reference's outputs, of the new states and the heads of the rows. -/
def refOutputs (S : FVec Ideal S128x4x64x64 .f32) (r : FVec Ideal S128x4x64 .f32) : FVec Ideal S128x1x256 .f32 :=
  shapeCast _ (Host.dotGeneral dot_S128x4x64x64_S128x4x64_S128x4x64_3_2_2_n_01_01 none S r) shapeCasts_S128x4x64_S128x1x256

theorem refOutputs_read (S : Vec Ideal S128x4x64x64 .f32) (r : Vec Ideal S128x4x64 .f32) (b : Fin 128) (x : Fin 256) :
    (refOutputs S r : Vec Ideal S128x1x256 .f32) (ix3 b 0 x)
      = (∑ y : Fin 64, S (ix4 b ⟨x.val / 64, by omega⟩ ⟨x.val % 64, by omega⟩ y) * r (ix3 b ⟨x.val / 64, by omega⟩ y) : EReal) := by
  unfold refOutputs
  pointwise

section

variable (A0 A1 A2 A3 A4 A5 : Vec Ideal S128x1x256 .f32) (A6 : Vec Ideal S128x4x64x64 .f32)

theorem states_is (h4 : Cert.Rwkv.Real A4) (h6 : Cert.Rwkv.Real A6) :
    refStates A6 (heads A1) (heads A4) (heads A5) (heads A3) (heads A2) = newStates A1 A2 A3 A4 A5 A6 := by
  have key : ∀ (b : Fin 128) (h : Fin 4) (i j : Fin 64),
      (refStates A6 (heads A1) (heads A4) (heads A5) (heads A3) (heads A2) : Vec Ideal S128x4x64x64 .f32) (ix4 b h i j) = newStates A1 A2 A3 A4 A5 A6 (ix4 b h i j) := by
    intro b h i j
    refine (refStates_read _ _ _ _ _ _ b h i j).trans ?_
    rw [heads_read, heads_read, heads_read, heads_read, heads_read]
    have hn := Cert.RwkvStep.neg_sum (fun x => A6 (ix4 b h i x)) (fun x => A4 (ix3 b 0 (lane h x))) (fun x => h6 _) (fun x => h4 _)
    have hq : (∑ x : Fin 64, (A6 (ix4 b h i x) * -((heads A4 : Vec Ideal S128x4x64 .f32) (ix3 b h x)) : EReal))
        = ∑ x : Fin 64, (A6 (ix4 b h i x) * -(A4 (ix3 b 0 (lane h x))) : EReal) :=
      Finset.sum_congr (M := EReal) rfl fun x _ => congrArg (fun z : EReal => A6 (ix4 b h i x) * -z) (heads_read A4 b h x)
    exact congrArg (fun z : EReal => A6 (ix4 b h i j) * A1 (ix3 b 0 (lane h j)) + z * (A4 (ix3 b 0 (lane h j)) * A5 (ix3 b 0 (lane h j)))
      + A3 (ix3 b 0 (lane h i)) * A2 (ix3 b 0 (lane h j))) (hq.trans hn.symm)
  suffices hk : ∀ y : S128x4x64x64.Idx, (refStates A6 (heads A1) (heads A4) (heads A5) (heads A3) (heads A2) : Vec Ideal S128x4x64x64 .f32) y
      = newStates A1 A2 A3 A4 A5 A6 y from funext hk
  intro y
  idx_vars y
  exact key _ _ _ _

theorem outputs_is : refOutputs (newStates A1 A2 A3 A4 A5 A6) (heads A0) = newOutputs A0 A1 A2 A3 A4 A5 A6 := by
  have key : ∀ (b : Fin 128) (z : Fin 1) (x : Fin 256),
      (refOutputs (newStates A1 A2 A3 A4 A5 A6) (heads A0) : Vec Ideal S128x1x256 .f32) (ix3 b z x) = newOutputs A0 A1 A2 A3 A4 A5 A6 (ix3 b z x) := by
    intro b z x
    obtain rfl : z = 0 := Subsingleton.elim z 0
    refine (refOutputs_read _ _ b x).trans ?_
    exact Finset.sum_congr (M := EReal) rfl fun y _ => (mul_comm (G := EReal) _ _).trans (congrArg (fun z : EReal => z * _) (heads_read A0 b _ y))
  suffices hk : ∀ y : S128x1x256.Idx, (refOutputs (newStates A1 A2 A3 A4 A5 A6) (heads A0) : Vec Ideal S128x1x256 .f32) y
      = newOutputs A0 A1 A2 A3 A4 A5 A6 y from funext hk
  intro y
  idx_vars y
  exact key _ _ _

end

/-- The kernel and the reference end with the same results, of a finite state and finite keys. -/
theorem algebraic [Cert.Pre_rwkv_finite.Facts] : Cert.algebraic_KernelRwkvStepIdeal_ReferenceRwkvStepIdeal_pre_rwkv_finite := by
  intro m g m' g' hp hin
  refine ⟨fun c => outputsM m c, fun c => statesM m c, Cert.KernelRwkvStepIdeal.RwkvStep.run_kernel m g, ?_⟩
  refine (θ_run defs _ _).mono (fun r h c => ?_) (Cert.ReferenceRwkvStepIdeal.Value.run (F := Ideal) m' g')
  obtain ⟨h0, h1, hk⟩ := h c
  obtain ⟨e0, e1, e2, e3, e4, e5, e6⟩ := hin c
  obtain ⟨r4, r6⟩ := Cert.RwkvStep.real_two _ _ _ _ _ _ _ (hp c)
  have hs : refStates (m' ((c.tc : Thread nD τ).loc main_arg6)) (heads (m' ((c.tc : Thread nD τ).loc main_arg1))) (heads (m' ((c.tc : Thread nD τ).loc main_arg4)))
      (heads (m' ((c.tc : Thread nD τ).loc main_arg5))) (heads (m' ((c.tc : Thread nD τ).loc main_arg3))) (heads (m' ((c.tc : Thread nD τ).loc main_arg2)))
      = statesM m c := by
    rw [e1, e2, e3, e4, e5, e6]
    exact states_is _ _ _ _ _ _ r4 r6
  have ho : refOutputs (statesM m c) (heads (m' ((c.tc : Thread nD τ).loc main_arg0))) = outputsM m c := by
    rw [e0]
    exact outputs_is _ _ _ _ _ _ _
  exact ⟨h0.trans ((congrArg (fun S => refOutputs S (heads (m' ((c.tc : Thread nD τ).loc main_arg0)))) hs).trans ho), h1.trans hs, hk⟩

end Cert.ReferenceRwkvStepIdeal.RwkvStep

end
-- ==== Proof.SsdStep.Frames.lean ====
/- The three frames of the decoding step of the state space branch: one run of the kernel for both of its instances, and the reference's run. -/
module

public import proofs.«01_k».proof.Defs
public import proofs.«01_k».proof.Proof.Gen.KernelSsdStep
public import proofs.«01_k».proof.Proof.Gen.KernelSsdStepIdeal
public import proofs.«01_k».proof.Proof.Gen.KernelSsdStepIdeal.Frame
public import proofs.«01_k».proof.Proof.Gen.ReferenceSsdStepIdeal
public import proofs.«01_k».proof.Proof.Gen.ReferenceSsdStepIdeal.Run
public import Idealize.ShloMosaic.Lib.Quiescent

@[expose] public section

noncomputable section

namespace Cert.KernelSsdStepIdeal.SsdStep

open Idealize.ShloMosaic Idealize.ShloMosaic.TcCoe Idealize.SL.Sem
open Cert.KernelSsdStepIdeal.Gen

variable {F : FTy → Type} [FloatOps F]

/-- A final state leaves the six arguments as the launch has them. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

/-- The kernel's frame speaks of the idealized kernel's text read at the machine's floats. -/
theorem kernel_text : Cert.quiescent_KernelSsdStep =
    ∀ (m : (ℓ : Loc nD τ sig) → Buf (Elt Bits) ℓ) (ρ : Dev nD → PrngReg), Cert.Pre_KernelSsdStep m →
      θ_run (defs (F := Bits)) (onTc (τ := τ) (main (F := Bits))) ⟨m, fun _ => 0, ρ⟩
        (fun r => (∀ c, Kept m c r.2) ∧ r.2.sem = fun _ => 0) := by
  chain_rfl

/-- The kernel's frame: its run at the machine's floats. -/
theorem frame_kernel : Cert.quiescent_KernelSsdStep :=
  kernel_text.mpr fun m ρ _ => frame (F := Bits) m ρ

/-- The idealized kernel's frame: the same run at the ideal instance. -/
theorem frame_kernelIdeal : Cert.quiescent_KernelSsdStepIdeal := fun m ρ _ => frame (F := Ideal) m ρ

/-- The reference's frame: its run, which declares no semaphore. -/
theorem frame_referenceIdeal : Cert.quiescent_ReferenceSsdStepIdeal := fun m ρ _ =>
  (θ_run Cert.ReferenceSsdStepIdeal.defs _ _).mono
    (fun r h => ⟨fun c => (h c).2.2, Idealize.ShloMosaic.sem_eq_zero_of_no_sems (by decide) r.2⟩)
    (Cert.ReferenceSsdStepIdeal.Value.run (F := Ideal) m ρ)

end Cert.KernelSsdStepIdeal.SsdStep

end
-- ==== Proof.SsdStep.Finite.lean ====
/- Finite arguments are arrays of real numbers, and of them the step's two forms are one, of any old state: the new state is the
   decayed old state and the new product, and the row with the new state is the sum of the rows with the two. -/
module

public import proofs.«01_k».proof.Pre_ssd_finite
public import proofs.«01_k».proof.Proof.Rwkv.Finite

@[expose] public section

noncomputable section

namespace Cert.SsdStep

open Idealize.ShloMosaic Idealize.ShloMosaic.TcCoe
open Cert.Pre_ssd_finite (S128x1x256 S128x1x4 S4 S128x4x64x128)
open Cert.Rwkv (Real real_of_all both_set)

/-- A real number less itself has the exponential one. -/
theorem exp_self (c : EReal) (hc : c ≠ ⊤ ∧ c ≠ ⊥) : Ideal.exp (c - c) = (1 : EReal) := by
  lift c to ℝ using hc
  rw [← EReal.coe_sub, sub_self, Ideal.exp_coe, Real.exp_zero, EReal.coe_one]

/-- The new state. -/
theorem state_eq (s c i r : EReal) (hc : c ≠ ⊤ ∧ c ≠ ⊥) :
    s * Ideal.exp ((0 + c) - 0) + Ideal.exp (c - c) * i * r * Ideal.exp ((0 + c) - (0 + c)) = s * Ideal.exp c + i * r := by
  rw [zero_add, sub_zero, exp_self c hc, one_mul, mul_one]

/-- The state before the new position is the old one. -/
theorem old_eq (s e : EReal) : s * Ideal.exp (0 - 0) + e * 0 = s := by
  rw [exp_self 0 ⟨EReal.zero_ne_top, EReal.zero_ne_bot⟩, mul_one, mul_zero, add_zero]

/-- An array of real numbers. -/
theorem reals {n : ℕ} (s : Fin n → EReal) (hs : ∀ x, s x ≠ ⊤ ∧ s x ≠ ⊥) : ∃ a : Fin n → ℝ, s = fun x => ((a x : ℝ) : EReal) :=
  ⟨fun x => (s x).toReal, funext fun x => (EReal.coe_toReal (hs x).1 (hs x).2).symm⟩

/-- A sum of products of real numbers. -/
theorem dot_coe {n : ℕ} (a b : Fin n → ℝ) : ∑ x : Fin n, ((a x : ℝ) : EReal) * ((b x : ℝ) : EReal) = ((∑ x : Fin n, a x * b x : ℝ) : EReal) :=
  (Finset.sum_congr (M := EReal) rfl fun x _ => (EReal.coe_mul (a x) (b x)).symm).trans (Cert.Rwkv.coe_sum _ _).symm

/-- One summand of the output: the state may be infinite. -/
theorem term_eq (s : EReal) (r q c i : ℝ) :
    ((q : ℝ) : EReal) * (s * ((Real.exp c : ℝ) : EReal) + ((i * r : ℝ) : EReal)) = ((q * (i * r) : ℝ) : EReal) + s * ((q : ℝ) : EReal) * ((Real.exp c : ℝ) : EReal) := by
  have hp : 0 < Real.exp c := Real.exp_pos c
  induction s with
  | coe s =>
    rw [← EReal.coe_mul, ← EReal.coe_add, ← EReal.coe_mul, ← EReal.coe_mul, ← EReal.coe_mul, ← EReal.coe_add]
    exact congrArg (fun z : ℝ => (z : EReal)) (by ring)
  | top =>
    rw [EReal.top_mul_coe_of_pos hp, EReal.top_add_coe]
    rcases lt_trichotomy q 0 with h | h | h
    · rw [EReal.coe_mul_top_of_neg h, EReal.top_mul_coe_of_neg h, EReal.bot_mul_coe_of_pos hp, EReal.add_bot]
    · simp [h]
    · rw [EReal.coe_mul_top_of_pos h, EReal.top_mul_coe_of_pos h, EReal.top_mul_coe_of_pos hp, EReal.coe_add_top]
  | bot =>
    rw [EReal.bot_mul_coe_of_pos hp, EReal.bot_add]
    rcases lt_trichotomy q 0 with h | h | h
    · rw [EReal.coe_mul_bot_of_neg h, EReal.bot_mul_coe_of_neg h, EReal.top_mul_coe_of_pos hp, EReal.coe_add_top]
    · simp [h]
    · rw [EReal.coe_mul_bot_of_pos h, EReal.bot_mul_coe_of_pos h, EReal.bot_mul_coe_of_pos hp, EReal.add_bot]

/-- A positive real factor goes into a sum. -/
theorem sum_exp {n : ℕ} (f : Fin n → EReal) (c : ℝ) (T : Finset (Fin n)) :
    (∑ x ∈ T, f x) * ((Real.exp c : ℝ) : EReal) = ∑ x ∈ T, f x * ((Real.exp c : ℝ) : EReal) := by
  induction T using Finset.induction_on with
  | empty => simp
  | insert a T ha ih =>
    rw [Finset.sum_insert ha, Finset.sum_insert ha, ← ih]
    exact EReal.right_distrib_of_nonneg_of_ne_top (EReal.coe_nonneg.mpr (Real.exp_pos c).le) (EReal.coe_ne_top _) _ _

/-- The output. -/
theorem out_eq (s r q : Fin 128 → EReal) (c i : EReal) (hr : ∀ x, r x ≠ ⊤ ∧ r x ≠ ⊥) (hq : ∀ x, q x ≠ ⊤ ∧ q x ≠ ⊥)
    (hc : c ≠ ⊤ ∧ c ≠ ⊥) (hi : i ≠ ⊤ ∧ i ≠ ⊥) :
    i * ((∑ x : Fin 128, q x * r x) * Ideal.exp (c - c)) + (∑ x : Fin 128, s x * q x) * Ideal.exp c
      = ∑ x : Fin 128, q x * (s x * Ideal.exp c + i * r x) := by
  rw [exp_self c hc, mul_one]
  obtain ⟨r, rfl⟩ := reals r hr
  obtain ⟨q, rfl⟩ := reals q hq
  lift c to ℝ using hc
  lift i to ℝ using hi
  rw [Ideal.exp_coe, dot_coe, ← EReal.coe_mul, sum_exp _ c Finset.univ]
  have e : ((i * ∑ x : Fin 128, q x * r x : ℝ) : EReal) = ∑ x : Fin 128, ((q x * (i * r x) : ℝ) : EReal) := by
    rw [← Cert.Rwkv.coe_sum]
    refine congrArg (fun z : ℝ => (z : EReal)) ?_
    rw [Finset.mul_sum]
    exact Finset.sum_congr rfl fun x _ => by ring
  rw [e]
  refine Finset.sum_add_distrib.symm.trans (Finset.sum_congr (M := EReal) rfl fun x _ => ?_)
  rw [← EReal.coe_mul]
  exact (term_eq (s x) (r x) (q x) c i).symm

/-- A product of real numbers is real. -/
theorem real_mul (a b : EReal) (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

variable [Cert.Pre_ssd_finite.Facts]

theorem real_five (A0 : Vec Ideal S128x1x256 .f32) (A1 : Vec Ideal S128x1x4 .f32) (A2 : Vec Ideal S4 .f32) (A3 A4 : Vec Ideal S128x1x256 .f32)
    (A5 : Vec Ideal S128x4x64x128 .f32) (h : Cert.Pre_ssd_finite.fn (F := Ideal) A0 A1 A2 A3 A4 A5 = fun _ => 1#1) :
    Real A0 ∧ Real A1 ∧ Real A2 ∧ Real A3 ∧ Real A4 := by
  have e := congrFun h (ix1 0)
  unfold Cert.Pre_ssd_finite.fn Cert.Pre_ssd_finite.fn_part1 at e
  obtain ⟨e, h4⟩ := both_set _ _ _ e
  obtain ⟨e, h3⟩ := both_set _ _ _ e
  obtain ⟨e, h2⟩ := both_set _ _ _ e
  obtain ⟨h0, h1⟩ := both_set _ _ _ e
  clear e h
  exact ⟨real_of_all A0 _ _ _ _ h0, real_of_all A1 _ _ _ _ h1, real_of_all A2 _ _ _ _ h2, real_of_all A3 _ _ _ _ h3, real_of_all A4 _ _ _ _ h4⟩

end Cert.SsdStep

end
-- ==== Proof.SsdStep.Heads.lean ====
/- One point of the decoding step of the state space branch: 8 sequences of 4 heads, each head's new state and output
   stored through its own rectangle. The 32 stores are one family over the heads. -/
module

public import proofs.«01_k».proof.Proof.Gen.KernelSsdStepIdeal
public import proofs.«01_k».proof.Proof.Gen.KernelSsdStepIdeal.Frame
public import Idealize.ShloMosaic.Lib.Pointwise
public import Idealize.ShloMosaic.Lib.Pipeline.ValueKit.Tiles

@[expose] public section

noncomputable section

namespace Cert.KernelSsdStepIdeal.SsdStep

open Idealize.ShloMosaic Idealize.ShloMosaic.TcCoe
open Cert.KernelSsdStepIdeal.Gen

/-- Where head `n`'s rectangle begins, the last head first. -/
def off (n : Fin 32) : Fin 4 → ℕ := ![(31 - n.val) / 4, (31 - n.val) % 4, 0, 0]

theorem off_state : ∀ (n : Fin 32) (a : Fin 4), off n a + S1x1x64x128.size a ≤ S8x4x64x128.size a := by decide +kernel

theorem off_row : ∀ (n : Fin 32) (a : Fin 4), off n a + S1x1x1x128.size a ≤ S8x4x1x128.size a := by decide +kernel

theorem off_out : ∀ (n : Fin 32) (a : Fin 4), off n a + S1x1x1x64.size a ≤ S8x4x1x64.size a := by decide +kernel

abbrev stateRect (n : Fin 32) : Rect S8x4x64x128 := Rect.unit (s := S8x4x64x128) (off n) S1x1x64x128.size (off_state n)

abbrev rowRect (n : Fin 32) : Rect S8x4x1x128 := Rect.unit (s := S8x4x1x128) (off n) S1x1x1x128.size (off_row n)

abbrev outRect (n : Fin 32) : Rect S8x4x1x64 := Rect.unit (s := S8x4x1x64) (off n) S1x1x1x64.size (off_out n)

section

variable (x0 x1 : Vec Ideal S8x4x64x128 .f32) (x2 x3 x4 : Vec Ideal S8x4x1x128 .f32)

/-- A head's new state. -/
def headState (n : Fin 32) : FVec Ideal S64x128 .f32 :=
  k0_pay48 (View.ld x0 (stateRect n)) (View.ld x2 (rowRect n)) (View.ld x1 (stateRect n)) (View.ld x3 (rowRect n))

theorem states_family : out0_5 x0 x1 x2 x3 x4
    = View.canon (List.ofFn fun n : Fin 32 => (⟨stateRect n, k0_pay1 (headState x0 x1 x2 x3 n)⟩ : View.Piece (Elt Ideal) S8x4x64x128 .f32)) := rfl

theorem outputs_family : out0_6 x0 x1 x2 x3 x4
    = View.canon (List.ofFn fun n : Fin 32 => (⟨outRect n, k0_pay2 (headState x0 x1 x2 x3 n) (View.ld x4 (rowRect n))⟩ : View.Piece (Elt Ideal) S8x4x1x64 .f32)) := rfl

end

/-- One entry of a new state, from the old one, the logarithm of the decay, the head's input and the row's entry. -/
def entry (s d x b : EReal) : EReal := s * Ideal.exp d + x * b

/-- An entry of a head's new state. -/
theorem pay48_read (s : Vec Ideal S1x1x64x128 .f32) (d : Vec Ideal S1x1x1x128 .f32) (x : Vec Ideal S1x1x64x128 .f32) (b : Vec Ideal S1x1x1x128 .f32)
    (i : Fin 64) (j : Fin 128) : (k0_pay1 (k0_pay48 s d x b) : Vec Ideal S1x1x64x128 .f32) (ix4 0 0 i j)
      = entry (s (ix4 0 0 i j)) (d (ix4 0 0 0 j)) (x (ix4 0 0 i j)) (b (ix4 0 0 0 j)) := by
  unfold k0_pay1 k0_pay48 entry
  pointwise

/-- An entry of a head's output. -/
theorem pay2_read (S : FVec Ideal S64x128 .f32) (r : Vec Ideal S1x1x1x128 .f32) (i : Fin 64) :
    (k0_pay2 S r : Vec Ideal S1x1x1x64 .f32) (ix4 0 0 0 i)
      = ∑ x : Fin 128, (r (ix4 0 0 0 x) * (k0_pay1 S : Vec Ideal S1x1x64x128 .f32) (ix4 0 0 i x) : EReal) := by
  unfold k0_pay2 k0_pay1
  pointwise

section

variable (x0 x1 : Vec Ideal S8x4x64x128 .f32) (x2 x3 x4 : Vec Ideal S8x4x1x128 .f32)

/-- An entry of the new states of the block. -/
def cell (s : Fin 8) (h : Fin 4) (i : Fin 64) (j : Fin 128) : EReal :=
  entry (x0 (ix4 s h i j)) (x2 (ix4 s h 0 j)) (x1 (ix4 s h i j)) (x3 (ix4 s h 0 j))

/-- The head `n` is that of the sequence `s` and the head `h`. -/
def At (n : Fin 32) (s : Fin 8) (h : Fin 4) : Prop := s.val = (31 - n.val) / 4 ∧ h.val = (31 - n.val) % 4

theorem state_ld (X : Vec Ideal S8x4x64x128 .f32) (n : Fin 32) (s : Fin 8) (h : Fin 4) (hn : At n s h) (i : Fin 64) (j : Fin 128) :
    (View.ld X (stateRect n) : Vec Ideal S1x1x64x128 .f32) (ix4 0 0 i j) = X (ix4 s h i j) := by
  obtain ⟨h0, h1⟩ := hn
  exact View.ld_unit_apply_of X _ _ _ _ (ix4 s h i j) (by intro a; fin_cases a <;> simp [off, h0, h1])

theorem row_ld (X : Vec Ideal S8x4x1x128 .f32) (n : Fin 32) (s : Fin 8) (h : Fin 4) (hn : At n s h) (j : Fin 128) :
    (View.ld X (rowRect n) : Vec Ideal S1x1x1x128 .f32) (ix4 0 0 0 j) = X (ix4 s h 0 j) := by
  obtain ⟨h0, h1⟩ := hn
  exact View.ld_unit_apply_of X _ _ _ _ (ix4 s h 0 j) (by intro a; fin_cases a <;> simp [off, h0, h1])

theorem head_read (n : Fin 32) (s : Fin 8) (h : Fin 4) (hn : At n s h) (i : Fin 64) (j : Fin 128) :
    (k0_pay1 (headState x0 x1 x2 x3 n) : Vec Ideal S1x1x64x128 .f32) (ix4 0 0 i j) = cell x0 x1 x2 x3 s h i j := by
  unfold headState
  refine (pay48_read _ _ _ _ i j).trans ?_
  rw [state_ld x0 n s h hn, state_ld x1 n s h hn, row_ld x2 n s h hn, row_ld x3 n s h hn]
  rfl

/-- Every sequence's every head has its rectangle. -/
theorem at_mk (s : Fin 8) (h : Fin 4) : ∃ n : Fin 32, At n s h :=
  ⟨⟨31 - (4 * s.val + h.val), by omega⟩, by unfold At; dsimp only; omega⟩

/-- The block of new states. -/
theorem states_read (s : Fin 8) (h : Fin 4) (i : Fin 64) (j : Fin 128) :
    out0_5 x0 x1 x2 x3 x4 (ix4 s h i j) = cell x0 x1 x2 x3 s h i j := by
  rw [states_family]
  refine View.canon_ofFn_unit_eq_of_forall (S := S8x4x64x128) off S1x1x64x128.size off_state _ _ _ ?_ ?_
  · obtain ⟨n, h0, h1⟩ := at_mk s h
    exact ⟨n, by intro a; fin_cases a <;> simp [off, h0, h1]⟩
  · intro n x ha
    have key : ∀ (a b : Fin 1) (i' : Fin 64) (j' : Fin 128), x = ix4 a b i' j' →
        (k0_pay1 (headState x0 x1 x2 x3 n) : Vec Ideal S1x1x64x128 .f32) x = cell x0 x1 x2 x3 s h i j := by
      intro a b i' j' hx
      subst hx
      have e0 := ha 0
      have e1 := ha 1
      have e2 := ha 2
      have e3 := ha 3
      obtain rfl : a = 0 := Subsingleton.elim _ _
      obtain rfl : b = 0 := Subsingleton.elim _ _
      simp [off] at e0 e1 e2 e3
      obtain rfl : i = i' := Fin.ext e2
      obtain rfl : j = j' := Fin.ext e3
      exact head_read x0 x1 x2 x3 n s h ⟨e0, e1⟩ i j
    exact key (x 0) (x 1) (x 2) (x 3) (by funext a; fin_cases a <;> rfl)

/-- The block of outputs: each head's row with its new state. -/
theorem outputs_read (s : Fin 8) (h : Fin 4) (i : Fin 64) :
    out0_6 x0 x1 x2 x3 x4 (ix4 s h 0 i) = ∑ x : Fin 128, (x4 (ix4 s h 0 x) * cell x0 x1 x2 x3 s h i x : EReal) := by
  rw [outputs_family]
  refine View.canon_ofFn_unit_eq_of_forall (S := S8x4x1x64) off S1x1x1x64.size off_out _ _ _ ?_ ?_
  · obtain ⟨n, h0, h1⟩ := at_mk s h
    exact ⟨n, by intro a; fin_cases a <;> simp [off, h0, h1]⟩
  · intro n x ha
    have key : ∀ (a b c : Fin 1) (i' : Fin 64), x = ix4 a b c i' →
        (k0_pay2 (headState x0 x1 x2 x3 n) (View.ld x4 (rowRect n)) : Vec Ideal S1x1x1x64 .f32) x
          = ∑ x : Fin 128, (x4 (ix4 s h 0 x) * cell x0 x1 x2 x3 s h i x : EReal) := by
      intro a b c i' hx
      subst hx
      have e0 := ha 0
      have e1 := ha 1
      have e3 := ha 3
      obtain rfl : a = 0 := Subsingleton.elim _ _
      obtain rfl : b = 0 := Subsingleton.elim _ _
      obtain rfl : c = 0 := Subsingleton.elim _ _
      simp [off] at e0 e1 e3
      obtain rfl : i = i' := Fin.ext e3
      refine (pay2_read _ _ i).trans ?_
      exact Finset.sum_congr (M := EReal) rfl fun y _ => congrArg₂ (fun a b : EReal => a * b) (row_ld x4 n s h ⟨e0, e1⟩ y)
        (head_read x0 x1 x2 x3 n s h ⟨e0, e1⟩ i y)
    exact key (x 0) (x 1) (x 2) (x 3) (by funext a; fin_cases a <;> rfl)

end

end Cert.KernelSsdStepIdeal.SsdStep

end
-- ==== Proof.SsdStep.Launch.lean ====
/- The two arrays the launch of the decoding step of the state space branch leaves: every point its 8 sequences. -/
module

public import proofs.«01_k».proof.Proof.SsdStep.Heads
public import Idealize.ShloMosaic.Lib.Pipeline.Value
public import Idealize.ShloMosaic.Lib.Pipeline.ValueKit
public import Idealize.ShloMosaic.Lib.Pointwise
public import Idealize.ShloMosaic.Lib.Quiescent
public import Idealize.ShloMosaic.Lib.StableHlo.ReadAt

@[expose] public section

noncomputable section

namespace Cert.KernelSsdStepIdeal.SsdStep

open Idealize.ShloMosaic Idealize.ShloMosaic.TcCoe
open Cert.KernelSsdStepIdeal.Gen

section

variable (X0 X1 : Vec Ideal S128x4x64x128 .f32) (X2 X3 X4 : Vec Ideal S128x4x1x128 .f32)

/-- The new states. -/
def states : Vec Ideal S128x4x64x128 .f32 := fun y =>
  entry (X0 (ix4 (y 0) (y 1) (y 2) (y 3))) (X2 (ix4 (y 0) (y 1) 0 (y 3))) (X1 (ix4 (y 0) (y 1) (y 2) (y 3))) (X3 (ix4 (y 0) (y 1) 0 (y 3)))

/-- The outputs: every head's row with its new state. -/
def outputs : Vec Ideal S128x4x1x64 .f32 := fun y =>
  (∑ x : Fin 128, (X4 (ix4 (y 0) (y 1) 0 x) * states X0 X1 X2 X3 (ix4 (y 0) (y 1) (y 3) x) : EReal) : EReal)

end

/-- The placement of the blocks: the point's number is its block of sequences. -/
theorem index_0 : ∀ t : Fin cfg0.N, win0_0.index t 0 = t.val ∧ win0_0.index t 1 = 0 ∧ win0_0.index t 2 = 0 ∧ win0_0.index t 3 = 0 := by decide +kernel
theorem index_1 : ∀ t : Fin cfg0.N, win0_1.index t 0 = t.val ∧ win0_1.index t 1 = 0 ∧ win0_1.index t 2 = 0 ∧ win0_1.index t 3 = 0 := by decide +kernel
theorem index_2 : ∀ t : Fin cfg0.N, win0_2.index t 0 = t.val ∧ win0_2.index t 1 = 0 ∧ win0_2.index t 2 = 0 ∧ win0_2.index t 3 = 0 := by decide +kernel
theorem index_3 : ∀ t : Fin cfg0.N, win0_3.index t 0 = t.val ∧ win0_3.index t 1 = 0 ∧ win0_3.index t 2 = 0 ∧ win0_3.index t 3 = 0 := by decide +kernel
theorem index_4 : ∀ t : Fin cfg0.N, win0_4.index t 0 = t.val ∧ win0_4.index t 1 = 0 ∧ win0_4.index t 2 = 0 ∧ win0_4.index t 3 = 0 := by decide +kernel
theorem index_5 : ∀ t : Fin cfg0.N, win0_5.index t 0 = t.val ∧ win0_5.index t 1 = 0 ∧ win0_5.index t 2 = 0 ∧ win0_5.index t 3 = 0 := by decide +kernel
theorem index_6 : ∀ t : Fin cfg0.N, win0_6.index t 0 = t.val ∧ win0_6.index t 1 = 0 ∧ win0_6.index t 2 = 0 ∧ win0_6.index t 3 = 0 := by decide +kernel

theorem covers_5 : (cfg0.win 5).Covers := by decide +kernel
theorem covers_6 : (cfg0.win 6).Covers := by decide +kernel

/-- A point's sequence, in the arrays. -/
def seq (t : Fin cfg0.N) (s : Fin 8) : Fin 128 := ⟨8 * t.val + s.val, by have ht : t.val < 16 := t.isLt; omega⟩

section

variable (A : Vec Ideal S128x4x64x128 .f32) (R : Vec Ideal S128x4x1x128 .f32) (t : Fin cfg0.N) (s : Fin 8) (h : Fin 4) (i : Fin 64) (j : Fin 128)

theorem read_0 : ((cfg0.win 0).blk t).view.read (Elt Ideal) A (ix4 s h i j) = A (ix4 (seq t s) h i j) := by blk_ext [index_0 t, seq]
theorem read_1 : ((cfg0.win 1).blk t).view.read (Elt Ideal) A (ix4 s h i j) = A (ix4 (seq t s) h i j) := by blk_ext [index_1 t, seq]
theorem read_2 : ((cfg0.win 2).blk t).view.read (Elt Ideal) R (ix4 s h 0 j) = R (ix4 (seq t s) h 0 j) := by blk_ext [index_2 t, seq]
theorem read_3 : ((cfg0.win 3).blk t).view.read (Elt Ideal) R (ix4 s h 0 j) = R (ix4 (seq t s) h 0 j) := by blk_ext [index_3 t, seq]
theorem read_4 : ((cfg0.win 4).blk t).view.read (Elt Ideal) R (ix4 s h 0 j) = R (ix4 (seq t s) h 0 j) := by blk_ext [index_4 t, seq]

end

section

variable (m : (ℓ : Loc nD τ sig) → Buf (Elt Ideal) ℓ) (c : Dev nD)

/-- The new states of the arrays the launch reads. -/
abbrev statesV : Vec Ideal S128x4x64x128 .f32 :=
  states (V m c main_arg5) (V m c main_v9) (V m c main_v14) (V m c main_v17)

/-- The outputs of the arrays the launch reads. -/
abbrev outputsV : Vec Ideal S128x4x1x64 .f32 :=
  outputs (V m c main_arg5) (V m c main_v9) (V m c main_v14) (V m c main_v17) (V m c main_v20)

/-- Equal operands make equal entries. -/
theorem entry_congr {s s' d d' x x' b b' : EReal} (hs : s = s') (hd : d = d') (hx : x = x') (hb : b = b') : entry s d x b = entry s' d' x' b' := by
  rw [hs, hd, hx, hb]

/-- An entry of a point's new states. -/
theorem cell_is (t : Fin cfg0.N) (s : Fin 8) (h : Fin 4) (i : Fin 64) (j : Fin 128) :
    cell (iblk m c 0 t) (iblk m c 1 t) (iblk m c 2 t) (iblk m c 3 t) s h i j = statesV m c (ix4 (seq t s) h i j) :=
  entry_congr (read_0 _ t s h i j) (read_2 _ t s h j) (read_1 _ t s h i j) (read_3 _ t s h j)

/-- The array of new states after the launch. -/
theorem launched_states : (dats m 0 c).arrAt 5 cfg0.N = statesV m c := by
  refine (dats m 0 c).arrAt_eq_of_covers 5 _ covers_5 fun t hf y => ?_
  blk_simp
  rw [after0_5]
  have key : ∀ (s : Fin 8) (h : Fin 4) (i : Fin 64) (j : Fin 128),
      out0_5 (iblk m c 0 t) (iblk m c 1 t) (iblk m c 2 t) (iblk m c 3 t) (iblk m c 4 t) (ix4 s h i j)
        = statesV m c ((win0_5.blk t).view.emb (ix4 s h i j)) := by
    intro s h i j
    refine (states_read _ _ _ _ _ s h i j).trans ((cell_is m c t s h i j).trans (congrArg (statesV m c) ?_))
    blk_ext [index_5 t, seq]
  suffices hk : ∀ y : S8x4x64x128.Idx, out0_5 (iblk m c 0 t) (iblk m c 1 t) (iblk m c 2 t) (iblk m c 3 t) (iblk m c 4 t) y
      = statesV m c ((win0_5.blk t).view.emb y) from hk y
  intro y
  idx_vars y
  exact key _ _ _ _

/-- The array of outputs after the launch. -/
theorem launched_outputs : (dats m 0 c).arrAt 6 cfg0.N = outputsV m c := by
  refine (dats m 0 c).arrAt_eq_of_covers 6 _ covers_6 fun t hf y => ?_
  blk_simp
  rw [after0_6]
  have key : ∀ (s : Fin 8) (h : Fin 4) (z : Fin 1) (i : Fin 64),
      out0_6 (iblk m c 0 t) (iblk m c 1 t) (iblk m c 2 t) (iblk m c 3 t) (iblk m c 4 t) (ix4 s h z i)
        = outputsV m c ((win0_6.blk t).view.emb (ix4 s h z i)) := by
    intro s h z i
    obtain rfl : z = 0 := Subsingleton.elim z 0
    have he : (win0_6.blk t).view.emb (ix4 s h 0 i) = ix4 (seq t s) h 0 i := by blk_ext [index_6 t, seq]
    refine (outputs_read _ _ _ _ _ s h i).trans (Eq.trans ?_ (congrArg (outputsV m c) he).symm)
    exact Finset.sum_congr (M := EReal) rfl fun x _ => congrArg₂ (fun a b : EReal => a * b) (read_4 _ t s h x) (cell_is m c t s h i x)
  suffices hk : ∀ y : S8x4x1x64.Idx, out0_6 (iblk m c 0 t) (iblk m c 1 t) (iblk m c 2 t) (iblk m c 3 t) (iblk m c 4 t) y
      = outputsV m c ((win0_6.blk t).view.emb y) from hk y
  intro y
  idx_vars y
  exact key _ _ _ _

end

end Cert.KernelSsdStepIdeal.SsdStep

end
-- ==== Proof.SsdStep.Windows.lean ====
/- The running sums of the decoding step of the state space branch: over one position and over two. -/
module

public import proofs.«01_k».proof.Proof.Gen.ReferenceSsdStepIdeal
public import proofs.«01_k».proof.Proof.Gen.ReferenceSsdStepIdeal.Run
public import Idealize.ShloMosaic.Lib.Pointwise

@[expose] public section

noncomputable section

namespace Cert.ReferenceSsdStepIdeal.SsdStep

open Idealize.ShloMosaic Idealize.ShloMosaic.TcCoe
open Cert.ReferenceSsdStepIdeal Cert.ReferenceSsdStepIdeal.Gen

/-- A window's element that lies inside the array. -/
theorem window_in {S : Shape} (x : S.Idx → EReal) (lo q : Fin S.rank → ℕ) (v : EReal) (i : S.Idx)
    {d : Decidable (∀ a, lo a ≤ q a ∧ q a - lo a < S.size a)} (hq : ∀ a, q a = (i a).val + lo a) :
    @dite EReal (∀ a, lo a ≤ q a ∧ q a - lo a < S.size a) d (fun hin => x (fun a => ⟨q a - lo a, (hin a).2⟩)) (fun _ => v) = x i := by
  have hin : ∀ a, lo a ≤ q a ∧ q a - lo a < S.size a := fun a => ⟨by have := hq a; omega, by have := hq a; have := (i a).isLt; omega⟩
  refine (dif_pos hin).trans ?_
  exact congrArg x (funext fun a => Fin.ext (by have := hq a; show q a - lo a = (i a).val; omega))

/-- A window's element that is padding. -/
theorem window_out {S : Shape} (x : S.Idx → EReal) (lo q : Fin S.rank → ℕ) (v : EReal) (a : Fin S.rank)
    {d : Decidable (∀ a, lo a ≤ q a ∧ q a - lo a < S.size a)} (hq : q a < lo a) :
    @dite EReal (∀ a, lo a ≤ q a ∧ q a - lo a < S.size a) d (fun hin => x (fun a => ⟨q a - lo a, (hin a).2⟩)) (fun _ => v) = v :=
  dif_neg fun hin => absurd (hin a).1 (by omega)

/-- The number a running sum begins with. -/
theorem start_zero : (broadcastInDim S_ ![] bcast_S_S_ (constant S_ .f32 0x00000000#32) : FVec Ideal S_ .f32) (Shape.Idx.first h_S_) = (0 : EReal) := by
  have e : (Shape.Idx.first h_S_ : S_.Idx) = ix0 := Subsingleton.elim _ _
  rw [e]
  pointwise

/-- The running sum over one position is the position's value. -/
theorem window_one (x : FVec Ideal S128x4x1x1 .f32) (b : Fin 128) (h : Fin 4) :
    (Host.reduceWindowAdd ![1, 1, 1, 1] ![1, 1, 1, 1] ![0, 0, 0, 0] ![0, 0, 0, 0] x (broadcastInDim S_ ![] bcast_S_S_ (constant S_ .f32 0x00000000#32))
      reduceWindows_S128x4x1x1_S128x4x1x1_w1s1p0_0_w1s1p0_0_w1s1p0_0_w1s1p0_0 h_S_ : Vec Ideal S128x4x1x1 .f32) (ix4 b h 0 0)
      = (x : Vec Ideal S128x4x1x1 .f32) (ix4 b h 0 0) := by
  unfold Host.reduceWindowAdd
  rw [Ideal.hostReduceWindowAdd_def]
  unfold Ideal.hostReduceWindowAdd Host.reduceWindow
  have e : List.finRange (Shape.numel ⟨4, ![1, 1, 1, 1]⟩) = [⟨0, by decide⟩] := by decide
  have z : ∀ a, ((Shape.rowMajor ⟨4, ![1, 1, 1, 1]⟩).symm ⟨0, by decide⟩ a).val = 0 := by decide
  dsimp only
  rw [e, start_zero]
  simp only [List.foldl_cons, List.foldl_nil]
  refine (congrArg (fun y : EReal => 0 + y) (window_in (S := S128x4x1x1) x _ _ 0 (ix4 b h 0 0) ?_)).trans (zero_add _)
  intro a
  rw [z a]
  fin_cases a <;> simp

section

variable (x : FVec Ideal S128x4x2 .f32)

/-- The running sum over two positions. -/
def sums : FVec Ideal S128x4x2 .f32 :=
  Host.reduceWindowAdd ![1, 1, 2] ![1, 1, 1] ![0, 0, 1] ![0, 0, 0] x (broadcastInDim S_ ![] bcast_S_S_ (constant S_ .f32 0x00000000#32))
    reduceWindows_S128x4x2_S128x4x2_w1s1p0_0_w1s1p0_0_w2s1p1_0 h_S_

theorem sums_zero (b : Fin 128) (h : Fin 4) : (sums x : Vec Ideal S128x4x2 .f32) (ix3 b h 0) = (x : Vec Ideal S128x4x2 .f32) (ix3 b h 0) := by
  unfold sums Host.reduceWindowAdd
  rw [Ideal.hostReduceWindowAdd_def]
  unfold Ideal.hostReduceWindowAdd Host.reduceWindow
  have e : List.finRange (Shape.numel ⟨3, ![1, 1, 2]⟩) = [⟨0, by decide⟩, ⟨1, by decide⟩] := by decide
  have z : ∀ a, ((Shape.rowMajor ⟨3, ![1, 1, 2]⟩).symm ⟨0, by decide⟩ a).val = 0 := by decide
  have z' : ∀ a, ((Shape.rowMajor ⟨3, ![1, 1, 2]⟩).symm ⟨1, by decide⟩ a).val = (![0, 0, 1] : Fin 3 → ℕ) a := by decide
  dsimp only
  rw [e, start_zero]
  simp only [List.foldl_cons, List.foldl_nil]
  refine (congrArg₂ (fun y w : EReal => 0 + y + w) (window_out (S := S128x4x2) x _ _ 0 2 ?_) (window_in (S := S128x4x2) x _ _ 0 (ix3 b h 0) ?_)).trans ?_
  · rw [z 2]
    simp
  · intro a
    rw [z' a]
    fin_cases a <;> simp
  · rw [zero_add, zero_add]

theorem sums_one (b : Fin 128) (h : Fin 4) : (sums x : Vec Ideal S128x4x2 .f32) (ix3 b h 1)
    = ((x : Vec Ideal S128x4x2 .f32) (ix3 b h 0) + (x : Vec Ideal S128x4x2 .f32) (ix3 b h 1) : EReal) := by
  unfold sums Host.reduceWindowAdd
  rw [Ideal.hostReduceWindowAdd_def]
  unfold Ideal.hostReduceWindowAdd Host.reduceWindow
  have e : List.finRange (Shape.numel ⟨3, ![1, 1, 2]⟩) = [⟨0, by decide⟩, ⟨1, by decide⟩] := by decide
  have z : ∀ a, ((Shape.rowMajor ⟨3, ![1, 1, 2]⟩).symm ⟨0, by decide⟩ a).val = 0 := by decide
  have z' : ∀ a, ((Shape.rowMajor ⟨3, ![1, 1, 2]⟩).symm ⟨1, by decide⟩ a).val = (![0, 0, 1] : Fin 3 → ℕ) a := by decide
  dsimp only
  rw [e, start_zero]
  simp only [List.foldl_cons, List.foldl_nil]
  refine (congrArg₂ (fun y w : EReal => 0 + y + w) (window_in (S := S128x4x2) x _ _ 0 (ix3 b h 0) ?_) (window_in (S := S128x4x2) x _ _ 0 (ix3 b h 1) ?_)).trans ?_
  · intro a
    rw [z a]
    fin_cases a <;> simp
  · intro a
    rw [z' a]
    fin_cases a <;> simp
  · rw [zero_add]

end

end Cert.ReferenceSsdStepIdeal.SsdStep

end
-- ==== Proof.SsdStep.Reference.lean ====
/- The reference of the decoding step of the state space branch, one operation of its chunked scan at a time: with one
   new position the chunk has one row, and the sums and decays are those of one or two numbers. -/
module

public import proofs.«01_k».proof.Proof.Gen.ReferenceSsdStepIdeal
public import proofs.«01_k».proof.Proof.Gen.ReferenceSsdStepIdeal.Run
public import proofs.«01_k».proof.Proof.SsdStep.Windows
public import Idealize.ShloMosaic.Lib.Pointwise

@[expose] public section

noncomputable section

namespace Cert.ReferenceSsdStepIdeal.SsdStep

open Idealize.ShloMosaic Idealize.ShloMosaic.TcCoe
open Cert.ReferenceSsdStepIdeal Cert.ReferenceSsdStepIdeal.Gen

theorem lane_lt (h : Fin 4) (k : Fin 64) : h.val * 64 + k.val < 256 := by omega

theorem group_lt (h : Fin 4) (n : Fin 128) : h.val / 2 * 128 + n.val < 256 := by omega

/-- A head's lane among the 256. -/
abbrev lane (h : Fin 4) (k : Fin 64) : Fin 256 := ⟨h.val * 64 + k.val, lane_lt h k⟩

/-- The lane of a head's group: two heads share their group's 128 lanes. -/
abbrev group (h : Fin 4) (n : Fin 128) : Fin 256 := ⟨h.val / 2 * 128 + n.val, group_lt h n⟩

/-- The logarithm of each head's decay, summed over the one position. -/
def cum (D : FVec Ideal S128x1x4 .f32) (A : FVec Ideal S4 .f32) : FVec Ideal S128x4x1x1 .f32 :=
  Host.reduceWindowAdd ![1, 1, 1, 1] ![1, 1, 1, 1] ![0, 0, 0, 0] ![0, 0, 0, 0] (transpose S128x4x1x1 [0, 3, 1, 2] (shapeCast _ (mulf D (broadcastInDim S128x1x4 ![0, 1, 2] bcast_S1x1x4_S128x1x4_0_1_2 (broadcastInDim S1x1x4 ![2] bcast_S4_S1x1x4_2 A))) shapeCasts_S128x1x4_S128x1x1x4) transposes_S128x1x1x4_S128x4x1x1_0_3_1_2) (broadcastInDim S_ ![] bcast_S_S_ (constant S_ .f32 0x00000000#32)) reduceWindows_S128x4x1x1_S128x4x1x1_w1s1p0_0_w1s1p0_0_w1s1p0_0_w1s1p0_0 h_S_

theorem cum_read (D : Vec Ideal S128x1x4 .f32) (A : Vec Ideal S4 .f32) (b : Fin 128) (h : Fin 4) :
    (cum D A : Vec Ideal S128x4x1x1 .f32) (ix4 b h 0 0) = (D (ix3 b 0 h) * A (ix1 h) : EReal) := by
  unfold cum
  refine (window_one _ b h).trans ?_
  pointwise

/-- The rows of the groups, given to their heads. -/
def rows (B : FVec Ideal S128x1x256 .f32) : FVec Ideal S128x1x1x4x128 .f32 :=
  shapeCast _ (shapeCast _ (broadcastInDim S128x1x2x2x128 ![0, 1, 2, 4] bcast_S128x1x2x128_S128x1x2x2x128_0_1_2_4 (shapeCast _ B shapeCasts_S128x1x256_S128x1x2x128)) shapeCasts_S128x1x2x2x128_S128x1x4x128) shapeCasts_S128x1x4x128_S128x1x1x4x128

theorem rows_read (B : Vec Ideal S128x1x256 .f32) (b : Fin 128) (h : Fin 4) (n : Fin 128) :
    (rows B : Vec Ideal S128x1x1x4x128 .f32) (ix5 b 0 0 h n) = B (ix3 b 0 (group h n)) := by
  unfold rows
  pointwise

/-- The heads' inputs. -/
def inp (X : FVec Ideal S128x1x256 .f32) (D : FVec Ideal S128x1x4 .f32) : FVec Ideal S128x1x1x4x64 .f32 :=
  shapeCast _ (mulf (shapeCast _ X shapeCasts_S128x1x256_S128x1x4x64) (broadcastInDim S128x1x4x64 ![0, 1, 2, 3] bcast_S128x1x4x1_S128x1x4x64_0_1_2_3 (broadcastInDim S128x1x4x1 ![0, 1, 2] bcast_S128x1x4_S128x1x4x1_0_1_2 D))) shapeCasts_S128x1x4x64_S128x1x1x4x64

theorem inp_read (X : Vec Ideal S128x1x256 .f32) (D : Vec Ideal S128x1x4 .f32) (b : Fin 128) (h : Fin 4) (p : Fin 64) :
    (inp X D : Vec Ideal S128x1x1x4x64 .f32) (ix5 b 0 0 h p) = (X (ix3 b 0 (lane h p)) * D (ix3 b 0 h) : EReal) := by
  unfold inp
  pointwise

/-- The old states before the new position's. -/
def both (S : FVec Ideal S128x4x64x128 .f32) (C : FVec Ideal S128x4x1x1 .f32) (I : FVec Ideal S128x1x1x4x64 .f32) (B : FVec Ideal S128x1x1x4x128 .f32) : FVec Ideal S128x2x4x64x128 .f32 :=
  concatenate S128x2x4x64x128 1 [⟨S128x1x4x64x128, (broadcastInDim S128x1x4x64x128 ![0, 2, 3, 4] bcast_S128x4x64x128_S128x1x4x64x128_0_2_3_4 S)⟩, ⟨S128x1x4x64x128, (Host.dotGeneral dot_S128x1x1x4x64_S128x1x1x4x128_S128x1x4x64x128_2_2_4_4_013_013 none (mulf (broadcastInDim S128x1x1x4x64 ![0, 1, 2, 3, 4] bcast_S128x1x1x4x1_S128x1x1x4x64_0_1_2_3_4 (broadcastInDim S128x1x1x4x1 ![0, 1, 2, 3] bcast_S128x1x1x4_S128x1x1x4x1_0_1_2_3 (transpose S128x1x1x4 [0, 2, 3, 1] (Host.exp (subf C C)) transposes_S128x4x1x1_S128x1x1x4_0_2_3_1))) I) B)⟩] concatenates_S128x1x4x64x128_S128x1x4x64x128_S128x2x4x64x128_d1

section

variable (S : Vec Ideal S128x4x64x128 .f32) (C : Vec Ideal S128x4x1x1 .f32) (I : Vec Ideal S128x1x1x4x64 .f32) (B : Vec Ideal S128x1x1x4x128 .f32)
  (b : Fin 128) (h : Fin 4) (p : Fin 64) (n : Fin 128)

theorem both_zero : (both S C I B : Vec Ideal S128x2x4x64x128 .f32) (ix5 b 0 h p n) = S (ix4 b h p n) := by
  unfold both
  pointwise

theorem both_one : (both S C I B : Vec Ideal S128x2x4x64x128 .f32) (ix5 b 1 h p n)
    = (Ideal.exp (C (ix4 b h 0 0) - C (ix4 b h 0 0)) * I (ix5 b 0 0 h p) * B (ix5 b 0 0 h n) : EReal) := by
  unfold both
  pointwise
  simp

end

/-- The integer zero, as a number. -/
theorem zero_int : (FloatOps.sitofp (F := Ideal) .f32 (0#32 : BitVec 32) : EReal) = 0 := by
  show ((((0#32 : BitVec 32).toInt : ℤ) : ℝ) : EReal) = 0
  simp

/-- The choice between a number and the lowest, at two positions that are in order. -/
theorem in_order (p q : BitVec 32) (hc : IntOp.cmpi .sge (IntOp.addi p 0#32) q = 1#1) (a c : EReal) :
    Scalar.select (Scalar.select (IntOp.cmpi .sge (IntOp.addi p 0#32) q) 1#1 0#1) a c = a := by
  rw [hc]
  rfl

/-- The choice at two positions that are not. -/
theorem out_of_order (p q : BitVec 32) (hc : IntOp.cmpi .sge (IntOp.addi p 0#32) q = 0#1) (a c : EReal) :
    Scalar.select (Scalar.select (IntOp.cmpi .sge (IntOp.addi p 0#32) q) 1#1 0#1) a c = c := by
  rw [hc]
  rfl

/-- The lowest number has the exponential zero. -/
theorem exp_lowest : Ideal.exp (id (constant S_ .f32 0xFF800000#32 : FVec Ideal S_ .f32) ix0) = (0 : EReal) := by
  have e : (id (constant S_ .f32 0xFF800000#32 : FVec Ideal S_ .f32) ix0 : EReal) = ⊥ := by
    show Ideal.ofBits .f32 0xFF800000#32 = ⊥
    simp [Ideal.ofBits, Ideal.ieee]
  exact (congrArg Ideal.exp e).trans (by simp)

/-- The logarithms of the decays, a zero before the new position's. -/
def padded (C : FVec Ideal S128x4x1x1 .f32) : FVec Ideal S128x4x2 .f32 :=
  pad S128x4x2 ![0, 0, 1] ![0, 0, 0] ![0, 0, 0] (shapeCast _ C shapeCasts_S128x4x1x1_S128x4x1) (sitofp .f32 (constantI S_ 32 0#32)) pads_S128x4x1_S128x4x2_000_000_100 h_S_

theorem padded_zero (C : Vec Ideal S128x4x1x1 .f32) (b : Fin 128) (h : Fin 4) : (padded C : Vec Ideal S128x4x2 .f32) (ix3 b h 0) = (0 : EReal) := by
  unfold padded
  pointwise
  exact zero_int

theorem padded_one (C : Vec Ideal S128x4x1x1 .f32) (b : Fin 128) (h : Fin 4) : (padded C : Vec Ideal S128x4x2 .f32) (ix3 b h 1) = C (ix4 b h 0 0) := by
  unfold padded
  pointwise

/-- The decays from a position to another one, none backwards. -/
def decays (s : FVec Ideal S128x4x2 .f32) : FVec Ideal S128x4x2x2 .f32 :=
  Host.exp (select (broadcastInDim S128x4x2x2 ![2, 3] bcast_S2x2_S128x4x2x2_2_3 (select (cmpi .sge (addi (iotaInDim S2x2 32 0) (broadcastInDim S2x2 ![] bcast_S_S2x2 (constantI S_ 32 0#32))) (iotaInDim S2x2 32 1)) (broadcastInDim S2x2 ![] bcast_S_S2x2 (constantI S_ 1 1#1)) (broadcastInDim S2x2 ![] bcast_S_S2x2 (constantI S_ 1 0#1)))) (subf (broadcastInDim S128x4x2x2 ![0, 1, 2, 3] bcast_S128x4x2x1_S128x4x2x2_0_1_2_3 (broadcastInDim S128x4x2x1 ![0, 1, 2] bcast_S128x4x2_S128x4x2x1_0_1_2 s)) (broadcastInDim S128x4x2x2 ![0, 1, 2, 3] bcast_S128x4x1x2_S128x4x2x2_0_1_2_3 (broadcastInDim S128x4x1x2 ![0, 1, 3] bcast_S128x4x2_S128x4x1x2_0_1_3 s))) (broadcastInDim S128x4x2x2 ![] bcast_S_S128x4x2x2 (id (constant S_ .f32 0xFF800000#32))))

section

variable (s : Vec Ideal S128x4x2 .f32) (b : Fin 128) (h : Fin 4)

theorem decays_zero_zero : (decays s : Vec Ideal S128x4x2x2 .f32) (ix4 b h 0 0) = Ideal.exp (s (ix3 b h 0) - s (ix3 b h 0)) := by
  unfold decays
  pointwise
  exact congrArg Ideal.exp (in_order _ _ (by decide) _ _)

theorem decays_zero_one : (decays s : Vec Ideal S128x4x2x2 .f32) (ix4 b h 0 1) = (0 : EReal) := by
  unfold decays
  pointwise
  exact (congrArg Ideal.exp (out_of_order _ _ (by decide) _ _)).trans exp_lowest

theorem decays_one_zero : (decays s : Vec Ideal S128x4x2x2 .f32) (ix4 b h 1 0) = Ideal.exp (s (ix3 b h 1) - s (ix3 b h 0)) := by
  unfold decays
  pointwise
  exact congrArg Ideal.exp (in_order _ _ (by decide) _ _)

theorem decays_one_one : (decays s : Vec Ideal S128x4x2x2 .f32) (ix4 b h 1 1) = Ideal.exp (s (ix3 b h 1) - s (ix3 b h 1)) := by
  unfold decays
  pointwise
  exact congrArg Ideal.exp (in_order _ _ (by decide) _ _)

end

/-- The states before and after the new position. -/
def carried (S2 : FVec Ideal S128x2x4x64x128 .f32) (E : FVec Ideal S128x4x2x2 .f32) : FVec Ideal S128x2x4x64x128 .f32 :=
  transpose S128x2x4x64x128 [0, 4, 1, 2, 3] (Host.dotGeneral dot_S128x2x4x64x128_S128x4x2x2_S128x4x64x128x2_1_3_34_2_02_01 none S2 E) transposes_S128x4x64x128x2_S128x2x4x64x128_0_4_1_2_3

theorem carried_read (S2 : Vec Ideal S128x2x4x64x128 .f32) (E : Vec Ideal S128x4x2x2 .f32) (b : Fin 128) (z : Fin 2) (h : Fin 4) (p : Fin 64) (n : Fin 128) :
    (carried S2 E : Vec Ideal S128x2x4x64x128 .f32) (ix5 b z h p n)
      = (S2 (ix5 b 0 h p n) * E (ix4 b h z 0) + S2 (ix5 b 1 h p n) * E (ix4 b h z 1) : EReal) := by
  unfold carried
  pointwise [Fin.sum_univ_two]

/-- The new states. -/
def lastStates (T : FVec Ideal S128x2x4x64x128 .f32) : FVec Ideal S128x4x64x128 .f32 :=
  shapeCast _ (extractStridedSlice S128x1x4x64x128 ![0, 1, 0, 0, 0] T slices_S128x2x4x64x128_S128x1x4x64x128_0_1_0_0_0) shapeCasts_S128x1x4x64x128_S128x4x64x128

theorem lastStates_read (T : Vec Ideal S128x2x4x64x128 .f32) (b : Fin 128) (h : Fin 4) (p : Fin 64) (n : Fin 128) :
    (lastStates T : Vec Ideal S128x4x64x128 .f32) (ix4 b h p n) = T (ix5 b 1 h p n) := by
  unfold lastStates
  pointwise

/-- The decay within the chunk's one row. -/
def within (C : FVec Ideal S128x4x1x1 .f32) : FVec Ideal S128x4x1x1x1 .f32 :=
  Host.exp (select (broadcastInDim S128x4x1x1x1 ![3, 4] bcast_S1x1_S128x4x1x1x1_3_4 (select (cmpi .sge (addi (iotaInDim S1x1 32 0) (broadcastInDim S1x1 ![] bcast_S_S1x1 (constantI S_ 32 0#32))) (iotaInDim S1x1 32 1)) (broadcastInDim S1x1 ![] bcast_S_S1x1 (constantI S_ 1 1#1)) (broadcastInDim S1x1 ![] bcast_S_S1x1 (constantI S_ 1 0#1)))) (subf (broadcastInDim S128x4x1x1x1 ![0, 1, 2, 3] bcast_S128x4x1x1_S128x4x1x1x1_0_1_2_3 C) (broadcastInDim S128x4x1x1x1 ![0, 1, 2, 4] bcast_S128x4x1x1_S128x4x1x1x1_0_1_2_4 C)) (broadcastInDim S128x4x1x1x1 ![] bcast_S_S128x4x1x1x1 (id (constant S_ .f32 0xFF800000#32))))

theorem within_read (C : Vec Ideal S128x4x1x1 .f32) (b : Fin 128) (h : Fin 4) :
    (within C : Vec Ideal S128x4x1x1x1 .f32) (ix5 b h 0 0 0) = Ideal.exp (C (ix4 b h 0 0) - C (ix4 b h 0 0)) := by
  unfold within
  pointwise
  exact congrArg Ideal.exp (in_order _ _ (by decide) _ _)

/-- The outputs: the new position's own part and the old states' part. -/
def outs (I : FVec Ideal S128x1x1x4x64 .f32) (B R : FVec Ideal S128x1x1x4x128 .f32) (W : FVec Ideal S128x4x1x1x1 .f32) (T : FVec Ideal S128x2x4x64x128 .f32) (C : FVec Ideal S128x4x1x1 .f32) : FVec Ideal S128x1x256 .f32 :=
  shapeCast _ (addf (transpose S128x1x1x4x64 [0, 1, 4, 2, 3] (Host.dotGeneral dot_S128x1x1x4x64_S128x4x1x1x1_S128x1x4x64x1_2_4_4_3_013_021 none I (mulf (Host.dotGeneral dot_S128x1x1x4x128_S128x1x1x4x128_S128x4x1x1x1_4_4_2_2_031_031 none R B) W)) transposes_S128x1x4x64x1_S128x1x1x4x64_0_1_4_2_3) (mulf (transpose S128x1x1x4x64 [0, 1, 4, 2, 3] (Host.dotGeneral dot_S128x1x4x64x128_S128x1x1x4x128_S128x1x4x64x1_4_4_3_2_012_013 none (extractStridedSlice S128x1x4x64x128 ![0, 0, 0, 0, 0] T slices_S128x2x4x64x128_S128x1x4x64x128_0_0_0_0_0) R) transposes_S128x1x4x64x1_S128x1x1x4x64_0_1_4_2_3) (broadcastInDim S128x1x1x4x64 ![0, 1, 2, 3, 4] bcast_S128x1x1x4x1_S128x1x1x4x64_0_1_2_3_4 (broadcastInDim S128x1x1x4x1 ![0, 1, 2, 3] bcast_S128x1x1x4_S128x1x1x4x1_0_1_2_3 (transpose S128x1x1x4 [0, 2, 3, 1] (Host.exp C) transposes_S128x4x1x1_S128x1x1x4_0_2_3_1))))) shapeCasts_S128x1x1x4x64_S128x1x256

theorem head_lt (x : Fin 256) : x.val / 64 < 4 := by omega

theorem part_lt (x : Fin 256) : x.val % 64 < 64 := by omega

/-- A lane's head. -/
abbrev headOf (x : Fin 256) : Fin 4 := ⟨x.val / 64, head_lt x⟩

/-- A lane's place in its head. -/
abbrev partOf (x : Fin 256) : Fin 64 := ⟨x.val % 64, part_lt x⟩

theorem outs_read (I : Vec Ideal S128x1x1x4x64 .f32) (B R : Vec Ideal S128x1x1x4x128 .f32) (W : Vec Ideal S128x4x1x1x1 .f32) (T : Vec Ideal S128x2x4x64x128 .f32) (C : Vec Ideal S128x4x1x1 .f32)
    (b : Fin 128) (x : Fin 256) : (outs I B R W T C : Vec Ideal S128x1x256 .f32) (ix3 b 0 x)
      = (I (ix5 b 0 0 (headOf x) (partOf x)) * ((∑ n : Fin 128, R (ix5 b 0 0 (headOf x) n) * B (ix5 b 0 0 (headOf x) n)) * W (ix5 b (headOf x) 0 0 0))
        + (∑ n : Fin 128, T (ix5 b 0 (headOf x) (partOf x) n) * R (ix5 b 0 0 (headOf x) n)) * Ideal.exp (C (ix4 b (headOf x) 0 0)) : EReal) := by
  unfold outs
  pointwise
  simp

end Cert.ReferenceSsdStepIdeal.SsdStep

end
-- ==== Proof.SsdStep.Algebraic.lean ====
/- The decoding step of the state space branch: kernel and reference end with the same outputs and the same new states,
   of finite arguments and any old state. -/
module

public import proofs.«01_k».proof.Defs
public import proofs.«01_k».proof.Proof.SsdStep.Finite
public import proofs.«01_k».proof.Proof.SsdStep.Frames
public import proofs.«01_k».proof.Proof.SsdStep.Launch
public import proofs.«01_k».proof.Proof.SsdStep.Reference

@[expose] public section

noncomputable section

namespace Cert.KernelSsdStepIdeal.SsdStep

open Idealize.ShloMosaic Idealize.ShloMosaic.TcCoe Idealize.SL.Sem
open Cert.KernelSsdStepIdeal.Gen
open Cert.ReferenceSsdStepIdeal.SsdStep (lane group headOf partOf)

section

variable (A0 : Vec Ideal S128x1x256 .f32) (A1 : Vec Ideal S128x1x4 .f32) (A2 : Vec Ideal S4 .f32) (A3 A4 : Vec Ideal S128x1x256 .f32)
  (A5 : Vec Ideal S128x4x64x128 .f32)

/-- A head's input in a lane. -/
def input (b : Fin 128) (h : Fin 4) (i : Fin 64) : EReal := A0 (ix3 b 0 (lane h i)) * A1 (ix3 b 0 h)

/-- The logarithm of a head's decay. -/
def logDecay (b : Fin 128) (h : Fin 4) : EReal := A1 (ix3 b 0 h) * A2 (ix1 h)

/-- The new states, of the arguments. -/
def newStates : Vec Ideal S128x4x64x128 .f32 := fun y =>
  entry (A5 (ix4 (y 0) (y 1) (y 2) (y 3))) (logDecay A1 A2 (y 0) (y 1)) (input A0 A1 (y 0) (y 1) (y 2)) (A3 (ix3 (y 0) 0 (group (y 1) (y 3))))

/-- A head's output. -/
def headOut (b : Fin 128) (h : Fin 4) (i : Fin 64) : EReal :=
  ∑ x : Fin 128, (A4 (ix3 b 0 (group h x)) * newStates A0 A1 A2 A3 A5 (ix4 b h i x) : EReal)

/-- The outputs, of the arguments, heads beside each other. -/
def newOutputs : Vec Ideal S128x1x256 .f32 := fun y => headOut A0 A1 A2 A3 A4 A5 (y 0) (headOf (y 2)) (partOf (y 2))

end

/-- The launch's states, of arrays that hold the arguments by head. -/
theorem states_of (S X1 : Vec Ideal S128x4x64x128 .f32) (X2 X3 : Vec Ideal S128x4x1x128 .f32) (A0 : Vec Ideal S128x1x256 .f32) (A1 : Vec Ideal S128x1x4 .f32)
    (A2 : Vec Ideal S4 .f32) (A3 : Vec Ideal S128x1x256 .f32) (hx : ∀ b h i j, X1 (ix4 b h i j) = input A0 A1 b h i)
    (hd : ∀ b h j, X2 (ix4 b h 0 j) = logDecay A1 A2 b h) (hb : ∀ b h j, X3 (ix4 b h 0 j) = A3 (ix3 b 0 (group h j))) :
    states S X1 X2 X3 = newStates A0 A1 A2 A3 S := by
  funext y
  exact entry_congr rfl (hd _ _ _) (hx _ _ _ _) (hb _ _ _)

section

variable (m : (ℓ : Loc nD τ sig) → Buf (Elt Ideal) ℓ) (c : Dev nD)

theorem x_entry (b : Fin 128) (h : Fin 4) (i : Fin 64) (j : Fin 128) : (V m c main_v9 : Vec Ideal S128x4x64x128 .f32) (ix4 b h i j)
    = input (m ((c : Thread nD τ).loc main_arg0)) (m ((c : Thread nD τ).loc main_arg1)) b h i := by
  unfold V input
  after_reads_at

theorem d_entry (b : Fin 128) (h : Fin 4) (j : Fin 128) : (V m c main_v14 : Vec Ideal S128x4x1x128 .f32) (ix4 b h 0 j)
    = logDecay (m ((c : Thread nD τ).loc main_arg1)) (m ((c : Thread nD τ).loc main_arg2)) b h := by
  unfold V logDecay
  after_reads_at

theorem b_entry (b : Fin 128) (h : Fin 4) (j : Fin 128) : (V m c main_v17 : Vec Ideal S128x4x1x128 .f32) (ix4 b h 0 j)
    = (m ((c : Thread nD τ).loc main_arg3) : Vec Ideal S128x1x256 .f32) (ix3 b 0 (group h j)) := by
  unfold V
  after_reads_at

theorem c_entry (b : Fin 128) (h : Fin 4) (j : Fin 128) : (V m c main_v20 : Vec Ideal S128x4x1x128 .f32) (ix4 b h 0 j)
    = (m ((c : Thread nD τ).loc main_arg4) : Vec Ideal S128x1x256 .f32) (ix3 b 0 (group h j)) := by
  unfold V
  after_reads_at

/-- The new states of the launch's arguments. -/
abbrev statesM : Vec Ideal S128x4x64x128 .f32 :=
  newStates (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5))

/-- The outputs of the launch's arguments. -/
abbrev outputsM : Vec Ideal S128x1x256 .f32 :=
  newOutputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem states_args : statesV m c = statesM m c :=
  (states_of (V m c main_arg5) _ _ _ _ _ _ _ (x_entry m c) (d_entry m c) (b_entry m c)).trans (congrArg (newStates _ _ _ _) (V_main_arg5 m c))

/-- An entry of the launch's outputs. -/
theorem outputs_args (b : Fin 128) (h : Fin 4) (i : Fin 64) : outputsV m c (ix4 b h 0 i)
    = headOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) b h i :=
  Finset.sum_congr (M := EReal) rfl fun x _ => congrArg₂ (fun a b : EReal => a * b) (c_entry m c b h x)
    (congrFun (states_args m c) (ix4 b h i x))

/-- What follows the launch sets the heads beside each other. -/
def beside (P : FVec Ideal S128x4x1x64 .f32) : FVec Ideal S128x1x256 .f32 :=
  broadcastInDim S128x1x256 ![0, 2] bcast_S128x256_S128x1x256_0_2 (shapeCast S128x256 P shapeCasts_S128x4x1x64_S128x256)

theorem beside_read (P : Vec Ideal S128x4x1x64 .f32) (b : Fin 128) (x : Fin 256) :
    (beside P : Vec Ideal S128x1x256 .f32) (ix3 b 0 x) = P (ix4 b (headOf x) 0 (partOf x)) := by
  unfold beside
  pointwise

theorem tail_is (U : Valuation τ sig (Elt Ideal)) :
    StableHlo.after hostOps1 U (Proc.devRef .tc main_v23) = beside (U (Proc.devRef .tc main_v21_1)) := by
  unfold hostOps1
  after_results_simp <;> rfl

theorem outputs_after : beside (outputsV m c) = outputsM m c := by
  suffices hk : ∀ y : S128x1x256.Idx, (beside (outputsV m c) : Vec Ideal S128x1x256 .f32) y = outputsM m c y from funext hk
  have key : ∀ (b : Fin 128) (z : Fin 1) (x : Fin 256), (beside (outputsV m c) : Vec Ideal S128x1x256 .f32) (ix3 b z x) = outputsM m c (ix3 b z x) := by
    intro b z x
    obtain rfl : z = 0 := Subsingleton.elim z 0
    exact (beside_read _ b x).trans (outputs_args m c b _ _)
  intro y
  idx_vars y
  exact key _ _ _

/-- A buffer after the launch and what follows it. -/
theorem after_tail (b : Ref sig .tc) : Pipeline.afterTail₀ cfgs (dats m) 0 (V0 m) [hostOps1] c b
    = StableHlo.after hostOps1 (Pipeline.withArrays spec0 c (V0 m c) (fun w => (dats m 0 c).arrAt w (cfgs 0).N)) (Proc.devRef .tc b) := by
  unfold Pipeline.afterTail₀
  simp only [List.flatten_cons, List.flatten_nil, List.append_nil]

end

/-- The kernel's run ends with the step's outputs and new states. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = outputsM m c ∧ r.2.mem ((c.tc : Thread nD τ).loc main_v21_0) = statesM m c ∧ Kept m c r.2) := by
  refine (θ_run defs _ _).mono (fun r h c => ?_) (run_main (F := Ideal) m ρ)
  have h6 := (Pipeline.withArrays_arr spec0 (by decide) c (V0 m c) (fun w => (dats m 0 c).arrAt w (cfgs 0).N) 6).trans (launched_outputs m c)
  exact ⟨((h c).2 main_v23 (Pipeline.mem_restRefs_of main_v23 (by decide) (by decide))).trans
      ((after_tail m c main_v23).trans ((tail_is _).trans ((congrArg beside h6).trans (outputs_after m c)))),
    ((h c).1 5).trans ((launched_states m c).trans (states_args m c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).1 0).trans (((dats m 0 c).arrAt_in 0 rfl _).trans (V_main_arg5 m c))⟩

end Cert.KernelSsdStepIdeal.SsdStep

namespace Cert.ReferenceSsdStepIdeal.SsdStep

open Idealize.ShloMosaic Idealize.ShloMosaic.TcCoe Idealize.SL.Sem
open Cert.ReferenceSsdStepIdeal Cert.ReferenceSsdStepIdeal.Gen
open Cert.KernelSsdStepIdeal.SsdStep (entry input logDecay newStates newOutputs headOut statesM outputsM)
open Cert.SsdStep (state_eq old_eq out_eq real_mul)

section

variable (A0 : Vec Ideal S128x1x256 .f32) (A1 : Vec Ideal S128x1x4 .f32) (A2 : Vec Ideal S4 .f32) (A3 A4 : Vec Ideal S128x1x256 .f32)
  (A5 : Vec Ideal S128x4x64x128 .f32)

/-- The running sums of the logarithms, a zero before them. -/
theorem sums_first (b : Fin 128) (h : Fin 4) : (sums (padded (cum A1 A2)) : Vec Ideal S128x4x2 .f32) (ix3 b h 0) = (0 : EReal) :=
  (sums_zero _ b h).trans (padded_zero _ b h)

theorem sums_second (b : Fin 128) (h : Fin 4) : (sums (padded (cum A1 A2)) : Vec Ideal S128x4x2 .f32) (ix3 b h 1) = (0 + logDecay A1 A2 b h : EReal) :=
  (sums_one _ b h).trans (congrArg₂ (fun u v : EReal => u + v) (padded_zero _ b h) ((padded_one _ b h).trans (cum_read A1 A2 b h)))

/-- The reference's states before and after the new position. -/
def refCarried : FVec Ideal S128x2x4x64x128 .f32 := carried (both A5 (cum A1 A2) (inp A0 A1) (rows A3)) (decays (sums (padded (cum A1 A2))))

variable (b : Fin 128) (h : Fin 4) (p : Fin 64) (n : Fin 128)

theorem new_read : (both A5 (cum A1 A2) (inp A0 A1) (rows A3) : Vec Ideal S128x2x4x64x128 .f32) (ix5 b 1 h p n)
    = (Ideal.exp (logDecay A1 A2 b h - logDecay A1 A2 b h) * input A0 A1 b h p * A3 (ix3 b 0 (group h n)) : EReal) :=
  (both_one _ _ _ _ b h p n).trans (congrArg₂ (fun u v : EReal => u * v)
    (congrArg₂ (fun u v : EReal => Ideal.exp (u - u) * v) (cum_read A1 A2 b h) (inp_read A0 A1 b h p)) (rows_read A3 b h n))

theorem carried_before : (refCarried A0 A1 A2 A3 A5 : Vec Ideal S128x2x4x64x128 .f32) (ix5 b 0 h p n) = A5 (ix4 b h p n) := by
  refine (carried_read _ _ b 0 h p n).trans (Eq.trans ?_ (old_eq _ ((both A5 (cum A1 A2) (inp A0 A1) (rows A3) : Vec Ideal S128x2x4x64x128 .f32) (ix5 b 1 h p n))))
  refine congrArg₂ (fun u v : EReal => u + v) (congrArg₂ (fun u v : EReal => u * v) (both_zero _ _ _ _ b h p n) ?_) (congrArg (fun v : EReal => _ * v) (decays_zero_one _ b h))
  exact (decays_zero_zero _ b h).trans (congrArg (fun u : EReal => Ideal.exp (u - u)) (sums_first A1 A2 b h))

variable (hc : logDecay A1 A2 b h ≠ ⊤ ∧ logDecay A1 A2 b h ≠ ⊥)

include hc in
theorem carried_after : (refCarried A0 A1 A2 A3 A5 : Vec Ideal S128x2x4x64x128 .f32) (ix5 b 1 h p n) = newStates A0 A1 A2 A3 A5 (ix4 b h p n) := by
  refine (carried_read _ _ b 1 h p n).trans (Eq.trans ?_ (state_eq (A5 (ix4 b h p n)) (logDecay A1 A2 b h) (input A0 A1 b h p) (A3 (ix3 b 0 (group h n))) hc))
  refine congrArg₂ (fun u v : EReal => u + v) (congrArg₂ (fun u v : EReal => u * v) (both_zero _ _ _ _ b h p n) ?_)
    (congrArg₂ (fun u v : EReal => u * v) (new_read A0 A1 A2 A3 A5 b h p n) ?_)
  · exact (decays_one_zero _ b h).trans (congrArg₂ (fun u v : EReal => Ideal.exp (u - v)) (sums_second A1 A2 b h) (sums_first A1 A2 b h))
  · exact (decays_one_one _ b h).trans (congrArg (fun u : EReal => Ideal.exp (u - u)) (sums_second A1 A2 b h))

end

section

variable (A0 : Vec Ideal S128x1x256 .f32) (A1 : Vec Ideal S128x1x4 .f32) (A2 : Vec Ideal S4 .f32) (A3 A4 : Vec Ideal S128x1x256 .f32)
  (A5 : Vec Ideal S128x4x64x128 .f32)

theorem states_is (h1 : Cert.Rwkv.Real A1) (h2 : Cert.Rwkv.Real A2) : lastStates (refCarried A0 A1 A2 A3 A5) = newStates A0 A1 A2 A3 A5 := by
  have key : ∀ (b : Fin 128) (h : Fin 4) (p : Fin 64) (n : Fin 128),
      (lastStates (refCarried A0 A1 A2 A3 A5) : Vec Ideal S128x4x64x128 .f32) (ix4 b h p n) = newStates A0 A1 A2 A3 A5 (ix4 b h p n) := fun b h p n =>
    (lastStates_read _ b h p n).trans (carried_after A0 A1 A2 A3 A5 b h p n (real_mul _ _ (h1 _) (h2 _)))
  suffices hk : ∀ y : S128x4x64x128.Idx, (lastStates (refCarried A0 A1 A2 A3 A5) : Vec Ideal S128x4x64x128 .f32) y = newStates A0 A1 A2 A3 A5 y from funext hk
  intro y
  idx_vars y
  exact key _ _ _ _

/-- The reference's outputs. -/
def refOutputs : FVec Ideal S128x1x256 .f32 :=
  outs (inp A0 A1) (rows A3) (rows A4) (within (cum A1 A2)) (refCarried A0 A1 A2 A3 A5) (cum A1 A2)

/-- An output of a head, of real numbers and any old state. -/
theorem head_is (h0 : Cert.Rwkv.Real A0) (h1 : Cert.Rwkv.Real A1) (h2 : Cert.Rwkv.Real A2) (h3 : Cert.Rwkv.Real A3) (h4 : Cert.Rwkv.Real A4)
    (b : Fin 128) (x : Fin 256) : (refOutputs A0 A1 A2 A3 A4 A5 : Vec Ideal S128x1x256 .f32) (ix3 b 0 x) = headOut A0 A1 A2 A3 A4 A5 b (headOf x) (partOf x) := by
  refine (outs_read _ _ _ _ _ _ b x).trans (Eq.trans ?_ (out_eq (fun n => A5 (ix4 b (headOf x) (partOf x) n)) (fun n => A3 (ix3 b 0 (group (headOf x) n)))
    (fun n => A4 (ix3 b 0 (group (headOf x) n))) (logDecay A1 A2 b (headOf x)) (input A0 A1 b (headOf x) (partOf x))
    (fun n => h3 _) (fun n => h4 _) (real_mul _ _ (h1 _) (h2 _)) (real_mul _ _ (h0 _) (h1 _))))
  refine congrArg₂ (fun u v : EReal => u + v) (congrArg₂ (fun u v : EReal => u * v) (inp_read A0 A1 b _ _) (congrArg₂ (fun u v : EReal => u * v) ?_ ?_))
    (congrArg₂ (fun u v : EReal => u * v) ?_ ?_)
  · exact Finset.sum_congr (M := EReal) rfl fun n _ => congrArg₂ (fun u v : EReal => u * v) (rows_read A4 b _ n) (rows_read A3 b _ n)
  · exact (within_read _ b _).trans (congrArg (fun u : EReal => Ideal.exp (u - u)) (cum_read A1 A2 b _))
  · exact Finset.sum_congr (M := EReal) rfl fun n _ => congrArg₂ (fun u v : EReal => u * v) (carried_before A0 A1 A2 A3 A5 b _ _ n) (rows_read A4 b _ n)
  · exact congrArg Ideal.exp (cum_read A1 A2 b _)

theorem outputs_is (h0 : Cert.Rwkv.Real A0) (h1 : Cert.Rwkv.Real A1) (h2 : Cert.Rwkv.Real A2) (h3 : Cert.Rwkv.Real A3) (h4 : Cert.Rwkv.Real A4) :
    refOutputs A0 A1 A2 A3 A4 A5 = newOutputs A0 A1 A2 A3 A4 A5 := by
  have key : ∀ (b : Fin 128) (z : Fin 1) (x : Fin 256),
      (refOutputs A0 A1 A2 A3 A4 A5 : Vec Ideal S128x1x256 .f32) (ix3 b z x) = newOutputs A0 A1 A2 A3 A4 A5 (ix3 b z x) := by
    intro b z x
    obtain rfl : z = 0 := Subsingleton.elim z 0
    exact head_is A0 A1 A2 A3 A4 A5 h0 h1 h2 h3 h4 b x
  suffices hk : ∀ y : S128x1x256.Idx, (refOutputs A0 A1 A2 A3 A4 A5 : Vec Ideal S128x1x256 .f32) y = newOutputs A0 A1 A2 A3 A4 A5 y from funext hk
  intro y
  idx_vars y
  exact key _ _ _

end

/-- The kernel and the reference end with the same results, of finite arguments and any old state. -/
theorem algebraic [Cert.Pre_ssd_finite.Facts] : Cert.algebraic_KernelSsdStepIdeal_ReferenceSsdStepIdeal_pre_ssd_finite := by
  intro m g m' g' hp hin
  refine ⟨fun c => outputsM m c, fun c => statesM m c, Cert.KernelSsdStepIdeal.SsdStep.run_kernel m g, ?_⟩
  refine (θ_run defs _ _).mono (fun r h c => ?_) (Cert.ReferenceSsdStepIdeal.Value.run (F := Ideal) m' g')
  obtain ⟨h0, h1, hk⟩ := h c
  obtain ⟨e0, e1, e2, e3, e4, e5⟩ := hin c
  obtain ⟨r0, r1, r2, r3, r4⟩ := Cert.SsdStep.real_five _ _ _ _ _ _ (hp c)
  have hs : lastStates (refCarried (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg5))) = statesM m c := by
    rw [e0, e1, e2, e3, e5]
    exact states_is _ _ _ _ _ r1 r2
  have ho : refOutputs (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5)) = outputsM m c := by
    rw [e0, e1, e2, e3, e4, e5]
    exact outputs_is _ _ _ _ _ _ r0 r1 r2 r3 r4
  exact ⟨h0.trans ho, h1.trans hs, hk⟩

end Cert.ReferenceSsdStepIdeal.SsdStep

end
-- ==== Proof.lean ====
/- The certificate: each program's frame, the idealizations, the equality of the recurrence kernel's two results with the
   recurrence's, from the modules under Proof/Rwkv, that of the projection kernel's sixteen with the columns of the
   plain product, from the modules under Proof/Project, those of the FFN's two calls, from the modules under Proof/Up and
   Proof/Down, that of the merge of the branches, from the modules under Proof/Merge, and those of the sample's input
   projection and first FFN projection, from the modules under Proof/InSample and Proof/UpSample. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_all_finite
public import proofs.«01_k».proof.Proof.Gen.KernelIn
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelUp
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Gen.KernelMerge
public import proofs.«01_k».proof.Proof.Gen.KernelMergeIdeal
public import proofs.«01_k».proof.Proof.Gen.KernelMergeIdeal.Frame
public import proofs.«01_k».proof.Proof.Gen.ReferenceMergeIdeal
public import proofs.«01_k».proof.Proof.Gen.ReferenceMergeIdeal.Run
public import proofs.«01_k».proof.Proof.Gen.KernelInSample
public import proofs.«01_k».proof.Proof.Gen.KernelInSampleIdeal
public import proofs.«01_k».proof.Proof.Gen.KernelInSampleIdeal.Frame
public import proofs.«01_k».proof.Proof.Gen.ReferenceInSampleIdeal
public import proofs.«01_k».proof.Proof.Gen.ReferenceInSampleIdeal.Run
public import proofs.«01_k».proof.Proof.Gen.KernelUpSample
public import proofs.«01_k».proof.Proof.Gen.KernelUpSampleIdeal
public import proofs.«01_k».proof.Proof.Gen.KernelUpSampleIdeal.Frame
public import proofs.«01_k».proof.Proof.Gen.ReferenceUpSampleIdeal
public import proofs.«01_k».proof.Proof.Gen.ReferenceUpSampleIdeal.Run
public import proofs.«01_k».proof.Proof.Gen.KernelRwkvStep
public import proofs.«01_k».proof.Proof.Gen.KernelRwkvStepIdeal
public import proofs.«01_k».proof.Proof.Gen.KernelRwkvStepIdeal.Frame
public import proofs.«01_k».proof.Proof.Gen.ReferenceRwkvStepIdeal
public import proofs.«01_k».proof.Proof.Gen.ReferenceRwkvStepIdeal.Run
public import proofs.«01_k».proof.Proof.Gen.Pre_rwkv_finite
public import proofs.«01_k».proof.Proof.Gen.KernelSsdStep
public import proofs.«01_k».proof.Proof.Gen.KernelSsdStepIdeal
public import proofs.«01_k».proof.Proof.Gen.KernelSsdStepIdeal.Frame
public import proofs.«01_k».proof.Proof.Gen.ReferenceSsdStepIdeal
public import proofs.«01_k».proof.Proof.Gen.ReferenceSsdStepIdeal.Run
public import proofs.«01_k».proof.Proof.Gen.Pre_ssd_finite
public import proofs.«01_k».proof.Proof.Rwkv.Frames
public import proofs.«01_k».proof.Proof.Rwkv.Algebraic
public import proofs.«01_k».proof.Proof.Project.Frames
public import proofs.«01_k».proof.Proof.Project.Algebraic
public import proofs.«01_k».proof.Proof.Up.Frames
public import proofs.«01_k».proof.Proof.Up.Algebraic
public import proofs.«01_k».proof.Proof.Down.Frames
public import proofs.«01_k».proof.Proof.Down.Algebraic
public import proofs.«01_k».proof.Proof.Merge.Frames
public import proofs.«01_k».proof.Proof.Merge.Algebraic
public import proofs.«01_k».proof.Proof.InSample.Frames
public import proofs.«01_k».proof.Proof.InSample.Algebraic
public import proofs.«01_k».proof.Proof.UpSample.Frames
public import proofs.«01_k».proof.Proof.UpSample.Algebraic
public import proofs.«01_k».proof.Proof.RwkvStep.Frames
public import proofs.«01_k».proof.Proof.RwkvStep.Algebraic
public import proofs.«01_k».proof.Proof.SsdStep.Frames
public import proofs.«01_k».proof.Proof.SsdStep.Algebraic

@[expose] public section

noncomputable section

namespace Cert.Proof

/-- Every claim of the certificate. The frames under a precondition are the frames without it. -/
theorem claim : Cert.Claim :=
  ⟨Cert.Kernel.Gen.facts, Cert.KernelIdeal.Gen.facts, Cert.ReferenceIdeal.Gen.facts, Cert.KernelIn.Gen.facts,
    Cert.KernelInIdeal.Gen.facts, Cert.ReferenceInIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelMerge.Gen.facts, Cert.KernelMergeIdeal.Gen.facts, Cert.ReferenceMergeIdeal.Gen.facts,
    Cert.KernelInSample.Gen.facts, Cert.KernelInSampleIdeal.Gen.facts, Cert.ReferenceInSampleIdeal.Gen.facts,
    Cert.KernelUpSample.Gen.facts, Cert.KernelUpSampleIdeal.Gen.facts, Cert.ReferenceUpSampleIdeal.Gen.facts,
    Cert.KernelRwkvStep.Gen.facts, Cert.KernelRwkvStepIdeal.Gen.facts, Cert.ReferenceRwkvStepIdeal.Gen.facts,
    Cert.KernelSsdStep.Gen.facts, Cert.KernelSsdStepIdeal.Gen.facts, Cert.ReferenceSsdStepIdeal.Gen.facts,
    Cert.Pre_all_finite.Gen.facts, Cert.Pre_rwkv_finite.Gen.facts, Cert.Pre_ssd_finite.Gen.facts,
    Cert.KernelIdeal.Rwkv.frame_kernel, Cert.KernelIdeal.Rwkv.frame_kernelIdeal,
    fun m ρ _ => Cert.KernelIdeal.Rwkv.frame_kernelIdeal m ρ trivial,
    Cert.KernelIdeal.Rwkv.frame_referenceIdeal,
    fun m ρ _ => Cert.KernelIdeal.Rwkv.frame_referenceIdeal m ρ trivial,
    Cert.KernelInIdeal.Project.frame_kernel, Cert.KernelInIdeal.Project.frame_kernelIdeal,
    Cert.KernelInIdeal.Project.frame_referenceIdeal,
    Cert.KernelUpIdeal.Up.frame_kernel, Cert.KernelUpIdeal.Up.frame_kernelIdeal, Cert.KernelUpIdeal.Up.frame_referenceIdeal,
    Cert.KernelDownIdeal.Down.frame_kernel, Cert.KernelDownIdeal.Down.frame_kernelIdeal, Cert.KernelDownIdeal.Down.frame_referenceIdeal,
    Cert.KernelMergeIdeal.Merge.frame_kernel, Cert.KernelMergeIdeal.Merge.frame_kernelIdeal, Cert.KernelMergeIdeal.Merge.frame_referenceIdeal,
    Cert.KernelInSampleIdeal.InSample.frame_kernel, Cert.KernelInSampleIdeal.InSample.frame_kernelIdeal, Cert.KernelInSampleIdeal.InSample.frame_referenceIdeal,
    Cert.KernelUpSampleIdeal.UpSample.frame_kernel, Cert.KernelUpSampleIdeal.UpSample.frame_kernelIdeal, Cert.KernelUpSampleIdeal.UpSample.frame_referenceIdeal,
    Cert.KernelRwkvStepIdeal.RwkvStep.frame_kernel, Cert.KernelRwkvStepIdeal.RwkvStep.frame_kernelIdeal,
    fun m ρ _ => Cert.KernelRwkvStepIdeal.RwkvStep.frame_kernelIdeal m ρ trivial,
    Cert.KernelRwkvStepIdeal.RwkvStep.frame_referenceIdeal,
    fun m ρ _ => Cert.KernelRwkvStepIdeal.RwkvStep.frame_referenceIdeal m ρ trivial,
    Cert.KernelSsdStepIdeal.SsdStep.frame_kernel, Cert.KernelSsdStepIdeal.SsdStep.frame_kernelIdeal,
    fun m ρ _ => Cert.KernelSsdStepIdeal.SsdStep.frame_kernelIdeal m ρ trivial,
    Cert.KernelSsdStepIdeal.SsdStep.frame_referenceIdeal,
    fun m ρ _ => Cert.KernelSsdStepIdeal.SsdStep.frame_referenceIdeal m ρ trivial,
    trivial, Cert.KernelIdeal.Rwkv.algebraic, trivial, Cert.KernelInIdeal.Project.algebraic,
    trivial, Cert.ReferenceUpIdeal.Up.algebraic, trivial, Cert.ReferenceDownIdeal.Down.algebraic,
    trivial, Cert.ReferenceMergeIdeal.Merge.algebraic,
    trivial, Cert.KernelInSampleIdeal.InSample.algebraic,
    trivial, Cert.ReferenceUpSampleIdeal.UpSample.algebraic,
    trivial, Cert.ReferenceRwkvStepIdeal.RwkvStep.algebraic,
    trivial, Cert.ReferenceSsdStepIdeal.SsdStep.algebraic⟩

end Cert.Proof

end
